-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ffn_finite [hPre_ffn_finite : Cert.Pre_ffn_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ffn_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ffn_finite [hPre_ffn_finite : Cert.Pre_ffn_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ffn_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2Ideal (m : (ℓ : Loc Cert.Kernel2Ideal.nD Cert.Kernel2Ideal.τ Cert.Kernel2Ideal.sig) → Buf (Elt Ideal) ℓ) : Prop :=
  True

def Pre_Kernel2Ideal_sb_finite [hPre_sb_finite : Cert.Pre_sb_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_sb_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_sb_finite [hPre_sb_finite : Cert.Pre_sb_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_sb_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_resid_finite [hPre_resid_finite : Cert.Pre_resid_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_resid_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_resid_finite [hPre_resid_finite : Cert.Pre_resid_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_resid_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_modin_finite [hPre_modin_finite : Cert.Pre_modin_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_modin_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_modin_finite [hPre_modin_finite : Cert.Pre_modin_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_modin_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_mix_finite [hPre_mix_finite : Cert.Pre_mix_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_mix_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_mix_finite [hPre_mix_finite : Cert.Pre_mix_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_mix_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_sbf_finite [hPre_sbf_finite : Cert.Pre_sbf_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_sbf_finite.fn (F := Ideal) (m ((c.tc : Thread Cert.Kernel9Ideal.nD Cert.Kernel9Ideal.τ).loc Cert.Kernel9Ideal.main_arg0))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_sbf_finite [hPre_sbf_finite : Cert.Pre_sbf_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_sbf_finite.fn (F := Ideal) (m ((c.tc : Thread Cert.Reference9Ideal.nD Cert.Reference9Ideal.τ).loc Cert.Reference9Ideal.main_arg0))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ffn_finite [hKernelIdeal : Cert.KernelIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ffn_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ffn_finite [hReferenceIdeal : Cert.ReferenceIdeal.Facts] [hPre_ffn_finite : Cert.Pre_ffn_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ffn_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_sb_finite [hKernel2Ideal : Cert.Kernel2Ideal.Facts] [hPre_sb_finite : Cert.Pre_sb_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_sb_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_sb_finite [hReference2Ideal : Cert.Reference2Ideal.Facts] [hPre_sb_finite : Cert.Pre_sb_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_sb_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_resid_finite [hKernel5Ideal : Cert.Kernel5Ideal.Facts] [hPre_resid_finite : Cert.Pre_resid_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_resid_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_resid_finite [hReference5Ideal : Cert.Reference5Ideal.Facts] [hPre_resid_finite : Cert.Pre_resid_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_resid_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_modin_finite [hKernel6Ideal : Cert.Kernel6Ideal.Facts] [hPre_modin_finite : Cert.Pre_modin_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_modin_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_modin_finite [hReference6Ideal : Cert.Reference6Ideal.Facts] [hPre_modin_finite : Cert.Pre_modin_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_modin_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_mix_finite [hKernel7Ideal : Cert.Kernel7Ideal.Facts] [hPre_mix_finite : Cert.Pre_mix_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_mix_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_mix_finite [hReference7Ideal : Cert.Reference7Ideal.Facts] [hPre_mix_finite : Cert.Pre_mix_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_mix_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_sbf_finite [hKernel9Ideal : Cert.Kernel9Ideal.Facts] [hPre_sbf_finite : Cert.Pre_sbf_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_sbf_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_sbf_finite [hReference9Ideal : Cert.Reference9Ideal.Facts] [hPre_sbf_finite : Cert.Pre_sbf_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_sbf_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def preserves_Kernel_KernelIdeal : Prop :=
  True

def algebraic_KernelIdeal_ReferenceIdeal_pre_ffn_finite [hKernelIdeal : Cert.KernelIdeal.Facts] [hReferenceIdeal : Cert.ReferenceIdeal.Facts] [hPre_ffn_finite : Cert.Pre_ffn_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ffn_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def algebraic_Kernel2Ideal_Reference2Ideal_pre_sb_finite [hKernel2Ideal : Cert.Kernel2Ideal.Facts] [hReference2Ideal : Cert.Reference2Ideal.Facts] [hPre_sb_finite : Cert.Pre_sb_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_sb_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v53) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v35) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_resid_finite [hKernel5Ideal : Cert.Kernel5Ideal.Facts] [hReference5Ideal : Cert.Reference5Ideal.Facts] [hPre_resid_finite : Cert.Pre_resid_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_resid_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)) (v4 : (c : Dev Cert.Kernel5Ideal.nD) → Buf (Elt Ideal) ((c.tc : Thread Cert.Kernel5Ideal.nD Cert.Kernel5Ideal.τ).loc Cert.Kernel5Ideal.main_v3_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_v3_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v78) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_v82) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_modin_finite [hKernel6Ideal : Cert.Kernel6Ideal.Facts] [hReference6Ideal : Cert.Reference6Ideal.Facts] [hPre_modin_finite : Cert.Pre_modin_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_modin_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v65) = v0 c
          ∧ r.2.mem ((c.tc : Thread Cert.Reference6Ideal.nD Cert.Reference6Ideal.τ).loc Cert.Reference6Ideal.main_v66) = v1 c
          ∧ r.2.mem ((c.tc : Thread Cert.Reference6Ideal.nD Cert.Reference6Ideal.τ).loc Cert.Reference6Ideal.main_v67) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_mix_finite [hKernel7Ideal : Cert.Kernel7Ideal.Facts] [hReference7Ideal : Cert.Reference7Ideal.Facts] [hPre_mix_finite : Cert.Pre_mix_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_mix_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v6_0)) (v1 : (c : Dev Cert.Kernel7Ideal.nD) → Buf (Elt Ideal) ((c.tc : Thread Cert.Kernel7Ideal.nD Cert.Kernel7Ideal.τ).loc Cert.Kernel7Ideal.main_v6_1)) (v2 : (c : Dev Cert.Kernel7Ideal.nD) → Buf (Elt Ideal) ((c.tc : Thread Cert.Kernel7Ideal.nD Cert.Kernel7Ideal.τ).loc Cert.Kernel7Ideal.main_v6_2)) (v3 : (c : Dev Cert.Kernel7Ideal.nD) → Buf (Elt Ideal) ((c.tc : Thread Cert.Kernel7Ideal.nD Cert.Kernel7Ideal.τ).loc Cert.Kernel7Ideal.main_v6_3)) (v4 : (c : Dev Cert.Kernel7Ideal.nD) → Buf (Elt Ideal) ((c.tc : Thread Cert.Kernel7Ideal.nD Cert.Kernel7Ideal.τ).loc Cert.Kernel7Ideal.main_v6_4)) (v5 : (c : Dev Cert.Kernel7Ideal.nD) → Buf (Elt Ideal) ((c.tc : Thread Cert.Kernel7Ideal.nD Cert.Kernel7Ideal.τ).loc Cert.Kernel7Ideal.main_v6_5)) (v6 : (c : Dev Cert.Kernel7Ideal.nD) → Buf (Elt Ideal) ((c.tc : Thread Cert.Kernel7Ideal.nD Cert.Kernel7Ideal.τ).loc Cert.Kernel7Ideal.main_v6_6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6_0) = v0 c
          ∧ r.2.mem ((c.tc : Thread Cert.Kernel7Ideal.nD Cert.Kernel7Ideal.τ).loc Cert.Kernel7Ideal.main_v6_1) = v1 c
          ∧ r.2.mem ((c.tc : Thread Cert.Kernel7Ideal.nD Cert.Kernel7Ideal.τ).loc Cert.Kernel7Ideal.main_v6_2) = v2 c
          ∧ r.2.mem ((c.tc : Thread Cert.Kernel7Ideal.nD Cert.Kernel7Ideal.τ).loc Cert.Kernel7Ideal.main_v6_3) = v3 c
          ∧ r.2.mem ((c.tc : Thread Cert.Kernel7Ideal.nD Cert.Kernel7Ideal.τ).loc Cert.Kernel7Ideal.main_v6_4) = v4 c
          ∧ r.2.mem ((c.tc : Thread Cert.Kernel7Ideal.nD Cert.Kernel7Ideal.τ).loc Cert.Kernel7Ideal.main_v6_5) = v5 c
          ∧ r.2.mem ((c.tc : Thread Cert.Kernel7Ideal.nD Cert.Kernel7Ideal.τ).loc Cert.Kernel7Ideal.main_v6_6) = v6 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v144) = v0 c
          ∧ r.2.mem ((c.tc : Thread Cert.Reference7Ideal.nD Cert.Reference7Ideal.τ).loc Cert.Reference7Ideal.main_v145) = v1 c
          ∧ r.2.mem ((c.tc : Thread Cert.Reference7Ideal.nD Cert.Reference7Ideal.τ).loc Cert.Reference7Ideal.main_v146) = v2 c
          ∧ r.2.mem ((c.tc : Thread Cert.Reference7Ideal.nD Cert.Reference7Ideal.τ).loc Cert.Reference7Ideal.main_v147) = v3 c
          ∧ r.2.mem ((c.tc : Thread Cert.Reference7Ideal.nD Cert.Reference7Ideal.τ).loc Cert.Reference7Ideal.main_v148) = v4 c
          ∧ r.2.mem ((c.tc : Thread Cert.Reference7Ideal.nD Cert.Reference7Ideal.τ).loc Cert.Reference7Ideal.main_v149) = v5 c
          ∧ r.2.mem ((c.tc : Thread Cert.Reference7Ideal.nD Cert.Reference7Ideal.τ).loc Cert.Reference7Ideal.main_v150) = v6 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)) (v3 : (c : Dev Cert.Kernel8Ideal.nD) → Buf (Elt Ideal) ((c.tc : Thread Cert.Kernel8Ideal.nD Cert.Kernel8Ideal.τ).loc Cert.Kernel8Ideal.main_v5_3)) (v4 : (c : Dev Cert.Kernel8Ideal.nD) → Buf (Elt Ideal) ((c.tc : Thread Cert.Kernel8Ideal.nD Cert.Kernel8Ideal.τ).loc Cert.Kernel8Ideal.main_v5_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_v5_3) = v3 c
          ∧ r.2.mem ((c.tc : Thread Cert.Kernel8Ideal.nD Cert.Kernel8Ideal.τ).loc Cert.Kernel8Ideal.main_v5_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v74) = v0 c
          ∧ r.2.mem ((c.tc : Thread Cert.Reference8Ideal.nD Cert.Reference8Ideal.τ).loc Cert.Reference8Ideal.main_v75) = v1 c
          ∧ r.2.mem ((c.tc : Thread Cert.Reference8Ideal.nD Cert.Reference8Ideal.τ).loc Cert.Reference8Ideal.main_v76) = v2 c
          ∧ r.2.mem ((c.tc : Thread Cert.Reference8Ideal.nD Cert.Reference8Ideal.τ).loc Cert.Reference8Ideal.main_v77) = v3 c
          ∧ r.2.mem ((c.tc : Thread Cert.Reference8Ideal.nD Cert.Reference8Ideal.τ).loc Cert.Reference8Ideal.main_v78) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def algebraic_Kernel9Ideal_Reference9Ideal_pre_sbf_finite [hKernel9Ideal : Cert.Kernel9Ideal.Facts] [hReference9Ideal : Cert.Reference9Ideal.Facts] [hPre_sbf_finite : Cert.Pre_sbf_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_sbf_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v26) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v29) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v22) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v10) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v26) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v31) = v0 c
          ∧ r.2.mem ((c.tc : Thread Cert.Reference14Ideal.nD Cert.Reference14Ideal.τ).loc Cert.Reference14Ideal.main_v58) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)) (v3 : (c : Dev Cert.Kernel16Ideal.nD) → Buf (Elt Ideal) ((c.tc : Thread Cert.Kernel16Ideal.nD Cert.Kernel16Ideal.τ).loc Cert.Kernel16Ideal.main_v4_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_v4_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v26) = v0 c
          ∧ r.2.mem ((c.tc : Thread Cert.Reference16Ideal.nD Cert.Reference16Ideal.τ).loc Cert.Reference16Ideal.main_v27) = v1 c
          ∧ r.2.mem ((c.tc : Thread Cert.Reference16Ideal.nD Cert.Reference16Ideal.τ).loc Cert.Reference16Ideal.main_v28) = v2 c
          ∧ r.2.mem ((c.tc : Thread Cert.Reference16Ideal.nD Cert.Reference16Ideal.τ).loc Cert.Reference16Ideal.main_v29) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)) →
    ∃ (v0 : (c : Dev Cert.Kernel18Ideal.nD) → Buf (Elt Ideal) ((c.tc : Thread Cert.Kernel18Ideal.nD Cert.Kernel18Ideal.τ).loc Cert.Kernel18Ideal.main_v7)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v7) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m ((c.tc : Thread Cert.Kernel19Ideal.nD Cert.Kernel19Ideal.τ).loc Cert.Kernel19Ideal.main_arg0) = Layout.block ⟨3, ![8, 2, 768]⟩ ⟨3, ![64, 2, 768]⟩ 0 8 c (m' (((0 : Dev Cert.Reference19Ideal.nD).tc : Thread Cert.Reference19Ideal.nD Cert.Reference19Ideal.τ).loc Cert.Reference19Ideal.main_arg0))) →
    ∃ (v0 : Buf (Elt Ideal) (((0 : Dev Cert.Reference19Ideal.nD).tc : Thread Cert.Reference19Ideal.nD Cert.Reference19Ideal.τ).loc Cert.Reference19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = Layout.block ⟨3, ![8, 2, 768]⟩ ⟨3, ![64, 2, 768]⟩ 0 8 c v0
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r =>
          r.2.mem (((0 : Dev Cert.Reference19Ideal.nD).tc : Thread Cert.Reference19Ideal.nD Cert.Reference19Ideal.τ).loc Cert.Reference19Ideal.main_v2) = v0
          ∧ r.2.mem (((0 : Dev Cert.Reference19Ideal.nD).tc : Thread Cert.Reference19Ideal.nD Cert.Reference19Ideal.τ).loc Cert.Reference19Ideal.main_arg0) = m' (((0 : Dev Cert.Reference19Ideal.nD).tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v3) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v4)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v4) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v3) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v5)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v5) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v6)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v6) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v4)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def Claim : Prop :=
  ∃ (hKernel : Cert.Kernel.Facts) (hKernelIdeal : Cert.KernelIdeal.Facts) (hReferenceIdeal : Cert.ReferenceIdeal.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_ffn_finite : Cert.Pre_ffn_finite.Facts) (hPre_sb_finite : Cert.Pre_sb_finite.Facts) (hPre_resid_finite : Cert.Pre_resid_finite.Facts) (hPre_modin_finite : Cert.Pre_modin_finite.Facts) (hPre_mix_finite : Cert.Pre_mix_finite.Facts) (hPre_sbf_finite : Cert.Pre_sbf_finite.Facts),
    quiescent_Kernel (hKernel := hKernel)
    ∧ quiescent_KernelIdeal (hKernelIdeal := hKernelIdeal)
    ∧ quiescent_KernelIdeal_pre_ffn_finite (hKernelIdeal := hKernelIdeal) (hPre_ffn_finite := hPre_ffn_finite)
    ∧ quiescent_ReferenceIdeal (hReferenceIdeal := hReferenceIdeal)
    ∧ quiescent_ReferenceIdeal_pre_ffn_finite (hReferenceIdeal := hReferenceIdeal) (hPre_ffn_finite := hPre_ffn_finite)
    ∧ quiescent_Kernel2Ideal (hKernel2Ideal := hKernel2Ideal)
    ∧ quiescent_Kernel2Ideal_pre_sb_finite (hKernel2Ideal := hKernel2Ideal) (hPre_sb_finite := hPre_sb_finite)
    ∧ quiescent_Reference2Ideal (hReference2Ideal := hReference2Ideal)
    ∧ quiescent_Reference2Ideal_pre_sb_finite (hReference2Ideal := hReference2Ideal) (hPre_sb_finite := hPre_sb_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_resid_finite (hKernel5Ideal := hKernel5Ideal) (hPre_resid_finite := hPre_resid_finite)
    ∧ quiescent_Reference5Ideal (hReference5Ideal := hReference5Ideal)
    ∧ quiescent_Reference5Ideal_pre_resid_finite (hReference5Ideal := hReference5Ideal) (hPre_resid_finite := hPre_resid_finite)
    ∧ quiescent_Kernel6 (hKernel6 := hKernel6)
    ∧ quiescent_Kernel6Ideal (hKernel6Ideal := hKernel6Ideal)
    ∧ quiescent_Kernel6Ideal_pre_modin_finite (hKernel6Ideal := hKernel6Ideal) (hPre_modin_finite := hPre_modin_finite)
    ∧ quiescent_Reference6Ideal (hReference6Ideal := hReference6Ideal)
    ∧ quiescent_Reference6Ideal_pre_modin_finite (hReference6Ideal := hReference6Ideal) (hPre_modin_finite := hPre_modin_finite)
    ∧ quiescent_Kernel7 (hKernel7 := hKernel7)
    ∧ quiescent_Kernel7Ideal (hKernel7Ideal := hKernel7Ideal)
    ∧ quiescent_Kernel7Ideal_pre_mix_finite (hKernel7Ideal := hKernel7Ideal) (hPre_mix_finite := hPre_mix_finite)
    ∧ quiescent_Reference7Ideal (hReference7Ideal := hReference7Ideal)
    ∧ quiescent_Reference7Ideal_pre_mix_finite (hReference7Ideal := hReference7Ideal) (hPre_mix_finite := hPre_mix_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9Ideal (hKernel9Ideal := hKernel9Ideal)
    ∧ quiescent_Kernel9Ideal_pre_sbf_finite (hKernel9Ideal := hKernel9Ideal) (hPre_sbf_finite := hPre_sbf_finite)
    ∧ quiescent_Reference9Ideal (hReference9Ideal := hReference9Ideal)
    ∧ quiescent_Reference9Ideal_pre_sbf_finite (hReference9Ideal := hReference9Ideal) (hPre_sbf_finite := hPre_sbf_finite)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_ffn_finite (hKernelIdeal := hKernelIdeal) (hReferenceIdeal := hReferenceIdeal) (hPre_ffn_finite := hPre_ffn_finite)
    ∧ algebraic_Kernel2Ideal_Reference2Ideal_pre_sb_finite (hKernel2Ideal := hKernel2Ideal) (hReference2Ideal := hReference2Ideal) (hPre_sb_finite := hPre_sb_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_resid_finite (hKernel5Ideal := hKernel5Ideal) (hReference5Ideal := hReference5Ideal) (hPre_resid_finite := hPre_resid_finite)
    ∧ preserves_Kernel6_Kernel6Ideal
    ∧ algebraic_Kernel6Ideal_Reference6Ideal_pre_modin_finite (hKernel6Ideal := hKernel6Ideal) (hReference6Ideal := hReference6Ideal) (hPre_modin_finite := hPre_modin_finite)
    ∧ preserves_Kernel7_Kernel7Ideal
    ∧ algebraic_Kernel7Ideal_Reference7Ideal_pre_mix_finite (hKernel7Ideal := hKernel7Ideal) (hReference7Ideal := hReference7Ideal) (hPre_mix_finite := hPre_mix_finite)
    ∧ preserves_Kernel8_Kernel8Ideal
    ∧ algebraic_Kernel8Ideal_Reference8Ideal (hKernel8Ideal := hKernel8Ideal) (hReference8Ideal := hReference8Ideal)
    ∧ algebraic_Kernel9Ideal_Reference9Ideal_pre_sbf_finite (hKernel9Ideal := hKernel9Ideal) (hReference9Ideal := hReference9Ideal) (hPre_sbf_finite := hPre_sbf_finite)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_ffn_finite.lean ====
abbrev S8192x5632 : Shape := ⟨2, ![8192, 5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x5632 .f32) (main_arg1 : FVec F S2816x1024 .f32) (main_arg2 : FVec F S8192x1024 .f32) : IVec S_ 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_c : IVec S_ 1 := constantI S_ 1 1#1
  let main_v3 : IVec S_ 1 := (fun x v => Host.reduce IntOp.andi x v reducesTo_S8192x5632_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_mix_finite.lean ====
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1024 .f32) (main_arg3 : FVec F S1024 .f32) (main_arg4 : FVec F S1024 .f32) (main_arg5 : FVec F S1024 .f32) (main_arg6 : FVec F S1024 .f32) (main_arg7 : FVec F S8192x1024 .f32) (main_arg8 : FVec F S8192x1024 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg5
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg7
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg8
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_modin_finite.lean ====
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S1024 .f32) (main_arg2 : FVec F S1024 .f32) (main_arg3 : FVec F S8192x1024 .f32) (main_arg4 : FVec F S8192x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8192x1024 .f32 := Host.absf main_arg4
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_resid_finite.lean ====
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S8192x1024 .f32) (main_arg2 : FVec F S1024 .f32) (main_arg3 : FVec F S1024 .f32) (main_arg4 : FVec F S1024 .f32) (main_arg5 : FVec F S8192x1024 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8192x1024 .f32 := Host.absf main_arg5
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_sb_finite.lean ====
abbrev S8192x4096 : Shape := ⟨2, ![8192, 4096]⟩
abbrev S8192x512 : Shape := ⟨2, ![8192, 512]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x4096 .f32) (main_arg1 : FVec F S8192x512 .bf16) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_c_1 : IVec S_ 1 := constantI S_ 1 1#1
  let main_v8 : IVec S_ 1 := (fun x v => Host.reduce IntOp.andi x v reducesTo_S8192x512_S_d0_1 h_S_) main_v7 main_c_1
  let main_v9 : IVec S_ 1 := andi main_v3 main_v8
  main_v9
-- ==== Pre_sbf_finite.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x5632 : Shape := ⟨2, ![8192, 5632]⟩
abbrev S2816x1024 : Shape := ⟨2, ![2816, 1024]⟩
abbrev S8192x1024 : Shape := ⟨2, ![8192, 1024]⟩
abbrev S8192x2x4x704 : Shape := ⟨4, ![8192, 2, 4, 704]⟩
abbrev S2x4x8192x704 : Shape := ⟨4, ![2, 4, 8192, 704]⟩
abbrev S4x704x1024 : Shape := ⟨3, ![4, 704, 1024]⟩
abbrev S512x1024 : Shape := ⟨2, ![512, 1024]⟩
abbrev S1x704x1024 : Shape := ⟨3, ![1, 704, 1024]⟩
abbrev S2x1x512x704 : Shape := ⟨4, ![2, 1, 512, 704]⟩
abbrev S704x1024 : Shape := ⟨2, ![704, 1024]⟩
abbrev S512x704 : Shape := ⟨2, ![512, 704]⟩
abbrev S1x1x512x704 : Shape := ⟨4, ![1, 1, 512, 704]⟩

abbrev nBuf : Space → Nat
  | .hbm => 10
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x5632, .bf16⟩
  | .hbm, ⟨4, _⟩ => ⟨S8192x2x4x704, .bf16⟩
  | .hbm, ⟨5, _⟩ => ⟨S2x4x8192x704, .bf16⟩
  | .hbm, ⟨6, _⟩ => ⟨S2816x1024, .bf16⟩
  | .hbm, ⟨7, _⟩ => ⟨S4x704x1024, .bf16⟩
  | .hbm, ⟨8, _⟩ => ⟨S8192x1024, .bf16⟩
  | .hbm, ⟨9, _⟩ => ⟨S2x4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S2x1x512x704, .bf16⟩
  | .local _ .vmem, ⟨7, _⟩ => ⟨S2x1x512x704, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S8192x2x4x704 : Shape := ⟨4, ![8192, 2, 4, 704]⟩
abbrev S2x4x8192x704 : Shape := ⟨4, ![2, 4, 8192, 704]⟩

abbrev nBuf : Space → Nat
  | .hbm => 31
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x5632, .f32⟩
  | .hbm, ⟨28, _⟩ => ⟨S8192x2x4x704, .f32⟩
  | .hbm, ⟨29, _⟩ => ⟨S2x4x8192x704, .f32⟩
  | .hbm, ⟨30, _⟩ => ⟨S2x4x8192x704, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Kernel2Ideal.lean ====
abbrev S8192x4096 : Shape := ⟨2, ![8192, 4096]⟩
abbrev S8192x512 : Shape := ⟨2, ![8192, 512]⟩
abbrev S8192x8x64 : Shape := ⟨3, ![8192, 8, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S512x128 : Shape := ⟨2, ![512, 128]⟩
abbrev S8192x128 : Shape := ⟨2, ![8192, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 57
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x8x64, .f32⟩
  | .hbm, ⟨6, _⟩ => ⟨S8192x8x64, .f32⟩
  | .hbm, ⟨7, _⟩ => ⟨S8192x8x64, .f32⟩
  | .hbm, ⟨8, _⟩ => ⟨S8192, .i32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S_, .f32⟩
  | .hbm, ⟨37, _⟩ => ⟨S8x8192x8192, .i1⟩
  | .hbm, ⟨38, _⟩ => ⟨S8x8192x8192, .f32⟩
  | .hbm, ⟨39, _⟩ => ⟨S8x8192x8192, .f32⟩
  | .hbm, ⟨40, _⟩ => ⟨S_, .f32⟩
  | .hbm, ⟨41, _⟩ => ⟨S_, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S_, .f32⟩
  | .hbm, ⟨47, _⟩ => ⟨S_, .f32⟩
  | .hbm, ⟨48, _⟩ => ⟨S8x8192x8192, .i1⟩
  | .hbm, ⟨49, _⟩ => ⟨S8x8192x8192, .f32⟩
  | .hbm, ⟨50, _⟩ => ⟨S8x8192x8192, .f32⟩
  | .hbm, ⟨51, _⟩ => ⟨S8x64x8192, .f32⟩
  | .hbm, ⟨52, _⟩ => ⟨S8192x8x64, .f32⟩
  | .hbm, ⟨53, _⟩ => ⟨S8192x512, .f32⟩
  | .hbm, ⟨54, _⟩ => ⟨S8192x512, .bf16⟩
  | .hbm, ⟨55, _⟩ => ⟨S8192x512, .bf16⟩
  | .hbm, ⟨56, _⟩ => ⟨S8192x512, .bf16⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .f32⟩
  | .local _ .vmem, ⟨17, _⟩ => ⟨S8192x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_call2_cst : Ref sig .tc := ⟨.hbm, 40, rfl⟩
abbrev main_call2_v0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_1 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26_0 : Ref sig .tc := ⟨.hbm, 54, rfl⟩
abbrev main_v26_1 : Ref sig .tc := ⟨.hbm, 55, rfl⟩
abbrev main_v26_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "exit" => some ⊥
  | _ => none

abbrev grid0 : Pipeline.Grid := ⟨2, ![4, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let c0_i32_41 : BitVec 32 := 0#32
  let v90 : BitVec 32 := Scalar.addi v0 c0_i32_41
  let c0_i32_42 : BitVec 32 := 0#32
  let v91 : BitVec 32 := Scalar.subi v90 c0_i32_42
  let c0_i32_43 : BitVec 32 := 0#32
  let v92 : BitVec 32 := Scalar.maxsi v91 c0_i32_43
  let c256_i32 : BitVec 32 := 256#32
  let v93 : BitVec 32 := Scalar.muli v92 c256_i32
  v93
def k0_off1 (i : grid0.Coords) (c0_i32_41 : BitVec 32) : Fin 2 → Nat :=
  let arg1 : BitVec 32 := BitVec.ofNat 32 (i 1).val
  let c2_i32 : BitVec 32 := 2#32
  let v0 : BitVec 32 := Scalar.muli arg1 c2_i32
  let v90 : BitVec 32 := Scalar.addi v0 c0_i32_41
  let c0_i32_42 : BitVec 32 := 0#32
  let v91 : BitVec 32 := Scalar.subi v90 c0_i32_42
  let c0_i32_43 : BitVec 32 := 0#32
  let v92 : BitVec 32 := Scalar.maxsi v91 c0_i32_43
  let c256_i32 : BitVec 32 := 256#32
  let v93 : BitVec 32 := Scalar.muli v92 c256_i32
  let v94 : BitVec 32 := v93
  let v95 : Index := Scalar.indexCast v94
  let c0_44 : Index := 0#32
  ![v95.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let c1_i32 : BitVec 32 := 1#32
  let v151 : BitVec 32 := Scalar.addi v0 c1_i32
  let c0_i32_64 : BitVec 32 := 0#32
  let v152 : BitVec 32 := Scalar.subi v151 c0_i32_64
  let c0_i32_65 : BitVec 32 := 0#32
  let v153 : BitVec 32 := Scalar.maxsi v152 c0_i32_65
  let c256_i32_66 : BitVec 32 := 256#32
  let v154 : BitVec 32 := Scalar.muli v153 c256_i32_66
  v154
def k0_mult3 (i : grid0.Coords) : BitVec 32 :=
  let arg1 : BitVec 32 := BitVec.ofNat 32 (i 1).val
  let c2_i32 : BitVec 32 := 2#32
  let v0 : BitVec 32 := Scalar.muli arg1 c2_i32
  let c0_i32_87 : BitVec 32 := 0#32
  let v212 : BitVec 32 := Scalar.addi v0 c0_i32_87
  let c0_i32_88 : BitVec 32 := 0#32
  let v213 : BitVec 32 := Scalar.subi v212 c0_i32_88
  let c0_i32_89 : BitVec 32 := 0#32
  let v214 : BitVec 32 := Scalar.maxsi v213 c0_i32_89
  let c256_i32_90 : BitVec 32 := 256#32
  let v215 : BitVec 32 := Scalar.muli v214 c256_i32_90
  v215
def k0_mult4 (i : grid0.Coords) : BitVec 32 :=
  let arg1 : BitVec 32 := BitVec.ofNat 32 (i 1).val
  let c2_i32 : BitVec 32 := 2#32
  let v0 : BitVec 32 := Scalar.muli arg1 c2_i32
  let c1_i32_114 : BitVec 32 := 1#32
  let v304 : BitVec 32 := Scalar.addi v0 c1_i32_114
  let c0_i32_115 : BitVec 32 := 0#32
  let v305 : BitVec 32 := Scalar.subi v304 c0_i32_115
  let c0_i32_116 : BitVec 32 := 0#32
  let v306 : BitVec 32 := Scalar.maxsi v305 c0_i32_116
  let c256_i32_117 : BitVec 32 := 256#32
  let v307 : BitVec 32 := Scalar.muli v306 c256_i32_117
  v307
def k0_mult5 (i : grid0.Coords) (arg12 : BitVec 32) : BitVec 32 :=
  let arg1 : BitVec 32 := BitVec.ofNat 32 (i 1).val
  let c2_i32 : BitVec 32 := 2#32
  let v0 : BitVec 32 := Scalar.muli arg1 c2_i32
  let c0_i32_151 : BitVec 32 := 0#32
  let v412 : BitVec 32 := Scalar.addi v0 c0_i32_151
  let v413 : BitVec 32 := Scalar.subi v412 arg12
  let c0_i32_153 : BitVec 32 := 0#32
  let v415 : BitVec 32 := Scalar.maxsi v413 c0_i32_153
  let c256_i32_154 : BitVec 32 := 256#32
  let v416 : BitVec 32 := Scalar.muli v415 c256_i32_154
  v416

def k0_off2 (i : grid0.Coords) (arg12 : BitVec 32) (c0_i32_151 : BitVec 32) : Fin 2 → Nat :=
  let arg1 : BitVec 32 := BitVec.ofNat 32 (i 1).val
  let c2_i32 : BitVec 32 := 2#32
  let v0 : BitVec 32 := Scalar.muli arg1 c2_i32
  let v412 : BitVec 32 := Scalar.addi v0 c0_i32_151
  let v413 : BitVec 32 := Scalar.subi v412 arg12
  let c0_i32_153 : BitVec 32 := 0#32
  let v415 : BitVec 32 := Scalar.maxsi v413 c0_i32_153
  let c256_i32_154 : BitVec 32 := 256#32
  let v416 : BitVec 32 := Scalar.muli v415 c256_i32_154
  let v417 : BitVec 32 := v416
  let v418 : Index := Scalar.indexCast v417
  let c0_155 : Index := 0#32
  ![v418.toNat, 0]
def k0_mult6 (i : grid0.Coords) (arg12 : BitVec 32) : BitVec 32 :=
  let arg1 : BitVec 32 := BitVec.ofNat 32 (i 1).val
  let c2_i32 : BitVec 32 := 2#32
  let v0 : BitVec 32 := Scalar.muli arg1 c2_i32
  let c1_i32_175 : BitVec 32 := 1#32
  let v474 : BitVec 32 := Scalar.addi v0 c1_i32_175
  let v475 : BitVec 32 := Scalar.subi v474 arg12
  let c0_i32_177 : BitVec 32 := 0#32
  let v477 : BitVec 32 := Scalar.maxsi v475 c0_i32_177
  let c256_i32_178 : BitVec 32 := 256#32
  let v478 : BitVec 32 := Scalar.muli v477 c256_i32_178
  v478
def k0_mult7 (i : grid0.Coords) (arg12 : BitVec 32) : BitVec 32 :=
  let arg1 : BitVec 32 := BitVec.ofNat 32 (i 1).val
  let c2_i32 : BitVec 32 := 2#32
  let v0 : BitVec 32 := Scalar.muli arg1 c2_i32
  let c0_i32_203 : BitVec 32 := 0#32
  let v559 : BitVec 32 := Scalar.addi v0 c0_i32_203
  let v560 : BitVec 32 := Scalar.subi v559 arg12
  let c0_i32_205 : BitVec 32 := 0#32
  let v562 : BitVec 32 := Scalar.maxsi v560 c0_i32_205
  let c256_i32_206 : BitVec 32 := 256#32
  let v563 : BitVec 32 := Scalar.muli v562 c256_i32_206
  v563
def k0_mult8 (i : grid0.Coords) (arg12 : BitVec 32) : BitVec 32 :=
  let arg1 : BitVec 32 := BitVec.ofNat 32 (i 1).val
  let c2_i32 : BitVec 32 := 2#32
  let v0 : BitVec 32 := Scalar.muli arg1 c2_i32
  let c1_i32_230 : BitVec 32 := 1#32
  let v652 : BitVec 32 := Scalar.addi v0 c1_i32_230
  let v653 : BitVec 32 := Scalar.subi v652 arg12
  let c0_i32_232 : BitVec 32 := 0#32
  let v655 : BitVec 32 := Scalar.maxsi v653 c0_i32_232
  let c256_i32_233 : BitVec 32 := 256#32
  let v656 : BitVec 32 := Scalar.muli v655 c256_i32_233
  v656

def k0_chk1 (i : grid0.Coords) (arg12 : BitVec 32) : Prop :=
  (256 ∣ (k0_mult5 i arg12).toNat) ∧
  (∀ (r : Fin 2), ∀ a, (k0_off2 i arg12 (BitVec.ofNat 32 r.val)) a + S256x128.size a ≤ S8192x128.size a) ∧
  (256 ∣ (k0_mult6 i arg12).toNat) ∧
  (256 ∣ (k0_mult7 i arg12).toNat) ∧
  (256 ∣ (k0_mult8 i arg12).toNat)
theorem k0_mult5_dvd : ∀ (i : grid0.Coords) (arg12 : BitVec 32) (k0_hw1 : k0_chk1 i arg12), 256 ∣ (k0_mult5 i arg12).toNat := fun i arg12 k0_hw1 => k0_hw1.1
theorem k0_off2_inb : ∀ (i : grid0.Coords) (arg12 : BitVec 32) (k0_hw1 : k0_chk1 i arg12), ∀ (r : Fin 2), ∀ a, (k0_off2 i arg12 (BitVec.ofNat 32 r.val)) a + S256x128.size a ≤ S8192x128.size a := fun i arg12 k0_hw1 r => k0_hw1.2.1 r
theorem k0_mult6_dvd : ∀ (i : grid0.Coords) (arg12 : BitVec 32) (k0_hw1 : k0_chk1 i arg12), 256 ∣ (k0_mult6 i arg12).toNat := fun i arg12 k0_hw1 => k0_hw1.2.2.1
theorem k0_mult7_dvd : ∀ (i : grid0.Coords) (arg12 : BitVec 32) (k0_hw1 : k0_chk1 i arg12), 256 ∣ (k0_mult7 i arg12).toNat := fun i arg12 k0_hw1 => k0_hw1.2.2.2.1
theorem k0_mult8_dvd : ∀ (i : grid0.Coords) (arg12 : BitVec 32) (k0_hw1 : k0_chk1 i arg12), 256 ∣ (k0_mult8 i arg12).toNat := fun i arg12 k0_hw1 => k0_hw1.2.2.2.2

def k0_cond2 (i : grid0.Coords) : BitVec 1 :=
  let arg1 : BitVec 32 := BitVec.ofNat 32 (i 1).val
  let c15_i32 : BitVec 32 := 15#32
  let v409 : BitVec 1 := Scalar.cmpi .eq arg1 c15_i32
  let v410 : BitVec 32 := Scalar.extui v409
  let c0_i32_150 : BitVec 32 := 0#32
  let v411 : BitVec 1 := Scalar.cmpi .ne v410 c0_i32_150
  v411

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S8192x4096 : Shape := ⟨2, ![8192, 4096]⟩
abbrev S8192x512 : Shape := ⟨2, ![8192, 512]⟩
abbrev S8192x8x64 : Shape := ⟨3, ![8192, 8, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 127
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x8x64, .f32⟩
  | .hbm, ⟨6, _⟩ => ⟨S8192x8x64, .f32⟩
  | .hbm, ⟨7, _⟩ => ⟨S8192x8x64, .f32⟩
  | .hbm, ⟨8, _⟩ => ⟨S8192, .i32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .f32⟩
  | .hbm, ⟨24, _⟩ => ⟨S8x8192x8192, .i1⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S_, .f32⟩
  | .hbm, ⟨34, _⟩ => ⟨S8x8192x8192, .f32⟩
  | .hbm, ⟨35, _⟩ => ⟨S8x8192x8192, .i1⟩
  | .hbm, ⟨36, _⟩ => ⟨S_, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192x8192, .f32⟩
  | .hbm, ⟨41, _⟩ => ⟨S8x8192x8192, .i1⟩
  | .hbm, ⟨42, _⟩ => ⟨S_, .f32⟩
  | .hbm, ⟨43, _⟩ => ⟨S8x8192x8192, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S_, .f32⟩
  | .hbm, ⟨49, _⟩ => ⟨S_, .i1⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x8192x8192, .f32⟩
  | .hbm, ⟨55, _⟩ => ⟨S8x8192x8192, .i1⟩
  | .hbm, ⟨56, _⟩ => ⟨S_, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S_, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S_, .f32⟩
  | .hbm, ⟨69, _⟩ => ⟨S8x8192x8192, .i1⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192x8192, .f32⟩
  | .hbm, ⟨74, _⟩ => ⟨S_, .f32⟩
  | .hbm, ⟨75, _⟩ => ⟨S_, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S_, .f32⟩
  | .hbm, ⟨82, _⟩ => ⟨S8x8192x8192, .i1⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192x8192, .f32⟩
  | .hbm, ⟨87, _⟩ => ⟨S8x64x8192, .f32⟩
  | .hbm, ⟨88, _⟩ => ⟨S8192x8x64, .f32⟩
  | .hbm, ⟨89, _⟩ => ⟨S8192x512, .f32⟩
  | .hbm, ⟨90, _⟩ => ⟨S8192x512, .f32⟩
  | .hbm, ⟨91, _⟩ => ⟨S8192x8x64, .f32⟩
  | .hbm, ⟨92, _⟩ => ⟨S8x64x8192, .f32⟩
  | .hbm, ⟨93, _⟩ => ⟨S8x8192x8192, .f32⟩
  | .hbm, ⟨94, _⟩ => ⟨S8x64x8192, .f32⟩
  | .hbm, ⟨95, _⟩ => ⟨S8192x8x64, .f32⟩
  | .hbm, ⟨96, _⟩ => ⟨S_, .f32⟩
  | .hbm, ⟨97, _⟩ => ⟨S8x8192x8192, .f32⟩
  | .hbm, ⟨98, _⟩ => ⟨S8x8192x8192, .f32⟩
  | .hbm, ⟨99, _⟩ => ⟨S8x8192x8192, .f32⟩
  | .hbm, ⟨100, _⟩ => ⟨S8x8192x8192, .f32⟩
  | .hbm, ⟨101, _⟩ => ⟨S_, .f32⟩
  | .hbm, ⟨102, _⟩ => ⟨S_, .f32⟩
  | .hbm, ⟨103, _⟩ => ⟨S8x8192x8192, .f32⟩
  | .hbm, ⟨104, _⟩ => ⟨S8x8192x8192, .f32⟩
  | .hbm, ⟨105, _⟩ => ⟨S_, .f32⟩
  | .hbm, ⟨106, _⟩ => ⟨S8x8192x8192, .f32⟩
  | .hbm, ⟨107, _⟩ => ⟨S8x8192x8192, .f32⟩
  | .hbm, ⟨108, _⟩ => ⟨S8x8192x8192, .f32⟩
  | .hbm, ⟨109, _⟩ => ⟨S8x8192x8192, .f32⟩
  | .hbm, ⟨110, _⟩ => ⟨S8x8192x8192, .f32⟩
  | .hbm, ⟨111, _⟩ => ⟨S8x8192x8192, .f32⟩
  | .hbm, ⟨112, _⟩ => ⟨S8x8192x8192, .f32⟩
  | .hbm, ⟨113, _⟩ => ⟨S8x8192x8192, .f32⟩
  | .hbm, ⟨114, _⟩ => ⟨S_, .f32⟩
  | .hbm, ⟨115, _⟩ => ⟨S8x8192x8192, .f32⟩
  | .hbm, ⟨116, _⟩ => ⟨S8x8192x8192, .f32⟩
  | .hbm, ⟨117, _⟩ => ⟨S8x8192x64, .f32⟩
  | .hbm, ⟨118, _⟩ => ⟨S8192x8x64, .f32⟩
  | .hbm, ⟨119, _⟩ => ⟨S8x8192x64, .f32⟩
  | .hbm, ⟨120, _⟩ => ⟨S8192x8x64, .f32⟩
  | .hbm, ⟨121, _⟩ => ⟨S8192x512, .f32⟩
  | .hbm, ⟨122, _⟩ => ⟨S8192x512, .f32⟩
  | .hbm, ⟨123, _⟩ => ⟨S8192x512, .f32⟩
  | .hbm, ⟨124, _⟩ => ⟨S8192x512, .bf16⟩
  | .hbm, ⟨125, _⟩ => ⟨S8192x512, .bf16⟩
  | .hbm, ⟨126, _⟩ => ⟨S8192x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_v16 : Ref sig .tc := ⟨.hbm, 66, rfl⟩
abbrev main_cst_0 : Ref sig .tc := ⟨.hbm, 67, rfl⟩
abbrev main_call1_v0 : Ref sig .tc := ⟨.hbm, 68, rfl⟩
abbrev main_v17_1 : Ref sig .tc := ⟨.hbm, 69, rfl⟩
abbrev main_call1_v2 : Ref sig .tc := ⟨.hbm, 70, rfl⟩
abbrev main_v17_0 : Ref sig .tc := ⟨.hbm, 71, rfl⟩
abbrev main_call1_cst : Ref sig .tc := ⟨.hbm, 72, rfl⟩
abbrev main_v17_2 : Ref sig .tc := ⟨.hbm, 73, rfl⟩
abbrev main_call2_cst : Ref sig .tc := ⟨.hbm, 74, rfl⟩
abbrev main_call2_v0 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_cst_1 : Ref sig .tc := ⟨.hbm, 80, rfl⟩
abbrev main_call3_v0 : Ref sig .tc := ⟨.hbm, 81, rfl⟩
abbrev main_v22_1 : Ref sig .tc := ⟨.hbm, 82, rfl⟩
abbrev main_call3_v2 : Ref sig .tc := ⟨.hbm, 83, rfl⟩
abbrev main_v22_0 : Ref sig .tc := ⟨.hbm, 84, rfl⟩
abbrev main_call3_cst : Ref sig .tc := ⟨.hbm, 85, rfl⟩
abbrev main_v22_2 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_call4_cst : Ref sig .tc := ⟨.hbm, 96, rfl⟩
abbrev main_call4_v0 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_call5_cst : Ref sig .tc := ⟨.hbm, 101, rfl⟩
abbrev main_call5_v0 : Ref sig .tc := ⟨.hbm, 102, rfl⟩
abbrev main_v35 : Ref sig .tc := ⟨.hbm, 103, rfl⟩
abbrev main_v36 : Ref sig .tc := ⟨.hbm, 104, rfl⟩
abbrev main_call6_cst : Ref sig .tc := ⟨.hbm, 105, rfl⟩
abbrev main_call6_v0 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_call7_v0 : Ref sig .tc := ⟨.hbm, 110, rfl⟩
abbrev main_call7_v1 : Ref sig .tc := ⟨.hbm, 111, rfl⟩
abbrev main_v40 : Ref sig .tc := ⟨.hbm, 112, rfl⟩
abbrev main_v41 : Ref sig .tc := ⟨.hbm, 113, rfl⟩
abbrev main_cst_2 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8x128, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S8x128, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x128, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192x1024, .f32⟩
  | .hbm, ⟨68, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Kernel4.lean ====
abbrev S8192x1024 : Shape := ⟨2, ![8192, 1024]⟩
abbrev S8192x4096 : Shape := ⟨2, ![8192, 4096]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x1024 : Shape := ⟨2, ![8192, 1024]⟩
abbrev S8192x4096 : Shape := ⟨2, ![8192, 4096]⟩
abbrev S8192x2048 : Shape := ⟨2, ![8192, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x2048, .f32⟩
  | .hbm, ⟨43, _⟩ => ⟨S8192x1024, .bf16⟩
  | .hbm, ⟨44, _⟩ => ⟨S8192x1024, .bf16⟩
  | .hbm, ⟨45, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S8192x1, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S_, .f32⟩
  | .hbm, ⟨104, _⟩ => ⟨S1024, .f32⟩
  | .hbm, ⟨105, _⟩ => ⟨S_, .f32⟩
  | .hbm, ⟨106, _⟩ => ⟨S8192x1024, .f32⟩
  | .hbm, ⟨107, _⟩ => ⟨S8192x1024, .f32⟩
  | .hbm, ⟨108, _⟩ => ⟨S8192x1024, .bf16⟩
  | .hbm, ⟨109, _⟩ => ⟨S1x1024, .f32⟩
  | .hbm, ⟨110, _⟩ => ⟨S1x1024, .f32⟩
  | .hbm, ⟨111, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩
abbrev main_cst_20 : Ref sig .tc := ⟨.hbm, 103, rfl⟩
abbrev main_v76 : Ref sig .tc := ⟨.hbm, 104, rfl⟩
abbrev main_cst_21 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S8192x1024, .bf16⟩
  | .hbm, ⟨8, _⟩ => ⟨S8192x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S1x1024, .f32⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_cst_17 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Kernel7.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference7Ideal.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 202
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S_, .f32⟩
  | 13 => ⟨S1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S_, .f32⟩
  | 20 => ⟨S8192, .f32⟩
  | 21 => ⟨S8192x1, .f32⟩
  | 22 => ⟨S_, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S8192x1024, .f32⟩
  | 38 => ⟨S8192x1024, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S1x1024, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S_, .f32⟩
  | 68 => ⟨S8192, .f32⟩
  | 69 => ⟨S8192x1, .f32⟩
  | 70 => ⟨S_, .f32⟩
  | 71 => ⟨S8192x1, .f32⟩
  | 72 => ⟨S8192x1, .f32⟩
  | 73 => ⟨S8192x1024, .f32⟩
  | 74 => ⟨S8192x1024, .f32⟩
  | 75 => ⟨S_, .f32⟩
  | 76 => ⟨S8192x1, .f32⟩
  | 77 => ⟨S8192x1, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1024, .f32⟩
  | 84 => ⟨S8192x1024, .f32⟩
  | 85 => ⟨S_, .f32⟩
  | 86 => ⟨S1024, .f32⟩
  | 87 => ⟨S1024, .f32⟩
  | 88 => ⟨S1x1024, .f32⟩
  | 89 => ⟨S8192x1024, .f32⟩
  | 90 => ⟨S8192x1024, .f32⟩
  | 91 => ⟨S1x1024, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S_, .f32⟩
  | 99 => ⟨S1024, .f32⟩
  | 100 => ⟨S8192x1024, .f32⟩
  | 101 => ⟨S_, .f32⟩
  | 102 => ⟨S1024, .f32⟩
  | 103 => ⟨S1x1024, .f32⟩
  | 104 => ⟨S8192x1024, .f32⟩
  | 105 => ⟨S8192x1024, .f32⟩
  | 106 => ⟨S_, .f32⟩
  | 107 => ⟨S1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S8192, .f32⟩
  | 2 => ⟨S8192x1, .f32⟩
  | 3 => ⟨S8192x1024, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x1024, .f32⟩
  | 11 => ⟨S8192x1024, .f32⟩
  | 12 => ⟨S8192x1024, .f32⟩
  | 13 => ⟨S_, .f32⟩
  | 14 => ⟨S1024, .f32⟩
  | 15 => ⟨S1x1024, .f32⟩
  | 16 => ⟨S_, .f32⟩
  | 17 => ⟨S1024, .f32⟩
  | 18 => ⟨S8192x1024, .f32⟩
  | 19 => ⟨S_, .f32⟩
  | 20 => ⟨S1024, .f32⟩
  | 21 => ⟨S1x1024, .f32⟩
  | 22 => ⟨S8192x1024, .f32⟩
  | 23 => ⟨S8192x1024, .f32⟩
  | 24 => ⟨S_, .f32⟩
  | 25 => ⟨S1024, .f32⟩
  | 26 => ⟨S8192x1024, .f32⟩
  | 27 => ⟨S_, .f32⟩
  | 28 => ⟨S8192, .f32⟩
  | 29 => ⟨S8192x1, .f32⟩
  | 30 => ⟨S8192x1024, .f32⟩
  | 31 => ⟨S8192x1024, .f32⟩
  | 32 => ⟨S8192x1, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x1024, .f32⟩
  | 43 => ⟨S8192x1024, .f32⟩
  | 44 => ⟨S8192x1024, .f32⟩
  | 45 => ⟨S_, .f32⟩
  | 46 => ⟨S8192, .f32⟩
  | 47 => ⟨S8192x1, .f32⟩
  | 48 => ⟨S8192x1024, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S_, .f32⟩
  | 61 => ⟨S1024, .f32⟩
  | 62 => ⟨S1x1024, .f32⟩
  | 63 => ⟨S_, .f32⟩
  | 64 => ⟨S1024, .f32⟩
  | 65 => ⟨S_, .f32⟩
  | 66 => ⟨S8192x1024, .f32⟩
  | 67 => ⟨S8192x1024, .f32⟩
  | 68 => ⟨S8192x1024, .bf16⟩
  | 69 => ⟨S1x1024, .f32⟩
  | 70 => ⟨S1x1024, .f32⟩
  | 71 => ⟨S1x1024, .f32⟩
  | 72 => ⟨S1x1024, .f32⟩
  | 73 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_13 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_cst_17 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_21 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_22 : Ref sig .tc := ⟨.hbm, 120, rfl⟩
abbrev main_v88 : Ref sig .tc := ⟨.hbm, 121, rfl⟩
abbrev main_v89 : Ref sig .tc := ⟨.hbm, 122, rfl⟩
abbrev main_cst_23 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_24 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_25 : Ref sig .tc := ⟨.hbm, 133, rfl⟩
abbrev main_v98 : Ref sig .tc := ⟨.hbm, 134, rfl⟩
abbrev main_v99 : Ref sig .tc := ⟨.hbm, 135, rfl⟩
abbrev main_cst_26 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_27 : Ref sig .tc := ⟨.hbm, 141, rfl⟩
abbrev main_v104 : Ref sig .tc := ⟨.hbm, 142, rfl⟩
abbrev main_v105 : Ref sig .tc := ⟨.hbm, 143, rfl⟩
abbrev main_cst_28 : Ref sig .tc := ⟨.hbm, 144, rfl⟩
abbrev main_v106 : Ref sig .tc := ⟨.hbm, 145, rfl⟩
abbrev main_v107 : Ref sig .tc := ⟨.hbm, 146, rfl⟩
abbrev main_cst_29 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_30 : Ref sig .tc := ⟨.hbm, 152, rfl⟩
abbrev main_v112 : Ref sig .tc := ⟨.hbm, 153, rfl⟩
abbrev main_v113 : Ref sig .tc := ⟨.hbm, 154, rfl⟩
abbrev main_cst_31 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_32 : Ref sig .tc := ⟨.hbm, 162, rfl⟩
abbrev main_v120 : Ref sig .tc := ⟨.hbm, 163, rfl⟩
abbrev main_v121 : Ref sig .tc := ⟨.hbm, 164, rfl⟩
abbrev main_cst_33 : Ref sig .tc := ⟨.hbm, 165, rfl⟩
abbrev main_v122 : Ref sig .tc := ⟨.hbm, 166, rfl⟩
abbrev main_v123 : Ref sig .tc := ⟨.hbm, 167, rfl⟩
abbrev main_cst_34 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_35 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_36 : Ref sig .tc := ⟨.hbm, 178, rfl⟩
abbrev main_v132 : Ref sig .tc := ⟨.hbm, 179, rfl⟩
abbrev main_v133 : Ref sig .tc := ⟨.hbm, 180, rfl⟩
abbrev main_cst_37 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_38 : Ref sig .tc := ⟨.hbm, 188, rfl⟩
abbrev main_v140 : Ref sig .tc := ⟨.hbm, 189, rfl⟩
abbrev main_v141 : Ref sig .tc := ⟨.hbm, 190, rfl⟩
abbrev main_cst_39 : Ref sig .tc := ⟨.hbm, 191, rfl⟩
abbrev main_v142 : Ref sig .tc := ⟨.hbm, 192, rfl⟩
abbrev main_cst_40 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩

abbrev nD : Nat := 1
abbrev τ : Topo := Topo.v7x

variable {F : FTy → Type} [FloatOps F]
-- ==== Kernel8.lean ====
abbrev S8192x512 : Shape := ⟨2, ![8192, 512]⟩
abbrev S8192x4096 : Shape := ⟨2, ![8192, 4096]⟩
abbrev S512 : Shape := ⟨1, ![512]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 16
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S8192x512, .f32⟩
  | .hbm, ⟨6, _⟩ => ⟨S8192x512, .bf16⟩
  | .hbm, ⟨7, _⟩ => ⟨S1x512, .f32⟩
  | .hbm, ⟨8, _⟩ => ⟨S1x512, .f32⟩
  | .hbm, ⟨9, _⟩ => ⟨S512x512, .bf16⟩
  | .hbm, ⟨10, _⟩ => ⟨S1x512x512, .bf16⟩
  | .hbm, ⟨11, _⟩ => ⟨S8192x512, .f32⟩
  | .hbm, ⟨12, _⟩ => ⟨S8192x512, .f32⟩
  | .hbm, ⟨13, _⟩ => ⟨S512x512, .bf16⟩
  | .hbm, ⟨14, _⟩ => ⟨S1x512, .f32⟩
  | .hbm, ⟨15, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S1x512x512, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v89 : BitVec 1 := Scalar.cmpi .eq arg0 c15_i32
  let v90 : BitVec 32 := Scalar.extui v89
  let c0_i32_47 : BitVec 32 := 0#32
  let v91 : BitVec 1 := Scalar.cmpi .ne v90 c0_i32_47
  v91

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S8192x512 : Shape := ⟨2, ![8192, 512]⟩
abbrev S8192x4096 : Shape := ⟨2, ![8192, 4096]⟩
abbrev S512 : Shape := ⟨1, ![512]⟩
abbrev S512x512 : Shape := ⟨2, ![512, 512]⟩
abbrev S1x8192x512 : Shape := ⟨3, ![1, 8192, 512]⟩
abbrev S1x512 : Shape := ⟨2, ![1, 512]⟩
abbrev S_ : Shape := ⟨0, ![]⟩

abbrev nBuf : Space → Nat
  | .hbm => 102
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S8192x512, .f32⟩
  | .hbm, ⟨6, _⟩ => ⟨S1x8192x512, .f32⟩
  | .hbm, ⟨7, _⟩ => ⟨S8192x512, .f32⟩
  | .hbm, ⟨8, _⟩ => ⟨S1x8192x512, .f32⟩
  | .hbm, ⟨9, _⟩ => ⟨S8192x512, .f32⟩
  | .hbm, ⟨10, _⟩ => ⟨S8192x512, .f32⟩
  | .hbm, ⟨11, _⟩ => ⟨S1x512, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S_, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S512, .f32⟩
  | .hbm, ⟨68, _⟩ => ⟨S512x512, .f32⟩
  | .hbm, ⟨69, _⟩ => ⟨S512x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S_, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192x512, .f32⟩
  | .hbm, ⟨84, _⟩ => ⟨S8192x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S512, .f32⟩
  | .hbm, ⟨92, _⟩ => ⟨S1x512, .f32⟩
  | .hbm, ⟨93, _⟩ => ⟨S_, .f32⟩
  | .hbm, ⟨94, _⟩ => ⟨S512, .f32⟩
  | .hbm, ⟨95, _⟩ => ⟨S1x8192x512, .f32⟩
  | .hbm, ⟨96, _⟩ => ⟨S1x8192x512, .f32⟩
  | .hbm, ⟨97, _⟩ => ⟨S8192x512, .f32⟩
  | .hbm, ⟨98, _⟩ => ⟨S8192x512, .f32⟩
  | .hbm, ⟨99, _⟩ => ⟨S512x512, .bf16⟩
  | .hbm, ⟨100, _⟩ => ⟨S1x512, .f32⟩
  | .hbm, ⟨101, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]
-- ==== Kernel9Ideal.lean ====
abbrev S8192x4096 : Shape := ⟨2, ![8192, 4096]⟩
abbrev S8192x512 : Shape := ⟨2, ![8192, 512]⟩
abbrev S512x128 : Shape := ⟨2, ![512, 128]⟩
abbrev S8192x128 : Shape := ⟨2, ![8192, 128]⟩
abbrev S256x128 : Shape := ⟨2, ![256, 128]⟩
abbrev S256x256 : Shape := ⟨2, ![256, 256]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 3
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x512, .bf16⟩
  | .hbm, ⟨2, _⟩ => ⟨S8192x512, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F] [Named F]

def κ : String → Option EReal := fun
  | "exit" => some ⊥
  | _ => none

abbrev grid0 : Pipeline.Grid := ⟨2, ![4, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let c0_i32 : BitVec 32 := 0#32
  let v41 : BitVec 32 := Scalar.addi v0 c0_i32
  let c0_i32_16 : BitVec 32 := 0#32
  let v42 : BitVec 32 := Scalar.subi v41 c0_i32_16
  let c0_i32_17 : BitVec 32 := 0#32
  let v43 : BitVec 32 := Scalar.maxsi v42 c0_i32_17
  let c256_i32 : BitVec 32 := 256#32
  let v44 : BitVec 32 := Scalar.muli v43 c256_i32
  v44
def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let v41 : BitVec 32 := Scalar.addi v0 c0_i32
  let c0_i32_16 : BitVec 32 := 0#32
  let v42 : BitVec 32 := Scalar.subi v41 c0_i32_16
  let c0_i32_17 : BitVec 32 := 0#32
  let v43 : BitVec 32 := Scalar.maxsi v42 c0_i32_17
  let c256_i32 : BitVec 32 := 256#32
  let v44 : BitVec 32 := Scalar.muli v43 c256_i32
  let v45 : BitVec 32 := v44
  let v46 : Index := Scalar.indexCast v45
  let c0_18 : Index := 0#32
  ![v46.toNat, 0]
def k0_mult2 (i : grid0.Coords) : BitVec 32 :=
  let arg1 : BitVec 32 := BitVec.ofNat 32 (i 1).val
  let c2_i32 : BitVec 32 := 2#32
  let v0 : BitVec 32 := Scalar.muli arg1 c2_i32
  let c1_i32 : BitVec 32 := 1#32
  let v97 : BitVec 32 := Scalar.addi v0 c1_i32
  let c0_i32_35 : BitVec 32 := 0#32
  let v98 : BitVec 32 := Scalar.subi v97 c0_i32_35
  let c0_i32_36 : BitVec 32 := 0#32
  let v99 : BitVec 32 := Scalar.maxsi v98 c0_i32_36
  let c256_i32_37 : BitVec 32 := 256#32
  let v100 : BitVec 32 := Scalar.muli v99 c256_i32_37
  v100
def k0_mult3 (i : grid0.Coords) : BitVec 32 :=
  let arg1 : BitVec 32 := BitVec.ofNat 32 (i 1).val
  let c2_i32 : BitVec 32 := 2#32
  let v0 : BitVec 32 := Scalar.muli arg1 c2_i32
  let c0_i32_55 : BitVec 32 := 0#32
  let v153 : BitVec 32 := Scalar.addi v0 c0_i32_55
  let c0_i32_56 : BitVec 32 := 0#32
  let v154 : BitVec 32 := Scalar.subi v153 c0_i32_56
  let c0_i32_57 : BitVec 32 := 0#32
  let v155 : BitVec 32 := Scalar.maxsi v154 c0_i32_57
  let c256_i32_58 : BitVec 32 := 256#32
  let v156 : BitVec 32 := Scalar.muli v155 c256_i32_58
  v156
def k0_mult4 (i : grid0.Coords) : BitVec 32 :=
  let arg1 : BitVec 32 := BitVec.ofNat 32 (i 1).val
  let c2_i32 : BitVec 32 := 2#32
  let v0 : BitVec 32 := Scalar.muli arg1 c2_i32
  let c0_i32_62 : BitVec 32 := 0#32
  let v169 : BitVec 32 := Scalar.addi v0 c0_i32_62
  let c0_i32_63 : BitVec 32 := 0#32
  let v170 : BitVec 32 := Scalar.subi v169 c0_i32_63
  let c0_i32_64 : BitVec 32 := 0#32
  let v171 : BitVec 32 := Scalar.maxsi v170 c0_i32_64
  let c256_i32_65 : BitVec 32 := 256#32
  let v172 : BitVec 32 := Scalar.muli v171 c256_i32_65
  v172
def k0_mult5 (i : grid0.Coords) : BitVec 32 :=
  let arg1 : BitVec 32 := BitVec.ofNat 32 (i 1).val
  let c2_i32 : BitVec 32 := 2#32
  let v0 : BitVec 32 := Scalar.muli arg1 c2_i32
  let c1_i32_69 : BitVec 32 := 1#32
  let v185 : BitVec 32 := Scalar.addi v0 c1_i32_69
  let c0_i32_70 : BitVec 32 := 0#32
  let v186 : BitVec 32 := Scalar.subi v185 c0_i32_70
  let c0_i32_71 : BitVec 32 := 0#32
  let v187 : BitVec 32 := Scalar.maxsi v186 c0_i32_71
  let c256_i32_72 : BitVec 32 := 256#32
  let v188 : BitVec 32 := Scalar.muli v187 c256_i32_72
  v188
def k0_mult6 (i : grid0.Coords) : BitVec 32 :=
  let arg1 : BitVec 32 := BitVec.ofNat 32 (i 1).val
  let c2_i32 : BitVec 32 := 2#32
  let v0 : BitVec 32 := Scalar.muli arg1 c2_i32
  let c1_i32_76 : BitVec 32 := 1#32
  let v201 : BitVec 32 := Scalar.addi v0 c1_i32_76
  let c0_i32_77 : BitVec 32 := 0#32
  let v202 : BitVec 32 := Scalar.subi v201 c0_i32_77
  let c0_i32_78 : BitVec 32 := 0#32
  let v203 : BitVec 32 := Scalar.maxsi v202 c0_i32_78
  let c256_i32_79 : BitVec 32 := 256#32
  let v204 : BitVec 32 := Scalar.muli v203 c256_i32_79
  v204
def k0_mult7 (i : grid0.Coords) (arg7 : BitVec 32) : BitVec 32 :=
  let arg1 : BitVec 32 := BitVec.ofNat 32 (i 1).val
  let c2_i32 : BitVec 32 := 2#32
  let v0 : BitVec 32 := Scalar.muli arg1 c2_i32
  let c0_i32_94 : BitVec 32 := 0#32
  let v228 : BitVec 32 := Scalar.addi v0 c0_i32_94
  let v229 : BitVec 32 := Scalar.subi v228 arg7
  let c0_i32_96 : BitVec 32 := 0#32
  let v231 : BitVec 32 := Scalar.maxsi v229 c0_i32_96
  let c256_i32_97 : BitVec 32 := 256#32
  let v232 : BitVec 32 := Scalar.muli v231 c256_i32_97
  v232

def k0_off2 (i : grid0.Coords) (arg7 : BitVec 32) (c0_i32_94 : BitVec 32) : Fin 2 → Nat :=
  let arg1 : BitVec 32 := BitVec.ofNat 32 (i 1).val
  let c2_i32 : BitVec 32 := 2#32
  let v0 : BitVec 32 := Scalar.muli arg1 c2_i32
  let v228 : BitVec 32 := Scalar.addi v0 c0_i32_94
  let v229 : BitVec 32 := Scalar.subi v228 arg7
  let c0_i32_96 : BitVec 32 := 0#32
  let v231 : BitVec 32 := Scalar.maxsi v229 c0_i32_96
  let c256_i32_97 : BitVec 32 := 256#32
  let v232 : BitVec 32 := Scalar.muli v231 c256_i32_97
  let v233 : BitVec 32 := v232
  let v234 : Index := Scalar.indexCast v233
  let c0_98 : Index := 0#32
  ![v234.toNat, 0]
def k0_mult8 (i : grid0.Coords) (arg7 : BitVec 32) : BitVec 32 :=
  let arg1 : BitVec 32 := BitVec.ofNat 32 (i 1).val
  let c2_i32 : BitVec 32 := 2#32
  let v0 : BitVec 32 := Scalar.muli arg1 c2_i32
  let c1_i32_115 : BitVec 32 := 1#32
  let v285 : BitVec 32 := Scalar.addi v0 c1_i32_115
  let v286 : BitVec 32 := Scalar.subi v285 arg7
  let c0_i32_117 : BitVec 32 := 0#32
  let v288 : BitVec 32 := Scalar.maxsi v286 c0_i32_117
  let c256_i32_118 : BitVec 32 := 256#32
  let v289 : BitVec 32 := Scalar.muli v288 c256_i32_118
  v289
def k0_mult9 (i : grid0.Coords) (arg7 : BitVec 32) : BitVec 32 :=
  let arg1 : BitVec 32 := BitVec.ofNat 32 (i 1).val
  let c2_i32 : BitVec 32 := 2#32
  let v0 : BitVec 32 := Scalar.muli arg1 c2_i32
  let c0_i32_140 : BitVec 32 := 0#32
  let v365 : BitVec 32 := Scalar.addi v0 c0_i32_140
  let v366 : BitVec 32 := Scalar.subi v365 arg7
  let c0_i32_142 : BitVec 32 := 0#32
  let v368 : BitVec 32 := Scalar.maxsi v366 c0_i32_142
  let c256_i32_143 : BitVec 32 := 256#32
  let v369 : BitVec 32 := Scalar.muli v368 c256_i32_143
  v369
def k0_mult10 (i : grid0.Coords) (arg7 : BitVec 32) : BitVec 32 :=
  let arg1 : BitVec 32 := BitVec.ofNat 32 (i 1).val
  let c2_i32 : BitVec 32 := 2#32
  let v0 : BitVec 32 := Scalar.muli arg1 c2_i32
  let c0_i32_147 : BitVec 32 := 0#32
  let v382 : BitVec 32 := Scalar.addi v0 c0_i32_147
  let v383 : BitVec 32 := Scalar.subi v382 arg7
  let c0_i32_149 : BitVec 32 := 0#32
  let v385 : BitVec 32 := Scalar.maxsi v383 c0_i32_149
  let c256_i32_150 : BitVec 32 := 256#32
  let v386 : BitVec 32 := Scalar.muli v385 c256_i32_150
  v386
def k0_mult11 (i : grid0.Coords) (arg7 : BitVec 32) : BitVec 32 :=
  let arg1 : BitVec 32 := BitVec.ofNat 32 (i 1).val
  let c2_i32 : BitVec 32 := 2#32
  let v0 : BitVec 32 := Scalar.muli arg1 c2_i32
  let c1_i32_154 : BitVec 32 := 1#32
  let v399 : BitVec 32 := Scalar.addi v0 c1_i32_154
  let v400 : BitVec 32 := Scalar.subi v399 arg7
  let c0_i32_156 : BitVec 32 := 0#32
  let v402 : BitVec 32 := Scalar.maxsi v400 c0_i32_156
  let c256_i32_157 : BitVec 32 := 256#32
  let v403 : BitVec 32 := Scalar.muli v402 c256_i32_157
  v403
def k0_mult12 (i : grid0.Coords) (arg7 : BitVec 32) : BitVec 32 :=
  let arg1 : BitVec 32 := BitVec.ofNat 32 (i 1).val
  let c2_i32 : BitVec 32 := 2#32
  let v0 : BitVec 32 := Scalar.muli arg1 c2_i32
  let c1_i32_161 : BitVec 32 := 1#32
  let v416 : BitVec 32 := Scalar.addi v0 c1_i32_161
  let v417 : BitVec 32 := Scalar.subi v416 arg7
  let c0_i32_163 : BitVec 32 := 0#32
  let v419 : BitVec 32 := Scalar.maxsi v417 c0_i32_163
  let c256_i32_164 : BitVec 32 := 256#32
  let v420 : BitVec 32 := Scalar.muli v419 c256_i32_164
  v420

def k0_chk1 (i : grid0.Coords) (arg7 : BitVec 32) : Prop :=
  (256 ∣ (k0_mult7 i arg7).toNat) ∧
  (∀ (r : Fin 2), ∀ a, (k0_off2 i arg7 (BitVec.ofNat 32 r.val)) a + S256x128.size a ≤ S8192x128.size a) ∧
  (256 ∣ (k0_mult8 i arg7).toNat) ∧
  (256 ∣ (k0_mult9 i arg7).toNat) ∧
  (256 ∣ (k0_mult10 i arg7).toNat) ∧
  (256 ∣ (k0_mult11 i arg7).toNat) ∧
  (256 ∣ (k0_mult12 i arg7).toNat)
theorem k0_mult7_dvd : ∀ (i : grid0.Coords) (arg7 : BitVec 32) (k0_hw1 : k0_chk1 i arg7), 256 ∣ (k0_mult7 i arg7).toNat := fun i arg7 k0_hw1 => k0_hw1.1
theorem k0_off2_inb : ∀ (i : grid0.Coords) (arg7 : BitVec 32) (k0_hw1 : k0_chk1 i arg7), ∀ (r : Fin 2), ∀ a, (k0_off2 i arg7 (BitVec.ofNat 32 r.val)) a + S256x128.size a ≤ S8192x128.size a := fun i arg7 k0_hw1 r => k0_hw1.2.1 r
theorem k0_mult8_dvd : ∀ (i : grid0.Coords) (arg7 : BitVec 32) (k0_hw1 : k0_chk1 i arg7), 256 ∣ (k0_mult8 i arg7).toNat := fun i arg7 k0_hw1 => k0_hw1.2.2.1
theorem k0_mult9_dvd : ∀ (i : grid0.Coords) (arg7 : BitVec 32) (k0_hw1 : k0_chk1 i arg7), 256 ∣ (k0_mult9 i arg7).toNat := fun i arg7 k0_hw1 => k0_hw1.2.2.2.1
theorem k0_mult10_dvd : ∀ (i : grid0.Coords) (arg7 : BitVec 32) (k0_hw1 : k0_chk1 i arg7), 256 ∣ (k0_mult10 i arg7).toNat := fun i arg7 k0_hw1 => k0_hw1.2.2.2.2.1
theorem k0_mult11_dvd : ∀ (i : grid0.Coords) (arg7 : BitVec 32) (k0_hw1 : k0_chk1 i arg7), 256 ∣ (k0_mult11 i arg7).toNat := fun i arg7 k0_hw1 => k0_hw1.2.2.2.2.2.1
theorem k0_mult12_dvd : ∀ (i : grid0.Coords) (arg7 : BitVec 32) (k0_hw1 : k0_chk1 i arg7), 256 ∣ (k0_mult12 i arg7).toNat := fun i arg7 k0_hw1 => k0_hw1.2.2.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x4096 : Shape := ⟨2, ![8192, 4096]⟩
abbrev S8192x512 : Shape := ⟨2, ![8192, 512]⟩
abbrev S8192x8x64 : Shape := ⟨3, ![8192, 8, 64]⟩
abbrev S8192 : Shape := ⟨1, ![8192]⟩
abbrev S8x8192x8192 : Shape := ⟨3, ![8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x8x64, .f32⟩
  | .hbm, ⟨5, _⟩ => ⟨S8192x8x64, .f32⟩
  | .hbm, ⟨6, _⟩ => ⟨S8192x8x64, .f32⟩
  | .hbm, ⟨7, _⟩ => ⟨S8192, .i32⟩
  | .hbm, ⟨8, _⟩ => ⟨S8x8192x8192, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8x8192x8192, .f32⟩
  | .hbm, ⟨18, _⟩ => ⟨S_, .f32⟩
  | .hbm, ⟨19, _⟩ => ⟨S8x8192x8192, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S_, .f32⟩
  | .hbm, ⟨36, _⟩ => ⟨S8x8192x8192, .i1⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S_, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S_, .f32⟩
  | .hbm, ⟨47, _⟩ => ⟨S8x8192x8192, .i1⟩
  | .hbm, ⟨48, _⟩ => ⟨S8x8192x8192, .f32⟩
  | .hbm, ⟨49, _⟩ => ⟨S8x8192x8192, .f32⟩
  | .hbm, ⟨50, _⟩ => ⟨S8x64x8192, .f32⟩
  | .hbm, ⟨51, _⟩ => ⟨S8192x8x64, .f32⟩
  | .hbm, ⟨52, _⟩ => ⟨S8192x512, .f32⟩
  | .hbm, ⟨53, _⟩ => ⟨S8192x512, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_call2_cst : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩

abbrev nD : Nat := 1
abbrev τ : Topo := Topo.v7x

variable {F : FTy → Type} [FloatOps F]
-- ==== Kernel10.lean ====
abbrev S8192x512 : Shape := ⟨2, ![8192, 512]⟩
abbrev S8192x4096 : Shape := ⟨2, ![8192, 4096]⟩
abbrev S512 : Shape := ⟨1, ![512]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 10
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S512x512, .bf16⟩
  | .hbm, ⟨8, _⟩ => ⟨S1x512x512, .bf16⟩
  | .hbm, ⟨9, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S512x512, .bf16⟩
  | .local _ .vmem, ⟨8, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x512 : Shape := ⟨2, ![8192, 512]⟩
abbrev S8192x4096 : Shape := ⟨2, ![8192, 4096]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x4096, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S8192x512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S_, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel11.lean ====
abbrev S8192x512 : Shape := ⟨2, ![8192, 512]⟩
abbrev S8192x4096 : Shape := ⟨2, ![8192, 4096]⟩
abbrev S512x1024 : Shape := ⟨2, ![512, 1024]⟩
abbrev S1x512x1024 : Shape := ⟨3, ![1, 512, 1024]⟩
abbrev S8192x1024 : Shape := ⟨2, ![8192, 1024]⟩
abbrev S512x512 : Shape := ⟨2, ![512, 512]⟩
abbrev S512x2048 : Shape := ⟨2, ![512, 2048]⟩

abbrev nBuf : Space → Nat
  | .hbm => 14
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x4096, .f32⟩
  | .hbm, ⟨3, _⟩ => ⟨S512x1024, .f32⟩
  | .hbm, ⟨4, _⟩ => ⟨S512x1024, .f32⟩
  | .hbm, ⟨5, _⟩ => ⟨S8192x512, .bf16⟩
  | .hbm, ⟨6, _⟩ => ⟨S8192x512, .bf16⟩
  | .hbm, ⟨7, _⟩ => ⟨S512x1024, .bf16⟩
  | .hbm, ⟨8, _⟩ => ⟨S1x512x1024, .bf16⟩
  | .hbm, ⟨9, _⟩ => ⟨S512x1024, .bf16⟩
  | .hbm, ⟨10, _⟩ => ⟨S1x512x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .f32⟩
  | .local _ .vmem, ⟨5, _⟩ => ⟨S512x2048, .f32⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8192x512 : Shape := ⟨2, ![8192, 512]⟩
abbrev S8192x4096 : Shape := ⟨2, ![8192, 4096]⟩
abbrev S512x1024 : Shape := ⟨2, ![512, 1024]⟩
abbrev S8192x1024 : Shape := ⟨2, ![8192, 1024]⟩
abbrev S8192x2048 : Shape := ⟨2, ![8192, 2048]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x4096, .f32⟩
  | .hbm, ⟨3, _⟩ => ⟨S512x1024, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S8192x1024, .bf16⟩
  | .hbm, ⟨31, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel12.lean ====
abbrev S8192x1024 : Shape := ⟨2, ![8192, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S2x4x8192x704 : Shape := ⟨4, ![2, 4, 8192, 704]⟩
abbrev S4x8192x704 : Shape := ⟨3, ![4, 8192, 704]⟩
abbrev S512x1024 : Shape := ⟨2, ![512, 1024]⟩
abbrev S1x1024x704 : Shape := ⟨3, ![1, 1024, 704]⟩
abbrev S2x1x512x704 : Shape := ⟨4, ![2, 1, 512, 704]⟩
abbrev S1x512x704 : Shape := ⟨3, ![1, 512, 704]⟩
abbrev S1024x704 : Shape := ⟨2, ![1024, 704]⟩
abbrev S512x704 : Shape := ⟨2, ![512, 704]⟩
abbrev S1x1x512x704 : Shape := ⟨4, ![1, 1, 512, 704]⟩
abbrev S2x512x704 : Shape := ⟨3, ![2, 512, 704]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S1024x8x704, .bf16⟩
  | .hbm, ⟨4, _⟩ => ⟨S8x1024x704, .bf16⟩
  | .hbm, ⟨5, _⟩ => ⟨S8192x1024, .bf16⟩
  | .hbm, ⟨6, _⟩ => ⟨S2x4x8192x704, .bf16⟩
  | .hbm, ⟨7, _⟩ => ⟨S4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S1x512x704, .bf16⟩
  | .local _ .vmem, ⟨9, _⟩ => ⟨S1x512x704, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S8192x2x4x704 : Shape := ⟨4, ![8192, 2, 4, 704]⟩
abbrev S2x4x8192x704 : Shape := ⟨4, ![2, 4, 8192, 704]⟩
abbrev S8192x4x704 : Shape := ⟨3, ![8192, 4, 704]⟩
abbrev S4x8192x704 : Shape := ⟨3, ![4, 8192, 704]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2x4x704, .f32⟩
  | .hbm, ⟨16, _⟩ => ⟨S2x4x8192x704, .f32⟩
  | .hbm, ⟨17, _⟩ => ⟨S2x4x8192x704, .bf16⟩
  | .hbm, ⟨18, _⟩ => ⟨S8192x4x704, .f32⟩
  | .hbm, ⟨19, _⟩ => ⟨S4x8192x704, .f32⟩
  | .hbm, ⟨20, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8192x1024 : Shape := ⟨2, ![8192, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel15.lean ====
abbrev S8x1024 : Shape := ⟨2, ![8, 1024]⟩
abbrev S_ : Shape := ⟨0, ![]⟩
abbrev S16x1024 : Shape := ⟨2, ![16, 1024]⟩

abbrev nBuf : Space → Nat
  | .hbm => 5
  | .vmem => 2
  | .smem => 0
  | _ => 0

abbrev bufTy : (tb : Table) → Fin (tcTables nBuf tb) → BufTy
  | .hbm, ⟨0, _⟩ => ⟨S8x1024, .f32⟩
  | .hbm, ⟨1, _⟩ => ⟨S_, .i32⟩
  | .hbm, ⟨2, _⟩ => ⟨S_, .f32⟩
  | .hbm, ⟨3, _⟩ => ⟨S16x1024, .f32⟩
  | .hbm, ⟨4, _⟩ => ⟨S16x1024, .f32⟩
  | .local _ .vmem, ⟨0, _⟩ => ⟨S16x1024, .f32⟩
  | .local _ .vmem, ⟨1, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference15Ideal.lean ====
abbrev S8x1024 : Shape := ⟨2, ![8, 1024]⟩
abbrev S_ : Shape := ⟨0, ![]⟩
abbrev S16x1024 : Shape := ⟨2, ![16, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S_, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .i32⟩
  | .hbm, ⟨11, _⟩ => ⟨S_, .f32⟩
  | .hbm, ⟨12, _⟩ => ⟨S16x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_c : Ref sig .tc := ⟨.hbm, 10, rfl⟩
abbrev main_call1_v0 : Ref sig .tc := ⟨.hbm, 11, rfl⟩
abbrev main_v1 : Ref sig .tc := ⟨.hbm, 12, rfl⟩

abbrev nD : Nat := 1
abbrev τ : Topo := Topo.v7x

variable {F : FTy → Type} [FloatOps F]
-- ==== Kernel16.lean ====
abbrev S2x1024x512 : Shape := ⟨3, ![2, 1024, 512]⟩
abbrev S8x2x1024x512 : Shape := ⟨4, ![8, 2, 1024, 512]⟩
abbrev S2048x512 : Shape := ⟨2, ![2048, 512]⟩
abbrev S8x2048x512 : Shape := ⟨3, ![8, 2048, 512]⟩
abbrev S512x512 : Shape := ⟨2, ![512, 512]⟩
abbrev S1x512x512 : Shape := ⟨3, ![1, 512, 512]⟩

abbrev nBuf : Space → Nat
  | .hbm => 12
  | .vmem => 30
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S8x2x1024x512, .bf16⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S8x2048x512, .bf16⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_7 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_8 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_9 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_10 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference16Ideal.lean ====
abbrev S2x1024x512 : Shape := ⟨3, ![2, 1024, 512]⟩
abbrev S8x2x1024x512 : Shape := ⟨4, ![8, 2, 1024, 512]⟩
abbrev S_ : Shape := ⟨0, ![]⟩
abbrev S2048x512 : Shape := ⟨2, ![2048, 512]⟩

abbrev nBuf : Space → Nat
  | .hbm => 44
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S8x2x1024x512, .bf16⟩
  | .hbm, ⟨4, _⟩ => ⟨S8x2x1024x512, .f32⟩
  | .hbm, ⟨5, _⟩ => ⟨S_, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S_, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S2x1024x512, .f32⟩
  | .hbm, ⟨18, _⟩ => ⟨S_, .f32⟩
  | .hbm, ⟨19, _⟩ => ⟨S2x1024x512, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S2x1024x512, .f32⟩
  | .hbm, ⟨33, _⟩ => ⟨S_, .f32⟩
  | .hbm, ⟨34, _⟩ => ⟨S2x1024x512, .f32⟩
  | .hbm, ⟨35, _⟩ => ⟨S2x1024x512, .f32⟩
  | .hbm, ⟨36, _⟩ => ⟨S2x1024x512, .f32⟩
  | .hbm, ⟨37, _⟩ => ⟨S_, .f32⟩
  | .hbm, ⟨38, _⟩ => ⟨S2x1024x512, .f32⟩
  | .hbm, ⟨39, _⟩ => ⟨S2x1024x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x1024 : Shape := ⟨2, ![8192, 1024]⟩
abbrev S1024x4096 : Shape := ⟨2, ![1024, 4096]⟩
abbrev S8192x512 : Shape := ⟨2, ![8192, 512]⟩
abbrev S8192x2048 : Shape := ⟨2, ![8192, 2048]⟩
abbrev S1024x8x512 : Shape := ⟨3, ![1024, 8, 512]⟩
abbrev S8x1024x512 : Shape := ⟨3, ![8, 1024, 512]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x2048, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x2048, .bf16⟩
  | .hbm, ⟨14, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 8], ![false, false, false]⟩

def k0_cond7 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let v2 : BitVec 32 := Scalar.addi c0_i32 v1
  let c2_i32 : BitVec 32 := 2#32
  let v3 : BitVec 1 := Scalar.cmpi .sge arg2 c2_i32
  let v4 : BitVec 32 := Scalar.extui v3
  let v5 : BitVec 32 := Scalar.addi v2 v4
  let c3_i32 : BitVec 32 := 3#32
  let v6 : BitVec 1 := Scalar.cmpi .sge arg2 c3_i32
  let v7 : BitVec 32 := Scalar.extui v6
  let v8 : BitVec 32 := Scalar.addi v5 v7
  let c4_i32 : BitVec 32 := 4#32
  let v9 : BitVec 1 := Scalar.cmpi .sge arg2 c4_i32
  let v10 : BitVec 32 := Scalar.extui v9
  let v11 : BitVec 32 := Scalar.addi v8 v10
  let c0_i32_0 : BitVec 32 := 0#32
  let v12 : BitVec 1 := Scalar.cmpi .eq v11 c0_i32_0
  let c0_i32_1 : BitVec 32 := 0#32
  let v13 : BitVec 32 := Scalar.select v12 arg0 c0_i32_1
  let c0_i32_2 : BitVec 32 := 0#32
  let v14 : BitVec 32 := Scalar.subi arg2 c0_i32_2
  let c0_i32_3 : BitVec 32 := 0#32
  let v15 : BitVec 32 := Scalar.select v12 v14 c0_i32_3
  let c0_i32_4 : BitVec 32 := 0#32
  ![v13.toNat, v15.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let v2 : BitVec 32 := Scalar.addi c0_i32 v1
  let c2_i32 : BitVec 32 := 2#32
  let v3 : BitVec 1 := Scalar.cmpi .sge arg2 c2_i32
  let v4 : BitVec 32 := Scalar.extui v3
  let v5 : BitVec 32 := Scalar.addi v2 v4
  let c3_i32 : BitVec 32 := 3#32
  let v6 : BitVec 1 := Scalar.cmpi .sge arg2 c3_i32
  let v7 : BitVec 32 := Scalar.extui v6
  let v8 : BitVec 32 := Scalar.addi v5 v7
  let c4_i32 : BitVec 32 := 4#32
  let v9 : BitVec 1 := Scalar.cmpi .sge arg2 c4_i32
  let v10 : BitVec 32 := Scalar.extui v9
  let v11 : BitVec 32 := Scalar.addi v8 v10
  let c1_i32_0 : BitVec 32 := 1#32
  let v12 : BitVec 1 := Scalar.cmpi .eq v11 c1_i32_0
  let c0_i32_1 : BitVec 32 := 0#32
  let v13 : BitVec 32 := Scalar.select v12 arg0 c0_i32_1
  let c1_i32_2 : BitVec 32 := 1#32
  let v14 : BitVec 32 := Scalar.subi arg2 c1_i32_2
  let c0_i32_3 : BitVec 32 := 0#32
  let v15 : BitVec 32 := Scalar.select v12 v14 c0_i32_3
  let c0_i32_4 : BitVec 32 := 0#32
  ![v13.toNat, v15.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let v2 : BitVec 32 := Scalar.addi c0_i32 v1
  let c2_i32 : BitVec 32 := 2#32
  let v3 : BitVec 1 := Scalar.cmpi .sge arg2 c2_i32
  let v4 : BitVec 32 := Scalar.extui v3
  let v5 : BitVec 32 := Scalar.addi v2 v4
  let c3_i32 : BitVec 32 := 3#32
  let v6 : BitVec 1 := Scalar.cmpi .sge arg2 c3_i32
  let v7 : BitVec 32 := Scalar.extui v6
  let v8 : BitVec 32 := Scalar.addi v5 v7
  let c4_i32 : BitVec 32 := 4#32
  let v9 : BitVec 1 := Scalar.cmpi .sge arg2 c4_i32
  let v10 : BitVec 32 := Scalar.extui v9
  let v11 : BitVec 32 := Scalar.addi v8 v10
  let c2_i32_0 : BitVec 32 := 2#32
  let v12 : BitVec 1 := Scalar.cmpi .eq v11 c2_i32_0
  let c0_i32_1 : BitVec 32 := 0#32
  let v13 : BitVec 32 := Scalar.select v12 arg0 c0_i32_1
  let c2_i32_2 : BitVec 32 := 2#32
  let v14 : BitVec 32 := Scalar.subi arg2 c2_i32_2
  let c0_i32_3 : BitVec 32 := 0#32
  let v15 : BitVec 32 := Scalar.select v12 v14 c0_i32_3
  let c0_i32_4 : BitVec 32 := 0#32
  ![v13.toNat, v15.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let v2 : BitVec 32 := Scalar.addi c0_i32 v1
  let c2_i32 : BitVec 32 := 2#32
  let v3 : BitVec 1 := Scalar.cmpi .sge arg2 c2_i32
  let v4 : BitVec 32 := Scalar.extui v3
  let v5 : BitVec 32 := Scalar.addi v2 v4
  let c3_i32 : BitVec 32 := 3#32
  let v6 : BitVec 1 := Scalar.cmpi .sge arg2 c3_i32
  let v7 : BitVec 32 := Scalar.extui v6
  let v8 : BitVec 32 := Scalar.addi v5 v7
  let c4_i32 : BitVec 32 := 4#32
  let v9 : BitVec 1 := Scalar.cmpi .sge arg2 c4_i32
  let v10 : BitVec 32 := Scalar.extui v9
  let v11 : BitVec 32 := Scalar.addi v8 v10
  let c3_i32_0 : BitVec 32 := 3#32
  let v12 : BitVec 1 := Scalar.cmpi .eq v11 c3_i32_0
  let c0_i32_1 : BitVec 32 := 0#32
  let v13 : BitVec 32 := Scalar.select v12 arg0 c0_i32_1
  let c3_i32_2 : BitVec 32 := 3#32
  let v14 : BitVec 32 := Scalar.subi arg2 c3_i32_2
  let c0_i32_3 : BitVec 32 := 0#32
  let v15 : BitVec 32 := Scalar.select v12 v14 c0_i32_3
  let c0_i32_4 : BitVec 32 := 0#32
  ![v13.toNat, v15.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .sge arg2 c1_i32
  let v1 : BitVec 32 := Scalar.extui v0
  let c0_i32 : BitVec 32 := 0#32
  let v2 : BitVec 32 := Scalar.addi c0_i32 v1
  let c2_i32 : BitVec 32 := 2#32
  let v3 : BitVec 1 := Scalar.cmpi .sge arg2 c2_i32
  let v4 : BitVec 32 := Scalar.extui v3
  let v5 : BitVec 32 := Scalar.addi v2 v4
  let c3_i32 : BitVec 32 := 3#32
  let v6 : BitVec 1 := Scalar.cmpi .sge arg2 c3_i32
  let v7 : BitVec 32 := Scalar.extui v6
  let v8 : BitVec 32 := Scalar.addi v5 v7
  let c4_i32 : BitVec 32 := 4#32
  let v9 : BitVec 1 := Scalar.cmpi .sge arg2 c4_i32
  let v10 : BitVec 32 := Scalar.extui v9
  let v11 : BitVec 32 := Scalar.addi v8 v10
  let c4_i32_0 : BitVec 32 := 4#32
  let v12 : BitVec 1 := Scalar.cmpi .eq v11 c4_i32_0
  let c0_i32_1 : BitVec 32 := 0#32
  let v13 : BitVec 32 := Scalar.select v12 arg0 c0_i32_1
  let c4_i32_2 : BitVec 32 := 4#32
  let v14 : BitVec 32 := Scalar.subi arg2 c4_i32_2
  let c0_i32_3 : BitVec 32 := 0#32
  let v15 : BitVec 32 := Scalar.select v12 v14 c0_i32_3
  let c0_i32_4 : BitVec 32 := 0#32
  ![v13.toNat, v15.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference18Ideal.lean ====
abbrev S8192x1024 : Shape := ⟨2, ![8192, 1024]⟩
abbrev S1024x4096 : Shape := ⟨2, ![1024, 4096]⟩
abbrev S8192x512 : Shape := ⟨2, ![8192, 512]⟩
abbrev S8192x2048 : Shape := ⟨2, ![8192, 2048]⟩
abbrev S8192x4096 : Shape := ⟨2, ![8192, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x2048, .f32⟩
  | .hbm, ⟨7, _⟩ => ⟨S8192x4096, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S8192x2048, .f32⟩
  | .hbm, ⟨13, _⟩ => ⟨S8192x4096, .f32⟩
  | .hbm, ⟨14, _⟩ => ⟨S8192x1024, .f32⟩
  | .hbm, ⟨15, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel19.lean ====
abbrev S8x2x768 : Shape := ⟨3, ![8, 2, 768]⟩
abbrev S1x7 : Shape := ⟨2, ![1, 7]⟩
abbrev S1 : Shape := ⟨1, ![1]⟩
abbrev S_ : Shape := ⟨0, ![]⟩
abbrev S1x2x768 : Shape := ⟨3, ![1, 2, 768]⟩
abbrev S2x768 : Shape := ⟨2, ![2, 768]⟩
abbrev S1x1 : Shape := ⟨2, ![1, 1]⟩

abbrev nBuf : Space → Nat
  | .hbm => 2
  | .vmem => 0
  | .smem => 0
  | _ => 0

abbrev bufTy : (tb : Table) → Fin (tcTables nBuf tb) → BufTy
  | .hbm, ⟨0, _⟩ => ⟨S8x2x768, .f32⟩
  | .hbm, ⟨1, _⟩ => ⟨S8x2x768, .f32⟩
  | _, _ => ⟨S8x2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_31 : BitVec 32 := 0#32
  let c0_i32_32 : BitVec 32 := 0#32
  ![v12.toNat, 0, 0]
def k0_off2 (d0 : Dev nD) : Fin 3 → Nat :=
  let c4_i32_6 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_6 v2
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_7 v5
  let v16 : BitVec 32 := Scalar.addi v14 v15
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let v17 : BitVec 32 := Scalar.addi v16 v13
  let c0_i32_45 : BitVec 32 := 0#32
  let c0_i32_46 : BitVec 32 := 0#32
  ![v17.toNat, 0, 0]
def k0_dev1 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v59 : BitVec 32 := Scalar.muli v2 c4_i32_39
  let v60 : BitVec 32 := Scalar.addi c0_i32_40 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v61 : BitVec 32 := Scalar.muli v5 c2_i32_41
  let v62 : BitVec 32 := Scalar.addi v60 v61
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_5 v8
  let c1_i32_42 : BitVec 32 := 1#32
  let v63 : BitVec 32 := Scalar.muli v13 c1_i32_42
  let v64 : BitVec 32 := Scalar.addi v62 v63
  v64.toNat
def k0_off3 (d0 : Dev nD) : Fin 3 → Nat :=
  let c4_i32_9 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c4_i32_9 v2
  let c2_i32_10 : BitVec 32 := 2#32
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let v20 : BitVec 32 := Scalar.muli c2_i32_10 v18
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.addi v21 v8
  let c0_i32_57 : BitVec 32 := 0#32
  let c0_i32_58 : BitVec 32 := 0#32
  ![v22.toNat, 0, 0]
def k0_dev2 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v73 : BitVec 32 := Scalar.muli v2 c4_i32_51
  let v74 : BitVec 32 := Scalar.addi c0_i32_52 v73
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_8 v5
  let c2_i32_53 : BitVec 32 := 2#32
  let v75 : BitVec 32 := Scalar.muli v18 c2_i32_53
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v77 : BitVec 32 := Scalar.muli v8 c1_i32_54
  let v78 : BitVec 32 := Scalar.addi v76 v77
  v78.toNat
def k0_off4 (d0 : Dev nD) : Fin 3 → Nat :=
  let c4_i32_13 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c4_i32_13 v2
  let c2_i32_14 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let v26 : BitVec 32 := Scalar.muli c2_i32_14 v23
  let v27 : BitVec 32 := Scalar.addi v25 v26
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let v28 : BitVec 32 := Scalar.addi v27 v24
  let c0_i32_69 : BitVec 32 := 0#32
  let c0_i32_70 : BitVec 32 := 0#32
  ![v28.toNat, 0, 0]
def k0_dev3 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v87 : BitVec 32 := Scalar.muli v2 c4_i32_63
  let v88 : BitVec 32 := Scalar.addi c0_i32_64 v87
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.subi c1_i32_11 v5
  let c2_i32_65 : BitVec 32 := 2#32
  let v89 : BitVec 32 := Scalar.muli v23 c2_i32_65
  let v90 : BitVec 32 := Scalar.addi v88 v89
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_12 v8
  let c1_i32_66 : BitVec 32 := 1#32
  let v91 : BitVec 32 := Scalar.muli v24 c1_i32_66
  let v92 : BitVec 32 := Scalar.addi v90 v91
  v92.toNat
def k0_off5 (d0 : Dev nD) : Fin 3 → Nat :=
  let c4_i32_16 : BitVec 32 := 4#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let v30 : BitVec 32 := Scalar.muli c4_i32_16 v29
  let c2_i32_17 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v31 : BitVec 32 := Scalar.muli c2_i32_17 v5
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v33 : BitVec 32 := Scalar.addi v32 v8
  let c0_i32_80 : BitVec 32 := 0#32
  let c0_i32_81 : BitVec 32 := 0#32
  ![v33.toNat, 0, 0]
def k0_dev4 (d0 : Dev nD) : Nat :=
  let c0_i32_75 : BitVec 32 := 0#32
  let c1_i32_15 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.subi c1_i32_15 v2
  let c4_i32_74 : BitVec 32 := 4#32
  let v101 : BitVec 32 := Scalar.muli v29 c4_i32_74
  let v102 : BitVec 32 := Scalar.addi c0_i32_75 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v103 : BitVec 32 := Scalar.muli v5 c2_i32_76
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v105 : BitVec 32 := Scalar.muli v8 c1_i32_77
  let v106 : BitVec 32 := Scalar.addi v104 v105
  v106.toNat
def k0_off6 (d0 : Dev nD) : Fin 3 → Nat :=
  let c4_i32_20 : BitVec 32 := 4#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let v36 : BitVec 32 := Scalar.muli c4_i32_20 v34
  let c2_i32_21 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v37 : BitVec 32 := Scalar.muli c2_i32_21 v5
  let v38 : BitVec 32 := Scalar.addi v36 v37
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let v39 : BitVec 32 := Scalar.addi v38 v35
  let c0_i32_92 : BitVec 32 := 0#32
  let c0_i32_93 : BitVec 32 := 0#32
  ![v39.toNat, 0, 0]
def k0_dev5 (d0 : Dev nD) : Nat :=
  let c0_i32_87 : BitVec 32 := 0#32
  let c1_i32_18 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v34 : BitVec 32 := Scalar.subi c1_i32_18 v2
  let c4_i32_86 : BitVec 32 := 4#32
  let v115 : BitVec 32 := Scalar.muli v34 c4_i32_86
  let v116 : BitVec 32 := Scalar.addi c0_i32_87 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_88 : BitVec 32 := 2#32
  let v117 : BitVec 32 := Scalar.muli v5 c2_i32_88
  let v118 : BitVec 32 := Scalar.addi v116 v117
  let c1_i32_19 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.subi c1_i32_19 v8
  let c1_i32_89 : BitVec 32 := 1#32
  let v119 : BitVec 32 := Scalar.muli v35 c1_i32_89
  let v120 : BitVec 32 := Scalar.addi v118 v119
  v120.toNat
def k0_off7 (d0 : Dev nD) : Fin 3 → Nat :=
  let c4_i32_24 : BitVec 32 := 4#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let v42 : BitVec 32 := Scalar.muli c4_i32_24 v40
  let c2_i32_25 : BitVec 32 := 2#32
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let v43 : BitVec 32 := Scalar.muli c2_i32_25 v41
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.addi v44 v8
  let c0_i32_103 : BitVec 32 := 0#32
  let c0_i32_104 : BitVec 32 := 0#32
  ![v45.toNat, 0, 0]
def k0_dev6 (d0 : Dev nD) : Nat :=
  let c0_i32_98 : BitVec 32 := 0#32
  let c1_i32_22 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v40 : BitVec 32 := Scalar.subi c1_i32_22 v2
  let c4_i32_97 : BitVec 32 := 4#32
  let v129 : BitVec 32 := Scalar.muli v40 c4_i32_97
  let v130 : BitVec 32 := Scalar.addi c0_i32_98 v129
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v41 : BitVec 32 := Scalar.subi c1_i32_23 v5
  let c2_i32_99 : BitVec 32 := 2#32
  let v131 : BitVec 32 := Scalar.muli v41 c2_i32_99
  let v132 : BitVec 32 := Scalar.addi v130 v131
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v133 : BitVec 32 := Scalar.muli v8 c1_i32_100
  let v134 : BitVec 32 := Scalar.addi v132 v133
  v134.toNat
def k0_off8 (d0 : Dev nD) : Fin 3 → Nat :=
  let c4_i32_29 : BitVec 32 := 4#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let v49 : BitVec 32 := Scalar.muli c4_i32_29 v46
  let c2_i32_30 : BitVec 32 := 2#32
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let v50 : BitVec 32 := Scalar.muli c2_i32_30 v47
  let v51 : BitVec 32 := Scalar.addi v49 v50
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let v52 : BitVec 32 := Scalar.addi v51 v48
  let c0_i32_114 : BitVec 32 := 0#32
  let c0_i32_115 : BitVec 32 := 0#32
  ![v52.toNat, 0, 0]
def k0_dev7 (d0 : Dev nD) : Nat :=
  let c0_i32_109 : BitVec 32 := 0#32
  let c1_i32_26 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v46 : BitVec 32 := Scalar.subi c1_i32_26 v2
  let c4_i32_108 : BitVec 32 := 4#32
  let v143 : BitVec 32 := Scalar.muli v46 c4_i32_108
  let v144 : BitVec 32 := Scalar.addi c0_i32_109 v143
  let c1_i32_27 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v47 : BitVec 32 := Scalar.subi c1_i32_27 v5
  let c2_i32_110 : BitVec 32 := 2#32
  let v145 : BitVec 32 := Scalar.muli v47 c2_i32_110
  let v146 : BitVec 32 := Scalar.addi v144 v145
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v48 : BitVec 32 := Scalar.subi c1_i32_28 v8
  let c1_i32_111 : BitVec 32 := 1#32
  let v147 : BitVec 32 := Scalar.muli v48 c1_i32_111
  let v148 : BitVec 32 := Scalar.addi v146 v147
  v148.toNat
-- ==== Reference19Ideal.lean ====
abbrev S64x2x768 : Shape := ⟨3, ![64, 2, 768]⟩
abbrev S8x8x2x768 : Shape := ⟨4, ![8, 8, 2, 768]⟩

abbrev nBuf : Space → Nat
  | .hbm => 4
  | .vmem => 0
  | .smem => 0
  | _ => 0

abbrev bufTy : (tb : Table) → Fin (tcTables nBuf tb) → BufTy
  | .hbm, ⟨0, _⟩ => ⟨S64x2x768, .f32⟩
  | .hbm, ⟨1, _⟩ => ⟨S8x8x2x768, .f32⟩
  | .hbm, ⟨2, _⟩ => ⟨S8x8x2x768, .f32⟩
  | .hbm, ⟨3, _⟩ => ⟨S64x2x768, .f32⟩
  | _, _ => ⟨S64x2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel20.lean ====
abbrev S16x1024 : Shape := ⟨2, ![16, 1024]⟩
abbrev S2x1024x768 : Shape := ⟨3, ![2, 1024, 768]⟩
abbrev S16x768 : Shape := ⟨2, ![16, 768]⟩
abbrev S1x1024x768 : Shape := ⟨3, ![1, 1024, 768]⟩
abbrev S1024x768 : Shape := ⟨2, ![1024, 768]⟩

abbrev nBuf : Space → Nat
  | .hbm => 3
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S16x768, .f32⟩
  | .local _ .vmem, ⟨0, _⟩ => ⟨S16x1024, .f32⟩
  | .local _ .vmem, ⟨1, _⟩ => ⟨S1x1024x768, .f32⟩
  | .local _ .vmem, ⟨2, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x1024x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference20Ideal.lean ====
abbrev S16x1024 : Shape := ⟨2, ![16, 1024]⟩
abbrev S2x1024x768 : Shape := ⟨3, ![2, 1024, 768]⟩
abbrev S1x1024x768 : Shape := ⟨3, ![1, 1024, 768]⟩
abbrev S1024x768 : Shape := ⟨2, ![1024, 768]⟩
abbrev S16x768 : Shape := ⟨2, ![16, 768]⟩

abbrev nBuf : Space → Nat
  | .hbm => 5
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x768, .f32⟩
  | .hbm, ⟨2, _⟩ => ⟨S1x1024x768, .f32⟩
  | .hbm, ⟨3, _⟩ => ⟨S1024x768, .f32⟩
  | .hbm, ⟨4, _⟩ => ⟨S16x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S2x6144 : Shape := ⟨2, ![2, 6144]⟩

abbrev nBuf : Space → Nat
  | .hbm => 3
  | .vmem => 3
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference21Ideal.lean ====
abbrev S2x6144 : Shape := ⟨2, ![2, 6144]⟩

abbrev nBuf : Space → Nat
  | .hbm => 3
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S1x1024x1024, .bf16⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S8192x1024 : Shape := ⟨2, ![8192, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .bf16⟩
  | .hbm, ⟨3, _⟩ => ⟨S1024x8x512, .bf16⟩
  | .hbm, ⟨4, _⟩ => ⟨S8x1024x512, .bf16⟩
  | .hbm, ⟨5, _⟩ => ⟨S8192x1024, .bf16⟩
  | .hbm, ⟨6, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S8192x512 : Shape := ⟨2, ![8192, 512]⟩
abbrev S512x1024 : Shape := ⟨2, ![512, 1024]⟩
abbrev S8192x1024 : Shape := ⟨2, ![8192, 1024]⟩
abbrev S1x512x1024 : Shape := ⟨3, ![1, 512, 1024]⟩
abbrev S1024x1024 : Shape := ⟨2, ![1024, 1024]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S1x512x1024, .bf16⟩
  | .hbm, ⟨6, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1x512x1024, .bf16⟩
  | .local _ .vmem, ⟨3, _⟩ => ⟨S1024x512, .bf16⟩
  | .local _ .vmem, ⟨4, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference24Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel25.lean ====
abbrev S16x1024 : Shape := ⟨2, ![16, 1024]⟩
abbrev S1024x768 : Shape := ⟨2, ![1024, 768]⟩
abbrev S2x16x768 : Shape := ⟨3, ![2, 16, 768]⟩
abbrev S1x16x768 : Shape := ⟨3, ![1, 16, 768]⟩
abbrev S16x768 : Shape := ⟨2, ![16, 768]⟩

abbrev nBuf : Space → Nat
  | .hbm => 4
  | .vmem => 3
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S2x16x768, .f32⟩
  | .hbm, ⟨3, _⟩ => ⟨S1024x768, .f32⟩
  | .local _ .vmem, ⟨0, _⟩ => ⟨S16x1024, .f32⟩
  | .local _ .vmem, ⟨1, _⟩ => ⟨S1x16x768, .f32⟩
  | .local _ .vmem, ⟨2, _⟩ => ⟨S1024x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference25Ideal.lean ====
abbrev S16x1024 : Shape := ⟨2, ![16, 1024]⟩
abbrev S1024x768 : Shape := ⟨2, ![1024, 768]⟩
abbrev S2x16x768 : Shape := ⟨3, ![2, 16, 768]⟩
abbrev S16x768 : Shape := ⟨2, ![16, 768]⟩
abbrev S1x16x768 : Shape := ⟨3, ![1, 16, 768]⟩
abbrev S768x1024 : Shape := ⟨2, ![768, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x768, .f32⟩
  | .hbm, ⟨2, _⟩ => ⟨S2x16x768, .f32⟩
  | .hbm, ⟨3, _⟩ => ⟨S16x768, .f32⟩
  | .hbm, ⟨4, _⟩ => ⟨S1x16x768, .f32⟩
  | .hbm, ⟨5, _⟩ => ⟨S16x768, .f32⟩
  | .hbm, ⟨6, _⟩ => ⟨S768x1024, .f32⟩
  | .hbm, ⟨7, _⟩ => ⟨S1024x768, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel26.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S1x1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x512, .bf16⟩
  | .hbm, ⟨4, _⟩ => ⟨S8192x1024, .bf16⟩
  | .hbm, ⟨5, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference27Ideal.lean ====
abbrev S8192x512 : Shape := ⟨2, ![8192, 512]⟩
abbrev S512x1024 : Shape := ⟨2, ![512, 1024]⟩
abbrev S8192x1024 : Shape := ⟨2, ![8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel28.lean ====
abbrev S8192x2816 : Shape := ⟨2, ![8192, 2816]⟩
abbrev S2816x1024 : Shape := ⟨2, ![2816, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S8192x1024 : Shape := ⟨2, ![8192, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x2816, .bf16⟩
  | .hbm, ⟨3, _⟩ => ⟨S8192x4x704, .bf16⟩
  | .hbm, ⟨4, _⟩ => ⟨S4x8192x704, .bf16⟩
  | .hbm, ⟨5, _⟩ => ⟨S2816x1024, .bf16⟩
  | .hbm, ⟨6, _⟩ => ⟨S4x704x1024, .bf16⟩
  | .hbm, ⟨7, _⟩ => ⟨S8192x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S8192x1024 : Shape := ⟨2, ![8192, 1024]⟩
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S1024x8x704 : Shape := ⟨3, ![1024, 8, 704]⟩
abbrev S8x1024x704 : Shape := ⟨3, ![8, 1024, 704]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 10
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | .hbm, ⟨4, _⟩ => ⟨S8192x8x704, .bf16⟩
  | .hbm, ⟨5, _⟩ => ⟨S8x8192x704, .bf16⟩
  | .hbm, ⟨6, _⟩ => ⟨S1024x5632, .bf16⟩
  | .hbm, ⟨7, _⟩ => ⟨S1024x8x704, .bf16⟩
  | .hbm, ⟨8, _⟩ => ⟨S8x1024x704, .bf16⟩
  | .hbm, ⟨9, _⟩ => ⟨S8192x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S8192x1024, .f32⟩
  | .hbm, ⟨5, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel30.lean ====
abbrev S8192x2816 : Shape := ⟨2, ![8192, 2816]⟩
abbrev S2816x1024 : Shape := ⟨2, ![2816, 1024]⟩
abbrev S8192x1024 : Shape := ⟨2, ![8192, 1024]⟩
abbrev S8192x4x704 : Shape := ⟨3, ![8192, 4, 704]⟩
abbrev S4x8192x704 : Shape := ⟨3, ![4, 8192, 704]⟩
abbrev S4x704x1024 : Shape := ⟨3, ![4, 704, 1024]⟩
abbrev S1x1024x704 : Shape := ⟨3, ![1, 1024, 704]⟩
abbrev S1024x1024 : Shape := ⟨2, ![1024, 1024]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S8192x4x704, .bf16⟩
  | .hbm, ⟨5, _⟩ => ⟨S4x8192x704, .bf16⟩
  | .hbm, ⟨6, _⟩ => ⟨S8192x1024, .bf16⟩
  | .hbm, ⟨7, _⟩ => ⟨S4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1024x1024, .bf16⟩
  | .local _ .vmem, ⟨3, _⟩ => ⟨S1024x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S4x704x1024 : Shape := ⟨3, ![4, 704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | .hbm, ⟨7, _⟩ => ⟨S4x704x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S8192x1024 : Shape := ⟨2, ![8192, 1024]⟩
abbrev S1024x5632 : Shape := ⟨2, ![1024, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S8x1024x704 : Shape := ⟨3, ![8, 1024, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | .hbm, ⟨4, _⟩ => ⟨S8192x8x704, .bf16⟩
  | .hbm, ⟨5, _⟩ => ⟨S8x8192x704, .bf16⟩
  | .hbm, ⟨6, _⟩ => ⟨S8192x1024, .bf16⟩
  | .hbm, ⟨7, _⟩ => ⟨S8x1024x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S8192x1024 : Shape := ⟨2, ![8192, 1024]⟩
abbrev S1024x5632 : Shape := ⟨2, ![1024, 5632]⟩
abbrev S8192x5632 : Shape := ⟨2, ![8192, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | .hbm, ⟨7, _⟩ => ⟨S1024x8x704, .bf16⟩
  | .hbm, ⟨8, _⟩ => ⟨S8x1024x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.FfnFinite.lean ====
/-
  The gate gradient's precondition, read back: an argument array whose magnitudes all lie below infinity is an array of
  real numbers.
-/
module

public import proofs.«01_k».proof.Defs
public import proofs.«01_k».proof.Proof.Gen.Pre_ffn_finite
public import Idealize.ShloMosaic.Lib.ReduceAll
public import Idealize.ShloMosaic.Lib.Pointwise
public import Idealize.ShloMosaic.PureOps.Ideal.Laws

@[expose] public section

set_option maxRecDepth 16384

noncomputable section

namespace Cert.Finite

open Idealize.ShloMosaic

/-- The word of positive infinity denotes infinity. -/
theorem ofBits_inf : Ideal.ofBits .f32 0x7F800000#32 = ⊤ := by simp [Ideal.ofBits, Ideal.ieee]

/-- A number whose magnitude lies below infinity is real. -/
theorem real_of_abs_lt (x : EReal) (h : max x (-x) < ⊤) : ∃ r : ℝ, x = r := by
  induction x with
  | bot => simp at h
  | top => simp at h
  | coe r => exact ⟨r, rfl⟩

/-- An element that passed the comparison of magnitudes with infinity is real. -/
theorem real_of_olt (x : EReal) (h : Ideal.cmp .olt (max x (-x)) ⊤ = 1#1) : ∃ r : ℝ, x = r := by
  refine real_of_abs_lt x ?_
  by_contra hn
  simp [Ideal.cmp, hn] at h

instance : Subsingleton Pre_ffn_finite.S_.Idx := ⟨fun a b => funext fun i => i.elim0⟩

/-- The condition of one array: all magnitudes below infinity, so all elements real. -/
theorem real_of_all {s u : Shape} {axes : List (Fin s.rank)} {b : Pre_ffn_finite.S_.BroadcastsInDim s (![] : Fin 0 → Fin s.rank)}
    (x : FVec Ideal s .f32) (init : IVec u 1) (hr : s.ReducesTo axes Pre_ffn_finite.S_) (hu : 0 < u.numel) (j : Pre_ffn_finite.S_.Idx)
    (h : Host.reduce IntOp.andi (cmpf (F := Ideal) .olt (Host.absf x)
      (broadcastInDim s ![] b (constant (F := Ideal) Pre_ffn_finite.S_ .f32 0x7F800000#32))) init hr hu j = 1#1) :
    ∃ r : s.Idx → ℝ, ∀ i, x i = r i := by
  have e : ∀ i, ∃ r : ℝ, x i = r := fun i => by
    have := Host.reduce_andi_all _ _ _ _ j h i
    pointwise at this
    exact real_of_olt (x i) (by rw [← ofBits_inf]; exact this)
  exact ⟨fun i => (e i).choose, fun i => (e i).choose_spec⟩

/-- The three arguments the claim starts from hold real numbers. -/
theorem real_args (x0 : FVec Ideal Pre_ffn_finite.S8192x5632 .f32) (x1 : FVec Ideal Pre_ffn_finite.S2816x1024 .f32)
    (x2 : FVec Ideal Pre_ffn_finite.S8192x1024 .f32)
    (h : Pre_ffn_finite.fn (F := Ideal) x0 x1 x2 = fun _ => 1#1) :
    (∃ r : Pre_ffn_finite.S8192x5632.Idx → ℝ, ∀ i, x0 i = r i) ∧ (∃ r : Pre_ffn_finite.S2816x1024.Idx → ℝ, ∀ i, x1 i = r i)
      ∧ (∃ r : Pre_ffn_finite.S8192x1024.Idx → ℝ, ∀ i, x2 i = r i) := by
  have h0 := congrFun h (fun i => i.elim0)
  unfold Pre_ffn_finite.fn at h0
  obtain ⟨h01, h2⟩ := IntOp.andi_eq_one.1 h0
  obtain ⟨h0', h1⟩ := IntOp.andi_eq_one.1 h01
  exact ⟨real_of_all x0 _ _ _ _ h0', real_of_all x1 _ _ _ _ h1, real_of_all x2 _ _ _ _ h2⟩

end Cert.Finite

end
-- ==== Proof.FfnReference.lean ====
/-
  What the reference of the gate gradient computes at one place, over real arrays: the derivative of `silu(gate) * up`
  in both halves, times the product of the output gradient with the transposed weights.
-/
module

public import proofs.«01_k».proof.Proof.Gen.ReferenceIdeal.Read
public import Idealize.ShloMosaic.Lib.Pointwise

@[expose] public section

set_option maxRecDepth 16384

noncomputable section

namespace Cert.FfnReference

open Idealize.ShloMosaic Idealize.ShloMosaic.TcCoe Idealize.SL.Sem ReferenceIdeal ReferenceIdeal.Gen ReferenceIdeal.Read

/-- A sum of products of reals is real. -/
theorem sum_real {n : ℕ} (a b : Fin n → ℝ) : ∑ k, (a k : EReal) * (b k : EReal) = ((∑ k, a k * b k : ℝ) : EReal) := by
  induction n with
  | zero => simp
  | succ n ih => rw [Fin.sum_univ_succ, Fin.sum_univ_succ, ih (fun k => a k.succ) fun k => b k.succ]; push_cast; rfl

/-- The derivative of `g * logistic g`, in the arrangement of the kernel and in that of the chain rule. -/
theorem gate_law (d g u : EReal) (hd : ∃ r : ℝ, d = r) (hg : ∃ r : ℝ, g = r) (hu : ∃ r : ℝ, u = r) :
    d * u * (Ideal.logistic g + g * Ideal.logistic g * (1 - Ideal.logistic g))
      = d * u * Ideal.div 1 (1 + Ideal.exp (-g))
        + g * (d * u) * (Ideal.div 1 (1 + Ideal.exp (-g)) * (1 - Ideal.div 1 (1 + Ideal.exp (-g)))) := by
  obtain ⟨d, rfl⟩ := hd
  obtain ⟨g, rfl⟩ := hg
  obtain ⟨u, rfl⟩ := hu
  change _ = d * u * Ideal.logistic g + g * (d * u) * (Ideal.logistic g * (1 - Ideal.logistic g))
  rw [Ideal.logistic_coe]
  generalize (1 + Real.exp (-g))⁻¹ = s
  norm_cast
  ring

/-- The reference in the gate half. -/
theorem ref_gate (x0 : FVec Ideal S8192x5632 .f32) (x1 : FVec Ideal S2816x1024 .f32) (x2 : FVec Ideal S8192x1024 .f32)
    (h : Fin 2) (hh : (h : ℕ) = 0) (j : Fin 4) (r : Fin 8192) (n : Fin 704) (p : Fin 2816) (hp : (p : ℕ) = j * 704 + n)
    (pg pu : Fin 5632) (hg : (pg : ℕ) = j * 704 + n) (hu : (pu : ℕ) = 2816 + (j * 704 + n)) :
    val_main_v12 (F := Ideal) x0 x1 x2 (ix4 h j r n)
      = (∑ k, x2 (ix2 r k) * x1 (ix2 p k)) * x0 (ix2 r pu) * Ideal.div 1 (1 + Ideal.exp (-x0 (ix2 r pg)))
        + x0 (ix2 r pg) * ((∑ k, x2 (ix2 r k) * x1 (ix2 p k)) * x0 (ix2 r pu))
          * (Ideal.div 1 (1 + Ideal.exp (-x0 (ix2 r pg))) * (1 - Ideal.div 1 (1 + Ideal.exp (-x0 (ix2 r pg))))) := by
  pointwise [val_main_v12, val_main_v11, val_main_v10, val_main_v9, val_main_v8, val_main_v7, val_main_v6, val_main_v5,
    val_main_v2_0, val_main_v2_1, val_main_v2_2, val_main_v1, val_main_v0, val_main_call1_v0, val_main_call1_v1,
    val_main_call1_v2, val_main_call0_v0, val_main_call0_v1, val_main_call0_v2, val_main_call0_v3, val_main_call0_v4,
    val_main_call0_v6, val_main_call0_v7, val_main_call0_cst, val_main_call0_cst_0, val_main_call0_cst_1]
  have e1 : ∀ q, (⟨(h : ℕ) * 2816 + j * 704 + n, q⟩ : Fin 2816) = p := fun _ => Fin.ext (by simp only [hh]; omega)
  have e2 : ∀ q, (⟨(h : ℕ) * 2816 + j * 704 + n, q⟩ : Fin 5632) = pg := fun _ => Fin.ext (by simp only [hh]; omega)
  have e3 : ∀ q, (⟨2816 + ((h : ℕ) * 2816 + j * 704 + n), q⟩ : Fin 5632) = pu :=
    fun _ => Fin.ext (by simp only [hh]; omega)
  rw [dif_pos (by omega)]
  simp only [e1, e2, e3]

/-- The reference in the other half. -/
theorem ref_up (x0 : FVec Ideal S8192x5632 .f32) (x1 : FVec Ideal S2816x1024 .f32) (x2 : FVec Ideal S8192x1024 .f32)
    (h : Fin 2) (hh : (h : ℕ) = 1) (j : Fin 4) (r : Fin 8192) (n : Fin 704) (p : Fin 2816) (hp : (p : ℕ) = j * 704 + n)
    (pg : Fin 5632) (hg : (pg : ℕ) = j * 704 + n) :
    val_main_v12 (F := Ideal) x0 x1 x2 (ix4 h j r n)
      = (∑ k, x2 (ix2 r k) * x1 (ix2 p k)) * (x0 (ix2 r pg) * Ideal.logistic (x0 (ix2 r pg))) := by
  pointwise [val_main_v12, val_main_v11, val_main_v10, val_main_v9, val_main_v8, val_main_v7, val_main_v6, val_main_v5,
    val_main_v2_0, val_main_v2_1, val_main_v2_2, val_main_v1, val_main_v0, val_main_call1_v0, val_main_call1_v1,
    val_main_call1_v2, val_main_call0_v0, val_main_call0_v1, val_main_call0_v2, val_main_call0_v3, val_main_call0_v4,
    val_main_call0_v6, val_main_call0_v7, val_main_call0_cst, val_main_call0_cst_0, val_main_call0_cst_1]
  have e1 : ∀ q, (⟨(h : ℕ) * 2816 + j * 704 + n - 2816, q⟩ : Fin 2816) = p := fun _ => Fin.ext (by simp only [hh]; omega)
  have e2 : ∀ q, (⟨(h : ℕ) * 2816 + j * 704 + n - 2816, q⟩ : Fin 5632) = pg := fun _ => Fin.ext (by simp only [hh]; omega)
  rw [dif_neg (by omega)]
  simp only [e1, e2]
  rw [mul_comm]
  rfl

end Cert.FfnReference

end
-- ==== Proof.FfnValue.lean ====
/-
  The gate gradient's output array. Each grid point writes one block of both halves; the block it writes is the
  reference's derivative read at the block's place, so the whole array is the reference's result.
-/
module

public import proofs.«01_k».proof.Proof.Gen.KernelIdeal.Value
public import proofs.«01_k».proof.Proof.FfnReference
public import Idealize.ShloMosaic.Lib.Pipeline.ValueKit

@[expose] public section

set_option maxRecDepth 16384

noncomputable section

namespace Cert.FfnValue

open Idealize.ShloMosaic Idealize.ShloMosaic.TcCoe Idealize.SL.Sem KernelIdeal KernelIdeal.Gen

variable (m : (ℓ : Loc nD τ sig) → Buf (Elt Ideal) ℓ)

/-- Which blocks point `t` reads and writes. -/
theorem idx : ∀ t : Fin cfg0.N, win0_0.index t = ![t.val / 4, 0] ∧ win0_1.index t = ![t.val % 4, 0, 0]
    ∧ win0_2.index t = ![0, t.val % 4, t.val / 4, 0] ∧ win0_3.index t = ![0, t.val % 4, t.val / 4, 0] :=
  (by decide +kernel : ∀ t : Fin grid0.N, win0_0.index t = ![t.val / 4, 0] ∧ win0_1.index t = ![t.val % 4, 0, 0]
    ∧ win0_2.index t = ![0, t.val % 4, t.val / 4, 0] ∧ win0_3.index t = ![0, t.val % 4, t.val / 4, 0])

/-- The reference's result at the arguments the kernel was launched with. -/
abbrev spec (c : Dev nD) : FVec Ideal S2x4x8192x704 .bf16 :=
  ReferenceIdeal.Read.val_main_v12 (F := Ideal) (m ((c.tc : Thread nD τ).loc main_arg0))
    (m ((c.tc : Thread nD τ).loc main_arg1)) (m ((c.tc : Thread nD τ).loc main_arg2))

/-- The activations, the weights and the output gradient the kernel was launched with. -/
abbrev acts (c : Dev nD) : FVec Ideal S8192x5632 .f32 := m ((c.tc : Thread nD τ).loc main_arg0)
abbrev weights (c : Dev nD) : FVec Ideal S2816x1024 .f32 := m ((c.tc : Thread nD τ).loc main_arg1)
abbrev outGrad (c : Dev nD) : FVec Ideal S8192x1024 .f32 := m ((c.tc : Thread nD τ).loc main_arg2)

/-- The block written to the second half, at one place. -/
theorem pay6_at (v0 : FVec Ideal S512x1024 .bf16) (v2 : FVec Ideal S1x704x1024 .bf16) (v5 : FVec Ideal S1x1x512x704 .bf16)
    (a b : Fin 1) (r : Fin 512) (n : Fin 704) :
    k0_pay6 (F := Ideal) v0 v2 v5 (ix4 a b r n)
      = (∑ k : Fin 1024, v0 (ix2 r k) * v2 (ix3 0 n k)) * (v5 (ix4 0 0 r n) * Ideal.logistic (v5 (ix4 0 0 r n))) := by
  pointwise [k0_pay6, k0_pay4, k0_pay3, k0_pay2, k0_pay1]

/-- The block written to the gate half, at one place. -/
theorem pay5_at (v0 : FVec Ideal S512x1024 .bf16) (v2 : FVec Ideal S1x704x1024 .bf16) (v5 v8 : FVec Ideal S1x1x512x704 .bf16)
    (a b : Fin 1) (r : Fin 512) (n : Fin 704) :
    k0_pay5 (F := Ideal) v0 v2 v5 v8 (ix4 a b r n)
      = (∑ k : Fin 1024, v0 (ix2 r k) * v2 (ix3 0 n k)) * v8 (ix4 0 0 r n) * (Ideal.logistic (v5 (ix4 0 0 r n))
        + v5 (ix4 0 0 r n) * Ideal.logistic (v5 (ix4 0 0 r n)) * (1 - Ideal.logistic (v5 (ix4 0 0 r n)))) := by
  pointwise [k0_pay5, k0_pay4, k0_pay3, k0_pay2, k0_pay1]

set_option maxHeartbeats 400000 in
/-- What point `t` writes is the reference's derivative at the block's place. -/
theorem point (c : Dev nD) (t : Fin cfg0.N) (y : S2x1x512x704.Idx)
    (real0 : ∃ r : S8192x5632.Idx → ℝ, ∀ i, acts m c i = r i) (real1 : ∃ r : S2816x1024.Idx → ℝ, ∀ i, weights m c i = r i)
    (real2 : ∃ r : S8192x1024.Idx → ℝ, ∀ i, outGrad m c i = r i) :
    out0_3 (F := Ideal) (iblk m c 0 t) (iblk m c 1 t) (iblk m c 2 t) y
      = spec m c (((cfg0.win 3).blk t).view.emb y) := by
  obtain ⟨a0, real0⟩ := real0
  obtain ⟨a1, real1⟩ := real1
  obtain ⟨a2, real2⟩ := real2
  have ht : t.val < 64 := lt_of_lt_of_eq t.isLt N_0
  canon_tiles x h
  · idx_vars x
    have e : ((cfg0.win 3).blk t).view.emb y
        = ix4 (1 : Fin 2) (⟨t.val % 4, by omega⟩ : Fin 4) (⟨t.val / 4 * 512 + x2, by omega⟩ : Fin 8192) (x3 : Fin 704) := by
      blk_ext [idx t]
    refine Eq.trans ?_ (congrArg (spec m c) e).symm
    refine Eq.trans ?_ (Cert.FfnReference.ref_up (acts m c) (weights m c) (outGrad m c) 1 rfl ⟨t.val % 4, by omega⟩ ⟨t.val / 4 * 512 + x2, by omega⟩ x3
      ⟨t.val % 4 * 704 + x3, by omega⟩ rfl ⟨t.val % 4 * 704 + x3, by omega⟩ rfl).symm
    rw [pay6_at]
    pointwise
    blk_point [iblk, V, idx t]
  · idx_vars x
    have e : ((cfg0.win 3).blk t).view.emb y
        = ix4 (0 : Fin 2) (⟨t.val % 4, by omega⟩ : Fin 4) (⟨t.val / 4 * 512 + x2, by omega⟩ : Fin 8192) (x3 : Fin 704) := by
      blk_ext [idx t]
    refine Eq.trans ?_ (congrArg (spec m c) e).symm
    refine Eq.trans ?_ (Cert.FfnReference.ref_gate (acts m c) (weights m c) (outGrad m c) 0 rfl ⟨t.val % 4, by omega⟩ ⟨t.val / 4 * 512 + x2, by omega⟩ x3
      ⟨t.val % 4 * 704 + x3, by omega⟩ rfl ⟨t.val % 4 * 704 + x3, by omega⟩
      ⟨2816 + (t.val % 4 * 704 + x3), by omega⟩ rfl rfl).symm
    rw [pay5_at]
    pointwise
    refine Eq.trans ?_ (Cert.FfnReference.gate_law _ _ _ ⟨∑ k, a2 (ix2 ⟨t.val / 4 * 512 + x2, by omega⟩ k) * a1 (ix2 ⟨t.val % 4 * 704 + x3, by omega⟩ k), ?_⟩ ⟨_, real0 _⟩ ⟨_, real0 _⟩)
    · blk_point [iblk, V, idx t]
    · simp only [real1, real2]
      exact Cert.FfnReference.sum_real _ _

/-- The gate gradient's output array is the reference's result, for real arguments. -/
theorem final (c : Dev nD)
    (real0 : ∃ r : S8192x5632.Idx → ℝ, ∀ i, acts m c i = r i) (real1 : ∃ r : S2816x1024.Idx → ℝ, ∀ i, weights m c i = r i)
    (real2 : ∃ r : S8192x1024.Idx → ℝ, ∀ i, outGrad m c i = r i) :
    (dats m 0 c).arrAt 3 cfg0.N = spec m c := by
  refine (dats m 0 c).arrAt_eq_of_covers 3 _ (by decide +kernel) fun t _ y => ?_
  blk_simp
  rw [after0_3]
  exact point m c t y real0 real1 real2

end Cert.FfnValue
-- ==== Proof.SbModel.lean ====
/-
  The stick-breaking attention gradient, region `cc0_sb_attention_bwd` of `Kernel2Ideal`: what one grid point computes,
  as plain functions of vectors over any float algebra. A grid point holds two row blocks of 256 queries for two heads:
  four CHAINS, numbered row block first (chain `j` is row block `j / 2`, head `j % 2`). Each chain walks its key blocks
  from the diagonal to the left, carrying the row sums of the log masses passed so far, the gradient passed so far and
  the query gradient; the two key-side gradients of the head pair lie in two scratch buffers.
-/
module

public import proofs.«01_k».proof.Proof.Gen.Kernel2Ideal.Skeleton
public import Idealize.ShloMosaic.Lib.VecWindow

@[expose] public section

noncomputable section

namespace Cert.Sb

open Idealize.ShloMosaic Kernel2Ideal Kernel2Ideal.Gen

variable {F : FTy → Type} [FloatOps F] [Named F]

/-! ### One chain over one key block -/

/-- The 256×256 block of zeros, and of ones. -/
def zeros : FVec F S256x256 .f32 := broadcast S256x256 (Scalar.ofBits .f32 0x00000000#32)
def ones : FVec F S256x256 .f32 := broadcast S256x256 (Scalar.ofBits .f32 0x3F800000#32)

/-- Row block times row block over the head's lanes. -/
def cross (a b : FVec F S256x128 .bf16) : FVec F S256x256 .f32 :=
  matmul dot_S256x128_S256x128_S256x256_1_1_0_0_n_n none a b (constant S256x256 .f32 0x00000000#32)

/-- The logarithm of the logistic function of the scores, in its stable form. -/
def logBeta (z : FVec F S256x256 .f32) : FVec F S256x256 .f32 :=
  subf (minimumf z zeros) (log (addf ones (exp (subf zeros (absf z)))))

/-- A block's high half, and what it leaves out. -/
def high (x : FVec F S256x256 .f32) : FVec F S256x256 .bf16 := truncf .bf16 x bitsLt_bf16_f32
def low (x : FVec F S256x256 .f32) : FVec F S256x256 .bf16 :=
  truncf .bf16 (subf x (extf .f32 (high x) bitsLt_bf16_f32)) bitsLt_bf16_f32

/-- A block times a triangle of zeros and ones, in two halves. -/
def tally (x : FVec F S256x256 .f32) (tri : FVec F S256x256 .bf16) : FVec F S256x256 .f32 :=
  addf (matmul dot_S256x256_S256x256_S256x256_1_0_0_1_n_n none (high x) tri (constant S256x256 .f32 0x00000000#32))
    (matmul dot_S256x256_S256x256_S256x256_1_0_0_1_n_n none (low x) tri (constant S256x256 .f32 0x00000000#32))

/-- The row sums of a block. -/
def rowSum (x : FVec F S256x256 .f32) : FVec F S256x1 .f32 :=
  shapeCast S256x1 (multiReduction .add [1] S256 x 0x00000000#32 reduces_S256x256_S256 (.inl rfl) rfl) shapeCasts_S256_S256x1

/-- A column repeated along the rows. -/
def spread (x : FVec F S256x1 .f32) : FVec F S256x256 .f32 := broadcastTo S256x256 x broadcasts_S256x1_S256x256

/-- The logarithm of the mass a key leaves over, under the block's mask. -/
def left (mk : FVec F S256x256 .f32 → FVec F S256x256 .f32) (z : FVec F S256x256 .f32) : FVec F S256x256 .f32 :=
  mk (subf (logBeta z) z)

/-- The weights of a block: the key's own mass times what the keys to its right left over. -/
def weights (mk : FVec F S256x256 .f32 → FVec F S256x256 .f32) (tri : FVec F S256x256 .bf16) (z : FVec F S256x256 .f32)
    (carry : FVec F S256x1 .f32) : FVec F S256x256 .bf16 :=
  truncf .bf16 (mk (exp (addf (addf (logBeta z) (tally (left mk z) tri)) (spread carry)))) bitsLt_bf16_f32

/-- The gradient of the weights' logarithms. -/
def pull (mk : FVec F S256x256 .f32 → FVec F S256x256 .f32) (tri : FVec F S256x256 .bf16) (z dw : FVec F S256x256 .f32)
    (carry : FVec F S256x1 .f32) : FVec F S256x256 .f32 :=
  mulf dw (extf .f32 (weights mk tri z carry) bitsLt_bf16_f32)

/-- The gradient of the scores. -/
def slope (mk : FVec F S256x256 .f32 → FVec F S256x256 .f32) (tri tri' : FVec F S256x256 .bf16) (z dw : FVec F S256x256 .f32)
    (carry total right : FVec F S256x1 .f32) : FVec F S256x256 .bf16 :=
  truncf .bf16 (mk (subf (mulf (pull mk tri z dw carry) (subf ones (exp (logBeta z))))
    (mulf (exp (logBeta z)) (subf (spread (subf total right)) (tally (pull mk tri z dw carry) tri'))))) bitsLt_bf16_f32

/-- A block's columns against rows (the key side), and its rows against rows (the query side). -/
def keySide (x : FVec F S256x256 .bf16) (y : FVec F S256x128 .bf16) : FVec F S256x128 .f32 :=
  matmul dot_S256x256_S256x128_S256x128_0_0_1_1_n_n none x y (constant S256x128 .f32 0x00000000#32)
def querySide (x : FVec F S256x256 .bf16) (y : FVec F S256x128 .bf16) : FVec F S256x128 .f32 :=
  matmul dot_S256x256_S256x128_S256x128_1_0_0_1_n_n none x y (constant S256x128 .f32 0x00000000#32)

/-! ### The two triangles, the masks and the lanes of a head -/

/-- Ones where the row is below the column's (strictly), and below or at. -/
def triStrict : FVec F S256x256 .bf16 :=
  truncf .bf16 (sitofp .f32 (extui 32 (cmpi .sgt (iota .tc S256x256 32 [0] iota_S256x256_d0_w32) (iota .tc S256x256 32 [1] iota_S256x256_d1_w32)) natLt_1_32)) bitsLt_bf16_f32
def triWeak : FVec F S256x256 .bf16 :=
  truncf .bf16 (sitofp .f32 (extui 32 (cmpi .sge (iota .tc S256x256 32 [0] iota_S256x256_d0_w32) (iota .tc S256x256 32 [1] iota_S256x256_d1_w32)) natLt_1_32)) bitsLt_bf16_f32

/-- The diagonal block's mask: keys before the query; and a whole block kept or not. -/
def causal (x : FVec F S256x256 .f32) : FVec F S256x256 .f32 :=
  select (cmpi .slt (iota .tc S256x256 32 [1] iota_S256x256_d1_w32) (iota .tc S256x256 32 [0] iota_S256x256_d0_w32)) x zeros
def kept (live : BitVec 1) (x : FVec F S256x256 .f32) : FVec F S256x256 .f32 := Scalar.select live x zeros

/-- The lanes of chain `j`'s head. -/
def lanes (j : Fin 4) : IVec S256x128 1 :=
  ![cmpi .slt (iota .tc S256x128 32 [1] iota_S256x128_d1_w32) (broadcast S256x128 64#32),
    cmpi .sge (iota .tc S256x128 32 [1] iota_S256x128_d1_w32) (broadcast S256x128 64#32),
    cmpi .slt (iota .tc S256x128 32 [1] iota_S256x128_d1_w32) (broadcast S256x128 64#32),
    cmpi .sge (iota .tc S256x128 32 [1] iota_S256x128_d1_w32) (broadcast S256x128 64#32)] j

/-- The row block of chain `j`, as a word. -/
def half (j : Fin 4) : BitVec 32 := ![0#32, 0#32, 1#32, 1#32] j

/-- A head's lanes, zero elsewhere. -/
def only (j : Fin 4) (x : FVec F S256x128 .f32) : FVec F S256x128 .f32 :=
  select (lanes j) x (broadcast S256x128 (Scalar.ofBits .f32 0x00000000#32))

/-! ### What a grid point holds -/

/-- 256 rows of the keys (or values, or a scratch buffer) from an offset on. -/
def rows {α : Type} (x : S8192x128.Idx → α) (off : Fin 2 → ℕ) : S256x128.Idx → α :=
  fun y => x (fun a => ⟨(off a + (y a).val) % S8192x128.size a, Nat.mod_lt _ (by revert a; decide)⟩)

/-- Inside the buffer they are the window at the offset. -/
theorem rows_eq {α : Type} (x : S8192x128.Idx → α) (off : Fin 2 → ℕ) (inb : ∀ a, off a + S256x128.size a ≤ S8192x128.size a) :
    VecWindow.window x off S256x128.size inb = rows x off := by
  funext y
  refine congrArg x (funext fun a => Fin.ext ?_)
  have h : off a + (y a).val < S8192x128.size a := lt_of_lt_of_le (Nat.add_lt_add_left (y a).isLt _) (inb a)
  show off a + 1 * (y a).val = (off a + (y a).val) % S8192x128.size a
  rw [Nat.mod_eq_of_lt h, one_mul]

/-- What a grid point does not change: the chains' queries and output gradients, their row sums of output times
    gradient, and the head pair's keys and values. -/
structure Held (F : FTy → Type) where
  qh : Fin 4 → FVec F S256x128 .bf16
  doh : Fin 4 → FVec F S256x128 .bf16
  total : Fin 4 → FVec F S256x1 .f32
  K : S8192x128.Idx → F .f32
  V : S8192x128.Idx → F .f32

/-- What it carries: how many blocks to the left of the diagonal, and per chain the log mass passed, the gradient
    passed and the query gradient; the two scratch buffers. -/
structure Carried (F : FTy → Type) where
  r : BitVec 32
  carry : Fin 4 → FVec F S256x1 .f32
  right : Fin 4 → FVec F S256x1 .f32
  dq : Fin 4 → FVec F S256x128 .f32
  DK : S8192x128.Idx → F .f32
  DV : S8192x128.Idx → F .f32

/-- One key block for each chain: the chains' masks `mk`, the blocks' offsets `off`. -/
def block (H : Held F) (mk : Fin 4 → FVec F S256x256 .f32 → FVec F S256x256 .f32) (off : BitVec 32 → Fin 2 → ℕ)
    (r : BitVec 32) (carry' : Fin 4 → FVec F S256x1 .f32 → FVec F S256x1 .f32) (s : Carried F) : Carried F :=
  let kb : Fin 4 → FVec F S256x128 .bf16 := fun j => truncf .bf16 (rows H.K (off (half j))) bitsLt_bf16_f32
  let vb : Fin 4 → FVec F S256x128 .bf16 := fun j => truncf .bf16 (rows H.V (off (half j))) bitsLt_bf16_f32
  let z : Fin 4 → FVec F S256x256 .f32 := fun j => cross (H.qh j) (kb j)
  let dw : Fin 4 → FVec F S256x256 .f32 := fun j => cross (H.doh j) (vb j)
  let dz : Fin 4 → FVec F S256x256 .bf16 := fun j => slope (mk j) triStrict triWeak (z j) (dw j) (s.carry j) (H.total j) (s.right j)
  let dv : Fin 4 → FVec F S256x128 .f32 := fun j => keySide (weights (mk j) triStrict (z j) (s.carry j)) (H.doh j)
  let dk : Fin 4 → FVec F S256x128 .f32 := fun j => keySide (dz j) (H.qh j)
  let put (x : S8192x128.Idx → F .f32) (g : BitVec 32) (y : FVec F S256x128 .f32) : S8192x128.Idx → F .f32 :=
    VecWindow.put (s := S8192x128) x (off g) S256x128.size (shapeCast S256x128 (addf (rows x (off g)) y) shapeCasts_S256x128_S256x128)
  { r := r
    carry := fun j => carry' j (rowSum (left (mk j) (z j)))
    right := fun j => addf (s.right j) (rowSum (pull (mk j) triStrict (z j) (dw j) (s.carry j)))
    dq := fun j => addf (s.dq j) (querySide (dz j) (kb j))
    DK := put (put s.DK 0#32 (addf (dk 0) (dk 1))) 1#32 (addf (dk 2) (dk 3))
    DV := put (put s.DV 0#32 (addf (dv 0) (dv 1))) 1#32 (addf (dv 2) (dv 3)) }

/-! ### The diagonal block and the walk to the left -/

/-- The first of a grid point's two query blocks, as a word. -/
def first (i : grid0.Coords) : BitVec 32 := Scalar.muli (BitVec.ofNat 32 (i 1).val) 2#32

/-- The last trip: as many blocks lie to the left of the second query block. -/
def last (i : grid0.Coords) : BitVec 32 := Scalar.subi (Scalar.addi (first i) 2#32) 1#32

/-- Whether a row block still has a key block that far to the left. -/
def live (i : grid0.Coords) (r g : BitVec 32) : BitVec 1 := Scalar.cmpi .sge (Scalar.subi (Scalar.addi (first i) g) r) 0#32

/-- The columns of zeros the chains start from. -/
def zeroCol : FVec F S256x1 .f32 := broadcast S256x1 (Scalar.ofBits .f32 0x00000000#32)
def zeroRows : FVec F S256x128 .f32 := broadcast S256x128 (Scalar.ofBits .f32 0x00000000#32)

/-- The diagonal blocks, over the scratch buffers as they stand. -/
def diag (i : grid0.Coords) (H : Held F) (DK DV : S8192x128.Idx → F .f32) : Carried F :=
  block H (fun _ => causal) (k0_off1 i) 1#32 (fun _ x => x)
    { r := 0#32, carry := fun _ => zeroCol, right := fun _ => zeroCol, dq := fun _ => zeroRows, DK := DK, DV := DV }

/-- The greatest entry of a column. -/
def greatest (x : FVec F S256x1 .f32) : F .f32 :=
  extractAt ![0, 0, 0] (shapeCast S1x1x1 (multiReduction .maximumf [1, 2] S1 (shapeCast S1x256x1 x shapeCasts_S256x1_S1x256x1)
    0xFF800000#32 reduces_S1x256x1_S1 (.inl rfl) rfl) shapeCasts_S1_S1x1x1) inpos_S1x1x1_p0_0_0

/-- The next trip: one block further, or past the last one when every chain's log mass has fallen below the threshold. -/
def next (i : grid0.Coords) (s : Carried F) (carry : Fin 4 → FVec F S256x1 .f32) : BitVec 32 :=
  Scalar.select (Scalar.cmpf .olt
      (Scalar.maximumf (Scalar.maximumf (Scalar.maximumf (greatest (carry 0)) (greatest (carry 1))) (greatest (carry 2))) (greatest (carry 3)))
      (Named.named κ "exit" 0xC2F00000#32 : F .f32))
    (Scalar.addi (last i) 1#32) (Scalar.addi s.r 1#32)

/-- One trip to the left. -/
def trip (i : grid0.Coords) (H : Held F) (s : Carried F) : Carried F :=
  let s' := block H (fun j => kept (live i s.r (half j))) (k0_off2 i s.r) s.r (fun j x => addf (s.carry j) x) s
  { s' with r := next i s s'.carry }

/-- The walk, at most `k` trips of it. -/
def walk (i : grid0.Coords) (H : Held F) : ℕ → Carried F → Carried F
  | 0, s => s
  | k + 1, s => if Scalar.cmpi .sle s.r (last i) = 1#1 then walk i H k (trip i H s) else s

/-- What the loop hands back, as the tuple the program passes. -/
def Carried.tuple (s : Carried F) : BitVec 32 × FVec F S256x1 .f32 × FVec F S256x1 .f32 × FVec F S256x1 .f32 × FVec F S256x1 .f32 ×
    FVec F S256x1 .f32 × FVec F S256x1 .f32 × FVec F S256x1 .f32 × FVec F S256x1 .f32 ×
    FVec F S256x128 .f32 × FVec F S256x128 .f32 × FVec F S256x128 .f32 × FVec F S256x128 .f32 :=
  (s.r, s.carry 0, s.carry 1, s.carry 2, s.carry 3, s.right 0, s.right 1, s.right 2, s.right 3, s.dq 0, s.dq 1, s.dq 2, s.dq 3)

/-! ### From a grid point's blocks -/

/-- The 256 rows of a 512-row block that chain `j` works on. -/
def halfRows {α : Type} (x : S512x128.Idx → α) (j : Fin 4) : S256x128.Idx → α :=
  ![VecWindow.window x ![0, 0] S256x128.size inb_S512x128_S256x128_0_0,
    VecWindow.window x ![0, 0] S256x128.size inb_S512x128_S256x128_0_0,
    VecWindow.window x ![256, 0] S256x128.size inb_S512x128_S256x128_256_0,
    VecWindow.window x ![256, 0] S256x128.size inb_S512x128_S256x128_256_0] j

/-- What a grid point holds, of its blocks: queries `q`, keys `k`, values `v`, saved outputs `o`, output gradients `g`. -/
def held (q : S512x128.Idx → F .f32) (k v : S8192x128.Idx → F .f32) (o : S512x128.Idx → F .f32) (g : S512x128.Idx → F .bf16) : Held F where
  qh j := truncf .bf16 (mulf (only j (halfRows q j)) (broadcast S256x128 (Scalar.ofBits .f32 0x3E000000#32))) bitsLt_bf16_f32
  doh j := truncf .bf16 (only j (extf .f32 (halfRows g j : FVec F S256x128 .bf16) bitsLt_bf16_f32)) bitsLt_bf16_f32
  total j := shapeCast S256x1 (multiReduction .add [1] S256
    (mulf (only j (extf .f32 (halfRows g j : FVec F S256x128 .bf16) bitsLt_bf16_f32)) (shapeCast S256x128 (halfRows o j : FVec F S256x128 .f32) shapeCasts_S256x128_S256x128))
    0x00000000#32 reduces_S256x128_S256 (.inl rfl) rfl) shapeCasts_S256_S256x1
  K := k
  V := v

/-- The scratch buffers a grid point starts from: zero at the head pair's first point. -/
def start (i : grid0.Coords) (x : S8192x128.Idx → F .f32) : S8192x128.Idx → F .f32 :=
  if Scalar.cmpi .ne (Scalar.extui (Scalar.cmpi .eq (BitVec.ofNat 32 (i 1).val) 0#32) : BitVec 32) 0#32 = 1#1 then
    shapeCast S8192x128 (broadcast S8192x128 (Scalar.ofBits .f32 0x00000000#32)) shapeCasts_S8192x128_S8192x128
  else x

/-- A whole grid point. -/
def point (i : grid0.Coords) (H : Held F) (DK DV : S8192x128.Idx → F .f32) : Carried F :=
  walk i H 33 (diag i H (start i DK) (start i DV))

/-- The query gradient's rows, back in the program's format. -/
def dqRows (a b : FVec F S256x128 .f32) : FVec F S256x128 .bf16 :=
  truncf .bf16 (mulf (select (lanes 0) a b) (broadcast S256x128 (Scalar.ofBits .f32 0x3E000000#32))) bitsLt_bf16_f32

/-- The query gradient's block. -/
def dqOut (s : Carried F) : S512x128.Idx → F .bf16 :=
  fun y => if h : ∀ a, (![256, 0] : Fin 2 → ℕ) a ≤ (y a).val ∧ (y a).val < (![256, 0] : Fin 2 → ℕ) a + S256x128.size a then
    dqRows (s.dq 2) (s.dq 3) (Rect.unitLocal (s := S512x128) (off := ![256, 0]) (size := S256x128.size) y h)
  else dqRows (s.dq 0) (s.dq 1) (fun a => ⟨(y a).val % S256x128.size a, Nat.mod_lt _ (by revert a; decide)⟩)

/-- A key-side gradient in the program's format. -/
def kOut (x : S8192x128.Idx → F .f32) : S8192x128.Idx → F .bf16 := truncf .bf16 (x : FVec F S8192x128 .f32) bitsLt_bf16_f32

end Cert.Sb

end
-- ==== Proof.SbReal.lean ====
/-
  The stick-breaking attention and its gradient over real arrays, a row and a key at a time. Columns are those of the
  512-wide arrays: head `n` has the columns from `64 n` on.
-/
module

public import Idealize.ShloMosaic.Lib.Pointwise

@[expose] public section

noncomputable section

namespace Cert.Sb

open Finset

/-- Queries, keys, values and the output's gradient. -/
structure Arrays where
  q : ℕ → ℕ → ℝ
  k : ℕ → ℕ → ℝ
  v : ℕ → ℕ → ℝ
  g : ℕ → ℕ → ℝ

/-- The logarithm of the logistic function. -/
def logit (z : ℝ) : ℝ := min z 0 - Real.log (1 + Real.exp (-|z|))

namespace Arrays

variable (X : Arrays) (n : ℕ)

/-- Query `a`'s score of key `b`. -/
def score (a b : ℕ) : ℝ := (∑ c ∈ range 64, X.q a (64 * n + c) * X.k b (64 * n + c)) * (1 / 8)

/-- The logarithm of what key `b` leaves of the mass that reaches it. -/
def mass (a b : ℕ) : ℝ := if b < a then logit (X.score n a b) - X.score n a b else 0

/-- Key `b`'s weight: its own share of what the keys after it left. -/
def weight (a b : ℕ) : ℝ :=
  if b < a then Real.exp (logit (X.score n a b) + ∑ b' ∈ Ico (b + 1) 8192, X.mass n a b') else 0

/-- The output's gradient against key `b`'s value. -/
def against (a b : ℕ) : ℝ := ∑ c ∈ range 64, X.g a (64 * n + c) * X.v b (64 * n + c)

/-- The gradient of the weight's logarithm. -/
def flow (a b : ℕ) : ℝ := X.against n a b * X.weight n a b

/-- The gradient of the score. -/
def slant (a b : ℕ) : ℝ :=
  if b < a then X.flow n a b * (1 - Real.exp (logit (X.score n a b)))
    - Real.exp (logit (X.score n a b)) * ∑ b' ∈ range b, X.flow n a b'
  else 0

/-- The output. -/
def out (a c : ℕ) : ℝ := ∑ b ∈ range 8192, X.weight n a b * X.v b (64 * n + c)

/-- The three gradients. -/
def dq (a c : ℕ) : ℝ := (∑ b ∈ range 8192, X.slant n a b * X.k b (64 * n + c)) * (1 / 8)
def dk (b c : ℕ) : ℝ := ∑ a ∈ range 8192, X.slant n a b * (X.q a (64 * n + c) * (1 / 8))
def dv (b c : ℕ) : ℝ := ∑ a ∈ range 8192, X.weight n a b * X.g a (64 * n + c)

/-- A row's output times its gradient is the whole of the row's flow. -/
theorem total (a : ℕ) : ∑ c ∈ range 64, X.g a (64 * n + c) * X.out n a c = ∑ b ∈ range 8192, X.flow n a b := by
  simp only [out, flow, against, mul_sum, sum_mul]
  rw [sum_comm]
  exact sum_congr rfl fun b _ => sum_congr rfl fun c _ => by ring

end Arrays

/-- A block's part of a sum and the part right of the block. -/
theorem sum_right (f : ℕ → ℝ) (B s : ℕ) (hs : s ≤ 256) (hB : B + 256 ≤ 8192) :
    ∑ q ∈ Ico s 256, f (B + q) + ∑ b ∈ Ico (B + 256) 8192, f b = ∑ b ∈ Ico (B + s) 8192, f b := by
  rw [← sum_Ico_consecutive f (show B + s ≤ B + 256 by omega) hB]
  congr 1
  rw [sum_Ico_add, Nat.add_comm s B, Nat.add_comm 256 B]

/-- What is left of a place is the whole without the rest. -/
theorem sum_left (f : ℕ → ℝ) (b : ℕ) (hb : b ≤ 8192) :
    ∑ b' ∈ range 8192, f b' - ∑ b' ∈ Ico b 8192, f b' = ∑ b' ∈ range b, f b' := by
  rw [← sum_range_add_sum_Ico f hb]; ring

end Cert.Sb

end
-- ==== Proof.SbBlock.lean ====
/-
  One chain over one key block, over the reals: what the model's vectors hold at a place, and that on a block of the
  attention they are the weights and score gradients of `SbReal`.
-/
module

public import proofs.«01_k».proof.Proof.SbModel
public import proofs.«01_k».proof.Proof.SbReal
public import Idealize.ShloMosaic.Lib.Pointwise
public import Idealize.ShloMosaic.Lib.WordCmp
public import Idealize.ShloMosaic.Lib.Pipeline.ValueKit

@[expose] public section

set_option maxRecDepth 16384

noncomputable section

namespace Cert.Sb

open Idealize.ShloMosaic Kernel2Ideal Kernel2Ideal.Gen Finset

/-! ### Sums and casts -/

/-- A sum of reals is real. -/
theorem coe_sum (f : ℕ → ℝ) (n : ℕ) : ∑ k : Fin n, ((f k : ℝ) : EReal) = ((∑ k ∈ range n, f k : ℝ) : EReal) := by
  induction n with
  | zero => simp
  | succ n ih => rw [Fin.sum_univ_castSucc, sum_range_succ]; push_cast; simp only [Fin.val_castSucc, Fin.val_last, ih]

/-- A sum kept from a place on. -/
theorem sum_from (f : ℕ → ℝ) (n s : ℕ) (hs : s ≤ n) : ∑ k ∈ range n, (if s ≤ k then f k else 0) = ∑ k ∈ Ico s n, f k := by
  rw [← sum_filter]
  refine sum_congr (Finset.ext fun k => ?_) fun _ _ => rfl
  simp only [mem_filter, mem_range, mem_Ico]; omega

/-- The logarithm of the logistic function, as the kernel spells it. -/
theorem logit_coe (z : ℝ) : min (z : EReal) 0 - Ideal.log (1 + Ideal.exp (0 - FloatOps.absf (F := Ideal) (φ := .f32) (z : EReal)))
    = ((logit z : ℝ) : EReal) := by
  have e : FloatOps.absf (F := Ideal) (φ := .f32) (z : EReal) = ((|z| : ℝ) : EReal) := by
    show max (z : EReal) (-(z : EReal)) = _; rw [abs_eq_max_neg]; norm_cast
  have h : (0 : ℝ) - |z| = -|z| := zero_sub _
  have hp : 0 < Real.exp (-|z|) := Real.exp_pos _
  rw [e, ← EReal.coe_zero, ← EReal.coe_sub, h, Ideal.exp_coe, ← EReal.coe_one, ← EReal.coe_add, Ideal.log_coe, if_neg (by linarith),
    show min (z : EReal) ((0 : ℝ) : EReal) = ((min z 0 : ℝ) : EReal) from (EReal.coe_strictMono.monotone.map_min).symm, ← EReal.coe_sub]
  rfl

/-! ### The model's vectors at a place -/

theorem cross_at (a b : FVec Ideal S256x128 .bf16) (p q : Fin 256) :
    cross a b (ix2 p q) = ∑ k : Fin 128, a (ix2 p k) * b (ix2 q k) := by
  pointwise [cross]

theorem key_at (x : FVec Ideal S256x256 .bf16) (y : FVec Ideal S256x128 .bf16) (q : Fin 256) (c : Fin 128) :
    keySide x y (ix2 q c) = ∑ p : Fin 256, x (ix2 p q) * y (ix2 p c) := by
  pointwise [keySide]

theorem query_at (x : FVec Ideal S256x256 .bf16) (y : FVec Ideal S256x128 .bf16) (p : Fin 256) (c : Fin 128) :
    querySide x y (ix2 p c) = ∑ q : Fin 256, x (ix2 p q) * y (ix2 q c) := by
  pointwise [querySide]

/-- A truth value as a whole number. -/
theorem bit_one : (BitVec.setWidth 32 (BitVec.ofBool true)).toInt = 1 := by decide
theorem bit_zero : (BitVec.setWidth 32 (BitVec.ofBool false)).toInt = 0 := by decide

theorem triStrict_at (p q : Fin 256) : triStrict (F := Ideal) (ix2 p q) = if q.val + 1 ≤ p.val then 1 else 0 := by
  pointwise [triStrict]
  rw [WordCmp.cmpi_sgt_ofNat (by omega) (by omega)]
  show (((BitVec.setWidth 32 (BitVec.ofBool (decide (q.val < p.val)))).toInt : ℝ) : EReal) = _
  by_cases h : q.val < p.val
  · rw [decide_eq_true h, if_pos (by omega), bit_one]; norm_num
  · rw [decide_eq_false h, if_neg (by omega), bit_zero]; norm_num

theorem triWeak_at (p q : Fin 256) : triWeak (F := Ideal) (ix2 p q) = if q.val ≤ p.val then 1 else 0 := by
  pointwise [triWeak]
  rw [WordCmp.cmpi_sge_ofNat (by omega) (by omega)]
  show (((BitVec.setWidth 32 (BitVec.ofBool (decide (q.val ≤ p.val)))).toInt : ℝ) : EReal) = _
  by_cases h : q.val ≤ p.val
  · rw [decide_eq_true h, if_pos h, bit_one]; norm_num
  · rw [decide_eq_false h, if_neg h, bit_zero]; norm_num

/-- A mask keeps the places that satisfy `M`. -/
def Masks (mk : FVec Ideal S256x256 .f32 → FVec Ideal S256x256 .f32) (M : ℕ → ℕ → Prop) : Prop :=
  ∀ x (p q : Fin 256), (M p.val q.val → mk x (ix2 p q) = x (ix2 p q)) ∧ (¬ M p.val q.val → mk x (ix2 p q) = 0)

theorem causal_masks : Masks causal (fun p q => q < p) := fun x p q => by
  have e : causal x (ix2 p q) = if q.val < p.val then x (ix2 p q) else 0 := by
    pointwise [causal, zeros]
    rw [WordCmp.cmpi_slt_ofNat (by omega) (by omega)]
    by_cases h : q.val < p.val
    · rw [decide_eq_true h, if_pos h]; rfl
    · rw [decide_eq_false h, if_neg h]; rfl
  exact ⟨fun h => e.trans (if_pos h), fun h => e.trans (if_neg h)⟩

theorem kept_masks (l : BitVec 1) : Masks (kept l) (fun _ _ => l = 1#1) := fun x p q => by
  have e : kept l x (ix2 p q) = Scalar.select l (x (ix2 p q)) 0 := by pointwise [kept, zeros]
  refine ⟨fun h => e.trans (by rw [h]; rfl), fun h => e.trans ?_⟩
  rw [show l = 0#1 from (by decide : ∀ l : BitVec 1, l ≠ 1#1 → l = 0#1) l h]; rfl

/-- A block, a row block and a column that hold reals. -/
def IsBlock (x : S256x256.Idx → EReal) (r : ℕ → ℕ → ℝ) : Prop := ∀ p q : Fin 256, x (ix2 p q) = ((r p.val q.val : ℝ) : EReal)
def IsRows (x : S256x128.Idx → EReal) (r : ℕ → ℕ → ℝ) : Prop := ∀ (p : Fin 256) (c : Fin 128), x (ix2 p c) = ((r p.val c.val : ℝ) : EReal)
def IsCol (x : S256x1.Idx → EReal) (r : ℕ → ℝ) : Prop := ∀ (p : Fin 256) (c : Fin 1), x (ix2 p c) = ((r p.val : ℝ) : EReal)

open Classical in
/-- A masked block of reals. -/
theorem masked {mk : FVec Ideal S256x256 .f32 → FVec Ideal S256x256 .f32} {M : ℕ → ℕ → Prop} (hm : Masks mk M)
    {x : FVec Ideal S256x256 .f32} {r : ℕ → ℕ → ℝ} (hx : IsBlock x r) : IsBlock (mk x) (fun p q => if M p q then r p q else 0) := fun p q => by
  by_cases h : M p.val q.val
  · dsimp only; rw [(hm x p q).1 h, hx, if_pos h]
  · dsimp only; rw [(hm x p q).2 h, if_neg h, EReal.coe_zero]

theorem cross_real {a b : FVec Ideal S256x128 .bf16} {A B : ℕ → ℕ → ℝ} (ha : IsRows a A) (hb : IsRows b B) :
    IsBlock (cross a b) (fun p q => ∑ c ∈ range 128, A p c * B q c) := fun p q => by
  rw [cross_at, ← coe_sum]
  exact sum_congr rfl fun c _ => by rw [ha, hb, EReal.coe_mul]

theorem key_real {x : FVec Ideal S256x256 .bf16} {y : FVec Ideal S256x128 .bf16} {A B : ℕ → ℕ → ℝ} (hx : IsBlock x A) (hy : IsRows y B) :
    IsRows (keySide x y) (fun q c => ∑ p ∈ range 256, A p q * B p c) := fun q c => by
  rw [key_at, ← coe_sum]
  exact sum_congr rfl fun c _ => by rw [hx, hy, EReal.coe_mul]

theorem query_real {x : FVec Ideal S256x256 .bf16} {y : FVec Ideal S256x128 .bf16} {A B : ℕ → ℕ → ℝ} (hx : IsBlock x A) (hy : IsRows y B) :
    IsRows (querySide x y) (fun p c => ∑ q ∈ range 256, A p q * B q c) := fun p c => by
  rw [query_at, ← coe_sum]
  exact sum_congr rfl fun c _ => by rw [hx, hy, EReal.coe_mul]

theorem logBeta_real {z : FVec Ideal S256x256 .f32} {Z : ℕ → ℕ → ℝ} (hz : IsBlock z Z) : IsBlock (logBeta z) (fun p q => logit (Z p q)) := fun p q => by
  have e : logBeta z (ix2 p q) = min (z (ix2 p q)) 0 - Ideal.log (1 + Ideal.exp (0 - FloatOps.absf (F := Ideal) (φ := .f32) (z (ix2 p q)))) := by
    pointwise [logBeta, zeros, ones]
  rw [e, hz, logit_coe]

/-- A block's two halves add up to the block, so a tally is the sum over the triangle. -/
theorem tally_real {x : FVec Ideal S256x256 .f32} {r : ℕ → ℕ → ℝ} (hx : IsBlock x r) {tri : FVec Ideal S256x256 .bf16} (s : ℕ → ℕ) (hs : ∀ q < 256, s q ≤ 256)
    (ht : ∀ p q : Fin 256, tri (ix2 p q) = if s q.val ≤ p.val then 1 else 0) :
    IsBlock (tally x tri) (fun p q => ∑ q' ∈ Ico (s q) 256, r p q') := fun p q => by
  have e : tally x tri (ix2 p q) = ∑ k : Fin 256, x (ix2 p k) * tri (ix2 k q) + ∑ k : Fin 256, (x (ix2 p k) - x (ix2 p k)) * tri (ix2 k q) := by
    pointwise [tally, high, low]
  have low0 : ∑ k : Fin 256, (x (ix2 p k) - x (ix2 p k)) * tri (ix2 k q) = 0 := sum_eq_zero fun k _ => by
    rw [hx, ← EReal.coe_sub, sub_self, EReal.coe_zero, zero_mul]
  dsimp only
  rw [e, low0, add_zero, ← sum_from _ _ _ (hs _ q.isLt), ← coe_sum]
  refine sum_congr rfl fun k _ => ?_
  rw [hx, ht]
  by_cases h : s q.val ≤ k.val
  · rw [if_pos h, if_pos h, mul_one]
  · rw [if_neg h, if_neg h, mul_zero, EReal.coe_zero]

theorem strict_real {x : FVec Ideal S256x256 .f32} {r : ℕ → ℕ → ℝ} (hx : IsBlock x r) :
    IsBlock (tally x triStrict) (fun p q => ∑ q' ∈ Ico (q + 1) 256, r p q') := tally_real hx (· + 1) (fun _ h => h) triStrict_at
theorem weak_real {x : FVec Ideal S256x256 .f32} {r : ℕ → ℕ → ℝ} (hx : IsBlock x r) :
    IsBlock (tally x triWeak) (fun p q => ∑ q' ∈ Ico q 256, r p q') := tally_real hx (·) (fun _ h => h.le) triWeak_at

theorem rowSum_real {x : FVec Ideal S256x256 .f32} {r : ℕ → ℕ → ℝ} (hx : IsBlock x r) :
    IsCol (rowSum x) (fun p => ∑ q ∈ range 256, r p q) := fun p c => by
  have e : rowSum x (ix2 p c) = ∑ k : Fin 256, x (ix2 p k) := by pointwise [rowSum]
  rw [e, ← coe_sum]
  exact sum_congr rfl fun k _ => hx p k

theorem spread_real {x : FVec Ideal S256x1 .f32} {r : ℕ → ℝ} (hx : IsCol x r) : IsBlock (spread x) (fun p _ => r p) := fun p q => by
  have e : spread x (ix2 p q) = x (ix2 p 0) := by pointwise [spread]
  rw [e, hx]

/-! ### Weights and score gradients of a masked block -/

section masked

open Classical

variable {mk : FVec Ideal S256x256 .f32 → FVec Ideal S256x256 .f32} {M : ℕ → ℕ → Prop} (hm : Masks mk M)
  {z dw : FVec Ideal S256x256 .f32} {Z D : ℕ → ℕ → ℝ} (hz : IsBlock z Z) (hd : IsBlock dw D)
  {carry total right : FVec Ideal S256x1 .f32} {C T R : ℕ → ℝ} (hc : IsCol carry C) (ht : IsCol total T) (hr : IsCol right R)

/-- The log masses a block's keys leave. -/
def maskedMass (M : ℕ → ℕ → Prop) (Z : ℕ → ℕ → ℝ) (p q : ℕ) : ℝ := if M p q then logit (Z p q) - Z p q else 0

/-- A block's weights. -/
def maskedWeight (M : ℕ → ℕ → Prop) (Z : ℕ → ℕ → ℝ) (C : ℕ → ℝ) (p q : ℕ) : ℝ :=
  if M p q then Real.exp (logit (Z p q) + ∑ q' ∈ Ico (q + 1) 256, maskedMass M Z p q' + C p) else 0

/-- A block's score gradients. -/
def maskedSlant (M : ℕ → ℕ → Prop) (Z D : ℕ → ℕ → ℝ) (C T R : ℕ → ℝ) (p q : ℕ) : ℝ :=
  if M p q then D p q * maskedWeight M Z C p q * (1 - Real.exp (logit (Z p q)))
    - Real.exp (logit (Z p q)) * (T p - R p - ∑ q' ∈ Ico q 256, D p q' * maskedWeight M Z C p q')
  else 0

include hm hz
theorem left_real : IsBlock (left mk z) (maskedMass M Z) :=
  masked hm fun p q => by
    show logBeta z (ix2 p q) - z (ix2 p q) = _
    rw [logBeta_real hz, hz, EReal.coe_sub]

include hc
theorem weights_real : IsBlock (weights mk triStrict z carry) (maskedWeight M Z C) :=
  masked hm (x := exp (addf (addf (logBeta z) (tally (left mk z) triStrict)) (spread carry))) fun p q => by
    show Ideal.exp (logBeta z (ix2 p q) + tally (left mk z) triStrict (ix2 p q) + spread carry (ix2 p q)) = _
    rw [logBeta_real hz, strict_real (left_real hm hz), spread_real hc, ← EReal.coe_add, ← EReal.coe_add, Ideal.exp_coe]

include hd
theorem pull_real : IsBlock (pull mk triStrict z dw carry) (fun p q => D p q * maskedWeight M Z C p q) := fun p q => by
  show dw (ix2 p q) * weights mk triStrict z carry (ix2 p q) = _
  rw [hd, weights_real hm hz hc, EReal.coe_mul]

include ht hr
theorem slope_real : IsBlock (slope mk triStrict triWeak z dw carry total right) (maskedSlant M Z D C T R) :=
  masked hm (x := subf (mulf (pull mk triStrict z dw carry) (subf ones (exp (logBeta z))))
    (mulf (exp (logBeta z)) (subf (spread (subf total right)) (tally (pull mk triStrict z dw carry) triWeak)))) fun p q => by
    have e1 : ones (F := Ideal) (ix2 p q) = ((1 : ℝ) : EReal) := by pointwise [ones]; rfl
    have hs : IsCol (subf total right) (fun p => T p - R p) := fun p c => by
      show total (ix2 p c) - right (ix2 p c) = _
      rw [ht, hr, EReal.coe_sub]
    show pull mk triStrict z dw carry (ix2 p q) * (ones (F := Ideal) (ix2 p q) - Ideal.exp (logBeta z (ix2 p q)))
      - Ideal.exp (logBeta z (ix2 p q)) * (spread (subf total right) (ix2 p q) - tally (pull mk triStrict z dw carry) triWeak (ix2 p q)) = _
    rw [pull_real hm hz hd hc, logBeta_real hz, e1, spread_real hs, weak_real (pull_real hm hz hd hc), Ideal.exp_coe, ← EReal.coe_sub,
      ← EReal.coe_sub, ← EReal.coe_mul, ← EReal.coe_mul, ← EReal.coe_sub]

end masked

/-! ### A block of the attention -/

section attention

variable (X : Arrays) (n A B : ℕ) (hB : B + 256 ≤ 8192)

/-- What a block's mask must be: the keys before the query. -/
def Causes (M : ℕ → ℕ → Prop) : Prop := ∀ p < 256, ∀ q < 256, M p q ↔ B + q < A + p

variable {M : ℕ → ℕ → Prop} (hM : Causes A B M)

include hM
theorem mass_block (p q : ℕ) (hp : p < 256) (hq : q < 256) :
    maskedMass M (fun p q => X.score n (A + p) (B + q)) p q = X.mass n (A + p) (B + q) := by
  unfold maskedMass Arrays.mass
  by_cases h : B + q < A + p
  · rw [if_pos h, if_pos ((hM p hp q hq).2 h)]
  · rw [if_neg h, if_neg fun h' => h ((hM p hp q hq).1 h')]

include hB
theorem weight_block (p q : ℕ) (hp : p < 256) (hq : q < 256) :
    maskedWeight M (fun p q => X.score n (A + p) (B + q)) (fun p => ∑ b ∈ Ico (B + 256) 8192, X.mass n (A + p) b) p q
      = X.weight n (A + p) (B + q) := by
  unfold maskedWeight Arrays.weight
  by_cases h : B + q < A + p
  · rw [if_pos h, if_pos ((hM p hp q hq).2 h), add_assoc,
      sum_congr rfl (fun q' hq' => mass_block X n A B hM p q' hp (mem_Ico.1 hq').2),
      sum_right (X.mass n (A + p)) B (q + 1) hq hB]
    rfl
  · rw [if_neg h, if_neg fun h' => h ((hM p hp q hq).1 h')]

theorem slant_block (p q : ℕ) (hp : p < 256) (hq : q < 256) :
    maskedSlant M (fun p q => X.score n (A + p) (B + q)) (fun p q => X.against n (A + p) (B + q))
      (fun p => ∑ b ∈ Ico (B + 256) 8192, X.mass n (A + p) b) (fun p => ∑ b ∈ range 8192, X.flow n (A + p) b)
      (fun p => ∑ b ∈ Ico (B + 256) 8192, X.flow n (A + p) b) p q
      = X.slant n (A + p) (B + q) := by
  unfold maskedSlant Arrays.slant
  by_cases h : B + q < A + p
  · rw [if_pos h, if_pos ((hM p hp q hq).2 h), weight_block X n A B hB hM p q hp hq]
    have e : ∑ q' ∈ Ico q 256, X.against n (A + p) (B + q')
        * maskedWeight M (fun p q => X.score n (A + p) (B + q)) (fun p => ∑ b ∈ Ico (B + 256) 8192, X.mass n (A + p) b) p q'
        = ∑ q' ∈ Ico q 256, X.flow n (A + p) (B + q') :=
      sum_congr rfl fun q' hq' => by rw [weight_block X n A B hB hM p q' hp (mem_Ico.1 hq').2]; rfl
    rw [e, sub_sub, add_comm (∑ b ∈ Ico (B + 256) 8192, _), sum_right (X.flow n (A + p)) B q hq.le hB, sum_left _ _ (by omega)]
    rfl
  · rw [if_neg h, if_neg fun h' => h ((hM p hp q hq).1 h')]

end attention

end Cert.Sb
-- ==== Proof.SbRules.lean ====
/-
  Loads and stores by values: a buffer held as "reads `x`" (`owns`) is read at a window of `x`, and left with the payload
  put over the window.
-/
module

public import Idealize.ShloMosaic.Lib.VecWindow
public import Idealize.ShloMosaic.Lib.Tactic
public import Idealize.ShloMosaic.Lib.Memref

@[expose] public section

noncomputable section

namespace Cert.ByValue

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {α : Type}

local notation "𝕄" => MT nD τ sig Ix Val Name U Lvl

variable {defs : Defs nD τ sig Val Λ} (𝒱 : Variants) (c : Thread nD τ) (bd : Option 𝒱.V) (E : Set Name)
variable {cs : CoreSpace} {s : Shape} {e : EltTy} {Q : α → sProp (MT nD τ sig Ix Val Name U Lvl)}

/-- A load of a window. -/
theorem load {m : Memref sig c.2.kind cs s e} {off size : Fin s.rank → ℕ} {inb : ∀ a, off a + size a ≤ s.size a}
    {hl : m.view.LoadsAt (Rect.unit off size inb).toLoadRect} {x : s.Idx → Val e}
    {k : ((Rect.unit off size inb).shape.Idx → Val e) → Prog (TpuEff nD τ sig Val Λ c.2) α} :
    (owns c m fullShare x : sProp 𝕄)
      ⊢ iprop((owns c m fullShare x -∗ wp frame (wpE defs 𝒱 c bd) E (k (VecWindow.window x off size inb)) Q)
        -∗ wp frame (wpE defs 𝒱 c bd) E (.op (.load m (Rect.unit off size inb).toLoadRect hl) k) Q) := by
  unfold owns
  iintro ⟨%f, %hf, H⟩
  iintro Hk
  subst hf
  iapply (wp_load 𝒱 c bd E (m := m) (View.setOn_subset_set _ _)) $$ H
  iintro H
  iapply Hk
  iexists f
  isplitr
  · ipureintro; rfl
  · iexact H

/-- A store of a window. -/
theorem store {m : Memref sig c.2.kind cs s e} {off size : Fin s.rank → ℕ} {inb : ∀ a, off a + size a ≤ s.size a}
    {w : (Rect.unit off size inb).shape.Idx → Val e} {hx : (m.access (Rect.unit off size inb)).Stores Finset.univ}
    {hm : Finset.univ = Finset.univ ∨ ∀ a, (Rect.unit off size inb).stride a = 1} {x : s.Idx → Val e}
    {k : PUnit → Prog (TpuEff nD τ sig Val Λ c.2) α} :
    (owns c m fullShare x : sProp 𝕄)
      ⊢ iprop((owns c m fullShare (VecWindow.put x off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩
  iintro Hk
  subst hf
  iapply (wp_store 𝒱 c bd E (m := m) (r := Rect.unit off size inb) (Mk := Finset.univ) (S := m.view.set) (View.set_slice_subset _ _)) $$ H
  iintro H
  iapply Hk
  iexists ((m.access (Rect.unit off size inb)).write Val f w Finset.univ)
  isplitr
  · ipureintro
    exact View.read_writes_cons_put m.view f inb w [] rfl
  · iexact H

end Cert.ByValue

end
-- ==== Proof.SbLoop.lean ====
/-
  The loop of region `cc0_sb_attention_bwd` of `Kernel2Ideal`: its label's specification (from the carried values and the
  scratch buffers it hands back the values of `Sb.walk`), met by induction on the trips still to run.
-/
module

public import proofs.«01_k».proof.Proof.SbModel
public import proofs.«01_k».proof.Proof.SbRules
public import proofs.«01_k».proof.Proof.Gen.Kernel2Ideal.Launch
public import Idealize.ShloMosaic.Lib.Pipeline.FrameBody
public import Idealize.ShloMosaic.Lib.Claim

@[expose] public section

noncomputable section

namespace Cert.Sb

open Kernel2Ideal Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The kernel's variants: the trips still to run. -/
abbrev 𝒱₀ : Variants := Variants.nat

/-! ### The loop's counter -/

/-- The grid point of a query group (every quantity of the loop reads that coordinate only). -/
def group (q : Fin 16) : grid0.Coords := fun a => match a with
  | ⟨0, _⟩ => (0 : Fin 4)
  | ⟨1, _⟩ => (q : Fin 16)

/-- The test passes up to the last trip, -/
theorem test_group : ∀ q : Fin 16, ∀ n : Fin 34,
    (Scalar.cmpi .sle (BitVec.ofNat 32 n.val) (last (group q)) = 1#1 ↔ n.val ≤ 2 * q.val + 1) := by decide +kernel

/-- the offsets of a trip are inside the arrays, -/
theorem check_group : ∀ q : Fin 16, ∀ n : Fin 34, 1 ≤ n.val → n.val ≤ 2 * q.val + 1 → k0_chk1 (group q) (BitVec.ofNat 32 n.val) := by
  decide +kernel

/-- and the word past the last trip. -/
theorem past_group : ∀ q : Fin 16, Scalar.addi (last (group q)) 1#32 = BitVec.ofNat 32 (2 * q.val + 2) := by decide +kernel
theorem succ_word : ∀ n : Fin 34, Scalar.addi (BitVec.ofNat 32 n.val) 1#32 = BitVec.ofNat 32 (n.val + 1) := by decide +kernel

/-- A query group's index. -/
abbrev qi (i : grid0.Coords) : Fin 16 := i 1

theorem test_iff (i : grid0.Coords) (n : ℕ) (hn : n ≤ 33) :
    Scalar.cmpi .sle (BitVec.ofNat 32 n) (last i) = 1#1 ↔ n ≤ 2 * (qi i).val + 1 :=
  test_group (qi i) ⟨n, by omega⟩

theorem check (i : grid0.Coords) (n : ℕ) (h1 : 1 ≤ n) (hn : n ≤ 2 * (qi i).val + 1) : k0_chk1 i (BitVec.ofNat 32 n) :=
  check_group (qi i) ⟨n, by have := (qi i).isLt; omega⟩ h1 hn

/-- The next trip's word: one further, or past the last. -/
theorem next_word (i : grid0.Coords) (s : Carried F) (cr : Fin 4 → FVec F S256x1 .f32) (n : ℕ) (hs : s.r = BitVec.ofNat 32 n)
    (hn : n ≤ 2 * (qi i).val + 1) :
    ∃ n', next i s cr = BitVec.ofNat 32 n' ∧ n < n' ∧ n' ≤ 2 * (qi i).val + 2 := by
  unfold next Scalar.select
  split
  · exact ⟨2 * (qi i).val + 2, past_group (qi i), by omega, le_refl _⟩
  · rw [hs]
    exact ⟨n + 1, succ_word ⟨n, by have := (qi i).isLt; omega⟩, by omega, by omega⟩

/-! ### The label's specification -/

section Label

variable (c : Dev nD) (i : grid0.Coords)
variable (arg3 : Memref sig .tc .vmem S8192x128 .f32) (harg3 : arg3.IsWhole) (arg4 : Memref sig .tc .vmem S8192x128 .f32) (harg4 : arg4.IsWhole)
variable (arg10 : Memref sig .tc .vmem S8192x128 .f32) (harg10 : arg10.IsWhole) (arg11 : Memref sig .tc .vmem S8192x128 .f32) (harg11 : arg11.IsWhole)
variable (H : Held F)

/-- The record the loop is called with. -/
def args (s : Carried F) : Cc0While1 F :=
  ⟨i, arg3, harg3, arg4, harg4, H.qh 0, triStrict, H.doh 0, H.qh 1, H.doh 1, H.qh 2, H.doh 2, H.qh 3, H.doh 3, H.total 0, triWeak, H.total 1,
    arg11, harg11, arg10, harg10, H.total 2, H.total 3, s.r, s.carry 0, s.carry 1, s.carry 2, s.carry 3, s.right 0, s.right 1, s.right 2, s.right 3,
    s.dq 0, s.dq 1, s.dq 2, s.dq 3⟩

/-- The four buffers the loop works on. -/
def buffers (s : Carried F) : sProp 𝕄 :=
  iprop(owns (c : Thread nD τ) arg3 fullShare H.K ∗ owns (c : Thread nD τ) arg4 fullShare H.V
    ∗ owns (c : Thread nD τ) arg10 fullShare s.DK ∗ owns (c : Thread nD τ) arg11 fullShare s.DV)

/-- The specification with at most `k` trips to run: the buffers and the values after `Sb.walk`. -/
def spec (k : ℕ) (s : Carried F) : sWPT 𝕄 (BitVec 32 × FVec F S256x1 .f32 × FVec F S256x1 .f32 × FVec F S256x1 .f32 × FVec F S256x1 .f32 ×
    FVec F S256x1 .f32 × FVec F S256x1 .f32 × FVec F S256x1 .f32 × FVec F S256x1 .f32 ×
    FVec F S256x128 .f32 × FVec F S256x128 .f32 × FVec F S256x128 .f32 × FVec F S256x128 .f32) := do
  sWPT.consume (buffers c arg3 arg4 arg10 arg11 H s)
  sWPT.produce (buffers c arg3 arg4 arg10 arg11 H (walk i H k s))
  pure (walk i H k s).tuple

theorem spec_apply (k : ℕ) (s : Carried F) (Q : _ → sProp 𝕄) :
    spec c i arg3 arg4 arg10 arg11 H k s Q
      = iprop(buffers c arg3 arg4 arg10 arg11 H s
        ∗ (buffers c arg3 arg4 arg10 arg11 H (walk i H k s) -∗ Q (walk i H k s).tuple)) := rfl

/-- A load of 256 rows. -/
theorem load_rows {bd : Option ℕ} {E : Set ℕ} {α : Type} {Q : α → sProp (MT nD τ sig Unit (Elt F) ℕ (UR sig nD τ) ℕ)}
    {m : Memref sig .tc .vmem S8192x128 .f32} {off : Fin 2 → ℕ} {inb : ∀ a, off a + S256x128.size a ≤ S8192x128.size a}
    {hl : m.view.LoadsAt (Rect.unit (s := S8192x128) off S256x128.size inb).toLoadRect} {x : S8192x128.Idx → F .f32}
    {k : (S256x128.Idx → F .f32) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) 𝒱₀ (c : Thread nD τ) bd) E (k (rows x off)) Q)
        -∗ wp frame (wpE (defs₀ (F := F)) 𝒱₀ (c : Thread nD τ) bd) E (.op (.load m (Rect.unit (s := S8192x128) off S256x128.size inb).toLoadRect hl) k) Q) := by
  rw [← rows_eq x off inb]
  exact ByValue.load 𝒱₀ (c : Thread nD τ) bd E

set_option maxHeartbeats 4000000 in
set_option maxRecDepth 65536 in
/-- The label's body meets the specification. -/
theorem spec_le (E : Set ℕ) : ∀ k s n, s.r = BitVec.ofNat 32 n → 1 ≤ n → n ≤ 2 * (qi i).val + 2 → 2 * (qi i).val + 2 ≤ n + k →
    ∀ Q, spec c i arg3 arg4 arg10 arg11 H k s Q
      ⊢ wp frame (wpE (defs₀ (F := F)) 𝒱₀ (c : Thread nD τ) (some k)) E
          (defs₀ (F := F) .tc 1 (args i arg3 harg3 arg4 harg4 arg10 harg10 arg11 harg11 H s)) Q := by
  intro k
  induction k with
  | zero =>
    intro s n hs h1 h2 h3 Q
    have hq := (qi i).isLt
    rw [spec_apply]
    show _ ⊢ wp frame (wpE (defs₀ (F := F)) 𝒱₀ (c : Thread nD τ) (some 0)) E
      (cc0_while1 i arg3 harg3 arg4 harg4 (H.qh 0) triStrict (H.doh 0) (H.qh 1) (H.doh 1) (H.qh 2) (H.doh 2) (H.qh 3) (H.doh 3) (H.total 0) triWeak (H.total 1)
        arg11 harg11 arg10 harg10 (H.total 2) (H.total 3) s.r (s.carry 0) (s.carry 1) (s.carry 2) (s.carry 3) (s.right 0) (s.right 1) (s.right 2) (s.right 3)
        (s.dq 0) (s.dq 1) (s.dq 2) (s.dq 3)) Q
    simp only [cc0_while1_eq_skeleton]; unfold cc0_while1_skel
    have htest : ¬ Scalar.cmpi .sle s.r (last i) = 1#1 := by
      rw [hs, test_iff i n (by omega)]; omega
    have htest' : ¬ Scalar.cmpi .sle s.r (Scalar.subi (Scalar.addi (Scalar.muli (BitVec.ofNat 32 (i 1).val) 2#32) 2#32) 1#32) = 1#1 := htest
    simp only [htest', ↓reduceIte, Prog.pure_eq_ret, walk, Carried.tuple]
    iintro ⟨Hb, Hk⟩
    rw [wp_ret]; imodintro
    iapply Hk $$ Hb
  | succ k ih =>
    intro s n hs h1 h2 h3 Q
    have hq := (qi i).isLt
    rw [spec_apply]
    show _ ⊢ wp frame (wpE (defs₀ (F := F)) 𝒱₀ (c : Thread nD τ) (some (k + 1))) E
      (cc0_while1 i arg3 harg3 arg4 harg4 (H.qh 0) triStrict (H.doh 0) (H.qh 1) (H.doh 1) (H.qh 2) (H.doh 2) (H.qh 3) (H.doh 3) (H.total 0) triWeak (H.total 1)
        arg11 harg11 arg10 harg10 (H.total 2) (H.total 3) s.r (s.carry 0) (s.carry 1) (s.carry 2) (s.carry 3) (s.right 0) (s.right 1) (s.right 2) (s.right 3)
        (s.dq 0) (s.dq 1) (s.dq 2) (s.dq 3)) Q
    simp only [cc0_while1_eq_skeleton]; unfold cc0_while1_skel
    by_cases htest : Scalar.cmpi .sle s.r (last i) = 1#1
    · have htest' : Scalar.cmpi .sle s.r (Scalar.subi (Scalar.addi (Scalar.muli (BitVec.ofNat 32 (i 1).val) 2#32) 2#32) 1#32) = 1#1 := htest
      have hn : n ≤ 2 * (qi i).val + 1 := by
        rw [hs] at htest; exact (test_iff i n (by omega)).mp htest
      have hwalk : walk i H (k + 1) s = walk i H k (trip i H s) := by
        rw [walk, if_pos htest]
      have hchk : k0_chk1 i s.r := by rw [hs]; exact check i n h1 hn
      obtain ⟨n', e', hlt, hle⟩ := next_word i s (trip i H s).carry n hs hn
      rw [hwalk]
      simp only [htest', ↓reduceIte]
      simp only [k0_part10_eq_skeleton, k0_part11_eq_skeleton, k0_part12_eq_skeleton, k0_part13_eq_skeleton, k0_part14_eq_skeleton, k0_part15_eq_skeleton, k0_part16_eq_skeleton]
      unfold k0_part10_skel k0_part11_skel k0_part12_skel k0_part13_skel k0_part14_skel k0_part15_skel k0_part16_skel
      simp only [Prog.lift, Prog.bind_op, Prog.bind_ret, Prog.pure_eq_ret]
      unfold buffers
      iintro ⟨⟨H3, H4, H10, H11⟩, Hk⟩
      iapply (wp_assume 𝒱₀ (c : Thread nD τ) (some (k + 1)) E hchk)
      iapply (load_rows c) $$ H3; iintro H3
      iapply (load_rows c) $$ H4; iintro H4
      iapply (load_rows c) $$ H3; iintro H3
      iapply (load_rows c) $$ H4; iintro H4
      iapply (load_rows c) $$ H3; iintro H3
      iapply (load_rows c) $$ H11; iintro H11
      iapply (load_rows c) $$ H11; iintro H11
      iapply (ByValue.store 𝒱₀ (c : Thread nD τ) (some (k + 1)) E) $$ H11; iintro H11
      iapply (load_rows c) $$ H10; iintro H10
      iapply (load_rows c) $$ H10; iintro H10
      iapply (ByValue.store 𝒱₀ (c : Thread nD τ) (some (k + 1)) E) $$ H10; iintro H10
      iapply (load_rows c) $$ H3; iintro H3
      iapply (load_rows c) $$ H11; iintro H11
      iapply (load_rows c) $$ H11; iintro H11
      iapply (ByValue.store 𝒱₀ (c : Thread nD τ) (some (k + 1)) E) $$ H11; iintro H11
      iapply (load_rows c) $$ H10; iintro H10
      iapply (load_rows c) $$ H10; iintro H10
      iapply (ByValue.store 𝒱₀ (c : Thread nD τ) (some (k + 1)) E) $$ H10; iintro H10
      iapply (wp_call_spec 𝒱₀ (c : Thread nD τ) (some (k + 1)) E (spec c i arg3 arg4 arg10 arg11 H k (trip i H s)) k
        (fun u hu => by cases hu; exact Nat.lt_succ_self k)
        (ih (trip i H s) n' e' (by omega) hle (by omega)))
      rw [spec_apply]; unfold buffers
      isplitl [H3 H4 H10 H11]
      · isplitl [H3]; · iexact H3
        isplitl [H4]; · iexact H4
        isplitl [H10]; · iexact H10
        iexact H11
      iintro Hb
      rw [wp_ret]; imodintro
      iapply Hk $$ Hb
    · have htest' : ¬ Scalar.cmpi .sle s.r (Scalar.subi (Scalar.addi (Scalar.muli (BitVec.ofNat 32 (i 1).val) 2#32) 2#32) 1#32) = 1#1 := htest
      have hwalk : walk i H (k + 1) s = s := by rw [walk, if_neg htest]
      rw [hwalk]
      simp only [htest', ↓reduceIte, Prog.pure_eq_ret, Carried.tuple]
      iintro ⟨Hb, Hk⟩
      rw [wp_ret]; imodintro
      iapply Hk $$ Hb

end Label

end Cert.Sb

end
-- ==== Proof.SbWalk.lean ====
/-
  The walk over the reals: what a grid point carries while its chains walk from the diagonal to the left, and what it
  leaves. Chain `j` of query group `i` and head pair `h` is head `2 h + j % 2`, rows from `256 (2 i + j / 2)` on; with
  the first `m` key blocks still to come it has summed its rows from key `256 m` on.
-/
module

public import proofs.«01_k».proof.Proof.SbBlock
public import proofs.«01_k».proof.Proof.SbLoop

@[expose] public section

set_option maxRecDepth 16384

noncomputable section

namespace Cert.Sb

open Idealize.ShloMosaic Kernel2Ideal Kernel2Ideal.Gen Finset

/-- A buffer that holds reals. -/
def IsBuf (x : S8192x128.Idx → EReal) (r : ℕ → ℕ → ℝ) : Prop := ∀ (b : Fin 8192) (c : Fin 128), x (ix2 b c) = ((r b.val c.val : ℝ) : EReal)

theorem IsRows.congr {x : S256x128.Idx → EReal} {r r' : ℕ → ℕ → ℝ} (h : IsRows x r) (e : ∀ p c, p < 256 → r p c = r' p c) : IsRows x r' :=
  fun p c => by rw [h, e _ _ p.isLt]
theorem IsBlock.congr {x : S256x256.Idx → EReal} {r r' : ℕ → ℕ → ℝ} (h : IsBlock x r) (e : ∀ p c, r p c = r' p c) : IsBlock x r' :=
  fun p c => by rw [h, e]
theorem IsCol.congr {x : S256x1.Idx → EReal} {r r' : ℕ → ℝ} (h : IsCol x r) (e : ∀ p, p < 256 → r p = r' p) : IsCol x r' :=
  fun p c => by rw [h, e _ p.isLt]
theorem IsBuf.congr {x : S8192x128.Idx → EReal} {r r' : ℕ → ℕ → ℝ} (h : IsBuf x r) (e : ∀ b c, r b c = r' b c) : IsBuf x r' :=
  fun p c => by rw [h, e]

theorem IsRows.add {x y : FVec Ideal S256x128 .f32} {r s : ℕ → ℕ → ℝ} (hx : IsRows x r) (hy : IsRows y s) :
    IsRows (addf x y) (fun p c => r p c + s p c) := fun p c => by
  show x (ix2 p c) + y (ix2 p c) = _
  rw [hx, hy, EReal.coe_add]
theorem IsCol.add {x y : FVec Ideal S256x1 .f32} {r s : ℕ → ℝ} (hx : IsCol x r) (hy : IsCol y s) :
    IsCol (addf x y) (fun p => r p + s p) := fun p c => by
  show x (ix2 p c) + y (ix2 p c) = _
  rw [hx, hy, EReal.coe_add]

/-- Rows of a buffer. -/
theorem rows_real {x : S8192x128.Idx → EReal} {r : ℕ → ℕ → ℝ} (hx : IsBuf x r) {off : Fin 2 → ℕ} {B : ℕ} (ho : off = ![B, 0]) (hB : B + 256 ≤ 8192) :
    IsRows (rows x off) (fun p c => r (B + p) c) := fun p c => by
  subst ho
  have e : rows x ![B, 0] (ix2 p c) = x (ix2 (⟨B + p.val, by omega⟩ : Fin 8192) c) := by
    unfold rows
    refine congrArg x (funext fun a => Fin.ext ?_)
    match a with
    | ⟨0, _⟩ => exact Nat.mod_eq_of_lt (show B + p.val < 8192 by omega)
    | ⟨1, _⟩ => exact (Nat.mod_eq_of_lt (show 0 + c.val < 128 by omega)).trans (Nat.zero_add _)
  rw [e, hx]

/-- A buffer with rows added from key `B` on. -/
theorem put_real {x : S8192x128.Idx → EReal} {r : ℕ → ℕ → ℝ} (hx : IsBuf x r) {y : FVec Ideal S256x128 .f32} {s : ℕ → ℕ → ℝ} (hy : IsRows y s)
    {off : Fin 2 → ℕ} {B : ℕ} (ho : off = ![B, 0]) (hB : B + 256 ≤ 8192) :
    IsBuf (VecWindow.put (s := S8192x128) x off S256x128.size (shapeCast S256x128 (addf (F := Ideal) (φ := .f32) (rows x off) y) shapeCasts_S256x128_S256x128))
      (fun b c => r b c + if B ≤ b ∧ b < B + 256 then s (b - B) c else 0) := fun b c => by
  have hr := rows_real hx ho hB
  subst ho
  unfold VecWindow.put
  by_cases h : B ≤ b.val ∧ b.val < B + 256
  · have h' : ∀ a, (![B, 0] : Fin 2 → ℕ) a ≤ ((ix2 b c : S8192x128.Idx) a).val ∧ ((ix2 b c : S8192x128.Idx) a).val < (![B, 0] : Fin 2 → ℕ) a + S256x128.size a := fun a => by
      match a with
      | ⟨0, _⟩ => exact h
      | ⟨1, _⟩ => exact ⟨Nat.zero_le _, (show c.val < 0 + 128 by omega)⟩
    dsimp only
    rw [dif_pos h', if_pos h]
    have e : (Rect.unitLocal (s := S8192x128) (off := ![B, 0]) (size := S256x128.size) (ix2 b c) h' : S256x128.Idx) = ix2 (⟨b.val - B, by omega⟩ : Fin 256) c := by
      refine funext fun a => Fin.ext ?_
      match a with
      | ⟨0, _⟩ => rfl
      | ⟨1, _⟩ => rfl
    refine (congrArg (shapeCast S256x128 (addf (F := Ideal) (φ := .f32) (rows x ![B, 0]) y) shapeCasts_S256x128_S256x128) e).trans ?_
    pointwise
    rw [hr, hy, ← EReal.coe_add]
    show (((r (B + (b.val - B)) c.val + _ : ℝ)) : EReal) = _
    rw [Nat.add_sub_cancel' h.1]
  · dsimp only
    rw [dif_neg fun h' => h (h' 0), if_neg h, hx, add_zero]

/-! ### Sums with a block more -/

/-- The first `m` blocks to come become the first `m'`: either one fewer, and the block's values are the sum's terms, or none was
    to come and the block adds nothing. -/
def Covers (m m' : ℕ) (f φ : ℕ → ℝ) : Prop :=
  (m = m' + 1 ∧ ∀ q < 256, φ q = f (256 * m' + q)) ∨ (m = 0 ∧ m' = 0 ∧ ∀ q < 256, φ q = 0)

theorem Covers.sum {m m' : ℕ} {f φ : ℕ → ℝ} (h : Covers m m' f φ) (hm : 256 * m' + 256 ≤ 8192) :
    ∑ b ∈ Ico (256 * m) 8192, f b + ∑ q ∈ range 256, φ q = ∑ b ∈ Ico (256 * m') 8192, f b := by
  rcases h with ⟨rfl, h⟩ | ⟨rfl, rfl, h⟩
  · rw [sum_congr rfl fun q hq => h q (mem_range.1 hq), add_comm, range_eq_Ico, show 256 * (m' + 1) = 256 * m' + 256 by ring,
      sum_right f _ 0 (by omega) hm]
    rfl
  · rw [sum_eq_zero fun q hq => h q (mem_range.1 hq), add_zero]

theorem Covers.at {m m' : ℕ} {f φ : ℕ → ℝ} (h : Covers m m' f φ) (b : ℕ) :
    (if 256 * m ≤ b then f b else 0) + (if 256 * m' ≤ b ∧ b < 256 * m' + 256 then φ (b - 256 * m') else 0) = if 256 * m' ≤ b then f b else 0 := by
  rcases h with ⟨rfl, h⟩ | ⟨rfl, rfl, h⟩
  · by_cases h1 : 256 * m' ≤ b
    · by_cases h2 : b < 256 * m' + 256
      · rw [if_neg (by omega), if_pos ⟨h1, h2⟩, if_pos h1, zero_add, h _ (by omega), Nat.add_sub_cancel' h1]
      · rw [if_pos (by omega), if_neg (by omega), if_pos h1, add_zero]
    · rw [if_neg (by omega), if_neg (by omega), if_neg h1, add_zero]
  · rw [if_pos (by omega)]
    by_cases h2 : b < 256
    · rw [if_pos (by omega), h _ (by omega), add_zero]
    · rw [if_neg (by omega), add_zero]

/-- A row's terms against another factor. -/
theorem Covers.mul {m m' : ℕ} {f φ : ℕ → ℝ} (h : Covers m m' f φ) (g : ℕ → ℝ) : Covers m m' (fun b => f b * g b) (fun q => φ q * g (256 * m' + q)) := by
  rcases h with ⟨e, h⟩ | ⟨e, e', h⟩
  · exact .inl ⟨e, fun q hq => by dsimp only; rw [h q hq]⟩
  · exact .inr ⟨e, e', fun q hq => by dsimp only; rw [h q hq, zero_mul]⟩

/-- The rows' terms together. -/
theorem Covers.rows {m m' : ℕ} {f φ : ℕ → ℕ → ℝ} (h : ∀ p < 256, Covers m m' (f p) (φ p)) (g : ℕ → ℝ) :
    Covers m m' (fun b => ∑ p ∈ range 256, f p b * g p) (fun q => ∑ p ∈ range 256, φ p q * g p) := by
  rcases h 0 (by omega) with ⟨e, _⟩ | ⟨e, e', _⟩
  · refine .inl ⟨e, fun q hq => sum_congr rfl fun p hp => ?_⟩
    rcases h p (mem_range.1 hp) with ⟨_, hφ⟩ | ⟨e0, _, _⟩
    · rw [hφ q hq]
    · omega
  · refine .inr ⟨e, e', fun q hq => sum_eq_zero fun p hp => ?_⟩
    rcases h p (mem_range.1 hp) with ⟨e0, _⟩ | ⟨_, _, hφ⟩
    · omega
    · rw [hφ q hq, zero_mul]

/-- The sum over a head's lanes. -/
theorem lane_sum (f g : ℕ → ℝ) (e : ℕ) (he : e < 2) :
    ∑ c ∈ range 128, (if c / 64 = e then f c else 0) * g c = ∑ c ∈ range 64, f (64 * e + c) * g (64 * e + c) := by
  rw [show (128 : ℕ) = 64 + 64 from rfl, sum_range_add]
  rcases (by omega : e = 0 ∨ e = 1) with rfl | rfl
  · rw [sum_congr rfl (g := fun c => f (64 * 0 + c) * g (64 * 0 + c)) fun c hc => ?_,
      sum_eq_zero (s := range 64) (f := fun c => (if (64 + c) / 64 = 0 then f (64 + c) else 0) * g (64 + c)) fun c hc => ?_, add_zero]
    · rw [if_neg (by omega), zero_mul]
    · have := mem_range.1 hc
      rw [if_pos (by omega), show 64 * 0 + c = c by omega]
  · rw [sum_eq_zero (s := range 64) (f := fun c => (if c / 64 = 1 then f c else 0) * g c) fun c hc => ?_, zero_add]
    · refine sum_congr rfl fun c hc => ?_
      have := mem_range.1 hc
      rw [if_pos (by omega), show 64 * 1 + c = 64 + c by omega]
    · have := mem_range.1 hc
      rw [if_neg (by omega), zero_mul]

/-! ### What a grid point holds and carries -/

/-- Chain `j`'s head and its first row. -/
def head (h : ℕ) (j : Fin 4) : ℕ := 2 * h + j.val % 2
def base (i : ℕ) (j : Fin 4) : ℕ := 256 * (2 * i + j.val / 2)

variable (X : Arrays) (h i : ℕ)

/-- Chain `j`'s scaled queries, and its output gradients, zero outside the head's lanes. -/
def qLane (j : Fin 4) (p c : ℕ) : ℝ := if c / 64 = j.val % 2 then X.q (base i j + p) (128 * h + c) * (1 / 8) else 0
def gLane (j : Fin 4) (p c : ℕ) : ℝ := if c / 64 = j.val % 2 then X.g (base i j + p) (128 * h + c) else 0

theorem lane_score (j : Fin 4) (p b : ℕ) : ∑ c ∈ range 128, qLane X h i j p c * X.k b (128 * h + c) = X.score (head h j) (base i j + p) b := by
  unfold qLane Arrays.score
  rw [lane_sum (fun c => X.q (base i j + p) (128 * h + c) * (1 / 8)) (fun c => X.k b (128 * h + c)) _ (by omega), sum_mul]
  refine sum_congr rfl fun c _ => ?_
  rw [show 128 * h + (64 * (j.val % 2) + c) = 64 * head h j + c by unfold head; ring]
  ring

theorem lane_against (j : Fin 4) (p b : ℕ) : ∑ c ∈ range 128, gLane X h i j p c * X.v b (128 * h + c) = X.against (head h j) (base i j + p) b := by
  unfold gLane Arrays.against
  rw [lane_sum (fun c => X.g (base i j + p) (128 * h + c)) (fun c => X.v b (128 * h + c)) _ (by omega)]
  refine sum_congr rfl fun c _ => ?_
  rw [show 128 * h + (64 * (j.val % 2) + c) = 64 * head h j + c by unfold head; ring]

structure Holds (H : Held Ideal) : Prop where
  qh : ∀ j, IsRows (H.qh j) (qLane X h i j)
  doh : ∀ j, IsRows (H.doh j) (gLane X h i j)
  total : ∀ j, IsCol (H.total j) (fun p => ∑ b ∈ range 8192, X.flow (head h j) (base i j + p) b)
  K : IsBuf H.K (fun b c => X.k b (128 * h + c))
  V : IsBuf H.V (fun b c => X.v b (128 * h + c))

/-- The key-side sums of chain `j`'s rows. -/
def dkRow (j : Fin 4) (b c : ℕ) : ℝ := ∑ p ∈ range 256, X.slant (head h j) (base i j + p) b * qLane X h i j p c
def dvRow (j : Fin 4) (b c : ℕ) : ℝ := ∑ p ∈ range 256, X.weight (head h j) (base i j + p) b * gLane X h i j p c

structure Stands (m : Fin 4 → ℕ) (DK DV : ℕ → ℕ → ℝ) (s : Carried Ideal) : Prop where
  carry : ∀ j, IsCol (s.carry j) (fun p => ∑ b ∈ Ico (256 * m j) 8192, X.mass (head h j) (base i j + p) b)
  right : ∀ j, IsCol (s.right j) (fun p => ∑ b ∈ Ico (256 * m j) 8192, X.flow (head h j) (base i j + p) b)
  dq : ∀ j, IsRows (s.dq j) (fun p c => ∑ b ∈ Ico (256 * m j) 8192, X.slant (head h j) (base i j + p) b * X.k b (128 * h + c))
  DK : IsBuf s.DK (fun b c => DK b c + ∑ j, if 256 * m j ≤ b then dkRow X h i j b c else 0)
  DV : IsBuf s.DV (fun b c => DV b c + ∑ j, if 256 * m j ≤ b then dvRow X h i j b c else 0)

/-! ### A block more -/

section Step

variable {X h i} {H : Held Ideal} (hH : Holds X h i H) {m m' : Fin 4 → ℕ} {DK DV : ℕ → ℕ → ℝ} {s : Carried Ideal} (hs : Stands X h i m DK DV s)
  {mk : Fin 4 → FVec Ideal S256x256 .f32 → FVec Ideal S256x256 .f32} {M : Fin 4 → ℕ → ℕ → Prop} {off : BitVec 32 → Fin 2 → ℕ}
  (hmk : ∀ j, Masks (mk j) (M j)) (hoff : ∀ j, off (half j) = ![256 * m' j, 0]) (hm' : ∀ j, 256 * m' j + 256 ≤ 8192)
  (hstep : ∀ j, (m j = m' j + 1 ∧ Causes (base i j) (256 * m' j) (M j)) ∨ (m j = 0 ∧ m' j = 0 ∧ ∀ p q, ¬ M j p q))

/-- Chain `j`'s scores, output gradients against values, carried sums, weights and score gradients on the block. -/
def blockZ (X : Arrays) (h i : ℕ) (m' : Fin 4 → ℕ) (j : Fin 4) (p q : ℕ) : ℝ := X.score (head h j) (base i j + p) (256 * m' j + q)
def blockD (X : Arrays) (h i : ℕ) (m' : Fin 4 → ℕ) (j : Fin 4) (p q : ℕ) : ℝ := X.against (head h j) (base i j + p) (256 * m' j + q)
def past (f : ℕ → ℕ → ℕ → ℝ) (h i : ℕ) (m : Fin 4 → ℕ) (j : Fin 4) (p : ℕ) : ℝ := ∑ b ∈ Ico (256 * m j) 8192, f (head h j) (base i j + p) b
def blockW (X : Arrays) (h i : ℕ) (m m' : Fin 4 → ℕ) (M : Fin 4 → ℕ → ℕ → Prop) (j : Fin 4) : ℕ → ℕ → ℝ :=
  maskedWeight (M j) (blockZ X h i m' j) (past X.mass h i m j)
def blockS (X : Arrays) (h i : ℕ) (m m' : Fin 4 → ℕ) (M : Fin 4 → ℕ → ℕ → Prop) (j : Fin 4) : ℕ → ℕ → ℝ :=
  maskedSlant (M j) (blockZ X h i m' j) (blockD X h i m' j) (past X.mass h i m j)
    (fun p => ∑ b ∈ range 8192, X.flow (head h j) (base i j + p) b) (past X.flow h i m j)

include hstep hm'
theorem covers_mass (j : Fin 4) (p : ℕ) (hp : p < 256) :
    Covers (m j) (m' j) (X.mass (head h j) (base i j + p)) (maskedMass (M j) (blockZ X h i m' j) p) := by
  rcases hstep j with ⟨e, hM⟩ | ⟨e, e', hM⟩
  · exact .inl ⟨e, fun q hq => mass_block X _ _ _ hM p q hp hq⟩
  · exact .inr ⟨e, e', fun q _ => if_neg (hM p q)⟩

theorem covers_weight (j : Fin 4) (p : ℕ) (hp : p < 256) :
    Covers (m j) (m' j) (X.weight (head h j) (base i j + p)) (blockW X h i m m' M j p) := by
  rcases hstep j with ⟨e, hM⟩ | ⟨e, e', hM⟩
  · refine .inl ⟨e, fun q hq => ?_⟩
    rw [← weight_block X _ _ _ (hm' j) hM p q hp hq]
    unfold blockW past
    rw [e]
    rfl
  · exact .inr ⟨e, e', fun q _ => if_neg (hM p q)⟩

theorem covers_slant (j : Fin 4) (p : ℕ) (hp : p < 256) :
    Covers (m j) (m' j) (X.slant (head h j) (base i j + p)) (blockS X h i m m' M j p) := by
  rcases hstep j with ⟨e, hM⟩ | ⟨e, e', hM⟩
  · refine .inl ⟨e, fun q hq => ?_⟩
    rw [← slant_block X _ _ _ (hm' j) hM p q hp hq]
    unfold blockS past
    rw [e]
    rfl
  · exact .inr ⟨e, e', fun q _ => if_neg (hM p q)⟩

theorem covers_flow (j : Fin 4) (p : ℕ) (hp : p < 256) :
    Covers (m j) (m' j) (X.flow (head h j) (base i j + p)) (fun q => blockD X h i m' j p q * blockW X h i m m' M j p q) := by
  rcases covers_weight (X := X) (h := h) hm' hstep j p hp with ⟨e, hW⟩ | ⟨e, e', hW⟩
  · exact .inl ⟨e, fun q hq => by dsimp only; rw [hW q hq]; rfl⟩
  · exact .inr ⟨e, e', fun q hq => by dsimp only; rw [hW q hq, mul_zero]⟩

include hH hoff

omit hstep in
/-- The block's keys and values, scores and output gradients. -/
theorem kb_real (j : Fin 4) : IsRows (truncf .bf16 (rows H.K (off (half j)) : FVec Ideal S256x128 .f32) bitsLt_bf16_f32)
    (fun q c => X.k (256 * m' j + q) (128 * h + c)) := rows_real hH.K (hoff j) (hm' j)
omit hstep in
theorem vb_real (j : Fin 4) : IsRows (truncf .bf16 (rows H.V (off (half j)) : FVec Ideal S256x128 .f32) bitsLt_bf16_f32)
    (fun q c => X.v (256 * m' j + q) (128 * h + c)) := rows_real hH.V (hoff j) (hm' j)

omit hstep in
theorem z_real (j : Fin 4) : IsBlock (cross (H.qh j) (truncf .bf16 (rows H.K (off (half j)) : FVec Ideal S256x128 .f32) bitsLt_bf16_f32))
    (blockZ X h i m' j) := (cross_real (hH.qh j) (kb_real hH hoff hm' j)).congr fun p q => lane_score X h i j p (256 * m' j + q)
omit hstep in
theorem d_real (j : Fin 4) : IsBlock (cross (H.doh j) (truncf .bf16 (rows H.V (off (half j)) : FVec Ideal S256x128 .f32) bitsLt_bf16_f32))
    (blockD X h i m' j) := (cross_real (hH.doh j) (vb_real hH hoff hm' j)).congr fun p q => lane_against X h i j p (256 * m' j + q)

omit hH hstep in
/-- Two chains' rows added to a buffer on the block. -/
theorem two_rows {r : ℕ → ℕ → ℝ} {x : S8192x128.Idx → EReal} (hx : IsBuf x r) (j j' : Fin 4) (hj : half j = half j') {y y' : FVec Ideal S256x128 .f32}
    {Y Y' : ℕ → ℕ → ℝ} (hy : IsRows y Y) (hy' : IsRows y' Y') {f f' : ℕ → ℕ → ℝ}
    (hf : ∀ c, Covers (m j) (m' j) (fun b => f b c) (fun q => Y q c)) (hf' : ∀ c, Covers (m j') (m' j') (fun b => f' b c) (fun q => Y' q c)) :
    IsBuf (VecWindow.put (s := S8192x128) x (off (half j)) S256x128.size
      (shapeCast S256x128 (addf (F := Ideal) (φ := .f32) (rows x (off (half j))) (addf y y')) shapeCasts_S256x128_S256x128))
      (fun b c => r b c + (((if 256 * m' j ≤ b then f b c else 0) - if 256 * m j ≤ b then f b c else 0)
        + ((if 256 * m' j' ≤ b then f' b c else 0) - if 256 * m j' ≤ b then f' b c else 0))) := by
  have e : 256 * m' j = 256 * m' j' := by
    have := (hoff j).symm.trans ((congrArg off hj).trans (hoff j'))
    exact congrFun this 0
  refine (put_real hx (hy.add hy') (hoff j) (hm' j)).congr fun b c => ?_
  rw [← (hf c).at b, ← (hf' c).at b, ← e]
  by_cases hb : 256 * m' j ≤ b ∧ b < 256 * m' j + 256
  · rw [if_pos hb, if_pos hb, if_pos hb]; ring
  · rw [if_neg hb, if_neg hb, if_neg hb]; ring

include hs hmk hstep in
/-- One key block for each chain. -/
theorem block_step (r : BitVec 32) (carry' : Fin 4 → FVec Ideal S256x1 .f32 → FVec Ideal S256x1 .f32)
    (hcarry : ∀ j x (r : ℕ → ℝ), IsCol x r → IsCol (carry' j x) (fun p => past X.mass h i m j p + r p)) :
    Stands X h i m' DK DV (block H mk off r carry' s) := by
  have hz := z_real (X := X) hH hoff hm'
  have hd := d_real (X := X) hH hoff hm'
  have hW : ∀ j, IsBlock (weights (mk j) triStrict (cross (H.qh j) (truncf .bf16 (rows H.K (off (half j)) : FVec Ideal S256x128 .f32) bitsLt_bf16_f32)) (s.carry j))
      (blockW X h i m m' M j) := fun j => weights_real (hmk j) (hz j) (hs.carry j)
  have hS : ∀ j, IsBlock (slope (mk j) triStrict triWeak (cross (H.qh j) (truncf .bf16 (rows H.K (off (half j)) : FVec Ideal S256x128 .f32) bitsLt_bf16_f32))
      (cross (H.doh j) (truncf .bf16 (rows H.V (off (half j)) : FVec Ideal S256x128 .f32) bitsLt_bf16_f32)) (s.carry j) (H.total j) (s.right j))
      (blockS X h i m m' M j) := fun j => slope_real (hmk j) (hz j) (hd j) (hs.carry j) (hH.total j) (hs.right j)
  have cK : ∀ j c, Covers (m j) (m' j) (fun b => dkRow X h i j b c) (fun q => ∑ p ∈ range 256, blockS X h i m m' M j p q * qLane X h i j p c) :=
    fun j c => Covers.rows (fun p hp => covers_slant (X := X) (h := h) hm' hstep j p hp) (fun p => qLane X h i j p c)
  have cV : ∀ j c, Covers (m j) (m' j) (fun b => dvRow X h i j b c) (fun q => ∑ p ∈ range 256, blockW X h i m m' M j p q * gLane X h i j p c) :=
    fun j c => Covers.rows (fun p hp => covers_weight (X := X) (h := h) hm' hstep j p hp) (fun p => gLane X h i j p c)
  refine ⟨fun j => ?_, fun j => ?_, fun j => ?_, ?_, ?_⟩
  · exact (hcarry j _ _ (rowSum_real (left_real (hmk j) (hz j)))).congr fun p hp => (covers_mass (X := X) (h := h) hm' hstep j p hp).sum (hm' j)
  · exact ((hs.right j).add (rowSum_real (pull_real (hmk j) (hz j) (hd j) (hs.carry j)))).congr fun p hp =>
      (covers_flow (X := X) (h := h) hm' hstep j p hp).sum (hm' j)
  · exact ((hs.dq j).add (query_real (hS j) (kb_real hH hoff hm' j))).congr fun p c hp =>
      ((covers_slant (X := X) (h := h) hm' hstep j p hp).mul (fun b => X.k b (128 * h + c))).sum (hm' j)
  · refine (two_rows hoff hm' (two_rows hoff hm' hs.DK 0 1 rfl (key_real (hS 0) (hH.qh 0)) (key_real (hS 1) (hH.qh 1)) (cK 0) (cK 1)) 2 3 rfl
      (key_real (hS 2) (hH.qh 2)) (key_real (hS 3) (hH.qh 3)) (cK 2) (cK 3)).congr fun b c => ?_
    rw [Fin.sum_univ_four, Fin.sum_univ_four]; ring
  · refine (two_rows hoff hm' (two_rows hoff hm' hs.DV 0 1 rfl (key_real (hW 0) (hH.doh 0)) (key_real (hW 1) (hH.doh 1)) (cV 0) (cV 1)) 2 3 rfl
      (key_real (hW 2) (hH.doh 2)) (key_real (hW 3) (hH.doh 3)) (cV 2) (cV 3)).congr fun b c => ?_
    rw [Fin.sum_univ_four, Fin.sum_univ_four]; ring

end Step

/-! ### The words of a trip -/

theorem off1_group : ∀ q : Fin 16, ∀ j : Fin 4, k0_off1 (group q) (half j) = ![256 * (2 * q.val + j.val / 2), 0] := by decide +kernel
theorem off2_group : ∀ q : Fin 16, ∀ n : Fin 34, 1 ≤ n.val → n.val ≤ 2 * q.val + 1 → ∀ j : Fin 4,
    k0_off2 (group q) (BitVec.ofNat 32 n.val) (half j) = ![256 * (2 * q.val + j.val / 2 - n.val), 0] := by decide +kernel
theorem live_group : ∀ q : Fin 16, ∀ n : Fin 34, 1 ≤ n.val → n.val ≤ 2 * q.val + 1 → ∀ j : Fin 4,
    (live (group q) (BitVec.ofNat 32 n.val) (half j) = 1#1 ↔ n.val ≤ 2 * q.val + j.val / 2) := by decide +kernel

theorem off1_eq (i : grid0.Coords) (j : Fin 4) : k0_off1 i (half j) = ![256 * (2 * (qi i).val + j.val / 2), 0] := off1_group (qi i) j
theorem off2_eq (i : grid0.Coords) (n : ℕ) (h1 : 1 ≤ n) (hn : n ≤ 2 * (qi i).val + 1) (j : Fin 4) :
    k0_off2 i (BitVec.ofNat 32 n) (half j) = ![256 * (2 * (qi i).val + j.val / 2 - n), 0] :=
  off2_group (qi i) ⟨n, by have := (qi i).isLt; omega⟩ h1 hn j
theorem live_iff (i : grid0.Coords) (n : ℕ) (h1 : 1 ≤ n) (hn : n ≤ 2 * (qi i).val + 1) (j : Fin 4) :
    live i (BitVec.ofNat 32 n) (half j) = 1#1 ↔ n ≤ 2 * (qi i).val + j.val / 2 :=
  live_group (qi i) ⟨n, by have := (qi i).isLt; omega⟩ h1 hn j

/-- With the threshold at minus infinity no trip is the last before its time. -/
theorem next_eq (i : grid0.Coords) (s : Carried Ideal) (cr : Fin 4 → FVec Ideal S256x1 .f32) : next i s cr = Scalar.addi s.r 1#32 := by
  unfold next
  have e : ∀ x : Ideal .f32, Scalar.cmpf .olt x (Named.named κ "exit" 0xC2F00000#32 : Ideal .f32) = 0#1 := fun x => by
    show BitVec.ofBool (decide (x < (⊥ : EReal))) = 0#1
    rw [decide_eq_false not_lt_bot]; rfl
  rw [e]; rfl

/-! ### A whole grid point -/

section Point

variable {X h} {gi : grid0.Coords} {H : Held Ideal} (hH : Holds X h (qi gi).val H)

/-- Right of its diagonal block a row has no mass, weight or score gradient. -/
theorem beyond (j : Fin 4) (p b : ℕ) (hp : p < 256) (hb : 256 * (2 * i + j.val / 2 + 1) ≤ b) : ¬ b < base i j + p := by
  unfold base; omega

theorem dkRow_beyond (j : Fin 4) (b c : ℕ) (hb : 256 * (2 * i + j.val / 2 + 1) ≤ b) : dkRow X h i j b c = 0 :=
  sum_eq_zero fun p hp => by rw [Arrays.slant, if_neg (beyond i j p b (mem_range.1 hp) hb), zero_mul]
theorem dvRow_beyond (j : Fin 4) (b c : ℕ) (hb : 256 * (2 * i + j.val / 2 + 1) ≤ b) : dvRow X h i j b c = 0 :=
  sum_eq_zero fun p hp => by rw [Arrays.weight, if_neg (beyond i j p b (mem_range.1 hp) hb), zero_mul]

/-- Before the diagonal block nothing is carried. -/
theorem stands_start {x y : S8192x128.Idx → EReal} {DK DV : ℕ → ℕ → ℝ} (hx : IsBuf x DK) (hy : IsBuf y DV) :
    Stands X h i (fun j => 2 * i + j.val / 2 + 1) DK DV
      { r := 0#32, carry := fun _ => zeroCol, right := fun _ => zeroCol, dq := fun _ => zeroRows, DK := x, DV := y } where
  carry j := fun p c => by
    dsimp only
    rw [show ∑ b ∈ Ico (256 * (2 * i + j.val / 2 + 1)) 8192, X.mass (head h j) (base i j + p.val) b = 0 from
      sum_eq_zero fun b hb => if_neg (beyond i j p.val b p.isLt (mem_Ico.1 hb).1)]
    pointwise [zeroCol]; rfl
  right j := fun p c => by
    dsimp only
    rw [show ∑ b ∈ Ico (256 * (2 * i + j.val / 2 + 1)) 8192, X.flow (head h j) (base i j + p.val) b = 0 from
      sum_eq_zero fun b hb => by rw [Arrays.flow, Arrays.weight, if_neg (beyond i j p.val b p.isLt (mem_Ico.1 hb).1), mul_zero]]
    pointwise [zeroCol]; rfl
  dq j := fun p c => by
    dsimp only
    rw [show ∑ b ∈ Ico (256 * (2 * i + j.val / 2 + 1)) 8192, X.slant (head h j) (base i j + p.val) b * X.k b (128 * h + c.val) = 0 from
      sum_eq_zero fun b hb => by rw [Arrays.slant, if_neg (beyond i j p.val b p.isLt (mem_Ico.1 hb).1), zero_mul]]
    pointwise [zeroRows]; rfl
  DK := hx.congr fun b c => by
    rw [sum_eq_zero fun j _ => ?_, add_zero]
    split
    · exact dkRow_beyond i j b c ‹_›
    · rfl
  DV := hy.congr fun b c => by
    rw [sum_eq_zero fun j _ => ?_, add_zero]
    split
    · exact dvRow_beyond i j b c ‹_›
    · rfl

include hH

/-- After the diagonal block. -/
theorem stands_diag {x y : S8192x128.Idx → EReal} {DK DV : ℕ → ℕ → ℝ} (hx : IsBuf x DK) (hy : IsBuf y DV) :
    Stands X h (qi gi).val (fun j => 2 * (qi gi).val + j.val / 2) DK DV (diag gi H x y) := by
  have hq := (qi gi).isLt
  refine block_step hH (stands_start (qi gi).val hx hy) (M := fun _ p q => q < p) (fun _ => causal_masks) (off1_eq gi) (fun j => by omega)
    (fun j => .inl ⟨rfl, fun p hp q hq' => ?_⟩) _ _ fun j x r hr => hr.congr fun p hp => ?_
  · unfold base; omega
  · have e : ∑ b ∈ Ico (256 * (2 * (qi gi).val + j.val / 2 + 1)) 8192, X.mass (head h j) (base (qi gi).val j + p) b = 0 :=
      sum_eq_zero fun b hb => if_neg (beyond _ j p b hp (mem_Ico.1 hb).1)
    exact ((congrArg (· + r p) e).trans (zero_add _)).symm

/-- After one trip more. -/
theorem stands_trip {DK DV : ℕ → ℕ → ℝ} {s : Carried Ideal} (n : ℕ) (h1 : 1 ≤ n) (hn : n ≤ 2 * (qi gi).val + 1) (hr : s.r = BitVec.ofNat 32 n)
    (hs : Stands X h (qi gi).val (fun j => 2 * (qi gi).val + j.val / 2 + 1 - n) DK DV s) :
    Stands X h (qi gi).val (fun j => 2 * (qi gi).val + j.val / 2 + 1 - (n + 1)) DK DV (trip gi H s)
      ∧ (trip gi H s).r = BitVec.ofNat 32 (n + 1) := by
  have hq := (qi gi).isLt
  have key : Stands X h (qi gi).val (fun j => 2 * (qi gi).val + j.val / 2 + 1 - (n + 1)) DK DV
      (block H (fun j => kept (live gi s.r (half j))) (k0_off2 gi s.r) s.r (fun j x => addf (s.carry j) x) s) := by
    rw [hr]
    refine block_step hH hs (M := fun j _ _ => live gi (BitVec.ofNat 32 n) (half j) = 1#1) (fun j => kept_masks _) (fun j => ?_) (fun j => by omega)
      (fun j => ?_) _ _ fun j x r hx => (hs.carry j).add hx
    · rw [off2_eq gi n h1 hn j]
      rw [show 2 * (qi gi).val + j.val / 2 - n = 2 * (qi gi).val + j.val / 2 + 1 - (n + 1) by omega]
    · by_cases hl : n ≤ 2 * (qi gi).val + j.val / 2
      · refine .inl ⟨by omega, fun p hp q hq' => ?_⟩
        rw [live_iff gi n h1 hn j]
        unfold base
        dsimp only
        constructor
        · intro; omega
        · intro; exact hl
      · exact .inr ⟨by omega, by omega, fun p q => by rw [live_iff gi n h1 hn j]; exact hl⟩
  refine ⟨⟨key.carry, key.right, key.dq, key.DK, key.DV⟩, ?_⟩
  have e : (trip gi H s).r = next gi s (trip gi H s).carry := rfl
  rw [e, next_eq, hr]
  exact succ_word ⟨n, by omega⟩

/-- The walk reaches the first key block. -/
theorem stands_walk {DK DV : ℕ → ℕ → ℝ} : ∀ (k n : ℕ) (s : Carried Ideal), 1 ≤ n → n ≤ 2 * (qi gi).val + 2 → 2 * (qi gi).val + 2 ≤ n + k →
    s.r = BitVec.ofNat 32 n → Stands X h (qi gi).val (fun j => 2 * (qi gi).val + j.val / 2 + 1 - n) DK DV s →
    Stands X h (qi gi).val (fun _ => 0) DK DV (walk gi H k s) := by
  have hq := (qi gi).isLt
  have done : ∀ (n : ℕ) (s : Carried Ideal), n = 2 * (qi gi).val + 2 → Stands X h (qi gi).val (fun j => 2 * (qi gi).val + j.val / 2 + 1 - n) DK DV s →
      Stands X h (qi gi).val (fun _ => 0) DK DV s := fun n s hn hs => by
    have e : (fun j : Fin 4 => 2 * (qi gi).val + j.val / 2 + 1 - n) = fun _ => 0 := funext fun j => by omega
    rw [e] at hs; exact hs
  intro k
  induction k with
  | zero => intro n s h1 hn hk hr hs; exact done n s (by omega) hs
  | succ k ih =>
    intro n s h1 hn hk hr hs
    unfold walk
    by_cases ht : n ≤ 2 * (qi gi).val + 1
    · rw [if_pos (by rw [hr]; exact (test_iff gi n (by omega)).2 ht)]
      obtain ⟨hs', hr'⟩ := stands_trip hH n h1 ht hr hs
      exact ih (n + 1) _ (by omega) (by omega) (by omega) hr' hs'
    · rw [if_neg (by rw [hr]; exact fun h => ht ((test_iff gi n (by omega)).1 h))]
      exact done n s (by omega) hs

/-- What a whole grid point leaves. -/
theorem stands_point {x y : S8192x128.Idx → EReal} {DK DV : ℕ → ℕ → ℝ} (hx : IsBuf (start (F := Ideal) gi x) DK) (hy : IsBuf (start (F := Ideal) gi y) DV) :
    Stands X h (qi gi).val (fun _ => 0) DK DV (point gi H x y) := by
  have hq := (qi gi).isLt
  refine stands_walk hH 33 1 _ (by omega) (by omega) (by omega) rfl ?_
  have hs := stands_diag hH hx hy
  rwa [show (fun j : Fin 4 => 2 * (qi gi).val + j.val / 2) = fun j => 2 * (qi gi).val + j.val / 2 + 1 - 1 from rfl] at hs

end Point

end Cert.Sb
-- ==== Proof.SbHolds.lean ====
/-
  What a grid point reads, over the reals, and what the grid points of a head pair leave together: the key-side sums
  over all query rows, and each query block's gradient.
-/
module

public import proofs.«01_k».proof.Proof.SbWalk

@[expose] public section

set_option maxRecDepth 16384

noncomputable section

namespace Cert.Sb

open Idealize.ShloMosaic Kernel2Ideal Kernel2Ideal.Gen Finset

/-! ### The blocks a point reads -/

theorem scale_word : Ideal.ofBits .f32 0x3E000000#32 = ((1 / 8 : ℝ) : EReal) := by
  simp [Ideal.ofBits, Ideal.ieee]
  rw [← EReal.coe_mul]
  norm_num

/-- A head's lanes. -/
theorem lanes_at (j : Fin 4) (p : Fin 256) (c : Fin 128) : lanes j (ix2 p c) = BitVec.ofBool (decide (c.val / 64 = j.val % 2)) := by
  have hc := c.isLt
  have lo : cmpi .slt (iota .tc S256x128 32 [1] iota_S256x128_d1_w32) (broadcast S256x128 64#32) (ix2 p c) = BitVec.ofBool (decide (c.val < 64)) := by
    pointwise
    exact WordCmp.cmpi_slt_ofNat (by omega) (by omega)
  have hi : cmpi .sge (iota .tc S256x128 32 [1] iota_S256x128_d1_w32) (broadcast S256x128 64#32) (ix2 p c) = BitVec.ofBool (decide (64 ≤ c.val)) := by
    pointwise
    exact WordCmp.cmpi_sge_ofNat (by omega) (by omega)
  have e0 : decide (c.val < 64) = decide (c.val / 64 = 0) := decide_eq_decide.2 (by omega)
  have e1 : decide (64 ≤ c.val) = decide (c.val / 64 = 1) := decide_eq_decide.2 (by omega)
  rw [e0] at lo
  rw [e1] at hi
  match j with
  | 0 => exact lo
  | 1 => exact hi
  | 2 => exact lo
  | 3 => exact hi

theorem pick (p : Prop) [Decidable p] (x y : EReal) : Scalar.select (BitVec.ofBool (decide p)) x y = if p then x else y := by
  by_cases h : p <;> simp [Scalar.select, h]

theorem only_real {x : FVec Ideal S256x128 .f32} {r : ℕ → ℕ → ℝ} (hx : IsRows x r) (j : Fin 4) :
    IsRows (only j x) (fun p c => if c / 64 = j.val % 2 then r p c else 0) := fun p c => by
  have e : only j x (ix2 p c) = Scalar.select (lanes j (ix2 p c)) (x (ix2 p c)) 0 := by pointwise [only]
  rw [e, lanes_at, pick, hx, ← EReal.coe_zero]
  exact (apply_ite _ _ _ _).symm

theorem half_real {x : S512x128.Idx → EReal} {r : ℕ → ℕ → ℝ} (hx : ∀ (p : Fin 512) (c : Fin 128), x (ix2 p c) = ((r p.val c.val : ℝ) : EReal)) (j : Fin 4) :
    IsRows (halfRows x j) (fun p c => r (256 * (j.val / 2) + p) c) := fun p c => by
  have e0 : ∀ inb, VecWindow.window x ![0, 0] S256x128.size inb (ix2 p c) = ((r (256 * 0 + p.val) c.val : ℝ) : EReal) := fun inb => by
    refine Eq.trans (congrArg x (?_ : _ = ix2 (⟨256 * 0 + p.val, by omega⟩ : Fin 512) c)) (hx _ _)
    refine funext fun a => Fin.ext ?_
    match a with
    | ⟨0, _⟩ => show 0 + 1 * p.val = 256 * 0 + p.val; omega
    | ⟨1, _⟩ => show 0 + 1 * c.val = c.val; omega
  have e1 : ∀ inb, VecWindow.window x ![256, 0] S256x128.size inb (ix2 p c) = ((r (256 * 1 + p.val) c.val : ℝ) : EReal) := fun inb => by
    refine Eq.trans (congrArg x (?_ : _ = ix2 (⟨256 * 1 + p.val, by omega⟩ : Fin 512) c)) (hx _ _)
    refine funext fun a => Fin.ext ?_
    match a with
    | ⟨0, _⟩ => show 256 + 1 * p.val = 256 * 1 + p.val; omega
    | ⟨1, _⟩ => show 0 + 1 * c.val = c.val; omega
  match j with
  | 0 => exact e0 inb_S512x128_S256x128_0_0
  | 1 => exact e0 inb_S512x128_S256x128_0_0
  | 2 => exact e1 inb_S512x128_S256x128_256_0
  | 3 => exact e1 inb_S512x128_S256x128_256_0

section point

variable (X : Arrays) (h i : ℕ)

/-- The output at a column of a head pair's block. -/
def outAt (a c : ℕ) : ℝ := X.out (2 * h + c / 64) a (c % 64)

/-- A point that reads its blocks of the arrays, with the output that its queries, keys and values have, holds what the walk needs. -/
theorem holds {q o : S512x128.Idx → EReal} {k v : S8192x128.Idx → EReal} {g : S512x128.Idx → EReal}
    (hq : ∀ (p : Fin 512) (c : Fin 128), q (ix2 p c) = ((X.q (512 * i + p.val) (128 * h + c.val) : ℝ) : EReal))
    (hk : IsBuf k fun b c => X.k b (128 * h + c)) (hv : IsBuf v fun b c => X.v b (128 * h + c))
    (ho : ∀ (p : Fin 512) (c : Fin 128), o (ix2 p c) = ((outAt X h (512 * i + p.val) c.val : ℝ) : EReal))
    (hg : ∀ (p : Fin 512) (c : Fin 128), g (ix2 p c) = ((X.g (512 * i + p.val) (128 * h + c.val) : ℝ) : EReal)) :
    Holds X h i (held (F := Ideal) q k v o g) where
  qh j := fun p c => by
    have e : (held (F := Ideal) q k v o g).qh j (ix2 p c) = only (F := Ideal) j (halfRows q j) (ix2 p c) * Ideal.ofBits .f32 0x3E000000#32 := rfl
    rw [e, only_real (half_real (r := fun p c => X.q (512 * i + p) (128 * h + c)) hq j), scale_word, ← EReal.coe_mul]
    congr 1
    unfold qLane base
    dsimp only
    rw [show 512 * i + (256 * (j.val / 2) + p.val) = 256 * (2 * i + j.val / 2) + p.val by ring]
    split <;> simp
  doh j := fun p c => by
    have e : (held (F := Ideal) q k v o g).doh j (ix2 p c) = only (F := Ideal) j (halfRows g j) (ix2 p c) := rfl
    rw [e, only_real (half_real (r := fun p c => X.g (512 * i + p) (128 * h + c)) hg j)]
    congr 1
    unfold gLane base
    dsimp only
    rw [show 512 * i + (256 * (j.val / 2) + p.val) = 256 * (2 * i + j.val / 2) + p.val by ring]
  total j := fun p c => by
    have hG := only_real (half_real (r := fun p c => X.g (512 * i + p) (128 * h + c)) hg j) j
    have hO := half_real (r := fun p c => outAt X h (512 * i + p) c) ho j
    have e : (held (F := Ideal) q k v o g).total j (ix2 p c) = ∑ d : Fin 128, only (F := Ideal) j (halfRows g j) (ix2 p d) * halfRows o j (ix2 p d) := by
      have : (held (F := Ideal) q k v o g).total j = shapeCast S256x1 (multiReduction (F := Ideal) (φ := .f32) .add [1] S256
        (mulf (only (F := Ideal) j (halfRows g j)) (shapeCast S256x128 (halfRows o j) shapeCasts_S256x128_S256x128))
        0x00000000#32 reduces_S256x128_S256 (.inl rfl) rfl) shapeCasts_S256_S256x1 := rfl
      rw [this]
      generalize only (F := Ideal) j (halfRows g j) = u
      generalize halfRows o j = w
      pointwise
    dsimp only
    rw [e, ← Arrays.total]
    refine (sum_congr rfl fun d _ => ?_).trans ((coe_sum (fun d => (if d / 64 = j.val % 2 then X.g (512 * i + (256 * (j.val / 2) + p.val)) (128 * h + d) else 0)
      * outAt X h (512 * i + (256 * (j.val / 2) + p.val)) d) 128).trans (congrArg _ ?_))
    · rw [hG, hO, ← EReal.coe_mul]
    · rw [lane_sum (fun d => X.g (512 * i + (256 * (j.val / 2) + p.val)) (128 * h + d)) _ _ (by omega)]
      refine sum_congr rfl fun d hd => ?_
      have hd' := mem_range.1 hd
      unfold outAt head base
      rw [show 512 * i + (256 * (j.val / 2) + p.val) = 256 * (2 * i + j.val / 2) + p.val by ring,
        show 128 * h + (64 * (j.val % 2) + d) = 64 * (2 * h + j.val % 2) + d by ring,
        show (64 * (j.val % 2) + d) / 64 = j.val % 2 by omega, show (64 * (j.val % 2) + d) % 64 = d by omega]
  K := hk
  V := hv

/-! ### The sums over all rows -/

/-- The rows of a point's four chains, of which two have a column's head, are the point's 512 rows. -/
theorem chain_rows (s : ℕ → ℕ → ℝ) (t : ℕ → ℝ) (c : ℕ) (hc : c < 128) :
    ∑ j : Fin 4, ∑ p ∈ range 256, s (head h j) (base i j + p) * (if c / 64 = j.val % 2 then t (base i j + p) else 0)
      = ∑ a ∈ range 512, s (2 * h + c / 64) (512 * i + a) * t (512 * i + a) := by
  rw [Fin.sum_univ_four, show (512 : ℕ) = 256 + 256 from rfl, sum_range_add]
  have b0 : base i 0 = 512 * i := by show 256 * (2 * i + 0 / 2) = 512 * i; omega
  have b1 : base i 1 = 512 * i := by show 256 * (2 * i + 1 / 2) = 512 * i; omega
  have b2 : base i 2 = 512 * i + 256 := by show 256 * (2 * i + 2 / 2) = 512 * i + 256; omega
  have b3 : base i 3 = 512 * i + 256 := by show 256 * (2 * i + 3 / 2) = 512 * i + 256; omega
  rw [b0, b1, b2, b3]
  simp only [← Nat.add_assoc]
  rcases (by omega : c / 64 = 0 ∨ c / 64 = 1) with e | e <;> rw [e] <;> simp [head]

/-- Blocks of 512 rows, one after the other. -/
theorem block_rows (f : ℕ → ℝ) : ∀ n : ℕ, ∑ i ∈ range n, ∑ a ∈ range 512, f (512 * i + a) = ∑ a ∈ range (512 * n), f a
  | 0 => by simp
  | n + 1 => by rw [sum_range_succ, block_rows f n, Nat.mul_add, Nat.mul_one, sum_range_add]

/-- What the points before `i` of the head pair have left. -/
def dkBefore (b c : ℕ) : ℝ := ∑ i' ∈ range i, ∑ j, dkRow X h i' j b c
def dvBefore (b c : ℕ) : ℝ := ∑ i' ∈ range i, ∑ j, dvRow X h i' j b c

theorem dk_all (b c : ℕ) (hc : c < 128) : dkBefore X h 16 b c = X.dk (2 * h + c / 64) b (c % 64) := by
  unfold dkBefore Arrays.dk
  rw [show 64 * (2 * h + c / 64) + c % 64 = 128 * h + c by omega, show (8192 : ℕ) = 512 * 16 from rfl, ← block_rows]
  exact sum_congr rfl fun i _ => chain_rows h i (fun n a => X.slant n a b) (fun a => X.q a (128 * h + c) * (1 / 8)) c hc

theorem dv_all (b c : ℕ) (hc : c < 128) : dvBefore X h 16 b c = X.dv (2 * h + c / 64) b (c % 64) := by
  unfold dvBefore Arrays.dv
  rw [show 64 * (2 * h + c / 64) + c % 64 = 128 * h + c by omega, show (8192 : ℕ) = 512 * 16 from rfl, ← block_rows]
  exact sum_congr rfl fun i _ => chain_rows h i (fun n a => X.weight n a b) (fun a => X.g a (128 * h + c)) c hc

/-- A point's key-side sums join those before it. -/
theorem dk_next {s : Carried Ideal} (hs : Stands X h i (fun _ => 0) (dkBefore X h i) (dvBefore X h i) s) : IsBuf s.DK (dkBefore X h (i + 1)) :=
  hs.DK.congr fun b c => by
    unfold dkBefore
    rw [sum_range_succ]
    exact congrArg _ (sum_congr rfl fun j _ => if_pos (by omega))

theorem dv_next {s : Carried Ideal} (hs : Stands X h i (fun _ => 0) (dkBefore X h i) (dvBefore X h i) s) : IsBuf s.DV (dvBefore X h (i + 1)) :=
  hs.DV.congr fun b c => by
    unfold dvBefore
    rw [sum_range_succ]
    exact congrArg _ (sum_congr rfl fun j _ => if_pos (by omega))

/-- Two chains' query gradients, each at its own head's lanes. -/
theorem dqRows_at (a b : FVec Ideal S256x128 .f32) (p : Fin 256) (c : Fin 128) :
    dqRows a b (ix2 p c) = (if c.val / 64 = 0 then a (ix2 p c) else b (ix2 p c)) * ((1 / 8 : ℝ) : EReal) := by
  have e : dqRows a b (ix2 p c) = Scalar.select (lanes 0 (ix2 p c)) (a (ix2 p c)) (b (ix2 p c)) * Ideal.ofBits .f32 0x3E000000#32 := rfl
  rw [e, lanes_at, pick, scale_word]
  rfl

/-- The query gradient's block. -/
theorem dqOut_at {DK DV : ℕ → ℕ → ℝ} {s : Carried Ideal} (hs : Stands X h i (fun _ => 0) DK DV s) (p : Fin 512) (c : Fin 128) :
    dqOut s (ix2 p c) = ((X.dq (2 * h + c.val / 64) (512 * i + p.val) (c.val % 64) : ℝ) : EReal) := by
  have hc := c.isLt
  have hp := p.isLt
  have one : ∀ (j j' : Fin 4) (r : Fin 256), j.val % 2 = 0 → j'.val = j.val + 1 → 256 * (j.val / 2) + r.val = p.val →
      dqRows (s.dq j) (s.dq j') (ix2 r c) = ((X.dq (2 * h + c.val / 64) (512 * i + p.val) (c.val % 64) : ℝ) : EReal) := fun j j' r h0 h1 hr => by
    rw [dqRows_at, hs.dq j, hs.dq j', ← apply_ite (fun x : ℝ => (x : EReal)), ← EReal.coe_mul]
    congr 1
    unfold Arrays.dq head base
    dsimp only
    rw [show 64 * (2 * h + c.val / 64) + c.val % 64 = 128 * h + c.val by omega,
      show 256 * (2 * i + j.val / 2) + r.val = 512 * i + p.val by omega, show 256 * (2 * i + j'.val / 2) + r.val = 512 * i + p.val by omega,
      h0, show j'.val % 2 = 1 by omega, Nat.mul_zero, ← range_eq_Ico]
    rcases (by omega : c.val / 64 = 0 ∨ c.val / 64 = 1) with e | e <;> rw [e] <;> simp
  unfold dqOut
  by_cases hp2 : 256 ≤ p.val
  · rw [dif_pos (fun a => match a with
      | ⟨0, _⟩ => ⟨hp2, hp⟩
      | ⟨1, _⟩ => ⟨Nat.zero_le _, by show c.val < 0 + 128; omega⟩)]
    refine Eq.trans (congrArg (dqRows (s.dq 2) (s.dq 3)) (?_ : _ = ix2 (⟨p.val - 256, by omega⟩ : Fin 256) c)) (one 2 3 _ rfl rfl (by show 256 * (2 / 2) + (p.val - 256) = p.val; omega))
    refine funext fun a => Fin.ext ?_
    match a with
    | ⟨0, _⟩ => rfl
    | ⟨1, _⟩ => rfl
  · rw [dif_neg (fun hh => hp2 (hh 0).1)]
    refine Eq.trans (congrArg (dqRows (s.dq 0) (s.dq 1)) (?_ : _ = ix2 (⟨p.val, by omega⟩ : Fin 256) c)) (one 0 1 _ rfl rfl (by show 256 * (0 / 2) + p.val = p.val; omega))
    refine funext fun a => Fin.ext ?_
    match a with
    | ⟨0, _⟩ => exact Nat.mod_eq_of_lt (show p.val < 256 by omega)
    | ⟨1, _⟩ => exact Nat.mod_eq_of_lt hc

/-- The scratch buffers a point starts from. -/
theorem start_real (gi : grid0.Coords) {x : S8192x128.Idx → EReal} {f : ℕ → ℕ → ℝ} (h0 : (gi 1).val = 0 → ∀ b c, f b c = 0)
    (h1 : (gi 1).val ≠ 0 → IsBuf x f) : IsBuf (start (F := Ideal) gi x) f := by
  have test : ∀ q : Fin 16, (Scalar.cmpi .ne (Scalar.extui (Scalar.cmpi .eq (BitVec.ofNat 32 q.val) 0#32) : BitVec 32) 0#32 = 1#1) ↔ q.val = 0 := by decide
  unfold start
  by_cases hq : (gi 1).val = 0
  · rw [if_pos ((test (gi 1)).2 hq)]
    intro b c
    rw [h0 hq, EReal.coe_zero]
    pointwise
  · rw [if_neg fun h => hq ((test (gi 1)).1 h)]
    exact h1 hq

end point

end Cert.Sb
-- ==== Proof.SbBody.lean ====
/-
  The body of region `cc0_sb_attention_bwd` of `Kernel2Ideal` at any whole staging buffers: from the blocks it finds it
  leaves the query gradient's block, at a head pair's last point the two key-side gradients, and the scratch buffers of
  `Sb.point`.
-/
module

public import proofs.«01_k».proof.Proof.SbLoop

@[expose] public section

noncomputable section

namespace Cert.Sb

open Kernel2Ideal Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### Whole buffers, and a block in two halves -/

/-- A window of the buffer's own sizes is the buffer, -/
theorem window_full {α : Type} (x : S8192x128.Idx → α) (inb : ∀ a, (![0, 0] : Fin 2 → ℕ) a + S8192x128.size a ≤ S8192x128.size a) :
    VecWindow.window (s := S8192x128) x ![0, 0] S8192x128.size inb = x := by
  funext y
  refine congrArg x (funext fun a => Fin.ext ?_)
  have h0 : (![0, 0] : Fin 2 → ℕ) a = 0 := by revert a; decide
  show (![0, 0] : Fin 2 → ℕ) a + 1 * (y a).val = (y a).val
  rw [h0, zero_add, one_mul]

/-- and a payload over all of it replaces it. -/
theorem put_full {α : Type} (x : S8192x128.Idx → α) (w : S8192x128.Idx → α) :
    VecWindow.put (s := S8192x128) x ![0, 0] S8192x128.size w = w := by
  have h := VecWindow.window_put_same (s := S8192x128) x ![0, 0] S8192x128.size inb_S8192x128_S8192x128_0_0 w
  rw [window_full] at h
  exact h

/-- The two halves of the query gradient's block, put one after the other. -/
theorem put_halves (d : S512x128.Idx → F .bf16) (s : Carried F) :
    VecWindow.put (s := S512x128) (VecWindow.put (s := S512x128) d ![0, 0] S256x128.size (dqRows (s.dq 0) (s.dq 1)))
      ![256, 0] S256x128.size (dqRows (s.dq 2) (s.dq 3)) = dqOut s := by
  funext y
  unfold VecWindow.put dqOut
  split
  · rfl
  · rename_i h
    have hy0 : (y 0).val < 256 := by
      by_contra hc
      refine h (fun a => ?_)
      have h0 : (y 0).val < 512 := (y 0).isLt
      have h1 : (y 1).val < 128 := (y 1).isLt
      fin_cases a
      · exact ⟨by show 256 ≤ (y 0).val; omega, by show (y 0).val < 256 + 256; omega⟩
      · exact ⟨by show 0 ≤ (y 1).val; omega, by show (y 1).val < 0 + 128; omega⟩
    have hy : ∀ a, (![0, 0] : Fin 2 → ℕ) a ≤ (y a).val ∧ (y a).val < (![0, 0] : Fin 2 → ℕ) a + S256x128.size a := fun a => by
      have h1 : (y 1).val < 128 := (y 1).isLt
      fin_cases a
      · exact ⟨by show 0 ≤ (y 0).val; omega, by show (y 0).val < 0 + 256; omega⟩
      · exact ⟨by show 0 ≤ (y 1).val; omega, by show (y 1).val < 0 + 128; omega⟩
    rw [dif_pos hy]
    refine congrArg _ (funext fun a => Fin.ext ?_)
    have h0 : ∀ a, (![0, 0] : Fin 2 → ℕ) a = 0 := by decide
    have h2 := (hy a).2
    rw [h0, zero_add] at h2
    show (y a).val - (![0, 0] : Fin 2 → ℕ) a = (y a).val % S256x128.size a
    rw [h0, Nat.sub_zero, Nat.mod_eq_of_lt h2]

section Body

variable (c : Dev nD) (i : grid0.Coords)

/-- A load of a whole buffer. -/
theorem load_full {bd : Option ℕ} {E : Set ℕ} {α : Type} {e : EltTy} {Q : α → sProp (MT nD τ sig Unit (Elt F) ℕ (UR sig nD τ) ℕ)}
    {m : Memref sig .tc .vmem S8192x128 e} {inb : ∀ a, (![0, 0] : Fin 2 → ℕ) a + S8192x128.size a ≤ S8192x128.size a}
    {hl : m.view.LoadsAt (Rect.unit (s := S8192x128) ![0, 0] S8192x128.size inb).toLoadRect} {x : S8192x128.Idx → Elt F e}
    {k : (S8192x128.Idx → Elt F e) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) 𝒱₀ (c : Thread nD τ) bd) E (k x) Q)
        -∗ wp frame (wpE (defs₀ (F := F)) 𝒱₀ (c : Thread nD τ) bd) E (.op (.load m (Rect.unit (s := S8192x128) ![0, 0] S8192x128.size inb).toLoadRect hl) k) Q) := by
  have h := ByValue.load 𝒱₀ (c : Thread nD τ) bd E (defs := defs₀ (F := F)) (m := m) (inb := inb) (hl := hl) (x := x) (k := k) (Q := Q)
  rw [window_full] at h
  exact h

/-- A store of a whole buffer. -/
theorem store_full {bd : Option ℕ} {E : Set ℕ} {α : Type} {e : EltTy} {Q : α → sProp (MT nD τ sig Unit (Elt F) ℕ (UR sig nD τ) ℕ)}
    {m : Memref sig .tc .vmem S8192x128 e} {inb : ∀ a, (![0, 0] : Fin 2 → ℕ) a + S8192x128.size a ≤ S8192x128.size a}
    {w : S8192x128.Idx → Elt F e} {hx : (m.access (Rect.unit (s := S8192x128) ![0, 0] S8192x128.size inb)).Stores Finset.univ}
    {hm : Finset.univ = Finset.univ ∨ ∀ a, (Rect.unit (s := S8192x128) ![0, 0] S8192x128.size inb).stride a = 1} {x : S8192x128.Idx → Elt F e}
    {k : PUnit → Prog (TpuEff nD τ sig (Elt F) (Λ₀ F) .tc) α} :
    (owns (c : Thread nD τ) m fullShare x : sProp 𝕄)
      ⊢ iprop((owns (c : Thread nD τ) m fullShare w -∗ wp frame (wpE (defs₀ (F := F)) 𝒱₀ (c : Thread nD τ) bd) E (k ⟨⟩) Q)
        -∗ wp frame (wpE (defs₀ (F := F)) 𝒱₀ (c : Thread nD τ) bd) E (.op (.store m (Rect.unit (s := S8192x128) ![0, 0] S8192x128.size inb) w Finset.univ hx hm) k) Q) := by
  have h := ByValue.store 𝒱₀ (c : Thread nD τ) bd E (defs := defs₀ (F := F)) (m := m) (inb := inb) (w := w) (hx := hx) (hm := hm) (x := x) (k := k) (Q := Q)
  rw [put_full] at h
  exact h

/-- A key-side gradient's buffer after a point: written at the head pair's last point only. -/
def kLeft (x : S8192x128.Idx → F .f32) (d : S8192x128.Idx → F .bf16) : S8192x128.Idx → F .bf16 :=
  if k0_cond2 i = 1#1 then kOut x else d

variable (arg2 : Memref sig .tc .vmem S512x128 .f32) (harg2 : arg2.IsWhole)
variable (arg3 : Memref sig .tc .vmem S8192x128 .f32) (harg3 : arg3.IsWhole) (arg4 : Memref sig .tc .vmem S8192x128 .f32) (harg4 : arg4.IsWhole)
variable (arg5 : Memref sig .tc .vmem S512x128 .f32) (harg5 : arg5.IsWhole) (arg6 : Memref sig .tc .vmem S512x128 .bf16) (harg6 : arg6.IsWhole)
variable (arg7 : Memref sig .tc .vmem S512x128 .bf16) (harg7 : arg7.IsWhole) (arg8 : Memref sig .tc .vmem S8192x128 .bf16) (harg8 : arg8.IsWhole)
variable (arg9 : Memref sig .tc .vmem S8192x128 .bf16) (harg9 : arg9.IsWhole)
variable (arg10 : Memref sig .tc .vmem S8192x128 .f32) (harg10 : arg10.IsWhole) (arg11 : Memref sig .tc .vmem S8192x128 .f32) (harg11 : arg11.IsWhole)
variable (x2 : S512x128.Idx → F .f32) (x3 x4 : S8192x128.Idx → F .f32) (x5 : S512x128.Idx → F .f32) (x6 : S512x128.Idx → F .bf16)
variable (d7 : S512x128.Idx → F .bf16) (d8 d9 : S8192x128.Idx → F .bf16) (DK DV : S8192x128.Idx → F .f32)

/-- All ten buffers at the given values. -/
def ten (y7 : S512x128.Idx → F .bf16) (y8 y9 : S8192x128.Idx → F .bf16) (y10 y11 : S8192x128.Idx → F .f32) : sProp 𝕄 :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare y7
    ∗ owns (c : Thread nD τ) arg8 fullShare y8 ∗ owns (c : Thread nD τ) arg9 fullShare y9 ∗ owns (c : Thread nD τ) arg10 fullShare y10
    ∗ owns (c : Thread nD τ) arg11 fullShare y11)

set_option maxHeartbeats 8000000 in
set_option maxRecDepth 65536 in
/-- The whole body, run once: from its blocks and the two scratch buffers to what the model says they hold after. -/
theorem body (E : Set ℕ) (Q : PUnit → sProp (MT nD τ sig Unit (Elt F) ℕ (UR sig nD τ) ℕ)) :
    (iprop(ten c arg2 arg3 arg4 arg5 arg6 arg7 arg8 arg9 arg10 arg11 x2 x3 x4 x5 x6 d7 d8 d9 DK DV
        ∗ (ten c arg2 arg3 arg4 arg5 arg6 arg7 arg8 arg9 arg10 arg11 x2 x3 x4 x5 x6 (dqOut (point i (held x2 x3 x4 x5 x6) DK DV))
              (kLeft i (point i (held x2 x3 x4 x5 x6) DK DV).DK d8) (kLeft i (point i (held x2 x3 x4 x5 x6) DK DV).DV d9)
              (point i (held x2 x3 x4 x5 x6) DK DV).DK (point i (held x2 x3 x4 x5 x6) DK DV).DV -∗ Q ⟨⟩)) : sProp 𝕄)
      ⊢ wp frame (wpE (defs₀ (F := F)) 𝒱₀ (c : Thread nD τ) none) E
          (cc0_sb_attention_bwd i arg2 harg2 arg3 harg3 arg4 harg4 arg5 harg5 arg6 harg6 arg7 harg7 arg8 harg8 arg9 harg9 arg10 harg10 arg11 harg11) Q := by
  have hq := (qi i).isLt
  simp only [cc0_sb_attention_bwd_eq_skeleton]; unfold cc0_sb_attention_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  unfold ten
  obtain ⟨DK', hDK⟩ : ∃ x, x = start i DK := ⟨_, rfl⟩
  obtain ⟨DV', hDV⟩ : ∃ x, x = start i DV := ⟨_, rfl⟩
  unfold point
  rw [← hDK, ← hDV]
  have hwalk := spec_le c i arg3 harg3 arg4 harg4 arg10 harg10 arg11 harg11 (held x2 x3 x4 x5 x6) E 33
    (diag i (held x2 x3 x4 x5 x6) DK' DV') 1 rfl le_rfl (by omega) (by omega)
  by_cases hreset : Scalar.cmpi .ne (Scalar.extui (Scalar.cmpi .eq (BitVec.ofNat 32 (i 1).val) 0#32) : BitVec 32) 0#32 = 1#1
  on_goal 1 =>
    simp only [hreset, ↓reduceDIte, Prog.lift, Prog.bind_op, Prog.bind_ret, Prog.pure_eq_ret]
    iintro ⟨⟨H2, H3, H4, H5, H6, H7, H8, H9, H10, H11⟩, Hk⟩
    iapply (load_full c) $$ H10; iintro H10
    iapply (store_full c) $$ H10; iintro H10
    iapply (load_full c) $$ H11; iintro H11
    iapply (store_full c) $$ H11; iintro H11
    have e10 : (k0_pay10 : S8192x128.Idx → F .f32) = DK' := hDK ▸ (if_pos hreset).symm
    have e11 : (k0_pay11 : S8192x128.Idx → F .f32) = DV' := hDV ▸ (if_pos hreset).symm
    rw [e10, e11]
  on_goal 2 =>
    have e10 : DK' = DK := hDK ▸ if_neg hreset
    have e11 : DV' = DV := hDV ▸ if_neg hreset
    subst e10 e11
    simp only [hreset, ↓reduceDIte, Prog.lift, Prog.bind_op, Prog.bind_ret, Prog.pure_eq_ret]
    iintro ⟨⟨H2, H3, H4, H5, H6, H7, H8, H9, H10, H11⟩, Hk⟩
  all_goals
    iapply (ByValue.load 𝒱₀ (c : Thread nD τ) none E) $$ H2; iintro H2
    iapply (ByValue.load 𝒱₀ (c : Thread nD τ) none E) $$ H6; iintro H6
    iapply (ByValue.load 𝒱₀ (c : Thread nD τ) none E) $$ H5; iintro H5
    iapply (ByValue.load 𝒱₀ (c : Thread nD τ) none E) $$ H2; iintro H2
    iapply (ByValue.load 𝒱₀ (c : Thread nD τ) none E) $$ H6; iintro H6
    iapply (ByValue.load 𝒱₀ (c : Thread nD τ) none E) $$ H5; iintro H5
    iapply (ByValue.load 𝒱₀ (c : Thread nD τ) none E) $$ H2; iintro H2
    iapply (ByValue.load 𝒱₀ (c : Thread nD τ) none E) $$ H6; iintro H6
    iapply (ByValue.load 𝒱₀ (c : Thread nD τ) none E) $$ H5; iintro H5
    iapply (ByValue.load 𝒱₀ (c : Thread nD τ) none E) $$ H2; iintro H2
    iapply (ByValue.load 𝒱₀ (c : Thread nD τ) none E) $$ H6; iintro H6
    iapply (ByValue.load 𝒱₀ (c : Thread nD τ) none E) $$ H5; iintro H5
    iapply (load_rows c) $$ H3; iintro H3
    iapply (load_rows c) $$ H4; iintro H4
    iapply (load_rows c) $$ H3; iintro H3
    iapply (load_rows c) $$ H4; iintro H4
    iapply (load_rows c) $$ H3; iintro H3
    iapply (load_rows c) $$ H11; iintro H11
    iapply (load_rows c) $$ H11; iintro H11
    iapply (ByValue.store 𝒱₀ (c : Thread nD τ) none E) $$ H11; iintro H11
    iapply (load_rows c) $$ H10; iintro H10
    iapply (load_rows c) $$ H10; iintro H10
    iapply (ByValue.store 𝒱₀ (c : Thread nD τ) none E) $$ H10; iintro H10
    iapply (load_rows c) $$ H3; iintro H3
    iapply (load_rows c) $$ H11; iintro H11
    iapply (load_rows c) $$ H11; iintro H11
    iapply (ByValue.store 𝒱₀ (c : Thread nD τ) none E) $$ H11; iintro H11
    iapply (load_rows c) $$ H10; iintro H10
    iapply (load_rows c) $$ H10; iintro H10
    iapply (ByValue.store 𝒱₀ (c : Thread nD τ) none E) $$ H10; iintro H10
    iapply (wp_call_spec 𝒱₀ (c : Thread nD τ) none E (spec c i arg3 arg4 arg10 arg11 (held x2 x3 x4 x5 x6) 33
      (diag i (held x2 x3 x4 x5 x6) DK' DV')) 33 (fun u hu => nomatch hu) hwalk)
    rw [spec_apply]; unfold buffers
    isplitl [H3 H4 H10 H11]
    · isplitl [H3]; · iexact H3
      isplitl [H4]; · iexact H4
      isplitl [H10]; · iexact H10
      iexact H11
    iintro ⟨H3, H4, H10, H11⟩
    generalize walk i (held x2 x3 x4 x5 x6) 33 (diag i (held x2 x3 x4 x5 x6) DK' DV') = s
    unfold Carried.tuple
    iapply (ByValue.load 𝒱₀ (c : Thread nD τ) none E) $$ H7; iintro H7
    iapply (ByValue.store 𝒱₀ (c : Thread nD τ) none E) $$ H7; iintro H7
    iapply (ByValue.load 𝒱₀ (c : Thread nD τ) none E) $$ H7; iintro H7
    iapply (ByValue.store 𝒱₀ (c : Thread nD τ) none E) $$ H7; iintro H7
    by_cases hlast : k0_cond2 i = 1#1
    on_goal 1 =>
      simp only [hlast, ↓reduceDIte, kLeft, ↓reduceIte]
      iapply (load_full c) $$ H10; iintro H10
      iapply (load_full c) $$ H8; iintro H8
      iapply (store_full c) $$ H8; iintro H8
      iapply (load_full c) $$ H11; iintro H11
      iapply (load_full c) $$ H9; iintro H9
      iapply (store_full c) $$ H9; iintro H9
    on_goal 2 =>
      simp only [hlast, ↓reduceDIte, kLeft, ↓reduceIte]
    all_goals
      rw [wp_ret]; imodintro
      rw [← put_halves d7 s]
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

end Body

end Cert.Sb

end
-- ==== Proof.SbFrame.lean ====
/-
  The run of `Kernel2Ideal`'s pallas_call over its 64 grid points: which contents the two scratch buffers carry from
  point to point, the three outputs' blocks, and with them the run and the frame, at any `F`.
-/
module

public import proofs.«01_k».proof.Proof.SbBody
public import proofs.«01_k».proof.Proof.Gen.Kernel2Ideal.Points
public import Idealize.ShloMosaic.Lib.WordCmp
public import Idealize.ShloMosaic.Lib.Pipeline.Value

@[expose] public section

set_option maxRecDepth 16384

noncomputable section

namespace Cert.Sb

open Kernel2Ideal Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The host's forward pass before the region -/

/-- The host's operations, stretch by stretch. -/
abbrev stretches : List (List (HloOp τ sig (Elt F))) :=
  [hostOps0, hostOps0_1, hostOps0_2, hostOps0_3, hostOps0_4, hostOps0_5, hostOps0_6, hostOps0_7]

/-- Core `c`'s buffers when the region is entered. -/
abbrev V (c : Dev nD) (b : Ref sig .tc) : Buf (Elt F) ((c : Thread nD τ).loc b) :=
  StableHlo.after (stretches (F := F)).flatten (fun b => m (c, b)) b

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

theorem stretches_fresh : (stretches (F := F)).Forall fun ops => ops.Forall fun op => op.fresh = ∅ := by
  simp only [List.Forall]; repeat' constructor

set_option maxHeartbeats 800000 in
/-- The program up to the region. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

/-- The host writes neither argument: the projection, -/
theorem V_arg0 (c : Dev nD) : V m c main_arg0 = m ((c : Thread nD τ).loc main_arg0) :=
  StableHlo.after_of_forall_not_mem (b := Proc.devRef .tc main_arg0) _ _ (List.forall_iff_forall_mem.mp (by
    simp only [stretches, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- nor the cotangent. -/
theorem V_arg1 (c : Dev nD) : V m c main_arg1 = m ((c : Thread nD τ).loc main_arg1) :=
  StableHlo.after_of_forall_not_mem (b := Proc.devRef .tc main_arg1) _ _ (List.forall_iff_forall_mem.mp (by
    simp only [stretches, hostOps0, hostOps0_1, hostOps0_2, hostOps0_3, hostOps0_4, hostOps0_5, hostOps0_6, hostOps0_7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ### What the buffers hold, point by point -/

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the body reads at point `t`. -/
def heldAt (c : Dev nD) (t : Fin (cfg0 (F := F)).N) : Held F :=
  held (iblk m c 0 t) (iblk m c 1 t) (iblk m c 2 t) (iblk m c 3 t) (iblk m c 4 t)

/-- Some contents for the scratch buffers before the first point, which resets them. -/
def blank : S8192x128.Idx → F .f32 := fun _ => Scalar.ofBits .f32 0x00000000#32

/-- What the body has carried when position `n` is done. -/
def doneAt (c : Dev nD) : (n : ℕ) → n < (cfg0 (F := F)).N → Carried F
  | 0, h => point (grid0.coords ⟨0, h⟩) (heldAt m c ⟨0, h⟩) blank blank
  | n + 1, h => point (grid0.coords ⟨n + 1, h⟩) (heldAt m c ⟨n + 1, h⟩) (doneAt c n (by omega)).DK (doneAt c n (by omega)).DV

/-- At the first point the scratch buffers' contents do not matter. -/
theorem doneAt_first (c : Dev nD) (t : Fin (cfg0 (F := F)).N) (ht : t.val = 0) (x y : S8192x128.Idx → F .f32) :
    point (grid0.coords t) (heldAt m c t) x y = doneAt m c t.val t.isLt := by
  obtain ⟨n, h⟩ := t
  obtain rfl : n = 0 := ht
  have e : (grid0.coords ⟨0, h⟩ 1).val = 0 / 1 % 16 := (fun t : Fin grid0.N => (Pipeline.Grid.coords_val t 1 (by decide) rfl : (grid0.coords t 1).val = t.val / 1 % 16)) ⟨0, h⟩
  show _ = point _ _ _ _
  unfold point start
  rw [e, Nat.zero_div, Nat.zero_mod]; rfl

/-- At a later one they are the last point's. -/
theorem doneAt_next (c : Dev nD) (t : Fin (cfg0 (F := F)).N) (ht : t.val ≠ 0) :
    point (grid0.coords t) (heldAt m c t) (doneAt m c (t.val - 1) (by omega)).DK (doneAt m c (t.val - 1) (by omega)).DV = doneAt m c t.val t.isLt := by
  obtain ⟨n, h⟩ := t
  cases n with
  | zero => exact absurd rfl ht
  | succ n => rfl

/-- The two scratch buffers. -/
abbrev scK : Memref sig .tc .vmem S8192x128 .f32 := Memref.whole cc0_scratch0
abbrev scV : Memref sig .tc .vmem S8192x128 .f32 := Memref.whole cc0_scratch1

/-- The invariant before position `n`: at first the scratch buffers hold anything, then what the last point left. -/
def Phi (c : Dev nD) : (n : ℕ) → n ≤ (cfg0 (F := F)).N → sProp 𝕄
  | 0, _ => Pipeline.ΦA spec0 c
  | n + 1, h => iprop((owns (c : Thread nD τ) scK fullShare (doneAt m c n h).DK ∗ owns (c : Thread nD τ) scV fullShare (doneAt m c n h).DV) ∗ ∃ r, prngReg c r)

theorem Phi_first (c : Dev nD) (n : ℕ) (h : n ≤ (cfg0 (F := F)).N) (hz : n = 0) :
    Phi m c n h = iprop(((∃ d, owns (c : Thread nD τ) scK fullShare d) ∗ (∃ d, owns (c : Thread nD τ) scV fullShare d)) ∗ ∃ r, prngReg c r) := by
  subst hz
  unfold Phi Pipeline.ΦA; rw [scopedRest0_eq]; simp only [scK, scV, owns_whole]; try rfl

theorem Phi_later (c : Dev nD) (n : ℕ) (h : n ≤ (cfg0 (F := F)).N) (hz : n ≠ 0) :
    Phi m c n h = iprop((owns (c : Thread nD τ) scK fullShare (doneAt m c (n - 1) (by omega)).DK ∗ owns (c : Thread nD τ) scV fullShare (doneAt m c (n - 1) (by omega)).DV) ∗ ∃ r, prngReg c r) := by
  cases n with
  | zero => exact absurd rfl hz
  | succ n => rfl

theorem Phi_succ (c : Dev nD) (n : ℕ) (h : n < (cfg0 (F := F)).N) :
    Phi m c (n + 1) h = iprop((owns (c : Thread nD τ) scK fullShare (doneAt m c n h).DK ∗ owns (c : Thread nD τ) scV fullShare (doneAt m c n h).DV) ∗ ∃ r, prngReg c r) := rfl

/-- The proof data: inputs keep their blocks; the outputs are the model's. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut (doneAt m c t.val t.isLt)
    | ⟨6, _⟩ => kOut (doneAt m c t.val t.isLt).DK
    | ⟨7, _⟩ => kOut (doneAt m c t.val t.isLt).DV
  Φ t := Phi m c t.val (Nat.le_of_lt_succ t.isLt)
  q w := Pipeline.shareOf spec0 w
  owed _ := 0

theorem A_eq (c : Dev nD) (w : Fin (cfg0 (F := F)).W) : (dats m 0 c).A w = V m c (Pipeline.arrRef spec0 w) := by
  dsimp only [dats]

theorem Phi_castSucc (c : Dev nD) (t : Fin (cfg0 (F := F)).N) : (dats m 0 c).Φ t.castSucc = Phi m c t.val (Nat.le_of_lt t.isLt) := by
  dsimp only [dats]; exact Pipeline.Dat.Φ_castSucc (Phi m c) t

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = iblk m c 3 t := by dsimp only [dats]; rfl
theorem after4 (c : Dev nD) (t : Fin (cfg0 (F := F)).N) : (dats m 0 c).after 4 t = iblk m c 4 t := by dsimp only [dats]; rfl
theorem after5 (c : Dev nD) (t : Fin (cfg0 (F := F)).N) : (dats m 0 c).after 5 t = dqOut (doneAt m c t.val t.isLt) := by dsimp only [dats]; rfl
theorem after6 (c : Dev nD) (t : Fin (cfg0 (F := F)).N) : (dats m 0 c).after 6 t = kOut (doneAt m c t.val t.isLt).DK := by dsimp only [dats]; rfl
theorem after7 (c : Dev nD) (t : Fin (cfg0 (F := F)).N) : (dats m 0 c).after 7 t = kOut (doneAt m c t.val t.isLt).DV := by dsimp only [dats]; rfl

/-- An input window's buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfg0 (F := F)).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfg0 (F := F)).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ### Where the key-side windows are idle -/

/-- The key-side gradients leave at a head pair's last point. -/
theorem last_iff : ∀ t : Fin (cfg0 (F := F)).N, k0_cond2 (grid0.coords t) = 1#1 ↔ t.val % 16 = 15 :=
  (fun t => by
    have ht : t.val < 64 := Nat.lt_of_lt_of_eq t.isLt N_0
    have e1 : (grid0.coords t 1).val = t.val / 1 % 16 := Pipeline.Grid.coords_val t 1 (by decide) rfl
    simp only [k0_cond2, e1]
    word_cmp
   : ∀ t : Fin grid0.N, k0_cond2 (grid0.coords t) = 1#1 ↔ t.val % 16 = 15)

/-- A window that is never idle is left at its named contents. -/
theorem leaves_live (c : Dev nD) (w : Fin (cfg0 (F := F)).W) (t : Fin (cfg0 (F := F)).N) (h : (cfg0 (F := F)).idle w ((cfg0 (F := F)).grid.coords t) = false) :
    (dats m 0 c).leavesExact w t = owns (c : Thread nD τ) (((cfg0 (F := F)).win w).stage ((cfg0 (F := F)).slots t w)) fullShare ((dats m 0 c).after w t) := by
  unfold Dat.leavesExact; rw [h]

/-- What a key-side window is left with, from what `kLeft` says: the keys' gradient, -/
theorem leaves6 (c : Dev nD) (t : Fin (cfg0 (F := F)).N) (y : S8192x128.Idx → F .bf16) (hy : ∃ d, y = (dats m 0 c).before 6 t d)
    (M : Memref sig .tc .vmem S8192x128 .bf16) (hM : M = st0_6 t) :
    (owns (c : Thread nD τ) M fullShare (kLeft (grid0.coords t) (doneAt m c t.val t.isLt).DK y) : sProp 𝕄) ⊢ (dats m 0 c).leavesExact 6 t := by
  subst hM
  by_cases h : k0_cond2 (grid0.coords t) = 1#1
  · rw [leaves_live m c 6 t (by show (!(k0_cond2 (grid0.coords t) == 1#1)) = false; rw [h]; rfl), after6]
    rw [show kLeft (grid0.coords t) (doneAt m c t.val t.isLt).DK y = kOut (doneAt m c t.val t.isLt).DK from if_pos h]
    exact .rfl
  · rw [(dats m 0 c).leavesExact_idle 6 t (by show (!(k0_cond2 (grid0.coords t) == 1#1)) = true; simpa using h)
      (by rw [Bool.eq_false_iff]; exact fun hf => h ((last_iff t).mpr ((flush0_6 t).mp hf)))]
    rw [show kLeft (grid0.coords t) (doneAt m c t.val t.isLt).DK y = y from if_neg h]
    obtain ⟨d, rfl⟩ := hy
    iintro H; iexists _; iexact H

/-- the values'. -/
theorem leaves7 (c : Dev nD) (t : Fin (cfg0 (F := F)).N) (y : S8192x128.Idx → F .bf16) (hy : ∃ d, y = (dats m 0 c).before 7 t d)
    (M : Memref sig .tc .vmem S8192x128 .bf16) (hM : M = st0_7 t) :
    (owns (c : Thread nD τ) M fullShare (kLeft (grid0.coords t) (doneAt m c t.val t.isLt).DV y) : sProp 𝕄) ⊢ (dats m 0 c).leavesExact 7 t := by
  subst hM
  by_cases h : k0_cond2 (grid0.coords t) = 1#1
  · rw [leaves_live m c 7 t (by show (!(k0_cond2 (grid0.coords t) == 1#1)) = false; rw [h]; rfl), after7]
    rw [show kLeft (grid0.coords t) (doneAt m c t.val t.isLt).DV y = kOut (doneAt m c t.val t.isLt).DV from if_pos h]
    exact .rfl
  · rw [(dats m 0 c).leavesExact_idle 7 t (by show (!(k0_cond2 (grid0.coords t) == 1#1)) = true; simpa using h)
      (by rw [Bool.eq_false_iff]; exact fun hf => h ((last_iff t).mpr ((flush0_7 t).mp hf)))]
    rw [show kLeft (grid0.coords t) (doneAt m c t.val t.isLt).DV y = y from if_neg h]
    obtain ⟨d, rfl⟩ := hy
    iintro H; iexists _; iexact H

/-! ### The body at a point -/

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 4000000 in
/-- The body's run at point `t`. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = Phi m c (t.val + 1) t.isLt from rfl, Phi_succ, Phi_castSucc m c t]
  rw [leaves_live m c 0 t rfl, leaves_live m c 1 t rfl, leaves_live m c 2 t rfl, leaves_live m c 3 t rfl, leaves_live m c 4 t rfl, leaves_live m c 5 t rfl,
    after0, after1, after2, after3, after4, after5]
  have run : ∀ (x y : S8192x128.Idx → F .f32) (hxy : point (grid0.coords t) (heldAt m c t) x y = doneAt m c t.val t.isLt)
      (d5 : S512x128.Idx → F .bf16) (d6 d7 : S8192x128.Idx → F .bf16) (Q : PUnit → sProp 𝕄), _ :=
    fun x y hxy d5 d6 d7 Q => hxy ▸ body c (grid0.coords t) (st0_0 t) (hstage0_0 (((cfg0 (F := F)).slots t 0).cast nbuf0_0)) (st0_1 t) (hstage0_1 (((cfg0 (F := F)).slots t 1).cast nbuf0_1))
      (st0_2 t) (hstage0_2 (((cfg0 (F := F)).slots t 2).cast nbuf0_2)) (st0_3 t) (hstage0_3 (((cfg0 (F := F)).slots t 3).cast nbuf0_3))
      (st0_4 t) (hstage0_4 (((cfg0 (F := F)).slots t 4).cast nbuf0_4)) (st0_5 t) (hstage0_5 (((cfg0 (F := F)).slots t 5).cast nbuf0_5))
      (st0_6 t) (hstage0_6 (((cfg0 (F := F)).slots t 6).cast nbuf0_6)) (st0_7 t) (hstage0_7 (((cfg0 (F := F)).slots t 7).cast nbuf0_7))
      scK (Memref.isWhole_whole _) scV (Memref.isWhole_whole _)
      (iblk m c 0 t) (iblk m c 1 t) (iblk m c 2 t) (iblk m c 3 t) (iblk m c 4 t) d5 d6 d7 x y Set.univ Q
  by_cases hz : t.val = 0
  on_goal 1 =>
    rw [Phi_first m c _ _ hz]
    iintro ⟨⟨⟨⟨%x, HK⟩, ⟨%y, HV⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hxy := doneAt_first m c t hz x y
  on_goal 2 =>
    rw [Phi_later m c _ _ hz]
    iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hxy := doneAt_next m c t hz
  all_goals
    iapply (run _ _ hxy ((dats m 0 c).before 5 t d5) ((dats m 0 c).before 6 t d6) ((dats m 0 c).before 7 t d7) _)
    unfold ten
    isplitl [H0 H1 H2 H3 H4 H5 H6 H7 HK HV]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HK]; · iexact HK
      iexact HV
    iintro ⟨H0, H1, H2, H3, H4, H5, H6, H7, HK, HV⟩
    isplitl [HK HV Hg]
    · isplitl [HK HV]
      · isplitl [HK]; · iexact HK
        iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves6 m c t _ ⟨d6, rfl⟩ (st0_6 t) rfl) $$ H6
    iapply (leaves7 m c t _ ⟨d7, rfl⟩ (st0_7 t) rfl) $$ H7

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl]
  exact .rfl

/-- After the last point the scratch buffers' contents are forgotten. -/
theorem hout (c : Dev nD) : (dats m 0 c).Φ (Fin.last (cfg0 (F := F)).N) ⊢ Pipeline.ΦA spec0 c := by
  have hN : (cfg0 (F := F)).N = 64 := N_0
  rw [show (dats m 0 c).Φ (Fin.last (cfg0 (F := F)).N) = Phi m c (cfg0 (F := F)).N le_rfl from rfl, Phi_later m c _ _ (by omega)]
  rw [show Pipeline.ΦA spec0 c = Phi m c 0 (Nat.zero_le _) from rfl, Phi_first m c 0 _ rfl]
  iintro ⟨⟨HK, HV⟩, Hg⟩
  isplitl [HK HV]
  · isplitl [HK]
    · iexists _; iexact HK
    iexists _; iexact HV
  iexact Hg

/-! ### The run and the frame -/

set_option backward.isDefEq.respectTransparency.types false in
/-- Every weakly fair execution terminates; the arrays end as the proof data say, every counter at zero. -/
theorem run_all : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hin := hin m) (hout := hout m)

/-- The same run with the outputs' arrays named and the arguments unchanged. -/
theorem run_blocks : θ_run defs (onTc (τ := τ) (main (F := F))) ⟨m, fun _ => 0, ρ⟩ (fun r => (∀ c : Dev nD,
      r.2.mem ((c : Thread nD τ).loc main_v26_0) = (dats m 0 c).arrAt 5 (cfg0 (F := F)).N
      ∧ r.2.mem ((c : Thread nD τ).loc main_v26_1) = (dats m 0 c).arrAt 6 (cfg0 (F := F)).N
      ∧ r.2.mem ((c : Thread nD τ).loc main_v26_2) = (dats m 0 c).arrAt 7 (cfg0 (F := F)).N
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c).1 5, (h.1 c).1 6, (h.1 c).1 7,
    ((h.1 c).1 0).trans (((dats m 0 c).arrAt_in 0 rfl _).trans ((A_eq m c 0).trans (V_arg0 m c))), ((h.1 c).1 4).trans (((dats m 0 c).arrAt_in 4 rfl _).trans ((A_eq m c 4).trans (V_arg1 m c)))⟩, h.2⟩) (run_all m ρ)

/-- The frame. -/
theorem unchanged : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2.2.2, h.2⟩) (run_blocks m ρ)

end Cert.Sb

end
-- ==== Proof.SbHost.lean ====
/-
  The attention output the host hands the kernel is the one the reference's forward lines give.
-/
module

public import proofs.«01_k».proof.Proof.SbFrame
public import proofs.«01_k».proof.Proof.Gen.Reference2Ideal.Read
public import Idealize.ShloMosaic.Lib.StableHlo.RunRead

@[expose] public section

set_option maxRecDepth 16384

noncomputable section

namespace Cert.Sb

open Idealize.ShloMosaic Idealize.ShloMosaic.TcCoe Idealize.SL.Sem Idealize.ShloMosaic.StableHlo Kernel2Ideal Kernel2Ideal.Gen

variable {F : FTy → Type} [FloatOps F] (m : (ℓ : Loc nD τ sig) → Buf (Elt F) ℓ)

set_option maxHeartbeats 800000 in
theorem V_out (c : Dev nD) : V m c main_v25 = Reference2Ideal.Read.val_main_v25 (F := F) (m ((c : Thread nD τ).loc main_arg0)) := by
  show StableHlo.after (stretches (F := F)).flatten (fun b => m (c, b)) (Proc.devRef .tc main_v25) = _
  simp only [stretches, hostOps0, hostOps0_1, hostOps0_2, hostOps0_3, hostOps0_4, hostOps0_5, hostOps0_6, hostOps0_7,
    List.flatten_cons, List.flatten_nil, List.append_nil, List.cons_append, List.nil_append,
    TRef.binary, TRef.nullary, TRef.ternary, TRef.unary, TRef.toBuf, TRef.ofBuf, cast_eq]
  after_results_simp
  rfl

end Cert.Sb
-- ==== Proof.SbRead.lean ====
/-
  What the reference computes at one place, over real arrays: its scores, the mass each key leaves, the weights, the
  output, and the three gradients that differentiating the forward lines gives.
-/
module

public import proofs.«01_k».proof.Proof.Gen.Reference2Ideal.Read
public import proofs.«01_k».proof.Proof.SbBlock
public import proofs.«01_k».proof.Proof.FfnFinite
public import Idealize.ShloMosaic.Lib.WordCmp

@[expose] public section

set_option maxRecDepth 16384

noncomputable section

namespace Cert.Sb.Read

open Finset Idealize.ShloMosaic Idealize.ShloMosaic.TcCoe Idealize.SL.Sem Reference2Ideal Reference2Ideal.Gen Reference2Ideal.Read

/-! ### A running sum along the keys -/

/-- Adding up along a list is adding its sum. -/
theorem fold_add {n : ℕ} (l : List (Fin n)) (f : Fin n → EReal) (z : EReal) :
    l.foldl (fun r k => r + f k) z = z + (l.map f).sum := by
  induction l generalizing z with
  | nil => simp
  | cons x l ih => simp only [List.foldl_cons, ih, List.map_cons, List.sum_cons, add_assoc]

/-- A window along the last axis, at one place: the elements from `b - L` on that are in the array. -/
theorem window_sum {A B K L U : ℕ} (x : (⟨3, ![A, B, K]⟩ : Shape).Idx → EReal) (r : ℕ → ℝ) (n : Fin A) (a : Fin B) (b : Fin K)
    (hx : ∀ b' : Fin K, x (ix3 n a b') = ((r b'.val : ℝ) : EReal)) (i : S_.Idx → EReal) (hi : ∀ j, i j = 0) (hu : 0 < S_.numel)
    (h : (⟨3, ![A, B, K]⟩ : Shape).ReduceWindows ![1, 1, K] ![1, 1, 1] ![0, 0, L] ![0, 0, U] ⟨3, ![A, B, K]⟩) :
    Host.reduceWindowAdd (F := Ideal) (φ := .f32) ![1, 1, K] ![1, 1, 1] ![0, 0, L] ![0, 0, U] x i h hu (ix3 n a b)
      = ((∑ k ∈ range K, if L ≤ b.val + k ∧ b.val + k - L < K then r (b.val + k - L) else 0 : ℝ) : EReal) := by
  show Host.reduceWindow (α := EReal) (u := ⟨0, ![]⟩) (· + ·) ![1, 1, K] ![1, 1, 1] ![0, 0, L] ![0, 0, U] x
    (fun _ => i (Shape.Idx.first hu)) h (by decide) (ix3 n a b) = _
  rw [hi]
  unfold Host.reduceWindow
  dsimp only
  rw [fold_add, zero_add, ← Fin.sum_univ_def, ← coe_sum]
  refine (Fintype.sum_congr _ _ fun i => dite_congr rfl (fun _ => rfl) fun _ => rfl).trans ((Equiv.sum_comp (Shape.rowMajor ⟨3, ![1, 1, K]⟩).symm fun w : (⟨3, ![1, 1, K]⟩ : Shape).Idx =>
    (if hin : ∀ c : Fin 3, (![0, 0, L] : Fin 3 → ℕ) c ≤ ((ix3 n a b) c).val * (![1, 1, 1] : Fin 3 → ℕ) c + (w c).val
        ∧ ((ix3 n a b) c).val * (![1, 1, 1] : Fin 3 → ℕ) c + (w c).val - (![0, 0, L] : Fin 3 → ℕ) c < (![A, B, K] : Fin 3 → ℕ) c
      then x (fun c => ⟨((ix3 n a b) c).val * (![1, 1, 1] : Fin 3 → ℕ) c + (w c).val - (![0, 0, L] : Fin 3 → ℕ) c, (hin c).2⟩)
      else (0 : EReal))).trans ?_)
  rw [sum_idx3]
  simp only [Fin.sum_univ_one, Fin.isValue]
  refine sum_congr rfl fun k _ => ?_
  have hn := n.isLt
  have ha := a.isLt
  by_cases hk : L ≤ b.val + k.val ∧ b.val + k.val - L < K
  · rw [if_pos hk, dif_pos (by
      intro c
      match c with
      | ⟨0, _⟩ => show 0 ≤ n.val * 1 + 0 ∧ n.val * 1 + 0 - 0 < A; omega
      | ⟨1, _⟩ => show 0 ≤ a.val * 1 + 0 ∧ a.val * 1 + 0 - 0 < B; omega
      | ⟨2, _⟩ => show L ≤ b.val * 1 + k.val ∧ b.val * 1 + k.val - L < K; omega)]
    refine (congrArg x (funext fun c => Fin.ext ?_)).trans (hx ⟨b.val + k.val - L, hk.2⟩)
    match c with
    | ⟨0, _⟩ => show n.val * 1 + 0 - 0 = n.val; omega
    | ⟨1, _⟩ => show a.val * 1 + 0 - 0 = a.val; omega
    | ⟨2, _⟩ => show b.val * 1 + k.val - L = b.val + k.val - L; omega
  · rw [if_neg hk, dif_neg (by
      intro hin
      have := hin 2
      change L ≤ b.val * 1 + k.val ∧ b.val * 1 + k.val - L < K at this
      omega), EReal.coe_zero]

/-- The window that begins at its key. -/
theorem sum_after (r : ℕ → ℝ) (b : ℕ) (hb : b < 8192) :
    (∑ k ∈ range 8192, if 0 ≤ b + k ∧ b + k - 0 < 8192 then r (b + k - 0) else 0) = ∑ k ∈ Ico b 8192, r k := by
  rw [← sum_filter, sum_Ico_eq_sum_range]
  refine sum_congr (Finset.ext fun k => ?_) fun _ _ => rfl
  simp only [mem_filter, mem_range]; omega

/-- The window that ends at its key. -/
theorem sum_before (r : ℕ → ℝ) (b : ℕ) (hb : b < 8192) :
    (∑ k ∈ range 8192, if 8191 ≤ b + k ∧ b + k - 8191 < 8192 then r (b + k - 8191) else 0) = ∑ k ∈ range (b + 1), r k := by
  rw [← sum_filter]
  refine sum_nbij' (fun k => b + k - 8191) (fun k => k + 8191 - b) ?_ ?_ ?_ ?_ fun _ _ => rfl <;>
    · simp only [mem_filter, mem_range]; omega

/-! ### The reference's values -/

/-- The arrays the reference reads. -/
def arr (P G : ℕ → ℕ → ℝ) : Arrays := ⟨P, fun a c => P a (512 + c), fun a c => P a (1024 + c), G⟩

variable {x0 : FVec Ideal S8192x4096 .f32} {x1 : FVec Ideal S8192x512 .bf16} {P G : ℕ → ℕ → ℝ}
  (hx : ∀ a c, x0 (ix2 a c) = ((P a.val c.val : ℝ) : EReal)) (hg : ∀ a c, x1 (ix2 a c) = ((G a.val c.val : ℝ) : EReal))

include hx in
theorem q_at (a : Fin 8192) (n : Fin 8) (c : Fin 64) :
    val_main_v3 (F := Ideal) x0 (ix3 a n c) = (((arr P G).q a.val (64 * n.val + c.val) : ℝ) : EReal) := by
  pointwise [val_main_v3, val_main_v0]
  rw [hx]
  simp only [arr]
  congr 2 <;> omega

include hx in
theorem k_at (a : Fin 8192) (n : Fin 8) (c : Fin 64) :
    val_main_v4 (F := Ideal) x0 (ix3 a n c) = (((arr P G).k a.val (64 * n.val + c.val) : ℝ) : EReal) := by
  pointwise [val_main_v4, val_main_v1]
  rw [hx]
  simp only [arr]
  congr 2 <;> omega

include hx in
theorem v_at (a : Fin 8192) (n : Fin 8) (c : Fin 64) :
    val_main_v5 (F := Ideal) x0 (ix3 a n c) = (((arr P G).v a.val (64 * n.val + c.val) : ℝ) : EReal) := by
  pointwise [val_main_v5, val_main_v2]
  rw [hx]
  simp only [arr]
  congr 2 <;> omega

include hg in
theorem g_at (a : Fin 8192) (n : Fin 8) (c : Fin 64) :
    val_main_v28 (F := Ideal) x1 (ix3 n c a) = (((arr P G).g a.val (64 * n.val + c.val) : ℝ) : EReal) := by
  pointwise [val_main_v28, val_main_v27, val_main_v26]
  rw [hg]
  simp only [arr]
  congr 2 <;> omega

theorem ofBits_eighth : Ideal.ofBits .f32 0x3E000000#32 = ((1 / 8 : ℝ) : EReal) := by
  simp [Ideal.ofBits, Ideal.ieee]
  rw [← EReal.coe_mul]
  norm_num

include hx in
theorem score_at (n : Fin 8) (a b : Fin 8192) :
    val_main_v9 (F := Ideal) x0 (ix3 n a b) = (((arr P G).score n.val a.val b.val : ℝ) : EReal) := by
  have e : ∀ c : Fin 64, val_main_v3 (F := Ideal) x0 (lidx_main_v7 (ix3 n a b) c) = _ := fun c =>
    (congrArg (val_main_v3 (F := Ideal) x0) (by blk_ext [])).trans (q_at (G := G) hx a n c)
  have e' : ∀ c : Fin 64, val_main_v4 (F := Ideal) x0 (ridx_main_v7 (ix3 n a b) c) = _ := fun c =>
    (congrArg (val_main_v4 (F := Ideal) x0) (by blk_ext [])).trans (k_at (G := G) hx b n c)
  have h8 : val_main_v8 (F := Ideal) (ix3 n a b) = ((1 / 8 : ℝ) : EReal) := by
    pointwise [val_main_v8, val_main_cst]
    exact ofBits_eighth
  show val_main_v7 (F := Ideal) x0 (ix3 n a b) * val_main_v8 (F := Ideal) (ix3 n a b) = _
  rw [h8, val_main_v7_apply]
  simp only [e, e', ← EReal.coe_mul]
  rw [coe_sum (fun c => (arr P G).q a.val (64 * n.val + c) * (arr P G).k b.val (64 * n.val + c)), ← EReal.coe_mul]
  rfl

/-- `log (1 + e^(-z))`, as the reference's library function spells it. -/
theorem soft_coe (z : ℝ) : max (-(z : EReal)) 0 + Ideal.log1p (Ideal.exp (-max (-(z : EReal) - 0) (-(-(z : EReal) - 0))))
    = ((-logit z : ℝ) : EReal) := by
  have hp : 0 < Real.exp (-|z|) := Real.exp_pos _
  have e : max (-(z : EReal) - 0) (-(-(z : EReal) - 0)) = ((|z| : ℝ) : EReal) := by
    rw [sub_zero, neg_neg, abs_eq_max_neg, max_comm]; norm_cast
  have e' : max (-(z : EReal)) 0 = ((max (-z) 0 : ℝ) : EReal) := by norm_cast
  rw [e, e', ← EReal.coe_neg, Ideal.exp_coe]
  show _ + Ideal.log (1 + _) = _
  rw [← EReal.coe_one, ← EReal.coe_add, Ideal.log_coe, if_neg (by linarith), ← EReal.coe_add]
  congr 1
  rw [logit]
  rcases le_total z 0 with h | h
  · rw [min_eq_left h, max_eq_left (by linarith)]; ring
  · rw [min_eq_right h, max_eq_right (by linarith)]; ring

include hx in
theorem soft_at (n : Fin 8) (a b : Fin 8192) :
    val_main_call0_v1_0 (F := Ideal) x0 (ix3 n a b) = ((-logit ((arr P G).score n.val a.val b.val) : ℝ) : EReal) := by
  rw [← soft_coe, ← score_at (G := G) hx n a b]
  generalize hz : val_main_v9 (F := Ideal) x0 = z
  pointwise [val_main_call0_v1_0, val_main_call0_call0_v4, val_main_call0_call0_v3, val_main_call0_v0, val_main_call0_call0_v2,
    val_main_call0_call0_cst, val_main_call0_call0_v11, val_main_call0_call0_v1, val_main_call0_call0_v0, val_main_call0_call0_v10,
    val_main_call0_call0_v9, val_main_call0_call0_v8, val_main_call0_call0_v7, hz]
  rw [if_neg fun h => h rfl]
  rfl

include hx in
theorem logit_at (n : Fin 8) (a b : Fin 8192) :
    val_main_v15_0 (F := Ideal) x0 (ix3 n a b) = ((logit ((arr P G).score n.val a.val b.val) : ℝ) : EReal) := by
  rw [val_main_v15_0_apply, soft_at (G := G) hx]
  show -((-_ : ℝ) : EReal) = _
  rw [← EReal.coe_neg, neg_neg]

/-- One minus the logistic function. -/
theorem rest_coe (z : ℝ) : Real.exp (-z - -logit z) = 1 - Real.exp (logit z) := by
  have hl : ∀ x : ℝ, Real.exp (-Real.log (1 + Real.exp x)) = (1 + Real.exp x)⁻¹ := fun x => by
    rw [Real.exp_neg, Real.exp_log (by positivity)]
  have hne : ∀ x : ℝ, (1 + Real.exp x) ≠ 0 := fun x => by positivity
  rcases le_total z 0 with h | h
  · have e : logit z = z + -Real.log (1 + Real.exp z) := by
      rw [logit, min_eq_left h, abs_of_nonpos h, neg_neg]; ring
    rw [e, show -z - -(z + -Real.log (1 + Real.exp z)) = -Real.log (1 + Real.exp z) by ring, Real.exp_add, hl]
    have := hne z
    field_simp
    ring
  · have e : logit z = -Real.log (1 + Real.exp (-z)) := by
      rw [logit, min_eq_right h, abs_of_nonneg h]; ring
    rw [e, show -z - - -Real.log (1 + Real.exp (-z)) = -z + -Real.log (1 + Real.exp (-z)) by ring, Real.exp_add, hl]
    have := hne (-z)
    field_simp
    ring

include hx in
theorem rest_at (n : Fin 8) (a b : Fin 8192) :
    val_main_v15_1 (F := Ideal) x0 (ix3 n a b) = ((1 - Real.exp (logit ((arr P G).score n.val a.val b.val)) : ℝ) : EReal) := by
  have h1 := soft_at (G := G) hx n a b
  have h2 := score_at (G := G) hx n a b
  generalize hz : val_main_v9 (F := Ideal) x0 = z at h2
  generalize hs : val_main_call0_v1_0 (F := Ideal) x0 = s at h1
  pointwise [val_main_v15_1, val_main_call0_call0_v21, val_main_call0_call0_v16, val_main_call0_call0_v20, val_main_call0_call0_v14,
    val_main_call0_call0_v18, val_main_call0_v0, val_main_call0_call0_v13, val_main_call0_call0_v17, val_main_call0_call0_cst_0, val_main_call0_call0_cst_2, hz, hs, h1, h2]

  rw [Cert.Finite.ofBits_inf, if_neg (EReal.coe_ne_top _), ← EReal.coe_neg, if_neg (EReal.coe_ne_top _), ← EReal.coe_sub, Ideal.exp_coe,
    rest_coe]

/-- The causal mask. -/
theorem mask_at (a b : Fin 8192) : val_main_v14 (F := Ideal) (ix2 a b) = BitVec.ofBool (decide (b.val < a.val)) := by
  have hb := b.isLt
  have ha := a.isLt
  pointwise [val_main_v14, val_main_v12, val_main_v13, val_main_v11, val_main_v10, val_main_v6]
  exact WordCmp.cmpi_slt_ofNat (by omega) (by omega)

theorem mask3 (n : Fin 8) (a b : Fin 8192) : val_main_v17_1 (F := Ideal) (ix3 n a b) = BitVec.ofBool (decide (b.val < a.val)) := by
  rw [← mask_at a b]
  pointwise [val_main_v17_1]

theorem pick_at (p : Prop) [Decidable p] (x y : EReal) : Scalar.select (BitVec.ofBool (decide p)) x y = if p then x else y := by
  by_cases h : p <;> simp [Scalar.select, h]

theorem ofBits_zero : Ideal.ofBits .f32 0x00000000#32 = 0 := by simp [Ideal.ofBits, Ideal.ieee]

include hx in
theorem mass_at (n : Fin 8) (a b : Fin 8192) :
    val_main_v17_0 (F := Ideal) x0 (ix3 n a b) = (((arr P G).mass n.val a.val b.val : ℝ) : EReal) := by
  show Scalar.select (val_main_v17_1 (F := Ideal) (ix3 n a b)) (val_main_v15_0 (F := Ideal) x0 (ix3 n a b) - val_main_v9 (F := Ideal) x0 (ix3 n a b))
    (Ideal.ofBits .f32 0x00000000#32) = _
  rw [mask3, pick_at, logit_at (G := G) hx, score_at (G := G) hx, ofBits_zero, Arrays.mass, ← EReal.coe_sub, ← EReal.coe_zero]
  split <;> rfl

include hx in
theorem after_at (n : Fin 8) (a b : Fin 8192) :
    val_main_v18 (F := Ideal) x0 (ix3 n a b) = ((∑ k ∈ Ico b.val 8192, (arr P G).mass n.val a.val k : ℝ) : EReal) := by
  have h := window_sum (A := 8) (B := 8192) (K := 8192) (L := 0) (U := 8191) (val_main_v17_0 (F := Ideal) x0)
    (fun k => (arr P G).mass n.val a.val k) n a b (mass_at (G := G) hx n a) (val_main_call2_v0 (F := Ideal)) (fun _ => ofBits_zero) h_S_
    reduceWindows_S8x8192x8192_S8x8192x8192_w1s1p0_0_w1s1p0_0_w8192s1p0_8191
  rw [sum_after _ b.val b.isLt] at h
  exact h

include hx in
/-- The weight before the mask. -/
theorem open_at (n : Fin 8) (a b : Fin 8192) : val_main_v21 (F := Ideal) x0 (ix3 n a b)
    = ((Real.exp (logit ((arr P G).score n.val a.val b.val) + ∑ k ∈ Ico (b.val + 1) 8192, (arr P G).mass n.val a.val k) : ℝ) : EReal) := by
  show Ideal.exp (val_main_v15_0 (F := Ideal) x0 (ix3 n a b) + (val_main_v18 (F := Ideal) x0 (ix3 n a b) - val_main_v17_0 (F := Ideal) x0 (ix3 n a b))) = _
  rw [logit_at (G := G) hx, after_at (G := G) hx, mass_at (G := G) hx, ← EReal.coe_sub, ← EReal.coe_add, Ideal.exp_coe,
    sum_eq_sum_Ico_succ_bot b.isLt, add_sub_cancel_left]

include hx in
theorem weight_at (n : Fin 8) (a b : Fin 8192) :
    val_main_v22_0 (F := Ideal) x0 (ix3 n a b) = (((arr P G).weight n.val a.val b.val : ℝ) : EReal) := by
  show Scalar.select (val_main_v17_1 (F := Ideal) (ix3 n a b)) (val_main_v21 (F := Ideal) x0 (ix3 n a b))
    (Ideal.ofBits .f32 0x00000000#32) = _
  rw [mask3, pick_at, open_at (G := G) hx, ofBits_zero, Arrays.weight, ← EReal.coe_zero]
  split <;> rfl

include hx in
theorem out_at (a : Fin 8192) (n : Fin 8) (c : Fin 64) (d : Fin 512) (hd : d.val = 64 * n.val + c.val) :
    val_main_v25 (F := Ideal) x0 (ix2 a d) = (((arr P G).out n.val a.val c.val : ℝ) : EReal) := by
  have e : ∀ k : Fin 8192, val_main_v5 (F := Ideal) x0 (lidx_main_v23 (ix3 n c a) k) = _ := fun k =>
    (congrArg (val_main_v5 (F := Ideal) x0) (by blk_ext [])).trans (v_at (G := G) hx k n c)
  have e' : ∀ k : Fin 8192, val_main_v22_0 (F := Ideal) x0 (ridx_main_v23 (ix3 n c a) k) = _ := fun k =>
    (congrArg (val_main_v22_0 (F := Ideal) x0) (by blk_ext [])).trans (weight_at (G := G) hx n a k)
  have h : val_main_v25 (F := Ideal) x0 (ix2 a d) = val_main_v23 (F := Ideal) x0 (ix3 n c a) := by
    rw [val_main_v25_apply, val_main_v24_apply]
    exact congrArg _ (by have := c.isLt; blk_ext [])
  rw [h, val_main_v23_apply]
  simp only [e, e', ← EReal.coe_mul]
  rw [coe_sum (fun k => (arr P G).v k (64 * n.val + c.val) * (arr P G).weight n.val a.val k)]
  exact congrArg _ (sum_congr rfl fun _ _ => mul_comm _ _)

include hx hg in
theorem against_at (n : Fin 8) (a b : Fin 8192) :
    val_main_v29 (F := Ideal) x0 x1 (ix3 n a b) = (((arr P G).against n.val a.val b.val : ℝ) : EReal) := by
  have e : ∀ c : Fin 64, val_main_v28 (F := Ideal) x1 (lidx_main_v29 (ix3 n a b) c) = _ := fun c =>
    (congrArg (val_main_v28 (F := Ideal) x1) (by blk_ext [])).trans (g_at (P := P) hg a n c)
  have e' : ∀ c : Fin 64, val_main_v5 (F := Ideal) x0 (ridx_main_v29 (ix3 n a b) c) = _ := fun c =>
    (congrArg (val_main_v5 (F := Ideal) x0) (by blk_ext [])).trans (v_at (G := G) hx b n c)
  rw [val_main_v29_apply]
  simp only [e, e', ← EReal.coe_mul]
  rw [coe_sum (fun c => (arr P G).g a.val (64 * n.val + c) * (arr P G).v b.val (64 * n.val + c))]
  rfl

include hx hg in
theorem flow_at (n : Fin 8) (a b : Fin 8192) :
    val_main_v33 (F := Ideal) x0 x1 (ix3 n a b) = (((arr P G).flow n.val a.val b.val : ℝ) : EReal) := by
  show Scalar.select (val_main_v17_1 (F := Ideal) (ix3 n a b)) (val_main_v29 (F := Ideal) x0 x1 (ix3 n a b))
    (Ideal.ofBits .f32 0x00000000#32) * val_main_v21 (F := Ideal) x0 (ix3 n a b) = _
  rw [mask3, pick_at, open_at (G := G) hx, against_at hx hg, ofBits_zero, Arrays.flow, Arrays.weight]
  split
  · rw [← EReal.coe_mul]
  · rw [zero_mul, mul_zero, EReal.coe_zero]

include hx hg in
theorem before_at (n : Fin 8) (a b : Fin 8192) :
    val_main_v35 (F := Ideal) x0 x1 (ix3 n a b) = ((∑ k ∈ range (b.val + 1), (arr P G).flow n.val a.val k : ℝ) : EReal) := by
  have h := window_sum (A := 8) (B := 8192) (K := 8192) (L := 8191) (U := 0) (val_main_v33 (F := Ideal) x0 x1)
    (fun k => (arr P G).flow n.val a.val k) n a b (flow_at hx hg n a) (val_main_call5_v0 (F := Ideal)) (fun _ => ofBits_zero) h_S_
    reduceWindows_S8x8192x8192_S8x8192x8192_w1s1p0_0_w1s1p0_0_w8192s1p8191_0
  rw [sum_before _ b.val b.isLt] at h
  exact h

include hx hg in
theorem slant_at (n : Fin 8) (a b : Fin 8192) :
    val_main_v43 (F := Ideal) x0 x1 (ix3 n a b) = (((arr P G).slant n.val a.val b.val * (1 / 8) : ℝ) : EReal) := by
  have h : val_main_v37 (F := Ideal) x0 x1 (ix3 n a b)
      = ((if b.val < a.val then ∑ k ∈ range b.val, (arr P G).flow n.val a.val k else 0 : ℝ) : EReal) := by
    show Scalar.select (val_main_v17_1 (F := Ideal) (ix3 n a b))
      (-val_main_v33 (F := Ideal) x0 x1 (ix3 n a b) + val_main_v35 (F := Ideal) x0 x1 (ix3 n a b)) (Ideal.ofBits .f32 0x00000000#32) = _
    rw [mask3, pick_at, flow_at hx hg, before_at hx hg, ofBits_zero, ← EReal.coe_neg, ← EReal.coe_add, sum_range_succ, ← EReal.coe_zero]
    split
    · congr 1; ring
    · rfl
  show (-val_main_v37 (F := Ideal) x0 x1 (ix3 n a b)
    + -(-(val_main_v33 (F := Ideal) x0 x1 (ix3 n a b) + val_main_v37 (F := Ideal) x0 x1 (ix3 n a b)) * val_main_v15_1 (F := Ideal) x0 (ix3 n a b)))
      * Ideal.ofBits .f32 0x3E000000#32 = _
  rw [h, flow_at hx hg, rest_at (G := G) hx, ofBits_eighth, ← EReal.coe_add]
  simp only [← EReal.coe_neg, ← EReal.coe_mul, ← EReal.coe_add]
  congr 2
  rw [Arrays.slant]
  split
  · ring
  · next hba => rw [show (arr P G).flow n.val a.val b.val = 0 by rw [Arrays.flow, Arrays.weight, if_neg hba, mul_zero]]; ring

/-! ### The three gradients -/

include hx hg in
theorem dq_at (a : Fin 8192) (n : Fin 8) (c : Fin 64) (d : Fin 512) (hd : d.val = 64 * n.val + c.val) :
    val_main_v51 (F := Ideal) x0 x1 (ix2 a d) = (((arr P G).dq n.val a.val c.val : ℝ) : EReal) := by
  have e : ∀ k : Fin 8192, val_main_v43 (F := Ideal) x0 x1 (lidx_main_v46 (ix3 n a c) k) = _ := fun k =>
    (congrArg (val_main_v43 (F := Ideal) x0 x1) (by blk_ext [])).trans (slant_at hx hg n a k)
  have e' : ∀ k : Fin 8192, val_main_v4 (F := Ideal) x0 (ridx_main_v46 (ix3 n a c) k) = _ := fun k =>
    (congrArg (val_main_v4 (F := Ideal) x0) (by blk_ext [])).trans (k_at (G := G) hx k n c)
  have h : val_main_v51 (F := Ideal) x0 x1 (ix2 a d) = val_main_v46 (F := Ideal) x0 x1 (ix3 n a c) := by
    show val_main_v50 (F := Ideal) x0 x1 (ix2 a d) = _
    rw [val_main_v50_apply, val_main_v47_apply]
    exact congrArg _ (by have := c.isLt; blk_ext [])
  rw [h, val_main_v46_apply]
  simp only [e, e', ← EReal.coe_mul]
  rw [coe_sum (fun k => (arr P G).slant n.val a.val k * (1 / 8) * (arr P G).k k (64 * n.val + c.val))]
  refine congrArg _ ?_
  rw [Arrays.dq, sum_mul]
  exact sum_congr rfl fun _ _ => by ring

include hx hg in
theorem dk_at (a : Fin 8192) (n : Fin 8) (c : Fin 64) (d : Fin 512) (hd : d.val = 64 * n.val + c.val) :
    val_main_v52 (F := Ideal) x0 x1 (ix2 a d) = (((arr P G).dk n.val a.val c.val : ℝ) : EReal) := by
  have e : ∀ k : Fin 8192, val_main_v43 (F := Ideal) x0 x1 (lidx_main_v44 (ix3 n a c) k) = _ := fun k =>
    (congrArg (val_main_v43 (F := Ideal) x0 x1) (by blk_ext [])).trans (slant_at hx hg n k a)
  have e' : ∀ k : Fin 8192, val_main_v3 (F := Ideal) x0 (ridx_main_v44 (ix3 n a c) k) = _ := fun k =>
    (congrArg (val_main_v3 (F := Ideal) x0) (by blk_ext [])).trans (q_at (G := G) hx k n c)
  have h : val_main_v52 (F := Ideal) x0 x1 (ix2 a d) = val_main_v44 (F := Ideal) x0 x1 (ix3 n a c) := by
    show val_main_v49 (F := Ideal) x0 x1 (ix2 a d) = _
    rw [val_main_v49_apply, val_main_v45_apply]
    exact congrArg _ (by have := c.isLt; blk_ext [])
  rw [h, val_main_v44_apply]
  simp only [e, e', ← EReal.coe_mul]
  rw [coe_sum (fun k => (arr P G).slant n.val k a.val * (1 / 8) * (arr P G).q k (64 * n.val + c.val))]
  exact congrArg _ (sum_congr rfl fun _ _ => by ring)

include hx hg in
theorem dv_at (a : Fin 8192) (n : Fin 8) (c : Fin 64) (d : Fin 512) (hd : d.val = 64 * n.val + c.val) :
    val_main_v53 (F := Ideal) x0 x1 (ix2 a d) = (((arr P G).dv n.val a.val c.val : ℝ) : EReal) := by
  have e : ∀ k : Fin 8192, val_main_v28 (F := Ideal) x1 (lidx_main_v30 (ix3 n c a) k) = _ := fun k =>
    (congrArg (val_main_v28 (F := Ideal) x1) (by blk_ext [])).trans (g_at (P := P) hg k n c)
  have e' : ∀ k : Fin 8192, val_main_v22_0 (F := Ideal) x0 (ridx_main_v30 (ix3 n c a) k) = _ := fun k =>
    (congrArg (val_main_v22_0 (F := Ideal) x0) (by blk_ext [])).trans (weight_at (G := G) hx n k a)
  have h : val_main_v53 (F := Ideal) x0 x1 (ix2 a d) = val_main_v30 (F := Ideal) x0 x1 (ix3 n c a) := by
    show val_main_v48 (F := Ideal) x0 x1 (ix2 a d) = _
    rw [val_main_v48_apply, val_main_v31_apply]
    exact congrArg _ (by have := c.isLt; blk_ext [])
  rw [h, val_main_v30_apply]
  simp only [e, e', ← EReal.coe_mul]
  rw [coe_sum (fun k => (arr P G).g k (64 * n.val + c.val) * (arr P G).weight n.val k a.val)]
  exact congrArg _ (sum_congr rfl fun _ _ => mul_comm _ _)

end Cert.Sb.Read
-- ==== Proof.SbValue.lean ====
/-
  The gradient's output arrays. The head pair of a grid point is its number over 16 and its query block the rest; by
  induction over the points the scratch buffers hold the key-side sums of the head pair's query blocks so far, so the
  last point of a head pair writes the whole sums, and every point writes its own query gradient.
-/
module

public import proofs.«01_k».proof.Proof.SbHolds
public import proofs.«01_k».proof.Proof.SbHost
public import proofs.«01_k».proof.Proof.SbRead
public import Idealize.ShloMosaic.Lib.Pipeline.ValueKit

@[expose] public section

set_option maxRecDepth 16384

noncomputable section

namespace Cert.Sb

open Idealize.ShloMosaic Idealize.ShloMosaic.TcCoe Idealize.SL.Sem Kernel2Ideal Kernel2Ideal.Gen Finset

/-- Which blocks point `t` reads and writes. -/
theorem idx : ∀ t : Fin (cfg0 (F := Ideal)).N, win0_0.index t = ![t.val % 16, t.val / 16] ∧ win0_1.index t = ![0, 4 + t.val / 16]
    ∧ win0_2.index t = ![0, 8 + t.val / 16] ∧ win0_3.index t = ![t.val % 16, t.val / 16] ∧ win0_4.index t = ![t.val % 16, t.val / 16]
    ∧ win0_5.index t = ![t.val % 16, t.val / 16] ∧ win0_6.index t = ![0, t.val / 16] ∧ win0_7.index t = ![0, t.val / 16] :=
  (by decide +kernel : ∀ t : Fin grid0.N, win0_0.index t = ![t.val % 16, t.val / 16] ∧ win0_1.index t = ![0, 4 + t.val / 16]
    ∧ win0_2.index t = ![0, 8 + t.val / 16] ∧ win0_3.index t = ![t.val % 16, t.val / 16] ∧ win0_4.index t = ![t.val % 16, t.val / 16]
    ∧ win0_5.index t = ![t.val % 16, t.val / 16] ∧ win0_6.index t = ![0, t.val / 16] ∧ win0_7.index t = ![0, t.val / 16])

variable (m : (ℓ : Loc nD τ sig) → Buf (Elt Ideal) ℓ) (c : Dev nD)

/-- The projection and the output's gradient the program was launched with. -/
abbrev projection : FVec Ideal S8192x4096 .f32 := m ((c : Thread nD τ).loc main_arg0)
abbrev outGrad : FVec Ideal S8192x512 .bf16 := m ((c : Thread nD τ).loc main_arg1)

/-! ### The blocks -/

variable (t : Fin (cfg0 (F := Ideal)).N)

theorem blk0 (p : Fin 512) (d : Fin 128) (R : Fin 8192) (hR : (R : ℕ) = t.val % 16 * 512 + p) (D : Fin 4096) (hD : (D : ℕ) = t.val / 16 * 128 + d) :
    (iblk m c 0 t : FVec Ideal S512x128 .f32) (ix2 p d) = projection m c (ix2 R D) := by
  unfold iblk; rw [show V m c (Pipeline.arrRef spec0 0) = projection m c from V_arg0 m c]
  blk_point [idx t]

theorem blk1 (b : Fin 8192) (d : Fin 128) (D : Fin 4096) (hD : (D : ℕ) = (4 + t.val / 16) * 128 + d) :
    (iblk m c 1 t : FVec Ideal S8192x128 .f32) (ix2 b d) = projection m c (ix2 b D) := by
  unfold iblk; rw [show V m c (Pipeline.arrRef spec0 1) = projection m c from V_arg0 m c]
  blk_point [idx t]

theorem blk2 (b : Fin 8192) (d : Fin 128) (D : Fin 4096) (hD : (D : ℕ) = (8 + t.val / 16) * 128 + d) :
    (iblk m c 2 t : FVec Ideal S8192x128 .f32) (ix2 b d) = projection m c (ix2 b D) := by
  unfold iblk; rw [show V m c (Pipeline.arrRef spec0 2) = projection m c from V_arg0 m c]
  blk_point [idx t]

theorem blk3 (p : Fin 512) (d : Fin 128) (R : Fin 8192) (hR : (R : ℕ) = t.val % 16 * 512 + p) (D : Fin 512) (hD : (D : ℕ) = t.val / 16 * 128 + d) :
    (iblk m c 3 t : FVec Ideal S512x128 .f32) (ix2 p d) = Reference2Ideal.Read.val_main_v25 (F := Ideal) (projection m c) (ix2 R D) := by
  unfold iblk; rw [show V m c (Pipeline.arrRef spec0 3) = Reference2Ideal.Read.val_main_v25 (F := Ideal) (projection m c) from V_out m c]
  blk_point [idx t]

theorem blk4 (p : Fin 512) (d : Fin 128) (R : Fin 8192) (hR : (R : ℕ) = t.val % 16 * 512 + p) (D : Fin 512) (hD : (D : ℕ) = t.val / 16 * 128 + d) :
    (iblk m c 4 t : FVec Ideal S512x128 .bf16) (ix2 p d) = outGrad m c (ix2 R D) := by
  unfold iblk; rw [show V m c (Pipeline.arrRef spec0 4) = outGrad m c from V_arg1 m c]
  blk_point [idx t]

/-! ### The points, one after the other -/

variable {P G : ℕ → ℕ → ℝ} (hx : ∀ a d, projection m c (ix2 a d) = ((P a.val d.val : ℝ) : EReal))
  (hg : ∀ a d, outGrad m c (ix2 a d) = ((G a.val d.val : ℝ) : EReal))

include hx hg

/-- What point `t` reads. -/
theorem holds_at : Holds (Read.arr P G) (t.val / 16) (t.val % 16) (heldAt m c t) := by
  have ht : t.val < 64 := lt_of_lt_of_eq t.isLt N_0
  refine holds _ _ _ (fun p d => ?_) (fun b d => ?_) (fun b d => ?_) (fun p d => ?_) (fun p d => ?_)
  · rw [blk0 m c t p d ⟨t.val % 16 * 512 + p, by omega⟩ rfl ⟨t.val / 16 * 128 + d, by omega⟩ rfl, hx]
    simp only [Read.arr]
    congr 2 <;> omega
  · rw [blk1 m c t b d ⟨(4 + t.val / 16) * 128 + d, by omega⟩ rfl, hx]
    simp only [Read.arr]
    congr 2 <;> omega
  · rw [blk2 m c t b d ⟨(8 + t.val / 16) * 128 + d, by omega⟩ rfl, hx]
    simp only [Read.arr]
    congr 2 <;> omega
  · rw [blk3 m c t p d ⟨t.val % 16 * 512 + p, by omega⟩ rfl ⟨t.val / 16 * 128 + d, by omega⟩ rfl,
      Read.out_at (G := G) hx _ ⟨2 * (t.val / 16) + d.val / 64, by omega⟩ ⟨d.val % 64, by omega⟩ _ (by dsimp only; omega)]
    unfold outAt
    dsimp only
    congr 2
    omega
  · rw [blk4 m c t p d ⟨t.val % 16 * 512 + p, by omega⟩ rfl ⟨t.val / 16 * 128 + d, by omega⟩ rfl, hg]
    simp only [Read.arr]
    congr 2 <;> omega

/-- What the points up to `n` leave. -/
theorem stands_at : ∀ (n : ℕ) (hn : n < (cfg0 (F := Ideal)).N), Stands (Read.arr P G) (n / 16) (n % 16) (fun _ => 0)
    (dkBefore (Read.arr P G) (n / 16) (n % 16)) (dvBefore (Read.arr P G) (n / 16) (n % 16)) (doneAt m c n hn) := by
  have co : ∀ t : Fin grid0.N, (grid0.coords t 1).val = t.val % 16 := fun t => by
    have e : (grid0.coords t 1).val = t.val / 1 % 16 := Pipeline.Grid.coords_val t 1 (by decide) rfl
    omega
  have step : ∀ (t : Fin (cfg0 (F := Ideal)).N) (x y : S8192x128.Idx → EReal),
      (t.val % 16 ≠ 0 → IsBuf x (dkBefore (Read.arr P G) (t.val / 16) (t.val % 16)) ∧ IsBuf y (dvBefore (Read.arr P G) (t.val / 16) (t.val % 16))) →
      Stands (Read.arr P G) (t.val / 16) (t.val % 16) (fun _ => 0) (dkBefore (Read.arr P G) (t.val / 16) (t.val % 16))
        (dvBefore (Read.arr P G) (t.val / 16) (t.val % 16)) (point (grid0.coords t) (heldAt m c t) x y) := fun t x y h => by
    have hq : (qi (grid0.coords t)).val = t.val % 16 := co t
    have key := stands_point (X := Read.arr P G) (h := t.val / 16) (gi := grid0.coords t) (H := heldAt m c t)
      (by rw [hq]; exact holds_at m c t hx hg)
      (start_real (grid0.coords t) (x := x) (f := dkBefore (Read.arr P G) (t.val / 16) (t.val % 16))
        (fun h0 b d => by rw [← co t, h0]; rfl) (fun h1 => (h (by rwa [← co t])).1))
      (start_real (grid0.coords t) (x := y) (f := dvBefore (Read.arr P G) (t.val / 16) (t.val % 16))
        (fun h0 b d => by rw [← co t, h0]; rfl) (fun h1 => (h (by rwa [← co t])).2))
    rwa [hq] at key
  intro n
  induction n with
  | zero =>
    intro hn
    have hs := step ⟨0, hn⟩ (blank (F := Ideal)) (blank (F := Ideal)) (fun h => absurd rfl h)
    rw [doneAt_first m c ⟨0, hn⟩ rfl] at hs
    exact hs
  | succ n ih =>
    intro hn
    have hp := ih (by omega)
    have hs := step ⟨n + 1, hn⟩ (doneAt m c n (by omega)).DK (doneAt m c n (by omega)).DV fun h => ?_
    · rw [show point (grid0.coords ⟨n + 1, hn⟩) (heldAt m c ⟨n + 1, hn⟩) (doneAt m c n (by omega)).DK (doneAt m c n (by omega)).DV
        = doneAt m c (n + 1) hn from doneAt_next m c ⟨n + 1, hn⟩ (Nat.succ_ne_zero n)] at hs
      exact hs
    have h' : (n + 1) % 16 ≠ 0 := h
    have e1 : (n + 1) / 16 = n / 16 := by omega
    have e2 : (n + 1) % 16 = n % 16 + 1 := by omega
    exact ⟨by show IsBuf _ (dkBefore _ ((n + 1) / 16) ((n + 1) % 16)); rw [e1, e2]; exact dk_next _ _ _ hp,
      by show IsBuf _ (dvBefore _ ((n + 1) / 16) ((n + 1) % 16)); rw [e1, e2]; exact dv_next _ _ _ hp⟩

/-! ### The output arrays -/

/-- The query gradient. -/
theorem final_q : (dats m 0 c).arrAt 5 (cfg0 (F := Ideal)).N = Reference2Ideal.Read.val_main_v51 (F := Ideal) (projection m c) (outGrad m c) := by
  refine (dats m 0 c).arrAt_eq_of_covers 5 _ (by decide +kernel) fun t _ y => ?_
  blk_simp
  rw [after5]
  have ht : t.val < 64 := lt_of_lt_of_eq t.isLt N_0
  revert y
  suffices h : ∀ y : S512x128.Idx, dqOut (doneAt m c t.val t.isLt) y
      = Reference2Ideal.Read.val_main_v51 (F := Ideal) (projection m c) (outGrad m c) (((cfg0.win 5).blk t).view.emb y) from h
  intro y
  idx_vars y
  rw [dqOut_at _ _ _ (stands_at m c hx hg t.val t.isLt)]
  have e : ((cfg0.win 5).blk t).view.emb (ix2 y0 y1)
      = ix2 (⟨t.val % 16 * 512 + y0, by omega⟩ : Fin 8192) (⟨t.val / 16 * 128 + y1, by omega⟩ : Fin 512) := by
    blk_ext [idx t]
  refine Eq.trans ?_ (congrArg (Reference2Ideal.Read.val_main_v51 (F := Ideal) (projection m c) (outGrad m c)) e).symm
  rw [Read.dq_at hx hg _ ⟨2 * (t.val / 16) + y1.val / 64, by omega⟩ ⟨y1.val % 64, by omega⟩ _ (by dsimp only; omega)]
  dsimp only
  congr 2
  omega

/-- The key gradient. -/
theorem final_k : (dats m 0 c).arrAt 6 (cfg0 (F := Ideal)).N = Reference2Ideal.Read.val_main_v52 (F := Ideal) (projection m c) (outGrad m c) := by
  refine (dats m 0 c).arrAt_eq_of_covers 6 _ (by decide +kernel) fun t hf y => ?_
  have hl := (flush0_6 t).1 hf
  blk_simp
  rw [after6]
  have ht : t.val < 64 := lt_of_lt_of_eq t.isLt N_0
  revert y
  suffices h : ∀ y : S8192x128.Idx, kOut (doneAt m c t.val t.isLt).DK y
      = Reference2Ideal.Read.val_main_v52 (F := Ideal) (projection m c) (outGrad m c) (((cfg0.win 6).blk t).view.emb y) from h
  intro y
  idx_vars y
  have hs := stands_at m c hx hg t.val t.isLt
  rw [hl] at hs
  have e : ((cfg0.win 6).blk t).view.emb (ix2 y0 y1) = ix2 (y0 : Fin 8192) (⟨t.val / 16 * 128 + y1, by omega⟩ : Fin 512) := by
    blk_ext [idx t]
  refine Eq.trans ?_ (congrArg (Reference2Ideal.Read.val_main_v52 (F := Ideal) (projection m c) (outGrad m c)) e).symm
  rw [Read.dk_at hx hg _ ⟨2 * (t.val / 16) + y1.val / 64, by omega⟩ ⟨y1.val % 64, by omega⟩ _ (by dsimp only; omega)]
  refine Eq.trans (dk_next _ _ _ hs y0 y1) ?_
  rw [dk_all _ _ _ _ y1.isLt]

/-- The value gradient. -/
theorem final_v : (dats m 0 c).arrAt 7 (cfg0 (F := Ideal)).N = Reference2Ideal.Read.val_main_v53 (F := Ideal) (projection m c) (outGrad m c) := by
  refine (dats m 0 c).arrAt_eq_of_covers 7 _ (by decide +kernel) fun t hf y => ?_
  have hl := (flush0_7 t).1 hf
  blk_simp
  rw [after7]
  have ht : t.val < 64 := lt_of_lt_of_eq t.isLt N_0
  revert y
  suffices h : ∀ y : S8192x128.Idx, kOut (doneAt m c t.val t.isLt).DV y
      = Reference2Ideal.Read.val_main_v53 (F := Ideal) (projection m c) (outGrad m c) (((cfg0.win 7).blk t).view.emb y) from h
  intro y
  idx_vars y
  have hs := stands_at m c hx hg t.val t.isLt
  rw [hl] at hs
  have e : ((cfg0.win 7).blk t).view.emb (ix2 y0 y1) = ix2 (y0 : Fin 8192) (⟨t.val / 16 * 128 + y1, by omega⟩ : Fin 512) := by
    blk_ext [idx t]
  refine Eq.trans ?_ (congrArg (Reference2Ideal.Read.val_main_v53 (F := Ideal) (projection m c) (outGrad m c)) e).symm
  rw [Read.dv_at hx hg _ ⟨2 * (t.val / 16) + y1.val / 64, by omega⟩ ⟨y1.val % 64, by omega⟩ _ (by dsimp only; omega)]
  refine Eq.trans (dv_next _ _ _ hs y0 y1) ?_
  rw [dv_all _ _ _ _ y1.isLt]

end Cert.Sb
-- ==== Proof.SbClaims.lean ====
/-
  The attention gradient's claims: the pallas_call's three arrays are the reference's, at finite arguments.
-/
module

public import proofs.«01_k».proof.Defs
public import proofs.«01_k».proof.Proof.SbValue
public import proofs.«01_k».proof.Proof.Gen.Reference2Ideal.Run
public import proofs.«01_k».proof.Proof.Gen.Pre_sb_finite

@[expose] public section

set_option maxRecDepth 16384

noncomputable section

namespace Cert.Sb

open Idealize.ShloMosaic Idealize.ShloMosaic.TcCoe Idealize.SL.Sem

/-- A real array, continued by zero. -/
theorem real_table {A B : ℕ} (x : (⟨2, ![A, B]⟩ : Shape).Idx → EReal) (h : ∃ r : (⟨2, ![A, B]⟩ : Shape).Idx → ℝ, ∀ i, x i = r i) :
    ∃ P : ℕ → ℕ → ℝ, ∀ (a : Fin A) (d : Fin B), x (ix2 a d) = ((P a.val d.val : ℝ) : EReal) := by
  obtain ⟨r, hr⟩ := h
  refine ⟨fun a d => if h : a < A ∧ d < B then r (ix2 ⟨a, h.1⟩ ⟨d, h.2⟩) else 0, fun a d => ?_⟩
  dsimp only
  rw [hr, dif_pos ⟨a.isLt, d.isLt⟩]

/-- The two arguments the claim starts from hold real numbers. -/
theorem real_args (x0 : FVec Ideal Pre_sb_finite.S8192x4096 .f32) (x1 : FVec Ideal Pre_sb_finite.S8192x512 .bf16)
    (h : Pre_sb_finite.fn (F := Ideal) x0 x1 = fun _ => 1#1) :
    (∃ P : ℕ → ℕ → ℝ, ∀ a d, x0 (ix2 a d) = ((P a.val d.val : ℝ) : EReal)) ∧ ∃ G : ℕ → ℕ → ℝ, ∀ a d, x1 (ix2 a d) = ((G a.val d.val : ℝ) : EReal) := by
  have h0 := congrFun h (fun i => i.elim0)
  unfold Pre_sb_finite.fn at h0
  obtain ⟨h0', h1⟩ := IntOp.andi_eq_one.1 h0
  exact ⟨real_table _ (Cert.Finite.real_of_all x0 _ _ _ _ h0'), real_table _ (Cert.Finite.real_of_all (x1 : FVec Ideal Pre_sb_finite.S8192x512 .f32) _ _ _ _ h1)⟩

/-- The reference's run keeps its arguments and has no semaphores. -/
theorem reference_frame : quiescent_Reference2Ideal := fun m ρ _ =>
  (θ_run _ _ _).mono (fun r h => ⟨fun c => (h c).2.2.2, sem_eq_zero_of_no_sems rfl r.2⟩) (Reference2Ideal.Value.run (F := Ideal) m ρ)

/-- The attention gradient: the kernel's arrays are the reference's, at finite arguments. -/
theorem gradient : algebraic_Kernel2Ideal_Reference2Ideal_pre_sb_finite := by
  intro m g m' g' hpre hag
  obtain ⟨⟨P, hx⟩, ⟨G, hg⟩⟩ := real_args _ _ (hpre 0)
  refine ⟨fun c => Reference2Ideal.Read.val_main_v51 (F := Ideal) (projection m c) (outGrad m c),
    fun c => Reference2Ideal.Read.val_main_v52 (F := Ideal) (projection m c) (outGrad m c),
    fun c => Reference2Ideal.Read.val_main_v53 (F := Ideal) (projection m c) (outGrad m c), ?_, ?_⟩
  · refine (θ_run _ _ _).mono (fun r h c => ?_) (run_blocks (F := Ideal) m g)
    obtain rfl : c = 0 := Subsingleton.elim _ _
    obtain ⟨h0, h1, h2, h3⟩ := h.1 0
    exact ⟨h0.trans (final_q m 0 hx hg), h1.trans (final_k m 0 hx hg), h2.trans (final_v m 0 hx hg), h3⟩
  · refine (θ_run _ _ _).mono (fun r h c => ?_) (Reference2Ideal.Value.run (F := Ideal) m' g')
    obtain ⟨e0, e1⟩ := hag c
    obtain ⟨h0, h1, h2, h3⟩ := h c
    refine ⟨h0.trans ?_, h1.trans ?_, h2.trans ?_, h3⟩
    · rw [Reference2Ideal.Read.val_main_v51_eq, e0, e1]
    · rw [Reference2Ideal.Read.val_main_v52_eq, e0, e1]
    · rw [Reference2Ideal.Read.val_main_v53_eq, e0, e1]

end Cert.Sb
-- ==== Proof.SbfModel.lean ====
/-
  The stick-breaking attention's forward pass, region `cc0_sb_attention_fwd` of `Kernel9Ideal`: what one grid point
  computes, over the block functions of the gradient's model. Four chains walk their key blocks from the diagonal to the
  left, carrying the row sums of the log masses passed so far and the output so far; nothing else is kept.
-/
module

public import proofs.«01_k».proof.Proof.SbModel
public import proofs.«01_k».proof.Proof.Gen.Kernel9Ideal.Skeleton

@[expose] public section

noncomputable section

namespace Cert.SbForward

open Idealize.ShloMosaic Kernel9Ideal Kernel9Ideal.Gen

variable {F : FTy → Type} [FloatOps F] [Named F]

/-- What a grid point does not change: the chains' queries, and the head pair's keys and values. -/
structure Held (F : FTy → Type) where
  qh : Fin 4 → FVec F S256x128 .bf16
  K : S8192x128.Idx → F .f32
  V : S8192x128.Idx → F .f32

/-- What it carries: how many blocks to the left of the diagonal, and per chain the log mass passed and the output. -/
structure Carried (F : FTy → Type) where
  r : BitVec 32
  carry : Fin 4 → FVec F S256x1 .f32
  acc : Fin 4 → FVec F S256x128 .f32

/-- One key block for each chain: the chains' masks `mk`, the blocks' offsets `off`. -/
def block (H : Held F) (mk : Fin 4 → FVec F S256x256 .f32 → FVec F S256x256 .f32) (off : BitVec 32 → Fin 2 → ℕ)
    (r : BitVec 32) (carry' : Fin 4 → FVec F S256x1 .f32 → FVec F S256x1 .f32) (s : Carried F) : Carried F :=
  let kb : Fin 4 → FVec F S256x128 .bf16 := fun j => truncf .bf16 (Sb.rows H.K (off (Sb.half j))) bitsLt_bf16_f32
  let vb : Fin 4 → FVec F S256x128 .bf16 := fun j => truncf .bf16 (Sb.rows H.V (off (Sb.half j))) bitsLt_bf16_f32
  let z : Fin 4 → FVec F S256x256 .f32 := fun j => Sb.cross (H.qh j) (kb j)
  { r := r
    carry := fun j => carry' j (Sb.rowSum (Sb.left (mk j) (z j)))
    acc := fun j => addf (s.acc j) (Sb.querySide (Sb.weights (mk j) Sb.triStrict (z j) (s.carry j)) (vb j)) }

/-- The diagonal blocks. -/
def diag (i : grid0.Coords) (H : Held F) : Carried F :=
  block H (fun _ => Sb.causal) (k0_off1 i) 1#32 (fun _ x => x)
    { r := 0#32, carry := fun _ => Sb.zeroCol, acc := fun _ => Sb.zeroRows }

/-- The next trip: one block further, or past the last one when every chain's log mass has fallen below the threshold. -/
def next (i : grid0.Coords) (s : Carried F) (carry : Fin 4 → FVec F S256x1 .f32) : BitVec 32 :=
  Scalar.select (Scalar.cmpf .olt
      (Scalar.maximumf (Scalar.maximumf (Scalar.maximumf (Sb.greatest (carry 0)) (Sb.greatest (carry 1))) (Sb.greatest (carry 2))) (Sb.greatest (carry 3)))
      (Named.named κ "exit" 0xC2F00000#32 : F .f32))
    (Scalar.addi (Sb.last i) 1#32) (Scalar.addi s.r 1#32)

/-- One trip to the left. -/
def trip (i : grid0.Coords) (H : Held F) (s : Carried F) : Carried F :=
  let s' := block H (fun j => Sb.kept (Sb.live i s.r (Sb.half j))) (k0_off2 i s.r) s.r (fun j x => addf (s.carry j) x) s
  { s' with r := next i s s'.carry }

/-- The walk, at most `k` trips of it. -/
def walk (i : grid0.Coords) (H : Held F) : ℕ → Carried F → Carried F
  | 0, s => s
  | k + 1, s => if Scalar.cmpi .sle s.r (Sb.last i) = 1#1 then walk i H k (trip i H s) else s

/-- What the loop hands back, as the tuple the program passes. -/
def Carried.tuple (s : Carried F) : BitVec 32 × FVec F S256x1 .f32 × FVec F S256x1 .f32 × FVec F S256x1 .f32 × FVec F S256x1 .f32 ×
    FVec F S256x128 .f32 × FVec F S256x128 .f32 × FVec F S256x128 .f32 × FVec F S256x128 .f32 :=
  (s.r, s.carry 0, s.carry 1, s.carry 2, s.carry 3, s.acc 0, s.acc 1, s.acc 2, s.acc 3)

/-- What a grid point holds, of its blocks: queries `q`, keys `k`, values `v`. -/
def held (q : S512x128.Idx → F .f32) (k v : S8192x128.Idx → F .f32) : Held F where
  qh j := truncf .bf16 (mulf (Sb.only j (Sb.halfRows q j)) (broadcast S256x128 (Scalar.ofBits .f32 0x3E000000#32))) bitsLt_bf16_f32
  K := k
  V := v

/-- A whole grid point. -/
def point (i : grid0.Coords) (H : Held F) : Carried F := walk i H 33 (diag i H)

/-- Two chains' outputs, each at its own head's lanes. -/
def pair (a b : FVec F S256x128 .f32) : FVec F S256x128 .f32 := select (Sb.lanes 0) a b

/-- Two half blocks, one after the other. -/
def stack {α : Type} (u v : S256x128.Idx → α) : S512x128.Idx → α :=
  fun y => if h : ∀ a, (![256, 0] : Fin 2 → ℕ) a ≤ (y a).val ∧ (y a).val < (![256, 0] : Fin 2 → ℕ) a + S256x128.size a then
    v (Rect.unitLocal (s := S512x128) (off := ![256, 0]) (size := S256x128.size) y h)
  else u (fun a => ⟨(y a).val % S256x128.size a, Nat.mod_lt _ (by revert a; decide)⟩)

/-- The output's block, in the matrix format and in full. -/
def outWide (s : Carried F) : S512x128.Idx → F .f32 := stack (pair (s.acc 0) (s.acc 1)) (pair (s.acc 2) (s.acc 3))
def outNarrow (s : Carried F) : S512x128.Idx → F .bf16 :=
  stack (truncf .bf16 (pair (s.acc 0) (s.acc 1)) bitsLt_bf16_f32 : FVec F S256x128 .bf16) (truncf .bf16 (pair (s.acc 2) (s.acc 3)) bitsLt_bf16_f32 : FVec F S256x128 .bf16)

end Cert.SbForward

end
-- ==== Proof.SbfLoop.lean ====
/-
  The loop of region `cc0_sb_attention_fwd` of `Kernel9Ideal`: its label's specification (from the carried values it hands
  back the values of `SbForward.walk`, the keys' and values' buffers as they were), by induction on the trips still to run.
-/
module

public import proofs.«01_k».proof.Proof.SbfModel
public import proofs.«01_k».proof.Proof.SbLoop
public import proofs.«01_k».proof.Proof.Gen.Kernel9Ideal.Launch

@[expose] public section

noncomputable section

namespace Cert.SbForward

open Kernel9Ideal Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sb (qi 𝒱₀ rows last)

variable {F : FTy → Type} [FloatOps F] [Named F]

local notation "𝕄" => MT nD τ sig Unit (Elt F) ℕ (UR sig nD τ) ℕ

/-- The offsets of a trip are inside the arrays, -/
theorem check_group : ∀ q : Fin 16, ∀ n : Fin 34, 1 ≤ n.val → n.val ≤ 2 * q.val + 1 → k0_chk1 (Sb.group q) (BitVec.ofNat 32 n.val) := by
  decide +kernel

theorem check (i : grid0.Coords) (n : ℕ) (h1 : 1 ≤ n) (hn : n ≤ 2 * (qi i).val + 1) : k0_chk1 i (BitVec.ofNat 32 n) :=
  check_group (qi i) ⟨n, by have := (qi i).isLt; omega⟩ h1 hn

/-- and its next word is one further, or past the last. -/
theorem next_word (i : grid0.Coords) (s : Carried F) (cr : Fin 4 → FVec F S256x1 .f32) (n : ℕ) (hs : s.r = BitVec.ofNat 32 n)
    (hn : n ≤ 2 * (qi i).val + 1) :
    ∃ n', next i s cr = BitVec.ofNat 32 n' ∧ n < n' ∧ n' ≤ 2 * (qi i).val + 2 := by
  unfold next Scalar.select
  split
  · exact ⟨2 * (qi i).val + 2, Sb.past_group (qi i), by omega, le_refl _⟩
  · rw [hs]
    exact ⟨n + 1, Sb.succ_word ⟨n, by have := (qi i).isLt; omega⟩, by omega, by omega⟩

section Label

variable (c : Dev nD) (i : grid0.Coords)
variable (arg3 : Memref sig .tc .vmem S8192x128 .f32) (harg3 : arg3.IsWhole) (arg4 : Memref sig .tc .vmem S8192x128 .f32) (harg4 : arg4.IsWhole)
variable (H : Held F)

/-- The record the loop is called with. -/
def args (s : Carried F) : Cc0While1 F :=
  ⟨i, arg3, harg3, H.qh 0, Sb.triStrict, H.qh 1, H.qh 2, H.qh 3, arg4, harg4, s.r, s.carry 0, s.carry 1, s.carry 2, s.carry 3,
    s.acc 0, s.acc 1, s.acc 2, s.acc 3⟩

/-- The two buffers the loop reads. -/
def buffers : sProp 𝕄 :=
  iprop(owns (c : Thread nD τ) arg3 fullShare H.K ∗ owns (c : Thread nD τ) arg4 fullShare H.V)

/-- The specification with at most `k` trips to run. -/
def spec (k : ℕ) (s : Carried F) : sWPT 𝕄 (BitVec 32 × FVec F S256x1 .f32 × FVec F S256x1 .f32 × FVec F S256x1 .f32 × FVec F S256x1 .f32 ×
    FVec F S256x128 .f32 × FVec F S256x128 .f32 × FVec F S256x128 .f32 × FVec F S256x128 .f32) := do
  sWPT.consume (buffers c arg3 arg4 H)
  sWPT.produce (buffers c arg3 arg4 H)
  pure (walk i H k s).tuple

theorem spec_apply (k : ℕ) (s : Carried F) (Q : _ → sProp 𝕄) :
    spec c i arg3 arg4 H k s Q = iprop(buffers c arg3 arg4 H ∗ (buffers c arg3 arg4 H -∗ Q (walk i H k s).tuple)) := rfl

/-- A load of 256 rows. -/
theorem load_rows {bd : Option ℕ} {E : Set ℕ} {α : Type} {Q : α → sProp (MT nD τ sig Unit (Elt F) ℕ (UR sig nD τ) ℕ)}
    {m : Memref sig .tc .vmem S8192x128 .f32} {off : Fin 2 → ℕ} {inb : ∀ a, off a + S256x128.size a ≤ S8192x128.size a}
    {hl : m.view.LoadsAt (Rect.unit (s := S8192x128) off S256x128.size inb).toLoadRect} {x : S8192x128.Idx → F .f32}
    {k : (S256x128.Idx → F .f32) → Prog (TpuEff nD τ sig (Elt F) (Λ₀ F) .tc) α} :
    (owns (c : Thread nD τ) m fullShare x : sProp 𝕄)
      ⊢ iprop((owns (c : Thread nD τ) m fullShare x -∗ wp frame (wpE (defs₀ (F := F)) 𝒱₀ (c : Thread nD τ) bd) E (k (rows x off)) Q)
        -∗ wp frame (wpE (defs₀ (F := F)) 𝒱₀ (c : Thread nD τ) bd) E (.op (.load m (Rect.unit (s := S8192x128) off S256x128.size inb).toLoadRect hl) k) Q) := by
  rw [← Sb.rows_eq x off inb]
  exact ByValue.load 𝒱₀ (c : Thread nD τ) bd E

set_option maxHeartbeats 4000000 in
set_option maxRecDepth 65536 in
/-- The label's body meets the specification. -/
theorem spec_le (E : Set ℕ) : ∀ k s n, s.r = BitVec.ofNat 32 n → 1 ≤ n → n ≤ 2 * (qi i).val + 2 → 2 * (qi i).val + 2 ≤ n + k →
    ∀ Q, spec c i arg3 arg4 H k s Q
      ⊢ wp frame (wpE (defs₀ (F := F)) 𝒱₀ (c : Thread nD τ) (some k)) E
          (defs₀ (F := F) .tc 1 (args i arg3 harg3 arg4 harg4 H s)) Q := by
  intro k
  induction k with
  | zero =>
    intro s n hs h1 h2 h3 Q
    have hq := (qi i).isLt
    rw [spec_apply]
    show _ ⊢ wp frame (wpE (defs₀ (F := F)) 𝒱₀ (c : Thread nD τ) (some 0)) E
      (cc0_while1 i arg3 harg3 (H.qh 0) Sb.triStrict (H.qh 1) (H.qh 2) (H.qh 3) arg4 harg4 s.r (s.carry 0) (s.carry 1) (s.carry 2) (s.carry 3)
        (s.acc 0) (s.acc 1) (s.acc 2) (s.acc 3)) Q
    simp only [cc0_while1_eq_skeleton]; unfold cc0_while1_skel
    have htest : ¬ Scalar.cmpi .sle s.r (last i) = 1#1 := by
      rw [hs, Sb.test_iff i n (by omega)]; omega
    have htest' : ¬ Scalar.cmpi .sle s.r (Scalar.subi (Scalar.addi (Scalar.muli (BitVec.ofNat 32 (i 1).val) 2#32) 2#32) 1#32) = 1#1 := htest
    simp only [htest', ↓reduceIte, Prog.pure_eq_ret, walk, Carried.tuple]
    iintro ⟨Hb, Hk⟩
    rw [wp_ret]; imodintro
    iapply Hk $$ Hb
  | succ k ih =>
    intro s n hs h1 h2 h3 Q
    have hq := (qi i).isLt
    rw [spec_apply]
    show _ ⊢ wp frame (wpE (defs₀ (F := F)) 𝒱₀ (c : Thread nD τ) (some (k + 1))) E
      (cc0_while1 i arg3 harg3 (H.qh 0) Sb.triStrict (H.qh 1) (H.qh 2) (H.qh 3) arg4 harg4 s.r (s.carry 0) (s.carry 1) (s.carry 2) (s.carry 3)
        (s.acc 0) (s.acc 1) (s.acc 2) (s.acc 3)) Q
    simp only [cc0_while1_eq_skeleton]; unfold cc0_while1_skel
    by_cases htest : Scalar.cmpi .sle s.r (last i) = 1#1
    · have htest' : Scalar.cmpi .sle s.r (Scalar.subi (Scalar.addi (Scalar.muli (BitVec.ofNat 32 (i 1).val) 2#32) 2#32) 1#32) = 1#1 := htest
      have hn : n ≤ 2 * (qi i).val + 1 := by
        rw [hs] at htest; exact (Sb.test_iff i n (by omega)).mp htest
      have hwalk : walk i H (k + 1) s = walk i H k (trip i H s) := by
        rw [walk, if_pos htest]
      have hchk : k0_chk1 i s.r := by rw [hs]; exact check i n h1 hn
      obtain ⟨n', e', hlt, hle⟩ := next_word i s (trip i H s).carry n hs hn
      rw [hwalk]
      simp only [htest', ↓reduceIte]
      simp only [k0_part6_eq_skeleton, k0_part7_eq_skeleton, k0_part8_eq_skeleton, k0_part9_eq_skeleton]
      unfold k0_part6_skel k0_part7_skel k0_part8_skel k0_part9_skel
      simp only [Prog.lift, Prog.bind_op, Prog.bind_ret, Prog.pure_eq_ret]
      unfold buffers
      iintro ⟨⟨H3, H4⟩, Hk⟩
      iapply (wp_assume 𝒱₀ (c : Thread nD τ) (some (k + 1)) E hchk)
      iapply (load_rows c) $$ H3; iintro H3
      iapply (load_rows c) $$ H3; iintro H3
      iapply (load_rows c) $$ H4; iintro H4
      iapply (load_rows c) $$ H4; iintro H4
      iapply (load_rows c) $$ H4; iintro H4
      iapply (load_rows c) $$ H4; iintro H4
      iapply (wp_call_spec 𝒱₀ (c : Thread nD τ) (some (k + 1)) E (spec c i arg3 arg4 H k (trip i H s)) k
        (fun u hu => by cases hu; exact Nat.lt_succ_self k)
        (ih (trip i H s) n' e' (by omega) hle (by omega)))
      rw [spec_apply]; unfold buffers
      isplitl [H3 H4]
      · isplitl [H3]; · iexact H3
        iexact H4
      iintro Hb
      rw [wp_ret]; imodintro
      iapply Hk $$ Hb
    · have htest' : ¬ Scalar.cmpi .sle s.r (Scalar.subi (Scalar.addi (Scalar.muli (BitVec.ofNat 32 (i 1).val) 2#32) 2#32) 1#32) = 1#1 := htest
      have hwalk : walk i H (k + 1) s = s := by rw [walk, if_neg htest]
      rw [hwalk]
      simp only [htest', ↓reduceIte, Prog.pure_eq_ret, Carried.tuple]
      iintro ⟨Hb, Hk⟩
      rw [wp_ret]; imodintro
      iapply Hk $$ Hb

end Label

end Cert.SbForward

end
-- ==== Proof.SbfBody.lean ====
/-
  The body of region `cc0_sb_attention_fwd` of `Kernel9Ideal` at any whole staging buffers: from the queries', the keys' and
  the values' blocks it leaves the output's block, in the matrix format and in full.
-/
module

public import proofs.«01_k».proof.Proof.SbfLoop

@[expose] public section

noncomputable section

namespace Cert.SbForward

open Kernel9Ideal Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Sb (qi 𝒱₀)

variable {F : FTy → Type} [FloatOps F] [Named F]

local notation "𝕄" => MT nD τ sig Unit (Elt F) ℕ (UR sig nD τ) ℕ

/-- The lower half put after the upper one covers the block, whatever stood there. -/
theorem put_stack {α : Type} (d : S512x128.Idx → α) (u v : S256x128.Idx → α) :
    VecWindow.put (s := S512x128) (VecWindow.put (s := S512x128) d ![0, 0] S256x128.size u) ![256, 0] S256x128.size v = stack u v := by
  funext y
  have h0 : (y 0).val < 512 := (y 0).isLt
  have h1 : (y 1).val < 128 := (y 1).isLt
  unfold VecWindow.put stack
  split
  · rfl
  · rename_i h
    have hlow : (y 0).val < 256 := by
      by_contra hc
      exact h (Fin.forall_fin_two.mpr ⟨⟨Nat.le_of_not_lt hc, h0⟩, ⟨Nat.zero_le _, h1.trans_eq (Nat.zero_add _).symm⟩⟩)
    have hy : ∀ a, (![0, 0] : Fin 2 → ℕ) a ≤ (y a).val ∧ (y a).val < (![0, 0] : Fin 2 → ℕ) a + S256x128.size a :=
      Fin.forall_fin_two.mpr ⟨⟨Nat.zero_le _, hlow.trans_eq (Nat.zero_add _).symm⟩, ⟨Nat.zero_le _, h1.trans_eq (Nat.zero_add _).symm⟩⟩
    rw [dif_pos hy]
    refine congrArg u (funext (Fin.forall_fin_two.mpr ⟨Fin.ext ?_, Fin.ext ?_⟩))
    · exact (Nat.mod_eq_of_lt hlow).symm
    · exact (Nat.mod_eq_of_lt h1).symm

section Body

variable (c : Dev nD) (i : grid0.Coords)
variable (arg2 : Memref sig .tc .vmem S512x128 .f32) (harg2 : arg2.IsWhole)
variable (arg3 : Memref sig .tc .vmem S8192x128 .f32) (harg3 : arg3.IsWhole) (arg4 : Memref sig .tc .vmem S8192x128 .f32) (harg4 : arg4.IsWhole)
variable (arg5 : Memref sig .tc .vmem S512x128 .bf16) (harg5 : arg5.IsWhole) (arg6 : Memref sig .tc .vmem S512x128 .f32) (harg6 : arg6.IsWhole)
variable (x2 : S512x128.Idx → F .f32) (x3 x4 : S8192x128.Idx → F .f32) (d5 : S512x128.Idx → F .bf16) (d6 : S512x128.Idx → F .f32)

/-- The five buffers, the outputs' at `y5` and `y6`. -/
def five (y5 : S512x128.Idx → F .bf16) (y6 : S512x128.Idx → F .f32) : sProp 𝕄 :=
  iprop(owns (c : Thread nD τ) arg2 fullShare x2 ∗ owns (c : Thread nD τ) arg3 fullShare x3 ∗ owns (c : Thread nD τ) arg4 fullShare x4
    ∗ owns (c : Thread nD τ) arg5 fullShare y5 ∗ owns (c : Thread nD τ) arg6 fullShare y6)

set_option maxHeartbeats 8000000 in
set_option maxRecDepth 65536 in
/-- The whole body, run once. -/
theorem body (E : Set ℕ) (Q : PUnit → sProp (MT nD τ sig Unit (Elt F) ℕ (UR sig nD τ) ℕ)) :
    (iprop(five c arg2 arg3 arg4 arg5 arg6 x2 x3 x4 d5 d6
        ∗ (five c arg2 arg3 arg4 arg5 arg6 x2 x3 x4 (outNarrow (point i (held x2 x3 x4))) (outWide (point i (held x2 x3 x4))) -∗ Q ⟨⟩)) : sProp 𝕄)
      ⊢ wp frame (wpE (defs₀ (F := F)) 𝒱₀ (c : Thread nD τ) none) E
          (cc0_sb_attention_fwd i arg2 harg2 arg3 harg3 arg4 harg4 arg5 harg5 arg6 harg6) Q := by
  have hq := (qi i).isLt
  simp only [cc0_sb_attention_fwd_eq_skeleton]; unfold cc0_sb_attention_fwd_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold five point
  have hwalk := spec_le c i arg3 harg3 arg4 harg4 (held x2 x3 x4) E 33 (diag i (held x2 x3 x4)) 1 rfl le_rfl (by omega) (by omega)
  simp only [Prog.lift, Prog.bind_op, Prog.bind_ret, Prog.pure_eq_ret]
  iintro ⟨⟨H2, H3, H4, H5, H6⟩, Hk⟩
  iapply (ByValue.load 𝒱₀ (c : Thread nD τ) none E) $$ H2; iintro H2
  iapply (ByValue.load 𝒱₀ (c : Thread nD τ) none E) $$ H2; iintro H2
  iapply (ByValue.load 𝒱₀ (c : Thread nD τ) none E) $$ H2; iintro H2
  iapply (ByValue.load 𝒱₀ (c : Thread nD τ) none E) $$ H2; iintro H2
  iapply (load_rows c) $$ H3; iintro H3
  iapply (load_rows c) $$ H3; iintro H3
  iapply (load_rows c) $$ H4; iintro H4
  iapply (load_rows c) $$ H4; iintro H4
  iapply (load_rows c) $$ H4; iintro H4
  iapply (load_rows c) $$ H4; iintro H4
  iapply (wp_call_spec 𝒱₀ (c : Thread nD τ) none E (spec c i arg3 arg4 (held x2 x3 x4) 33 (diag i (held x2 x3 x4))) 33
    (fun u hu => nomatch hu) hwalk)
  rw [spec_apply]; unfold buffers
  isplitl [H3 H4]
  · isplitl [H3]; · iexact H3
    iexact H4
  iintro ⟨H3, H4⟩
  generalize walk i (held x2 x3 x4) 33 (diag i (held x2 x3 x4)) = s
  unfold Carried.tuple outNarrow outWide
  iapply (ByValue.load 𝒱₀ (c : Thread nD τ) none E) $$ H5; iintro H5
  iapply (ByValue.store 𝒱₀ (c : Thread nD τ) none E) $$ H5; iintro H5
  iapply (ByValue.load 𝒱₀ (c : Thread nD τ) none E) $$ H6; iintro H6
  iapply (ByValue.store 𝒱₀ (c : Thread nD τ) none E) $$ H6; iintro H6
  iapply (ByValue.load 𝒱₀ (c : Thread nD τ) none E) $$ H5; iintro H5
  iapply (ByValue.store 𝒱₀ (c : Thread nD τ) none E) $$ H5; iintro H5
  iapply (ByValue.load 𝒱₀ (c : Thread nD τ) none E) $$ H6; iintro H6
  iapply (ByValue.store 𝒱₀ (c : Thread nD τ) none E) $$ H6; iintro H6
  rw [wp_ret]; imodintro
  rw [← put_stack d5, ← put_stack d6]
  iapply Hk
  isplitl [H2]; · iexact H2
  isplitl [H3]; · iexact H3
  isplitl [H4]; · iexact H4
  isplitl [H5]; · iexact H5
  iexact H6

end Body

end Cert.SbForward

end
-- ==== Proof.SbfFrame.lean ====
/-
  The run of `Kernel9Ideal`'s pallas_call over its 64 grid points, at any `F`: no point depends on another, so each output
  block is the model's value of the blocks read there; with it the run and the frame.
-/
module

public import proofs.«01_k».proof.Proof.SbfBody
public import proofs.«01_k».proof.Proof.Gen.Kernel9Ideal.Points
public import Idealize.ShloMosaic.Lib.Pipeline.Value

@[expose] public section

set_option maxRecDepth 16384

noncomputable section

namespace Cert.SbForward

open Kernel9Ideal Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Sb (𝒱₀)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the region is entered: the host does nothing before it. -/
abbrev V (c : Dev nD) (b : Ref sig .tc) : Buf (Elt F) ((c : Thread nD τ).loc b) :=
  StableHlo.after ([] : List (List (HloOp τ sig (Elt F)))).flatten (fun b => m (c, b)) b

/-- The program up to the region. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [] trivial trivial main_chain

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What point `t` computes. -/
def doneAt (c : Dev nD) (t : Fin (cfg0 (F := F)).N) : Carried F :=
  point (grid0.coords t) (held (iblk m c 0 t) (iblk m c 1 t) (iblk m c 2 t))

/-- The proof data: inputs keep their blocks, the outputs are the model's, nothing is carried. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outNarrow (doneAt m c t)
    | ⟨4, _⟩ => outWide (doneAt m c t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = outNarrow (doneAt m c t) := by dsimp only [dats]; rfl
theorem after4 (c : Dev nD) (t : Fin (cfg0 (F := F)).N) : (dats m 0 c).after 4 t = outWide (doneAt m c t) := by dsimp only [dats]; rfl

/-- An input window's buffer holds its block at every point. -/
theorem before0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfg0 (F := F)).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfg0 (F := F)).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-- No window is ever idle, so each is left at its named contents. -/
theorem leaves_live (c : Dev nD) (w : Fin (cfg0 (F := F)).W) (t : Fin (cfg0 (F := F)).N) (h : (cfg0 (F := F)).idle w ((cfg0 (F := F)).grid.coords t) = false) :
    (dats m 0 c).leavesExact w t = owns (c : Thread nD τ) (((cfg0 (F := F)).win w).stage ((cfg0 (F := F)).slots t w)) fullShare ((dats m 0 c).after w t) := by
  unfold Dat.leavesExact; rw [h]

/-- What the body is called with, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin (cfg0 (F := F)).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

set_option maxHeartbeats 4000000 in
/-- The body's run at point `t`. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2]
  rw [show (dats m 0 c).owesAt () t.succ = (dats m 0 c).owesAt () t.castSucc from rfl,
    show (dats m 0 c).Φ t.succ = (dats m 0 c).Φ t.castSucc from rfl]
  rw [leaves_live m c 0 t rfl, leaves_live m c 1 t rfl, leaves_live m c 2 t rfl, leaves_live m c 3 t rfl, leaves_live m c 4 t rfl,
    after0, after1, after2, after3, after4]
  have run : ∀ (d3 : S512x128.Idx → F .bf16) (d4 : S512x128.Idx → F .f32) (Q : PUnit → sProp 𝕄), _ :=
    fun d3 d4 Q => body c (grid0.coords t) (st0_0 t) (hstage0_0 (((cfg0 (F := F)).slots t 0).cast nbuf0_0)) (st0_1 t) (hstage0_1 (((cfg0 (F := F)).slots t 1).cast nbuf0_1))
      (st0_2 t) (hstage0_2 (((cfg0 (F := F)).slots t 2).cast nbuf0_2)) (st0_3 t) (hstage0_3 (((cfg0 (F := F)).slots t 3).cast nbuf0_3))
      (st0_4 t) (hstage0_4 (((cfg0 (F := F)).slots t 4).cast nbuf0_4)) (iblk m c 0 t) (iblk m c 1 t) (iblk m c 2 t) d3 d4 Set.univ Q
  iintro ⟨HΦ, Ho, ⟨%d0, H0⟩, ⟨%d1, H1⟩, ⟨%d2, H2⟩, ⟨%d3, H3⟩, ⟨%d4, H4⟩⟩
  iapply (run ((dats m 0 c).before 3 t d3) ((dats m 0 c).before 4 t d4) _)
  unfold five doneAt
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The body's obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every weakly fair execution terminates; the arrays end as the proof data say, every counter at zero. -/
theorem run_all : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hin := fun _ => .rfl) (hout := fun _ => .rfl)

/-- The same run with the outputs' arrays named and the argument unchanged. -/
theorem run_blocks : θ_run defs (onTc (τ := τ) (main (F := F))) ⟨m, fun _ => 0, ρ⟩ (fun r => (∀ c : Dev nD,
      r.2.mem ((c : Thread nD τ).loc main_v0_0) = (dats m 0 c).arrAt 3 (cfg0 (F := F)).N
      ∧ r.2.mem ((c : Thread nD τ).loc main_v0_1) = (dats m 0 c).arrAt 4 (cfg0 (F := F)).N
      ∧ r.2.mem ((c : Thread nD τ).loc main_arg0) = m ((c : Thread nD τ).loc main_arg0)) ∧ r.2.sem = fun _ => 0) :=
  (θ_run defs _ _).mono (fun _ h => ⟨fun c => ⟨(h.1 c).1 3, (h.1 c).1 4,
    ((h.1 c).1 0).trans (((dats m 0 c).arrAt_in 0 rfl _).trans (A_eq m c 0))⟩, h.2⟩) (run_all m ρ)

/-- The frame. -/
theorem unchanged : θ_run defs (onTc (τ := τ) (main (F := F))) ⟨m, fun _ => 0, ρ⟩ (fun r => (∀ c : Dev nD,
      r.2.mem ((c : Thread nD τ).loc main_arg0) = m ((c : Thread nD τ).loc main_arg0)) ∧ r.2.sem = fun _ => 0) :=
  (θ_run defs _ _).mono (fun _ h => ⟨fun c => (h.1 c).2.2, h.2⟩) (run_blocks m ρ)

end Cert.SbForward

end
-- ==== Proof.SbfWalk.lean ====
/-
  The forward walk over the reals: with the first `m` key blocks still to come a chain has summed its rows' log masses and
  weighted values from key `256 m` on; at the end its rows are the output's.
-/
module

public import proofs.«01_k».proof.Proof.SbHolds
public import proofs.«01_k».proof.Proof.SbfModel

@[expose] public section

set_option maxRecDepth 16384

noncomputable section

namespace Cert.SbForward

open Idealize.ShloMosaic Kernel9Ideal Kernel9Ideal.Gen Finset
open Cert.Sb (Arrays IsBlock IsRows IsCol IsBuf Masks Causes group qi half live kept last head base qLane past blockZ blockW beyond outAt)

variable (X : Arrays) (h i : ℕ)

/-- What a point reads, over the reals. -/
structure Holds (H : Held Ideal) : Prop where
  qh : ∀ j, IsRows (H.qh j) (qLane X h i j)
  K : IsBuf H.K (fun b c => X.k b (128 * h + c))
  V : IsBuf H.V (fun b c => X.v b (128 * h + c))

/-- What it carries, chain `j` with its first `m j` blocks to come. -/
structure Stands (m : Fin 4 → ℕ) (s : Carried Ideal) : Prop where
  carry : ∀ j, IsCol (s.carry j) (past X.mass h i m j)
  acc : ∀ j, IsRows (s.acc j) (fun p c => ∑ b ∈ Ico (256 * m j) 8192, X.weight (head h j) (base i j + p) b * X.v b (128 * h + c))

section Step

variable {X h i} {H : Held Ideal} (hH : Holds X h i H) {m m' : Fin 4 → ℕ} {s : Carried Ideal} (hs : Stands X h i m s)
  {mk : Fin 4 → FVec Ideal S256x256 .f32 → FVec Ideal S256x256 .f32} {M : Fin 4 → ℕ → ℕ → Prop} {off : BitVec 32 → Fin 2 → ℕ}

include hH hs in
/-- One key block for each chain. -/
theorem block_step (hmk : ∀ j, Masks (mk j) (M j)) (hoff : ∀ j, off (half j) = ![256 * m' j, 0]) (hm' : ∀ j, 256 * m' j + 256 ≤ 8192)
    (hstep : ∀ j, (m j = m' j + 1 ∧ Causes (base i j) (256 * m' j) (M j)) ∨ (m j = 0 ∧ m' j = 0 ∧ ∀ p q, ¬ M j p q))
    (r : BitVec 32) (carry' : Fin 4 → FVec Ideal S256x1 .f32 → FVec Ideal S256x1 .f32)
    (hcarry : ∀ j x (r : ℕ → ℝ), IsCol x r → IsCol (carry' j x) (fun p => past X.mass h i m j p + r p)) :
    Stands X h i m' (block H mk off r carry' s) := by
  have hz : ∀ j, IsBlock (Sb.cross (H.qh j) (truncf .bf16 (Sb.rows H.K (off (half j)) : FVec Ideal S256x128 .f32) bitsLt_bf16_f32)) (blockZ X h i m' j) :=
    fun j => (Sb.cross_real (hH.qh j) (Sb.rows_real hH.K (hoff j) (hm' j))).congr fun p q => Sb.lane_score X h i j p (256 * m' j + q)
  constructor
  · intro j
    exact (hcarry j _ _ (Sb.rowSum_real (Sb.left_real (hmk j) (hz j)))).congr fun p hp =>
      (Sb.covers_mass (X := X) (h := h) hm' hstep j p hp).sum (hm' j)
  · intro j
    have hW := Sb.weights_real (hmk j) (hz j) (hs.carry j)
    have hV : IsRows (truncf .bf16 (Sb.rows H.V (off (half j)) : FVec Ideal S256x128 .f32) bitsLt_bf16_f32) _ := Sb.rows_real hH.V (hoff j) (hm' j)
    exact ((hs.acc j).add (Sb.query_real hW hV)).congr fun p c hp =>
      ((Sb.covers_weight (X := X) (h := h) hm' hstep j p hp).mul (fun b => X.v b (128 * h + c))).sum (hm' j)

end Step

/-! ### The words of a trip -/

theorem off1_group : ∀ q : Fin 16, ∀ j : Fin 4, k0_off1 (group q) (half j) = ![256 * (2 * q.val + j.val / 2), 0] := by decide +kernel
theorem off2_group : ∀ q : Fin 16, ∀ n : Fin 34, 1 ≤ n.val → n.val ≤ 2 * q.val + 1 → ∀ j : Fin 4,
    k0_off2 (group q) (BitVec.ofNat 32 n.val) (half j) = ![256 * (2 * q.val + j.val / 2 - n.val), 0] := by decide +kernel

/-- With the threshold at minus infinity no trip is the last before its time. -/
theorem next_eq (i : grid0.Coords) (s : Carried Ideal) (cr : Fin 4 → FVec Ideal S256x1 .f32) : next i s cr = Scalar.addi s.r 1#32 := by
  unfold next
  have e : ∀ x : Ideal .f32, Scalar.cmpf .olt x (Named.named κ "exit" 0xC2F00000#32 : Ideal .f32) = 0#1 := fun x => by
    show BitVec.ofBool (decide (x < (⊥ : EReal))) = 0#1
    rw [decide_eq_false not_lt_bot]; rfl
  rw [e]; rfl

/-! ### A whole grid point -/

section Point

variable {X h} {gi : grid0.Coords} {H : Held Ideal}

/-- Right of its diagonal block a row has no mass. -/
theorem past_start (j : Fin 4) (p : ℕ) (hp : p < 256) : past X.mass h i (fun j => 2 * i + j.val / 2 + 1) j p = 0 :=
  sum_eq_zero fun b hb => if_neg (beyond i j p b hp (mem_Ico.1 hb).1)

/-- Before the diagonal block nothing is carried. -/
theorem stands_start : Stands X h i (fun j => 2 * i + j.val / 2 + 1) { r := 0#32, carry := fun _ => Sb.zeroCol, acc := fun _ => Sb.zeroRows } where
  carry j := fun p c => by
    rw [past_start i j p.val p.isLt]
    pointwise [Sb.zeroCol]; rfl
  acc j := fun p c => by
    dsimp only
    rw [sum_eq_zero fun b hb => by rw [Arrays.weight, if_neg (beyond i j p.val b p.isLt (mem_Ico.1 hb).1), zero_mul]]
    pointwise [Sb.zeroRows]; rfl

variable (hH : Holds X h (qi gi).val H)
include hH

/-- After the diagonal block. -/
theorem stands_diag : Stands X h (qi gi).val (fun j => 2 * (qi gi).val + j.val / 2) (diag gi H) := by
  have hq := (qi gi).isLt
  refine block_step hH (stands_start (qi gi).val) (M := fun _ p q => q < p) (fun _ => Sb.causal_masks) (off1_group (qi gi)) (fun j => by omega)
    (fun j => .inl ⟨rfl, fun p hp q hq' => ?_⟩) _ _ fun j x r hr => hr.congr fun p hp => ?_
  · unfold base; omega
  · rw [past_start (X := X) (h := h) (qi gi).val j p hp, zero_add]

/-- After one trip more. -/
theorem stands_trip {s : Carried Ideal} (n : ℕ) (h1 : 1 ≤ n) (hn : n ≤ 2 * (qi gi).val + 1) (hr : s.r = BitVec.ofNat 32 n)
    (hs : Stands X h (qi gi).val (fun j => 2 * (qi gi).val + j.val / 2 + 1 - n) s) :
    Stands X h (qi gi).val (fun j => 2 * (qi gi).val + j.val / 2 + 1 - (n + 1)) (trip gi H s) ∧ (trip gi H s).r = BitVec.ofNat 32 (n + 1) := by
  have hq := (qi gi).isLt
  have key : Stands X h (qi gi).val (fun j => 2 * (qi gi).val + j.val / 2 + 1 - (n + 1))
      (block H (fun j => kept (live gi s.r (half j))) (k0_off2 gi s.r) s.r (fun j x => addf (s.carry j) x) s) := by
    rw [hr]
    refine block_step hH hs (M := fun j _ _ => live gi (BitVec.ofNat 32 n) (half j) = 1#1) (fun j => Sb.kept_masks _)
      (fun j => (off2_group (qi gi) ⟨n, by omega⟩ h1 hn j).trans ?_) (fun j => by omega) (fun j => ?_) _ _ fun j x r hx => (hs.carry j).add hx
    · show ![256 * (2 * (qi gi).val + j.val / 2 - n), 0] = _
      rw [show 2 * (qi gi).val + j.val / 2 - n = 2 * (qi gi).val + j.val / 2 + 1 - (n + 1) by omega]
    · have hlive := Sb.live_iff gi n h1 hn j
      by_cases hl : n ≤ 2 * (qi gi).val + j.val / 2
      · refine .inl ⟨by omega, fun p hp q hq' => ?_⟩
        rw [hlive]
        unfold base
        exact ⟨fun _ => by omega, fun _ => hl⟩
      · exact .inr ⟨by omega, by omega, fun p q => by rw [hlive]; exact hl⟩
  refine ⟨⟨key.carry, key.acc⟩, ?_⟩
  have e : (trip gi H s).r = next gi s (trip gi H s).carry := rfl
  rw [e, next_eq, hr]
  exact Sb.succ_word ⟨n, by omega⟩

/-- The walk reaches the first key block. -/
theorem stands_walk (k : ℕ) : ∀ (n : ℕ) (s : Carried Ideal), 1 ≤ n → n ≤ 2 * (qi gi).val + 2 → 2 * (qi gi).val + 2 ≤ n + k →
    s.r = BitVec.ofNat 32 n → Stands X h (qi gi).val (fun j => 2 * (qi gi).val + j.val / 2 + 1 - n) s →
    Stands X h (qi gi).val (fun _ => 0) (walk gi H k s) := by
  have hq := (qi gi).isLt
  have done : ∀ (n : ℕ) (s : Carried Ideal), n = 2 * (qi gi).val + 2 → Stands X h (qi gi).val (fun j => 2 * (qi gi).val + j.val / 2 + 1 - n) s →
      Stands X h (qi gi).val (fun _ => 0) s := fun n s hn hs =>
    (show (fun j : Fin 4 => 2 * (qi gi).val + j.val / 2 + 1 - n) = fun _ => 0 from funext fun j => by omega) ▸ hs
  induction k with
  | zero => exact fun n s h1 hn hk hr hs => done n s (by omega) hs
  | succ k ih =>
    intro n s h1 hn hk hr hs
    have test := Sb.test_iff gi n (by omega)
    rw [walk, hr]
    split
    · rename_i ht
      obtain ⟨hs', hr'⟩ := stands_trip hH n h1 (test.1 ht) hr hs
      exact ih (n + 1) _ (by omega) (by have := test.1 ht; omega) (by omega) hr' hs'
    · rename_i ht
      exact done n s (by have : ¬ n ≤ 2 * (qi gi).val + 1 := fun h => ht (test.2 h); omega) hs

/-- What a whole grid point leaves. -/
theorem stands_point : Stands X h (qi gi).val (fun _ => 0) (point gi H) := by
  have hq := (qi gi).isLt
  exact stands_walk hH 33 1 _ (by omega) (by omega) (by omega) rfl (stands_diag hH)

end Point

/-! ### The blocks read and the block left -/

/-- A point that reads its blocks of the arrays holds what the walk needs. -/
theorem holds {q : S512x128.Idx → EReal} {k v : S8192x128.Idx → EReal}
    (hq : ∀ (p : Fin 512) (c : Fin 128), q (ix2 p c) = ((X.q (512 * i + p.val) (128 * h + c.val) : ℝ) : EReal))
    (hk : IsBuf k fun b c => X.k b (128 * h + c)) (hv : IsBuf v fun b c => X.v b (128 * h + c)) : Holds X h i (held (F := Ideal) q k v) where
  qh j := fun p c => by
    have e : (held (F := Ideal) q k v).qh j (ix2 p c) = Sb.only (F := Ideal) j (Sb.halfRows q j) (ix2 p c) * Ideal.ofBits .f32 0x3E000000#32 := rfl
    rw [e, Sb.only_real (Sb.half_real (r := fun p c => X.q (512 * i + p) (128 * h + c)) hq j), Sb.scale_word, ← EReal.coe_mul]
    congr 1
    unfold qLane base
    dsimp only
    rw [show 512 * i + (256 * (j.val / 2) + p.val) = 256 * (2 * i + j.val / 2) + p.val by ring]
    split <;> simp
  K := hk
  V := hv

/-- Two half blocks' entries, one after the other. -/
theorem stack_at {u v : S256x128.Idx → EReal} {g : ℕ → ℕ → EReal} (hu : ∀ (p : Fin 256) (c : Fin 128), u (ix2 p c) = g p.val c.val)
    (hv : ∀ (p : Fin 256) (c : Fin 128), v (ix2 p c) = g (256 + p.val) c.val) (p : Fin 512) (c : Fin 128) : stack u v (ix2 p c) = g p.val c.val := by
  have hp := p.isLt
  have hc := c.isLt
  unfold stack
  by_cases hl : 256 ≤ p.val
  · rw [dif_pos (fun a => match a with
      | ⟨0, _⟩ => ⟨hl, hp⟩
      | ⟨1, _⟩ => ⟨Nat.zero_le _, by show c.val < 0 + 128; omega⟩)]
    have e : ∀ hh, (Rect.unitLocal (s := S512x128) (off := ![256, 0]) (size := S256x128.size) (ix2 p c) hh : S256x128.Idx) = ix2 (⟨p.val - 256, by omega⟩ : Fin 256) c :=
      fun hh => funext fun a => match a with
        | ⟨0, _⟩ => Fin.ext rfl
        | ⟨1, _⟩ => Fin.ext rfl
    rw [e, hv]
    exact congrArg (g · c.val) (Nat.add_sub_cancel' hl)
  · rw [dif_neg (fun hh => hl (hh 0).1)]
    refine (congrArg u (funext fun a => match a with
      | ⟨0, _⟩ => Fin.ext (Nat.mod_eq_of_lt (show p.val < 256 by omega))
      | ⟨1, _⟩ => Fin.ext (Nat.mod_eq_of_lt hc))).trans (hu ⟨p.val, by omega⟩ c)

/-- Two chains' rows together are the output's. -/
theorem pair_at {s : Carried Ideal} (hs : Stands X h i (fun _ => 0) s) (j j' : Fin 4) (h0 : j.val % 2 = 0) (h1 : j'.val = j.val + 1) (p : Fin 256) (c : Fin 128) :
    pair (s.acc j) (s.acc j') (ix2 p c) = ((outAt X h (512 * i + (256 * (j.val / 2) + p.val)) c.val : ℝ) : EReal) := by
  have hc := c.isLt
  have e : pair (s.acc j) (s.acc j') (ix2 p c) = Scalar.select (Sb.lanes 0 (ix2 p c)) (s.acc j (ix2 p c)) (s.acc j' (ix2 p c)) := rfl
  rw [e, Sb.lanes_at, Sb.pick, hs.acc j, hs.acc j', ← apply_ite (fun x : ℝ => (x : EReal))]
  congr 1
  unfold outAt Arrays.out head base
  dsimp only
  rw [show 64 * (2 * h + c.val / 64) + c.val % 64 = 128 * h + c.val by omega, h0, show j'.val % 2 = 1 by omega, show j'.val / 2 = j.val / 2 by omega,
    show 256 * (2 * i + j.val / 2) + p.val = 512 * i + (256 * (j.val / 2) + p.val) by ring, Nat.mul_zero, ← range_eq_Ico]
  rcases (by omega : c.val / 64 = 0 ∨ c.val / 64 = 1) with e | e <;> rw [e] <;> simp

/-- The output's block, in either format. -/
theorem outWide_at {s : Carried Ideal} (hs : Stands X h i (fun _ => 0) s) (p : Fin 512) (c : Fin 128) :
    outWide s (ix2 p c) = ((outAt X h (512 * i + p.val) c.val : ℝ) : EReal) :=
  stack_at (g := fun p c => ((outAt X h (512 * i + p) c : ℝ) : EReal)) (fun p c => (pair_at X h i hs 0 1 rfl rfl p c).trans (by
      show ((outAt X h (512 * i + (256 * 0 + p.val)) c.val : ℝ) : EReal) = _
      rw [Nat.mul_zero, Nat.zero_add]))
    (fun p c => pair_at X h i hs 2 3 rfl rfl p c) p c

theorem outNarrow_at {s : Carried Ideal} (hs : Stands X h i (fun _ => 0) s) (p : Fin 512) (c : Fin 128) :
    outNarrow s (ix2 p c) = ((outAt X h (512 * i + p.val) c.val : ℝ) : EReal) := outWide_at X h i hs p c

end Cert.SbForward

end
-- ==== Proof.SbfValue.lean ====
/-
  The attention forward's output arrays: each grid point writes its block of the reference's output, rounded to the matrix
  format and in full.
-/
module

public import proofs.«01_k».proof.Proof.SbfFrame
public import proofs.«01_k».proof.Proof.SbfWalk
public import proofs.«01_k».proof.Proof.SbRead
public import proofs.«01_k».proof.Proof.Gen.Reference9Ideal.Read
public import Idealize.ShloMosaic.Lib.Pipeline.ValueKit

@[expose] public section

set_option maxRecDepth 16384

noncomputable section

namespace Cert.SbForward

open Idealize.ShloMosaic Idealize.ShloMosaic.TcCoe Idealize.SL.Sem Kernel9Ideal Kernel9Ideal.Gen Finset
open Cert.Sb.Read (arr)

/-- The reference's forward lines are those whose gradient the other claim takes. -/
theorem forward_eq (x : FVec Ideal Reference9Ideal.S8192x4096 .f32) :
    Reference9Ideal.Read.val_main_v25 (F := Ideal) x = Reference2Ideal.Read.val_main_v25 (F := Ideal) x := rfl

/-- Which blocks point `t` reads and writes. -/
theorem idx : ∀ t : Fin (cfg0 (F := Ideal)).N, win0_0.index t = ![t.val % 16, t.val / 16] ∧ win0_1.index t = ![0, 4 + t.val / 16]
    ∧ win0_2.index t = ![0, 8 + t.val / 16] ∧ win0_3.index t = ![t.val % 16, t.val / 16] ∧ win0_4.index t = ![t.val % 16, t.val / 16] :=
  (by decide +kernel : ∀ t : Fin grid0.N, win0_0.index t = ![t.val % 16, t.val / 16] ∧ win0_1.index t = ![0, 4 + t.val / 16]
    ∧ win0_2.index t = ![0, 8 + t.val / 16] ∧ win0_3.index t = ![t.val % 16, t.val / 16] ∧ win0_4.index t = ![t.val % 16, t.val / 16])

variable (m : (ℓ : Loc nD τ sig) → Buf (Elt Ideal) ℓ) (c : Dev nD)

/-- The projection the program was launched with. -/
abbrev projection : FVec Ideal S8192x4096 .f32 := m ((c : Thread nD τ).loc main_arg0)

variable (t : Fin (cfg0 (F := Ideal)).N)

theorem blk0 (p : Fin 512) (d : Fin 128) (R : Fin 8192) (hR : (R : ℕ) = t.val % 16 * 512 + p) (D : Fin 4096) (hD : (D : ℕ) = t.val / 16 * 128 + d) :
    (iblk m c 0 t : FVec Ideal S512x128 .f32) (ix2 p d) = projection m c (ix2 R D) := by
  unfold iblk; rw [show V m c (Pipeline.arrRef spec0 0) = projection m c from rfl]
  blk_point [idx t]

theorem blk1 (b : Fin 8192) (d : Fin 128) (D : Fin 4096) (hD : (D : ℕ) = (4 + t.val / 16) * 128 + d) :
    (iblk m c 1 t : FVec Ideal S8192x128 .f32) (ix2 b d) = projection m c (ix2 b D) := by
  unfold iblk; rw [show V m c (Pipeline.arrRef spec0 1) = projection m c from rfl]
  blk_point [idx t]

theorem blk2 (b : Fin 8192) (d : Fin 128) (D : Fin 4096) (hD : (D : ℕ) = (8 + t.val / 16) * 128 + d) :
    (iblk m c 2 t : FVec Ideal S8192x128 .f32) (ix2 b d) = projection m c (ix2 b D) := by
  unfold iblk; rw [show V m c (Pipeline.arrRef spec0 2) = projection m c from rfl]
  blk_point [idx t]

variable {P G : ℕ → ℕ → ℝ} (hx : ∀ a d, projection m c (ix2 a d) = ((P a.val d.val : ℝ) : EReal))
include hx

/-- What point `t` computes. -/
theorem stands_at : Stands (arr P G) (t.val / 16) (t.val % 16) (fun _ => 0) (doneAt m c t) := by
  have ht : t.val < 64 := lt_of_lt_of_eq t.isLt N_0
  have hq : (Sb.qi (grid0.coords t)).val = t.val % 16 := by
    have e : (grid0.coords t 1).val = t.val / 1 % 16 := Pipeline.Grid.coords_val t 1 (by decide) rfl
    show (grid0.coords t 1).val = _
    omega
  have key := stands_point (X := arr P G) (h := t.val / 16) (gi := grid0.coords t) (H := held (iblk m c 0 t) (iblk m c 1 t) (iblk m c 2 t)) (by
    rw [hq]
    refine holds _ _ _ (fun p d => ?_) (fun b d => ?_) (fun b d => ?_)
    · rw [blk0 m c t p d ⟨t.val % 16 * 512 + p, by omega⟩ rfl ⟨t.val / 16 * 128 + d, by omega⟩ rfl, hx]
      simp only [arr]
      congr 2 <;> omega
    · rw [blk1 m c t b d ⟨(4 + t.val / 16) * 128 + d, by omega⟩ rfl, hx]
      simp only [arr]
      congr 2 <;> omega
    · rw [blk2 m c t b d ⟨(8 + t.val / 16) * 128 + d, by omega⟩ rfl, hx]
      simp only [arr]
      congr 2 <;> omega)
  rwa [hq] at key

/-- The reference at a place of point `t`'s block. -/
theorem reference_at (p : Fin 512) (d : Fin 128) (R : Fin 8192) (hR : (R : ℕ) = t.val % 16 * 512 + p) (D : Fin 512) (hD : (D : ℕ) = t.val / 16 * 128 + d) :
    Reference9Ideal.Read.val_main_v25 (F := Ideal) (projection m c) (ix2 R D)
      = ((Sb.outAt (arr P G) (t.val / 16) (512 * (t.val % 16) + p.val) d.val : ℝ) : EReal) := by
  have ht : t.val < 64 := lt_of_lt_of_eq t.isLt N_0
  rw [forward_eq, Sb.Read.out_at (G := G) hx _ ⟨2 * (t.val / 16) + d.val / 64, by omega⟩ ⟨d.val % 64, by omega⟩ _ (by dsimp only; omega)]
  unfold Sb.outAt
  dsimp only
  congr 2
  omega

/-- The output in full, -/
theorem final_wide : (dats m 0 c).arrAt 4 (cfg0 (F := Ideal)).N = Reference9Ideal.Read.val_main_v25 (F := Ideal) (projection m c) := by
  refine (dats m 0 c).arrAt_eq_of_covers 4 _ (by decide +kernel) fun t _ y => ?_
  blk_simp
  rw [after4]
  have ht : t.val < 64 := lt_of_lt_of_eq t.isLt N_0
  revert y
  suffices h : ∀ y : S512x128.Idx, outWide (doneAt m c t) y
      = Reference9Ideal.Read.val_main_v25 (F := Ideal) (projection m c) (((cfg0.win 4).blk t).view.emb y) from h
  intro y
  idx_vars y
  rw [outWide_at _ _ _ (stands_at (G := P) m c t hx)]
  have e : ((cfg0.win 4).blk t).view.emb (ix2 y0 y1)
      = ix2 (⟨t.val % 16 * 512 + y0, by omega⟩ : Fin 8192) (⟨t.val / 16 * 128 + y1, by omega⟩ : Fin 512) := by
    blk_ext [idx t]
  exact ((congrArg (Reference9Ideal.Read.val_main_v25 (F := Ideal) (projection m c)) e).trans (reference_at m c t hx y0 y1 _ rfl _ rfl)).symm

/-- and in the matrix format. -/
theorem final_narrow : (dats m 0 c).arrAt 3 (cfg0 (F := Ideal)).N = Reference9Ideal.Read.val_main_v26 (F := Ideal) (projection m c) := by
  refine (dats m 0 c).arrAt_eq_of_covers 3 _ (by decide +kernel) fun t _ y => ?_
  blk_simp
  rw [after3]
  have ht : t.val < 64 := lt_of_lt_of_eq t.isLt N_0
  revert y
  suffices h : ∀ y : S512x128.Idx, outNarrow (doneAt m c t) y
      = Reference9Ideal.Read.val_main_v25 (F := Ideal) (projection m c) (((cfg0.win 3).blk t).view.emb y) from h
  intro y
  idx_vars y
  rw [outNarrow_at _ _ _ (stands_at (G := P) m c t hx)]
  have e : ((cfg0.win 3).blk t).view.emb (ix2 y0 y1)
      = ix2 (⟨t.val % 16 * 512 + y0, by omega⟩ : Fin 8192) (⟨t.val / 16 * 128 + y1, by omega⟩ : Fin 512) := by
    blk_ext [idx t]
  exact ((congrArg (Reference9Ideal.Read.val_main_v25 (F := Ideal) (projection m c)) e).trans (reference_at m c t hx y0 y1 _ rfl _ rfl)).symm

end Cert.SbForward

end
-- ==== Proof.SbfClaims.lean ====
/-
  The attention forward's claims: the pallas_call's two arrays are the reference's, at a finite projection.
-/
module

public import proofs.«01_k».proof.Defs
public import proofs.«01_k».proof.Proof.SbClaims
public import proofs.«01_k».proof.Proof.SbfValue
public import proofs.«01_k».proof.Proof.Gen.Reference9Ideal.Run
public import proofs.«01_k».proof.Proof.Gen.Pre_sbf_finite

@[expose] public section

set_option maxRecDepth 16384

noncomputable section

namespace Cert.SbForward

open Idealize.ShloMosaic Idealize.ShloMosaic.TcCoe Idealize.SL.Sem

/-- A finite projection holds real numbers. -/
theorem real_projection (x : FVec Ideal Pre_sbf_finite.S8192x4096 .f32) (h : Pre_sbf_finite.fn (F := Ideal) x = fun _ => 1#1) :
    ∃ P : ℕ → ℕ → ℝ, ∀ a d, x (ix2 a d) = ((P a.val d.val : ℝ) : EReal) := by
  have h0 := congrFun h (fun i => i.elim0)
  unfold Pre_sbf_finite.fn at h0
  exact Sb.real_table _ (Cert.Finite.real_of_all x _ _ _ _ h0)

/-- The reference's run keeps its argument and has no semaphores. -/
theorem reference_frame : quiescent_Reference9Ideal := fun m ρ _ =>
  (θ_run _ _ _).mono (fun r h => ⟨fun c => (h c).2.2, sem_eq_zero_of_no_sems rfl r.2⟩) (Reference9Ideal.Value.run (F := Ideal) m ρ)

/-- The attention forward: the kernel's arrays are the reference's. -/
theorem output : algebraic_Kernel9Ideal_Reference9Ideal_pre_sbf_finite := by
  intro m g m' g' hpre hag
  obtain ⟨P, hx⟩ := real_projection _ (hpre 0)
  refine ⟨fun c => Reference9Ideal.Read.val_main_v26 (F := Ideal) (projection m c),
    fun c => Reference9Ideal.Read.val_main_v25 (F := Ideal) (projection m c), ?_, ?_⟩
  · refine (θ_run _ _ _).mono (fun r h c => ?_) (run_blocks (F := Ideal) m g)
    obtain rfl : c = 0 := Subsingleton.elim _ _
    obtain ⟨h0, h1, h2⟩ := h.1 0
    exact ⟨h0.trans (final_narrow m 0 hx), h1.trans (final_wide m 0 hx), h2⟩
  · refine (θ_run _ _ _).mono (fun r h c => ?_) (Reference9Ideal.Value.run (F := Ideal) m' g')
    obtain ⟨h0, h1, h2⟩ := h c
    refine ⟨h0.trans ?_, h1.trans ?_, h2⟩
    · rw [Reference9Ideal.Read.val_main_v26_eq, hag c]
    · rw [Reference9Ideal.Read.val_main_v25_eq, hag c]

end Cert.SbForward

end
-- ==== Proof.NormModel.lean ====
/-
  The normalisation of a row, in the words of the reference: the row's mean, the centred row, its variance and its
  reciprocal deviation, at extended reals.
-/
module

public import Idealize.ShloMosaic.Lib.Pipeline.ValueKit

@[expose] public section

noncomputable section

namespace Cert.Norm

open Idealize.ShloMosaic

variable {n : ℕ}

/-- The float words the rows use. -/
theorem word_count : Ideal.ofBits .f32 0x44800000#32 = ((1024 : ℝ) : EReal) := by
  simp [Ideal.ofBits, Ideal.ieee]
  rw [← EReal.coe_mul]
  norm_num

theorem word_half : Ideal.ofBits .f32 0x3F000000#32 = ((1 / 2 : ℝ) : EReal) := by
  simp [Ideal.ofBits, Ideal.ieee]
  rw [← EReal.coe_mul]
  norm_num

theorem word_two : Ideal.ofBits .f32 0x40000000#32 = ((2 : ℝ) : EReal) := by
  simp [Ideal.ofBits, Ideal.ieee]
  rw [← EReal.coe_mul]
  norm_num

/-- Dividing by the count is multiplying by its reciprocal. -/
theorem div_count (x : EReal) : Ideal.div x (Ideal.ofBits .f32 0x44800000#32) = x * ((1 / 1024 : ℝ) : EReal) := by
  rw [word_count, Ideal.div_coe (by norm_num)]

/-- A square is not negative. -/
theorem square_nonneg (x : EReal) : 0 ≤ x * x := by
  rcases le_total 0 x with h | h
  · exact mul_nonneg h h
  · rw [← neg_mul_neg]
    exact mul_nonneg (EReal.neg_nonneg.2 h) (EReal.neg_nonneg.2 h)

/-- A factor moves into a sum of terms that are not negative. -/
theorem sum_mul_of_nonneg {ι : Type*} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, ← ih]
    exact EReal.right_distrib_of_nonneg (hf a) (Finset.sum_nonneg fun i _ => hf i)

/-- The mean of a row of 1024 (the count's float word is exact). -/
def mean (a : Fin n → EReal) : EReal := Ideal.div (∑ k, a k) (Ideal.ofBits .f32 0x44800000#32)

/-- The row less its mean. -/
def centred (a : Fin n → EReal) (k : Fin n) : EReal := a k - mean a

/-- The reciprocal deviation of a row. -/
def inv (a : Fin n → EReal) : EReal :=
  Ideal.rsqrt (mean (fun k => centred a k * centred a k) + Ideal.ofBits .f32 0x3727C5AC#32)

/-- The row normalised. -/
def normed (a : Fin n → EReal) (k : Fin n) : EReal := centred a k * inv a

/-- The residual sum the normalisation starts from. -/
def resid (x y gate : Fin n → EReal) (k : Fin n) : EReal := Ideal.ofBits .f32 0x3FB504F3#32 * x k + (1 + gate k) * y k

end Cert.Norm

end
-- ==== Proof.LossValue.lean ====
/-
  The loss and its gradient: each grid point's rows of the gradient, and the loss added up point after point.
-/
module

public import proofs.«01_k».proof.Proof.Gen.Kernel3Ideal.Value
public import proofs.«01_k».proof.Proof.Gen.Reference3Ideal.Read
public import proofs.«01_k».proof.Proof.NormModel
public import proofs.«01_k».proof.Defs
public import Idealize.ShloMosaic.Lib.Claim

@[expose] public section

set_option maxRecDepth 16384

noncomputable section

namespace Cert.Loss

open Idealize.ShloMosaic Idealize.ShloMosaic.TcCoe Idealize.SL.Sem Kernel3Ideal Kernel3Ideal.Gen
open Reference3Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0] ∧ win0_7.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![0, 0] ∧ win0_7.index t = ![t.val, 0])

/-- The output less the target, of one row. -/
def err (x y gate g b target : Fin 1024 → EReal) (k : Fin 1024) : EReal :=
  Norm.normed (Norm.resid x y gate) k * g k + b k - target k

/-- The reference's error. -/
theorem ref_err (x0 x1 : FVec Ideal S8192x1024 .f32) (x2 x3 x4 : FVec Ideal S1024 .f32) (x5 : FVec Ideal S8192x1024 .f32) (r : Fin 8192) (k : Fin 1024) :
    val_main_v32 (F := Ideal) x0 x1 x2 x3 x4 x5 (ix2 r k) = err (fun k => x0 (ix2 r k)) (fun k => x1 (ix2 r k)) (fun k => x2 (ix1 k))
      (fun k => x3 (ix1 k)) (fun k => x4 (ix1 k)) (fun k => x5 (ix2 r k)) k := by
  pointwise [val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2, val_main_cst_3, val_main_cst_4, val_main_cst_5]
  rfl

/-- The kernel's output row. -/
theorem pay_out (v3 v4 : FVec Ideal S512x1024 .f32) (v5 v7 v9 : FVec Ideal S1x1024 .f32) (v38 : FVec Ideal S512x1024 .f32) (r : Fin 512) (k : Fin 1024) :
    k0_pay1 (F := Ideal) (k0_pay5 (F := Ideal) v3 v4 v5 v7 v9) v38 (ix2 r k) = err (fun k => v3 (ix2 r k)) (fun k => v4 (ix2 r k)) (fun k => v5 (ix2 0 k))
      (fun k => v7 (ix2 0 k)) (fun k => v9 (ix2 0 k)) (fun k => v38 (ix2 r k)) k := by
  pointwise [k0_pay5, k0_pay1]
  rfl

/-- The arrays the kernel was launched with. -/
abbrev xs (c : Dev nD) : FVec Ideal S8192x1024 .f32 := m ((c.tc : Thread nD τ).loc main_arg0)
abbrev ys (c : Dev nD) : FVec Ideal S8192x1024 .f32 := m ((c.tc : Thread nD τ).loc main_arg1)
abbrev gate (c : Dev nD) : FVec Ideal S1024 .f32 := m ((c.tc : Thread nD τ).loc main_arg2)
abbrev scale (c : Dev nD) : FVec Ideal S1024 .f32 := m ((c.tc : Thread nD τ).loc main_arg3)
abbrev shift (c : Dev nD) : FVec Ideal S1024 .f32 := m ((c.tc : Thread nD τ).loc main_arg4)
abbrev target (c : Dev nD) : FVec Ideal S8192x1024 .f32 := m ((c.tc : Thread nD τ).loc main_arg5)

/-- The error at row `r` of the arrays. -/
def rowErr (c : Dev nD) (r : Fin 8192) (k : Fin 1024) : EReal :=
  err (fun k => xs m c (ix2 r k)) (fun k => ys m c (ix2 r k)) (fun k => gate m c (ix1 k)) (fun k => scale m c (ix1 k)) (fun k => shift m c (ix1 k))
    (fun k => target m c (ix2 r k)) k

/-- The reference's results at those arguments. -/
abbrev specLoss (c : Dev nD) : FVec Ideal S8x128 .f32 := val_main_v41 (F := Ideal) (xs m c) (ys m c) (gate m c) (scale m c) (shift m c) (target m c)
abbrev specGrad (c : Dev nD) : FVec Ideal S8192x1024 .f32 := val_main_v47 (F := Ideal) (xs m c) (ys m c) (gate m c) (scale m c) (shift m c) (target m c)

/-- The loss in the reference. -/
theorem ref_loss (c : Dev nD) (p : Fin 8) (q : Fin 128) :
    specLoss m c (ix2 p q) = Ideal.ofBits .f32 0x3F000000#32
      * ∑ r : Fin 8192, Ideal.div (∑ k, rowErr m c r k * rowErr m c r k) (Ideal.ofBits .f32 0x44800000#32) := by
  pointwise [specLoss, val_main_v41, val_main_v40, val_main_v39, val_main_v38, val_main_v37, val_main_v36, val_main_v33, val_main_cst_7, val_main_cst_8,
    val_main_cst_9, val_main_cst_10, ref_err]
  rfl

/-- The gradient in the reference. -/
theorem ref_grad (c : Dev nD) (r : Fin 8192) (k : Fin 1024) :
    specGrad m c (ix2 r k) = Ideal.div (rowErr m c r k) (Ideal.ofBits .f32 0x44800000#32) := by
  pointwise [specGrad, val_main_v47, val_main_v46, val_main_v45, val_main_v44, val_main_v43, val_main_v42, val_main_v35, val_main_v34, val_main_cst_11,
    val_main_cst_12, val_main_cst_13, val_main_cst_6, ref_err]
  change _ * (_ * rowErr m c r k) = _
  generalize rowErr m c r k = e
  rw [Norm.div_count, Norm.div_count, Norm.word_half, Norm.word_two, ← mul_assoc, mul_comm]
  norm_cast
  norm_num

/-- The array's row that point `t` holds at row `r` of its block. -/
abbrev rowAt (t : Fin cfg0.N) (r : Fin 512) : Fin 8192 := ⟨t.val * 512 + r, by have : t.val < 16 := lt_of_lt_of_eq t.isLt N_0; omega⟩

/-- Point `t`'s rows of the arrays. -/
theorem blk_err (c : Dev nD) (t : Fin cfg0.N) (r : Fin 512) (R : Fin 8192) (hR : (R : ℕ) = t.val * 512 + r) (k : Fin 1024) :
    k0_pay1 (F := Ideal) (k0_pay5 (F := Ideal) (iblk m c 0 t) (iblk m c 1 t) (iblk m c 2 t) (iblk m c 3 t) (iblk m c 4 t)) (iblk m c 5 t) (ix2 r k)
      = rowErr m c R k := by
  have h0 : ∀ k : Fin 1024, (iblk m c 0 t : FVec Ideal S512x1024 .f32) (ix2 r k) = xs m c (ix2 R k) := fun k => by blk_point [iblk, V, idx t]
  have h1 : ∀ k : Fin 1024, (iblk m c 1 t : FVec Ideal S512x1024 .f32) (ix2 r k) = ys m c (ix2 R k) := fun k => by blk_point [iblk, V, idx t]
  have h2 : ∀ k : Fin 1024, (iblk m c 2 t : FVec Ideal S1x1024 .f32) (ix2 0 k) = gate m c (ix1 k) := fun k => by blk_point [iblk, V, idx t]
  have h3 : ∀ k : Fin 1024, (iblk m c 3 t : FVec Ideal S1x1024 .f32) (ix2 0 k) = scale m c (ix1 k) := fun k => by blk_point [iblk, V, idx t]
  have h4 : ∀ k : Fin 1024, (iblk m c 4 t : FVec Ideal S1x1024 .f32) (ix2 0 k) = shift m c (ix1 k) := fun k => by blk_point [iblk, V, idx t]
  have h5 : ∀ k : Fin 1024, (iblk m c 5 t : FVec Ideal S512x1024 .f32) (ix2 r k) = target m c (ix2 R k) := fun k => by blk_point [iblk, V, idx t]
  rw [pay_out]
  simp only [h0, h1, h2, h3, h4, h5]
  rfl

/-- The gradient's payload, and the loss's: the loss so far and the point's rows. -/
theorem pay_grad (v37 v38 : FVec Ideal S512x1024 .f32) (r : Fin 512) (k : Fin 1024) :
    k0_pay2 (F := Ideal) v37 v38 (ix2 r k) = Ideal.div (k0_pay1 (F := Ideal) v37 v38 (ix2 r k)) (Ideal.ofBits .f32 0x44800000#32) := by
  pointwise [k0_pay2]

theorem pay_loss (v37 v38 : FVec Ideal S512x1024 .f32) (v43 : FVec Ideal S8x128 .f32) (j : S8x128.Idx) :
    k0_pay3 (F := Ideal) v37 v38 v43 j = v43 j + Ideal.div (Ideal.ofBits .f32 0x3F000000#32 * ∑ r : Fin 512, ∑ k : Fin 1024,
      k0_pay1 (F := Ideal) v37 v38 (ix2 r k) * k0_pay1 (F := Ideal) v37 v38 (ix2 r k)) (Ideal.ofBits .f32 0x44800000#32) := by
  pointwise [k0_pay3]

theorem pay_zero (j : S8x128.Idx) : k0_pay4 (F := Ideal) j = 0 := by pointwise [k0_pay4]

/-- The loss array after the run. -/
theorem final_loss (c : Dev nD) : (dats m 0 c).arrAt 6 cfg0.N = specLoss m c := by
  refine (dats m 0 c).arrAt_eq_of_after_last 6 t0_15 (by decide +kernel) _ fun j => ?_
  blk_simp
  rw [after0_6, Pipeline.eq_sum_fin_of_reset_step_apply_last (fun n h => (outsAt0 m c n h).1) 16 (fun _ => 0) _
    (fun t h j => by rw [outsAt0_A m c t h]; frame_out; rw [pay_loss, pay_zero])
    (fun t h j => by rw [outsAt0_B m c t h]; frame_out; rw [pay_loss])
    (le_of_eq N_0) t0_15 rfl j, zero_add]
  idx_vars j
  rw [ref_loss, Norm.word_half, mul_comm, Norm.sum_mul_of_nonneg _ _ (fun r => by
    rw [Norm.div_count]
    exact mul_nonneg (Finset.sum_nonneg fun k _ => Norm.square_nonneg _) (EReal.coe_nonneg.2 (by norm_num)))]
  refine Eq.trans (Fin.sum_fin_congr fun p => ?_) (Fin.sum_mul_add_congr (S := cfg0.N) (n := 512)
    (F := fun p r => Ideal.div (∑ k, rowErr m c (rowAt p r) k * rowErr m c (rowAt p r) k) (Ideal.ofBits .f32 0x44800000#32) * ((1 / 2 : ℝ) : EReal))
    (fun p r hl => rfl))
  rw [show (∑ r : Fin 512, ∑ k : Fin 1024, _) = ∑ r : Fin 512, ∑ k : Fin 1024, rowErr m c (rowAt p r) k * rowErr m c (rowAt p r) k from
    Finset.sum_congr rfl fun r _ => Finset.sum_congr rfl fun k _ => by rw [blk_err m c p r (rowAt p r) rfl]]
  simp only [Norm.div_count]
  rw [mul_assoc, mul_comm, mul_assoc, Norm.sum_mul_of_nonneg _ _ (fun r => Finset.sum_nonneg fun k _ => Norm.square_nonneg _)]
  simp only [mul_assoc]

/-- The gradient array after the run. -/
theorem final_grad (c : Dev nD) : (dats m 0 c).arrAt 7 cfg0.N = specGrad m c := by
  refine (dats m 0 c).arrAt_eq_of_covers 7 _ (by decide +kernel) fun t hf y => ?_
  blk_simp
  rw [after0_7]
  idx_vars y
  have ht : t.val < 16 := lt_of_lt_of_eq t.isLt N_0
  have e : ((cfg0.win 7).blk t).view.emb (ix2 y0 y1) = ix2 (⟨t.val * 512 + y0, by omega⟩ : Fin 8192) (y1 : Fin 1024) := by blk_ext [idx t]
  refine Eq.trans ?_ (congrArg (specGrad m c) e).symm
  rw [ref_grad]
  by_cases h : t.val % 16 = 0
  · rw [outsAt0_A m c t h]
    frame_out
    rw [pay_grad, blk_err m c t y0 (rowAt t y0) rfl]
  · rw [outsAt0_B m c t h]
    frame_out
    rw [pay_grad, blk_err m c t y0 (rowAt t y0) rfl]

/-- The reference's run keeps its arguments and has no semaphores. -/
theorem reference_frame : quiescent_Reference3Ideal := fun m ρ _ =>
  (θ_run _ _ _).mono (fun r h => ⟨fun c => (h c).2.2, sem_eq_zero_of_no_sems rfl r.2⟩) (Reference3Ideal.Value.run (F := Ideal) m ρ)

/-- The loss and the gradient that starts the backward pass: the kernel's arrays are the reference's. -/
theorem gradient : algebraic_Kernel3Ideal_Reference3Ideal := by
  intro m g m' g' _ hag
  refine ⟨fun c => specLoss m c, fun c => specGrad m c, ?_, ?_⟩
  · refine (θ_run _ _ _).mono (fun r h c => ?_) (Kernel3Ideal.Value.run_blocks m g)
    obtain rfl : c = 0 := Subsingleton.elim _ _
    obtain ⟨h0, h1, rest⟩ := h 0
    exact ⟨h0.trans (final_loss m 0), h1.trans (final_grad m 0), rest⟩
  · refine (θ_run _ _ _).mono (fun r h c => ?_) (Reference3Ideal.Value.run (F := Ideal) m' g')
    obtain ⟨e0, e1, e2, e3, e4, e5⟩ := hag c
    obtain ⟨h0, h1, rest⟩ := h c
    refine ⟨h0.trans ?_, h1.trans ?_, rest⟩
    · rw [Reference3Ideal.Read.val_main_v41_eq, e0, e1, e2, e3, e4, e5]
    · rw [Reference3Ideal.Read.val_main_v47_eq, e0, e1, e2, e3, e4, e5]

end Cert.Loss

end
-- ==== Proof.MergeValue.lean ====
/-
  The gradient at the merge of the two branches: what each grid point writes is the reference's derivative read at the
  block's place, so the three arrays are the reference's results.
-/
module

public import proofs.«01_k».proof.Proof.Gen.Kernel4Ideal.Value
public import proofs.«01_k».proof.Proof.Gen.Reference4Ideal.Read
public import Idealize.ShloMosaic.Lib.Pipeline.ValueKit
public import proofs.«01_k».proof.Defs
public import Idealize.ShloMosaic.Lib.Claim

@[expose] public section

set_option maxRecDepth 16384

noncomputable section

namespace Cert.Merge

open Idealize.ShloMosaic Idealize.ShloMosaic.TcCoe Idealize.SL.Sem Kernel4Ideal Kernel4Ideal.Gen
open Kernel4Ideal.Value (lay4_0_eq lay5_0_eq lay6_0_eq)
open Reference4Ideal.Read (val_main_v0 val_main_v1 val_main_v2 val_main_v3 val_main_v4 val_main_v5 val_main_v6 val_main_v7 val_main_v8
  val_main_v9 val_main_v10 val_main_v11 val_main_v13 val_main_v14 val_main_v15 val_main_v16 val_main_v17 val_main_v18
  val_main_v19 val_main_v20 val_main_v21 val_main_v24 val_main_v25 val_main_v26 val_main_v27 val_main_v28 val_main_v29
  val_main_v30 val_main_v31 val_main_v32 val_main_v33 val_main_v34 val_main_v35 val_main_cst val_main_cst_0 val_main_cst_1
  val_main_cst_2 val_main_cst_3 val_main_cst_4)

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![t.val, 1]
    ∧ win0_3.index t = ![t.val, 0] ∧ win0_4.index t = ![t.val, 0] ∧ win0_5.index t = ![t.val, 0] ∧ win0_6.index t = ![t.val, 0] :=
  (by decide +kernel : ∀ t : Fin grid0.N, win0_0.index t = ![t.val, 0] ∧ win0_1.index t = ![t.val, 0] ∧ win0_2.index t = ![t.val, 1]
    ∧ win0_3.index t = ![t.val, 0] ∧ win0_4.index t = ![t.val, 0] ∧ win0_5.index t = ![t.val, 0] ∧ win0_6.index t = ![t.val, 0])

/-- The two branches' outputs, the projection and the output gradient the kernel was launched with. -/
abbrev left (c : Dev nD) : FVec Ideal S8192x1024 .f32 := m ((c.tc : Thread nD τ).loc main_arg0)
abbrev right (c : Dev nD) : FVec Ideal S8192x1024 .f32 := m ((c.tc : Thread nD τ).loc main_arg1)
abbrev projection (c : Dev nD) : FVec Ideal S8192x4096 .f32 := m ((c.tc : Thread nD τ).loc main_arg2)
abbrev outGrad (c : Dev nD) : FVec Ideal S8192x1024 .f32 := m ((c.tc : Thread nD τ).loc main_arg3)

/-- The reference's results at those arguments. -/
abbrev specLeft (c : Dev nD) : FVec Ideal S8192x1024 .bf16 := val_main_v33 (F := Ideal) (projection m c) (outGrad m c)
abbrev specRight (c : Dev nD) : FVec Ideal S8192x1024 .bf16 := val_main_v34 (F := Ideal) (projection m c) (outGrad m c)
abbrev specGates (c : Dev nD) : FVec Ideal S8192x2048 .bf16 := val_main_v35 (F := Ideal) (left m c) (right m c) (projection m c) (outGrad m c)

/-- The gates' derivative, spelled on one gate `g`, its branch's value `y` and the output gradient `d`. -/
def gateGrad (d y g : EReal) : EReal := d * y * (Ideal.logistic g * (1 - Ideal.logistic g))

theorem logistic_eq (x : EReal) : Ideal.div 1 (1 + Ideal.exp (-x)) = Ideal.logistic x := rfl

/-- The left branch's gradient in the reference. -/
theorem ref_left (x2 : FVec Ideal S8192x4096 .f32) (x3 : FVec Ideal S8192x1024 .f32) (r : Fin 8192) (n : Fin 1024)
    (q : Fin 4096) (hq : (q : ℕ) = 2048 + n) :
    val_main_v33 (F := Ideal) x2 x3 (ix2 r n) = Ideal.logistic (x2 (ix2 r q)) * x3 (ix2 r n) := by
  have e : ∀ p, (⟨2048 + (n : ℕ), p⟩ : Fin 4096) = q := fun _ => Fin.ext hq.symm
  pointwise [val_main_v33, val_main_v29, val_main_v24, val_main_v8, val_main_v7, val_main_v6, val_main_v5, val_main_v4, val_main_v3,
    val_main_v2, val_main_v1, val_main_v0, val_main_cst, val_main_cst_0]
  simp only [logistic_eq, e]

/-- The right branch's gradient in the reference. -/
theorem ref_right (x2 : FVec Ideal S8192x4096 .f32) (x3 : FVec Ideal S8192x1024 .f32) (r : Fin 8192) (n : Fin 1024)
    (q : Fin 4096) (hq : (q : ℕ) = 3072 + n) :
    val_main_v34 (F := Ideal) x2 x3 (ix2 r n) = Ideal.logistic (x2 (ix2 r q)) * x3 (ix2 r n) := by
  have e : ∀ p, (⟨2048 + (1024 + (n : ℕ)), p⟩ : Fin 4096) = q := fun _ => Fin.ext (by simp only [hq]; omega)
  pointwise [val_main_v34, val_main_v26, val_main_v25, val_main_v18, val_main_v17, val_main_v16, val_main_v15, val_main_v14, val_main_v13,
    val_main_v2, val_main_v1, val_main_v0, val_main_cst_2, val_main_cst_3]
  simp only [logistic_eq, e]

/-- The gates' gradient in the reference, in the left half. -/
theorem ref_gates_left (x0 x1 : FVec Ideal S8192x1024 .f32) (x2 : FVec Ideal S8192x4096 .f32) (x3 : FVec Ideal S8192x1024 .f32) (r : Fin 8192)
    (p : Fin 2048) (n : Fin 1024) (hp : (p : ℕ) = n) (q : Fin 4096) (hq : (q : ℕ) = 2048 + n) :
    val_main_v35 (F := Ideal) x0 x1 x2 x3 (ix2 r p) = gateGrad (x3 (ix2 r n)) (x0 (ix2 r n)) (x2 (ix2 r q)) := by
  pointwise [val_main_v35, val_main_v32, val_main_v31, val_main_v30, val_main_v28, val_main_v27, val_main_v25, val_main_v24, val_main_v21,
    val_main_v20, val_main_v19, val_main_v18, val_main_v17, val_main_v16, val_main_v15, val_main_v14, val_main_v13, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4]
  rw [dif_pos (by omega)]
  simp only [logistic_eq]
  simp only [hp, ← hq, Fin.eta, gateGrad]

/-- The gates' gradient in the reference, in the right half. -/
theorem ref_gates_right (x0 x1 : FVec Ideal S8192x1024 .f32) (x2 : FVec Ideal S8192x4096 .f32) (x3 : FVec Ideal S8192x1024 .f32) (r : Fin 8192)
    (p : Fin 2048) (n : Fin 1024) (hp : (p : ℕ) = 1024 + n) (q : Fin 4096) (hq : (q : ℕ) = 3072 + n) :
    val_main_v35 (F := Ideal) x0 x1 x2 x3 (ix2 r p) = gateGrad (x3 (ix2 r n)) (x1 (ix2 r n)) (x2 (ix2 r q)) := by
  pointwise [val_main_v35, val_main_v32, val_main_v31, val_main_v30, val_main_v28, val_main_v27, val_main_v25, val_main_v24, val_main_v21,
    val_main_v20, val_main_v19, val_main_v18, val_main_v17, val_main_v16, val_main_v15, val_main_v14, val_main_v13, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4]
  rw [dif_neg (by omega)]
  have e1 : ∀ w, (⟨(p : ℕ) - 1024, w⟩ : Fin 1024) = n := fun _ => Fin.ext (by simp only [hp]; omega)
  have e2 : ∀ w, (⟨2048 + (1024 + ((p : ℕ) - 1024)), w⟩ : Fin 4096) = q := fun _ => Fin.ext (by simp only [hp, hq]; omega)
  simp only [logistic_eq, e1, e2, gateGrad]

/-- The block of the left branch's gradient, at one place. -/
theorem pay4_at (v2 : FVec Ideal S512x2048 .f32) (v3 : FVec Ideal S512x1024 .bf16) (r : Fin 512) (n : Fin 1024) (q : Fin 2048) (hq : (q : ℕ) = n) :
    k0_pay4 (F := Ideal) v2 v3 (ix2 r n) = Ideal.logistic (v2 (ix2 r q)) * v3 (ix2 r n) := by
  have e : ∀ w, (⟨n, w⟩ : Fin 2048) = q := fun _ => Fin.ext hq.symm
  rw [lay4_0_eq]
  pointwise
  simp only [e]

/-- The block of the right branch's gradient, at one place. -/
theorem pay5_at (v2 : FVec Ideal S512x2048 .f32) (v3 : FVec Ideal S512x1024 .bf16) (r : Fin 512) (n : Fin 1024) (q : Fin 2048) (hq : (q : ℕ) = 1024 + n) :
    k0_pay5 (F := Ideal) v2 v3 (ix2 r n) = Ideal.logistic (v2 (ix2 r q)) * v3 (ix2 r n) := by
  have e : ∀ w, (⟨1024 + n, w⟩ : Fin 2048) = q := fun _ => Fin.ext hq.symm
  rw [lay5_0_eq]
  pointwise
  simp only [e]

/-- The block of the gates' gradient in the left half. -/
theorem pay6_left (v0 v1 : FVec Ideal S512x1024 .bf16) (v2 : FVec Ideal S512x2048 .f32) (v3 : FVec Ideal S512x1024 .bf16) (r : Fin 512)
    (p : Fin 2048) (n : Fin 1024) (hp : (p : ℕ) = n) :
    k0_pay6 (F := Ideal) v0 v1 v2 v3 (ix2 r p) = gateGrad (v3 (ix2 r n)) (v0 (ix2 r n)) (v2 (ix2 r p)) := by
  rw [lay6_0_eq]
  pointwise
  have h : (p : ℕ) < 1024 := by omega
  simp only [dif_pos h, zero_add]
  simp only [hp, Fin.eta, gateGrad]

/-- The block of the gates' gradient in the right half. -/
theorem pay6_right (v0 v1 : FVec Ideal S512x1024 .bf16) (v2 : FVec Ideal S512x2048 .f32) (v3 : FVec Ideal S512x1024 .bf16) (r : Fin 512)
    (p : Fin 2048) (n : Fin 1024) (hp : (p : ℕ) = 1024 + n) :
    k0_pay6 (F := Ideal) v0 v1 v2 v3 (ix2 r p) = gateGrad (v3 (ix2 r n)) (v1 (ix2 r n)) (v2 (ix2 r p)) := by
  rw [lay6_0_eq]
  pointwise
  have h : ¬(p : ℕ) < 1024 := by omega
  have e1 : ∀ w, (⟨(p : ℕ) - 1024, w⟩ : Fin 1024) = n := fun _ => Fin.ext (by simp only [hp]; omega)
  have e2 : ∀ w, (⟨1024 + ((p : ℕ) - 1024), w⟩ : Fin 2048) = p := fun _ => Fin.ext (by simp only [hp]; omega)
  simp only [dif_neg h, add_zero, e1, e2, gateGrad]

/-- What point `t` writes of the left branch's gradient is the reference's at the block's place. -/
theorem point_left (c : Dev nD) (t : Fin cfg0.N) (y : S512x1024.Idx) :
    out0_4 (F := Ideal) (iblk m c 0 t) (iblk m c 1 t) (iblk m c 2 t) (iblk m c 3 t) y = specLeft m c (((cfg0.win 4).blk t).view.emb y) := by
  have ht : t.val < 16 := lt_of_lt_of_eq t.isLt N_0
  canon_tiles x h
  idx_vars x
  have e : ((cfg0.win 4).blk t).view.emb y = ix2 (⟨t.val * 512 + x0, by omega⟩ : Fin 8192) (x1 : Fin 1024) := by blk_ext [idx t]
  refine Eq.trans ?_ (congrArg (specLeft m c) e).symm
  refine Eq.trans ?_ (ref_left (projection m c) (outGrad m c) ⟨t.val * 512 + x0, by omega⟩ x1 ⟨2048 + x1, by omega⟩ rfl).symm
  rw [pay4_at _ _ _ _ ⟨x1, by omega⟩ rfl]
  pointwise
  blk_point [iblk, V, idx t]

/-- What point `t` writes of the right branch's gradient is the reference's at the block's place. -/
theorem point_right (c : Dev nD) (t : Fin cfg0.N) (y : S512x1024.Idx) :
    out0_5 (F := Ideal) (iblk m c 0 t) (iblk m c 1 t) (iblk m c 2 t) (iblk m c 3 t) y = specRight m c (((cfg0.win 5).blk t).view.emb y) := by
  have ht : t.val < 16 := lt_of_lt_of_eq t.isLt N_0
  canon_tiles x h
  idx_vars x
  have e : ((cfg0.win 5).blk t).view.emb y = ix2 (⟨t.val * 512 + x0, by omega⟩ : Fin 8192) (x1 : Fin 1024) := by blk_ext [idx t]
  refine Eq.trans ?_ (congrArg (specRight m c) e).symm
  refine Eq.trans ?_ (ref_right (projection m c) (outGrad m c) ⟨t.val * 512 + x0, by omega⟩ x1 ⟨3072 + x1, by omega⟩ rfl).symm
  rw [pay5_at _ _ _ _ ⟨1024 + x1, by omega⟩ rfl]
  pointwise
  blk_point [iblk, V, idx t]

/-- What point `t` writes of the gates' gradient is the reference's at the block's place. -/
theorem point_gates (c : Dev nD) (t : Fin cfg0.N) (y : S512x2048.Idx) :
    out0_6 (F := Ideal) (iblk m c 0 t) (iblk m c 1 t) (iblk m c 2 t) (iblk m c 3 t) y = specGates m c (((cfg0.win 6).blk t).view.emb y) := by
  have ht : t.val < 16 := lt_of_lt_of_eq t.isLt N_0
  canon_tiles x h
  idx_vars x
  have e : ((cfg0.win 6).blk t).view.emb y = ix2 (⟨t.val * 512 + x0, by omega⟩ : Fin 8192) (x1 : Fin 2048) := by blk_ext [idx t]
  refine Eq.trans ?_ (congrArg (specGates m c) e).symm
  by_cases h1 : (x1 : ℕ) < 1024
  · refine Eq.trans ?_ (ref_gates_left (left m c) (right m c) (projection m c) (outGrad m c) ⟨t.val * 512 + x0, by omega⟩ x1 ⟨x1, h1⟩ rfl
      ⟨2048 + x1, by omega⟩ rfl).symm
    rw [pay6_left _ _ _ _ _ _ ⟨x1, h1⟩ rfl]
    pointwise
    blk_point [iblk, V, idx t]
  · refine Eq.trans ?_ (ref_gates_right (left m c) (right m c) (projection m c) (outGrad m c) ⟨t.val * 512 + x0, by omega⟩ x1 ⟨x1 - 1024, by omega⟩
      (by simp only []; omega) ⟨2048 + x1, by omega⟩ (by simp only []; omega)).symm
    rw [pay6_right _ _ _ _ _ _ ⟨x1 - 1024, by omega⟩ (by simp only []; omega)]
    pointwise
    blk_point [iblk, V, idx t]

/-- The three arrays after the run. -/
theorem final_left (c : Dev nD) : (dats m 0 c).arrAt 4 cfg0.N = specLeft m c := by
  refine (dats m 0 c).arrAt_eq_of_covers 4 _ (by decide +kernel) fun t _ y => ?_
  blk_simp
  rw [after0_4]
  exact point_left m c t y

theorem final_right (c : Dev nD) : (dats m 0 c).arrAt 5 cfg0.N = specRight m c := by
  refine (dats m 0 c).arrAt_eq_of_covers 5 _ (by decide +kernel) fun t _ y => ?_
  blk_simp
  rw [after0_5]
  exact point_right m c t y

theorem final_gates (c : Dev nD) : (dats m 0 c).arrAt 6 cfg0.N = specGates m c := by
  refine (dats m 0 c).arrAt_eq_of_covers 6 _ (by decide +kernel) fun t _ y => ?_
  blk_simp
  rw [after0_6]
  exact point_gates m c t y

/-- The reference's run keeps its arguments and has no semaphores. -/
theorem reference_frame : quiescent_Reference4Ideal := fun m ρ _ =>
  (θ_run _ _ _).mono (fun r h => ⟨fun c => (h c).2.2.2, sem_eq_zero_of_no_sems rfl r.2⟩) (Reference4Ideal.Value.run (F := Ideal) m ρ)

/-- The gradient at the merge of the two branches: the kernel's arrays are the reference's. -/
theorem gradient : algebraic_Kernel4Ideal_Reference4Ideal := by
  intro m g m' g' _ hag
  refine ⟨fun c => specLeft m c, fun c => specRight m c, fun c => specGates m c, ?_, ?_⟩
  · refine (θ_run _ _ _).mono (fun r h c => ?_) (Kernel4Ideal.Value.run_blocks m g)
    obtain rfl : c = 0 := Subsingleton.elim _ _
    obtain ⟨h0, h1, h2, rest⟩ := h 0
    exact ⟨h0.trans (final_left m 0), h1.trans (final_right m 0), h2.trans (final_gates m 0), rest⟩
  · refine (θ_run _ _ _).mono (fun r h c => ?_) (Reference4Ideal.Value.run (F := Ideal) m' g')
    obtain ⟨e0, e1, e2, e3⟩ := hag c
    obtain ⟨h0, h1, h2, rest⟩ := h c
    refine ⟨h0.trans ?_, h1.trans ?_, h2.trans ?_, rest⟩
    · change _ = Reference4Ideal.Read.val_main_v33 (F := Ideal) (m (c.tc.loc Kernel4Ideal.main_arg2)) (m (c.tc.loc Kernel4Ideal.main_arg3))
      rw [← e2, ← e3]
      exact Reference4Ideal.Read.val_main_v33_eq ..
    · change _ = Reference4Ideal.Read.val_main_v34 (F := Ideal) (m (c.tc.loc Kernel4Ideal.main_arg2)) (m (c.tc.loc Kernel4Ideal.main_arg3))
      rw [← e2, ← e3]
      exact Reference4Ideal.Read.val_main_v34_eq ..
    · change _ = Reference4Ideal.Read.val_main_v35 (F := Ideal) (m (c.tc.loc Kernel4Ideal.main_arg0)) (m (c.tc.loc Kernel4Ideal.main_arg1)) (m (c.tc.loc Kernel4Ideal.main_arg2)) (m (c.tc.loc Kernel4Ideal.main_arg3))
      rw [← e0, ← e1, ← e2, ← e3]
      exact Reference4Ideal.Read.val_main_v35_eq ..

end Cert.Merge

end
-- ==== Proof.NormGrad.lean ====
/-
  The gradient of a normalised row. The kernel and the derivative of the reference collect the same terms in
  different places, and over extended reals this matters: a difference of infinities is not what it is of numbers.
  When the weights of the row are numbers both agree, whatever the row: a row with an infinite entry has the
  reciprocal deviation 0, and a row of numbers has numbers everywhere.
-/
module

public import proofs.«01_k».proof.Proof.NormModel

@[expose] public section

noncomputable section

namespace Cert.Norm

open Idealize.ShloMosaic

variable {n : ℕ}

/-- The float words the gradient uses. -/
theorem word_minus_half : Ideal.ofBits .f32 0xBF000000#32 = ((-(1 / 2) : ℝ) : EReal) := by
  simp [Ideal.ofBits, Ideal.ieee]
  rw [← EReal.coe_mul]
  norm_num

theorem word_eps : ∃ e : ℝ, 0 < e ∧ Ideal.ofBits .f32 0x3727C5AC#32 = (e : EReal) := by
  refine ⟨10995116 * (1 / 1099511627776), by norm_num, ?_⟩
  rw [EReal.coe_mul]
  simp [Ideal.ofBits, Ideal.ieee]
  norm_num

/-- The variance of a row and the small constant. -/
def spread (a : Fin n → EReal) : EReal := mean (fun k => centred a k * centred a k) + Ideal.ofBits .f32 0x3727C5AC#32

/-- The derivative of the reciprocal deviation by the variance. -/
def slope (a : Fin n → EReal) : EReal := Ideal.ofBits .f32 0xBF000000#32 * Ideal.div (inv a) (spread a)

/-- What the variance hands back to each entry, before the factor of the entry. -/
def pull (a w : Fin n → EReal) : EReal :=
  Ideal.div ((∑ k, centred a k * w k) * slope a) (Ideal.ofBits .f32 0x44800000#32)

/-- The gradient by the centred row, as the kernel adds it up. -/
def back (a w : Fin n → EReal) (k : Fin n) : EReal := w k * inv a + centred a k * pull a w + pull a w * centred a k

/-- The gradient by the row, as the kernel adds it up. -/
def grad (a w : Fin n → EReal) (k : Fin n) : EReal :=
  back a w k + Ideal.div (∑ j, (0 - back a w j)) (Ideal.ofBits .f32 0x44800000#32)

/-- The gradient by the row, as the derivative of the reference adds it up. -/
def gradHost (a w : Fin n → EReal) (k : Fin n) : EReal :=
  w k * inv a + pull a w * (Ideal.ofBits .f32 0x40000000#32 * centred a k)
    + Ideal.div ((∑ j, -(w j * inv a)) + ∑ j, -(pull a w * (Ideal.ofBits .f32 0x40000000#32 * centred a j)))
      (Ideal.ofBits .f32 0x44800000#32)

/-- A sum is a number only if its terms are. -/
theorem real_of_add {x y : EReal} {r : ℝ} (h : x + y = (r : EReal)) : (∃ s : ℝ, x = s) ∧ ∃ t : ℝ, y = t := by
  induction x <;> induction y <;> simp_all

theorem real_of_sum {ι : Type*} (s : Finset ι) (f : ι → EReal) (r : ℝ) (h : ∑ i ∈ s, f i = (r : EReal)) (i : ι) (hi : i ∈ s) :
    ∃ t : ℝ, f i = t := by
  classical
  rw [← Finset.add_sum_erase s f hi] at h
  exact (real_of_add h).1

/-- Sums and products of numbers. -/
theorem sum_real {ι : Type*} (s : Finset ι) (f : ι → EReal) (h : ∀ i, ∃ r : ℝ, f i = r) : ∃ r : ℝ, ∑ i ∈ s, f i = r := by
  classical
  induction s using Finset.induction_on with
  | empty => exact ⟨0, by rw [Finset.sum_empty, EReal.coe_zero]⟩
  | insert a s ha ih =>
    obtain ⟨x, hx⟩ := h a
    obtain ⟨y, hy⟩ := ih
    exact ⟨x + y, by rw [Finset.sum_insert ha, hx, hy, EReal.coe_add]⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem add_real {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem sub_real {x y : EReal} (hx : ∃ r : ℝ, x = r) (hy : ∃ r : ℝ, y = r) : ∃ r : ℝ, x - y = r := by
  obtain ⟨a, rfl⟩ := hx
  obtain ⟨b, rfl⟩ := hy
  exact ⟨a - b, (EReal.coe_sub a b).symm⟩

theorem count_real {x : EReal} (hx : ∃ r : ℝ, x = r) : ∃ r : ℝ, Ideal.div x (Ideal.ofBits .f32 0x44800000#32) = r := by
  rw [div_count]
  exact mul_real hx ⟨_, rfl⟩

theorem mean_real {a : Fin n → EReal} (h : ∀ k, ∃ r : ℝ, a k = r) : ∃ r : ℝ, mean a = r := count_real (sum_real _ a h)

/-- The mean of squares is not negative. -/
theorem mean_square_nonneg (c : Fin n → EReal) : 0 ≤ mean fun k => c k * c k := by
  rw [mean, div_count]
  exact mul_nonneg (Finset.sum_nonneg fun k _ => square_nonneg (c k)) (by exact_mod_cast (by norm_num : (0 : ℝ) ≤ 1 / 1024))

/-- A mean of squares, one of them infinite, is infinite. -/
theorem mean_square_top (c : Fin n → EReal) (k : Fin n) (hk : c k * c k = ⊤) : (mean fun k => c k * c k) = ⊤ := by
  have hs : (∑ k, c k * c k) = ⊤ := by
    refine top_le_iff.1 ?_
    calc ⊤ = c k * c k := hk.symm
      _ ≤ ∑ k, c k * c k := Finset.single_le_sum (f := fun k => c k * c k) (fun j _ => square_nonneg (c j)) (Finset.mem_univ k)
  rw [mean, div_count, hs]
  exact EReal.top_mul_coe_of_pos (by norm_num)

/-- A row of numbers, its mean, its centred row, its reciprocal deviation and its slope are numbers; any other row has
    reciprocal deviation and slope 0. -/
theorem cases (a : Fin n → EReal) (hn : 0 < n) :
    ((∀ k, ∃ r : ℝ, centred a k = r) ∧ (∃ r : ℝ, inv a = r) ∧ ∃ r : ℝ, slope a = r) ∨ (inv a = 0 ∧ slope a = 0) := by
  by_cases hr : ∃ r : ℝ, mean a = r
  · left
    have hsum : ∃ r : ℝ, ∑ k, a k = r := by
      obtain ⟨r, h⟩ := hr
      rw [mean, div_count] at h
      generalize hS : (∑ k, a k) = S at h
      induction S with
      | bot => rw [EReal.bot_mul_coe_of_pos (by norm_num)] at h; exact absurd h (EReal.bot_ne_coe r)
      | top => rw [EReal.top_mul_coe_of_pos (by norm_num)] at h; exact absurd h (EReal.top_ne_coe r)
      | coe s => exact ⟨s, rfl⟩
    obtain ⟨s, hs⟩ := hsum
    have ha : ∀ k, ∃ r : ℝ, a k = r := fun k => real_of_sum _ a s hs k (Finset.mem_univ k)
    have hc : ∀ k, ∃ r : ℝ, centred a k = r := fun k => sub_real (ha k) hr
    obtain ⟨v, hv⟩ := mean_real (a := fun k => centred a k * centred a k) fun k => mul_real (hc k) (hc k)
    obtain ⟨e, he, hw⟩ := word_eps
    have h0 : 0 ≤ v := by
      have := mean_square_nonneg (centred a)
      rw [hv] at this
      exact_mod_cast this
    have hsp : spread a = ((v + e : ℝ) : EReal) := by rw [spread, hv, hw, EReal.coe_add]
    have hpos : 0 < v + e := by linarith
    have hi : inv a = (((Real.sqrt (v + e))⁻¹ : ℝ) : EReal) := by
      have : inv a = Ideal.rsqrt (spread a) := rfl
      rw [this, hsp, Ideal.rsqrt_coe, if_neg (not_lt.2 hpos.le), if_neg hpos.ne']
    refine ⟨hc, ⟨_, hi⟩, ?_⟩
    rw [slope, hi, hsp, word_minus_half, Ideal.div_coe hpos.ne']
    exact mul_real ⟨_, rfl⟩ (mul_real ⟨_, rfl⟩ ⟨_, rfl⟩)
  · right
    have htop : ∃ k, centred a k * centred a k = ⊤ := by
      refine ⟨⟨0, hn⟩, ?_⟩
      rw [centred]
      generalize mean a = M at hr
      generalize a ⟨0, hn⟩ = x
      induction M with
      | bot => induction x <;> simp
      | top => induction x <;> simp
      | coe s => exact absurd ⟨s, rfl⟩ hr
    obtain ⟨k, hk⟩ := htop
    have hsp : spread a = ⊤ := by
      obtain ⟨e, -, hw⟩ := word_eps
      rw [spread, mean_square_top _ k hk, hw]
      exact EReal.top_add_coe e
    have hi : inv a = 0 := by
      have : inv a = Ideal.rsqrt (spread a) := rfl
      rw [this, hsp]
      rfl
    refine ⟨hi, ?_⟩
    rw [slope, hi, hsp]
    simp [Ideal.div]

/-- What the variance hands back to an entry is a number when the weights are. -/
theorem pull_real (a w : Fin n → EReal) (hn : 0 < n) (hw : ∀ k, ∃ r : ℝ, w k = r) :
    (∀ k, ∃ r : ℝ, w k * inv a = r) ∧ ∀ k, ∃ r : ℝ, pull a w * centred a k = r := by
  rcases cases a hn with ⟨hc, hi, hs⟩ | ⟨hi, hs⟩
  · exact ⟨fun k => mul_real (hw k) hi,
      fun k => mul_real (count_real (mul_real (sum_real _ _ fun j => mul_real (hc j) (hw j)) hs)) (hc k)⟩
  · refine ⟨fun k => ⟨0, by rw [hi, mul_zero, EReal.coe_zero]⟩, fun k => ⟨0, ?_⟩⟩
    rw [pull, hs, mul_zero, div_count, zero_mul, zero_mul, EReal.coe_zero]

/-- A term twice. -/
theorem pull_twice (a w : Fin n → EReal) (hn : 0 < n) (hw : ∀ k, ∃ r : ℝ, w k = r) (k : Fin n) :
    pull a w * (Ideal.ofBits .f32 0x40000000#32 * centred a k) = pull a w * centred a k + pull a w * centred a k := by
  obtain ⟨r, hr⟩ := (pull_real a w hn hw).2 k
  rw [mul_left_comm, hr, word_two, ← EReal.coe_mul, ← EReal.coe_add]
  congr 1
  ring

theorem back_eq (a w : Fin n → EReal) (hn : 0 < n) (hw : ∀ k, ∃ r : ℝ, w k = r) (k : Fin n) :
    back a w k = w k * inv a + pull a w * (Ideal.ofBits .f32 0x40000000#32 * centred a k) := by
  rw [back, pull_twice a w hn hw, mul_comm (centred a k), add_assoc]

/-- Both sums agree. -/
theorem shares_eq (a w : Fin n → EReal) (hn : 0 < n) (hw : ∀ k, ∃ r : ℝ, w k = r) :
    (∑ j, (0 - back a w j))
      = (∑ j, -(w j * inv a)) + ∑ j, -(pull a w * (Ideal.ofBits .f32 0x40000000#32 * centred a j)) := by
  rw [← Finset.sum_add_distrib]
  refine Finset.sum_congr rfl fun j _ => ?_
  rw [back_eq a w hn hw, pull_twice a w hn hw]
  obtain ⟨p, hp⟩ := (pull_real a w hn hw).1 j
  obtain ⟨r, hr⟩ := (pull_real a w hn hw).2 j
  rw [hp, hr]
  norm_cast
  ring_nf

theorem grad_eq (a w : Fin n → EReal) (hn : 0 < n) (hw : ∀ k, ∃ r : ℝ, w k = r) (k : Fin n) : grad a w k = gradHost a w k := by
  rw [grad, gradHost, shares_eq a w hn hw, back_eq a w hn hw]

/-- The gradient by a row is made of numbers when the weights are. -/
theorem grad_real (a w : Fin n → EReal) (hn : 0 < n) (hw : ∀ k, ∃ r : ℝ, w k = r) (k : Fin n) : ∃ r : ℝ, grad a w k = r := by
  have hb : ∀ j, ∃ r : ℝ, back a w j = r := fun j => by
    rw [back_eq a w hn hw, pull_twice a w hn hw]
    exact add_real ((pull_real a w hn hw).1 j) (add_real ((pull_real a w hn hw).2 j) ((pull_real a w hn hw).2 j))
  refine add_real (hb k) (count_real (sum_real _ _ fun j => sub_real ⟨0, EReal.coe_zero.symm⟩ (hb j)))

end Cert.Norm

end
-- ==== Proof.ResidValue.lean ====
/-
  The gradient at the last residual sum and its layer norm: each grid point's rows of the gradients by the stream and by
  the branch, and the gradients of the gate, the scale and the shift added up point after point.
-/
module

public import proofs.«01_k».proof.Proof.Gen.Kernel5Ideal.Value
public import proofs.«01_k».proof.Proof.Gen.Reference5Ideal.Read
public import proofs.«01_k».proof.Proof.NormGrad
public import proofs.«01_k».proof.Defs
public import proofs.«01_k».proof.Proof.Gen.Pre_resid_finite
public import proofs.«01_k».proof.Proof.FfnFinite
public import Idealize.ShloMosaic.Lib.Claim

@[expose] public section

set_option maxRecDepth 16384

noncomputable section

namespace Cert.Resid

open Idealize.ShloMosaic Idealize.ShloMosaic.TcCoe Idealize.SL.Sem Kernel5Ideal Kernel5Ideal.Gen
open Reference5Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0]
    ∧ win0_8.index t = ![0, 0] ∧ win0_9.index t = ![0, 0] ∧ win0_10.index t = ![0, 0])

/-- The arrays the kernel was launched with. -/
abbrev xs (c : Dev nD) : FVec Ideal S8192x1024 .f32 := m ((c.tc : Thread nD τ).loc main_arg0)
abbrev ys (c : Dev nD) : FVec Ideal S8192x1024 .f32 := m ((c.tc : Thread nD τ).loc main_arg1)
abbrev gate (c : Dev nD) : FVec Ideal S1024 .f32 := m ((c.tc : Thread nD τ).loc main_arg2)
abbrev scale (c : Dev nD) : FVec Ideal S1024 .f32 := m ((c.tc : Thread nD τ).loc main_arg3)
abbrev ct (c : Dev nD) : FVec Ideal S8192x1024 .f32 := m ((c.tc : Thread nD τ).loc main_arg5)

/-- A row of the residual sum, and its weights in the gradient. -/
def row (x y : FVec Ideal S8192x1024 .f32) (gate : FVec Ideal S1024 .f32) (r : Fin 8192) : Fin 1024 → EReal :=
  Norm.resid (fun k => x (ix2 r k)) (fun k => y (ix2 r k)) (fun k => gate (ix1 k))
def weight (ct : FVec Ideal S8192x1024 .f32) (g : FVec Ideal S1024 .f32) (r : Fin 8192) : Fin 1024 → EReal := fun k => ct (ix2 r k) * g (ix1 k)

/-- The gradient by row `r` of the residual sum. -/
def through (c : Dev nD) (r : Fin 8192) (k : Fin 1024) : EReal := Norm.gradHost (row (xs m c) (ys m c) (gate m c) r) (weight (ct m c) (scale m c) r) k

/-- The reference's results at those arguments. -/
abbrev specStream (c : Dev nD) : FVec Ideal S8192x1024 .f32 := val_main_v78 (F := Ideal) (xs m c) (ys m c) (gate m c) (scale m c) (ct m c)
abbrev specBranch (c : Dev nD) : FVec Ideal S8192x1024 .bf16 := val_main_v79 (F := Ideal) (xs m c) (ys m c) (gate m c) (scale m c) (ct m c)
abbrev specGate (c : Dev nD) : FVec Ideal S1x1024 .f32 := val_main_v80 (F := Ideal) (xs m c) (ys m c) (gate m c) (scale m c) (ct m c)
abbrev specScale (c : Dev nD) : FVec Ideal S1x1024 .f32 := val_main_v81 (F := Ideal) (xs m c) (ys m c) (gate m c) (ct m c)
abbrev specShift (c : Dev nD) : FVec Ideal S1x1024 .f32 := val_main_v82 (F := Ideal) (ct m c)

section Reference

variable (x y ct : FVec Ideal S8192x1024 .f32) (gate g : FVec Ideal S1024 .f32) (r : Fin 8192) (k : Fin 1024) (u : Fin 1)

/-- The residual sum, the centred row, the spread and the pull in the reference. -/
theorem ref_resid : val_main_v7 (F := Ideal) x y gate (ix2 r k) = row x y gate r k := by
  pointwise [val_main_v7, val_main_v6, val_main_v5, val_main_v4, val_main_v3, val_main_v2, val_main_v1, val_main_v0, val_main_cst, val_main_cst_0]
  rfl

theorem ref_centred : val_main_v13 (F := Ideal) x y gate (ix2 r k) = Norm.centred (row x y gate r) k := by
  pointwise [val_main_v13, val_main_v12, val_main_v11, val_main_v10, val_main_v9, val_main_v8, val_main_cst_1, val_main_cst_2, ref_resid]
  rfl

theorem ref_centred' : val_main_v22 (F := Ideal) x y gate (ix2 r k) = Norm.centred (row x y gate r) k := by
  rw [← ref_centred]
  pointwise [val_main_v22, val_main_v21, val_main_v13, val_main_v12]

theorem ref_spread : val_main_v24 (F := Ideal) x y gate (ix2 r u) = Norm.spread (row x y gate r) := by
  pointwise [val_main_v24, val_main_v23, val_main_v20, val_main_v19, val_main_v18, val_main_v17, val_main_v14, val_main_cst_4, val_main_cst_5, val_main_cst_6, ref_centred]
  rfl

theorem ref_inv : val_main_v25 (F := Ideal) x y gate (ix2 r u) = Norm.inv (row x y gate r) := by
  pointwise [val_main_v25, ref_spread]
  rfl

theorem ref_pull : val_main_v58 (F := Ideal) x y gate g ct (ix1 r) = Norm.pull (row x y gate r) (weight ct g r) := by
  pointwise [val_main_v58, val_main_v57, val_main_v56, val_main_v52, val_main_v49, val_main_v48, val_main_v47, val_main_v45, val_main_v44, val_main_v37, val_main_v31, val_main_v28, val_main_v27, val_main_v26, val_main_cst_7, val_main_cst_12, val_main_cst_14, val_main_cst_15, ref_centred', ref_spread, ref_inv]
  rw [Fin.sum_univ_one]
  rfl

/-- The gradient by the residual sum in the reference. -/
theorem ref_through : val_main_v70 (F := Ideal) x y gate g ct (ix2 r k) = Norm.gradHost (row x y gate r) (weight ct g r) k := by
  pointwise [val_main_v70, val_main_v69, val_main_v68, val_main_v67, val_main_v66, val_main_v65, val_main_v64, val_main_v63, val_main_v62, val_main_v61, val_main_v60, val_main_v59, val_main_v55, val_main_v54, val_main_v53, val_main_v51, val_main_v50, val_main_v45, val_main_v44, val_main_v37, val_main_v31, val_main_v16, val_main_v15, val_main_cst_3, val_main_cst_13, val_main_cst_16, val_main_cst_17, val_main_cst_18,
    ref_centred, ref_inv, ref_pull]
  rw [Fin.sum_univ_one]
  rfl

end Reference

theorem ref_stream (c : Dev nD) (r : Fin 8192) (k : Fin 1024) : specStream m c (ix2 r k) = Ideal.ofBits .f32 0x3FB504F3#32 * through m c r k := by
  pointwise [specStream, val_main_v78, val_main_v77, val_main_cst_21, ref_through]
  rfl

theorem ref_branch (c : Dev nD) (r : Fin 8192) (k : Fin 1024) : specBranch m c (ix2 r k) = (1 + gate m c (ix1 k)) * through m c r k := by
  pointwise [specBranch, val_main_v79, val_main_v72, val_main_v71, val_main_v4, val_main_v3, val_main_v2, val_main_cst_0, ref_through]
  rfl

theorem ref_gate (c : Dev nD) (u : Fin 1) (k : Fin 1024) : specGate m c (ix2 u k) = ∑ r : Fin 8192, through m c r k * ys m c (ix2 r k) := by
  pointwise [specGate, val_main_v80, val_main_v76, val_main_v75, val_main_v74, val_main_v73, val_main_cst_19, val_main_cst_20, ref_through]
  rw [Fin.sum_univ_one]
  rfl

theorem ref_scale (c : Dev nD) (u : Fin 1) (k : Fin 1024) :
    specScale m c (ix2 u k) = ∑ r : Fin 8192, Norm.normed (row (xs m c) (ys m c) (gate m c) r) k * ct m c (ix2 r k) := by
  pointwise [specScale, val_main_v81, val_main_v46, val_main_v43, val_main_v42, val_main_v41, val_main_v37, val_main_v30, val_main_v29, val_main_cst_10, val_main_cst_11, ref_centred', ref_inv]
  rw [Fin.sum_univ_one]
  rfl

theorem ref_shift (c : Dev nD) (u : Fin 1) (k : Fin 1024) : specShift m c (ix2 u k) = ∑ r : Fin 8192, ct m c (ix2 r k) := by
  pointwise [specShift, val_main_v82, val_main_v40, val_main_v39, val_main_v38, val_main_cst_8, val_main_cst_9]
  rw [Fin.sum_univ_one]

/-- The kernel's payloads, on the rows of a block. -/
def brow (x y : FVec Ideal S512x1024 .f32) (gate : FVec Ideal S1x1024 .f32) (r : Fin 512) : Fin 1024 → EReal :=
  Norm.resid (fun k => x (ix2 r k)) (fun k => y (ix2 r k)) (fun k => gate (ix2 0 k))
def bweight (ct : FVec Ideal S512x1024 .f32) (g : FVec Ideal S1x1024 .f32) (r : Fin 512) : Fin 1024 → EReal := fun k => ct (ix2 r k) * g (ix2 0 k)

def bct (ct : FVec Ideal S512x1024 .f32) (r : Fin 512) : Fin 1024 → EReal := fun k => ct (ix2 r k)

section Payloads

variable (v0 v1 v6 : FVec Ideal S512x1024 .f32) (v2 v4 acc : FVec Ideal S1x1024 .f32) (r : Fin 512) (k : Fin 1024) (u : Fin 1) (j : S1x1024.Idx)

theorem pay_centred : k0_pay8 (F := Ideal) v0 v1 v2 (ix2 r k) = Norm.centred (brow v0 v1 v2 r) k := by
  pointwise [k0_pay8, k0_pay7]
  rfl

theorem pay_spread : k0_pay9 (F := Ideal) v0 v1 v2 (ix2 r u) = Norm.spread (brow v0 v1 v2 r) := by
  pointwise [k0_pay9, pay_centred]
  rfl

theorem pay_inv : k0_pay10 (F := Ideal) v0 v1 v2 (ix2 r u) = Norm.inv (brow v0 v1 v2 r) := by
  pointwise [k0_pay10, pay_spread]
  rfl

theorem pay_through : k0_pay15 (F := Ideal) (k0_pay6 (F := Ideal) v4) (k0_pay8 (F := Ideal) v0 v1 v2) (k0_pay10 (F := Ideal) v0 v1 v2)
    (k0_pay11 (F := Ideal) v0 v1 v2) (k0_pay12 (F := Ideal) v6) (ix2 r k) = Norm.grad (brow v0 v1 v2 r) (bweight v6 v4 r) k := by
  pointwise [k0_pay15, k0_pay12, k0_pay11, k0_pay6, pay_centred, pay_spread, pay_inv]
  simp only [Fin.sum_univ_one]
  rfl

theorem pay_stream : k0_pay17 (F := Ideal) (k0_pay6 (F := Ideal) v4) (k0_pay8 (F := Ideal) v0 v1 v2) (k0_pay10 (F := Ideal) v0 v1 v2)
    (k0_pay11 (F := Ideal) v0 v1 v2) (k0_pay12 (F := Ideal) v6) (ix2 r k)
      = Ideal.ofBits .f32 0x3FB504F3#32 * Norm.grad (brow v0 v1 v2 r) (bweight v6 v4 r) k := by
  pointwise [k0_pay17, pay_through]

theorem pay_branch : k0_pay18 (F := Ideal) (k0_pay6 (F := Ideal) v4) (k0_pay7 (F := Ideal) v2) (k0_pay8 (F := Ideal) v0 v1 v2)
    (k0_pay10 (F := Ideal) v0 v1 v2) (k0_pay11 (F := Ideal) v0 v1 v2) (k0_pay12 (F := Ideal) v6) (ix2 r k)
      = (1 + v2 (ix2 0 k)) * Norm.grad (brow v0 v1 v2 r) (bweight v6 v4 r) k := by
  pointwise [k0_pay18, k0_pay7, pay_through]

theorem pay_gate : k0_pay1 (F := Ideal) (k0_pay16 (F := Ideal) v1 (k0_pay6 (F := Ideal) v4) (k0_pay8 (F := Ideal) v0 v1 v2)
    (k0_pay10 (F := Ideal) v0 v1 v2) (k0_pay11 (F := Ideal) v0 v1 v2) (k0_pay12 (F := Ideal) v6)) acc j
      = acc j + ∑ r : Fin 512, Norm.grad (brow v0 v1 v2 r) (bweight v6 v4 r) (j 1 : Fin 1024) * v1 (ix2 r (j 1 : Fin 1024)) := by
  idx_vars j
  pointwise [k0_pay1, k0_pay16, pay_through]

theorem pay_scale : k0_pay3 (F := Ideal) (k0_pay14 (F := Ideal) v0 v1 v2 v6) acc j
      = acc j + ∑ r : Fin 512, Norm.normed (brow v0 v1 v2 r) (j 1 : Fin 1024) * v6 (ix2 r (j 1 : Fin 1024)) := by
  idx_vars j
  pointwise [k0_pay3, k0_pay14, k0_pay12, pay_centred, pay_inv]
  rfl

theorem pay_shift : k0_pay5 (F := Ideal) (k0_pay13 (F := Ideal) v6) acc j = acc j + ∑ r : Fin 512, bct v6 r (j 1 : Fin 1024) := by
  idx_vars j
  pointwise [k0_pay5, k0_pay13]
  rfl

theorem pay_zero : k0_pay19 (F := Ideal) j = 0 := by pointwise [k0_pay19]
theorem pay_zero_scale : k0_pay2 (F := Ideal) j = 0 := by pointwise [k0_pay2]
theorem pay_zero_shift : k0_pay4 (F := Ideal) j = 0 := by pointwise [k0_pay4]

end Payloads

/-- The array's row that point `t` holds at row `r` of its block. -/
abbrev rowAt (t : Fin cfg0.N) (r : Fin 512) : Fin 8192 := ⟨t.val * 512 + r, by have : t.val < 16 := lt_of_lt_of_eq t.isLt N_0; omega⟩

/-- Point `t`'s rows of the arrays. -/
theorem blk_gate (c : Dev nD) (t : Fin cfg0.N) (k : Fin 1024) : (iblk m c 2 t : FVec Ideal S1x1024 .f32) (ix2 0 k) = gate m c (ix1 k) := by
  blk_point [iblk, V, idx t]

theorem blk_scale (c : Dev nD) (t : Fin cfg0.N) (k : Fin 1024) : (iblk m c 3 t : FVec Ideal S1x1024 .f32) (ix2 0 k) = scale m c (ix1 k) := by
  blk_point [iblk, V, idx t]

theorem blk_x (c : Dev nD) (t : Fin cfg0.N) (r : Fin 512) (k : Fin 1024) :
    (iblk m c 0 t : FVec Ideal S512x1024 .f32) (ix2 r k) = xs m c (ix2 (rowAt t r) k) := by
  blk_point [iblk, V, idx t]

theorem blk_y (c : Dev nD) (t : Fin cfg0.N) (r : Fin 512) (k : Fin 1024) :
    (iblk m c 1 t : FVec Ideal S512x1024 .f32) (ix2 r k) = ys m c (ix2 (rowAt t r) k) := by
  blk_point [iblk, V, idx t]

theorem blk_ct (c : Dev nD) (t : Fin cfg0.N) (r : Fin 512) (k : Fin 1024) :
    (iblk m c 5 t : FVec Ideal S512x1024 .f32) (ix2 r k) = ct m c (ix2 (rowAt t r) k) := by
  blk_point [iblk, V, idx t]

theorem blk_row (c : Dev nD) (t : Fin cfg0.N) (r : Fin 512) :
    brow (iblk m c 0 t) (iblk m c 1 t) (iblk m c 2 t) r = row (xs m c) (ys m c) (gate m c) (rowAt t r) := by
  simp only [brow, row, blk_x, blk_y, blk_gate]

theorem blk_weight (c : Dev nD) (t : Fin cfg0.N) (r : Fin 512) :
    bweight (iblk m c 5 t) (iblk m c 3 t) r = weight (ct m c) (scale m c) (rowAt t r) := by
  funext k
  rw [bweight, weight, blk_ct, blk_scale]

section Finite

-- The weights are numbers.
variable (c : Dev nD) (hw : ∀ r k, ∃ x : ℝ, weight (ct m c) (scale m c) r k = x)
include hw

theorem blk_through (t : Fin cfg0.N) (r : Fin 512) (k : Fin 1024) :
    Norm.grad (brow (iblk m c 0 t) (iblk m c 1 t) (iblk m c 2 t) r) (bweight (iblk m c 5 t) (iblk m c 3 t) r) k = through m c (rowAt t r) k := by
  rw [blk_row, blk_weight, Norm.grad_eq _ _ (by decide) (hw _)]
  rfl

/-- The gradient by the stream after the run. -/
theorem final_stream : (dats m 0 c).arrAt 6 cfg0.N = specStream m c := by
  refine (dats m 0 c).arrAt_eq_of_covers 6 _ (by decide +kernel) fun t hf y => ?_
  blk_simp
  rw [after0_6]
  idx_vars y
  have ht : t.val < 16 := lt_of_lt_of_eq t.isLt N_0
  have e : ((cfg0.win 6).blk t).view.emb (ix2 y0 y1) = ix2 (⟨t.val * 512 + y0, by omega⟩ : Fin 8192) (y1 : Fin 1024) := by blk_ext [idx t]
  refine Eq.trans ?_ (congrArg (specStream m c) e).symm
  rw [ref_stream]
  by_cases h : t.val % 16 = 0
  · rw [outsAt0_A m c t h h h]
    frame_out
    rw [pay_stream, blk_through m c hw]
  · rw [outsAt0_B m c t h h h]
    frame_out
    rw [pay_stream, blk_through m c hw]

/-- The gradient by the branch after the run. -/
theorem final_branch : (dats m 0 c).arrAt 7 cfg0.N = specBranch m c := by
  refine (dats m 0 c).arrAt_eq_of_covers 7 _ (by decide +kernel) fun t hf y => ?_
  blk_simp
  rw [after0_7]
  idx_vars y
  have ht : t.val < 16 := lt_of_lt_of_eq t.isLt N_0
  have e : ((cfg0.win 7).blk t).view.emb (ix2 y0 y1) = ix2 (⟨t.val * 512 + y0, by omega⟩ : Fin 8192) (y1 : Fin 1024) := by blk_ext [idx t]
  refine Eq.trans ?_ (congrArg (specBranch m c) e).symm
  rw [ref_branch]
  by_cases h : t.val % 16 = 0
  · rw [outsAt0_A m c t h h h]
    frame_out
    rw [pay_branch, blk_through m c hw, blk_gate]
  · rw [outsAt0_B m c t h h h]
    frame_out
    rw [pay_branch, blk_through m c hw, blk_gate]

/-- Point `p`'s part of the gradient by the gate. -/
theorem part_gate (p : Fin cfg0.N) (k : Fin 1024) :
    (∑ r : Fin 512, Norm.grad (brow (iblk m c 0 p) (iblk m c 1 p) (iblk m c 2 p) r) (bweight (iblk m c 5 p) (iblk m c 3 p) r) k
        * (iblk m c 1 p : FVec Ideal S512x1024 .f32) (ix2 r k))
      = ∑ r : Fin 512, through m c (rowAt p r) k * ys m c (ix2 (rowAt p r) k) :=
  Finset.sum_congr rfl fun r _ => by rw [blk_through m c hw, blk_y]

/-- The gradient by the gate after the run. -/
theorem final_gate : (dats m 0 c).arrAt 8 cfg0.N = specGate m c := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) _
    (fun t h j => by rw [outsAt0_A m c t h h h]; frame_out; rw [pay_gate, pay_zero])
    (fun t h j => by rw [outsAt0_B m c t h h h]; frame_out; rw [pay_gate])
    (le_of_eq N_0) t0_15 rfl j, zero_add]
  idx_vars j
  rw [ref_gate]
  refine Eq.trans (Fin.sum_fin_congr fun p => ?_) (Fin.sum_mul_add_congr (S := cfg0.N) (n := 512)
    (F := fun p r => through m c (rowAt p r) j1 * ys m c (ix2 (rowAt p r) j1)) (fun p r hl => rfl))
  exact part_gate m c hw p j1

end Finite

variable (c : Dev nD)

/-- Point `p`'s part of the gradient by the scale. -/
theorem part_scale (p : Fin cfg0.N) (k : Fin 1024) :
    (∑ r : Fin 512, Norm.normed (brow (iblk m c 0 p) (iblk m c 1 p) (iblk m c 2 p) r) k * (iblk m c 5 p : FVec Ideal S512x1024 .f32) (ix2 r k))
      = ∑ r : Fin 512, Norm.normed (row (xs m c) (ys m c) (gate m c) (rowAt p r)) k * ct m c (ix2 (rowAt p r) k) :=
  Finset.sum_congr rfl fun r _ => by rw [blk_row, blk_ct]

/-- The gradient by the scale after the run. -/
theorem final_scale : (dats m 0 c).arrAt 9 cfg0.N = specScale m c := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _
    (fun t h j => by rw [outsAt0_A m c t h h h]; frame_out; rw [pay_scale, pay_zero_scale])
    (fun t h j => by rw [outsAt0_B m c t h h h]; frame_out; rw [pay_scale])
    (le_of_eq N_0) t0_15 rfl j, zero_add]
  idx_vars j
  rw [ref_scale]
  refine Eq.trans (Fin.sum_fin_congr fun p => ?_) (Fin.sum_mul_add_congr (S := cfg0.N) (n := 512)
    (F := fun p r => Norm.normed (row (xs m c) (ys m c) (gate m c) (rowAt p r)) j1 * ct m c (ix2 (rowAt p r) j1)) (fun p r hl => rfl))
  exact part_scale m c p j1

/-- Point `p`'s part of the gradient by the shift. -/
theorem part_shift (p : Fin cfg0.N) (k : Fin 1024) :
    (∑ r : Fin 512, bct (iblk m c 5 p) r k) = ∑ r : Fin 512, ct m c (ix2 (rowAt p r) k) :=
  Finset.sum_congr rfl fun r _ => blk_ct m c p r k

/-- The gradient by the shift after the run. -/
theorem final_shift : (dats m 0 c).arrAt 10 cfg0.N = specShift m c := by
  refine (dats m 0 c).arrAt_eq_of_after_last 10 t0_15 (by decide +kernel) _ fun j => ?_
  blk_simp
  rw [after0_10, Pipeline.eq_sum_fin_of_reset_step_apply_last (fun n h => (outsAt0 m c n h).2.2.2.2) 16 (fun _ => 0) _
    (fun t h j => by rw [outsAt0_A m c t h h h]; frame_out; rw [pay_shift, pay_zero_shift])
    (fun t h j => by rw [outsAt0_B m c t h h h]; frame_out; rw [pay_shift])
    (le_of_eq N_0) t0_15 rfl j, zero_add]
  idx_vars j
  rw [ref_shift]
  refine Eq.trans (Fin.sum_fin_congr fun p => ?_) (Fin.sum_mul_add_congr (S := cfg0.N) (n := 512)
    (F := fun p r => ct m c (ix2 (rowAt p r) j1)) (fun p r hl => rfl))
  exact part_shift m c p j1

/-- The reference's run keeps its arguments and has no semaphores. -/
theorem reference_frame : quiescent_Reference5Ideal := fun m ρ _ =>
  (θ_run _ _ _).mono (fun r h => ⟨fun c => (h c).2.2.2.2.2, sem_eq_zero_of_no_sems rfl r.2⟩) (Reference5Ideal.Value.run (F := Ideal) m ρ)

/-- The scale and the cotangent hold real numbers. -/
theorem real_args (x0 : FVec Ideal Pre_resid_finite.S8192x1024 .f32) (x1 : FVec Ideal Pre_resid_finite.S8192x1024 .f32) (x2 : FVec Ideal Pre_resid_finite.S1024 .f32) (x3 : FVec Ideal Pre_resid_finite.S1024 .f32) (x4 : FVec Ideal Pre_resid_finite.S1024 .f32) (x5 : FVec Ideal Pre_resid_finite.S8192x1024 .f32)
    (h : Pre_resid_finite.fn (F := Ideal) x0 x1 x2 x3 x4 x5 = fun _ => 1#1) :
    (∀ i, ∃ r : ℝ, x3 i = r)
      ∧ (∀ i, ∃ r : ℝ, x5 i = r) := by
  have h0 := congrFun h (fun i => i.elim0)
  unfold Pre_resid_finite.fn at h0
  obtain ⟨t1, h1'⟩ := IntOp.andi_eq_one.1 h0
  obtain ⟨r0, e0⟩ := Cert.Finite.real_of_all x3 _ _ _ _ t1
  obtain ⟨r1, e1⟩ := Cert.Finite.real_of_all x5 _ _ _ _ h1'
  exact ⟨fun i => ⟨r0 i, e0 i⟩, fun i => ⟨r1 i, e1 i⟩⟩

/-- The gradient at the residual sum and its layer norm: the kernel's arrays are the reference's, at a finite scale and cotangent. -/
theorem gradient : algebraic_Kernel5Ideal_Reference5Ideal_pre_resid_finite := by
  intro m g m' g' hpre hag
  obtain ⟨real_g, real_ct⟩ := real_args _ _ _ _ _ _ (hpre 0)
  have hw : ∀ r k, ∃ x : ℝ, weight (ct m 0) (scale m 0) r k = x := fun r k => Norm.mul_real (real_ct (ix2 r k)) (real_g (ix1 k))
  refine ⟨fun c => specStream m c, fun c => specBranch m c, fun c => specGate m c, fun c => specScale m c, fun c => specShift m c, ?_, ?_⟩
  · refine (θ_run _ _ _).mono (fun r h c => ?_) (Kernel5Ideal.Value.run_blocks m g)
    obtain rfl : c = 0 := Subsingleton.elim _ _
    obtain ⟨h0, h1, h2, h3, h4, rest⟩ := h 0
    exact ⟨h0.trans (final_stream m 0 hw), h1.trans (final_branch m 0 hw), h2.trans (final_gate m 0 hw), h3.trans (final_scale m 0), h4.trans (final_shift m 0), rest⟩
  · refine (θ_run _ _ _).mono (fun r h c => ?_) (Reference5Ideal.Value.run (F := Ideal) m' g')
    obtain ⟨e0, e1, e2, e3, e4, e5⟩ := hag c
    obtain ⟨h0, h1, h2, h3, h4, rest⟩ := h c
    refine ⟨h0.trans ?_, h1.trans ?_, h2.trans ?_, h3.trans ?_, h4.trans ?_, rest⟩
    · change _ = Reference5Ideal.Read.val_main_v78 (F := Ideal) (m (c.tc.loc Kernel5Ideal.main_arg0)) (m (c.tc.loc Kernel5Ideal.main_arg1)) (m (c.tc.loc Kernel5Ideal.main_arg2)) (m (c.tc.loc Kernel5Ideal.main_arg3)) (m (c.tc.loc Kernel5Ideal.main_arg5))
      rw [← e0, ← e1, ← e2, ← e3, ← e5]
      exact Reference5Ideal.Read.val_main_v78_eq ..
    · change _ = Reference5Ideal.Read.val_main_v79 (F := Ideal) (m (c.tc.loc Kernel5Ideal.main_arg0)) (m (c.tc.loc Kernel5Ideal.main_arg1)) (m (c.tc.loc Kernel5Ideal.main_arg2)) (m (c.tc.loc Kernel5Ideal.main_arg3)) (m (c.tc.loc Kernel5Ideal.main_arg5))
      rw [← e0, ← e1, ← e2, ← e3, ← e5]
      exact Reference5Ideal.Read.val_main_v79_eq ..
    · change _ = Reference5Ideal.Read.val_main_v80 (F := Ideal) (m (c.tc.loc Kernel5Ideal.main_arg0)) (m (c.tc.loc Kernel5Ideal.main_arg1)) (m (c.tc.loc Kernel5Ideal.main_arg2)) (m (c.tc.loc Kernel5Ideal.main_arg3)) (m (c.tc.loc Kernel5Ideal.main_arg5))
      rw [← e0, ← e1, ← e2, ← e3, ← e5]
      exact Reference5Ideal.Read.val_main_v80_eq ..
    · change _ = Reference5Ideal.Read.val_main_v81 (F := Ideal) (m (c.tc.loc Kernel5Ideal.main_arg0)) (m (c.tc.loc Kernel5Ideal.main_arg1)) (m (c.tc.loc Kernel5Ideal.main_arg2)) (m (c.tc.loc Kernel5Ideal.main_arg5))
      rw [← e0, ← e1, ← e2, ← e5]
      exact Reference5Ideal.Read.val_main_v81_eq ..
    · change _ = Reference5Ideal.Read.val_main_v82 (F := Ideal) (m (c.tc.loc Kernel5Ideal.main_arg5))
      rw [← e5]
      exact Reference5Ideal.Read.val_main_v82_eq ..

end Cert.Resid

end
-- ==== Proof.ModinValue.lean ====
/-
  The gradient at the first layer norm and its modulation: each grid point's rows of the gradient by the activation,
  and the gradients of the modulation added up point after point.
-/
module

public import proofs.«01_k».proof.Proof.Gen.Kernel6Ideal.Value
public import proofs.«01_k».proof.Proof.Gen.Reference6Ideal.Read
public import proofs.«01_k».proof.Proof.NormGrad
public import proofs.«01_k».proof.Defs
public import proofs.«01_k».proof.Proof.Gen.Pre_modin_finite
public import proofs.«01_k».proof.Proof.FfnFinite
public import Idealize.ShloMosaic.Lib.Claim

@[expose] public section

set_option maxRecDepth 16384

noncomputable section

namespace Cert.Modin

open Idealize.ShloMosaic Idealize.ShloMosaic.TcCoe Idealize.SL.Sem Kernel6Ideal Kernel6Ideal.Gen
open Reference6Ideal.Read

variable (m : (ℓ : Loc nD τ sig) → Buf (Elt Ideal) ℓ)

/-- Which blocks point `t` reads and writes. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0] ∧ win0_7.index t = ![0, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![0, 0] ∧ win0_7.index t = ![0, 0])

/-- The arrays the kernel was launched with. -/
abbrev xs (c : Dev nD) : FVec Ideal S8192x1024 .f32 := m ((c.tc : Thread nD τ).loc main_arg0)
abbrev scale (c : Dev nD) : FVec Ideal S1024 .f32 := m ((c.tc : Thread nD τ).loc main_arg1)
abbrev direct (c : Dev nD) : FVec Ideal S8192x1024 .f32 := m ((c.tc : Thread nD τ).loc main_arg3)
abbrev ct (c : Dev nD) : FVec Ideal S8192x1024 .f32 := m ((c.tc : Thread nD τ).loc main_arg4)

/-- A row of the activation, and its weights in the gradient. -/
def row (x : FVec Ideal S8192x1024 .f32) (r : Fin 8192) : Fin 1024 → EReal := fun k => x (ix2 r k)
def weight (ct : FVec Ideal S8192x1024 .f32) (sc : FVec Ideal S1024 .f32) (r : Fin 8192) : Fin 1024 → EReal := fun k => ct (ix2 r k) * (1 + sc (ix1 k))

/-- The reference's results at those arguments. -/
abbrev specRow (c : Dev nD) : FVec Ideal S8192x1024 .f32 := val_main_v65 (F := Ideal) (xs m c) (scale m c) (direct m c) (ct m c)
abbrev specScale (c : Dev nD) : FVec Ideal S1x1024 .f32 := val_main_v66 (F := Ideal) (xs m c) (ct m c)
abbrev specShift (c : Dev nD) : FVec Ideal S1x1024 .f32 := val_main_v67 (F := Ideal) (ct m c)

/-- The centred row, the spread and the pull in the reference. -/
theorem ref_centred (x : FVec Ideal S8192x1024 .f32) (r : Fin 8192) (k : Fin 1024) :
    val_main_v5 (F := Ideal) x (ix2 r k) = Norm.centred (row x r) k := by
  pointwise [val_main_v5, val_main_v4, val_main_v3, val_main_v2, val_main_v1, val_main_v0, val_main_cst, val_main_cst_0]
  rfl

theorem ref_centred' (x : FVec Ideal S8192x1024 .f32) (r : Fin 8192) (k : Fin 1024) :
    val_main_v14 (F := Ideal) x (ix2 r k) = Norm.centred (row x r) k := by
  rw [← ref_centred]
  pointwise [val_main_v14, val_main_v13, val_main_v5, val_main_v4]

theorem ref_spread (x : FVec Ideal S8192x1024 .f32) (r : Fin 8192) (u : Fin 1) :
    val_main_v16 (F := Ideal) x (ix2 r u) = Norm.spread (row x r) := by
  pointwise [val_main_v16, val_main_v15, val_main_v12, val_main_v11, val_main_v10, val_main_v9, val_main_v6, val_main_cst_2, val_main_cst_3, val_main_cst_4,
    ref_centred]
  rfl

theorem ref_inv (x : FVec Ideal S8192x1024 .f32) (r : Fin 8192) (u : Fin 1) :
    val_main_v17 (F := Ideal) x (ix2 r u) = Norm.inv (row x r) := by
  pointwise [val_main_v17, ref_spread]
  rfl

theorem ref_pull (x : FVec Ideal S8192x1024 .f32) (sc : FVec Ideal S1024 .f32) (ct : FVec Ideal S8192x1024 .f32) (r : Fin 8192) :
    val_main_v53 (F := Ideal) x sc ct (ix1 r) = Norm.pull (row x r) (weight ct sc r) := by
  pointwise [val_main_v53, val_main_v52, val_main_v51, val_main_v46, val_main_v43, val_main_v42, val_main_v41, val_main_v39, val_main_v38, val_main_v31,
    val_main_v25, val_main_v24, val_main_v23, val_main_v20, val_main_v19, val_main_v18, val_main_cst_5, val_main_cst_6, val_main_cst_11, val_main_cst_13,
    val_main_cst_14, ref_centred', ref_spread, ref_inv]
  rw [Fin.sum_univ_one]
  rfl

/-- The gradient by the activation in the reference. -/
theorem ref_row (c : Dev nD) (r : Fin 8192) (k : Fin 1024) :
    specRow m c (ix2 r k) = direct m c (ix2 r k) + Norm.gradHost (row (xs m c) r) (weight (ct m c) (scale m c) r) k := by
  pointwise [specRow, val_main_v65, val_main_v64, val_main_v63, val_main_v62, val_main_v61, val_main_v60, val_main_v59, val_main_v58, val_main_v57,
    val_main_v56, val_main_v55, val_main_v54, val_main_v50, val_main_v49, val_main_v48, val_main_v47, val_main_v45, val_main_v44, val_main_v39, val_main_v38,
    val_main_v31, val_main_v25, val_main_v24, val_main_v23, val_main_v8, val_main_v7, val_main_cst_1, val_main_cst_6, val_main_cst_12, val_main_cst_15,
    val_main_cst_16, val_main_cst_17, ref_centred, ref_inv, ref_pull]
  rw [add_assoc, add_assoc]
  refine congrArg (_ + ·) ?_
  rw [← add_assoc, Fin.sum_univ_one]
  rfl

/-- The gradients of the modulation in the reference. -/
theorem ref_scale (c : Dev nD) (u : Fin 1) (k : Fin 1024) :
    specScale m c (ix2 u k) = ∑ r : Fin 8192, Norm.normed (row (xs m c) r) k * ct m c (ix2 r k) := by
  pointwise [specScale, val_main_v66, val_main_v40, val_main_v37, val_main_v36, val_main_v35, val_main_v31, val_main_v22, val_main_v21, val_main_cst_9,
    val_main_cst_10, ref_centred', ref_inv]
  rw [Fin.sum_univ_one]
  rfl

theorem ref_shift (c : Dev nD) (u : Fin 1) (k : Fin 1024) : specShift m c (ix2 u k) = ∑ r : Fin 8192, ct m c (ix2 r k) := by
  pointwise [specShift, val_main_v67, val_main_v34, val_main_v33, val_main_v32, val_main_cst_7, val_main_cst_8]
  rw [Fin.sum_univ_one]

/-- The kernel's payloads, on the rows of a block. -/
def brow (x : FVec Ideal S512x1024 .f32) (r : Fin 512) : Fin 1024 → EReal := fun k => x (ix2 r k)
def bct (ct : FVec Ideal S512x1024 .bf16) (r : Fin 512) : Fin 1024 → EReal := fun k => ct (ix2 r k)
def bweight (ct : FVec Ideal S512x1024 .bf16) (sc : FVec Ideal S1x1024 .f32) (r : Fin 512) : Fin 1024 → EReal :=
  fun k => ct (ix2 r k) * (1 + sc (ix2 0 k))

theorem pay_centred (v0 : FVec Ideal S512x1024 .f32) (r : Fin 512) (k : Fin 1024) :
    k0_pay7 (F := Ideal) v0 (ix2 r k) = Norm.centred (brow v0 r) k := by
  pointwise [k0_pay7]
  rfl

theorem pay_spread (v0 : FVec Ideal S512x1024 .f32) (r : Fin 512) (u : Fin 1) : k0_pay8 (F := Ideal) v0 (ix2 r u) = Norm.spread (brow v0 r) := by
  pointwise [k0_pay8, pay_centred]
  rfl

theorem pay_inv (v0 : FVec Ideal S512x1024 .f32) (r : Fin 512) (u : Fin 1) : k0_pay9 (F := Ideal) v0 (ix2 r u) = Norm.inv (brow v0 r) := by
  pointwise [k0_pay9, pay_spread]
  rfl

theorem pay_row (v0 v3 : FVec Ideal S512x1024 .f32) (v1 : FVec Ideal S1x1024 .f32) (v4 : FVec Ideal S512x1024 .bf16) (r : Fin 512) (k : Fin 1024) :
    k0_pay1 (F := Ideal) v3 (k0_pay7 (F := Ideal) v0) (k0_pay13 (F := Ideal) v0 v1 v4) (k0_pay14 (F := Ideal) v0 v1 v4) (ix2 r k)
      = v3 (ix2 r k) + Norm.grad (brow v0 r) (bweight v4 v1 r) k := by
  pointwise [k0_pay1, k0_pay14, k0_pay13, k0_pay12, k0_pay6, pay_centred, pay_spread, pay_inv]
  simp only [Fin.sum_univ_one]
  rw [add_assoc]
  rfl

theorem pay_scale (v0 : FVec Ideal S512x1024 .f32) (v4 : FVec Ideal S512x1024 .bf16) (v65 : FVec Ideal S1x1024 .f32) (j : S1x1024.Idx) :
    k0_pay3 (F := Ideal) (k0_pay11 (F := Ideal) v0 v4) v65 j
      = v65 j + ∑ r : Fin 512, Norm.normed (brow v0 r) (j 1 : Fin 1024) * v4 (ix2 r (j 1 : Fin 1024)) := by
  idx_vars j
  pointwise [k0_pay3, k0_pay11, k0_pay6, pay_centred, pay_inv]
  rfl

theorem pay_shift (v4 : FVec Ideal S512x1024 .bf16) (v71 : FVec Ideal S1x1024 .f32) (j : S1x1024.Idx) :
    k0_pay5 (F := Ideal) (k0_pay10 (F := Ideal) v4) v71 j = v71 j + ∑ r : Fin 512, bct v4 r (j 1 : Fin 1024) := by
  idx_vars j
  pointwise [k0_pay5, k0_pay10, k0_pay6]
  rfl

theorem pay_zero (j : S1x1024.Idx) : k0_pay2 (F := Ideal) j = 0 := by pointwise [k0_pay2]
theorem pay_zero' (j : S1x1024.Idx) : k0_pay4 (F := Ideal) j = 0 := by pointwise [k0_pay4]

/-- The array's row that point `t` holds at row `r` of its block. -/
abbrev rowAt (t : Fin cfg0.N) (r : Fin 512) : Fin 8192 := ⟨t.val * 512 + r, by have : t.val < 16 := lt_of_lt_of_eq t.isLt N_0; omega⟩

/-- Point `t`'s rows of the arrays. -/
theorem blk_row (c : Dev nD) (t : Fin cfg0.N) (r : Fin 512) : brow (iblk m c 0 t) r = row (xs m c) (rowAt t r) := by
  funext k
  change (iblk m c 0 t : FVec Ideal S512x1024 .f32) (ix2 r k) = xs m c (ix2 (rowAt t r) k)
  blk_point [iblk, V, idx t]

theorem blk_scale (c : Dev nD) (t : Fin cfg0.N) (k : Fin 1024) : (iblk m c 1 t : FVec Ideal S1x1024 .f32) (ix2 0 k) = scale m c (ix1 k) := by
  blk_point [iblk, V, idx t]

theorem blk_direct (c : Dev nD) (t : Fin cfg0.N) (r : Fin 512) (k : Fin 1024) :
    (iblk m c 3 t : FVec Ideal S512x1024 .f32) (ix2 r k) = direct m c (ix2 (rowAt t r) k) := by
  blk_point [iblk, V, idx t]

theorem blk_ct (c : Dev nD) (t : Fin cfg0.N) (r : Fin 512) (k : Fin 1024) :
    (iblk m c 4 t : FVec Ideal S512x1024 .bf16) (ix2 r k) = ct m c (ix2 (rowAt t r) k) := by
  blk_point [iblk, V, idx t]

theorem blk_weight (c : Dev nD) (t : Fin cfg0.N) (r : Fin 512) :
    bweight (iblk m c 4 t) (iblk m c 1 t) r = weight (ct m c) (scale m c) (rowAt t r) := by
  funext k
  rw [bweight, weight, blk_ct, blk_scale]

/-- Point `p`'s parts of the gradients of the modulation. -/
theorem part_scale (c : Dev nD) (p : Fin cfg0.N) (k : Fin 1024) :
    (∑ r : Fin 512, Norm.normed (brow (iblk m c 0 p) r) k * (iblk m c 4 p : FVec Ideal S512x1024 .bf16) (ix2 r k))
      = ∑ r : Fin 512, Norm.normed (row (xs m c) (rowAt p r)) k * ct m c (ix2 (rowAt p r) k) :=
  Finset.sum_congr rfl fun r _ => by rw [blk_row, blk_ct]

theorem part_shift (c : Dev nD) (p : Fin cfg0.N) (k : Fin 1024) :
    (∑ r : Fin 512, bct (iblk m c 4 p) r k) = ∑ r : Fin 512, ct m c (ix2 (rowAt p r) k) :=
  Finset.sum_congr rfl fun r _ => blk_ct m c p r k

/-- The gradient by the activation after the run, when the weights are numbers. -/
theorem final_row (c : Dev nD) (hw : ∀ r k, ∃ x : ℝ, weight (ct m c) (scale m c) r k = x) : (dats m 0 c).arrAt 5 cfg0.N = specRow m c := by
  refine (dats m 0 c).arrAt_eq_of_covers 5 _ (by decide +kernel) fun t hf y => ?_
  blk_simp
  rw [after0_5]
  idx_vars y
  have ht : t.val < 16 := lt_of_lt_of_eq t.isLt N_0
  have e : ((cfg0.win 5).blk t).view.emb (ix2 y0 y1) = ix2 (⟨t.val * 512 + y0, by omega⟩ : Fin 8192) (y1 : Fin 1024) := by blk_ext [idx t]
  refine Eq.trans ?_ (congrArg (specRow m c) e).symm
  rw [ref_row, ← Norm.grad_eq _ _ (by decide) (hw _)]
  by_cases h : t.val % 16 = 0
  · rw [outsAt0_A m c t h h]
    frame_out
    rw [pay_row, blk_direct, blk_row, blk_weight]
  · rw [outsAt0_B m c t h h]
    frame_out
    rw [pay_row, blk_direct, blk_row, blk_weight]

/-- The gradient by the modulation's scale after the run. -/
theorem final_scale (c : Dev nD) : (dats m 0 c).arrAt 6 cfg0.N = specScale m c := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0) _
    (fun t h j => by rw [outsAt0_A m c t h h]; frame_out; rw [pay_scale, pay_zero])
    (fun t h j => by rw [outsAt0_B m c t h h]; frame_out; rw [pay_scale])
    (le_of_eq N_0) t0_15 rfl j, zero_add]
  idx_vars j
  rw [ref_scale]
  refine Eq.trans (Fin.sum_fin_congr fun p => ?_) (Fin.sum_mul_add_congr (S := cfg0.N) (n := 512)
    (F := fun p r => Norm.normed (row (xs m c) (rowAt p r)) j1 * ct m c (ix2 (rowAt p r) j1)) (fun p r hl => rfl))
  exact part_scale m c p j1

/-- The gradient by the modulation's shift after the run. -/
theorem final_shift (c : Dev nD) : (dats m 0 c).arrAt 7 cfg0.N = specShift m c := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => by rw [outsAt0_A m c t h h]; frame_out; rw [pay_shift, pay_zero'])
    (fun t h j => by rw [outsAt0_B m c t h h]; frame_out; rw [pay_shift])
    (le_of_eq N_0) t0_15 rfl j, zero_add]
  idx_vars j
  rw [ref_shift]
  refine Eq.trans (Fin.sum_fin_congr fun p => ?_) (Fin.sum_mul_add_congr (S := cfg0.N) (n := 512)
    (F := fun p r => ct m c (ix2 (rowAt p r) j1)) (fun p r hl => rfl))
  exact part_shift m c p j1

/-- The reference's run keeps its arguments and has no semaphores. -/
theorem reference_frame : quiescent_Reference6Ideal := fun m ρ _ =>
  (θ_run _ _ _).mono (fun r h => ⟨fun c => (h c).2.2.2, sem_eq_zero_of_no_sems rfl r.2⟩) (Reference6Ideal.Value.run (F := Ideal) m ρ)

/-- The modulation's scale and the second cotangent hold real numbers. -/
theorem real_args (x0 : FVec Ideal Pre_modin_finite.S8192x1024 .f32) (x1 : FVec Ideal Pre_modin_finite.S1024 .f32) (x2 : FVec Ideal Pre_modin_finite.S1024 .f32) (x3 : FVec Ideal Pre_modin_finite.S8192x1024 .f32) (x4 : FVec Ideal Pre_modin_finite.S8192x1024 .f32)
    (h : Pre_modin_finite.fn (F := Ideal) x0 x1 x2 x3 x4 = fun _ => 1#1) :
    (∀ i, ∃ r : ℝ, x1 i = r)
      ∧ (∀ i, ∃ r : ℝ, x4 i = r) := by
  have h0 := congrFun h (fun i => i.elim0)
  unfold Pre_modin_finite.fn at h0
  obtain ⟨t1, h1'⟩ := IntOp.andi_eq_one.1 h0
  obtain ⟨r0, e0⟩ := Cert.Finite.real_of_all x1 _ _ _ _ t1
  obtain ⟨r1, e1⟩ := Cert.Finite.real_of_all x4 _ _ _ _ h1'
  exact ⟨fun i => ⟨r0 i, e0 i⟩, fun i => ⟨r1 i, e1 i⟩⟩

/-- The gradient at the first layer norm and its modulation: the kernel's arrays are the reference's, at a finite scale and second cotangent. -/
theorem gradient : algebraic_Kernel6Ideal_Reference6Ideal_pre_modin_finite := by
  intro m g m' g' hpre hag
  obtain ⟨real_s, real_ct⟩ := real_args _ _ _ _ _ (hpre 0)
  have hw : ∀ r k, ∃ x : ℝ, weight (ct m 0) (scale m 0) r k = x := fun r k =>
    Norm.mul_real (real_ct (ix2 r k)) (Norm.add_real ⟨1, rfl⟩ (real_s (ix1 k)))
  refine ⟨fun c => specRow m c, fun c => specScale m c, fun c => specShift m c, ?_, ?_⟩
  · refine (θ_run _ _ _).mono (fun r h c => ?_) (Kernel6Ideal.Value.run_blocks m g)
    obtain rfl : c = 0 := Subsingleton.elim _ _
    obtain ⟨h0, h1, h2, rest⟩ := h 0
    exact ⟨h0.trans (final_row m 0 hw), h1.trans (final_scale m 0), h2.trans (final_shift m 0), rest⟩
  · refine (θ_run _ _ _).mono (fun r h c => ?_) (Reference6Ideal.Value.run (F := Ideal) m' g')
    obtain ⟨e0, e1, e2, e3, e4⟩ := hag c
    obtain ⟨h0, h1, h2, rest⟩ := h c
    refine ⟨h0.trans ?_, h1.trans ?_, h2.trans ?_, rest⟩
    · change _ = Reference6Ideal.Read.val_main_v65 (F := Ideal) (m (c.tc.loc Kernel6Ideal.main_arg0)) (m (c.tc.loc Kernel6Ideal.main_arg1)) (m (c.tc.loc Kernel6Ideal.main_arg3)) (m (c.tc.loc Kernel6Ideal.main_arg4))
      rw [← e0, ← e1, ← e3, ← e4]
      exact Reference6Ideal.Read.val_main_v65_eq ..
    · change _ = Reference6Ideal.Read.val_main_v66 (F := Ideal) (m (c.tc.loc Kernel6Ideal.main_arg0)) (m (c.tc.loc Kernel6Ideal.main_arg4))
      rw [← e0, ← e4]
      exact Reference6Ideal.Read.val_main_v66_eq ..
    · change _ = Reference6Ideal.Read.val_main_v67 (F := Ideal) (m (c.tc.loc Kernel6Ideal.main_arg4))
      rw [← e4]
      exact Reference6Ideal.Read.val_main_v67_eq ..

end Cert.Modin

end
-- ==== Proof.MixValue.lean ====
/-
  The gradient at a residual sum, its layer norm and the modulated norm after it: each grid point's rows of the gradients
  by the stream and by the branch, and the gradients of the gate, the scales and the shifts added up point after point.
-/
module

public import proofs.«01_k».proof.Proof.Gen.Kernel7Ideal.Value
public import proofs.«01_k».proof.Proof.Gen.Reference7Ideal.Read
public import proofs.«01_k».proof.Proof.NormGrad

@[expose] public section

set_option maxRecDepth 16384

noncomputable section

namespace Cert.Mix

open Idealize.ShloMosaic Idealize.ShloMosaic.TcCoe Idealize.SL.Sem Kernel7Ideal Kernel7Ideal.Gen
open Reference7Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![0, 0]
    ∧ win0_12.index t = ![0, 0] ∧ win0_13.index t = ![0, 0] ∧ win0_14.index t = ![0, 0] ∧ win0_15.index t = ![0, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] ∧ win0_9.index t = ![t.val, 0] ∧ win0_10.index t = ![t.val, 0] ∧ win0_11.index t = ![0, 0]
    ∧ win0_12.index t = ![0, 0] ∧ win0_13.index t = ![0, 0] ∧ win0_14.index t = ![0, 0] ∧ win0_15.index t = ![0, 0])

/-- The arrays the kernel was launched with. -/
abbrev xs (c : Dev nD) : FVec Ideal S8192x1024 .f32 := m ((c.tc : Thread nD τ).loc main_arg0)
abbrev ys (c : Dev nD) : FVec Ideal S8192x1024 .f32 := m ((c.tc : Thread nD τ).loc main_arg1)
abbrev gate (c : Dev nD) : FVec Ideal S1024 .f32 := m ((c.tc : Thread nD τ).loc main_arg2)
abbrev scale (c : Dev nD) : FVec Ideal S1024 .f32 := m ((c.tc : Thread nD τ).loc main_arg3)
abbrev shift (c : Dev nD) : FVec Ideal S1024 .f32 := m ((c.tc : Thread nD τ).loc main_arg4)
abbrev modScale (c : Dev nD) : FVec Ideal S1024 .f32 := m ((c.tc : Thread nD τ).loc main_arg5)
abbrev ct (c : Dev nD) : FVec Ideal S8192x1024 .f32 := m ((c.tc : Thread nD τ).loc main_arg7)
abbrev modCt (c : Dev nD) : FVec Ideal S8192x1024 .f32 := m ((c.tc : Thread nD τ).loc main_arg8)

/-- A row normalised, scaled and shifted. -/
def affine (a g b : Fin 1024 → EReal) (k : Fin 1024) : EReal := Norm.normed a k * g k + b k

/-- A row of the residual sum, of the layer norm's output, and the weights of the second norm's gradient. -/
def row (x y : FVec Ideal S8192x1024 .f32) (gate : FVec Ideal S1024 .f32) (r : Fin 8192) : Fin 1024 → EReal :=
  Norm.resid (fun k => x (ix2 r k)) (fun k => y (ix2 r k)) (fun k => gate (ix1 k))
def out (x y : FVec Ideal S8192x1024 .f32) (gate g b : FVec Ideal S1024 .f32) (r : Fin 8192) : Fin 1024 → EReal :=
  affine (row x y gate r) (fun k => g (ix1 k)) (fun k => b (ix1 k))
def modWeight (ct : FVec Ideal S8192x1024 .f32) (sc : FVec Ideal S1024 .f32) (r : Fin 8192) : Fin 1024 → EReal :=
  fun k => ct (ix2 r k) * (1 + sc (ix1 k))

/-- The gradient by a row of the layer norm's output, the weights of its norm's gradient, and the gradient by the residual sum. -/
def mid (x y : FVec Ideal S8192x1024 .f32) (gate g b sc : FVec Ideal S1024 .f32) (ct ct2 : FVec Ideal S8192x1024 .f32) (r : Fin 8192) (k : Fin 1024) : EReal :=
  ct (ix2 r k) + Norm.gradHost (out x y gate g b r) (modWeight ct2 sc r) k
def weight (x y : FVec Ideal S8192x1024 .f32) (gate g b sc : FVec Ideal S1024 .f32) (ct ct2 : FVec Ideal S8192x1024 .f32) (r : Fin 8192) : Fin 1024 → EReal :=
  fun k => mid x y gate g b sc ct ct2 r k * g (ix1 k)
def through (x y : FVec Ideal S8192x1024 .f32) (gate g b sc : FVec Ideal S1024 .f32) (ct ct2 : FVec Ideal S8192x1024 .f32) (r : Fin 8192) (k : Fin 1024) : EReal :=
  Norm.gradHost (row x y gate r) (weight x y gate g b sc ct ct2 r) k

section Reference

variable (x y ct ct2 : FVec Ideal S8192x1024 .f32) (gate g b sc : FVec Ideal S1024 .f32) (r : Fin 8192) (k : Fin 1024) (u : Fin 1)

/-- The residual sum, its centred row, spread and reciprocal deviation in the reference. -/
theorem ref_resid : val_main_v7 (F := Ideal) x y gate (ix2 r k) = row x y gate r k := by
  pointwise [val_main_v7, val_main_v6, val_main_v5, val_main_v4, val_main_v3, val_main_v2, val_main_v1, val_main_v0, val_main_cst, val_main_cst_0]
  rfl

theorem ref_centred : val_main_v13 (F := Ideal) x y gate (ix2 r k) = Norm.centred (row x y gate r) k := by
  pointwise [val_main_v13, val_main_v12, val_main_v11, val_main_v10, val_main_v9, val_main_v8, val_main_cst_1, val_main_cst_2, ref_resid]
  rfl

theorem ref_centred' : val_main_v22 (F := Ideal) x y gate (ix2 r k) = Norm.centred (row x y gate r) k := by
  rw [← ref_centred]
  pointwise [val_main_v22, val_main_v21, val_main_v13, val_main_v12]

theorem ref_spread : val_main_v24 (F := Ideal) x y gate (ix2 r u) = Norm.spread (row x y gate r) := by
  pointwise [val_main_v24, val_main_v23, val_main_v20, val_main_v19, val_main_v18, val_main_v17, val_main_v14, val_main_cst_4, val_main_cst_5, val_main_cst_6, ref_centred]
  rfl

theorem ref_inv : val_main_v25 (F := Ideal) x y gate (ix2 r u) = Norm.inv (row x y gate r) := by
  pointwise [val_main_v25, ref_spread]
  rfl

/-- The layer norm's output, its centred row, spread and reciprocal deviation in the reference. -/
theorem ref_out : val_main_v36 (F := Ideal) x y gate g b (ix2 r k) = out x y gate g b r k := by
  pointwise [val_main_v36, val_main_v35, val_main_v34, val_main_v33, val_main_v32, val_main_v31, val_main_v30, val_main_v29, ref_centred', ref_inv]
  rfl

theorem out_centred : val_main_v42 (F := Ideal) x y gate g b (ix2 r k) = Norm.centred (out x y gate g b r) k := by
  pointwise [val_main_v42, val_main_v41, val_main_v40, val_main_v39, val_main_v38, val_main_v37, val_main_cst_8, val_main_cst_9, ref_out]
  rfl

theorem out_centred' : val_main_v51 (F := Ideal) x y gate g b (ix2 r k) = Norm.centred (out x y gate g b r) k := by
  rw [← out_centred]
  pointwise [val_main_v51, val_main_v50, val_main_v42, val_main_v41]

theorem out_spread : val_main_v53 (F := Ideal) x y gate g b (ix2 r u) = Norm.spread (out x y gate g b r) := by
  pointwise [val_main_v53, val_main_v52, val_main_v49, val_main_v48, val_main_v47, val_main_v46, val_main_v43, val_main_cst_11, val_main_cst_12, val_main_cst_13, out_centred]
  rfl

theorem out_inv : val_main_v54 (F := Ideal) x y gate g b (ix2 r u) = Norm.inv (out x y gate g b r) := by
  pointwise [val_main_v54, out_spread]
  rfl

theorem out_pull : val_main_v90 (F := Ideal) x y gate g b sc ct2 (ix1 r) = Norm.pull (out x y gate g b r) (modWeight ct2 sc r) := by
  pointwise [val_main_v90, val_main_v89, val_main_v88, val_main_v83, val_main_v80, val_main_v79, val_main_v78, val_main_v76, val_main_v75, val_main_v68, val_main_v62, val_main_v61, val_main_v60, val_main_v57, val_main_v56, val_main_v55, val_main_cst_14, val_main_cst_15, val_main_cst_20, val_main_cst_22, val_main_cst_23, out_centred', out_spread, out_inv]
  rw [Fin.sum_univ_one]
  rfl

/-- The gradient by the layer norm's output in the reference. -/
theorem ref_mid : val_main_v102 (F := Ideal) x y gate g b sc ct ct2 (ix2 r k) = mid x y gate g b sc ct ct2 r k := by
  pointwise [val_main_v102, val_main_v101, val_main_v100, val_main_v99, val_main_v98, val_main_v97, val_main_v96, val_main_v95, val_main_v94, val_main_v93, val_main_v92, val_main_v91, val_main_v87, val_main_v86, val_main_v85, val_main_v84, val_main_v82, val_main_v81, val_main_v76, val_main_v75, val_main_v68, val_main_v62, val_main_v61, val_main_v60, val_main_v45, val_main_v44, val_main_cst_10, val_main_cst_15, val_main_cst_21, val_main_cst_24, val_main_cst_25, val_main_cst_26,
    out_centred, out_inv, out_pull]
  rw [Fin.sum_univ_one, add_assoc, add_assoc]
  refine congrArg (_ + ·) ?_
  rw [← add_assoc]
  rfl

theorem ref_pull : val_main_v124 (F := Ideal) x y gate g b sc ct ct2 (ix1 r) = Norm.pull (row x y gate r) (weight x y gate g b sc ct ct2 r) := by
  pointwise [val_main_v124, val_main_v123, val_main_v122, val_main_v118, val_main_v115, val_main_v114, val_main_v113, val_main_v111, val_main_v110, val_main_v103, val_main_v31, val_main_v28, val_main_v27, val_main_v26, val_main_cst_7, val_main_cst_31, val_main_cst_33, val_main_cst_34, ref_centred', ref_spread, ref_inv, ref_mid]
  rw [Fin.sum_univ_one]
  rfl

/-- The gradient by the residual sum in the reference. -/
theorem ref_through : val_main_v136 (F := Ideal) x y gate g b sc ct ct2 (ix2 r k) = through x y gate g b sc ct ct2 r k := by
  pointwise [val_main_v136, val_main_v135, val_main_v134, val_main_v133, val_main_v132, val_main_v131, val_main_v130, val_main_v129, val_main_v128, val_main_v127, val_main_v126, val_main_v125, val_main_v121, val_main_v120, val_main_v119, val_main_v117, val_main_v116, val_main_v111, val_main_v110, val_main_v103, val_main_v31, val_main_v16, val_main_v15, val_main_cst_3, val_main_cst_32, val_main_cst_35, val_main_cst_36, val_main_cst_37,
    ref_centred, ref_inv, ref_pull, ref_mid]
  rw [Fin.sum_univ_one]
  rfl

end Reference

/-- The two gradients at the launched arrays. -/
abbrev midAt (c : Dev nD) : Fin 8192 → Fin 1024 → EReal := mid (xs m c) (ys m c) (gate m c) (scale m c) (shift m c) (modScale m c) (ct m c) (modCt m c)
abbrev throughAt (c : Dev nD) : Fin 8192 → Fin 1024 → EReal := through (xs m c) (ys m c) (gate m c) (scale m c) (shift m c) (modScale m c) (ct m c) (modCt m c)

/-- The reference's results at those arguments. -/
abbrev specStream (c : Dev nD) : FVec Ideal S8192x1024 .f32 := val_main_v144 (F := Ideal) (xs m c) (ys m c) (gate m c) (scale m c) (shift m c) (modScale m c) (ct m c) (modCt m c)
abbrev specBranch (c : Dev nD) : FVec Ideal S8192x1024 .bf16 := val_main_v145 (F := Ideal) (xs m c) (ys m c) (gate m c) (scale m c) (shift m c) (modScale m c) (ct m c) (modCt m c)
abbrev specGate (c : Dev nD) : FVec Ideal S1x1024 .f32 := val_main_v146 (F := Ideal) (xs m c) (ys m c) (gate m c) (scale m c) (shift m c) (modScale m c) (ct m c) (modCt m c)
abbrev specScale (c : Dev nD) : FVec Ideal S1x1024 .f32 := val_main_v147 (F := Ideal) (xs m c) (ys m c) (gate m c) (scale m c) (shift m c) (modScale m c) (ct m c) (modCt m c)
abbrev specShift (c : Dev nD) : FVec Ideal S1x1024 .f32 := val_main_v148 (F := Ideal) (xs m c) (ys m c) (gate m c) (scale m c) (shift m c) (modScale m c) (ct m c) (modCt m c)
abbrev specModScale (c : Dev nD) : FVec Ideal S1x1024 .f32 := val_main_v149 (F := Ideal) (xs m c) (ys m c) (gate m c) (scale m c) (shift m c) (modCt m c)
abbrev specModShift (c : Dev nD) : FVec Ideal S1x1024 .f32 := val_main_v150 (F := Ideal) (modCt m c)

section Results

variable (c : Dev nD) (r : Fin 8192) (u : Fin 1) (k : Fin 1024)

theorem ref_stream : specStream m c (ix2 r k) = Ideal.ofBits .f32 0x3FB504F3#32 * throughAt m c r k := by
  pointwise [specStream, val_main_v144, val_main_v143, val_main_cst_40, ref_through]

theorem ref_branch : specBranch m c (ix2 r k) = (1 + gate m c (ix1 k)) * throughAt m c r k := by
  pointwise [specBranch, val_main_v145, val_main_v138, val_main_v137, val_main_v4, val_main_v3, val_main_v2, val_main_cst_0, ref_through]

theorem ref_gate : specGate m c (ix2 u k) = ∑ r : Fin 8192, throughAt m c r k * ys m c (ix2 r k) := by
  pointwise [specGate, val_main_v146, val_main_v142, val_main_v141, val_main_v140, val_main_v139, val_main_cst_38, val_main_cst_39, ref_through]
  rw [Fin.sum_univ_one]

theorem ref_scale : specScale m c (ix2 u k) = ∑ r : Fin 8192, Norm.normed (row (xs m c) (ys m c) (gate m c) r) k * midAt m c r k := by
  pointwise [specScale, val_main_v147, val_main_v112, val_main_v109, val_main_v108, val_main_v107, val_main_v103, val_main_v30, val_main_v29, val_main_cst_29, val_main_cst_30, ref_centred', ref_inv, ref_mid]
  rw [Fin.sum_univ_one]
  rfl

theorem ref_shift : specShift m c (ix2 u k) = ∑ r : Fin 8192, midAt m c r k := by
  pointwise [specShift, val_main_v148, val_main_v106, val_main_v105, val_main_v104, val_main_cst_27, val_main_cst_28, ref_mid]
  rw [Fin.sum_univ_one]

theorem ref_mod_scale : specModScale m c (ix2 u k) = ∑ r : Fin 8192, Norm.normed (out (xs m c) (ys m c) (gate m c) (scale m c) (shift m c) r) k * modCt m c (ix2 r k) := by
  pointwise [specModScale, val_main_v149, val_main_v77, val_main_v74, val_main_v73, val_main_v72, val_main_v68, val_main_v59, val_main_v58, val_main_cst_18, val_main_cst_19, out_centred', out_inv]
  rw [Fin.sum_univ_one]
  rfl

theorem ref_mod_shift : specModShift m c (ix2 u k) = ∑ r : Fin 8192, modCt m c (ix2 r k) := by
  pointwise [specModShift, val_main_v150, val_main_v71, val_main_v70, val_main_v69, val_main_cst_16, val_main_cst_17]
  rw [Fin.sum_univ_one]

end Results

/-- The kernel's payloads, on the rows of a block. -/
def brow (x y : FVec Ideal S512x1024 .f32) (gate : FVec Ideal S1x1024 .f32) (r : Fin 512) : Fin 1024 → EReal :=
  Norm.resid (fun k => x (ix2 r k)) (fun k => y (ix2 r k)) (fun k => gate (ix2 0 k))
def bout (x y : FVec Ideal S512x1024 .f32) (gate g b : FVec Ideal S1x1024 .f32) (r : Fin 512) : Fin 1024 → EReal :=
  affine (brow x y gate r) (fun k => g (ix2 0 k)) (fun k => b (ix2 0 k))
def bmodWeight (ct : FVec Ideal S512x1024 .bf16) (sc : FVec Ideal S1x1024 .f32) (r : Fin 512) : Fin 1024 → EReal :=
  fun k => ct (ix2 r k) * (1 + sc (ix2 0 k))
def bct (ct : FVec Ideal S512x1024 .bf16) (r : Fin 512) : Fin 1024 → EReal := fun k => ct (ix2 r k)
def bmid (x y : FVec Ideal S512x1024 .f32) (gate g b sc : FVec Ideal S1x1024 .f32) (ct : FVec Ideal S512x1024 .f32) (ct2 : FVec Ideal S512x1024 .bf16)
    (r : Fin 512) (k : Fin 1024) : EReal :=
  ct (ix2 r k) + Norm.grad (bout x y gate g b r) (bmodWeight ct2 sc r) k
def bweight (x y : FVec Ideal S512x1024 .f32) (gate g b sc : FVec Ideal S1x1024 .f32) (ct : FVec Ideal S512x1024 .f32) (ct2 : FVec Ideal S512x1024 .bf16)
    (r : Fin 512) : Fin 1024 → EReal := fun k => bmid x y gate g b sc ct ct2 r k * g (ix2 0 k)
def bthrough (x y : FVec Ideal S512x1024 .f32) (gate g b sc : FVec Ideal S1x1024 .f32) (ct : FVec Ideal S512x1024 .f32) (ct2 : FVec Ideal S512x1024 .bf16)
    (r : Fin 512) (k : Fin 1024) : EReal := Norm.grad (brow x y gate r) (bweight x y gate g b sc ct ct2 r) k

section Payloads

variable (v0 v1 v10 : FVec Ideal S512x1024 .f32) (v11 : FVec Ideal S512x1024 .bf16) (v2 v4 v6 v8 acc : FVec Ideal S1x1024 .f32)
  (r : Fin 512) (k : Fin 1024) (u : Fin 1) (j : S1x1024.Idx)

theorem pay_centred : k0_pay10 (F := Ideal) v0 v1 v2 (ix2 r k) = Norm.centred (brow v0 v1 v2 r) k := by
  pointwise [k0_pay10, k0_pay9]
  rfl

theorem pay_spread : k0_pay11 (F := Ideal) v0 v1 v2 (ix2 r u) = Norm.spread (brow v0 v1 v2 r) := by
  pointwise [k0_pay11, pay_centred]
  rfl

theorem pay_inv : k0_pay12 (F := Ideal) v0 v1 v2 (ix2 r u) = Norm.inv (brow v0 v1 v2 r) := by
  pointwise [k0_pay12, pay_spread]
  rfl

/-- The second norm's centred rows, weighted rows and pulls, over the block's arrays. -/
abbrev centred2 : FVec Ideal S512x1024 .f32 := k0_pay16 (F := Ideal) (k0_pay5 (F := Ideal) v4) (k0_pay6 (F := Ideal) v6) (k0_pay10 (F := Ideal) v0 v1 v2) (k0_pay12 (F := Ideal) v0 v1 v2)
abbrev weighted2 : FVec Ideal S512x1024 .f32 := k0_pay22 (F := Ideal) (k0_pay5 (F := Ideal) v4) (k0_pay6 (F := Ideal) v6) (k0_pay7 (F := Ideal) v8) (k0_pay8 (F := Ideal) v11) (k0_pay10 (F := Ideal) v0 v1 v2) (k0_pay12 (F := Ideal) v0 v1 v2)
abbrev pull2 : FVec Ideal S512x1024 .f32 := k0_pay23 (F := Ideal) (k0_pay5 (F := Ideal) v4) (k0_pay6 (F := Ideal) v6) (k0_pay7 (F := Ideal) v8) (k0_pay8 (F := Ideal) v11) (k0_pay10 (F := Ideal) v0 v1 v2) (k0_pay12 (F := Ideal) v0 v1 v2)

theorem pay_centred2 : k0_pay16 (F := Ideal) (k0_pay5 (F := Ideal) v4) (k0_pay6 (F := Ideal) v6) (k0_pay10 (F := Ideal) v0 v1 v2) (k0_pay12 (F := Ideal) v0 v1 v2) (ix2 r k) = Norm.centred (bout v0 v1 v2 v4 v6 r) k := by
  pointwise [k0_pay16, k0_pay15, k0_pay5, k0_pay6, pay_centred, pay_inv]
  rfl

theorem pay_spread2 : k0_pay17 (F := Ideal) (k0_pay5 (F := Ideal) v4) (k0_pay6 (F := Ideal) v6) (k0_pay10 (F := Ideal) v0 v1 v2) (k0_pay12 (F := Ideal) v0 v1 v2) (ix2 r u) = Norm.spread (bout v0 v1 v2 v4 v6 r) := by
  pointwise [k0_pay17, pay_centred2]
  rfl

theorem pay_inv2 : k0_pay18 (F := Ideal) (k0_pay5 (F := Ideal) v4) (k0_pay6 (F := Ideal) v6) (k0_pay10 (F := Ideal) v0 v1 v2) (k0_pay12 (F := Ideal) v0 v1 v2) (ix2 r u) = Norm.inv (bout v0 v1 v2 v4 v6 r) := by
  pointwise [k0_pay18, pay_spread2]
  rfl

theorem pay_weighted2 : weighted2 v0 v1 v11 v2 v4 v6 v8 (ix2 r k) = bmodWeight v11 v8 r k * Norm.inv (bout v0 v1 v2 v4 v6 r) := by
  pointwise [weighted2, k0_pay22, k0_pay21, k0_pay7, k0_pay8, pay_inv2]
  rfl

theorem pay_pull2 : pull2 v0 v1 v11 v2 v4 v6 v8 (ix2 r k) = Norm.pull (bout v0 v1 v2 v4 v6 r) (bmodWeight v11 v8 r) := by
  pointwise [pull2, k0_pay23, k0_pay21, k0_pay7, k0_pay8, pay_centred2, pay_spread2, pay_inv2]
  rw [Fin.sum_univ_one]
  rfl

/-- The gradient by the layer norm's output. -/
theorem pay_mid : k0_pay24 (F := Ideal) v10 (centred2 v0 v1 v2 v4 v6) (weighted2 v0 v1 v11 v2 v4 v6 v8) (pull2 v0 v1 v11 v2 v4 v6 v8) (ix2 r k) = bmid v0 v1 v2 v4 v6 v8 v10 v11 r k := by
  pointwise [k0_pay24, pay_centred2, pay_weighted2, pay_pull2]
  rw [Fin.sum_univ_one, add_assoc]
  rfl

theorem pay_mid' : k0_pay25 (F := Ideal) v10 (centred2 v0 v1 v2 v4 v6) (weighted2 v0 v1 v11 v2 v4 v6 v8) (pull2 v0 v1 v11 v2 v4 v6 v8) (ix2 r k) = bmid v0 v1 v2 v4 v6 v8 v10 v11 r k := by
  rw [← pay_mid]
  pointwise [k0_pay25]

/-- The gradient by the residual sum. -/
theorem pay_back : k0_pay28 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8) (ix2 r k) = Norm.back (brow v0 v1 v2 r) (bweight v0 v1 v2 v4 v6 v8 v10 v11 r) k := by
  pointwise [k0_pay28, k0_pay14, k0_pay13, k0_pay5, pay_centred, pay_spread, pay_inv, pay_mid']
  rw [Fin.sum_univ_one]
  rfl

theorem pay_through : k0_pay30 (F := Ideal) (k0_pay28 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) (k0_pay29 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) (ix2 r k) = bthrough v0 v1 v2 v4 v6 v8 v10 v11 r k := by
  pointwise [k0_pay30, k0_pay29, pay_back]
  rw [Fin.sum_univ_one]
  rfl

theorem pay_stream : k0_pay31 (F := Ideal) (k0_pay28 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) (k0_pay29 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) (ix2 r k) = Ideal.ofBits .f32 0x3FB504F3#32 * bthrough v0 v1 v2 v4 v6 v8 v10 v11 r k := by
  pointwise [k0_pay31, pay_through]

theorem pay_branch : k0_pay32 (F := Ideal) (k0_pay9 (F := Ideal) v2) (k0_pay28 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) (k0_pay29 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) (ix2 r k)
    = (1 + v2 (ix2 0 k)) * bthrough v0 v1 v2 v4 v6 v8 v10 v11 r k := by
  pointwise [k0_pay32, k0_pay9, pay_through]

theorem pay_gate : k0_pay34 (F := Ideal) v1 (k0_pay28 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) (k0_pay29 (F := Ideal) (k0_pay5 (F := Ideal) v4) v10 (k0_pay10 (F := Ideal) v0 v1 v2) (k0_pay12 (F := Ideal) v0 v1 v2) (k0_pay14 (F := Ideal) (k0_pay13 (F := Ideal) v0 v1 v2)) (centred2 v0 v1 v2 v4 v6) (weighted2 v0 v1 v11 v2 v4 v6 v8) (pull2 v0 v1 v11 v2 v4 v6 v8)) acc j
    = acc j + ∑ r : Fin 512, bthrough v0 v1 v2 v4 v6 v8 v10 v11 r (j 1 : Fin 1024) * v1 (ix2 r (j 1 : Fin 1024)) := by
  idx_vars j
  pointwise [k0_pay34, pay_through]

theorem pay_scale : k0_pay36 (F := Ideal) (k0_pay27 (F := Ideal) v10 (k0_pay15 (F := Ideal) (k0_pay10 (F := Ideal) v0 v1 v2) (k0_pay12 (F := Ideal) v0 v1 v2)) (centred2 v0 v1 v2 v4 v6) (weighted2 v0 v1 v11 v2 v4 v6 v8) (pull2 v0 v1 v11 v2 v4 v6 v8)) acc j
    = acc j + ∑ r : Fin 512, Norm.normed (brow v0 v1 v2 r) (j 1 : Fin 1024) * bmid v0 v1 v2 v4 v6 v8 v10 v11 r (j 1 : Fin 1024) := by
  idx_vars j
  pointwise [k0_pay36, k0_pay27, k0_pay15, pay_centred, pay_inv, pay_mid']
  rfl

theorem pay_shift : k0_pay38 (F := Ideal) (k0_pay26 (F := Ideal) v10 (centred2 v0 v1 v2 v4 v6) (weighted2 v0 v1 v11 v2 v4 v6 v8) (pull2 v0 v1 v11 v2 v4 v6 v8)) acc j
    = acc j + ∑ r : Fin 512, bmid v0 v1 v2 v4 v6 v8 v10 v11 r (j 1 : Fin 1024) := by
  idx_vars j
  pointwise [k0_pay38, k0_pay26, pay_mid]

theorem pay_mod_scale : k0_pay2 (F := Ideal) (k0_pay20 (F := Ideal) (k0_pay5 (F := Ideal) v4) (k0_pay6 (F := Ideal) v6) (k0_pay8 (F := Ideal) v11) (k0_pay10 (F := Ideal) v0 v1 v2) (k0_pay12 (F := Ideal) v0 v1 v2)) acc j
    = acc j + ∑ r : Fin 512, Norm.normed (bout v0 v1 v2 v4 v6 r) (j 1 : Fin 1024) * bct v11 r (j 1 : Fin 1024) := by
  idx_vars j
  pointwise [k0_pay2, k0_pay20, k0_pay8, pay_centred2, pay_inv2]
  rfl

theorem pay_mod_shift : k0_pay4 (F := Ideal) (k0_pay19 (F := Ideal) (k0_pay8 (F := Ideal) v11)) acc j = acc j + ∑ r : Fin 512, bct v11 r (j 1 : Fin 1024) := by
  idx_vars j
  pointwise [k0_pay4, k0_pay19, k0_pay8]
  rfl

theorem pay_zero : k0_pay33 (F := Ideal) j = 0 := by pointwise [k0_pay33]
theorem pay_zero_scale : k0_pay35 (F := Ideal) j = 0 := by pointwise [k0_pay35]
theorem pay_zero_shift : k0_pay37 (F := Ideal) j = 0 := by pointwise [k0_pay37]
theorem pay_zero_mod_scale : k0_pay1 (F := Ideal) j = 0 := by pointwise [k0_pay1]
theorem pay_zero_mod_shift : k0_pay3 (F := Ideal) j = 0 := by pointwise [k0_pay3]

end Payloads

/-- The array's row that point `t` holds at row `r` of its block. -/
abbrev rowAt (t : Fin cfg0.N) (r : Fin 512) : Fin 8192 := ⟨t.val * 512 + r, by have : t.val < 16 := lt_of_lt_of_eq t.isLt N_0; omega⟩

section Blocks

-- Point `t`'s rows of the arrays.
variable (c : Dev nD) (t : Fin cfg0.N) (r : Fin 512) (k : Fin 1024)

theorem blk_gate : (iblk m c 2 t : FVec Ideal S1x1024 .f32) (ix2 0 k) = gate m c (ix1 k) := by blk_point [iblk, V, idx t]
theorem blk_scale : (iblk m c 3 t : FVec Ideal S1x1024 .f32) (ix2 0 k) = scale m c (ix1 k) := by blk_point [iblk, V, idx t]
theorem blk_shift : (iblk m c 4 t : FVec Ideal S1x1024 .f32) (ix2 0 k) = shift m c (ix1 k) := by blk_point [iblk, V, idx t]
theorem blk_modScale : (iblk m c 5 t : FVec Ideal S1x1024 .f32) (ix2 0 k) = modScale m c (ix1 k) := by blk_point [iblk, V, idx t]
theorem blk_x : (iblk m c 0 t : FVec Ideal S512x1024 .f32) (ix2 r k) = xs m c (ix2 (rowAt t r) k) := by blk_point [iblk, V, idx t]
theorem blk_y : (iblk m c 1 t : FVec Ideal S512x1024 .f32) (ix2 r k) = ys m c (ix2 (rowAt t r) k) := by blk_point [iblk, V, idx t]
theorem blk_ct : (iblk m c 7 t : FVec Ideal S512x1024 .f32) (ix2 r k) = ct m c (ix2 (rowAt t r) k) := by blk_point [iblk, V, idx t]
theorem blk_modCt : (iblk m c 8 t : FVec Ideal S512x1024 .bf16) (ix2 r k) = modCt m c (ix2 (rowAt t r) k) := by blk_point [iblk, V, idx t]

theorem blk_row : brow (iblk m c 0 t) (iblk m c 1 t) (iblk m c 2 t) r = row (xs m c) (ys m c) (gate m c) (rowAt t r) := by
  simp only [brow, row, blk_x, blk_y, blk_gate]

theorem blk_out : bout (iblk m c 0 t) (iblk m c 1 t) (iblk m c 2 t) (iblk m c 3 t) (iblk m c 4 t) r = out (xs m c) (ys m c) (gate m c) (scale m c) (shift m c) (rowAt t r) := by
  simp only [bout, out, blk_row, blk_scale, blk_shift]

theorem blk_modWeight : bmodWeight (iblk m c 8 t) (iblk m c 5 t) r = modWeight (modCt m c) (modScale m c) (rowAt t r) := by
  funext k
  rw [bmodWeight, modWeight, blk_modCt, blk_modScale]

theorem blk_bct : bct (iblk m c 8 t) r k = modCt m c (ix2 (rowAt t r) k) := blk_modCt m c t r k

end Blocks

section Finite

-- The weights of both norms are numbers.
variable (c : Dev nD) (h2 : ∀ r k, ∃ x : ℝ, modWeight (modCt m c) (modScale m c) r k = x)
include h2

theorem blk_mid (t : Fin cfg0.N) (r : Fin 512) (k : Fin 1024) :
    bmid (iblk m c 0 t) (iblk m c 1 t) (iblk m c 2 t) (iblk m c 3 t) (iblk m c 4 t) (iblk m c 5 t) (iblk m c 7 t) (iblk m c 8 t) r k = midAt m c (rowAt t r) k := by
  rw [bmid, blk_out, blk_modWeight, blk_ct, Norm.grad_eq _ _ (by decide) (h2 _)]
  rfl

/-- Point `p`'s part of the gradient by the scale. -/
theorem part_scale (p : Fin cfg0.N) (k : Fin 1024) :
    (∑ r : Fin 512, Norm.normed (brow (iblk m c 0 p) (iblk m c 1 p) (iblk m c 2 p) r) k * bmid (iblk m c 0 p) (iblk m c 1 p) (iblk m c 2 p) (iblk m c 3 p) (iblk m c 4 p) (iblk m c 5 p) (iblk m c 7 p) (iblk m c 8 p) r k)
      = ∑ r : Fin 512, Norm.normed (row (xs m c) (ys m c) (gate m c) (rowAt p r)) k * midAt m c (rowAt p r) k :=
  Finset.sum_congr rfl fun r _ => by rw [blk_row, blk_mid m c h2]

/-- The gradient by the scale after the run. -/
theorem final_scale : (dats m 0 c).arrAt 12 cfg0.N = specScale m c := by
  refine (dats m 0 c).arrAt_eq_of_after_last 12 t0_15 (by decide +kernel) _ fun j => ?_
  blk_simp
  rw [after0_12, Pipeline.eq_sum_fin_of_reset_step_apply_last (fun n h => (outsAt0 m c n h).2.2.2.1) 16 (fun _ => 0) _
    (fun t h j => by rw [outsAt0_A m c t h h h h h]; frame_out; rw [pay_scale, pay_zero_scale])
    (fun t h j => by rw [outsAt0_B m c t h h h h h]; frame_out; rw [pay_scale])
    (le_of_eq N_0) t0_15 rfl j, zero_add]
  idx_vars j
  rw [ref_scale]
  refine Eq.trans (Fin.sum_fin_congr fun p => ?_) (Fin.sum_mul_add_congr (S := cfg0.N) (n := 512)
    (F := fun p r => Norm.normed (row (xs m c) (ys m c) (gate m c) (rowAt p r)) j1 * midAt m c (rowAt p r) j1) (fun p r hl => rfl))
  exact part_scale m c h2 p j1

/-- Point `p`'s part of the gradient by the shift. -/
theorem part_shift (p : Fin cfg0.N) (k : Fin 1024) :
    (∑ r : Fin 512, bmid (iblk m c 0 p) (iblk m c 1 p) (iblk m c 2 p) (iblk m c 3 p) (iblk m c 4 p) (iblk m c 5 p) (iblk m c 7 p) (iblk m c 8 p) r k) = ∑ r : Fin 512, midAt m c (rowAt p r) k :=
  Finset.sum_congr rfl fun r _ => blk_mid m c h2 p r k

/-- The gradient by the shift after the run. -/
theorem final_shift : (dats m 0 c).arrAt 13 cfg0.N = specShift m c := by
  refine (dats m 0 c).arrAt_eq_of_after_last 13 t0_15 (by decide +kernel) _ fun j => ?_
  blk_simp
  rw [after0_13, Pipeline.eq_sum_fin_of_reset_step_apply_last (fun n h => (outsAt0 m c n h).2.2.2.2.1) 16 (fun _ => 0) _
    (fun t h j => by rw [outsAt0_A m c t h h h h h]; frame_out; rw [pay_shift, pay_zero_shift])
    (fun t h j => by rw [outsAt0_B m c t h h h h h]; frame_out; rw [pay_shift])
    (le_of_eq N_0) t0_15 rfl j, zero_add]
  idx_vars j
  rw [ref_shift]
  refine Eq.trans (Fin.sum_fin_congr fun p => ?_) (Fin.sum_mul_add_congr (S := cfg0.N) (n := 512)
    (F := fun p r => midAt m c (rowAt p r) j1) (fun p r hl => rfl))
  exact part_shift m c h2 p j1

variable (h1 : ∀ r k, ∃ x : ℝ, weight (xs m c) (ys m c) (gate m c) (scale m c) (shift m c) (modScale m c) (ct m c) (modCt m c) r k = x)
include h1

theorem blk_through (t : Fin cfg0.N) (r : Fin 512) (k : Fin 1024) :
    bthrough (iblk m c 0 t) (iblk m c 1 t) (iblk m c 2 t) (iblk m c 3 t) (iblk m c 4 t) (iblk m c 5 t) (iblk m c 7 t) (iblk m c 8 t) r k = throughAt m c (rowAt t r) k := by
  have hw : bweight (iblk m c 0 t) (iblk m c 1 t) (iblk m c 2 t) (iblk m c 3 t) (iblk m c 4 t) (iblk m c 5 t) (iblk m c 7 t) (iblk m c 8 t) r = weight (xs m c) (ys m c) (gate m c) (scale m c) (shift m c) (modScale m c) (ct m c) (modCt m c) (rowAt t r) := by
    funext k
    rw [bweight, weight, blk_mid m c h2, blk_scale]
  rw [bthrough, blk_row, hw, Norm.grad_eq _ _ (by decide) (h1 _)]
  rfl

/-- The gradient by the stream after the run. -/
theorem final_stream : (dats m 0 c).arrAt 9 cfg0.N = specStream m c := by
  refine (dats m 0 c).arrAt_eq_of_covers 9 _ (by decide +kernel) fun t hf y => ?_
  blk_simp
  rw [after0_9]
  idx_vars y
  have ht : t.val < 16 := lt_of_lt_of_eq t.isLt N_0
  have e : ((cfg0.win 9).blk t).view.emb (ix2 y0 y1) = ix2 (⟨t.val * 512 + y0, by omega⟩ : Fin 8192) (y1 : Fin 1024) := by blk_ext [idx t]
  refine Eq.trans ?_ (congrArg (specStream m c) e).symm
  rw [ref_stream]
  by_cases h : t.val % 16 = 0
  · rw [outsAt0_A m c t h h h h h]
    frame_out
    rw [pay_stream, blk_through m c h2 h1]
  · rw [outsAt0_B m c t h h h h h]
    frame_out
    rw [pay_stream, blk_through m c h2 h1]

/-- The gradient by the branch after the run. -/
theorem final_branch : (dats m 0 c).arrAt 10 cfg0.N = specBranch m c := by
  refine (dats m 0 c).arrAt_eq_of_covers 10 _ (by decide +kernel) fun t hf y => ?_
  blk_simp
  rw [after0_10]
  idx_vars y
  have ht : t.val < 16 := lt_of_lt_of_eq t.isLt N_0
  have e : ((cfg0.win 10).blk t).view.emb (ix2 y0 y1) = ix2 (⟨t.val * 512 + y0, by omega⟩ : Fin 8192) (y1 : Fin 1024) := by blk_ext [idx t]
  refine Eq.trans ?_ (congrArg (specBranch m c) e).symm
  rw [ref_branch]
  by_cases h : t.val % 16 = 0
  · rw [outsAt0_A m c t h h h h h]
    frame_out
    rw [pay_branch, blk_through m c h2 h1, blk_gate]
  · rw [outsAt0_B m c t h h h h h]
    frame_out
    rw [pay_branch, blk_through m c h2 h1, blk_gate]

/-- Point `p`'s part of the gradient by the gate. -/
theorem part_gate (p : Fin cfg0.N) (k : Fin 1024) :
    (∑ r : Fin 512, bthrough (iblk m c 0 p) (iblk m c 1 p) (iblk m c 2 p) (iblk m c 3 p) (iblk m c 4 p) (iblk m c 5 p) (iblk m c 7 p) (iblk m c 8 p) r k * (iblk m c 1 p : FVec Ideal S512x1024 .f32) (ix2 r k))
      = ∑ r : Fin 512, throughAt m c (rowAt p r) k * ys m c (ix2 (rowAt p r) k) :=
  Finset.sum_congr rfl fun r _ => by rw [blk_through m c h2 h1, blk_y]

/-- The gradient by the gate after the run. -/
theorem final_gate : (dats m 0 c).arrAt 11 cfg0.N = specGate m c := by
  refine (dats m 0 c).arrAt_eq_of_after_last 11 t0_15 (by decide +kernel) _ fun j => ?_
  blk_simp
  rw [after0_11, Pipeline.eq_sum_fin_of_reset_step_apply_last (fun n h => (outsAt0 m c n h).2.2.1) 16 (fun _ => 0) _
    (fun t h j => by rw [outsAt0_A m c t h h h h h]; frame_out; rw [pay_gate, pay_zero])
    (fun t h j => by rw [outsAt0_B m c t h h h h h]; frame_out; rw [pay_gate])
    (le_of_eq N_0) t0_15 rfl j, zero_add]
  idx_vars j
  rw [ref_gate]
  refine Eq.trans (Fin.sum_fin_congr fun p => ?_) (Fin.sum_mul_add_congr (S := cfg0.N) (n := 512)
    (F := fun p r => throughAt m c (rowAt p r) j1 * ys m c (ix2 (rowAt p r) j1)) (fun p r hl => rfl))
  exact part_gate m c h2 h1 p j1

end Finite

variable (c : Dev nD)

/-- Point `p`'s part of the gradient by the modulation's scale. -/
theorem part_mod_scale (p : Fin cfg0.N) (k : Fin 1024) :
    (∑ r : Fin 512, Norm.normed (bout (iblk m c 0 p) (iblk m c 1 p) (iblk m c 2 p) (iblk m c 3 p) (iblk m c 4 p) r) k * bct (iblk m c 8 p) r k)
      = ∑ r : Fin 512, Norm.normed (out (xs m c) (ys m c) (gate m c) (scale m c) (shift m c) (rowAt p r)) k * modCt m c (ix2 (rowAt p r) k) :=
  Finset.sum_congr rfl fun r _ => by rw [blk_out, blk_bct]

/-- The gradient by the modulation's scale after the run. -/
theorem final_mod_scale : (dats m 0 c).arrAt 14 cfg0.N = specModScale m c := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0) _
    (fun t h j => by rw [outsAt0_A m c t h h h h h]; frame_out; rw [pay_mod_scale, pay_zero_mod_scale])
    (fun t h j => by rw [outsAt0_B m c t h h h h h]; frame_out; rw [pay_mod_scale])
    (le_of_eq N_0) t0_15 rfl j, zero_add]
  idx_vars j
  rw [ref_mod_scale]
  refine Eq.trans (Fin.sum_fin_congr fun p => ?_) (Fin.sum_mul_add_congr (S := cfg0.N) (n := 512)
    (F := fun p r => Norm.normed (out (xs m c) (ys m c) (gate m c) (scale m c) (shift m c) (rowAt p r)) j1 * modCt m c (ix2 (rowAt p r) j1)) (fun p r hl => rfl))
  exact part_mod_scale m c p j1

/-- Point `p`'s part of the gradient by the modulation's shift. -/
theorem part_mod_shift (p : Fin cfg0.N) (k : Fin 1024) :
    (∑ r : Fin 512, bct (iblk m c 8 p) r k) = ∑ r : Fin 512, modCt m c (ix2 (rowAt p r) k) :=
  Finset.sum_congr rfl fun r _ => blk_bct m c p r k

/-- The gradient by the modulation's shift after the run. -/
theorem final_mod_shift : (dats m 0 c).arrAt 15 cfg0.N = specModShift m c := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0) _
    (fun t h j => by rw [outsAt0_A m c t h h h h h]; frame_out; rw [pay_mod_shift, pay_zero_mod_shift])
    (fun t h j => by rw [outsAt0_B m c t h h h h h]; frame_out; rw [pay_mod_shift])
    (le_of_eq N_0) t0_15 rfl j, zero_add]
  idx_vars j
  rw [ref_mod_shift]
  refine Eq.trans (Fin.sum_fin_congr fun p => ?_) (Fin.sum_mul_add_congr (S := cfg0.N) (n := 512)
    (F := fun p r => modCt m c (ix2 (rowAt p r) j1)) (fun p r hl => rfl))
  exact part_mod_shift m c p j1

end Cert.Mix

end
-- ==== Proof.MixClaims.lean ====
/- The gradient at a residual sum, its layer norm and the next modulation: the kernel's arrays are the reference's, at finite scales and cotangents. -/
module

public import proofs.«01_k».proof.Defs
public import proofs.«01_k».proof.Proof.MixValue
public import proofs.«01_k».proof.Proof.Gen.Pre_mix_finite
public import proofs.«01_k».proof.Proof.FfnFinite
public import Idealize.ShloMosaic.Lib.Claim

@[expose] public section

noncomputable section

namespace Cert.Mix

open Idealize.ShloMosaic Idealize.ShloMosaic.TcCoe Idealize.SL.Sem

/-- The reference's run keeps its arguments and has no semaphores. -/
theorem reference_frame : quiescent_Reference7Ideal := fun m ρ _ =>
  (θ_run _ _ _).mono (fun r h => ⟨fun c => (h c).2.2.2.2.2.2.2, sem_eq_zero_of_no_sems rfl r.2⟩) (Reference7Ideal.Value.run (F := Ideal) m ρ)

/-- The two scales and the two cotangents hold real numbers. -/
theorem real_args (x0 : FVec Ideal Pre_mix_finite.S8192x1024 .f32) (x1 : FVec Ideal Pre_mix_finite.S8192x1024 .f32) (x2 : FVec Ideal Pre_mix_finite.S1024 .f32) (x3 : FVec Ideal Pre_mix_finite.S1024 .f32) (x4 : FVec Ideal Pre_mix_finite.S1024 .f32) (x5 : FVec Ideal Pre_mix_finite.S1024 .f32) (x6 : FVec Ideal Pre_mix_finite.S1024 .f32) (x7 : FVec Ideal Pre_mix_finite.S8192x1024 .f32) (x8 : FVec Ideal Pre_mix_finite.S8192x1024 .f32)
    (h : Pre_mix_finite.fn (F := Ideal) x0 x1 x2 x3 x4 x5 x6 x7 x8 = fun _ => 1#1) :
    (∀ i, ∃ r : ℝ, x3 i = r)
      ∧ (∀ i, ∃ r : ℝ, x5 i = r)
      ∧ (∀ i, ∃ r : ℝ, x7 i = r)
      ∧ (∀ i, ∃ r : ℝ, x8 i = r) := by
  have h0 := congrFun h (fun i => i.elim0)
  unfold Pre_mix_finite.fn at h0
  unfold Pre_mix_finite.fn_part1 at h0
  obtain ⟨t3, h3'⟩ := IntOp.andi_eq_one.1 h0
  obtain ⟨t2, h2'⟩ := IntOp.andi_eq_one.1 t3
  obtain ⟨t1, h1'⟩ := IntOp.andi_eq_one.1 t2
  obtain ⟨r0, e0⟩ := Cert.Finite.real_of_all x3 _ _ _ _ t1
  obtain ⟨r1, e1⟩ := Cert.Finite.real_of_all x5 _ _ _ _ h1'
  obtain ⟨r2, e2⟩ := Cert.Finite.real_of_all x7 _ _ _ _ h2'
  obtain ⟨r3, e3⟩ := Cert.Finite.real_of_all x8 _ _ _ _ h3'
  exact ⟨fun i => ⟨r0 i, e0 i⟩, fun i => ⟨r1 i, e1 i⟩, fun i => ⟨r2 i, e2 i⟩, fun i => ⟨r3 i, e3 i⟩⟩

/-- The gradient at a residual sum, its layer norm and the next modulation: the kernel's arrays are the reference's, at finite scales and cotangents. -/
theorem gradient : algebraic_Kernel7Ideal_Reference7Ideal_pre_mix_finite := by
  intro m g m' g' hpre hag
  obtain ⟨real_g, real_s, real_ct, real_mod⟩ := real_args _ _ _ _ _ _ _ _ _ (hpre 0)
  have w2 : ∀ r k, ∃ x : ℝ, modWeight (modCt m 0) (modScale m 0) r k = x := fun r k =>
    Norm.mul_real (real_mod (ix2 r k)) (Norm.add_real ⟨1, rfl⟩ (real_s (ix1 k)))
  have w1 : ∀ r k, ∃ x : ℝ, weight (xs m 0) (ys m 0) (gate m 0) (scale m 0) (shift m 0) (modScale m 0) (ct m 0) (modCt m 0) r k = x := fun r k =>
    Norm.mul_real (Norm.add_real (real_ct (ix2 r k))
      (by rw [← Norm.grad_eq _ _ (by norm_num) (w2 r)]; exact Norm.grad_real _ _ (by norm_num) (w2 r) k)) (real_g (ix1 k))
  refine ⟨fun c => specStream m c, fun c => specBranch m c, fun c => specGate m c, fun c => specScale m c, fun c => specShift m c, fun c => specModScale m c, fun c => specModShift m c, ?_, ?_⟩
  · refine (θ_run _ _ _).mono (fun r h c => ?_) (Kernel7Ideal.Value.run_blocks m g)
    obtain rfl : c = 0 := Subsingleton.elim _ _
    obtain ⟨h0, h1, h2, h3, h4, h5, h6, rest⟩ := h 0
    exact ⟨h0.trans (final_stream m 0 w2 w1), h1.trans (final_branch m 0 w2 w1), h2.trans (final_gate m 0 w2 w1), h3.trans (final_scale m 0 w2), h4.trans (final_shift m 0 w2), h5.trans (final_mod_scale m 0), h6.trans (final_mod_shift m 0), rest⟩
  · refine (θ_run _ _ _).mono (fun r h c => ?_) (Reference7Ideal.Value.run (F := Ideal) m' g')
    obtain ⟨e0, e1, e2, e3, e4, e5, e6, e7, e8⟩ := hag c
    obtain ⟨h0, h1, h2, h3, h4, h5, h6, rest⟩ := h c
    refine ⟨h0.trans ?_, h1.trans ?_, h2.trans ?_, h3.trans ?_, h4.trans ?_, h5.trans ?_, h6.trans ?_, rest⟩
    · change _ = Reference7Ideal.Read.val_main_v144 (F := Ideal) (m (c.tc.loc Kernel7Ideal.main_arg0)) (m (c.tc.loc Kernel7Ideal.main_arg1)) (m (c.tc.loc Kernel7Ideal.main_arg2)) (m (c.tc.loc Kernel7Ideal.main_arg3)) (m (c.tc.loc Kernel7Ideal.main_arg4)) (m (c.tc.loc Kernel7Ideal.main_arg5)) (m (c.tc.loc Kernel7Ideal.main_arg7)) (m (c.tc.loc Kernel7Ideal.main_arg8))
      rw [← e0, ← e1, ← e2, ← e3, ← e4, ← e5, ← e7, ← e8]
      exact Reference7Ideal.Read.val_main_v144_eq ..
    · change _ = Reference7Ideal.Read.val_main_v145 (F := Ideal) (m (c.tc.loc Kernel7Ideal.main_arg0)) (m (c.tc.loc Kernel7Ideal.main_arg1)) (m (c.tc.loc Kernel7Ideal.main_arg2)) (m (c.tc.loc Kernel7Ideal.main_arg3)) (m (c.tc.loc Kernel7Ideal.main_arg4)) (m (c.tc.loc Kernel7Ideal.main_arg5)) (m (c.tc.loc Kernel7Ideal.main_arg7)) (m (c.tc.loc Kernel7Ideal.main_arg8))
      rw [← e0, ← e1, ← e2, ← e3, ← e4, ← e5, ← e7, ← e8]
      exact Reference7Ideal.Read.val_main_v145_eq ..
    · change _ = Reference7Ideal.Read.val_main_v146 (F := Ideal) (m (c.tc.loc Kernel7Ideal.main_arg0)) (m (c.tc.loc Kernel7Ideal.main_arg1)) (m (c.tc.loc Kernel7Ideal.main_arg2)) (m (c.tc.loc Kernel7Ideal.main_arg3)) (m (c.tc.loc Kernel7Ideal.main_arg4)) (m (c.tc.loc Kernel7Ideal.main_arg5)) (m (c.tc.loc Kernel7Ideal.main_arg7)) (m (c.tc.loc Kernel7Ideal.main_arg8))
      rw [← e0, ← e1, ← e2, ← e3, ← e4, ← e5, ← e7, ← e8]
      exact Reference7Ideal.Read.val_main_v146_eq ..
    · change _ = Reference7Ideal.Read.val_main_v147 (F := Ideal) (m (c.tc.loc Kernel7Ideal.main_arg0)) (m (c.tc.loc Kernel7Ideal.main_arg1)) (m (c.tc.loc Kernel7Ideal.main_arg2)) (m (c.tc.loc Kernel7Ideal.main_arg3)) (m (c.tc.loc Kernel7Ideal.main_arg4)) (m (c.tc.loc Kernel7Ideal.main_arg5)) (m (c.tc.loc Kernel7Ideal.main_arg7)) (m (c.tc.loc Kernel7Ideal.main_arg8))
      rw [← e0, ← e1, ← e2, ← e3, ← e4, ← e5, ← e7, ← e8]
      exact Reference7Ideal.Read.val_main_v147_eq ..
    · change _ = Reference7Ideal.Read.val_main_v148 (F := Ideal) (m (c.tc.loc Kernel7Ideal.main_arg0)) (m (c.tc.loc Kernel7Ideal.main_arg1)) (m (c.tc.loc Kernel7Ideal.main_arg2)) (m (c.tc.loc Kernel7Ideal.main_arg3)) (m (c.tc.loc Kernel7Ideal.main_arg4)) (m (c.tc.loc Kernel7Ideal.main_arg5)) (m (c.tc.loc Kernel7Ideal.main_arg7)) (m (c.tc.loc Kernel7Ideal.main_arg8))
      rw [← e0, ← e1, ← e2, ← e3, ← e4, ← e5, ← e7, ← e8]
      exact Reference7Ideal.Read.val_main_v148_eq ..
    · change _ = Reference7Ideal.Read.val_main_v149 (F := Ideal) (m (c.tc.loc Kernel7Ideal.main_arg0)) (m (c.tc.loc Kernel7Ideal.main_arg1)) (m (c.tc.loc Kernel7Ideal.main_arg2)) (m (c.tc.loc Kernel7Ideal.main_arg3)) (m (c.tc.loc Kernel7Ideal.main_arg4)) (m (c.tc.loc Kernel7Ideal.main_arg8))
      rw [← e0, ← e1, ← e2, ← e3, ← e4, ← e8]
      exact Reference7Ideal.Read.val_main_v149_eq ..
    · change _ = Reference7Ideal.Read.val_main_v150 (F := Ideal) (m (c.tc.loc Kernel7Ideal.main_arg8))
      rw [← e8]
      exact Reference7Ideal.Read.val_main_v150_eq ..

end Cert.Mix

end
-- ==== Proof.HeadValue.lean ====
/-
  The gradient at the scan's head (the skip, the gelu and the gate): each grid point's rows of the gradients by the scan's
  output and by its input, and the gradients of the skip, the gate's bias and the gate's matrix added up point after
  point, the last in a scratch buffer that the last point rounds and writes out.
-/
module

public import proofs.«01_k».proof.Proof.Gen.Kernel8Ideal.Value
public import proofs.«01_k».proof.Proof.Gen.Reference8Ideal.Read
public import Idealize.ShloMosaic.Lib.Pipeline.ReadBack
public import Idealize.ShloMosaic.Lib.Pipeline.ValueKit
public import proofs.«01_k».proof.Defs
public import Idealize.ShloMosaic.Lib.Claim

@[expose] public section

set_option maxRecDepth 16384

noncomputable section

namespace Cert.Head

open Idealize.ShloMosaic Idealize.ShloMosaic.TcCoe Idealize.SL.Sem Kernel8Ideal Kernel8Ideal.Gen
open Reference8Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 3] ∧ win0_2.index t = ![t.val, 0] ∧ win0_3.index t = ![0, 0]
    ∧ win0_4.index t = ![0, 0] ∧ win0_5.index t = ![0, 0, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, win0_0.index t = ![t.val, 0] ∧ win0_1.index t = ![t.val, 3] ∧ win0_2.index t = ![t.val, 0] ∧ win0_3.index t = ![0, 0]
    ∧ win0_4.index t = ![0, 0] ∧ win0_5.index t = ![0, 0, 0] ∧ win0_6.index t = ![t.val, 0] ∧ win0_7.index t = ![t.val, 0]
    ∧ win0_8.index t = ![0, 0] ∧ win0_9.index t = ![0, 0] ∧ win0_10.index t = ![0, 0])

/-! ## One row -/

section Row

-- A row of the scan's output and of its input, the skip, the gate's matrix and bias, and a row of the cotangent.
variable (yc u d : Fin 512 → EReal) (w : Fin 512 → Fin 512 → EReal) (b ct : Fin 512 → EReal) (k : Fin 512)

/-- The scan's output with the skip; the tangent, the half and the value of its gelu. -/
def skip : EReal := yc k + d k * u k
def tang : EReal := Ideal.tanh (Ideal.ofBits .f32 0x3F4C422A#32
  * (skip yc u d k + Ideal.ofBits .f32 0x3D372713#32 * (skip yc u d k * (skip yc u d k * skip yc u d k))))
def half : EReal := Ideal.ofBits .f32 0x3F000000#32 * (1 + tang yc u d k)
def gelu : EReal := skip yc u d k * half yc u d k

/-- The gate, the gradient by its argument, and the gradient by the gelu. -/
def gate : EReal := Ideal.logistic ((∑ j, gelu yc u d j * w j k) + b k)
def dgate : EReal := gelu yc u d k * ct k * (gate yc u d w b k * (1 - gate yc u d w b k))
def dgelu : EReal := ct k * gate yc u d w b k + ∑ j, dgate yc u d w b ct j * w k j

/-- The gradient through the tangent, and by the scan's output. -/
def dtang : EReal := Ideal.ofBits .f32 0x3F4C422A#32
  * (Ideal.ofBits .f32 0x3F000000#32 * (skip yc u d k * dgelu yc u d w b ct k) * ((1 + tang yc u d k) * (1 - tang yc u d k)))
def dskip : EReal := dgelu yc u d w b ct k * half yc u d k + dtang yc u d w b ct k
  + Ideal.ofBits .f32 0x3D372713#32 * dtang yc u d w b ct k * (Ideal.ofBits .f32 0x40400000#32 * (skip yc u d k * skip yc u d k))

end Row

/-! ## The reference -/

/-- The arrays the kernel was launched with. -/
abbrev ycs (c : Dev nD) : FVec Ideal S8192x512 .f32 := m ((c.tc : Thread nD τ).loc main_arg0)
abbrev proj (c : Dev nD) : FVec Ideal S8192x4096 .f32 := m ((c.tc : Thread nD τ).loc main_arg1)
abbrev dSkip (c : Dev nD) : FVec Ideal S512 .f32 := m ((c.tc : Thread nD τ).loc main_arg2)
abbrev wGlu (c : Dev nD) : FVec Ideal S512x512 .f32 := m ((c.tc : Thread nD τ).loc main_arg3)
abbrev bGlu (c : Dev nD) : FVec Ideal S512 .f32 := m ((c.tc : Thread nD τ).loc main_arg4)
abbrev cts (c : Dev nD) : FVec Ideal S8192x512 .f32 := m ((c.tc : Thread nD τ).loc main_arg5)

/-- Rows of the arrays. -/
def row (x : FVec Ideal S8192x512 .f32) (r : Fin 8192) : Fin 512 → EReal := fun k => x (ix2 r k)
def urow (x : FVec Ideal S8192x4096 .f32) (r : Fin 8192) : Fin 512 → EReal := fun k => x (ix2 r (⟨1536 + k, by omega⟩ : Fin 4096))
def vec (x : FVec Ideal S512 .f32) : Fin 512 → EReal := fun k => x (ix1 k)
def mat (x : FVec Ideal S512x512 .f32) : Fin 512 → Fin 512 → EReal := fun j k => x (ix2 j k)

section Reference

variable (yc : FVec Ideal S8192x512 .f32) (pj : FVec Ideal S8192x4096 .f32) (d : FVec Ideal S512 .f32) (w : FVec Ideal S512x512 .f32)
  (b : FVec Ideal S512 .f32) (ct : FVec Ideal S8192x512 .f32) (r : Fin 8192) (k : Fin 512)

theorem ref_skip : val_main_v8 (F := Ideal) yc pj d (ix2 r k) = skip (row yc r) (urow pj r) (vec d) k := by
  pointwise [val_main_v8, val_main_v7, val_main_v6, val_main_v5, val_main_v4, val_main_v3, val_main_v2, val_main_v1, val_main_v0]
  rfl

theorem ref_tang : val_main_v19 (F := Ideal) yc pj d (ix2 r k) = tang (row yc r) (urow pj r) (vec d) k := by
  pointwise [val_main_v19, val_main_v18, val_main_v17, val_main_v16, val_main_v15, val_main_v14, val_main_v10, val_main_v9, val_main_cst_0, val_main_cst_1, ref_skip]
  rw [tang, mul_comm (skip (row yc r) (urow pj r) (vec d) k * _)]

theorem ref_half : val_main_v28 (F := Ideal) yc pj d (ix2 r k) = half (row yc r) (urow pj r) (vec d) k := by
  pointwise [val_main_v28, val_main_v27, val_main_v26, val_main_v25, val_main_cst_4, val_main_cst_5, ref_tang]
  rfl

theorem ref_gelu : val_main_v29 (F := Ideal) yc pj d (ix2 r k) = gelu (row yc r) (urow pj r) (vec d) k := by
  pointwise [val_main_v29, ref_skip, ref_half]
  rfl

theorem ref_gate : val_main_v39 (F := Ideal) yc pj d w b (ix2 r k) = gate (row yc r) (urow pj r) (vec d) (mat w) (vec b) k := by
  pointwise [val_main_v39, val_main_v38, val_main_v37, val_main_v36, val_main_v35, val_main_v34, val_main_v33, val_main_v32, val_main_v31, val_main_v30, val_main_cst_6, val_main_cst_7, ref_gelu]
  rfl

theorem ref_dgate : val_main_v46 (F := Ideal) yc pj d w b ct (ix2 r k)
    = dgate (row yc r) (urow pj r) (vec d) (mat w) (vec b) (row ct r) k := by
  pointwise [val_main_v46, val_main_v44, val_main_v42, val_main_v41, val_main_v40, val_main_cst_8, ref_gelu, ref_gate]
  rfl

theorem ref_dgelu : val_main_v53 (F := Ideal) yc pj d w b ct (ix2 r k)
    = dgelu (row yc r) (urow pj r) (vec d) (mat w) (vec b) (row ct r) k := by
  pointwise [val_main_v53, val_main_v52, val_main_v45, ref_gate, ref_dgate]
  rfl

theorem ref_dtang : val_main_v60 (F := Ideal) yc pj d w b ct (ix2 r k)
    = dtang (row yc r) (urow pj r) (vec d) (mat w) (vec b) (row ct r) k := by
  pointwise [val_main_v60, val_main_v59, val_main_v58, val_main_v57, val_main_v56, val_main_v54, val_main_v24, val_main_v23, val_main_v22, val_main_v21, val_main_v20, val_main_cst_2, val_main_cst_3, val_main_cst_11, val_main_cst_12, ref_skip, ref_tang, ref_dgelu]
  rfl

theorem ref_dskip : val_main_v65 (F := Ideal) yc pj d w b ct (ix2 r k)
    = dskip (row yc r) (urow pj r) (vec d) (mat w) (vec b) (row ct r) k := by
  pointwise [val_main_v65, val_main_v64, val_main_v63, val_main_v62, val_main_v61, val_main_v55, val_main_v13, val_main_v12, val_main_v11, val_main_cst, val_main_cst_13, ref_skip, ref_half, ref_dgelu, ref_dtang]
  rfl

end Reference

section Results

variable (c : Dev nD) (r : Fin 8192) (u : Fin 1) (k : Fin 512)

/-- The gelu and the two gradients at row `r` of the launched arrays. -/
def geluAt : EReal := gelu (row (ycs m c) r) (urow (proj m c) r) (vec (dSkip m c)) k
def dgateAt : EReal := dgate (row (ycs m c) r) (urow (proj m c) r) (vec (dSkip m c)) (mat (wGlu m c)) (vec (bGlu m c)) (row (cts m c) r) k
def dskipAt : EReal := dskip (row (ycs m c) r) (urow (proj m c) r) (vec (dSkip m c)) (mat (wGlu m c)) (vec (bGlu m c)) (row (cts m c) r) k

/-- The reference's results at those arguments. -/
abbrev specOut : FVec Ideal S8192x512 .f32 := val_main_v74 (F := Ideal) (ycs m c) (proj m c) (dSkip m c) (wGlu m c) (bGlu m c) (cts m c)
abbrev specIn : FVec Ideal S8192x512 .f32 := val_main_v75 (F := Ideal) (ycs m c) (proj m c) (dSkip m c) (wGlu m c) (bGlu m c) (cts m c)
abbrev specMat : FVec Ideal S512x512 .bf16 := val_main_v76 (F := Ideal) (ycs m c) (proj m c) (dSkip m c) (wGlu m c) (bGlu m c) (cts m c)
abbrev specSkip : FVec Ideal S1x512 .f32 := val_main_v77 (F := Ideal) (ycs m c) (proj m c) (dSkip m c) (wGlu m c) (bGlu m c) (cts m c)
abbrev specBias : FVec Ideal S1x512 .f32 := val_main_v78 (F := Ideal) (ycs m c) (proj m c) (dSkip m c) (wGlu m c) (bGlu m c) (cts m c)

theorem ref_out : specOut m c (ix2 r k) = dskipAt m c r k := by
  pointwise [specOut, val_main_v74, val_main_v73, ref_dskip]
  rfl

theorem ref_in : specIn m c (ix2 r k) = dSkip m c (ix1 k) * dskipAt m c r k := by
  pointwise [specIn, val_main_v75, val_main_v72, val_main_v67, val_main_v66, val_main_v5, ref_dskip]
  rfl

theorem ref_mat (j : Fin 512) : specMat m c (ix2 j k) = ∑ r : Fin 8192, geluAt m c r j * dgateAt m c r k := by
  pointwise [specMat, val_main_v76, val_main_v51, val_main_v50, ref_gelu, ref_dgate]
  exact Finset.sum_congr rfl fun r _ => mul_comm _ _

theorem ref_skip_grad : specSkip m c (ix2 u k) = ∑ r : Fin 8192, dskipAt m c r k * urow (proj m c) r k := by
  pointwise [specSkip, val_main_v77, val_main_v71, val_main_v70, val_main_v69, val_main_v68, val_main_v4, val_main_v3, val_main_v2, val_main_v1, val_main_v0, val_main_cst_14, val_main_cst_15, ref_dskip]
  rw [Fin.sum_univ_one]
  rfl

theorem ref_bias : specBias m c (ix2 u k) = ∑ r : Fin 8192, dgateAt m c r k := by
  pointwise [specBias, val_main_v78, val_main_v49, val_main_v48, val_main_v47, val_main_cst_9, val_main_cst_10, ref_dgate]
  rw [Fin.sum_univ_one]
  rfl

end Results

/-! ## The kernel's payloads, on the rows of a block -/

def brow (x : FVec Ideal S512x512 .f32) (r : Fin 512) : Fin 512 → EReal := fun k => x (ix2 r k)
def bct (x : FVec Ideal S512x512 .bf16) (r : Fin 512) : Fin 512 → EReal := fun k => x (ix2 r k)
def bvec (x : FVec Ideal S1x512 .f32) : Fin 512 → EReal := fun k => x (ix2 0 k)
def bmat (x : FVec Ideal S1x512x512 .bf16) : Fin 512 → Fin 512 → EReal := fun j k => x (ix3 0 j k)

section Payloads

variable (v3 v4 : FVec Ideal S512x512 .f32) (v43 : FVec Ideal S512x512 .bf16) (v5 v35 acc : FVec Ideal S1x512 .f32) (v32 : FVec Ideal S1x512x512 .bf16)
  (sc : FVec Ideal S512x512 .f32) (r k : Fin 512) (j : S1x512.Idx) (i : S512x512.Idx)

theorem pay_skip : k0_pay9 (F := Ideal) v3 v4 v5 (ix2 r k) = skip (brow v3 r) (brow v4 r) (bvec v5) k := by
  pointwise [k0_pay9, k0_pay8]
  rfl

theorem pay_tang : k0_pay11 (F := Ideal) v3 v4 v5 (ix2 r k) = tang (brow v3 r) (brow v4 r) (bvec v5) k := by
  pointwise [k0_pay11, pay_skip]
  rfl

theorem pay_half : k0_pay13 (F := Ideal) v3 v4 v5 (ix2 r k) = half (brow v3 r) (brow v4 r) (bvec v5) k := by
  pointwise [k0_pay13, pay_tang]
  rfl

theorem pay_gelu : k0_pay14 (F := Ideal) v3 v4 v5 (ix2 r k) = gelu (brow v3 r) (brow v4 r) (bvec v5) k := by
  pointwise [k0_pay14, pay_skip, pay_half]
  rfl

theorem pay_gate : k0_pay18 (F := Ideal) (k0_pay16 (F := Ideal) v3 v4 v5 v32) (k0_pay17 (F := Ideal) v35) (ix2 r k) = gate (brow v3 r) (brow v4 r) (bvec v5) (bmat v32) (bvec v35) k := by
  pointwise [k0_pay18, k0_pay17, k0_pay16, k0_pay15, pay_gelu]
  rfl

theorem pay_dgate : k0_pay20 (F := Ideal) (k0_pay14 (F := Ideal) v3 v4 v5) (k0_pay16 (F := Ideal) v3 v4 v5 v32) (k0_pay17 (F := Ideal) v35) v43 (ix2 r k) = dgate (brow v3 r) (brow v4 r) (bvec v5) (bmat v32) (bvec v35) (bct v43 r) k := by
  pointwise [k0_pay20, k0_pay19, pay_gelu, pay_gate]
  rfl

theorem pay_dgelu : k0_pay22 (F := Ideal) (k0_pay14 (F := Ideal) v3 v4 v5) (k0_pay16 (F := Ideal) v3 v4 v5 v32) (k0_pay17 (F := Ideal) v35) v43 v32 (ix2 r k) = dgelu (brow v3 r) (brow v4 r) (bvec v5) (bmat v32) (bvec v35) (bct v43 r) k := by
  pointwise [k0_pay22, k0_pay21, k0_pay19, pay_gate, pay_dgate]
  rfl

theorem pay_dtang : k0_pay25 (F := Ideal) (k0_pay9 (F := Ideal) v3 v4 v5) (k0_pay12 (F := Ideal) v3 v4 v5) (k0_pay14 (F := Ideal) v3 v4 v5) (k0_pay16 (F := Ideal) v3 v4 v5 v32) (k0_pay17 (F := Ideal) v35) v43 v32 (ix2 r k) = dtang (brow v3 r) (brow v4 r) (bvec v5) (bmat v32) (bvec v35) (bct v43 r) k := by
  pointwise [k0_pay25, k0_pay12, pay_skip, pay_tang, pay_dgelu]
  rfl

theorem pay_out : k0_pay1 (F := Ideal) (k0_pay10 (F := Ideal) v3 v4 v5) (k0_pay25 (F := Ideal) (k0_pay9 (F := Ideal) v3 v4 v5) (k0_pay12 (F := Ideal) v3 v4 v5) (k0_pay14 (F := Ideal) v3 v4 v5) (k0_pay16 (F := Ideal) v3 v4 v5 v32) (k0_pay17 (F := Ideal) v35) v43 v32) (k0_pay26 (F := Ideal) (k0_pay9 (F := Ideal) v3 v4 v5) (k0_pay12 (F := Ideal) v3 v4 v5) (k0_pay13 (F := Ideal) v3 v4 v5) (k0_pay14 (F := Ideal) v3 v4 v5) (k0_pay16 (F := Ideal) v3 v4 v5 v32) (k0_pay17 (F := Ideal) v35) v43 v32) (k0_pay27 (F := Ideal)) (ix2 r k) = dskip (brow v3 r) (brow v4 r) (bvec v5) (bmat v32) (bvec v35) (bct v43 r) k := by
  pointwise [k0_pay1, k0_pay10, k0_pay26, k0_pay27, pay_skip, pay_half, pay_dgelu, pay_dtang]
  rfl

theorem pay_in : k0_pay2 (F := Ideal) (k0_pay8 (F := Ideal) v5) (k0_pay10 (F := Ideal) v3 v4 v5) (k0_pay25 (F := Ideal) (k0_pay9 (F := Ideal) v3 v4 v5) (k0_pay12 (F := Ideal) v3 v4 v5) (k0_pay14 (F := Ideal) v3 v4 v5) (k0_pay16 (F := Ideal) v3 v4 v5 v32) (k0_pay17 (F := Ideal) v35) v43 v32) (k0_pay26 (F := Ideal) (k0_pay9 (F := Ideal) v3 v4 v5) (k0_pay12 (F := Ideal) v3 v4 v5) (k0_pay13 (F := Ideal) v3 v4 v5) (k0_pay14 (F := Ideal) v3 v4 v5) (k0_pay16 (F := Ideal) v3 v4 v5 v32) (k0_pay17 (F := Ideal) v35) v43 v32) (k0_pay27 (F := Ideal)) (ix2 r k)
    = v5 (ix2 0 k) * dskip (brow v3 r) (brow v4 r) (bvec v5) (bmat v32) (bvec v35) (bct v43 r) k := by
  pointwise [k0_pay2, k0_pay8, pay_out]

theorem pay_skip_grad : k0_pay3 (F := Ideal) v4 (k0_pay10 (F := Ideal) v3 v4 v5) (k0_pay25 (F := Ideal) (k0_pay9 (F := Ideal) v3 v4 v5) (k0_pay12 (F := Ideal) v3 v4 v5) (k0_pay14 (F := Ideal) v3 v4 v5) (k0_pay16 (F := Ideal) v3 v4 v5 v32) (k0_pay17 (F := Ideal) v35) v43 v32) (k0_pay26 (F := Ideal) (k0_pay9 (F := Ideal) v3 v4 v5) (k0_pay12 (F := Ideal) v3 v4 v5) (k0_pay13 (F := Ideal) v3 v4 v5) (k0_pay14 (F := Ideal) v3 v4 v5) (k0_pay16 (F := Ideal) v3 v4 v5 v32) (k0_pay17 (F := Ideal) v35) v43 v32) (k0_pay27 (F := Ideal)) acc j
    = acc j + ∑ r : Fin 512, dskip (brow v3 r) (brow v4 r) (bvec v5) (bmat v32) (bvec v35) (bct v43 r) (j 1 : Fin 512) * brow v4 r (j 1 : Fin 512) := by
  idx_vars j
  pointwise [k0_pay3, pay_out]
  rfl

theorem pay_bias : k0_pay24 (F := Ideal) (k0_pay14 (F := Ideal) v3 v4 v5) (k0_pay16 (F := Ideal) v3 v4 v5 v32) (k0_pay17 (F := Ideal) v35) v43 acc j
    = acc j + ∑ r : Fin 512, dgate (brow v3 r) (brow v4 r) (bvec v5) (bmat v32) (bvec v35) (bct v43 r) (j 1 : Fin 512) := by
  idx_vars j
  pointwise [k0_pay24, pay_dgate]

theorem pay_mat : k0_pay23 (F := Ideal) (k0_pay14 (F := Ideal) v3 v4 v5) (k0_pay15 (F := Ideal) v3 v4 v5) (k0_pay16 (F := Ideal) v3 v4 v5 v32) (k0_pay17 (F := Ideal) v35) v43 sc i
    = sc i + ∑ r : Fin 512, gelu (brow v3 r) (brow v4 r) (bvec v5) (i 0 : Fin 512) * dgate (brow v3 r) (brow v4 r) (bvec v5) (bmat v32) (bvec v35) (bct v43 r) (i 1 : Fin 512) := by
  idx_vars i
  pointwise [k0_pay23, k0_pay21, k0_pay15, pay_gelu, pay_dgate]

theorem pay_round : k0_pay4 (F := Ideal) sc i = sc i := by pointwise [k0_pay4]
theorem pay_zero_mat : k0_pay5 (F := Ideal) i = 0 := by pointwise [k0_pay5]
theorem pay_zero : k0_pay6 (F := Ideal) j = 0 := by pointwise [k0_pay6]
theorem pay_zero' : k0_pay7 (F := Ideal) j = 0 := by pointwise [k0_pay7]

end Payloads

/-! ## The blocks -/

/-- The array's row that point `t` holds at row `r` of its block. -/
abbrev rowAt (t : Fin cfg0.N) (r : Fin 512) : Fin 8192 := ⟨t.val * 512 + r, by have : t.val < 16 := lt_of_lt_of_eq t.isLt N_0; omega⟩

section Blocks

variable (c : Dev nD) (t : Fin cfg0.N) (r : Fin 512)

theorem blk_yc : brow (iblk m c 0 t) r = row (ycs m c) (rowAt t r) := by
  funext k
  change (iblk m c 0 t : FVec Ideal S512x512 .f32) (ix2 r k) = ycs m c (ix2 (rowAt t r) k)
  blk_point [iblk, V, idx t]

theorem blk_u : brow (iblk m c 1 t) r = urow (proj m c) (rowAt t r) := by
  funext k
  change (iblk m c 1 t : FVec Ideal S512x512 .f32) (ix2 r k) = proj m c (ix2 (rowAt t r) (⟨1536 + k, by omega⟩ : Fin 4096))
  blk_point [iblk, V, idx t]

theorem blk_ct : bct (iblk m c 2 t) r = row (cts m c) (rowAt t r) := by
  funext k
  change (iblk m c 2 t : FVec Ideal S512x512 .bf16) (ix2 r k) = cts m c (ix2 (rowAt t r) k)
  blk_point [iblk, V, idx t]

theorem blk_d (k : Fin 512) : (iblk m c 3 t : FVec Ideal S1x512 .f32) (ix2 0 k) = dSkip m c (ix1 k) := by
  blk_point [iblk, V, idx t]

theorem blk_skip : bvec (iblk m c 3 t) = vec (dSkip m c) := funext fun k => blk_d m c t k

theorem blk_bias : bvec (iblk m c 4 t) = vec (bGlu m c) := by
  funext k
  change (iblk m c 4 t : FVec Ideal S1x512 .f32) (ix2 0 k) = bGlu m c (ix1 k)
  blk_point [iblk, V, idx t]

theorem blk_mat : bmat (iblk m c 5 t) = mat (wGlu m c) := by
  funext j k
  change (iblk m c 5 t : FVec Ideal S1x512x512 .bf16) (ix3 0 j k) = wGlu m c (ix2 j k)
  blk_point [iblk, V, idx t]

/-- Point `t`'s rows of the gelu and of the two gradients. -/
theorem blk_gelu (k : Fin 512) : gelu (brow (iblk m c 0 t) r) (brow (iblk m c 1 t) r) (bvec (iblk m c 3 t)) k = geluAt m c (rowAt t r) k := by
  rw [blk_yc, blk_u, blk_skip]
  rfl

theorem blk_dgate (k : Fin 512) : dgate (brow (iblk m c 0 t) r) (brow (iblk m c 1 t) r) (bvec (iblk m c 3 t)) (bmat (iblk m c 5 t)) (bvec (iblk m c 4 t))
    (bct (iblk m c 2 t) r) k = dgateAt m c (rowAt t r) k := by
  rw [blk_yc, blk_u, blk_skip, blk_mat, blk_bias, blk_ct]
  rfl

theorem blk_dskip (k : Fin 512) : dskip (brow (iblk m c 0 t) r) (brow (iblk m c 1 t) r) (bvec (iblk m c 3 t)) (bmat (iblk m c 5 t)) (bvec (iblk m c 4 t))
    (bct (iblk m c 2 t) r) k = dskipAt m c (rowAt t r) k := by
  rw [blk_yc, blk_u, blk_skip, blk_mat, blk_bias, blk_ct]
  rfl

end Blocks

/-! ## The arrays after the run -/

variable (c : Dev nD)

/-- A statement holds at every point once it holds at the first, at a point between and at the last. -/
theorem by_case (t : Fin cfg0.N) {p : Prop} (hA : t.val % 16 = 0 → ¬t.val % 16 = 15 → p) (hB : ¬t.val % 16 = 0 → ¬t.val % 16 = 15 → p)
    (hC : ¬t.val % 16 = 0 → t.val % 16 = 15 → p) : p := by
  by_cases h0 : t.val % 16 = 0
  · exact hA h0 (by omega)
  · by_cases h1 : t.val % 16 = 15
    · exact hC h0 h1
    · exact hB h0 h1

/-- The gradient by the scan's output after the run. -/
theorem final_out : (dats m 0 c).arrAt 6 cfg0.N = specOut m c := by
  refine (dats m 0 c).arrAt_eq_of_covers 6 _ (by decide +kernel) fun t hf y => ?_
  blk_simp
  rw [after0_6]
  idx_vars y
  have ht : t.val < 16 := lt_of_lt_of_eq t.isLt N_0
  have e : ((cfg0.win 6).blk t).view.emb (ix2 y0 y1) = ix2 (⟨t.val * 512 + y0, by omega⟩ : Fin 8192) (y1 : Fin 512) := by blk_ext [idx t]
  refine Eq.trans ?_ (congrArg (specOut m c) e).symm
  rw [ref_out]
  refine by_case t (fun h0 h1 => ?_) (fun h0 h1 => ?_) (fun h0 h1 => ?_)
  · rw [outsAt0_A m c t h0 h1]
    frame_out
    rw [pay_out, blk_dskip]
  · rw [outsAt0_B m c t h0 h1]
    frame_out
    rw [pay_out, blk_dskip]
  · rw [outsAt0_C m c t h0 h1]
    frame_out
    rw [pay_out, blk_dskip]

/-- The gradient by the scan's input after the run. -/
theorem final_in : (dats m 0 c).arrAt 7 cfg0.N = specIn m c := by
  refine (dats m 0 c).arrAt_eq_of_covers 7 _ (by decide +kernel) fun t hf y => ?_
  blk_simp
  rw [after0_7]
  idx_vars y
  have ht : t.val < 16 := lt_of_lt_of_eq t.isLt N_0
  have e : ((cfg0.win 7).blk t).view.emb (ix2 y0 y1) = ix2 (⟨t.val * 512 + y0, by omega⟩ : Fin 8192) (y1 : Fin 512) := by blk_ext [idx t]
  refine Eq.trans ?_ (congrArg (specIn m c) e).symm
  rw [ref_in]
  refine by_case t (fun h0 h1 => ?_) (fun h0 h1 => ?_) (fun h0 h1 => ?_)
  · rw [outsAt0_A m c t h0 h1]
    frame_out
    rw [pay_in, blk_dskip, blk_d]
  · rw [outsAt0_B m c t h0 h1]
    frame_out
    rw [pay_in, blk_dskip, blk_d]
  · rw [outsAt0_C m c t h0 h1]
    frame_out
    rw [pay_in, blk_dskip, blk_d]

/-- Point `p`'s part of the gradient by the skip. -/
theorem part_skip (p : Fin cfg0.N) (k : Fin 512) :
    (∑ r : Fin 512, dskip (brow (iblk m c 0 p) r) (brow (iblk m c 1 p) r) (bvec (iblk m c 3 p)) (bmat (iblk m c 5 p)) (bvec (iblk m c 4 p)) (bct (iblk m c 2 p) r) k * brow (iblk m c 1 p) r k)
      = ∑ r : Fin 512, dskipAt m c (rowAt p r) k * urow (proj m c) (rowAt p r) k :=
  Finset.sum_congr rfl fun r _ => by rw [blk_dskip, blk_u]

/-- The gradient by the skip after the run. -/
theorem final_skip : (dats m 0 c).arrAt 9 cfg0.N = specSkip m c := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) _
    (fun t h j => by rw [outsAt0_A m c t h (by omega)]; frame_out; rw [pay_skip_grad, pay_zero])
    (fun t h j => by
      by_cases h1 : t.val % 16 = 15
      · rw [outsAt0_C m c t h h1]; frame_out; rw [pay_skip_grad]
      · rw [outsAt0_B m c t h h1]; frame_out; rw [pay_skip_grad])
    (le_of_eq N_0) t0_15 rfl j, zero_add]
  idx_vars j
  rw [ref_skip_grad]
  refine Eq.trans (Fin.sum_fin_congr fun p => ?_) (Fin.sum_mul_add_congr (S := cfg0.N) (n := 512)
    (F := fun p r => dskipAt m c (rowAt p r) j1 * urow (proj m c) (rowAt p r) j1) (fun p r hl => rfl))
  exact part_skip m c p j1

/-- Point `p`'s part of the gradient by the gate's bias. -/
theorem part_bias (p : Fin cfg0.N) (k : Fin 512) :
    (∑ r : Fin 512, dgate (brow (iblk m c 0 p) r) (brow (iblk m c 1 p) r) (bvec (iblk m c 3 p)) (bmat (iblk m c 5 p)) (bvec (iblk m c 4 p)) (bct (iblk m c 2 p) r) k) = ∑ r : Fin 512, dgateAt m c (rowAt p r) k :=
  Finset.sum_congr rfl fun r _ => blk_dgate m c p r k

/-- The gradient by the gate's bias after the run. -/
theorem final_bias : (dats m 0 c).arrAt 10 cfg0.N = specBias m c := by
  refine (dats m 0 c).arrAt_eq_of_after_last 10 t0_15 (by decide +kernel) _ fun j => ?_
  blk_simp
  rw [after0_10, Pipeline.eq_sum_fin_of_reset_step_apply_last (fun n h => (outsAt0 m c n h).2.2.2.2.1) 16 (fun _ => 0) _
    (fun t h j => by rw [outsAt0_A m c t h (by omega)]; frame_out; rw [pay_bias, pay_zero'])
    (fun t h j => by
      by_cases h1 : t.val % 16 = 15
      · rw [outsAt0_C m c t h h1]; frame_out; rw [pay_bias]
      · rw [outsAt0_B m c t h h1]; frame_out; rw [pay_bias])
    (le_of_eq N_0) t0_15 rfl j, zero_add]
  idx_vars j
  rw [ref_bias]
  refine Eq.trans (Fin.sum_fin_congr fun p => ?_) (Fin.sum_mul_add_congr (S := cfg0.N) (n := 512)
    (F := fun p r => dgateAt m c (rowAt p r) j1) (fun p r hl => rfl))
  exact part_bias m c p j1

/-- Point `p`'s part of the gradient by the gate's matrix. -/
theorem part_mat (p : Fin cfg0.N) (j k : Fin 512) :
    (∑ r : Fin 512, gelu (brow (iblk m c 0 p) r) (brow (iblk m c 1 p) r) (bvec (iblk m c 3 p)) j * dgate (brow (iblk m c 0 p) r) (brow (iblk m c 1 p) r) (bvec (iblk m c 3 p)) (bmat (iblk m c 5 p)) (bvec (iblk m c 4 p)) (bct (iblk m c 2 p) r) k) = ∑ r : Fin 512, geluAt m c (rowAt p r) j * dgateAt m c (rowAt p r) k :=
  Finset.sum_congr rfl fun r _ => by rw [blk_gelu, blk_dgate]

/-- The last point writes out what it leaves in the scratch buffer. -/
theorem last_mat (j : S512x512.Idx) : (outsAt0 m c t0_15.val t0_15.isLt).2.2.1 j = (outsAt0 m c t0_15.val t0_15.isLt).2.2.2.2.2 j := by
  rw [outsAt0_C m c t0_15 (by decide) (by decide)]
  frame_out
  rw [pay_round]

/-- The gradient by the gate's matrix after the run. -/
theorem final_mat : (dats m 0 c).arrAt 8 cfg0.N = specMat m c := by
  refine (dats m 0 c).arrAt_eq_of_after_last 8 t0_15 (by decide +kernel) _ fun j => ?_
  blk_simp
  rw [after0_8, last_mat, Pipeline.eq_sum_fin_of_reset_step_apply_last (fun n h => (outsAt0 m c n h).2.2.2.2.2) 16 (fun _ => 0) _
    (fun t h j => by rw [outsAt0_A m c t h (by omega)]; frame_out; rw [pay_mat, pay_zero_mat])
    (fun t h j => by
      by_cases h1 : t.val % 16 = 15
      · rw [outsAt0_C m c t h h1]; frame_out; rw [pay_mat]; rw [Idealize.ShloMosaic.read_unread_whole]
      · rw [outsAt0_B m c t h h1]; frame_out; rw [pay_mat]; rw [Idealize.ShloMosaic.read_unread_whole])
    (le_of_eq N_0) t0_15 rfl j, zero_add]
  idx_vars j
  rw [ref_mat]
  refine Eq.trans (Fin.sum_fin_congr fun p => ?_) (Fin.sum_mul_add_congr (S := cfg0.N) (n := 512)
    (F := fun p r => geluAt m c (rowAt p r) j0 * dgateAt m c (rowAt p r) j1) (fun p r hl => rfl))
  exact part_mat m c p j0 j1

/-- The reference's run keeps its arguments and has no semaphores. -/
theorem reference_frame : quiescent_Reference8Ideal := fun m ρ _ =>
  (θ_run _ _ _).mono (fun r h => ⟨fun c => (h c).2.2.2.2.2, sem_eq_zero_of_no_sems rfl r.2⟩) (Reference8Ideal.Value.run (F := Ideal) m ρ)

/-- The gradient at the scan's head: the kernel's arrays are the reference's. -/
theorem gradient : algebraic_Kernel8Ideal_Reference8Ideal := by
  intro m g m' g' _ hag
  refine ⟨fun c => specOut m c, fun c => specIn m c, fun c => specMat m c, fun c => specSkip m c, fun c => specBias m c, ?_, ?_⟩
  · refine (θ_run _ _ _).mono (fun r h c => ?_) (Kernel8Ideal.Value.run_blocks m g)
    obtain rfl : c = 0 := Subsingleton.elim _ _
    obtain ⟨h0, h1, h2, h3, h4, rest⟩ := h 0
    exact ⟨h0.trans (final_out m 0), h1.trans (final_in m 0), h2.trans (final_mat m 0), h3.trans (final_skip m 0), h4.trans (final_bias m 0), rest⟩
  · refine (θ_run _ _ _).mono (fun r h c => ?_) (Reference8Ideal.Value.run (F := Ideal) m' g')
    obtain ⟨e0, e1, e2, e3, e4, e5⟩ := hag c
    obtain ⟨h0, h1, h2, h3, h4, rest⟩ := h c
    refine ⟨h0.trans ?_, h1.trans ?_, h2.trans ?_, h3.trans ?_, h4.trans ?_, rest⟩
    · rw [Reference8Ideal.Read.val_main_v74_eq, e0, e1, e2, e3, e4, e5]
    · rw [Reference8Ideal.Read.val_main_v75_eq, e0, e1, e2, e3, e4, e5]
    · rw [Reference8Ideal.Read.val_main_v76_eq, e0, e1, e2, e3, e4, e5]
    · rw [Reference8Ideal.Read.val_main_v77_eq, e0, e1, e2, e3, e4, e5]
    · rw [Reference8Ideal.Read.val_main_v78_eq, e0, e1, e2, e3, e4, e5]

end Cert.Head

end
-- ==== Proof.HeadForwardValue.lean ====
/-
  The scan's head, forward: each grid point makes its rows of the gelu, the gate and their product.
-/
module

public import proofs.«01_k».proof.Proof.Gen.Kernel10Ideal.Value
public import proofs.«01_k».proof.Proof.Gen.Reference10Ideal.Read
public import Idealize.ShloMosaic.Lib.Pipeline.ValueKit
public import proofs.«01_k».proof.Defs
public import Idealize.ShloMosaic.Lib.Claim

@[expose] public section

set_option maxRecDepth 16384

noncomputable section

namespace Cert.HeadForward

open Idealize.ShloMosaic Idealize.ShloMosaic.TcCoe Idealize.SL.Sem Kernel10Ideal Kernel10Ideal.Gen
open Reference10Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 3] ∧ win0_2.index t = ![0, 0] ∧ win0_3.index t = ![0, 0]
    ∧ win0_4.index t = ![0, 0, 0] ∧ win0_5.index t = ![t.val, 0] :=
  (by decide +kernel : ∀ t : Fin grid0.N, win0_0.index t = ![t.val, 0] ∧ win0_1.index t = ![t.val, 3] ∧ win0_2.index t = ![0, 0] ∧ win0_3.index t = ![0, 0]
    ∧ win0_4.index t = ![0, 0, 0] ∧ win0_5.index t = ![t.val, 0])

/-- The arrays the kernel was launched with. -/
abbrev ycs (c : Dev nD) : FVec Ideal S8192x512 .f32 := m ((c.tc : Thread nD τ).loc main_arg0)
abbrev proj (c : Dev nD) : FVec Ideal S8192x4096 .f32 := m ((c.tc : Thread nD τ).loc main_arg1)
abbrev dSkip (c : Dev nD) : FVec Ideal S512 .f32 := m ((c.tc : Thread nD τ).loc main_arg2)
abbrev wGlu (c : Dev nD) : FVec Ideal S512x512 .f32 := m ((c.tc : Thread nD τ).loc main_arg3)
abbrev bGlu (c : Dev nD) : FVec Ideal S512 .f32 := m ((c.tc : Thread nD τ).loc main_arg4)

section Model

variable (yc u d : Fin 512 → EReal) (w : Fin 512 → Fin 512 → EReal) (b : Fin 512 → EReal) (k : Fin 512)

/-- The skip sum, its gelu, and the gelu gated by its own product with the weight. -/
def skip : EReal := yc k + d k * u k
def gelu : EReal := skip yc u d k * (Ideal.ofBits .f32 0x3F000000#32 * (1 + Ideal.tanh (Ideal.ofBits .f32 0x3F4C422A#32
  * (skip yc u d k + Ideal.ofBits .f32 0x3D372713#32 * (skip yc u d k * (skip yc u d k * skip yc u d k))))))
def gated : EReal := gelu yc u d k * Ideal.logistic ((∑ j, gelu yc u d j * w j k) + b k)

end Model

/-- The arrays by position, and the blocks. -/
def row (x : FVec Ideal S8192x512 .f32) (r : Fin 8192) : Fin 512 → EReal := fun k => x (ix2 r k)
def urow (x : FVec Ideal S8192x4096 .f32) (r : Fin 8192) : Fin 512 → EReal := fun k => x (ix2 r (⟨1536 + k, by omega⟩ : Fin 4096))
def vec (x : FVec Ideal S512 .f32) : Fin 512 → EReal := fun k => x (ix1 k)
def mat (x : FVec Ideal S512x512 .f32) : Fin 512 → Fin 512 → EReal := fun j k => x (ix2 j k)
def brow (x : FVec Ideal S512x512 .f32) (r : Fin 512) : Fin 512 → EReal := fun k => x (ix2 r k)
def bvec (x : FVec Ideal S1x512 .f32) : Fin 512 → EReal := fun k => x (ix2 0 k)
def bmat (x : FVec Ideal S1x512x512 .bf16) : Fin 512 → Fin 512 → EReal := fun j k => x (ix3 0 j k)

/-- The reference's result at those arguments. -/
abbrev spec (c : Dev nD) : FVec Ideal S8192x512 .bf16 := val_main_v29 (F := Ideal) (ycs m c) (proj m c) (dSkip m c) (wGlu m c) (bGlu m c)

section Reference

variable (yc : FVec Ideal S8192x512 .f32) (pj : FVec Ideal S8192x4096 .f32) (d b : FVec Ideal S512 .f32) (w : FVec Ideal S512x512 .f32)
  (r : Fin 8192) (k : Fin 512)

theorem ref_skip : val_main_v4 (F := Ideal) yc pj d (ix2 r k) = skip (row yc r) (urow pj r) (vec d) k := by
  pointwise [val_main_v4, val_main_v3, val_main_v2, val_main_v1, val_main_v0]
  rfl

theorem ref_gelu : val_main_v17 (F := Ideal) yc pj d (ix2 r k) = gelu (row yc r) (urow pj r) (vec d) k := by
  pointwise [val_main_v17, val_main_v16, val_main_v15, val_main_v14, val_main_v13, val_main_v12, val_main_v11, val_main_v10, val_main_v9, val_main_v8, val_main_v7, val_main_v6, val_main_v5, val_main_cst, val_main_cst_0, val_main_cst_1, val_main_cst_2, ref_skip]
  rw [gelu, mul_comm (skip (row yc r) (urow pj r) (vec d) k * _) (skip (row yc r) (urow pj r) (vec d) k)]

theorem ref_out : val_main_v29 (F := Ideal) yc pj d w b (ix2 r k) = gated (row yc r) (urow pj r) (vec d) (mat w) (vec b) k := by
  pointwise [val_main_v29, val_main_v28, val_main_v27, val_main_v26, val_main_v25, val_main_v24, val_main_v23, val_main_v22, val_main_v21, val_main_v20, val_main_v19, val_main_v18, val_main_cst_3, val_main_cst_4, ref_gelu]
  rfl

end Reference

/-- The gated gelu in the kernel's body. -/
theorem pay_out (v0 v1 : FVec Ideal S512x512 .f32) (v2 v24 : FVec Ideal S1x512 .f32) (v21 : FVec Ideal S1x512x512 .bf16) (r : Fin 512) (k : Fin 512) :
    k0_pay1 (F := Ideal) v0 v1 v2 v21 v24 (ix2 r k) = gated (brow v0 r) (brow v1 r) (bvec v2) (bmat v21) (bvec v24) k := by
  pointwise [k0_pay1]
  rfl

/-- The array's row that point `t` holds at row `r` of its block. -/
abbrev rowAt (t : Fin cfg0.N) (r : Fin 512) : Fin 8192 := ⟨t.val * 512 + r, by have : t.val < 16 := lt_of_lt_of_eq t.isLt N_0; omega⟩

section Blocks

variable (c : Dev nD) (t : Fin cfg0.N) (r : Fin 512)

/-- Point `t`'s rows of the arrays. -/
theorem blk_yc : brow (iblk m c 0 t) r = row (ycs m c) (rowAt t r) := by
  funext k
  change (iblk m c 0 t : FVec Ideal S512x512 .f32) (ix2 r k) = ycs m c (ix2 (rowAt t r) k)
  blk_point [iblk, V, idx t]

theorem blk_u : brow (iblk m c 1 t) r = urow (proj m c) (rowAt t r) := by
  funext k
  change (iblk m c 1 t : FVec Ideal S512x512 .f32) (ix2 r k) = proj m c (ix2 (rowAt t r) (⟨1536 + k, by omega⟩ : Fin 4096))
  blk_point [iblk, V, idx t]

theorem blk_skip : bvec (iblk m c 2 t) = vec (dSkip m c) := by
  funext k
  change (iblk m c 2 t : FVec Ideal S1x512 .f32) (ix2 0 k) = dSkip m c (ix1 k)
  blk_point [iblk, V, idx t]

theorem blk_bias : bvec (iblk m c 3 t) = vec (bGlu m c) := by
  funext k
  change (iblk m c 3 t : FVec Ideal S1x512 .f32) (ix2 0 k) = bGlu m c (ix1 k)
  blk_point [iblk, V, idx t]

theorem blk_mat : bmat (iblk m c 4 t) = mat (wGlu m c) := by
  funext j k
  change (iblk m c 4 t : FVec Ideal S1x512x512 .bf16) (ix3 0 j k) = wGlu m c (ix2 j k)
  blk_point [iblk, V, idx t]

end Blocks

/-- The gated rows after the run. -/
theorem final (c : Dev nD) : (dats m 0 c).arrAt 5 cfg0.N = spec m c := by
  refine (dats m 0 c).arrAt_eq_of_covers 5 _ (by decide +kernel) fun t hf y => ?_
  blk_simp
  rw [after0_5]
  idx_vars y
  have ht : t.val < 16 := lt_of_lt_of_eq t.isLt N_0
  have e : ((cfg0.win 5).blk t).view.emb (ix2 y0 y1) = ix2 (⟨t.val * 512 + y0, by omega⟩ : Fin 8192) (y1 : Fin 512) := by blk_ext [idx t]
  refine Eq.trans ?_ (congrArg (spec m c) e).symm
  rw [spec, ref_out]
  frame_out
  rw [pay_out, blk_yc, blk_u, blk_skip, blk_bias, blk_mat]

/-- The reference's run keeps its arguments and has no semaphores. -/
theorem reference_frame : quiescent_Reference10Ideal := fun m ρ _ =>
  (θ_run _ _ _).mono (fun r h => ⟨fun c => (h c).2, sem_eq_zero_of_no_sems rfl r.2⟩) (Reference10Ideal.Value.run (F := Ideal) m ρ)

/-- The scan's head, forward: the kernel's array is the reference's. -/
theorem output : algebraic_Kernel10Ideal_Reference10Ideal := by
  intro m g m' g' _ hag
  refine ⟨fun c => spec m c, ?_, ?_⟩
  · refine (θ_run _ _ _).mono (fun r h c => ?_) (Kernel10Ideal.Value.run_blocks m g)
    obtain rfl : c = 0 := Subsingleton.elim _ _
    obtain ⟨h0, rest⟩ := h 0
    exact ⟨h0.trans (final m 0), rest⟩
  · refine (θ_run _ _ _).mono (fun r h c => ?_) (Reference10Ideal.Value.run (F := Ideal) m' g')
    obtain ⟨e0, e1, e2, e3, e4⟩ := hag c
    obtain ⟨h0, rest⟩ := h c
    refine ⟨h0.trans ?_, rest⟩
    · change _ = Reference10Ideal.Read.val_main_v29 (F := Ideal) (m (c.tc.loc Kernel10Ideal.main_arg0)) (m (c.tc.loc Kernel10Ideal.main_arg1)) (m (c.tc.loc Kernel10Ideal.main_arg2)) (m (c.tc.loc Kernel10Ideal.main_arg3)) (m (c.tc.loc Kernel10Ideal.main_arg4))
      rw [← e0, ← e1, ← e2, ← e3, ← e4]
      exact Reference10Ideal.Read.val_main_v29_eq ..

end Cert.HeadForward

end
-- ==== Proof.UpMergeValue.lean ====
/-
  The merge of the two branches, forward: each grid point makes its rows of the branches' products and merges them.
-/
module

public import proofs.«01_k».proof.Proof.Gen.Kernel11Ideal.Value
public import proofs.«01_k».proof.Proof.Gen.Reference11Ideal.Read
public import Idealize.ShloMosaic.Lib.Pipeline.ValueKit
public import proofs.«01_k».proof.Defs
public import Idealize.ShloMosaic.Lib.Claim

@[expose] public section

set_option maxRecDepth 16384

noncomputable section

namespace Cert.UpMerge

open Idealize.ShloMosaic Idealize.ShloMosaic.TcCoe Idealize.SL.Sem Kernel11Ideal Kernel11Ideal.Gen
open Reference11Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![t.val, 1] ∧ win0_3.index t = ![0, 0, 0]
    ∧ win0_4.index t = ![0, 0, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![t.val, 0] ∧ win0_2.index t = ![t.val, 1] ∧ win0_3.index t = ![0, 0, 0]
    ∧ win0_4.index t = ![0, 0, 0] ∧ win0_5.index t = ![t.val, 0] ∧ win0_6.index t = ![t.val, 0] ∧ win0_7.index t = ![t.val, 0])

/-- The arrays the kernel was launched with. -/
abbrev leftIn (c : Dev nD) : FVec Ideal S8192x512 .f32 := m ((c.tc : Thread nD τ).loc main_arg0)
abbrev rightIn (c : Dev nD) : FVec Ideal S8192x512 .f32 := m ((c.tc : Thread nD τ).loc main_arg1)
abbrev proj (c : Dev nD) : FVec Ideal S8192x4096 .f32 := m ((c.tc : Thread nD τ).loc main_arg2)
abbrev leftUp (c : Dev nD) : FVec Ideal S512x1024 .f32 := m ((c.tc : Thread nD τ).loc main_arg3)
abbrev rightUp (c : Dev nD) : FVec Ideal S512x1024 .f32 := m ((c.tc : Thread nD τ).loc main_arg4)

/-- A branch's product with its weight, and the two products under their gates. -/
def product (a : Fin 512 → EReal) (w : Fin 512 → Fin 1024 → EReal) (k : Fin 1024) : EReal := ∑ j, a j * w j k
def merged (g g' y y' : Fin 1024 → EReal) (k : Fin 1024) : EReal := Ideal.logistic (g k) * y k + Ideal.logistic (g' k) * y' k

/-- The arrays by position, and the blocks. -/
def row (x : FVec Ideal S8192x512 .f32) (r : Fin 8192) : Fin 512 → EReal := fun k => x (ix2 r k)
def mat (x : FVec Ideal S512x1024 .f32) : Fin 512 → Fin 1024 → EReal := fun j k => x (ix2 j k)
def leftGate (x : FVec Ideal S8192x4096 .f32) (r : Fin 8192) : Fin 1024 → EReal := fun k => x (ix2 r (⟨2048 + k, by omega⟩ : Fin 4096))
def rightGate (x : FVec Ideal S8192x4096 .f32) (r : Fin 8192) : Fin 1024 → EReal := fun k => x (ix2 r (⟨2048 + (1024 + k), by omega⟩ : Fin 4096))
def brow (x : FVec Ideal S512x512 .bf16) (r : Fin 512) : Fin 512 → EReal := fun k => x (ix2 r k)
def bmat (x : FVec Ideal S1x512x1024 .bf16) : Fin 512 → Fin 1024 → EReal := fun j k => x (ix3 0 j k)
def bleft (x : FVec Ideal S512x2048 .f32) (r : Fin 512) : Fin 1024 → EReal := fun k => x (ix2 r (⟨k, by omega⟩ : Fin 2048))
def bright (x : FVec Ideal S512x2048 .f32) (r : Fin 512) : Fin 1024 → EReal := fun k => x (ix2 r (⟨1024 + k, by omega⟩ : Fin 2048))

/-- The reference's results at those arguments. -/
abbrev specMerged (c : Dev nD) : FVec Ideal S8192x1024 .bf16 :=
  val_main_v20 (F := Ideal) (leftIn m c) (rightIn m c) (proj m c) (leftUp m c) (rightUp m c)
abbrev specLeft (c : Dev nD) : FVec Ideal S8192x1024 .bf16 := val_main_v21 (F := Ideal) (leftIn m c) (leftUp m c)
abbrev specRight (c : Dev nD) : FVec Ideal S8192x1024 .bf16 := val_main_v22 (F := Ideal) (rightIn m c) (rightUp m c)

section Reference

variable (a a' : FVec Ideal S8192x512 .f32) (pj : FVec Ideal S8192x4096 .f32) (w w' : FVec Ideal S512x1024 .f32) (r : Fin 8192) (k : Fin 1024)

theorem ref_left : val_main_v21 (F := Ideal) a w (ix2 r k) = product (row a r) (mat w) k := by
  pointwise [val_main_v21, val_main_v0]
  rfl

theorem ref_right : val_main_v22 (F := Ideal) a w (ix2 r k) = product (row a r) (mat w) k := by
  pointwise [val_main_v22, val_main_v1]
  rfl

theorem ref_merged : val_main_v20 (F := Ideal) a a' pj w w' (ix2 r k)
    = merged (leftGate pj r) (rightGate pj r) (product (row a r) (mat w)) (product (row a' r) (mat w')) k := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

end Reference

section Payloads

variable (v0 v5 : FVec Ideal S512x512 .bf16) (v2 v7 : FVec Ideal S1x512x1024 .bf16) (v10 : FVec Ideal S512x2048 .f32) (r : Fin 512) (k : Fin 1024)

theorem pay_left : k0_pay4 (F := Ideal) v0 v2 (ix2 r k) = product (brow v0 r) (bmat v2) k := by
  pointwise [k0_pay4, k0_pay1]
  rfl

theorem pay_right : k0_pay5 (F := Ideal) v5 v7 (ix2 r k) = product (brow v5 r) (bmat v7) k := by
  pointwise [k0_pay5, k0_pay2]
  rfl

theorem pay_merged : k0_pay3 (F := Ideal) v0 v2 v5 v7 v10 (ix2 r k)
    = merged (bleft v10 r) (bright v10 r) (product (brow v0 r) (bmat v2)) (product (brow v5 r) (bmat v7)) k := by
  pointwise [k0_pay3, k0_pay2, k0_pay1]
  rfl

end Payloads

/-- The array's row that point `t` holds at row `r` of its block. -/
abbrev rowAt (t : Fin cfg0.N) (r : Fin 512) : Fin 8192 := ⟨t.val * 512 + r, by have : t.val < 16 := lt_of_lt_of_eq t.isLt N_0; omega⟩

section Blocks

variable (c : Dev nD) (t : Fin cfg0.N) (r : Fin 512)

/-- Point `t`'s rows of the arrays. -/
theorem blk_left_in : brow (iblk m c 0 t) r = row (leftIn m c) (rowAt t r) := by
  funext k
  change (iblk m c 0 t : FVec Ideal S512x512 .bf16) (ix2 r k) = leftIn m c (ix2 (rowAt t r) k)
  blk_point [iblk, V, idx t]

theorem blk_right_in : brow (iblk m c 1 t) r = row (rightIn m c) (rowAt t r) := by
  funext k
  change (iblk m c 1 t : FVec Ideal S512x512 .bf16) (ix2 r k) = rightIn m c (ix2 (rowAt t r) k)
  blk_point [iblk, V, idx t]

theorem blk_left_up : bmat (iblk m c 3 t) = mat (leftUp m c) := by
  funext j k
  change (iblk m c 3 t : FVec Ideal S1x512x1024 .bf16) (ix3 0 j k) = leftUp m c (ix2 j k)
  blk_point [iblk, V, idx t]

theorem blk_right_up : bmat (iblk m c 4 t) = mat (rightUp m c) := by
  funext j k
  change (iblk m c 4 t : FVec Ideal S1x512x1024 .bf16) (ix3 0 j k) = rightUp m c (ix2 j k)
  blk_point [iblk, V, idx t]

theorem blk_left_gate : bleft (iblk m c 2 t) r = leftGate (proj m c) (rowAt t r) := by
  funext k
  change (iblk m c 2 t : FVec Ideal S512x2048 .f32) (ix2 r (⟨k, by omega⟩ : Fin 2048)) = proj m c (ix2 (rowAt t r) (⟨2048 + k, by omega⟩ : Fin 4096))
  blk_point [iblk, V, idx t]

theorem blk_right_gate : bright (iblk m c 2 t) r = rightGate (proj m c) (rowAt t r) := by
  funext k
  change (iblk m c 2 t : FVec Ideal S512x2048 .f32) (ix2 r (⟨1024 + k, by omega⟩ : Fin 2048)) = proj m c (ix2 (rowAt t r) (⟨2048 + (1024 + k), by omega⟩ : Fin 4096))
  blk_point [iblk, V, idx t]

end Blocks

/-- The merged rows after the run. -/
theorem final_merged (c : Dev nD) : (dats m 0 c).arrAt 5 cfg0.N = specMerged m c := by
  refine (dats m 0 c).arrAt_eq_of_covers 5 _ (by decide +kernel) fun t hf y => ?_
  blk_simp
  rw [after0_5]
  idx_vars y
  have ht : t.val < 16 := lt_of_lt_of_eq t.isLt N_0
  have e : ((cfg0.win 5).blk t).view.emb (ix2 y0 y1) = ix2 (⟨t.val * 512 + y0, by omega⟩ : Fin 8192) (y1 : Fin 1024) := by blk_ext [idx t]
  refine Eq.trans ?_ (congrArg (specMerged m c) e).symm
  rw [specMerged, ref_merged]
  frame_out
  rw [pay_merged, blk_left_in, blk_right_in, blk_left_up, blk_right_up, blk_left_gate, blk_right_gate]

/-- The rows of the two branches' products after the run. -/
theorem final_left (c : Dev nD) : (dats m 0 c).arrAt 6 cfg0.N = specLeft m c := by
  refine (dats m 0 c).arrAt_eq_of_covers 6 _ (by decide +kernel) fun t hf y => ?_
  blk_simp
  rw [after0_6]
  idx_vars y
  have ht : t.val < 16 := lt_of_lt_of_eq t.isLt N_0
  have e : ((cfg0.win 6).blk t).view.emb (ix2 y0 y1) = ix2 (⟨t.val * 512 + y0, by omega⟩ : Fin 8192) (y1 : Fin 1024) := by blk_ext [idx t]
  refine Eq.trans ?_ (congrArg (specLeft m c) e).symm
  rw [specLeft, ref_left]
  frame_out
  rw [pay_left, blk_left_in, blk_left_up]

/-- The second branch. -/
theorem final_right (c : Dev nD) : (dats m 0 c).arrAt 7 cfg0.N = specRight m c := by
  refine (dats m 0 c).arrAt_eq_of_covers 7 _ (by decide +kernel) fun t hf y => ?_
  blk_simp
  rw [after0_7]
  idx_vars y
  have ht : t.val < 16 := lt_of_lt_of_eq t.isLt N_0
  have e : ((cfg0.win 7).blk t).view.emb (ix2 y0 y1) = ix2 (⟨t.val * 512 + y0, by omega⟩ : Fin 8192) (y1 : Fin 1024) := by blk_ext [idx t]
  refine Eq.trans ?_ (congrArg (specRight m c) e).symm
  rw [specRight, ref_right]
  frame_out
  rw [pay_right, blk_right_in, blk_right_up]

/-- The reference's run keeps its arguments and has no semaphores. -/
theorem reference_frame : quiescent_Reference11Ideal := fun m ρ _ =>
  (θ_run _ _ _).mono (fun r h => ⟨fun c => (h c).2.2.2, sem_eq_zero_of_no_sems rfl r.2⟩) (Reference11Ideal.Value.run (F := Ideal) m ρ)

/-- The merge of the two branches, forward: the kernel's arrays are the reference's. -/
theorem output : algebraic_Kernel11Ideal_Reference11Ideal := by
  intro m g m' g' _ hag
  refine ⟨fun c => specMerged m c, fun c => specLeft m c, fun c => specRight m c, ?_, ?_⟩
  · refine (θ_run _ _ _).mono (fun r h c => ?_) (Kernel11Ideal.Value.run_blocks m g)
    obtain rfl : c = 0 := Subsingleton.elim _ _
    obtain ⟨h0, h1, h2, rest⟩ := h 0
    exact ⟨h0.trans (final_merged m 0), h1.trans (final_left m 0), h2.trans (final_right m 0), rest⟩
  · refine (θ_run _ _ _).mono (fun r h c => ?_) (Reference11Ideal.Value.run (F := Ideal) m' g')
    obtain ⟨e0, e1, e2, e3, e4⟩ := hag c
    obtain ⟨h0, h1, h2, rest⟩ := h c
    refine ⟨h0.trans ?_, h1.trans ?_, h2.trans ?_, rest⟩
    · change _ = Reference11Ideal.Read.val_main_v20 (F := Ideal) (m (c.tc.loc Kernel11Ideal.main_arg0)) (m (c.tc.loc Kernel11Ideal.main_arg1)) (m (c.tc.loc Kernel11Ideal.main_arg2)) (m (c.tc.loc Kernel11Ideal.main_arg3)) (m (c.tc.loc Kernel11Ideal.main_arg4))
      rw [← e0, ← e1, ← e2, ← e3, ← e4]
      exact Reference11Ideal.Read.val_main_v20_eq ..
    · change _ = Reference11Ideal.Read.val_main_v21 (F := Ideal) (m (c.tc.loc Kernel11Ideal.main_arg0)) (m (c.tc.loc Kernel11Ideal.main_arg3))
      rw [← e0, ← e3]
      exact Reference11Ideal.Read.val_main_v21_eq ..
    · change _ = Reference11Ideal.Read.val_main_v22 (F := Ideal) (m (c.tc.loc Kernel11Ideal.main_arg1)) (m (c.tc.loc Kernel11Ideal.main_arg4))
      rw [← e1, ← e4]
      exact Reference11Ideal.Read.val_main_v22_eq ..

end Cert.UpMerge

end
-- ==== Proof.GateForwardValue.lean ====
/-
  The gate, forward: each grid point makes a tile of the two halves of the product, and of the gated product.
-/
module

public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import proofs.«01_k».proof.Defs
public import Idealize.ShloMosaic.Lib.Claim

@[expose] public section

set_option maxRecDepth 16384

noncomputable section

namespace Cert.GateForward

open Idealize.ShloMosaic Idealize.ShloMosaic.TcCoe Idealize.SL.Sem Kernel12Ideal Kernel12Ideal.Gen
open Reference12Ideal.Read

variable (m : (ℓ : Loc nD τ sig) → Buf (Elt Ideal) ℓ)

/-- Which blocks point `t` reads and writes. -/
theorem idx : ∀ t : Fin cfg0.N, win0_0.index t = ![t.val / 4, 0] ∧ win0_1.index t = ![t.val % 4, 0, 0] ∧ win0_2.index t = ![t.val % 4 + 4, 0, 0] ∧ win0_3.index t = ![0, t.val % 4, t.val / 4, 0]
    ∧ win0_4.index t = ![t.val % 4, t.val / 4, 0] :=
  (by decide +kernel : ∀ t : Fin grid0.N, win0_0.index t = ![t.val / 4, 0] ∧ win0_1.index t = ![t.val % 4, 0, 0] ∧ win0_2.index t = ![t.val % 4 + 4, 0, 0] ∧ win0_3.index t = ![0, t.val % 4, t.val / 4, 0]
    ∧ win0_4.index t = ![t.val % 4, t.val / 4, 0])

/-- The arrays the kernel was launched with. -/
abbrev acts (c : Dev nD) : FVec Ideal S8192x1024 .f32 := m ((c.tc : Thread nD τ).loc main_arg0)
abbrev weights (c : Dev nD) : FVec Ideal S1024x5632 .f32 := m ((c.tc : Thread nD τ).loc main_arg1)

/-- The reference's results at those arguments. -/
abbrev specHalves (c : Dev nD) : FVec Ideal S2x4x8192x704 .bf16 := val_main_v7 (F := Ideal) (acts m c) (weights m c)
abbrev specGated (c : Dev nD) : FVec Ideal S4x8192x704 .bf16 := val_main_v10 (F := Ideal) (acts m c) (weights m c)

/-- One entry of the product of activations and weights, and the gate on two such entries. -/
def entry (x : FVec Ideal S8192x1024 .f32) (w : FVec Ideal S1024x5632 .f32) (r : Fin 8192) (q : Fin 5632) : EReal :=
  ∑ k : Fin 1024, x (ix2 r k) * w (ix2 k q)
def tile (v0 : FVec Ideal S512x1024 .bf16) (w : FVec Ideal S1x1024x704 .bf16) (r : Fin 512) (n : Fin 704) : EReal :=
  ∑ k : Fin 1024, v0 (ix2 r k) * w (ix3 0 k n)
def gated (g u : EReal) : EReal := g * Ideal.logistic g * u

section Reference

variable (x : FVec Ideal S8192x1024 .f32) (w : FVec Ideal S1024x5632 .f32) (h : Fin 2) (j : Fin 4) (r : Fin 8192) (n : Fin 704)

theorem ref_halves (q : Fin 5632) (hq : (q : ℕ) = h * 2816 + j * 704 + n) :
    val_main_v7 (F := Ideal) x w (ix4 h j r n) = entry x w r q := by
  pointwise [val_main_v7, val_main_v6, val_main_v5, val_main_v0]
  have e : ∀ p, (⟨(h : ℕ) * 2816 + j * 704 + n, p⟩ : Fin 5632) = q := fun _ => Fin.ext hq.symm
  simp only [e]
  rfl

theorem ref_gated (q p : Fin 5632) (hq : (q : ℕ) = j * 704 + n) (hp : (p : ℕ) = 2816 + (j * 704 + n)) :
    val_main_v10 (F := Ideal) x w (ix3 j r n) = gated (entry x w r q) (entry x w r p) := by
  pointwise [val_main_v10, val_main_v9, val_main_v8, val_main_v4, val_main_v3, val_main_v2, val_main_v1, val_main_v0, val_main_call0_v0, val_main_call0_v1, val_main_call0_v2, val_main_call0_v3, val_main_call0_v4, val_main_call0_v5, val_main_call0_cst, val_main_call0_cst_0]
  have e : ∀ s, (⟨(j : ℕ) * 704 + n, s⟩ : Fin 5632) = q := fun _ => Fin.ext hq.symm
  have e' : ∀ s, (⟨2816 + ((j : ℕ) * 704 + n), s⟩ : Fin 5632) = p := fun _ => Fin.ext hp.symm
  simp only [e, e']
  rfl

end Reference

section Payloads

variable (v0 : FVec Ideal S512x1024 .bf16) (v2 v9 : FVec Ideal S1x1024x704 .bf16) (v16 : FVec Ideal S2x1x512x704 .bf16) (a b : Fin 1) (r : Fin 512) (n : Fin 704)

theorem pay_gate : k0_pay2 (F := Ideal) v0 v2 (ix4 a b r n) = tile v0 v2 r n := by
  pointwise [k0_pay2, k0_pay1]
  rfl

theorem pay_up : k0_pay3 (F := Ideal) v0 v9 (ix4 a b r n) = tile v0 v9 r n := by
  pointwise [k0_pay3, k0_pay1]
  rfl

theorem pay_gated : k0_pay4 (F := Ideal) v16 (ix3 a r n) = gated (v16 (ix4 0 0 r n)) (v16 (ix4 1 0 r n)) := by
  pointwise [k0_pay4]
  rfl

end Payloads

section Blocks

variable (c : Dev nD) (t : Fin cfg0.N) (r : Fin 512) (n : Fin 704) (R : Fin 8192) (q : Fin 5632) (hR : (R : ℕ) = t.val / 4 * 512 + r)
include hR

/-- A tile of point `t` is an entry of the whole product. -/
theorem blk_gate (hq : (q : ℕ) = t.val % 4 * 704 + n) : tile (iblk m c 0 t) (iblk m c 1 t) r n = entry (acts m c) (weights m c) R q := by
  unfold tile entry
  refine Finset.sum_congr rfl fun k _ => ?_
  have ht : t.val < 64 := lt_of_lt_of_eq t.isLt N_0
  rw [show R = ⟨t.val / 4 * 512 + r, by omega⟩ from Fin.ext hR,
    show q = ⟨t.val % 4 * 704 + n, by omega⟩ from Fin.ext hq]
  blk_point [iblk, V, idx t]

theorem blk_up (hq : (q : ℕ) = 2816 + (t.val % 4 * 704 + n)) : tile (iblk m c 0 t) (iblk m c 2 t) r n = entry (acts m c) (weights m c) R q := by
  unfold tile entry
  refine Finset.sum_congr rfl fun k _ => ?_
  have ht : t.val < 64 := lt_of_lt_of_eq t.isLt N_0
  rw [show R = ⟨t.val / 4 * 512 + r, by omega⟩ from Fin.ext hR,
    show q = ⟨(t.val % 4 + 4) * 704 + n, by omega⟩ from Fin.ext (by change (q : ℕ) = (t.val % 4 + 4) * 704 + n; omega)]
  blk_point [iblk, V, idx t]

end Blocks

/-- The two halves after the run. -/
theorem final_halves (c : Dev nD) : (dats m 0 c).arrAt 3 cfg0.N = specHalves m c := by
  refine (dats m 0 c).arrAt_eq_of_covers 3 _ (by decide +kernel) fun t hf y => ?_
  blk_simp
  rw [after0_3]
  unfold outsAt0
  have ht : t.val < 64 := lt_of_lt_of_eq t.isLt N_0
  frame_out
  canon_tiles x h
  · idx_vars x
    have e : ((cfg0.win 3).blk t).view.emb y
        = ix4 (1 : Fin 2) (⟨t.val % 4, by omega⟩ : Fin 4) (⟨t.val / 4 * 512 + x2, by omega⟩ : Fin 8192) (x3 : Fin 704) := by
      blk_ext [idx t]
    refine Eq.trans ?_ (congrArg (specHalves m c) e).symm
    rw [specHalves, ref_halves _ _ _ _ _ _ ⟨2816 + (t.val % 4 * 704 + x3), by omega⟩ (by change 2816 + (t.val % 4 * 704 + (x3 : ℕ)) = 1 * 2816 + t.val % 4 * 704 + x3; omega), pay_up]
    exact blk_up m c t x2 x3 _ _ rfl rfl
  · idx_vars x
    have e : ((cfg0.win 3).blk t).view.emb y
        = ix4 (0 : Fin 2) (⟨t.val % 4, by omega⟩ : Fin 4) (⟨t.val / 4 * 512 + x2, by omega⟩ : Fin 8192) (x3 : Fin 704) := by
      blk_ext [idx t]
    refine Eq.trans ?_ (congrArg (specHalves m c) e).symm
    rw [specHalves, ref_halves _ _ _ _ _ _ ⟨t.val % 4 * 704 + x3, by omega⟩ (by change t.val % 4 * 704 + (x3 : ℕ) = 0 * 2816 + t.val % 4 * 704 + x3; omega), pay_gate]
    exact blk_gate m c t x2 x3 _ _ rfl rfl

/-- What a point leaves in the gated product's block: the gate on what it stored to the two halves. -/
theorem gated_point (c : Dev nD) (t : Fin cfg0.N) (x0 : FVec Ideal S512x1024 .bf16) (x1 x2 : FVec Ideal S1x1024x704 .bf16) (a : Fin 1) (r : Fin 512) (n : Fin 704) :
    out0_A_4 (F := Ideal) c (grid0.coords t) (ms0_0 t) (hs0_0 t) (ms0_1 t) (hs0_1 t) (ms0_2 t) (hs0_2 t) (ms0_3 t) (hs0_3 t) (ms0_4 t) (hs0_4 t) x0 x1 x2 (ix3 a r n)
      = gated (tile x0 x1 r n) (tile x0 x2 r n) := by
  frame_out
  rw [pay_gated, View.readCov_eq_canon']
  have key : ∀ y : S2x1x512x704.Idx, View.canon
      ([⟨Rect.unit ![1, 0, 0, 0] S1x1x512x704.size inb_S2x1x512x704_S1x1x512x704_1_0_0_0, k0_pay3 (F := Ideal) x0 x2⟩,
        ⟨Rect.unit ![0, 0, 0, 0] S1x1x512x704.size inb_S2x1x512x704_S1x1x512x704_0_0_0_0, k0_pay2 (F := Ideal) x0 x1⟩] : List (View.Piece (Elt Ideal) S2x1x512x704 .bf16)) y
      = if (y 0).val = 0 then tile x0 x1 (y 2) (y 3) else tile x0 x2 (y 2) (y 3) := by
    intro y
    canon_tiles x h
    · idx_vars x
      have e2 : (y 2 : Fin 512) = x2 := Fin.ext (by omega)
      have e3 : (y 3 : Fin 704) = x3 := Fin.ext (by omega)
      rw [if_neg (by omega), e2, e3, pay_up]
    · idx_vars x
      have e2 : (y 2 : Fin 512) = x2 := Fin.ext (by omega)
      have e3 : (y 3 : Fin 704) = x3 := Fin.ext (by omega)
      rw [if_pos (by omega), e2, e3, pay_gate]
  refine congrArg₂ gated ((key _).trans ?_) ((key _).trans ?_)
  · refine (if_pos ?_).trans ?_
    · rfl
    · exact congrArg₂ (tile x0 x1) (Fin.ext (by simp [LoadRect.idx])) (Fin.ext (by simp [LoadRect.idx]))
  · refine (if_neg ?_).trans ?_
    · exact Nat.one_ne_zero
    · exact congrArg₂ (tile x0 x2) (Fin.ext (by simp [LoadRect.idx])) (Fin.ext (by simp [LoadRect.idx]))

theorem gated_run (c : Dev nD) (t : Fin cfg0.N) : (outsAt0 m c t).2 =
    out0_A_4 (F := Ideal) c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) := by
  rw [outsAt0]

theorem gated_block (c : Dev nD) (t : Fin cfg0.N) (a : Fin 1) (r : Fin 512) (n : Fin 704) :
    (outsAt0 m c t).2 (ix3 a r n) = gated (tile (iblk m c 0 t) (iblk m c 1 t) r n) (tile (iblk m c 0 t) (iblk m c 2 t) r n) := by
  rw [gated_run]
  exact gated_point c t (iblk m c 0 t) (iblk m c 1 t) (iblk m c 2 t) a r n

/-- What a point leaves there is the reference's gated product at the block's place. -/
theorem gated_at (c : Dev nD) (t : Fin cfg0.N) (y : S1x512x704.Idx) :
    (outsAt0 m c t).2 y = specGated m c (((cfg0.win 4).blk t).view.emb y) := by
  idx_vars y
  have ht : t.val < 64 := lt_of_lt_of_eq t.isLt N_0
  have e : ((cfg0.win 4).blk t).view.emb (ix3 y0 y1 y2)
      = ix3 (⟨t.val % 4, by omega⟩ : Fin 4) (⟨t.val / 4 * 512 + y1, by omega⟩ : Fin 8192) (y2 : Fin 704) := by blk_ext [idx t]
  refine Eq.trans ?_ (congrArg (specGated m c) e).symm
  refine Eq.trans ?_ (ref_gated (acts m c) (weights m c) ⟨t.val % 4, by omega⟩ ⟨t.val / 4 * 512 + y1, by omega⟩ y2 ⟨t.val % 4 * 704 + y2, by omega⟩ ⟨2816 + (t.val % 4 * 704 + y2), by omega⟩ (by dsimp only) (by dsimp only)).symm
  exact (gated_block m c t y0 y1 y2).trans (congrArg₂ gated (blk_gate m c t y1 y2 _ _ rfl rfl) (blk_up m c t y1 y2 _ _ rfl rfl))

/-- The gated product after the run. -/
theorem final_gated (c : Dev nD) : (dats m 0 c).arrAt 4 cfg0.N = specGated m c := by
  refine (dats m 0 c).arrAt_eq_of_covers 4 _ (by decide +kernel) fun t hf y => ?_
  blk_simp
  rw [after0_4]
  exact gated_at m c t y

/-- The reference's run keeps its arguments and has no semaphores. -/
theorem reference_frame : quiescent_Reference12Ideal := fun m ρ _ =>
  (θ_run _ _ _).mono (fun r h => ⟨fun c => (h c).2.2, sem_eq_zero_of_no_sems rfl r.2⟩) (Reference12Ideal.Value.run (F := Ideal) m ρ)

/-- The gate, forward: the kernel's arrays are the reference's. -/
theorem output : algebraic_Kernel12Ideal_Reference12Ideal := by
  intro m g m' g' _ hag
  refine ⟨fun c => specHalves m c, fun c => specGated m c, ?_, ?_⟩
  · refine (θ_run _ _ _).mono (fun r h c => ?_) (Kernel12Ideal.Value.run_blocks m g)
    obtain rfl : c = 0 := Subsingleton.elim _ _
    obtain ⟨h0, h1, rest⟩ := h 0
    exact ⟨h0.trans (final_halves m 0), h1.trans (final_gated m 0), rest⟩
  · refine (θ_run _ _ _).mono (fun r h c => ?_) (Reference12Ideal.Value.run (F := Ideal) m' g')
    obtain ⟨e0, e1⟩ := hag c
    obtain ⟨h0, h1, rest⟩ := h c
    refine ⟨h0.trans ?_, h1.trans ?_, rest⟩
    · change _ = Reference12Ideal.Read.val_main_v7 (F := Ideal) (m (c.tc.loc Kernel12Ideal.main_arg0)) (m (c.tc.loc Kernel12Ideal.main_arg1))
      rw [← e0, ← e1]
      exact Reference12Ideal.Read.val_main_v7_eq ..
    · change _ = Reference12Ideal.Read.val_main_v10 (F := Ideal) (m (c.tc.loc Kernel12Ideal.main_arg0)) (m (c.tc.loc Kernel12Ideal.main_arg1))
      rw [← e0, ← e1]
      exact Reference12Ideal.Read.val_main_v10_eq ..

end Cert.GateForward

end
-- ==== Proof.NormForward.lean ====
/-
  What the forward calls make of a normalised row: a scale and a shift after it, and the modulation.
-/
module

public import proofs.«01_k».proof.Proof.NormModel

@[expose] public section

noncomputable section

namespace Cert.Norm

variable {n : ℕ}

/-- The normalised row times a scale, plus a shift. -/
def affine (a g b : Fin n → EReal) (k : Fin n) : EReal := normed a k * g k + b k

/-- The normalised row modulated: times one more than the scale, plus the shift. -/
def modulated (a sc sh : Fin n → EReal) (k : Fin n) : EReal := normed a k * (1 + sc k) + sh k

end Cert.Norm

end
-- ==== Proof.ModulationValue.lean ====
/-
  The first modulation, forward: each grid point normalises its rows and modulates them.
-/
module

public import proofs.«01_k».proof.Proof.Gen.Kernel13Ideal.Value
public import proofs.«01_k».proof.Proof.Gen.Reference13Ideal.Read
public import proofs.«01_k».proof.Proof.NormForward
public import proofs.«01_k».proof.Defs
public import Idealize.ShloMosaic.Lib.Claim

@[expose] public section

set_option maxRecDepth 16384

noncomputable section

namespace Cert.Modulation

open Idealize.ShloMosaic Idealize.ShloMosaic.TcCoe Idealize.SL.Sem Kernel13Ideal Kernel13Ideal.Gen
open Reference13Ideal.Read

variable (m : (ℓ : Loc nD τ sig) → Buf (Elt Ideal) ℓ)

/-- Which blocks point `t` reads and writes. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, win0_0.index t = ![t.val, 0] ∧ win0_1.index t = ![0, 0] ∧ win0_2.index t = ![0, 0] ∧ win0_3.index t = ![t.val, 0])

/-- The arrays the kernel was launched with. -/
abbrev xs (c : Dev nD) : FVec Ideal S8192x1024 .f32 := m ((c.tc : Thread nD τ).loc main_arg0)
abbrev scale (c : Dev nD) : FVec Ideal S1024 .f32 := m ((c.tc : Thread nD τ).loc main_arg1)
abbrev shift (c : Dev nD) : FVec Ideal S1024 .f32 := m ((c.tc : Thread nD τ).loc main_arg2)

/-- A vector, and a vector's block, by position. -/
def vec (v : FVec Ideal S1024 .f32) : Fin 1024 → EReal := fun k => v (ix1 k)
def bvec (v : FVec Ideal S1x1024 .f32) : Fin 1024 → EReal := fun k => v (ix2 0 k)

/-- A row of the activation, and of a block of it. -/
def row (x : FVec Ideal S8192x1024 .f32) (r : Fin 8192) : Fin 1024 → EReal := fun k => x (ix2 r k)
def brow (x : FVec Ideal S512x1024 .f32) (r : Fin 512) : Fin 1024 → EReal := fun k => x (ix2 r k)

/-- The reference's result at those arguments. -/
abbrev spec (c : Dev nD) : FVec Ideal S8192x1024 .bf16 := val_main_v26 (F := Ideal) (xs m c) (scale m c) (shift m c)

/-- The centred row and its reciprocal deviation in the reference. -/
theorem ref_centred (x : FVec Ideal S8192x1024 .f32) (r : Fin 8192) (k : Fin 1024) :
    val_main_v5 (F := Ideal) x (ix2 r k) = Norm.centred (row x r) k := by
  pointwise [val_main_v5, val_main_v4, val_main_v3, val_main_v2, val_main_v1, val_main_v0, val_main_cst, val_main_cst_0]
  rfl

theorem ref_inv (x : FVec Ideal S8192x1024 .f32) (r : Fin 8192) (u : Fin 1) : val_main_v15 (F := Ideal) x (ix2 r u) = Norm.inv (row x r) := by
  pointwise [val_main_v15, val_main_v14, val_main_v13, val_main_v10, val_main_v9, val_main_v8, val_main_v7, val_main_v6, val_main_cst_1, val_main_cst_2, val_main_cst_3, ref_centred]
  rfl

/-- The modulated row in the reference. -/
theorem ref_out (c : Dev nD) (r : Fin 8192) (k : Fin 1024) :
    spec m c (ix2 r k) = Norm.modulated (row (xs m c) r) (vec (scale m c)) (vec (shift m c)) k := by
  pointwise [spec, val_main_v26, val_main_v25, val_main_v24, val_main_v23, val_main_v22, val_main_v21, val_main_v20, val_main_v19, val_main_v18, val_main_v17, val_main_v16, val_main_v12, val_main_v11, val_main_v3, val_main_v2, val_main_v1, val_main_v0, val_main_cst, val_main_cst_0, val_main_cst_4, ref_inv]
  rfl

/-- The modulated row in the kernel's body. -/
theorem pay_out (v0 : FVec Ideal S512x1024 .f32) (v1 v3 : FVec Ideal S1x1024 .f32) (r : Fin 512) (k : Fin 1024) :
    k0_pay1 (F := Ideal) v0 v1 v3 (ix2 r k) = Norm.modulated (brow v0 r) (bvec v1) (bvec v3) k := by
  pointwise [k0_pay1]
  rfl

/-- The array's row that point `t` holds at row `r` of its block. -/
abbrev rowAt (t : Fin cfg0.N) (r : Fin 512) : Fin 8192 := ⟨t.val * 512 + r, by have : t.val < 16 := lt_of_lt_of_eq t.isLt N_0; omega⟩

/-- Point `t`'s rows of the arrays. -/
theorem blk_row (c : Dev nD) (t : Fin cfg0.N) (r : Fin 512) : brow (iblk m c 0 t) r = row (xs m c) (rowAt t r) := by
  funext k
  change (iblk m c 0 t : FVec Ideal S512x1024 .f32) (ix2 r k) = xs m c (ix2 (rowAt t r) k)
  blk_point [iblk, V, idx t]

theorem blk_scale (c : Dev nD) (t : Fin cfg0.N) : bvec (iblk m c 1 t) = vec (scale m c) := by
  funext k
  change (iblk m c 1 t : FVec Ideal S1x1024 .f32) (ix2 0 k) = scale m c (ix1 k)
  blk_point [iblk, V, idx t]

theorem blk_shift (c : Dev nD) (t : Fin cfg0.N) : bvec (iblk m c 2 t) = vec (shift m c) := by
  funext k
  change (iblk m c 2 t : FVec Ideal S1x1024 .f32) (ix2 0 k) = shift m c (ix1 k)
  blk_point [iblk, V, idx t]

/-- The modulated rows after the run. -/
theorem final (c : Dev nD) : (dats m 0 c).arrAt 3 cfg0.N = spec m c := by
  refine (dats m 0 c).arrAt_eq_of_covers 3 _ (by decide +kernel) fun t hf y => ?_
  blk_simp
  rw [after0_3]
  idx_vars y
  have ht : t.val < 16 := lt_of_lt_of_eq t.isLt N_0
  have e : ((cfg0.win 3).blk t).view.emb (ix2 y0 y1) = ix2 (⟨t.val * 512 + y0, by omega⟩ : Fin 8192) (y1 : Fin 1024) := by blk_ext [idx t]
  refine Eq.trans ?_ (congrArg (spec m c) e).symm
  rw [ref_out]
  frame_out
  rw [pay_out, blk_row, blk_scale, blk_shift]

/-- The reference's run keeps its arguments and has no semaphores. -/
theorem reference_frame : quiescent_Reference13Ideal := fun m ρ _ =>
  (θ_run _ _ _).mono (fun r h => ⟨fun c => (h c).2, sem_eq_zero_of_no_sems rfl r.2⟩) (Reference13Ideal.Value.run (F := Ideal) m ρ)

/-- The first modulated norm, forward: the kernel's array is the reference's. -/
theorem output : algebraic_Kernel13Ideal_Reference13Ideal := by
  intro m g m' g' _ hag
  refine ⟨fun c => spec m c, ?_, ?_⟩
  · refine (θ_run _ _ _).mono (fun r h c => ?_) (Kernel13Ideal.Value.run_blocks m g)
    obtain rfl : c = 0 := Subsingleton.elim _ _
    obtain ⟨h0, rest⟩ := h 0
    exact ⟨h0.trans (final m 0), rest⟩
  · refine (θ_run _ _ _).mono (fun r h c => ?_) (Reference13Ideal.Value.run (F := Ideal) m' g')
    obtain ⟨e0, e1, e2⟩ := hag c
    obtain ⟨h0, rest⟩ := h c
    refine ⟨h0.trans ?_, rest⟩
    · change _ = Reference13Ideal.Read.val_main_v26 (F := Ideal) (m (c.tc.loc Kernel13Ideal.main_arg0)) (m (c.tc.loc Kernel13Ideal.main_arg1)) (m (c.tc.loc Kernel13Ideal.main_arg2))
      rw [← e0, ← e1, ← e2]
      exact Reference13Ideal.Read.val_main_v26_eq ..

end Cert.Modulation

end
-- ==== Proof.ResidualValue.lean ====
/-
  A residual sum with its layer norm and the modulation after it, forward: each grid point makes its rows.
-/
module

public import proofs.«01_k».proof.Proof.Gen.Kernel14Ideal.Value
public import proofs.«01_k».proof.Proof.Gen.Reference14Ideal.Read
public import proofs.«01_k».proof.Proof.NormForward
public import proofs.«01_k».proof.Defs
public import Idealize.ShloMosaic.Lib.Claim

@[expose] public section

set_option maxRecDepth 16384

noncomputable section

namespace Cert.Residual

open Idealize.ShloMosaic Idealize.ShloMosaic.TcCoe Idealize.SL.Sem Kernel14Ideal Kernel14Ideal.Gen
open Reference14Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0] :=
  (by decide +kernel : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![t.val, 0]
    ∧ win0_8.index t = ![t.val, 0])

/-- The arrays the kernel was launched with. -/
abbrev xs (c : Dev nD) : FVec Ideal S8192x1024 .f32 := m ((c.tc : Thread nD τ).loc main_arg0)
abbrev ys (c : Dev nD) : FVec Ideal S8192x1024 .f32 := m ((c.tc : Thread nD τ).loc main_arg1)
abbrev gate (c : Dev nD) : FVec Ideal S1024 .f32 := m ((c.tc : Thread nD τ).loc main_arg2)
abbrev gain (c : Dev nD) : FVec Ideal S1024 .f32 := m ((c.tc : Thread nD τ).loc main_arg3)
abbrev bias (c : Dev nD) : FVec Ideal S1024 .f32 := m ((c.tc : Thread nD τ).loc main_arg4)
abbrev scale (c : Dev nD) : FVec Ideal S1024 .f32 := m ((c.tc : Thread nD τ).loc main_arg5)
abbrev shift (c : Dev nD) : FVec Ideal S1024 .f32 := m ((c.tc : Thread nD τ).loc main_arg6)

/-- A vector, and a vector's block, by position. -/
def vec (v : FVec Ideal S1024 .f32) : Fin 1024 → EReal := fun k => v (ix1 k)
def bvec (v : FVec Ideal S1x1024 .f32) : Fin 1024 → EReal := fun k => v (ix2 0 k)

/-- A row of the residual sum, and of a block of it. -/
def row (x y : FVec Ideal S8192x1024 .f32) (gate : FVec Ideal S1024 .f32) (r : Fin 8192) : Fin 1024 → EReal :=
  Norm.resid (fun k => x (ix2 r k)) (fun k => y (ix2 r k)) (vec gate)
def brow (x y : FVec Ideal S512x1024 .f32) (gate : FVec Ideal S1x1024 .f32) (r : Fin 512) : Fin 1024 → EReal :=
  Norm.resid (fun k => x (ix2 r k)) (fun k => y (ix2 r k)) (bvec gate)

/-- The reference's results at those arguments. -/
abbrev specStream (c : Dev nD) : FVec Ideal S8192x1024 .f32 := val_main_v31 (F := Ideal) (xs m c) (ys m c) (gate m c) (gain m c) (bias m c)
abbrev specNext (c : Dev nD) : FVec Ideal S8192x1024 .bf16 :=
  val_main_v58 (F := Ideal) (xs m c) (ys m c) (gate m c) (gain m c) (bias m c) (scale m c) (shift m c)

section Reference

variable (x y : FVec Ideal S8192x1024 .f32) (gate g b sc sh : FVec Ideal S1024 .f32) (r : Fin 8192) (k : Fin 1024) (u : Fin 1)

/-- The residual sum and the two layer norms in the reference. -/
theorem ref_resid : val_main_v7 (F := Ideal) x y gate (ix2 r k) = row x y gate r k := by
  pointwise [val_main_v7, val_main_v6, val_main_v5, val_main_v4, val_main_v3, val_main_v2, val_main_v1, val_main_v0, val_main_cst, val_main_cst_0]
  rfl

theorem ref_centred : val_main_v13 (F := Ideal) x y gate (ix2 r k) = Norm.centred (row x y gate r) k := by
  pointwise [val_main_v13, val_main_v12, val_main_v11, val_main_v10, val_main_v9, val_main_v8, val_main_cst_1, val_main_cst_2, ref_resid]
  rfl

theorem ref_inv : val_main_v23 (F := Ideal) x y gate (ix2 r u) = Norm.inv (row x y gate r) := by
  pointwise [val_main_v23, val_main_v22, val_main_v21, val_main_v18, val_main_v17, val_main_v16, val_main_v15, val_main_v14, val_main_cst_3, val_main_cst_4, val_main_cst_5, ref_centred]
  rfl

theorem ref_stream : val_main_v31 (F := Ideal) x y gate g b (ix2 r k) = Norm.affine (row x y gate r) (vec g) (vec b) k := by
  pointwise [val_main_v31, val_main_v30, val_main_v29, val_main_v28, val_main_v27, val_main_v26, val_main_v25, val_main_v24, val_main_v20, val_main_v19, val_main_v11, val_main_v10, val_main_v9, val_main_v8, val_main_cst_1, val_main_cst_2, ref_resid, ref_inv]
  rfl

theorem ref_centred' : val_main_v37 (F := Ideal) x y gate g b (ix2 r k) = Norm.centred (Norm.affine (row x y gate r) (vec g) (vec b)) k := by
  pointwise [val_main_v37, val_main_v36, val_main_v35, val_main_v34, val_main_v33, val_main_v32, val_main_cst_6, val_main_cst_7, ref_stream]
  rfl

theorem ref_inv' : val_main_v47 (F := Ideal) x y gate g b (ix2 r u) = Norm.inv (Norm.affine (row x y gate r) (vec g) (vec b)) := by
  pointwise [val_main_v47, val_main_v46, val_main_v45, val_main_v42, val_main_v41, val_main_v40, val_main_v39, val_main_v38, val_main_cst_8, val_main_cst_9, val_main_cst_10, ref_centred']
  rfl

theorem ref_next : val_main_v58 (F := Ideal) x y gate g b sc sh (ix2 r k)
    = Norm.modulated (Norm.affine (row x y gate r) (vec g) (vec b)) (vec sc) (vec sh) k := by
  pointwise [val_main_v58, val_main_v57, val_main_v56, val_main_v55, val_main_v54, val_main_v53, val_main_v52, val_main_v51, val_main_v50, val_main_v49, val_main_v48, val_main_v44, val_main_v43, val_main_v35, val_main_v34, val_main_v33, val_main_v32, val_main_cst_6, val_main_cst_7, val_main_cst_11, ref_stream, ref_inv']
  rfl

end Reference

section Payloads

variable (v0 v1 : FVec Ideal S512x1024 .f32) (v2 v4 v6 v8 v10 : FVec Ideal S1x1024 .f32) (r : Fin 512) (k : Fin 1024)

/-- The two layer norms in the kernel's body. -/
theorem pay_stream : k0_pay1 (F := Ideal) (k0_pay5 (F := Ideal) v0 v1 v2 v4) (k0_pay6 (F := Ideal) v6) (ix2 r k)
    = Norm.affine (brow v0 v1 v2 r) (bvec v4) (bvec v6) k := by
  pointwise [k0_pay1, k0_pay5, k0_pay6]
  rfl

theorem pay_next : k0_pay2 (F := Ideal) (k0_pay3 (F := Ideal) v8) (k0_pay4 (F := Ideal) v10) (k0_pay5 (F := Ideal) v0 v1 v2 v4) (k0_pay6 (F := Ideal) v6) (ix2 r k)
    = Norm.modulated (Norm.affine (brow v0 v1 v2 r) (bvec v4) (bvec v6)) (bvec v8) (bvec v10) k := by
  pointwise [k0_pay2, k0_pay3, k0_pay4, pay_stream]
  rfl

/-- The body's values, on whole blocks. -/
theorem pay7_eq : k0_pay7 (F := Ideal) v0 v1 v2 v4 v6 v8 v10 = k0_pay5 (F := Ideal) v0 v1 v2 v4 := by
  unfold k0_pay7
  frame_out

theorem pay8_eq : k0_pay8 (F := Ideal) v0 v1 v2 v4 v6 v8 v10 = k0_pay6 (F := Ideal) v6 := by
  unfold k0_pay8
  frame_out

end Payloads

/-- The array's row that point `t` holds at row `r` of its block. -/
abbrev rowAt (t : Fin cfg0.N) (r : Fin 512) : Fin 8192 := ⟨t.val * 512 + r, by have : t.val < 16 := lt_of_lt_of_eq t.isLt N_0; omega⟩

/-- Point `t`'s rows of the arrays. -/
theorem blk_gate (c : Dev nD) (t : Fin cfg0.N) : bvec (iblk m c 2 t) = vec (gate m c) := by
  funext k
  change (iblk m c 2 t : FVec Ideal S1x1024 .f32) (ix2 0 k) = gate m c (ix1 k)
  blk_point [iblk, V, idx t]

theorem blk_gain (c : Dev nD) (t : Fin cfg0.N) : bvec (iblk m c 3 t) = vec (gain m c) := by
  funext k
  change (iblk m c 3 t : FVec Ideal S1x1024 .f32) (ix2 0 k) = gain m c (ix1 k)
  blk_point [iblk, V, idx t]

theorem blk_bias (c : Dev nD) (t : Fin cfg0.N) : bvec (iblk m c 4 t) = vec (bias m c) := by
  funext k
  change (iblk m c 4 t : FVec Ideal S1x1024 .f32) (ix2 0 k) = bias m c (ix1 k)
  blk_point [iblk, V, idx t]

theorem blk_scale (c : Dev nD) (t : Fin cfg0.N) : bvec (iblk m c 5 t) = vec (scale m c) := by
  funext k
  change (iblk m c 5 t : FVec Ideal S1x1024 .f32) (ix2 0 k) = scale m c (ix1 k)
  blk_point [iblk, V, idx t]

theorem blk_shift (c : Dev nD) (t : Fin cfg0.N) : bvec (iblk m c 6 t) = vec (shift m c) := by
  funext k
  change (iblk m c 6 t : FVec Ideal S1x1024 .f32) (ix2 0 k) = shift m c (ix1 k)
  blk_point [iblk, V, idx t]

theorem blk_row (c : Dev nD) (t : Fin cfg0.N) (r : Fin 512) :
    brow (iblk m c 0 t) (iblk m c 1 t) (iblk m c 2 t) r = row (xs m c) (ys m c) (gate m c) (rowAt t r) := by
  have h0 : ∀ k, (iblk m c 0 t : FVec Ideal S512x1024 .f32) (ix2 r k) = xs m c (ix2 (rowAt t r) k) := fun k => by blk_point [iblk, V, idx t]
  have h1 : ∀ k, (iblk m c 1 t : FVec Ideal S512x1024 .f32) (ix2 r k) = ys m c (ix2 (rowAt t r) k) := fun k => by blk_point [iblk, V, idx t]
  rw [brow, blk_gate]
  simp only [h0, h1]
  rfl

/-- The rows of the residual stream after the run. -/
theorem final_stream (c : Dev nD) : (dats m 0 c).arrAt 7 cfg0.N = specStream m c := by
  refine (dats m 0 c).arrAt_eq_of_covers 7 _ (by decide +kernel) fun t hf y => ?_
  blk_simp
  rw [after0_7]
  idx_vars y
  have ht : t.val < 16 := lt_of_lt_of_eq t.isLt N_0
  have e : ((cfg0.win 7).blk t).view.emb (ix2 y0 y1) = ix2 (⟨t.val * 512 + y0, by omega⟩ : Fin 8192) (y1 : Fin 1024) := by blk_ext [idx t]
  refine Eq.trans ?_ (congrArg (specStream m c) e).symm
  rw [specStream, ref_stream]
  frame_out
  rw [pay7_eq, pay8_eq, pay_stream, blk_row, blk_gain, blk_bias]

/-- The modulated rows after the run. -/
theorem final_next (c : Dev nD) : (dats m 0 c).arrAt 8 cfg0.N = specNext m c := by
  refine (dats m 0 c).arrAt_eq_of_covers 8 _ (by decide +kernel) fun t hf y => ?_
  blk_simp
  rw [after0_8]
  idx_vars y
  have ht : t.val < 16 := lt_of_lt_of_eq t.isLt N_0
  have e : ((cfg0.win 8).blk t).view.emb (ix2 y0 y1) = ix2 (⟨t.val * 512 + y0, by omega⟩ : Fin 8192) (y1 : Fin 1024) := by blk_ext [idx t]
  refine Eq.trans ?_ (congrArg (specNext m c) e).symm
  rw [specNext, ref_next]
  frame_out
  rw [pay7_eq, pay8_eq, pay_next, blk_row, blk_gain, blk_bias, blk_scale, blk_shift]

/-- The reference's run keeps its arguments and has no semaphores. -/
theorem reference_frame : quiescent_Reference14Ideal := fun m ρ _ =>
  (θ_run _ _ _).mono (fun r h => ⟨fun c => (h c).2.2, sem_eq_zero_of_no_sems rfl r.2⟩) (Reference14Ideal.Value.run (F := Ideal) m ρ)

/-- The residual stream after a sublayer, and the norm the next one reads: the kernel's arrays are the reference's. -/
theorem output : algebraic_Kernel14Ideal_Reference14Ideal := by
  intro m g m' g' _ hag
  refine ⟨fun c => specStream m c, fun c => specNext m c, ?_, ?_⟩
  · refine (θ_run _ _ _).mono (fun r h c => ?_) (Kernel14Ideal.Value.run_blocks m g)
    obtain rfl : c = 0 := Subsingleton.elim _ _
    obtain ⟨h0, h1, rest⟩ := h 0
    exact ⟨h0.trans (final_stream m 0), h1.trans (final_next m 0), rest⟩
  · refine (θ_run _ _ _).mono (fun r h c => ?_) (Reference14Ideal.Value.run (F := Ideal) m' g')
    obtain ⟨e0, e1, e2, e3, e4, e5, e6⟩ := hag c
    obtain ⟨h0, h1, rest⟩ := h c
    refine ⟨h0.trans ?_, h1.trans ?_, rest⟩
    · change _ = Reference14Ideal.Read.val_main_v31 (F := Ideal) (m (c.tc.loc Kernel14Ideal.main_arg0)) (m (c.tc.loc Kernel14Ideal.main_arg1)) (m (c.tc.loc Kernel14Ideal.main_arg2)) (m (c.tc.loc Kernel14Ideal.main_arg3)) (m (c.tc.loc Kernel14Ideal.main_arg4))
      rw [← e0, ← e1, ← e2, ← e3, ← e4]
      exact Reference14Ideal.Read.val_main_v31_eq ..
    · change _ = Reference14Ideal.Read.val_main_v58 (F := Ideal) (m (c.tc.loc Kernel14Ideal.main_arg0)) (m (c.tc.loc Kernel14Ideal.main_arg1)) (m (c.tc.loc Kernel14Ideal.main_arg2)) (m (c.tc.loc Kernel14Ideal.main_arg3)) (m (c.tc.loc Kernel14Ideal.main_arg4)) (m (c.tc.loc Kernel14Ideal.main_arg5)) (m (c.tc.loc Kernel14Ideal.main_arg6))
      rw [← e0, ← e1, ← e2, ← e3, ← e4, ← e5, ← e6]
      exact Reference14Ideal.Read.val_main_v58_eq ..

end Cert.Residual

end
-- ==== Proof.ConditionValue.lean ====
/-
  The gate on the condition: the one grid point applies it to the padded rows.
-/
module

public import proofs.«01_k».proof.Proof.Gen.Kernel15Ideal.Value
public import proofs.«01_k».proof.Proof.Gen.Reference15Ideal.Read
public import Idealize.ShloMosaic.Lib.Pipeline.ValueKit
public import proofs.«01_k».proof.Defs
public import Idealize.ShloMosaic.Lib.Claim

@[expose] public section

set_option maxRecDepth 16384

noncomputable section

namespace Cert.Condition

open Idealize.ShloMosaic Idealize.ShloMosaic.TcCoe Idealize.SL.Sem Kernel15Ideal Kernel15Ideal.Gen
open Reference15Ideal.Read

variable (m : (ℓ : Loc nD τ sig) → Buf (Elt Ideal) ℓ)

/-- Which blocks point `t` reads and writes. -/
theorem idx : ∀ t : Fin cfg0.N, win0_0.index t = ![0, 0] ∧ win0_1.index t = ![0, 0] :=
  (by decide +kernel : ∀ t : Fin grid0.N, win0_0.index t = ![0, 0] ∧ win0_1.index t = ![0, 0])

/-- The array the kernel was launched with, and the reference's result at it. -/
abbrev cond (c : Dev nD) : FVec Ideal S8x1024 .f32 := m ((c.tc : Thread nD τ).loc main_arg0)
abbrev spec (c : Dev nD) : FVec Ideal S16x1024 .f32 := val_main_v1 (F := Ideal) (cond m c)

/-- The gate of a number, zero at zero. -/
def silu (x : EReal) : EReal := x * Ideal.logistic x

theorem silu_zero : silu 0 = 0 := zero_mul _

theorem zero_word : (FloatOps.sitofp .f32 0#32 : Ideal .f32) = 0 := by
  change (((0#32 : BitVec 32).toInt : ℝ) : EReal) = 0
  simp

/-- The condition's rows, zero below them. -/
def padded (x : FVec Ideal S8x1024 .f32) (r : Fin 16) (k : Fin 1024) : EReal := if h : r.val < 8 then x (ix2 (⟨r, h⟩ : Fin 8) k) else 0

theorem ref_out (c : Dev nD) (r : Fin 16) (k : Fin 1024) : spec m c (ix2 r k) = silu (padded (cond m c) r k) := by
  by_cases h : r.val < 8
  · rw [padded, dif_pos h]
    pointwise [spec, val_main_call0_v0, val_main_call0_v1, val_main_call0_cst, val_main_call0_v2, val_main_call0_v3, val_main_call0_cst_0, val_main_call0_v4, val_main_call0_v5, val_main_v0, val_main_c, val_main_call1_v0, val_main_v1]
    rw [dif_pos h]
    rfl
  · rw [padded, dif_neg h, silu_zero]
    pointwise [spec, val_main_call0_v0, val_main_call0_v1, val_main_call0_cst, val_main_call0_v2, val_main_call0_v3, val_main_call0_cst_0, val_main_call0_v4, val_main_call0_v5, val_main_v0, val_main_c, val_main_call1_v0, val_main_v1]
    rw [dif_neg h]
    exact zero_word

theorem pay_out (v : FVec Ideal S16x1024 .f32) (r : Fin 16) (k : Fin 1024) : k0_pay1 (F := Ideal) v (ix2 r k) = silu (v (ix2 r k)) := by
  pointwise [k0_pay1]
  rfl

/-- The padded array the kernel's host lines make. -/
theorem host_pad (c : Dev nD) : (V m c main_v0 : FVec Ideal S16x1024 .f32)
    = pad S16x1024 ![0, 0] ![8, 0] ![0, 0] (cond m c) (sitofp .f32 (constantI S_ 32 0#32)) pads_S8x1024_S16x1024_080_000 h_S_ := by
  dsimp only [V, List.flatten_cons, List.flatten_nil, List.append_nil, List.cons_append, List.nil_append, StableHlo.after, List.foldl]
  rfl

theorem blk_cond (c : Dev nD) (t : Fin cfg0.N) (r : Fin 16) (k : Fin 1024) :
    (iblk m c 0 t : FVec Ideal S16x1024 .f32) (ix2 r k) = padded (cond m c) r k := by
  have e : (win0_0.blk t).view.emb (ix2 r k) = ix2 (r : Fin 16) (k : Fin 1024) := by blk_ext [idx t]
  refine (congrArg (V m c main_v0 : FVec Ideal S16x1024 .f32) e).trans ?_
  rw [host_pad]
  by_cases h : r.val < 8
  · rw [padded, dif_pos h]
    pointwise
    rw [dif_pos h]
  · rw [padded, dif_neg h]
    pointwise
    rw [dif_neg h]
    exact zero_word

/-- The gated rows after the run. -/
theorem final (c : Dev nD) : (dats m 0 c).arrAt 1 cfg0.N = spec m c := by
  refine (dats m 0 c).arrAt_eq_of_covers 1 _ (by decide +kernel) fun t hf y => ?_
  blk_simp
  rw [after0_1]
  idx_vars y
  have e : ((cfg0.win 1).blk t).view.emb (ix2 y0 y1) = ix2 (y0 : Fin 16) (y1 : Fin 1024) := by blk_ext [idx t]
  refine Eq.trans ?_ (congrArg (spec m c) e).symm
  rw [ref_out]
  frame_out
  rw [pay_out, blk_cond]

/-- The reference's run keeps its arguments and has no semaphores. -/
theorem reference_frame : quiescent_Reference15Ideal := fun m ρ _ =>
  (θ_run _ _ _).mono (fun r h => ⟨fun c => (h c).2, sem_eq_zero_of_no_sems rfl r.2⟩) (Reference15Ideal.Value.run (F := Ideal) m ρ)

/-- The condition's activation: the kernel's array is the reference's. -/
theorem output : algebraic_Kernel15Ideal_Reference15Ideal := by
  intro m g m' g' _ hag
  refine ⟨fun c => spec m c, ?_, ?_⟩
  · refine (θ_run _ _ _).mono (fun r h c => ?_) (Kernel15Ideal.Value.run_blocks m g)
    obtain rfl : c = 0 := Subsingleton.elim _ _
    obtain ⟨h0, rest⟩ := h 0
    exact ⟨h0.trans (final m 0), rest⟩
  · refine (θ_run _ _ _).mono (fun r h c => ?_) (Reference15Ideal.Value.run (F := Ideal) m' g')
    have e0 := hag c
    obtain ⟨h0, rest⟩ := h c
    exact ⟨h0.trans ((val_main_v1_eq ..).trans (congrArg (val_main_v1 (F := Ideal)) e0)), rest⟩

end Cert.Condition

end
-- ==== Proof.AdamValue.lean ====
/-
  The optimiser's step of one weight: each grid point adds the devices' gradients of its rows and makes the step.
-/
module

public import proofs.«01_k».proof.Proof.Gen.Kernel16Ideal.Value
public import proofs.«01_k».proof.Proof.Gen.Reference16Ideal.Read
public import Idealize.ShloMosaic.Lib.Pipeline.ValueKit
public import proofs.«01_k».proof.Defs
public import Idealize.ShloMosaic.Lib.Claim

@[expose] public section

set_option maxRecDepth 16384

noncomputable section

namespace Cert.Adam

open Idealize.ShloMosaic Idealize.ShloMosaic.TcCoe Idealize.SL.Sem Kernel16Ideal Kernel16Ideal.Gen
open Reference16Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![t.val, 0] ∧ win0_3.index t = ![0, t.val, 0]
    ∧ win0_4.index t = ![1, t.val, 0] ∧ win0_5.index t = ![2, t.val, 0] ∧ win0_6.index t = ![3, t.val, 0] ∧ win0_7.index t = ![4, t.val, 0]
    ∧ win0_8.index t = ![5, t.val, 0] ∧ win0_9.index t = ![6, t.val, 0] ∧ win0_10.index t = ![7, t.val, 0] ∧ win0_11.index t = ![t.val, 0]
    ∧ win0_12.index t = ![t.val, 0] ∧ win0_13.index t = ![t.val, 0] ∧ win0_14.index t = ![t.val, 0] :=
  (by decide +kernel : ∀ t : Fin grid0.N, win0_0.index t = ![t.val, 0] ∧ win0_1.index t = ![t.val, 0] ∧ win0_2.index t = ![t.val, 0] ∧ win0_3.index t = ![0, t.val, 0]
    ∧ win0_4.index t = ![1, t.val, 0] ∧ win0_5.index t = ![2, t.val, 0] ∧ win0_6.index t = ![3, t.val, 0] ∧ win0_7.index t = ![4, t.val, 0]
    ∧ win0_8.index t = ![5, t.val, 0] ∧ win0_9.index t = ![6, t.val, 0] ∧ win0_10.index t = ![7, t.val, 0] ∧ win0_11.index t = ![t.val, 0]
    ∧ win0_12.index t = ![t.val, 0] ∧ win0_13.index t = ![t.val, 0] ∧ win0_14.index t = ![t.val, 0])

/-- The arrays the kernel was launched with. -/
abbrev weights (c : Dev nD) : FVec Ideal S2x1024x512 .f32 := m ((c.tc : Thread nD τ).loc main_arg0)
abbrev firsts (c : Dev nD) : FVec Ideal S2x1024x512 .f32 := m ((c.tc : Thread nD τ).loc main_arg1)
abbrev seconds (c : Dev nD) : FVec Ideal S2x1024x512 .f32 := m ((c.tc : Thread nD τ).loc main_arg2)
abbrev parts (c : Dev nD) : FVec Ideal S8x2x1024x512 .bf16 := m ((c.tc : Thread nD τ).loc main_arg3)

/-- The layer and the row of it that a row of the flattened weights is. -/
abbrev at3 (r : Fin 2048) (k : Fin 512) : S2x1024x512.Idx :=
  ix3 (⟨r.val / 1024, by omega⟩ : Fin 2) (⟨r.val % 1024, Nat.mod_lt _ (by decide)⟩ : Fin 1024) k
abbrev at4 (d : Fin 8) (r : Fin 2048) (k : Fin 512) : S8x2x1024x512.Idx :=
  ix4 d (⟨r.val / 1024, by omega⟩ : Fin 2) (⟨r.val % 1024, Nat.mod_lt _ (by decide)⟩ : Fin 1024) k

/-- The two moments after a step, from the moment before and the gradient. -/
def first (m g : EReal) : EReal := Ideal.ofBits .f32 0x3F666666#32 * m + Ideal.ofBits .f32 0x3DCCCCCD#32 * g
def second (v g : EReal) : EReal := Ideal.ofBits .f32 0x3F7FBE77#32 * v + Ideal.ofBits .f32 0x3A83126F#32 * (g * g)

/-- The step of a weight. -/
def step (w m v g : EReal) : EReal :=
  Ideal.ofBits .f32 0xBA83126F#32
    * (Ideal.div (Ideal.div (first m g) (Ideal.ofBits .f32 0x3F26BD02#32))
          (Ideal.sqrt (Ideal.div (second v g) (Ideal.ofBits .f32 0x3C231ACC#32)) + Ideal.ofBits .f32 0x322BCC77#32)
      + Ideal.ofBits .f32 0x3C23D70A#32 * w)

/-- The gradient: the sum of the devices' parts. -/
def total (p : FVec Ideal S8x2x1024x512 .bf16) (r : Fin 2048) (k : Fin 512) : EReal := ∑ d : Fin 8, p (at4 d r k)

/-- The reference's results at those arguments. -/
abbrev specGrad (c : Dev nD) : FVec Ideal S2048x512 .f32 := val_main_v26 (F := Ideal) (parts m c)
abbrev specStep (c : Dev nD) : FVec Ideal S2048x512 .f32 :=
  val_main_v27 (F := Ideal) (weights m c) (firsts m c) (seconds m c) (parts m c)
abbrev specFirst (c : Dev nD) : FVec Ideal S2048x512 .f32 := val_main_v28 (F := Ideal) (firsts m c) (parts m c)
abbrev specSecond (c : Dev nD) : FVec Ideal S2048x512 .f32 := val_main_v29 (F := Ideal) (seconds m c) (parts m c)

section Reference

variable (w m1 v : FVec Ideal S2x1024x512 .f32) (p : FVec Ideal S8x2x1024x512 .bf16) (r : Fin 2048) (k : Fin 512)

/-- The summed gradient, the moments and the step in the reference. -/
theorem ref_total : val_main_v1 (F := Ideal) p (at3 r k) = total p r k := by
  pointwise [val_main_v1, val_main_v0, val_main_cst]
  rfl

theorem ref_first : val_main_v6 (F := Ideal) m1 p (at3 r k) = first (m1 (at3 r k)) (total p r k) := by
  pointwise [val_main_v6, val_main_v5, val_main_v4, val_main_v3, val_main_v2, val_main_cst_0, val_main_cst_1, ref_total]
  rfl

theorem ref_second : val_main_v12 (F := Ideal) v p (at3 r k) = second (v (at3 r k)) (total p r k) := by
  pointwise [val_main_v12, val_main_v11, val_main_v10, val_main_v9, val_main_v8, val_main_v7, val_main_cst_2, val_main_cst_3, ref_total]
  rfl

theorem ref_step : val_main_v25 (F := Ideal) w m1 v p (at3 r k) = step (w (at3 r k)) (m1 (at3 r k)) (v (at3 r k)) (total p r k) := by
  pointwise [val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8, ref_first, ref_second]
  rfl

end Reference

variable (c : Dev nD)

theorem out_grad (r : Fin 2048) (k : Fin 512) : specGrad m c (ix2 r k) = total (parts m c) r k := by
  pointwise [specGrad, val_main_v26]
  exact ref_total _ r k

theorem out_step (r : Fin 2048) (k : Fin 512) : specStep m c (ix2 r k)
    = step (weights m c (at3 r k)) (firsts m c (at3 r k)) (seconds m c (at3 r k)) (total (parts m c) r k) := by
  pointwise [specStep, val_main_v27]
  exact ref_step _ _ _ _ r k

theorem out_first (r : Fin 2048) (k : Fin 512) : specFirst m c (ix2 r k) = first (firsts m c (at3 r k)) (total (parts m c) r k) := by
  pointwise [specFirst, val_main_v28]
  exact ref_first _ _ r k

theorem out_second (r : Fin 2048) (k : Fin 512) : specSecond m c (ix2 r k) = second (seconds m c (at3 r k)) (total (parts m c) r k) := by
  pointwise [specSecond, val_main_v29]
  exact ref_second _ _ r k

section Body

variable (b0 b1 b2 b3 b4 b5 b6 b7 : FVec Ideal S1x512x512 .bf16) (w m1 v : FVec Ideal S512x512 .f32) (r k : Fin 512)

/-- The eight blocks' elements at a place, added in the devices' order. -/
def added : EReal :=
  b0 (ix3 0 r k) + b1 (ix3 0 r k) + b2 (ix3 0 r k) + b3 (ix3 0 r k) + b4 (ix3 0 r k) + b5 (ix3 0 r k) + b6 (ix3 0 r k) + b7 (ix3 0 r k)

/-- What the body makes of each block it reads, named once. -/
theorem word_first : k0_pay16 (F := Ideal) w m1 v b0 b1 b2 b3 b4 b5 b6 b7 = k0_pay6 (F := Ideal) m1 := by
  unfold k0_pay16
  rw [View.ld_unit_lit _ _ (by decide)]

theorem word_second : k0_pay17 (F := Ideal) w m1 v b0 b1 b2 b3 b4 b5 b6 b7 = k0_pay7 (F := Ideal) v := by
  unfold k0_pay17
  rw [View.ld_unit_lit _ _ (by decide)]

theorem word_part0 : k0_pay18 (F := Ideal) w m1 v b0 b1 b2 b3 b4 b5 b6 b7 = k0_pay8 (F := Ideal) b0 := by
  unfold k0_pay18
  rw [View.ld_unit_lit _ _ (by decide)]

theorem word_part1 : k0_pay19 (F := Ideal) w m1 v b0 b1 b2 b3 b4 b5 b6 b7 = k0_pay9 (F := Ideal) b1 := by
  unfold k0_pay19
  rw [View.ld_unit_lit _ _ (by decide)]

theorem word_part2 : k0_pay20 (F := Ideal) w m1 v b0 b1 b2 b3 b4 b5 b6 b7 = k0_pay10 (F := Ideal) b2 := by
  unfold k0_pay20
  rw [View.ld_unit_lit _ _ (by decide)]

theorem word_part3 : k0_pay21 (F := Ideal) w m1 v b0 b1 b2 b3 b4 b5 b6 b7 = k0_pay11 (F := Ideal) b3 := by
  unfold k0_pay21
  rw [View.ld_unit_lit _ _ (by decide)]

theorem word_part4 : k0_pay22 (F := Ideal) w m1 v b0 b1 b2 b3 b4 b5 b6 b7 = k0_pay12 (F := Ideal) b4 := by
  unfold k0_pay22
  rw [View.ld_unit_lit _ _ (by decide)]

theorem word_part5 : k0_pay23 (F := Ideal) w m1 v b0 b1 b2 b3 b4 b5 b6 b7 = k0_pay13 (F := Ideal) b5 := by
  unfold k0_pay23
  rw [View.ld_unit_lit _ _ (by decide)]

theorem word_part6 : k0_pay24 (F := Ideal) w m1 v b0 b1 b2 b3 b4 b5 b6 b7 = k0_pay14 (F := Ideal) b6 := by
  unfold k0_pay24
  rw [View.ld_unit_lit _ _ (by decide)]

theorem word_part7 : k0_pay25 (F := Ideal) w m1 v b0 b1 b2 b3 b4 b5 b6 b7 = k0_pay15 (F := Ideal) b7 := by
  unfold k0_pay25
  rw [View.ld_unit_lit _ _ (by decide)]

/-- The summed gradient, the moments and the step in the kernel's body. -/
theorem pay_total : k0_pay1 (F := Ideal) (k0_pay8 (F := Ideal) b0) (k0_pay9 (F := Ideal) b1) (k0_pay10 (F := Ideal) b2) (k0_pay11 (F := Ideal) b3) (k0_pay12 (F := Ideal) b4) (k0_pay13 (F := Ideal) b5) (k0_pay14 (F := Ideal) b6) (k0_pay15 (F := Ideal) b7) (ix2 r k) = added b0 b1 b2 b3 b4 b5 b6 b7 r k := by
  pointwise [k0_pay1, k0_pay8, k0_pay9, k0_pay10, k0_pay11, k0_pay12, k0_pay13, k0_pay14, k0_pay15]
  rfl

theorem pay_first : k0_pay2 (F := Ideal) (k0_pay6 (F := Ideal) m1) (k0_pay8 (F := Ideal) b0) (k0_pay9 (F := Ideal) b1) (k0_pay10 (F := Ideal) b2) (k0_pay11 (F := Ideal) b3) (k0_pay12 (F := Ideal) b4) (k0_pay13 (F := Ideal) b5) (k0_pay14 (F := Ideal) b6) (k0_pay15 (F := Ideal) b7) (ix2 r k) = first (m1 (ix2 r k)) (added b0 b1 b2 b3 b4 b5 b6 b7 r k) := by
  pointwise [k0_pay2, k0_pay6, pay_total]
  rfl

theorem pay_second : k0_pay3 (F := Ideal) (k0_pay7 (F := Ideal) v) (k0_pay8 (F := Ideal) b0) (k0_pay9 (F := Ideal) b1) (k0_pay10 (F := Ideal) b2) (k0_pay11 (F := Ideal) b3) (k0_pay12 (F := Ideal) b4) (k0_pay13 (F := Ideal) b5) (k0_pay14 (F := Ideal) b6) (k0_pay15 (F := Ideal) b7) (ix2 r k) = second (v (ix2 r k)) (added b0 b1 b2 b3 b4 b5 b6 b7 r k) := by
  pointwise [k0_pay3, k0_pay7, pay_total]
  rfl

theorem pay_step : k0_pay4 (F := Ideal) (k0_pay5 (F := Ideal) w) (k0_pay6 (F := Ideal) m1) (k0_pay7 (F := Ideal) v) (k0_pay8 (F := Ideal) b0) (k0_pay9 (F := Ideal) b1) (k0_pay10 (F := Ideal) b2) (k0_pay11 (F := Ideal) b3) (k0_pay12 (F := Ideal) b4) (k0_pay13 (F := Ideal) b5) (k0_pay14 (F := Ideal) b6) (k0_pay15 (F := Ideal) b7) (ix2 r k)
    = step (w (ix2 r k)) (m1 (ix2 r k)) (v (ix2 r k)) (added b0 b1 b2 b3 b4 b5 b6 b7 r k) := by
  pointwise [k0_pay4, k0_pay5, pay_first, pay_second]
  rfl

end Body

/-- The row of the flattened weights that point `t` holds at row `r` of its block. -/
abbrev rowAt (t : Fin cfg0.N) (r : Fin 512) : Fin 2048 := ⟨t.val * 512 + r, by have : t.val < 4 := lt_of_lt_of_eq t.isLt N_0; omega⟩

section Blocks

variable (t : Fin cfg0.N) (r k : Fin 512)

/-- Point `t`'s blocks of the arrays. -/
theorem blk_weight : (iblk m c 0 t : FVec Ideal S512x512 .f32) (ix2 r k) = weights m c (at3 (rowAt t r) k) := by
  blk_point [iblk, V, idx t]
  all_goals rfl

theorem blk_first : (iblk m c 1 t : FVec Ideal S512x512 .f32) (ix2 r k) = firsts m c (at3 (rowAt t r) k) := by
  blk_point [iblk, V, idx t]
  all_goals rfl

theorem blk_second : (iblk m c 2 t : FVec Ideal S512x512 .f32) (ix2 r k) = seconds m c (at3 (rowAt t r) k) := by
  blk_point [iblk, V, idx t]
  all_goals rfl

theorem blk_part0 : (iblk m c 3 t : FVec Ideal S1x512x512 .bf16) (ix3 0 r k) = parts m c (at4 0 (rowAt t r) k) := by
  blk_point [iblk, V, idx t]
  all_goals rfl

theorem blk_part1 : (iblk m c 4 t : FVec Ideal S1x512x512 .bf16) (ix3 0 r k) = parts m c (at4 1 (rowAt t r) k) := by
  blk_point [iblk, V, idx t]
  all_goals rfl

theorem blk_part2 : (iblk m c 5 t : FVec Ideal S1x512x512 .bf16) (ix3 0 r k) = parts m c (at4 2 (rowAt t r) k) := by
  blk_point [iblk, V, idx t]
  all_goals rfl

theorem blk_part3 : (iblk m c 6 t : FVec Ideal S1x512x512 .bf16) (ix3 0 r k) = parts m c (at4 3 (rowAt t r) k) := by
  blk_point [iblk, V, idx t]
  all_goals rfl

theorem blk_part4 : (iblk m c 7 t : FVec Ideal S1x512x512 .bf16) (ix3 0 r k) = parts m c (at4 4 (rowAt t r) k) := by
  blk_point [iblk, V, idx t]
  all_goals rfl

theorem blk_part5 : (iblk m c 8 t : FVec Ideal S1x512x512 .bf16) (ix3 0 r k) = parts m c (at4 5 (rowAt t r) k) := by
  blk_point [iblk, V, idx t]
  all_goals rfl

theorem blk_part6 : (iblk m c 9 t : FVec Ideal S1x512x512 .bf16) (ix3 0 r k) = parts m c (at4 6 (rowAt t r) k) := by
  blk_point [iblk, V, idx t]
  all_goals rfl

theorem blk_part7 : (iblk m c 10 t : FVec Ideal S1x512x512 .bf16) (ix3 0 r k) = parts m c (at4 7 (rowAt t r) k) := by
  blk_point [iblk, V, idx t]
  all_goals rfl

theorem blk_total : added (iblk m c 3 t) (iblk m c 4 t) (iblk m c 5 t) (iblk m c 6 t) (iblk m c 7 t) (iblk m c 8 t) (iblk m c 9 t) (iblk m c 10 t) r k = total (parts m c) (rowAt t r) k := by
  unfold added total
  rw [Fin.sum_univ_eight, blk_part0, blk_part1, blk_part2, blk_part3, blk_part4, blk_part5, blk_part6, blk_part7]

end Blocks

/-- The summed gradient after the run. -/
theorem final_grad : (dats m 0 c).arrAt 11 cfg0.N = specGrad m c := by
  refine (dats m 0 c).arrAt_eq_of_covers 11 _ (by decide +kernel) fun t hf y => ?_
  blk_simp
  rw [after0_11]
  idx_vars y
  have ht : t.val < 4 := lt_of_lt_of_eq t.isLt N_0
  have e : ((cfg0.win 11).blk t).view.emb (ix2 y0 y1) = ix2 (⟨t.val * 512 + y0, by omega⟩ : Fin 2048) (y1 : Fin 512) := by blk_ext [idx t]
  refine Eq.trans ?_ (congrArg (specGrad m c) e).symm
  rw [out_grad]
  frame_out
  rw [word_part0, word_part1, word_part2, word_part3, word_part4, word_part5, word_part6, word_part7]
  rw [pay_total, blk_total]

/-- The step after the run. -/
theorem final_step : (dats m 0 c).arrAt 12 cfg0.N = specStep m c := by
  refine (dats m 0 c).arrAt_eq_of_covers 12 _ (by decide +kernel) fun t hf y => ?_
  blk_simp
  rw [after0_12]
  idx_vars y
  have ht : t.val < 4 := lt_of_lt_of_eq t.isLt N_0
  have e : ((cfg0.win 12).blk t).view.emb (ix2 y0 y1) = ix2 (⟨t.val * 512 + y0, by omega⟩ : Fin 2048) (y1 : Fin 512) := by blk_ext [idx t]
  refine Eq.trans ?_ (congrArg (specStep m c) e).symm
  rw [out_step]
  frame_out
  rw [word_first, word_second, word_part0, word_part1, word_part2, word_part3, word_part4, word_part5, word_part6, word_part7]
  rw [pay_step, blk_total, blk_weight, blk_first, blk_second]

/-- The first moment after the run. -/
theorem final_first : (dats m 0 c).arrAt 13 cfg0.N = specFirst m c := by
  refine (dats m 0 c).arrAt_eq_of_covers 13 _ (by decide +kernel) fun t hf y => ?_
  blk_simp
  rw [after0_13]
  idx_vars y
  have ht : t.val < 4 := lt_of_lt_of_eq t.isLt N_0
  have e : ((cfg0.win 13).blk t).view.emb (ix2 y0 y1) = ix2 (⟨t.val * 512 + y0, by omega⟩ : Fin 2048) (y1 : Fin 512) := by blk_ext [idx t]
  refine Eq.trans ?_ (congrArg (specFirst m c) e).symm
  rw [out_first]
  frame_out
  rw [word_first, word_part0, word_part1, word_part2, word_part3, word_part4, word_part5, word_part6, word_part7]
  rw [pay_first, blk_total, blk_first]

/-- The second moment after the run. -/
theorem final_second : (dats m 0 c).arrAt 14 cfg0.N = specSecond m c := by
  refine (dats m 0 c).arrAt_eq_of_covers 14 _ (by decide +kernel) fun t hf y => ?_
  blk_simp
  rw [after0_14]
  idx_vars y
  have ht : t.val < 4 := lt_of_lt_of_eq t.isLt N_0
  have e : ((cfg0.win 14).blk t).view.emb (ix2 y0 y1) = ix2 (⟨t.val * 512 + y0, by omega⟩ : Fin 2048) (y1 : Fin 512) := by blk_ext [idx t]
  refine Eq.trans ?_ (congrArg (specSecond m c) e).symm
  rw [out_second]
  frame_out
  rw [word_second, word_part0, word_part1, word_part2, word_part3, word_part4, word_part5, word_part6, word_part7]
  rw [pay_second, blk_total, blk_second]

/-- The reference's run keeps its arguments and has no semaphores. -/
theorem reference_frame : quiescent_Reference16Ideal := fun m ρ _ =>
  (θ_run _ _ _).mono (fun r h => ⟨fun c => (h c).2.2.2.2, sem_eq_zero_of_no_sems rfl r.2⟩) (Reference16Ideal.Value.run (F := Ideal) m ρ)

/-- The optimiser's step on the projection's weights: the kernel's arrays are the reference's. -/
theorem output : algebraic_Kernel16Ideal_Reference16Ideal := by
  intro m g m' g' _ hag
  refine ⟨fun c => specGrad m c, fun c => specStep m c, fun c => specFirst m c, fun c => specSecond m c, ?_, ?_⟩
  · refine (θ_run _ _ _).mono (fun r h c => ?_) (Kernel16Ideal.Value.run_blocks m g)
    obtain rfl : c = 0 := Subsingleton.elim _ _
    obtain ⟨h0, h1, h2, h3, rest⟩ := h 0
    exact ⟨h0.trans (final_grad m 0), h1.trans (final_step m 0), h2.trans (final_first m 0), h3.trans (final_second m 0), rest⟩
  · refine (θ_run _ _ _).mono (fun r h c => ?_) (Reference16Ideal.Value.run (F := Ideal) m' g')
    obtain ⟨e0, e1, e2, e3⟩ := hag c
    obtain ⟨h0, h1, h2, h3, rest⟩ := h c
    refine ⟨h0.trans ?_, h1.trans ?_, h2.trans ?_, h3.trans ?_, rest⟩
    · change _ = Reference16Ideal.Read.val_main_v26 (F := Ideal) (m (c.tc.loc Kernel16Ideal.main_arg3))
      rw [← e3]
      exact Reference16Ideal.Read.val_main_v26_eq ..
    · change _ = Reference16Ideal.Read.val_main_v27 (F := Ideal) (m (c.tc.loc Kernel16Ideal.main_arg0)) (m (c.tc.loc Kernel16Ideal.main_arg1)) (m (c.tc.loc Kernel16Ideal.main_arg2)) (m (c.tc.loc Kernel16Ideal.main_arg3))
      rw [← e0, ← e1, ← e2, ← e3]
      exact Reference16Ideal.Read.val_main_v27_eq ..
    · change _ = Reference16Ideal.Read.val_main_v28 (F := Ideal) (m (c.tc.loc Kernel16Ideal.main_arg1)) (m (c.tc.loc Kernel16Ideal.main_arg3))
      rw [← e1, ← e3]
      exact Reference16Ideal.Read.val_main_v28_eq ..
    · change _ = Reference16Ideal.Read.val_main_v29 (F := Ideal) (m (c.tc.loc Kernel16Ideal.main_arg2)) (m (c.tc.loc Kernel16Ideal.main_arg3))
      rw [← e2, ← e3]
      exact Reference16Ideal.Read.val_main_v29_eq ..

end Cert.Adam

end
-- ==== Proof.OutGradValue.lean ====
/-
  The gradient of the mixer's output weights: the tokens' blocks one after another, each block's products added to a
  scratch buffer that the last point rounds and writes out.
-/
module

public import proofs.«01_k».proof.Proof.Gen.Kernel17Ideal.Value
public import proofs.«01_k».proof.Proof.Gen.Reference17Ideal.Read
public import Idealize.ShloMosaic.Lib.Pipeline.ReadBack
public import Idealize.ShloMosaic.Lib.Pipeline.ValueKit
public import proofs.«01_k».proof.Defs
public import Idealize.ShloMosaic.Lib.Claim

@[expose] public section

set_option maxRecDepth 16384

noncomputable section

namespace Cert.OutGrad

open Idealize.ShloMosaic Idealize.ShloMosaic.TcCoe Idealize.SL.Sem Kernel17Ideal Kernel17Ideal.Gen
open Reference17Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The arrays the kernel was launched with. -/
abbrev merged (c : Dev nD) : FVec Ideal S8192x1024 .f32 := m ((c.tc : Thread nD τ).loc main_arg0)
abbrev cts (c : Dev nD) : FVec Ideal S8192x1024 .f32 := m ((c.tc : Thread nD τ).loc main_arg2)

/-- The reference's result at those arguments. -/
abbrev spec (c : Dev nD) : FVec Ideal S1024x1024 .bf16 := val_main_v3 (F := Ideal) (merged m c) (cts m c)

/-- A token's part of the gradient. -/
def term (x y : FVec Ideal S8192x1024 .f32) (r : Fin 8192) (i j : Fin 1024) : EReal := x (ix2 r i) * y (ix2 r j)

/-- The gradient in the reference. -/
theorem ref_out (c : Dev nD) (i j : Fin 1024) : spec m c (ix2 i j) = ∑ r : Fin 8192, term (merged m c) (cts m c) r i j := by
  pointwise [spec, val_main_v3, val_main_v2, val_main_v1]
  exact Finset.sum_congr rfl fun r _ => mul_comm _ _

/-- A block's part of the gradient in the kernel's body. -/
def part (x y : FVec Ideal S1024x1024 .bf16) (i : S1024x1024.Idx) : EReal := ∑ r : Fin 1024, x (ix2 r (i 0)) * y (ix2 r (i 1))

theorem pay_first (x y : FVec Ideal S1024x1024 .bf16) (i : S1024x1024.Idx) : k0_pay1 (F := Ideal) x y i = part x y i := by
  idx_vars i
  pointwise [k0_pay1]
  rfl

theorem pay_next (acc : FVec Ideal S1024x1024 .f32) (x y : FVec Ideal S1024x1024 .bf16) (i : S1024x1024.Idx) :
    k0_pay2 (F := Ideal) acc x y i = acc i + part x y i := by
  idx_vars i
  pointwise [k0_pay2]
  rfl

theorem pay_round (acc : FVec Ideal S1024x1024 .f32) (i : S1024x1024.Idx) : k0_pay3 (F := Ideal) acc i = acc i := by pointwise [k0_pay3]

/-- The array's row that point `t` holds at row `r` of its block. -/
abbrev rowAt (t : Fin cfg0.N) (r : Fin 1024) : Fin 8192 := ⟨t.val * 1024 + r, by have : t.val < 8 := lt_of_lt_of_eq t.isLt N_0; omega⟩

theorem blk_merged (c : Dev nD) (t : Fin cfg0.N) (r k : Fin 1024) :
    (iblk m c 0 t : FVec Ideal S1024x1024 .bf16) (ix2 r k) = merged m c (ix2 (rowAt t r) k) := by
  blk_point [iblk, V, idx t]

theorem blk_cts (c : Dev nD) (t : Fin cfg0.N) (r k : Fin 1024) :
    (iblk m c 1 t : FVec Ideal S1024x1024 .bf16) (ix2 r k) = cts m c (ix2 (rowAt t r) k) := by
  blk_point [iblk, V, idx t]

/-- The last point writes out what it leaves in the scratch buffer. -/
theorem last_out (c : Dev nD) (j : S1024x1024.Idx) : (outsAt0 m c t0_7.val t0_7.isLt).1 j = (outsAt0 m c t0_7.val t0_7.isLt).2 j := by
  rw [outsAt0_C m c t0_7 (by decide) (by decide) (by decide)]
  frame_out
  rw [pay_round]

/-- The gradient after the run. -/
theorem final (c : Dev nD) : (dats m 0 c).arrAt 2 cfg0.N = spec m c := by
  refine (dats m 0 c).arrAt_eq_of_after_last 2 t0_7 (by decide +kernel) _ fun j => ?_
  blk_simp
  rw [after0_2, last_out, Pipeline.eq_sum_fin_of_reset_step_apply_last (fun n h => (outsAt0 m c n h).2) 8 (fun _ => 0)
    (fun t j => part (iblk m c 0 t) (iblk m c 1 t) j)
    (fun t h j => by rw [outsAt0_A m c t h (by have := lt_of_lt_of_eq t.isLt N_0; omega) (by omega)]; frame_out; rw [pay_first, zero_add])
    (fun t h j => by
      by_cases h1 : t.val % 8 = 7
      · rw [outsAt0_C m c t h (by omega) h1]; frame_out; rw [pay_next]; rw [read_unread_whole]
      · rw [outsAt0_B m c t h (by omega) h1]; frame_out; rw [pay_next]; rw [read_unread_whole])
    (le_of_eq N_0) t0_7 rfl j, zero_add]
  idx_vars j
  rw [ref_out]
  change (∑ p : Fin cfg0.N, part (iblk m c 0 p) (iblk m c 1 p) (ix2 j0 j1) : EReal) = _
  refine Eq.trans (Fin.sum_fin_congr fun p => ?_) (Fin.sum_mul_add_congr (S := cfg0.N) (n := 1024)
    (F := fun p r => term (merged m c) (cts m c) (rowAt p r) j0 j1) (fun p r hl => rfl))
  exact Finset.sum_congr rfl fun r _ => congrArg₂ (· * ·) (blk_merged m c p r j0) (blk_cts m c p r j1)

/-- The reference's run keeps its arguments and has no semaphores. -/
theorem reference_frame : quiescent_Reference17Ideal := fun m ρ _ =>
  (θ_run _ _ _).mono (fun r h => ⟨fun c => (h c).2, sem_eq_zero_of_no_sems rfl r.2⟩) (Reference17Ideal.Value.run (F := Ideal) m ρ)

/-- The gradient of the mixer's output weights: the kernel's array is the reference's. -/
theorem output : algebraic_Kernel17Ideal_Reference17Ideal := by
  intro m g m' g' _ hag
  refine ⟨fun c => spec m c, ?_, ?_⟩
  · refine (θ_run _ _ _).mono (fun r h c => ?_) (Kernel17Ideal.Value.run_blocks m g)
    obtain rfl : c = 0 := Subsingleton.elim _ _
    obtain ⟨h0, rest⟩ := h 0
    exact ⟨h0.trans (final m 0), rest⟩
  · refine (θ_run _ _ _).mono (fun r h c => ?_) (Reference17Ideal.Value.run (F := Ideal) m' g')
    obtain ⟨e0, e1, e2⟩ := hag c
    obtain ⟨h0, rest⟩ := h c
    exact ⟨h0.trans ((val_main_v3_eq ..).trans (congrArg₂ (val_main_v3 (F := Ideal)) e0 e2)), rest⟩

end Cert.OutGrad

end
-- ==== Proof.ProjGradValue.lean ====
/-
  The gradient at the mixer's normalised input: the gradients of the projection's five pieces against its weights.
  Eight points share a block of tokens, each adding 512 of the 4096 columns to a scratch buffer: the first four read
  the four narrow pieces, the others the four blocks of the wide one, and the last rounds the buffer and writes it out.
-/
module

public import proofs.«01_k».proof.Proof.Gen.Kernel18Ideal.Frame
public import proofs.«01_k».proof.Proof.Gen.Reference18Ideal.Read
public import Idealize.ShloMosaic.Lib.Pipeline.ReadBack
public import Idealize.ShloMosaic.Lib.Pipeline.Value
public import Idealize.ShloMosaic.Lib.Pipeline.ValueKit
public import proofs.«01_k».proof.Defs
public import Idealize.ShloMosaic.Lib.Claim

@[expose] public section

set_option maxRecDepth 16384

noncomputable section

namespace Cert.ProjGrad

open Idealize.ShloMosaic Idealize.ShloMosaic.TcCoe Idealize.SL.Sem Kernel18Ideal Kernel18Ideal.Gen
open Reference18Ideal.Read

variable (m : (ℓ : Loc nD τ sig) → Buf (Elt Ideal) ℓ)

/-- Which block of the weights and of the result point `t` works on. -/
theorem idx : ∀ t : Fin cfg0.N, win0_5.index t = ![t.val % 8, 0, 0] ∧ win0_6.index t = ![t.val / 8, 0] :=
  (by decide +kernel : ∀ t : Fin grid0.N, win0_5.index t = ![t.val % 8, 0, 0] ∧ win0_6.index t = ![t.val / 8, 0])

/-- Which block of each piece is in place at the points that read it. -/
theorem idx_q : ∀ t : Fin cfg0.N, t.val % 8 = 0 → win0_0.index t = ![t.val / 8, 0] :=
  (by decide +kernel : ∀ t : Fin grid0.N, t.val % 8 = 0 → win0_0.index t = ![t.val / 8, 0])
theorem idx_k : ∀ t : Fin cfg0.N, t.val % 8 = 1 → win0_1.index t = ![t.val / 8, 0] :=
  (by decide +kernel : ∀ t : Fin grid0.N, t.val % 8 = 1 → win0_1.index t = ![t.val / 8, 0])
theorem idx_v : ∀ t : Fin cfg0.N, t.val % 8 = 2 → win0_2.index t = ![t.val / 8, 0] :=
  (by decide +kernel : ∀ t : Fin grid0.N, t.val % 8 = 2 → win0_2.index t = ![t.val / 8, 0])
theorem idx_u : ∀ t : Fin cfg0.N, t.val % 8 = 3 → win0_3.index t = ![t.val / 8, 0] :=
  (by decide +kernel : ∀ t : Fin grid0.N, t.val % 8 = 3 → win0_3.index t = ![t.val / 8, 0])
theorem idx_gates : ∀ t : Fin cfg0.N, 4 ≤ t.val % 8 → win0_4.index t = ![t.val / 8, t.val % 8 - 4] :=
  (by decide +kernel : ∀ t : Fin grid0.N, 4 ≤ t.val % 8 → win0_4.index t = ![t.val / 8, t.val % 8 - 4])

/-- The arrays the kernel was launched with. -/
abbrev weights (c : Dev nD) : FVec Ideal S1024x4096 .f32 := m ((c.tc : Thread nD τ).loc main_arg1)
abbrev ctQ (c : Dev nD) : FVec Ideal S8192x512 .f32 := m ((c.tc : Thread nD τ).loc main_arg2)
abbrev ctK (c : Dev nD) : FVec Ideal S8192x512 .f32 := m ((c.tc : Thread nD τ).loc main_arg3)
abbrev ctV (c : Dev nD) : FVec Ideal S8192x512 .f32 := m ((c.tc : Thread nD τ).loc main_arg4)
abbrev ctU (c : Dev nD) : FVec Ideal S8192x512 .f32 := m ((c.tc : Thread nD τ).loc main_arg5)
abbrev ctGates (c : Dev nD) : FVec Ideal S8192x2048 .f32 := m ((c.tc : Thread nD τ).loc main_arg6)

/-- The five pieces side by side. -/
abbrev cts (c : Dev nD) : FVec Ideal Reference18Ideal.S8192x4096 .f32 :=
  val_main_v6 (F := Ideal) (ctQ m c) (ctK m c) (ctV m c) (ctU m c) (ctGates m c)

/-- The reference's result at those arguments. -/
abbrev spec (c : Dev nD) : FVec Ideal S8192x1024 .bf16 :=
  val_main_v8 (F := Ideal) (weights m c) (ctQ m c) (ctK m c) (ctV m c) (ctU m c) (ctGates m c)

/-- A column's part of the gradient. -/
def term (x : FVec Ideal Reference18Ideal.S8192x4096 .f32) (w : FVec Ideal S1024x4096 .f32) (k : Fin 4096) (r : Fin 8192) (j : Fin 1024) : EReal :=
  x (ix2 r k) * w (ix2 j k)

/-- The gradient in the reference. -/
theorem ref_out (c : Dev nD) (r : Fin 8192) (j : Fin 1024) :
    spec m c (ix2 r j) = ∑ k : Fin 4096, term (cts m c) (weights m c) k r j := by
  pointwise [spec, val_main_v8, val_main_v7]
  rfl

/-- The columns of each piece in the five side by side. -/
theorem cts_q (c : Dev nD) (r : Fin 8192) (k : Fin 4096) (q : Fin 512) (h : k.val = q.val) : cts m c (ix2 r k) = ctQ m c (ix2 r q) := by
  pointwise [cts, val_main_v6]
  rw [dif_pos (by omega)]
  exact congrArg (fun z => ctQ m c (ix2 r z)) (Fin.ext (by simp only [h]))
theorem cts_k (c : Dev nD) (r : Fin 8192) (k : Fin 4096) (q : Fin 512) (h : k.val = 512 + q.val) : cts m c (ix2 r k) = ctK m c (ix2 r q) := by
  pointwise [cts, val_main_v6]
  rw [dif_neg (by omega), dif_pos (by omega)]
  exact congrArg (fun z => ctK m c (ix2 r z)) (Fin.ext (by dsimp only; omega))
theorem cts_v (c : Dev nD) (r : Fin 8192) (k : Fin 4096) (q : Fin 512) (h : k.val = 1024 + q.val) : cts m c (ix2 r k) = ctV m c (ix2 r q) := by
  pointwise [cts, val_main_v6]
  rw [dif_neg (by omega), dif_neg (by omega), dif_pos (by omega)]
  exact congrArg (fun z => ctV m c (ix2 r z)) (Fin.ext (by dsimp only; omega))
theorem cts_u (c : Dev nD) (r : Fin 8192) (k : Fin 4096) (q : Fin 512) (h : k.val = 1536 + q.val) : cts m c (ix2 r k) = ctU m c (ix2 r q) := by
  pointwise [cts, val_main_v6]
  rw [dif_neg (by omega), dif_neg (by omega), dif_neg (by omega), dif_pos (by omega)]
  exact congrArg (fun z => ctU m c (ix2 r z)) (Fin.ext (by dsimp only; omega))
theorem cts_gates (c : Dev nD) (r : Fin 8192) (k : Fin 4096) (q : Fin 2048) (h : k.val = 2048 + q.val) :
    cts m c (ix2 r k) = ctGates m c (ix2 r q) := by
  pointwise [cts, val_main_v6]
  rw [dif_neg (by omega), dif_neg (by omega), dif_neg (by omega), dif_neg (by omega)]
  exact congrArg (fun z => ctGates m c (ix2 r z)) (Fin.ext (by dsimp only; omega))

/-- The array's row and column that point `t` holds at row `r` and column `q` of its block. -/
abbrev rowAt (t : Fin cfg0.N) (r : Fin 1024) : Fin 8192 := ⟨t.val / 8 * 1024 + r, by have : t.val < 64 := lt_of_lt_of_eq t.isLt N_0; omega⟩
abbrev colAt (t : Fin cfg0.N) (q : Fin 512) : Fin 4096 := ⟨t.val % 8 * 512 + q, by omega⟩

theorem blk_w (c : Dev nD) (t : Fin cfg0.N) (j : Fin 1024) (q : Fin 512) :
    (iblk m c 5 t : FVec Ideal S1x1024x512 .bf16) (ix3 (0 : Fin 1) j q) = weights m c (ix2 j (colAt t q)) := by
  blk_point [iblk, V, idx t]

theorem blk_q (c : Dev nD) (t : Fin cfg0.N) (h : t.val % 8 = 0) (r : Fin 1024) (q : Fin 512) :
    (iblk m c 0 t : FVec Ideal S1024x512 .bf16) (ix2 r q) = cts m c (ix2 (rowAt t r) (colAt t q)) := by
  rw [cts_q m c (rowAt t r) (colAt t q) q (by dsimp only; omega)]
  blk_point [iblk, V, idx_q t h]
theorem blk_k (c : Dev nD) (t : Fin cfg0.N) (h : t.val % 8 = 1) (r : Fin 1024) (q : Fin 512) :
    (iblk m c 1 t : FVec Ideal S1024x512 .bf16) (ix2 r q) = cts m c (ix2 (rowAt t r) (colAt t q)) := by
  rw [cts_k m c (rowAt t r) (colAt t q) q (by dsimp only; omega)]
  blk_point [iblk, V, idx_k t h]
theorem blk_v (c : Dev nD) (t : Fin cfg0.N) (h : t.val % 8 = 2) (r : Fin 1024) (q : Fin 512) :
    (iblk m c 2 t : FVec Ideal S1024x512 .bf16) (ix2 r q) = cts m c (ix2 (rowAt t r) (colAt t q)) := by
  rw [cts_v m c (rowAt t r) (colAt t q) q (by dsimp only; omega)]
  blk_point [iblk, V, idx_v t h]
theorem blk_u (c : Dev nD) (t : Fin cfg0.N) (h : t.val % 8 = 3) (r : Fin 1024) (q : Fin 512) :
    (iblk m c 3 t : FVec Ideal S1024x512 .f32) (ix2 r q) = cts m c (ix2 (rowAt t r) (colAt t q)) := by
  rw [cts_u m c (rowAt t r) (colAt t q) q (by dsimp only; omega)]
  blk_point [iblk, V, idx_u t h]
theorem blk_gates (c : Dev nD) (t : Fin cfg0.N) (h : 4 ≤ t.val % 8) (r : Fin 1024) (q : Fin 512) :
    (iblk m c 4 t : FVec Ideal S1024x512 .bf16) (ix2 r q) = cts m c (ix2 (rowAt t r) (colAt t q)) := by
  rw [cts_gates m c (rowAt t r) (colAt t q) ⟨(t.val % 8 - 4) * 512 + q, by omega⟩ (by dsimp only; omega)]
  blk_point [iblk, V, idx_gates t h]

/-- A point's part of the gradient in the kernel's body: a block of a piece against a block of the weights. -/
def part (x : S1024x512.Idx → EReal) (w : FVec Ideal S1x1024x512 .bf16) (i : S1024x1024.Idx) : EReal :=
  ∑ q : Fin 512, x (ix2 (i 0) q) * w (ix3 (0 : Fin 1) (i 1) q)

theorem pay_q (x : FVec Ideal S1024x512 .bf16) (w : FVec Ideal S1x1024x512 .bf16) (acc : FVec Ideal S1024x1024 .f32) (i : S1024x1024.Idx) :
    k0_pay3 (F := Ideal) x w acc i = acc i + part x w i := by
  idx_vars i
  pointwise [k0_pay3]
  rfl
theorem pay_k (x : FVec Ideal S1024x512 .bf16) (w : FVec Ideal S1x1024x512 .bf16) (acc : FVec Ideal S1024x1024 .f32) (i : S1024x1024.Idx) :
    k0_pay4 (F := Ideal) x w acc i = acc i + part x w i := pay_q x w acc i
theorem pay_v (x : FVec Ideal S1024x512 .bf16) (w : FVec Ideal S1x1024x512 .bf16) (acc : FVec Ideal S1024x1024 .f32) (i : S1024x1024.Idx) :
    k0_pay5 (F := Ideal) x w acc i = acc i + part x w i := pay_q x w acc i
theorem pay_u (x : FVec Ideal S1024x512 .f32) (w : FVec Ideal S1x1024x512 .bf16) (acc : FVec Ideal S1024x1024 .f32) (i : S1024x1024.Idx) :
    k0_pay6 (F := Ideal) x w acc i = acc i + part x w i := by
  idx_vars i
  pointwise [k0_pay6]
  rfl
theorem pay_gates (x : FVec Ideal S1024x512 .bf16) (w : FVec Ideal S1x1024x512 .bf16) (acc : FVec Ideal S1024x1024 .f32) (i : S1024x1024.Idx) :
    k0_pay7 (F := Ideal) x w acc i = acc i + part x w i := pay_q x w acc i

theorem pay_round (acc : FVec Ideal S1024x1024 .f32) (i : S1024x1024.Idx) : k0_pay1 (F := Ideal) acc i = acc i := by pointwise [k0_pay1]
theorem pay_zero (i : S1024x1024.Idx) : k0_pay2 (F := Ideal) i = (0 : EReal) := by pointwise [k0_pay2]

/-- Point `t`'s part of the gradient at row `i 0` of its block of tokens. -/
def step (c : Dev nD) (t : Fin cfg0.N) (i : S1024x1024.Idx) : EReal :=
  ∑ q : Fin 512, term (cts m c) (weights m c) (colAt t q) (rowAt t (i 0)) (i 1)

/-- A body's part is the point's, when its piece's block is that of the five side by side. -/
theorem part_eq (c : Dev nD) (t : Fin cfg0.N) (x : S1024x512.Idx → EReal)
    (hx : ∀ (r : Fin 1024) (q : Fin 512), x (ix2 r q) = cts m c (ix2 (rowAt t r) (colAt t q))) (i : S1024x1024.Idx) :
    part x (iblk m c 5 t) i = step m c t i :=
  Finset.sum_congr rfl fun q _ => congrArg₂ (· * ·) (hx (i 0) q) (blk_w m c t (i 1) q)

/-- The first point of a block of tokens leaves its own part in the scratch buffer. -/
theorem scr_first (c : Dev nD) (t : Fin cfg0.N) (h : t.val % 8 = 0) (i : S1024x1024.Idx) :
    (outsAt0 m c t.val t.isLt).2 i = (0 : EReal) + step m c t i := by
  rw [outsAt0_A m c t h h (by omega) (by omega) (by omega) (by omega) (by omega)]
  frame_out
  rw [pay_q, part_eq m c t _ (blk_q m c t h), pay_zero]

/-- Every other point adds its own. -/
theorem scr_next (c : Dev nD) (t : Fin cfg0.N) (h : ¬t.val % 8 = 0) (i : S1024x1024.Idx) :
    (outsAt0 m c t.val t.isLt).2 i = (outsAt0 m c (t.val - 1) (Nat.lt_of_le_of_lt (Nat.sub_le _ _) t.isLt)).2 i + step m c t i := by
  by_cases h1 : t.val % 8 = 1
  · rw [outsAt0_B m c t h h h1 (by omega) (by omega) (by omega) (by omega)]
    frame_out
    rw [pay_k, part_eq m c t _ (blk_k m c t h1), Idealize.ShloMosaic.read_unread_whole]
  by_cases h2 : t.val % 8 = 2
  · rw [outsAt0_C m c t h h h1 h2 (by omega) (by omega) (by omega)]
    frame_out
    rw [pay_v, part_eq m c t _ (blk_v m c t h2), Idealize.ShloMosaic.read_unread_whole]
  by_cases h3 : t.val % 8 = 3
  · rw [outsAt0_D m c t h h h1 h2 h3 (by omega) (by omega)]
    frame_out
    rw [pay_u, part_eq m c t _ (blk_u m c t h3), Idealize.ShloMosaic.read_unread_whole]
  have h4 : 4 ≤ t.val % 8 := by omega
  by_cases h7 : t.val % 8 = 7
  · rw [outsAt0_F m c t h h h1 h2 h3 h4 h7]
    frame_out
    rw [pay_gates, part_eq m c t _ (blk_gates m c t h4), Idealize.ShloMosaic.read_unread_whole]
  · rw [outsAt0_E m c t h h h1 h2 h3 h4 h7]
    frame_out
    rw [pay_gates, part_eq m c t _ (blk_gates m c t h4), Idealize.ShloMosaic.read_unread_whole]

/-- The last point of a block of tokens writes out what it leaves in the scratch buffer. -/
theorem last_out (c : Dev nD) (t : Fin cfg0.N) (h : t.val % 8 = 7) (i : S1024x1024.Idx) :
    (outsAt0 m c t.val t.isLt).1 i = (outsAt0 m c t.val t.isLt).2 i := by
  rw [outsAt0_F m c t (by omega) (by omega) (by omega) (by omega) (by omega) (by omega) h]
  frame_out
  rw [pay_round]

/-- The eight points of a block of tokens take the 4096 columns, 512 each. -/
theorem sum_steps (c : Dev nD) (t : Fin cfg0.N) (ht : t.val % 8 = 7) (r j : Fin 1024)
    (hb : ∀ s : Fin 8, 8 * (t.val / 8) + s.val < cfg0.N) :
    (∑ s : Fin 8, step m c ⟨8 * (t.val / 8) + s.val, hb s⟩ (ix2 r j)) = ∑ k : Fin 4096, term (cts m c) (weights m c) k (rowAt t r) j := by
  refine Fin.sum_mul_add_congr (S := 8) (n := 512)
    (F := fun s q => term (cts m c) (weights m c) (colAt ⟨8 * (t.val / 8) + s.val, hb s⟩ q) (rowAt ⟨8 * (t.val / 8) + s.val, hb s⟩ r) j) fun s q hl => ?_
  exact congrArg₂ (fun k r => term (cts m c) (weights m c) k r j) (Fin.ext (by dsimp only; omega)) (Fin.ext (by dsimp only; omega))

/-- The gradient after the run. -/
theorem final (c : Dev nD) : (dats m 0 c).arrAt 6 cfg0.N = spec m c := by
  refine (dats m 0 c).arrAt_eq_of_covers 6 _ (by decide +kernel) fun t hf y => ?_
  have ht : t.val % 8 = 7 := (flush0_6 t).mp hf
  blk_simp
  idx_vars y
  have e : ((cfg0.win 6).blk t).view.emb (ix2 y0 y1) = ix2 (rowAt t y0) (y1 : Fin 1024) := by blk_ext [idx t]
  rw [after0_6, last_out m c t ht, Pipeline.eq_sum_fin_of_reset_step_apply_of_flush (fun n h => (outsAt0 m c n h).2) 8 (fun _ => (0 : EReal))
    (step m c) (scr_first m c) (scr_next m c) t ht, zero_add]
  refine Eq.trans ?_ ((congrArg (spec m c) e).trans (ref_out m c (rowAt t y0) y1)).symm
  exact sum_steps m c t ht y0 y1 _

/-- The kernel's run, with its result named and its arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v7) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run_main m ρ)
  obtain ⟨staged, rest⟩ := h c
  exact ⟨staged 6, (rest main_arg0 (Pipeline.mem_restRefs_of main_arg0 (by decide) (by decide))).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c),
    (rest main_arg3 (Pipeline.mem_restRefs_of main_arg3 (by decide) (by decide))).trans (V_main_arg3 m c),
    (rest main_arg4 (Pipeline.mem_restRefs_of main_arg4 (by decide) (by decide))).trans (V_main_arg4 m c),
    (staged 3).trans (((dats m 0 c).arrAt_in 3 rfl _).trans ((A_eq m c 3).trans (V_main_arg5 m c))),
    (rest main_arg6 (Pipeline.mem_restRefs_of main_arg6 (by decide) (by decide))).trans (V_main_arg6 m c)⟩

/-- The reference's run keeps its arguments and has no semaphores. -/
theorem reference_frame : quiescent_Reference18Ideal := fun m ρ _ =>
  (θ_run _ _ _).mono (fun r h => ⟨fun c => (h c).2, sem_eq_zero_of_no_sems rfl r.2⟩) (Reference18Ideal.Value.run (F := Ideal) m ρ)

/-- The gradient at the mixer's normalised input: the kernel's array is the reference's. -/
theorem output : algebraic_Kernel18Ideal_Reference18Ideal := by
  intro m g m' g' _ hag
  refine ⟨fun c => spec m c, ?_, ?_⟩
  · refine (θ_run _ _ _).mono (fun r h c => ?_) (run m g)
    obtain rfl : c = 0 := Subsingleton.elim _ _
    obtain ⟨h0, rest⟩ := h 0
    exact ⟨h0.trans (final m 0), rest⟩
  · refine (θ_run _ _ _).mono (fun r h c => ?_) (Reference18Ideal.Value.run (F := Ideal) m' g')
    obtain ⟨e0, e1, e2, e3, e4, e5, e6⟩ := hag c
    obtain ⟨h0, rest⟩ := h c
    refine ⟨h0.trans ?_, rest⟩
    · change _ = Reference18Ideal.Read.val_main_v8 (F := Ideal) (m (c.tc.loc Kernel18Ideal.main_arg1)) (m (c.tc.loc Kernel18Ideal.main_arg2)) (m (c.tc.loc Kernel18Ideal.main_arg3)) (m (c.tc.loc Kernel18Ideal.main_arg4)) (m (c.tc.loc Kernel18Ideal.main_arg5)) (m (c.tc.loc Kernel18Ideal.main_arg6))
      rw [← e1, ← e2, ← e3, ← e4, ← e5, ← e6]
      exact Reference18Ideal.Read.val_main_v8_eq ..

end Cert.ProjGrad

end
-- ==== Proof.ExchangeLaunch.lean ====
/-
The launch of the exchange kernel. Each device writes into the result array of every other one with no handshake
before, so the arrays of the whole mesh are handed to ONE global step together with the semaphores the kernel owns,
before any device runs; each device then gets its part of what that step makes.
-/
module

public import proofs.«01_k».proof.Proof.Gen.Kernel19
public import proofs.«01_k».proof.Proof.Gen.Kernel19.Skeleton
public import proofs.«01_k».proof.Proof.Gen.Kernel19.Launch
public import Idealize.ShloMosaic.Lib.Pipeline.Launch
public import Idealize.ShloMosaic.Lib.Pipeline.Kit
public import Idealize.ShloMosaic.Lib.Tactic

@[expose] public section

set_option Elab.async false

noncomputable section

namespace Cert.ExchangeModel

open Kernel19 Kernel19.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- One device's arrays as launched. -/
def arraysOf (m : (ℓ : Loc nD τ sig) → Buf (Elt F) ℓ) (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))

theorem unscopedBufs_arrays (m : (ℓ : Loc nD τ sig) → Buf (Elt F) ℓ) (c : Dev nD) :
    (unscopedBufs c (fun b => m ((c : Thread nD τ).loc b)) : sProp 𝕄) ⊢ arraysOf m c := by
  have h := Pipeline.unscopedBufs_split cfgs (0 : Fin 1) winFacts0.arr_unscoped winFacts0.arr_inj (Ix := Unit) (Name := ℕ) (U := UU) (Lvl := ℕ) c
    (fun b => m ((c : Thread nD τ).loc b))
  rw [show (cfgs 0).spec = cfg0.spec from rfl, unscopedRest0_eq] at h
  rw [h]
  unfold arraysOf
  iintro ⟨-, H⟩
  iexact H

/-- A separating product over no index. -/
theorem nothing_intro {n : ℕ} (hn : n = 0) (Φ : Fin n → sProp 𝕄) : iprop(emp) ⊢ bigSep Finset.univ Φ := by
  subst hn
  rw [Finset.univ_eq_empty, BI.bigSep_empty]
  exact BI.Entails.refl _

/-- What a device holds from its start to the region's entry and does not share. -/
def held {K : Type} [Fintype K] {osem : K → SemLoc sig} (ho : Pipeline.OwnSemFacts cfg0.spec osem) (O₀ : Dev nD → CellTallies nD τ sig Unit)
    (c : Dev nD) : sProp 𝕄 :=
  iprop(scopedBufs (c : Thread nD τ) ∗ Pipeline.cellsSems0 cfgs 0 c ∗ Pipeline.idleSems0 cfgs cellOf_inj 0 ho c
    ∗ owes (c : Thread nD τ) (O₀ c) ∅ ∗ Pipeline.launchCred O₀ c)

theorem launch {K : Type} [Fintype K] {osem : K → SemLoc sig} (ho : Pipeline.OwnSemFacts cfg0.spec osem)
    (dats : (p : Fin 1) → (c : Dev nD) → Dat τ (Elt F) Unit ℕ UU ℕ (cfgs p) c)
    (hbody : ∀ c, BodyObligation (dats 0 c) (defs₀ (F := F)) Variants.none () Set.univ)
    (m : (ℓ : Loc nD τ sig) → Buf (Elt F) ℓ) (ρ : Dev nD → PrngReg)
    (O₀ : Dev nD → CellTallies nD τ sig Unit) (howed₀ : ∀ c, (dats 0 c).owed 0 = O₀ c) (howedN : ∀ c, (dats 0 c).owed (Fin.last _) = 0)
    (G G' : Dev nD → sProp 𝕄) (u₀ : UU)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 osem c ∗ arraysOf m c ∗ G c) : sProp 𝕄) ⊢ |={Set.univ}=> bigSep Finset.univ G')
    (hin : ∀ c, iprop(Pipeline.launchCred O₀ c ∗ G' c) ⊢ (dats 0 c).Φ 0)
    (Y : Dev nD → sProp 𝕄)
    (hout : ∀ c, (dats 0 c).Φ (Fin.last cfg0.N) ⊢ iprop(Y c ∗ Pipeline.ownSems0 osem c))
    (QY : Dev nD → MemSt nD τ sig (Elt F) → Prop)
    (hY : ∀ c (s' : Phys nD τ sig (Elt F)), iprop(Y c ∗ SI s') ⊢ |={Set.univ}=> iprop(⌜QY c s'.mem⌝ ∗ SI s'))
    {Q : PUnit × MemSt nD τ sig (Elt F) → Prop}
    (hQ : ∀ s : MemSt nD τ sig (Elt F), (∀ c, QY c s) →
      (∀ g' : GSem nD τ sig, (g'.1.2 ≠ .tc ∨ g'.2.isScoped .tc = true) → s.sem g' = 0) → Q (⟨⟩, s)) :
    θ_run (defs (F := F)) (onTc (τ := τ) (main (F := F))) ⟨m, fun _ => 0, ρ⟩ Q := by
  classical
  have hss := fun c : Dev nD => Pipeline.scopedSems0_split cfgs cellOf_inj (0 : Fin 1) winFacts0.to₀ ho
    (Ix := Unit) (Val := Elt F) (Name := ℕ) (U := UU) (Lvl := ℕ) c
  have hsb := fun c : Dev nD => Pipeline.scopedBufs_split cfgs (0 : Fin 1) winFacts0.stage_scoped winFacts0.stage_inj stage_whole0
    (nD := nD) (τ := τ) (Ix := Unit) (Val := Elt F) (Name := ℕ) (U := UU) (Lvl := ℕ) c
  let pre : Dev nD → sProp 𝕄 := fun c => iprop(held ho O₀ c ∗ Pipeline.cellsGhost cfgs EP 0 c ∗ Pipeline.toksInit cfgs EP 0 c ∗ G' c)
  let fin : Dev nD → sProp 𝕄 := fun c => iprop(Y c ∗ scopedSems0 (c : Thread nD τ))
  refine (θ_run _ _ _).mono (Q := fun r => (∀ c : Dev nD, QY c r.2
      ∧ ∀ sm : SemLoc sig, sm.isScoped .tc = true → r.2.sem ((c : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu _ _ _ _
    (reflect_intro_fupd_tc_sems (X := Unit) (Variants.lift Variants.none) (Pipeline.owing O₀) 0 (noBookings fun _ => le_rfl) (Pipeline.owing_of_ne O₀) u₀
      (fun _ => pre) (fun _ => fin) (fun _ => iprop(emp)) Set.univ ?_ (fun _ c => ?_) fun _ => ?_))
  · have hcore (c : Dev nD) :
        coreInit (Ix := Unit) (Name := ℕ) (U := UU) (Lvl := ℕ) (Pipeline.owing O₀) 0 (⟨m, fun _ => 0, ρ⟩ : MemSt nD τ sig (Elt F)) (c : Thread nD τ)
          ⊢ iprop(held ho O₀ c ∗ Pipeline.ownSems0 osem c ∗ arraysOf m c) :=
      (Pipeline.coreInit_boundary_owing O₀ m ρ c).trans (by
        unfold boundary
        rw [hss c]
        unfold held
        iintro ⟨⟨Hsc, ⟨⟨Hcells, Hos⟩, Hidle⟩, -⟩, Hub, -, HL, -, -, Hcr⟩
        isplitr [Hos Hub]
        · isplitl [Hsc]; · iexact Hsc
          isplitl [Hcells]; · iexact Hcells
          isplitl [Hidle]; · iexact Hidle
          isplitl [HL] <;> iassumption
        · isplitl [Hos]; · iexact Hos
          iapply (unscopedBufs_arrays m c); iexact Hub)
    have hcores : (bigSep Finset.univ fun c : Dev nD => coreInit (Ix := Unit) (Name := ℕ) (U := UU) (Lvl := ℕ) (Pipeline.owing O₀) 0
          (⟨m, fun _ => 0, ρ⟩ : MemSt nD τ sig (Elt F)) (c : Thread nD τ))
        ⊢ iprop((bigSep Finset.univ fun c : Dev nD => held ho O₀ c) ∗ (bigSep Finset.univ fun c : Dev nD => Pipeline.ownSems0 osem c)
            ∗ bigSep Finset.univ fun c : Dev nD => arraysOf m c) := by
      rw [← bigSep_sep', ← bigSep_sep']
      exact bigSep_mono fun c _ => hcore c
    have hpick (Φ : Fin 1 → Dev nD → sProp 𝕄) :
        (bigSep Finset.univ fun c : Dev nD => bigSep Finset.univ fun p' => Φ p' c) ⊢ bigSep Finset.univ fun c : Dev nD => Φ 0 c :=
      bigSep_mono fun c _ => BI.bigSep_elim (Finset.mem_univ (0 : Fin 1))
    iintro ⟨Hcores, Hu⟩
    ihave Hc := hcores $$ Hcores
    icases Hc with ⟨Hh, Hos, Hub⟩
    imod hu₀ $$ Hu with ⟨HP, HG⟩
    imod (Pipeline.fund_ghost cfgs EP cellOf_inj) $$ HP with ⟨Hg, Ht⟩
    imod hglob $$ [Hos Hub HG] with HG'
    · rw [bigSep_sep', bigSep_sep']; isplitl [Hos]; · iexact Hos
      isplitl [Hub] <;> iassumption
    imodintro
    iexists ()
    isplitr []
    · simp only [pre, bigSep_sep']
      isplitl [Hh]; · iexact Hh
      isplitl [Hg]; · iapply (hpick fun p' c => Pipeline.cellsGhost cfgs EP p' c); iexact Hg
      isplitl [Ht]; · iapply (hpick fun p' c => Pipeline.toksInit cfgs EP p' c); iexact Ht
      iexact HG'
    · iempintro
  · have hout' : iprop((dats 0 c).Φ (Fin.last cfg0.N) ∗ Pipeline.cellsSems0 cfgs 0 c ∗ Dat.staging cfg0 c ∗ Pipeline.idleSems0 cfgs cellOf_inj 0 ho c)
        ⊢ iprop(Y c ∗ scopedSems0 (c : Thread nD τ) ∗ scopedBufs (c : Thread nD τ)) := by
      rw [hss c, hsb c, show (cfgs 0).spec = cfg0.spec from rfl, scopedRest0_eq]
      iintro ⟨HΦ, Hcells, Hst, Hidle⟩
      ihave H := (hout c) $$ HΦ
      icases H with ⟨HY, Hos⟩
      isplitl [HY]; · iexact HY
      isplitl [Hcells Hos Hidle]
      · isplitl [Hcells Hos]; · isplitl [Hcells] <;> iassumption
        iexact Hidle
      isplitl [Hst]; · iexact Hst
      iempintro
    simp only [pre]; unfold held
    rw [show main (F := F) c = .op (.customCall (Pipeline.entry 0) ()) fun _ => .ret ⟨⟩ from rfl]
    iintro ⟨⟨Hsc, Hcells, Hidle, HL, Hcr⟩, Hg, Ht, HG⟩
    iapply (fupd_wp frame (wpE (defs (F := F)) (Variants.lift Variants.none) (c : Thread nD τ) none) Set.univ _ _)
    imod (Pipeline.cellsInit_alloc cfgs dats EP cellOf_inj (0 : Fin 1) c) $$ [Hcells Hg] with ⟨%κ, -, Hinit⟩
    · isplitl [Hcells] <;> iassumption
    imodintro
    have hent := (Pipeline.wp_customCall_entry_frame (Val := Elt F) (fun p => (cfgs p).toPCfg) (fun p => (cfgs p).toPCfg_adm) dats () EP κ cellOf_inj (0 : Fin 1) defs₀ Variants.none
        (fun k => k.elim0) c Set.univ (fun _ _ => Set.mem_univ _) (hbody c).loose block_pos0 none (fun u h => nomatch h)
        (X := iprop(Pipeline.launchCred O₀ c ∗ G' c)) (Y := Y c) (R := Pipeline.scopedRest cfg0.spec c) (I := Pipeline.idleSems0 cfgs cellOf_inj 0 ho c)
        (Entails.of_eq (hsb c)) (by
          iintro ⟨HX, -, -⟩
          iapply (hin c); iexact HX) hout'
        (k := fun _ : PUnit => .ret PUnit.unit) (Q := fun _ : PUnit => post (liftTc fin BI.emp) (c : Thread nD τ)))
    iapply hent $$ [HL Hinit Ht Hcr HG Hidle Hsc]
    · isplitl [HL Hinit Ht]
      · unfold Pipeline.EntryPre Pipeline.PerCore.EntryPre Dat.owesAt Pipeline.owesWithin
        rw [show (dats 0 c).owed 0 = O₀ c from howed₀ c]
        isplitr; · iapply (show iprop(emp) ⊢ (dats 0 c).arrays ((dats 0 c).arrAt · 0) from nothing_intro rfl _); iempintro
        isplitl [HL]
        · iexists ∅; isplitr; · ipureintro; rw [Finset.coe_empty]; exact Set.empty_subset _
          iexact HL
        isplitr; · iapply (Pipeline.cellsWaits_intro cfgs dats () (0 : Fin 1) c (R := iprop(emp)) fun w => w.elim0); iempintro
        isplitl [Hinit] <;> iassumption
      isplitr; · unfold Pipeline.prefHeld; iapply (nothing_intro (F := F) (n := 0) rfl); iempintro
      isplitl [Hcr HG]; · isplitl [Hcr] <;> iassumption
      isplitl [Hidle]; · iexact Hidle
      iexact Hsc
    iintro ⟨Hpost, HY, Hss2, -⟩
    rw [wp_ret]; imodintro
    unfold post; simp only [liftTc_tc, fin]
    unfold Pipeline.EntryPost Pipeline.PerCore.EntryPost Dat.owesAt Pipeline.owesWithin
    rw [show (dats 0 c).owed (Fin.last _) = 0 from howedN c]
    icases Hpost with ⟨-, ⟨%W, -, HW⟩⟩
    isplitr [HW]
    · isplitl [HY] <;> iassumption
    · iexists W; iexact HW
  · have hcore (c : Dev nD) (s' : Phys nD τ sig (Elt F)) : iprop(fin c ∗ SI s') ⊢ |={Set.univ}=>
        iprop(⌜QY c s'.mem ∧ ∀ sm : SemLoc sig, sm.isScoped .tc = true → s'.mem.sem ((c : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end Cert.ExchangeModel

end
-- ==== Proof.ExchangeModel.lean ====
/-
The protocol of the exchange: who sends which row of eight to whom, what each semaphore hands over, and the rows of
the two arrays. Device `c` holds eight blocks, one per device, and puts block `j` into row `c` of device `j`'s result;
its seven partners are `peer k c`, the devices whose number differs from its own in the bits of `k + 1`.
-/
module

public import proofs.«01_k».proof.Proof.ExchangeLaunch
public import Idealize.ShloMosaic.Lib.Pipeline.ValueKit.Geometry
public import Idealize.ShloMosaic.Lib.Exec.Geometry

@[expose] public section

set_option Elab.async false

noncomputable section

namespace Cert.ExchangeModel

open Kernel19 Kernel19.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Partners -/

def peer (k : Fin 7) (c : Dev nD) : Dev nD := ⟨(c.val ^^^ (k.val + 1)) % 8, Nat.mod_lt _ (by decide)⟩

theorem peer_peer (k : Fin 7) (c : Dev nD) : peer k (peer k c) = c := by revert k c; decide
theorem peer_injective (c : Dev nD) : Function.Injective fun k => peer k c := by
  have h : ∀ (c : Dev nD) (k k' : Fin 7), peer k c = peer k' c → k = k' := by decide
  exact fun k k' e => h c k k' e
theorem others (c : Dev nD) : (Finset.univ : Finset (Dev nD)).erase c = Finset.univ.map ⟨fun k => peer k c, peer_injective c⟩ := by
  revert c; decide

/-- Changing sides with partner `k`, as a permutation of the devices. -/
def sides (k : Fin 7) : Dev nD ≃ Dev nD := ⟨peer k, peer k, peer_peer k, peer_peer k⟩

/-- Over all devices: device `c` and its partners. -/
theorem bigSep_around (c : Dev nD) (Φ : Dev nD → sProp 𝕄) :
    bigSep Finset.univ Φ = iprop(Φ c ∗ bigSep Finset.univ fun k : Fin 7 => Φ (peer k c)) := by
  rw [bigSep_univ_at Φ c, others, BI.bigSep_map]; rfl

/-- What every device has for each partner, dealt to that partner. -/
theorem bigSep_sides (Φ : Fin 7 → Dev nD → Dev nD → sProp 𝕄) :
    (bigSep Finset.univ fun c : Dev nD => bigSep Finset.univ fun k : Fin 7 => Φ k c (peer k c))
      = bigSep Finset.univ fun c : Dev nD => bigSep Finset.univ fun k : Fin 7 => Φ k (peer k c) c := by
  rw [BI.bigSep_univ_comm, BI.bigSep_univ_comm (α := Dev nD)]
  refine BI.bigSep_congr fun k _ => ?_
  rw [BI.bigSep_univ_equiv (sides k) (fun c : Dev nD => Φ k c (peer k c))]
  exact BI.bigSep_congr fun c _ => by
    show Φ k (peer k c) (peer k (peer k c)) = _
    rw [peer_peer]

/-! ## The rows -/

def offAt (j : Dev nD) : Fin 3 → ℕ := ![j.val, 0, 0]
theorem inbAt (j : Dev nD) : ∀ a, offAt j a + S1x2x768.size a ≤ S8x2x768.size a := by revert j; decide

/-- The row at given offsets of an array of eight. -/
abbrev slot (M : Memref sig .tc .hbm S8x2x768 .f32) (off : Fin 3 → ℕ) (inb : ∀ a, off a + S1x2x768.size a ≤ S8x2x768.size a) :
    Memref sig .tc .hbm S2x768 .f32 :=
  (M.slice (Rect.unit (s := S8x2x768) off S1x2x768.size inb) (fun _ => rfl)).squeeze S2x768 squeezes_S1x2x768_S2x768
abbrev inSlot (j : Dev nD) : Memref sig .tc .hbm S2x768 .f32 := slot (Memref.whole main_arg0) (offAt j) (inbAt j)
abbrev outSlot (j : Dev nD) : Memref sig .tc .hbm S2x768 .f32 := slot (Memref.whole main_v1) (offAt j) (inbAt j)

abbrev N : ℕ := (outSlot 0).view.dmaCredit
theorem N_pos : 0 < N := View.dmaCredit_pos _ (by decide)

theorem mem_row (j : Dev nD) (i : S8x2x768.Idx) :
    i ∈ (Rect.unit (s := S8x2x768) (offAt j) S1x2x768.size (inbAt j)).set ↔ (i 0).val = j.val := by
  rw [Rect.mem_set_unit]
  have h1 := (i 1).isLt
  have h2 := (i 2).isLt
  constructor
  · intro h
    have := h 0
    simp [offAt] at this
    omega
  · intro h a
    fin_cases a <;> simp [offAt] at * <;> omega
theorem mem_in (j : Dev nD) (i : S8x2x768.Idx) : i ∈ (inSlot j).view.set ↔ (i 0).val = j.val := by
  rw [show (inSlot j).view.set = ((View.whole main_arg0).slice (Rect.unit (s := S8x2x768) (offAt j) S1x2x768.size (inbAt j))).set from View.set_reshape _ _,
    View.set_slice_whole]
  exact mem_row j i
theorem mem_out (j : Dev nD) (i : S8x2x768.Idx) : i ∈ (outSlot j).view.set ↔ (i 0).val = j.val := by
  rw [show (outSlot j).view.set = ((View.whole main_v1).slice (Rect.unit (s := S8x2x768) (offAt j) S1x2x768.size (inbAt j))).set from View.set_reshape _ _,
    View.set_slice_whole]
  exact mem_row j i

/-- Row `j` of device `c`'s blocks to send; of its result. -/
def inPts (c j : Dev nD) (f : Buf (Elt F) ((c : Thread nD τ).loc main_arg0)) : sProp 𝕄 :=
  (inSlot j).view.loc (c : Thread nD τ) ↦[(inSlot j).view.set]{fullShare} f
def outPts (c j : Dev nD) (f : Buf (Elt F) ((c : Thread nD τ).loc main_v1)) : sProp 𝕄 :=
  (outSlot j).view.loc (c : Thread nD τ) ↦[(outSlot j).view.set]{fullShare} f

instance inPts_storable (c j : Dev nD) (f) : BI.Storable (upEmb : UEmb _ 𝕄) (inPts (F := F) c j f) := by unfold inPts; infer_instance
instance outPts_storable (c j : Dev nD) (f) : BI.Storable (upEmb : UEmb _ 𝕄) (outPts (F := F) c j f) := by unfold outPts; infer_instance

theorem in_rows (c : Dev nD) (f : Buf (Elt F) ((c : Thread nD τ).loc main_arg0)) :
    (((c : Thread nD τ).loc main_arg0) ↦{fullShare} f : sProp 𝕄) = bigSep Finset.univ fun j : Dev nD => inPts c j f := by
  unfold inPts
  have hU : (Finset.univ : Finset (Idx ((c : Thread nD τ).loc main_arg0))) = (Finset.univ : Finset (Dev nD)).biUnion fun j => (inSlot j).view.set :=
    (Finset.eq_univ_iff_forall.mpr fun i => Finset.mem_biUnion.mpr ⟨⟨(i 0).val, (i 0).isLt⟩, Finset.mem_univ _, (mem_in _ i).mpr rfl⟩).symm
  rw [hU]
  exact pointsTo_biUnion (ℓ := (c : Thread nD τ).loc main_arg0) Finset.univ (fun j : Dev nD => (inSlot j).view.set)
    (fun j _ j' _ h => Finset.disjoint_left.mpr fun i hi hi' => h (Fin.ext (((mem_in j i).mp hi).symm.trans ((mem_in j' i).mp hi'))))
theorem out_rows (c : Dev nD) (f : Buf (Elt F) ((c : Thread nD τ).loc main_v1)) :
    (((c : Thread nD τ).loc main_v1) ↦{fullShare} f : sProp 𝕄) = bigSep Finset.univ fun j : Dev nD => outPts c j f := by
  unfold outPts
  have hU : (Finset.univ : Finset (Idx ((c : Thread nD τ).loc main_v1))) = (Finset.univ : Finset (Dev nD)).biUnion fun j => (outSlot j).view.set :=
    (Finset.eq_univ_iff_forall.mpr fun i => Finset.mem_biUnion.mpr ⟨⟨(i 0).val, (i 0).isLt⟩, Finset.mem_univ _, (mem_out _ i).mpr rfl⟩).symm
  rw [hU]
  exact pointsTo_biUnion (ℓ := (c : Thread nD τ).loc main_v1) Finset.univ (fun j : Dev nD => (outSlot j).view.set)
    (fun j _ j' _ h => Finset.disjoint_left.mpr fun i hi hi' => h (Fin.ext (((mem_out j i).mp hi).symm.trans ((mem_out j' i).mp hi'))))

/-! ## Contents -/

/-- Where block `j` stands in an array of eight, at the inner position of `i`. -/
def rowAt (j : Dev nD) (i : S8x2x768.Idx) : S8x2x768.Idx :=
  fun a => if h : a = 0 then ⟨j.val, by subst h; exact j.isLt⟩ else i a

variable (m : (ℓ : Loc nD τ sig) → Buf (Elt F) ℓ)

/-- Device `c`'s result: row `j` is block `c` of device `j`. -/
def landed (c : Dev nD) : Buf (Elt F) ((c : Thread nD τ).loc main_v1) :=
  fun i : S8x2x768.Idx => (m (((⟨(i 0).val, (i 0).isLt⟩ : Dev nD) : Thread nD τ).loc main_arg0) : S8x2x768.Idx → Elt F .f32) (rowAt c i)

abbrev inM (c : Dev nD) : Buf (Elt F) ((c : Thread nD τ).loc main_arg0) := m ((c : Thread nD τ).loc main_arg0)
abbrev outM (c : Dev nD) : Buf (Elt F) ((c : Thread nD τ).loc main_v1) := m ((c : Thread nD τ).loc main_v1)

theorem emb_out (j j' : Dev nD) (x : S2x768.Idx) :
    (inSlot j').view.emb x = rowAt j' ((outSlot j).view.emb x : S8x2x768.Idx) := by
  refine funext fun a : Fin 3 => ?_
  unfold rowAt
  by_cases h : a = 0
  · subst h
    rw [dif_pos rfl]
    refine Fin.ext ?_
    show offAt j' 0 + 1 * ((Shape.reshapeEquiv (s := S1x2x768) (s' := S2x768) (Shape.Squeezes.numel_eq squeezes_S1x2x768_S2x768)) x 0).val = j'.val
    have := ((Shape.reshapeEquiv (s := S1x2x768) (s' := S2x768) (Shape.Squeezes.numel_eq squeezes_S1x2x768_S2x768)) x 0).isLt
    simp [offAt] at this ⊢
  · rw [dif_neg h]
    refine Fin.ext ?_
    show offAt j' a + 1 * _ = offAt j a + 1 * _
    congr 1
    fin_cases a
    · exact absurd rfl h
    · rfl
    · rfl

/-- Block `c'` of device `c`, written into row `c` of device `c'`, is that row of the result. -/
theorem landing (c c' : Dev nD) (fd : Buf (Elt F) ((c' : Thread nD τ).loc main_v1)) :
    ((outSlot c).view.loc (c' : Thread nD τ) ↦[(outSlot c).view.set]{fullShare}
        ((outSlot c).view.write (Elt F) fd ((inSlot c').view.read (Elt F) (inM m c)) Finset.univ) : sProp 𝕄)
      = outPts c' c (landed m c') := by
  unfold outPts
  refine pointsTo_congr fun i hi => ?_
  obtain ⟨x, -, hx⟩ := Finset.mem_map.mp hi
  have h0 : (i 0).val = c.val := (mem_out c i).mp hi
  subst hx
  rw [View.write_emb_of_mem _ _ (Finset.mem_univ x), View.read_apply, emb_out c c' x]
  have hc : (⟨((outSlot c).view.emb x 0).val, ((outSlot c).view.emb x 0).isLt⟩ : Dev nD) = c := Fin.ext h0
  unfold landed
  rw [hc]
  rfl

/-! ## The cells -/

def sendS (k : Fin 7) : DmaSem sig := ⟨k.val, by have := k.isLt; show k.val < 15; omega⟩
def recvS (k : Fin 7) : DmaSem sig := ⟨7 + k.val, by have := k.isLt; show 7 + k.val < 15; omega⟩
def ownS : DmaSem sig := ⟨14, by show 14 < 15; decide⟩

abbrev KK : Type := (Fin 7 ⊕ Fin 7) ⊕ Unit
abbrev osem : KK → SemLoc sig
  | .inl (.inl k) => .dma (sendS k)
  | .inl (.inr k) => .dma (recvS k)
  | .inr _ => .dma ownS
abbrev kcell (ck : Dev nD × KK) : GSem nD τ sig := ((ck.1 : Thread nD τ), osem ck.2)
abbrev sendCell (k : Fin 7) (c : Dev nD) : GSem nD τ sig := ((c : Thread nD τ), .dma (sendS k))
abbrev recvCell (k : Fin 7) (c : Dev nD) : GSem nD τ sig := ((c : Thread nD τ), .dma (recvS k))
abbrev ownCell (c : Dev nD) : GSem nD τ sig := ((c : Thread nD τ), .dma ownS)

theorem osem_injective : Function.Injective osem := by
  have h : ∀ k k' : KK, osem k = osem k' → k = k' := by decide
  exact fun k k' => h k k'
theorem kcell_injective : Function.Injective (kcell : Dev nD × KK → GSem nD τ sig) := by
  rintro ⟨c, k⟩ ⟨c', k'⟩ h
  have h1 : c = c' := congrArg (fun g : GSem nD τ sig => g.1.1) h
  have h2 : k = k' := osem_injective (congrArg Prod.snd h)
  rw [h1, h2]
theorem ownSemFacts : Pipeline.OwnSemFacts cfg0.spec osem := by decide

/-! ## The schedule -/

/-- What device `c`'s semaphore `q` hands it: a sent block back, a row landed, or both at its own copy. -/
def pay (c : Dev nD) (q : Fin 15) : sProp 𝕄 :=
  if h : q.val < 7 then inPts c (peer ⟨q.val, h⟩ c) (inM m c)
  else if h : q.val - 7 < 7 then outPts c (peer ⟨q.val - 7, h⟩ c) (landed m c)
  else iprop(outPts c c (landed m c) ∗ inPts c c (inM m c))

def payAt (c : Dev nD) : SemLoc sig → sProp 𝕄
  | .dma q => pay m c q
  | _ => iprop(emp)

instance payAt_storable (c : Dev nD) (l : SemLoc sig) : BI.Storable (upEmb : UEmb _ 𝕄) (payAt (F := F) m c l) := by
  unfold payAt
  split
  · unfold pay; (repeat' split) <;> infer_instance
  · infer_instance

def rd : Rounds.Schedule (GSem nD τ sig) Unit 𝕄 where
  duties g r := if r = 0 ∧ g.1.2 = .tc then {()} else ∅
  unitless _ := False
  amount _ _ _ := N
  payload g _ _ := payAt m g.1.1 g.2
  amount_pos _ _ _ _ := N_pos

instance rd_payload_storable (g : GSem nD τ sig) (r : ℕ) (d : Unit) : BI.Storable (upEmb : UEmb _ 𝕄) ((rd (F := F) m).payload g r d) :=
  payAt_storable m g.1.1 g.2

theorem duties_now (c : Dev nD) (l : SemLoc sig) : (rd (F := F) m).duties ((c : Thread nD τ), l) 0 = {()} := by dsimp only [rd]; exact if_pos ⟨rfl, rfl⟩
theorem duties_mem (c : Dev nD) (l : SemLoc sig) : () ∈ (rd (F := F) m).duties ((c : Thread nD τ), l) 0 := by
  rw [duties_now]; exact Finset.mem_singleton_self _
theorem duties_later (g : GSem nD τ sig) : ∀ r, 1 ≤ r → (rd (F := F) m).duties g r = ∅ :=
  fun r hr => by dsimp only [rd]; exact if_neg fun h => by omega
theorem expect_now (c : Dev nD) (l : SemLoc sig) : (rd (F := F) m).expect ((c : Thread nD τ), l) 0 = N := by
  unfold Schedule.expect Schedule.amountOf; rw [duties_now, Finset.sum_singleton]; rfl
theorem rest_now (c : Dev nD) (l : SemLoc sig) :
    bigSep ((rd (F := F) m).duties ((c : Thread nD τ), l) 0 \ ∅) (fun u => (rd (F := F) m).payload ((c : Thread nD τ), l) 0 u) = payAt m c l := by
  rw [Finset.sdiff_empty, duties_now, bigSep_singleton]; rfl

theorem pay_send (k : Fin 7) (c : Dev nD) : payAt (F := F) m c (.dma (sendS k)) = inPts c (peer k c) (inM m c) := by
  show pay m c (sendS k) = _
  unfold pay; exact dif_pos k.isLt
theorem pay_recv (k : Fin 7) (c : Dev nD) : payAt (F := F) m c (.dma (recvS k)) = outPts c (peer k c) (landed m c) := by
  show pay m c (recvS k) = _
  unfold pay
  have h1 : ¬ (recvS k).val < 7 := by show ¬ 7 + k.val < 7; omega
  have h2 : (recvS k).val - 7 = k.val := by show 7 + k.val - 7 = k.val; omega
  rw [dif_neg h1, dif_pos (by rw [h2]; exact k.isLt)]
  congr 2
  exact Fin.ext h2
theorem pay_own (c : Dev nD) : payAt (F := F) m c (.dma ownS) = iprop(outPts c c (landed m c) ∗ inPts c c (inM m c)) := rfl

end Cert.ExchangeModel

end
-- ==== Proof.ExchangeBody.lean ====
/-
The body of the exchange kernel at a device `c`: its own block copied into its own row, seven blocks sent, then fifteen
waits. One lemma for a send, one for the copy and one for a wait carry the whole run.
-/
module

public import proofs.«01_k».proof.Proof.ExchangeModel
public import proofs.«01_k».proof.Proof.Gen.Kernel19.Points

@[expose] public section

set_option Elab.async false

noncomputable section

namespace Cert.ExchangeModel

open Kernel19 Kernel19.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × KK → ℕ)

/-! ## What a device holds -/

/-- The tally of one block sent to partner `k`. -/
abbrev due (k : Fin 7) (c : Dev nD) : CellTallies nD τ sig Unit := tallyAt (recvCell k (peer k c)) () N
/-- What a device owes from the launch: a block to each partner. -/
def O₀ (c : Dev nD) : CellTallies nD τ sig Unit := ∑ k : Fin 7, due k c

/-- The device's dues, whatever it has waited for. -/
def owing (c : Dev nD) (O : CellTallies nD τ sig Unit) : sProp 𝕄 := iprop(∃ W, owes (c : Thread nD τ) O W)

/-- What device `c` knows of its traffic with partner `k`. -/
def known (c : Dev nD) (k : Fin 7) : sProp 𝕄 :=
  iprop(cellInv ER (rd m) (K (c, .inl (.inl k))) (sendCell k c) ∗ cellInv ER (rd m) (K (peer k c, .inl (.inr k))) (recvCell k (peer k c))
    ∗ cellInv ER (rd m) (K (c, .inl (.inr k))) (recvCell k c)
    ∗ reached ER (sendCell k c) 0 ∗ reached ER (recvCell k (peer k c)) 0)
instance known_persistent (c : Dev nD) (k : Fin 7) : BI.Persistent (known m K c k) := by unfold known; infer_instance
/-- Before the send to partner `k`: the block, the row it goes to, the two duties. -/
def toSend (c : Dev nD) (k : Fin 7) : sProp 𝕄 :=
  iprop(inPts c (peer k c) (inM m c) ∗ outPts (peer k c) c (outM m (peer k c)) ∗ dutyTok ER (sendCell k c) 0 () ∗ dutyTok ER (recvCell k (peer k c)) 0 ())
/-- The two places on the device's cells for partner `k`. -/
def places (c : Dev nD) (k : Fin 7) : sProp 𝕄 := iprop(atPos ER (sendCell k c) 0 ∅ 0 ∗ atPos ER (recvCell k c) 0 ∅ 0)
/-- Once both waits for partner `k` are over. -/
def traded (c : Dev nD) (k : Fin 7) : sProp 𝕄 :=
  iprop(inPts c (peer k c) (inM m c) ∗ outPts c (peer k c) (landed m c) ∗ semVal (sendCell k c) 0 ∗ semVal (recvCell k c) 0)

def ownKnown (c : Dev nD) : sProp 𝕄 := iprop(cellInv ER (rd m) (K (c, .inr ())) (ownCell c) ∗ reached ER (ownCell c) 0)
instance ownKnown_persistent (c : Dev nD) : BI.Persistent (ownKnown m K c) := by unfold ownKnown; infer_instance
def toCopy (c : Dev nD) : sProp 𝕄 := iprop(inPts c c (inM m c) ∗ outPts c c (outM m c) ∗ dutyTok ER (ownCell c) 0 ())
def copied (c : Dev nD) : sProp 𝕄 := iprop((outPts c c (landed m c) ∗ inPts c c (inM m c)) ∗ semVal (ownCell c) 0)

/-! ## One operation each -/

section Ops

theorem wp_send_to {α : Type} {Q : α → sProp 𝕄} {kt : PUnit → Prog (TpuEff nD τ sig (Elt F) Λ₀ .tc) α} (c : Dev nD) (k : Fin 7) (O : CellTallies nD τ sig Unit) (n : Dev nD) (hn : n = peer k c)
    (o₁ o₂ : Fin 3 → ℕ) (h₁ : ∀ a, o₁ a + S1x2x768.size a ≤ S8x2x768.size a) (h₂ : ∀ a, o₂ a + S1x2x768.size a ≤ S8x2x768.size a)
    (e₁ : o₁ = offAt c) (e₂ : o₂ = offAt (peer k c)) (s r : DmaSem sig) (es : s = sendS k) (er : r = recvS k)
    {hsc : (slot (Memref.whole main_v1) o₁ h₁ : Memref sig (Dev.tc n : Thread nD τ).2.kind .hbm S2x768 .f32).view.ref.isScScratch = false}
    {hsrc : (slot (Memref.whole main_arg0) o₂ h₂).view.WordExact} {hdst : (slot (Memref.whole main_v1) o₁ h₁).view.WordExact}
    {hsem : DmaTarget.Typed .hbm (.dma r) (.remote (Dev.tc n : Thread nD τ) (slot (Memref.whole main_v1) o₁ h₁) (.dma s) hsc)} :
    iprop(known m K c k ∗ toSend m c k ∗ owing c (O + due k c))
      ⊢ iprop(((cred (tallyAt (sendCell k c) () N) ∗ owing c O) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slot (Memref.whole main_arg0) o₂ h₂) (.remote (Dev.tc n : Thread nD τ) (slot (Memref.whole main_v1) o₁ h₁) (.dma s) hsc)
                (.dma r) hsrc hdst hsem) kt) Q) := by
  subst hn e₁ e₂ es er
  unfold known toSend owing inPts outPts
  iintro ⟨⟨#HIs, #HIr, -, #HRs, #HRr⟩, ⟨Hin, Hout, Hts, Htr⟩, ⟨%W, HO⟩⟩ Hk
  iapply (Rounds.wp_send_pointsTo 𝒱₀ ER (rd m) (c : Thread nD τ) none (κ₁ := K (c, .inl (.inl k))) (κ₂ := K (peer k c, .inl (.inr k)))
    (r₁ := 0) (r₂ := 0) (d₁ := ()) (d₂ := ()) (fd := outM m (peer k c)) (duties_mem m c _) (duties_mem m (peer k c) _)
    () () N rfl rfl rfl O rfl (W := W)
    (by
      show _ ⊢ payAt m c (.dma (sendS k))
      rw [pay_send]; exact BI.Entails.refl _)
    (by
      show _ ⊢ payAt m (peer k c) (.dma (recvS k))
      rw [pay_recv, peer_peer, ← landing m c (peer k c) (outM m (peer k c))])) $$ [Hin Hout HO Hts Htr]
  · isplitr; · iexact HIs
    isplitr; · iexact HIr
    isplitl [Hin]; · iexact Hin
    isplitl [Hout]; · iexact Hout
    isplitl [HO]; · iexact HO
    isplitl [Hts]; · iexact Hts
    isplitr; · iexact HRs
    isplitl [Htr]; · iexact Htr
    iexact HRr
  iintro ⟨Hc, HO⟩
  iapply Hk
  isplitl [Hc]; · iexact Hc
  iexists W; iexact HO

theorem wp_copy_own {α : Type} {Q : α → sProp 𝕄} {kt : PUnit → Prog (TpuEff nD τ sig (Elt F) Λ₀ .tc) α} (c : Dev nD) (o₁ : Fin 3 → ℕ) (h₁ h₂ : ∀ a, o₁ a + S1x2x768.size a ≤ S8x2x768.size a)
    (e₁ : o₁ = offAt c) (s : DmaSem sig) (es : s = ownS)
    {hsrc : (slot (Memref.whole main_arg0) o₁ h₂).view.WordExact} {hdst : (slot (Memref.whole main_v1) o₁ h₁).view.WordExact}
    {hsem : DmaTarget.Typed .hbm (.dma s) (.here (slot (Memref.whole main_v1) o₁ h₁) : DmaTarget nD τ sig Proc.tc .hbm S2x768 .f32)} :
    iprop(ownKnown m K c ∗ toCopy m c)
      ⊢ iprop((cred (tallyAt (ownCell c) () N) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slot (Memref.whole main_arg0) o₁ h₂) (.here (slot (Memref.whole main_v1) o₁ h₁)) (.dma s) hsrc hdst hsem) kt) Q) := by
  subst e₁ es
  unfold ownKnown toCopy
  iintro ⟨⟨#HI, #HR⟩, ⟨Hin, Hout, Ht⟩⟩ Hk
  iapply (Rounds.wp_copy_pointsTo 𝒱₀ ER (rd m) (c : Thread nD τ) none (κ := K (c, .inr ())) (r := 0) (d := ()) (q := fullShare)
    (fs := inM m c) (fd := outM m c) (duties_mem m c _) () N rfl rfl
    (by
      show _ ⊢ payAt m c (.dma ownS)
      rw [pay_own, ← landing m c c (outM m c)]; exact BI.Entails.refl _)) $$ [Hin Hout Ht]
  · isplitr; · iexact HI
    isplitl [Hin]; · unfold inPts; iexact Hin
    isplitl [Hout]; · unfold outPts; iexact Hout
    isplitl [Ht]; · iexact Ht
    iexact HR
  iexact Hk

theorem wp_collect {α : Type} {Q : α → sProp 𝕄} {kt : PUnit → Prog (TpuEff nD τ sig (Elt F) Λ₀ .tc) α} (c : Dev nD) (κ : ℕ) (q s : DmaSem sig) (es : s = q) (src dst : Memref sig .tc .hbm S2x768 .f32)
    (hN : dst.view.dmaCredit = N) {hsrc : src.view.WordExact} {hdst : dst.view.WordExact} :
    iprop(cellInv ER (rd m) κ ((c : Thread nD τ), .dma q) ∗ cred (tallyAt ((c : Thread nD τ), .dma q) () N) ∗ owing c 0
        ∗ atPos ER ((c : Thread nD τ), .dma q) 0 ∅ 0)
      ⊢ iprop(((owing c 0 ∗ payAt m c (.dma q) ∗ semVal ((c : Thread nD τ), .dma q) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s src dst hsrc hdst) kt) Q) := by
  subst es
  unfold owing
  iintro ⟨#HI, Hc, ⟨%W, HO⟩, Hat⟩ Hk
  iapply (Rounds.wp_wait_rest_token 𝒱₀ ER (rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_now])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_now m c (.dma s))) $$ Hpay
  imod (Rounds.cell_close ER (rd m) (Set.mem_univ κ) (fun h => h) (R := 0 + 1) (duties_later m ((c : Thread nD τ), .dma s))) $$ [Hat] with Hz
  · isplitr; · iexact HI
    iexact Hat
  iapply Hk
  isplitl [HO]; · iexists _; iexact HO
  isplitl [Hp]; · iexact Hp
  iexact Hz

/-- The wait that gives a sent block back. -/
theorem wp_back {α : Type} {Q : α → sProp 𝕄} {kt : PUnit → Prog (TpuEff nD τ sig (Elt F) Λ₀ .tc) α} (c : Dev nD) (k : Fin 7)
    (s : DmaSem sig) (es : s = sendS k) (o₁ o₂ : Fin 3 → ℕ)
    (h₁ : ∀ a, o₁ a + S1x2x768.size a ≤ S8x2x768.size a) (h₂ : ∀ a, o₂ a + S1x2x768.size a ≤ S8x2x768.size a)
    {hsrc : (slot (Memref.whole main_v1) o₁ h₁).view.WordExact} {hdst : (slot (Memref.whole main_arg0) o₂ h₂).view.WordExact} :
    iprop(known m K c k ∗ cred (tallyAt (sendCell k c) () N) ∗ owing c 0 ∗ atPos ER (sendCell k c) 0 ∅ 0)
      ⊢ iprop(((owing c 0 ∗ inPts c (peer k c) (inM m c) ∗ semVal (sendCell k c) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s (slot (Memref.whole main_v1) o₁ h₁) (slot (Memref.whole main_arg0) o₂ h₂) hsrc hdst) kt) Q) := by
  rw [← pay_send m k c]
  refine (sep_mono_left ?_).trans (wp_collect m c (K (c, .inl (.inl k))) (sendS k) s es (slot (Memref.whole main_v1) o₁ h₁) (slot (Memref.whole main_arg0) o₂ h₂) rfl)
  unfold known
  iintro ⟨#HI, -⟩; iexact HI
/-- The wait for a partner's block. -/
theorem wp_fetch {α : Type} {Q : α → sProp 𝕄} {kt : PUnit → Prog (TpuEff nD τ sig (Elt F) Λ₀ .tc) α} (c : Dev nD) (k : Fin 7)
    (s : DmaSem sig) (es : s = recvS k) (o₁ o₂ : Fin 3 → ℕ)
    (h₁ : ∀ a, o₁ a + S1x2x768.size a ≤ S8x2x768.size a) (h₂ : ∀ a, o₂ a + S1x2x768.size a ≤ S8x2x768.size a)
    {hsrc : (slot (Memref.whole main_arg0) o₂ h₂).view.WordExact} {hdst : (slot (Memref.whole main_v1) o₁ h₁).view.WordExact} :
    iprop(known m K c k ∗ cred (tallyAt (recvCell k c) () N) ∗ owing c 0 ∗ atPos ER (recvCell k c) 0 ∅ 0)
      ⊢ iprop(((owing c 0 ∗ outPts c (peer k c) (landed m c) ∗ semVal (recvCell k c) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s (slot (Memref.whole main_arg0) o₂ h₂) (slot (Memref.whole main_v1) o₁ h₁) hsrc hdst) kt) Q) := by
  rw [← pay_recv m k c]
  refine (sep_mono_left ?_).trans (wp_collect m c (K (c, .inl (.inr k))) (recvS k) s es (slot (Memref.whole main_arg0) o₂ h₂) (slot (Memref.whole main_v1) o₁ h₁) rfl)
  unfold known
  iintro ⟨-, -, #HI, -⟩; iexact HI

end Ops

/-! ## Where the printed offsets and numbers point -/

theorem off_own (c : Dev nD) : k0_off1 c = offAt c := by revert c; decide +kernel
theorem off_peer0 (c : Dev nD) : k0_off2 c = offAt (peer 0 c) := by revert c; decide +kernel
theorem off_peer1 (c : Dev nD) : k0_off3 c = offAt (peer 1 c) := by revert c; decide +kernel
theorem off_peer2 (c : Dev nD) : k0_off4 c = offAt (peer 2 c) := by revert c; decide +kernel
theorem off_peer3 (c : Dev nD) : k0_off5 c = offAt (peer 3 c) := by revert c; decide +kernel
theorem off_peer4 (c : Dev nD) : k0_off6 c = offAt (peer 4 c) := by revert c; decide +kernel
theorem off_peer5 (c : Dev nD) : k0_off7 c = offAt (peer 5 c) := by revert c; decide +kernel
theorem off_peer6 (c : Dev nD) : k0_off8 c = offAt (peer 6 c) := by revert c; decide +kernel
theorem dev_peer0 (c : Dev nD) : (⟨k0_dev1 c, k0_dev1_lt c⟩ : Dev nD) = peer 0 c := Fin.ext (by revert c; decide +kernel)
theorem dev_peer1 (c : Dev nD) : (⟨k0_dev2 c, k0_dev2_lt c⟩ : Dev nD) = peer 1 c := Fin.ext (by revert c; decide +kernel)
theorem dev_peer2 (c : Dev nD) : (⟨k0_dev3 c, k0_dev3_lt c⟩ : Dev nD) = peer 2 c := Fin.ext (by revert c; decide +kernel)
theorem dev_peer3 (c : Dev nD) : (⟨k0_dev4 c, k0_dev4_lt c⟩ : Dev nD) = peer 3 c := Fin.ext (by revert c; decide +kernel)
theorem dev_peer4 (c : Dev nD) : (⟨k0_dev5 c, k0_dev5_lt c⟩ : Dev nD) = peer 4 c := Fin.ext (by revert c; decide +kernel)
theorem dev_peer5 (c : Dev nD) : (⟨k0_dev6 c, k0_dev6_lt c⟩ : Dev nD) = peer 5 c := Fin.ext (by revert c; decide +kernel)
theorem dev_peer6 (c : Dev nD) : (⟨k0_dev7 c, k0_dev7_lt c⟩ : Dev nD) = peer 6 c := Fin.ext (by revert c; decide +kernel)

/-! ## The run of the body -/

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- A device at the body's start, at the cells' names `K`. -/
def opening (c : Dev nD) (k : Fin 7) : sProp 𝕄 :=
  iprop(known m K c k ∗ toSend m c k ∗ places c k ∗ cred (tallyAt (recvCell k c) () N))
def ownOpening (c : Dev nD) : sProp 𝕄 := iprop(ownKnown m K c ∗ toCopy m c ∗ atPos ER (ownCell c) 0 ∅ 0)
def Φ₁ (c : Dev nD) : sProp 𝕄 := iprop(copied m c ∗ bigSep Finset.univ fun k : Fin 7 => traded m c k)

theorem O₀_chain (c : Dev nD) : O₀ c = 0 + due 6 c + due 5 c + due 4 c + due 3 c + due 2 c + due 1 c + due 0 c := by
  unfold O₀
  rw [Fin.sum_univ_seven]
  rw [zero_add]; ac_rfl

set_option maxHeartbeats 1600000 in
theorem body_run (c : Dev nD) (t : Fin cfg0.N) (Kt : PUnit → sProp 𝕄) :
    iprop(ownOpening m K c ∗ (bigSep Finset.univ fun k : Fin 7 => opening m K c k) ∗ owing c (O₀ c) ∗ ((Φ₁ m c ∗ owing c 0) -∗ Kt ⟨⟩))
      ⊢ wp frame (wpE (defs₀ (F := F)) 𝒱₀ (c : Thread nD τ) none) Set.univ (bodyAt0 t) Kt := by
  unfold bodyAt0
  simp only [cc0_exchange_mod_eq_skeleton, k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold cc0_exchange_mod_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [Prog.lift, Prog.bind_op, Prog.bind_ret, Prog.pure_eq_ret, wp_deviceId]
  rw [bigSep_fin7, O₀_chain]
  unfold ownOpening opening places
  iintro ⟨⟨#Hko, Hcp, Hao⟩, ⟨⟨#Hk0, Hs0, ⟨Ha0, Hb0⟩, Hr0⟩, ⟨#Hk1, Hs1, ⟨Ha1, Hb1⟩, Hr1⟩, ⟨#Hk2, Hs2, ⟨Ha2, Hb2⟩, Hr2⟩, ⟨#Hk3, Hs3, ⟨Ha3, Hb3⟩, Hr3⟩, ⟨#Hk4, Hs4, ⟨Ha4, Hb4⟩, Hr4⟩, ⟨#Hk5, Hs5, ⟨Ha5, Hb5⟩, Hr5⟩, ⟨#Hk6, Hs6, ⟨Ha6, Hb6⟩, Hr6⟩⟩, HO, Hend⟩
  iapply (wp_copy_own m K c _ _ _ (off_own c) _ rfl) $$ [$Hko $Hcp]
  iintro Hco
  iapply (wp_send_to m K c 0 _ _ (dev_peer0 c) _ _ _ _ (off_own c) (off_peer0 c) _ _ rfl rfl) $$ [$Hk0 $Hs0 $HO]
  iintro ⟨Hc0, HO⟩
  iapply (wp_send_to m K c 1 _ _ (dev_peer1 c) _ _ _ _ (off_own c) (off_peer1 c) _ _ rfl rfl) $$ [$Hk1 $Hs1 $HO]
  iintro ⟨Hc1, HO⟩
  iapply (wp_send_to m K c 2 _ _ (dev_peer2 c) _ _ _ _ (off_own c) (off_peer2 c) _ _ rfl rfl) $$ [$Hk2 $Hs2 $HO]
  iintro ⟨Hc2, HO⟩
  iapply (wp_send_to m K c 3 _ _ (dev_peer3 c) _ _ _ _ (off_own c) (off_peer3 c) _ _ rfl rfl) $$ [$Hk3 $Hs3 $HO]
  iintro ⟨Hc3, HO⟩
  iapply (wp_send_to m K c 4 _ _ (dev_peer4 c) _ _ _ _ (off_own c) (off_peer4 c) _ _ rfl rfl) $$ [$Hk4 $Hs4 $HO]
  iintro ⟨Hc4, HO⟩
  iapply (wp_send_to m K c 5 _ _ (dev_peer5 c) _ _ _ _ (off_own c) (off_peer5 c) _ _ rfl rfl) $$ [$Hk5 $Hs5 $HO]
  iintro ⟨Hc5, HO⟩
  iapply (wp_send_to m K c 6 _ _ (dev_peer6 c) _ _ _ _ (off_own c) (off_peer6 c) _ _ rfl rfl) $$ [$Hk6 $Hs6 $HO]
  iintro ⟨Hc6, HO⟩
  ihave HIo := (show ownKnown m K c ⊢ cellInv ER (rd m) (K (c, .inr ())) (ownCell c) from by unfold ownKnown; iintro ⟨H, -⟩; iexact H) $$ Hko
  iapply (wp_collect m c _ ownS _ rfl (slot (Memref.whole main_arg0) _ (k0_off1_inb c)) (slot (Memref.whole main_v1) _ (k0_off1_inb c)) rfl) $$ [HIo Hco HO Hao]
  · isplitl [HIo]; · iexact HIo
    isplitl [Hco]; · iexact Hco
    isplitl [HO]; · iexact HO
    iexact Hao
  iintro ⟨HO, Hown, Hzo⟩
  iapply (wp_back m K c 0 _ rfl _ _ _ _) $$ [$Hk0 $Hc0 $HO $Ha0]
  iintro ⟨HO, Hs0, Hy0⟩
  iapply (wp_fetch m K c 0 _ rfl _ _ _ _) $$ [$Hk0 $Hr0 $HO $Hb0]
  iintro ⟨HO, Hr0, Hz0⟩
  iapply (wp_back m K c 1 _ rfl _ _ _ _) $$ [$Hk1 $Hc1 $HO $Ha1]
  iintro ⟨HO, Hs1, Hy1⟩
  iapply (wp_fetch m K c 1 _ rfl _ _ _ _) $$ [$Hk1 $Hr1 $HO $Hb1]
  iintro ⟨HO, Hr1, Hz1⟩
  iapply (wp_back m K c 2 _ rfl _ _ _ _) $$ [$Hk2 $Hc2 $HO $Ha2]
  iintro ⟨HO, Hs2, Hy2⟩
  iapply (wp_fetch m K c 2 _ rfl _ _ _ _) $$ [$Hk2 $Hr2 $HO $Hb2]
  iintro ⟨HO, Hr2, Hz2⟩
  iapply (wp_back m K c 3 _ rfl _ _ _ _) $$ [$Hk3 $Hc3 $HO $Ha3]
  iintro ⟨HO, Hs3, Hy3⟩
  iapply (wp_fetch m K c 3 _ rfl _ _ _ _) $$ [$Hk3 $Hr3 $HO $Hb3]
  iintro ⟨HO, Hr3, Hz3⟩
  iapply (wp_back m K c 4 _ rfl _ _ _ _) $$ [$Hk4 $Hc4 $HO $Ha4]
  iintro ⟨HO, Hs4, Hy4⟩
  iapply (wp_fetch m K c 4 _ rfl _ _ _ _) $$ [$Hk4 $Hr4 $HO $Hb4]
  iintro ⟨HO, Hr4, Hz4⟩
  iapply (wp_back m K c 5 _ rfl _ _ _ _) $$ [$Hk5 $Hc5 $HO $Ha5]
  iintro ⟨HO, Hs5, Hy5⟩
  iapply (wp_fetch m K c 5 _ rfl _ _ _ _) $$ [$Hk5 $Hr5 $HO $Hb5]
  iintro ⟨HO, Hr5, Hz5⟩
  iapply (wp_back m K c 6 _ rfl _ _ _ _) $$ [$Hk6 $Hc6 $HO $Ha6]
  iintro ⟨HO, Hs6, Hy6⟩
  iapply (wp_fetch m K c 6 _ rfl _ _ _ _) $$ [$Hk6 $Hr6 $HO $Hb6]
  iintro ⟨HO, Hr6, Hz6⟩
  rw [wp_ret]; imodintro
  iapply Hend
  isplitr [HO]
  · unfold Φ₁ copied
    rw [bigSep_fin7]
    unfold traded
    isplitl [Hown Hzo]
    · isplitl [Hown]; · iapply (Entails.of_eq (pay_own m c)); iexact Hown
      iexact Hzo
    isplitl [Hs0 Hr0 Hy0 Hz0]; · iframe Hs0 Hr0 Hy0 Hz0
    isplitl [Hs1 Hr1 Hy1 Hz1]; · iframe Hs1 Hr1 Hy1 Hz1
    isplitl [Hs2 Hr2 Hy2 Hz2]; · iframe Hs2 Hr2 Hy2 Hz2
    isplitl [Hs3 Hr3 Hy3 Hz3]; · iframe Hs3 Hr3 Hy3 Hz3
    isplitl [Hs4 Hr4 Hy4 Hz4]; · iframe Hs4 Hr4 Hy4 Hz4
    isplitl [Hs5 Hr5 Hy5 Hz5]; · iframe Hs5 Hr5 Hy5 Hz5
    iframe Hs6 Hr6 Hy6 Hz6
  · iexact HO

end Cert.ExchangeModel

end
-- ==== Proof.ExchangeRun.lean ====
/-
The run of the exchange kernel over the mesh, for any float values: the arrays' rows and the duties dealt before any
device starts, each device's body, and what the memory holds at the end.
-/
module

public import proofs.«01_k».proof.Proof.ExchangeBody

@[expose] public section

set_option Elab.async false

noncomputable section

namespace Cert.ExchangeModel

open Kernel19 Kernel19.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- A device's start: all that the global step made for it, and the credit of the seven blocks to come. -/
def G' (c : Dev nD) : sProp 𝕄 :=
  iprop(∃ K, ownOpening m K c ∗ bigSep Finset.univ fun k : Fin 7 => iprop(known m K c k ∗ toSend m c k ∗ places c k))
def Φ₀ (c : Dev nD) : sProp 𝕄 :=
  iprop(∃ K, ownOpening m K c ∗ bigSep Finset.univ fun k : Fin 7 => opening m K c k)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_obligation (c : Dev nD) : BodyObligation (dats (F := F) m 0 c) (defs₀ (F := F)) 𝒱₀ () Set.univ := fun t => by
  rw [fin_N0 t]
  iintro ⟨HΦ, Ho, -⟩
  ihave HΦ := (show (dats m 0 c).Φ (t0_0 : Fin cfg0.N).castSucc ⊢ Φ₀ m c from BI.Entails.refl _) $$ HΦ
  unfold Φ₀ Dat.owesAt Pipeline.owesWithin
  icases HΦ with ⟨%K, Hown, Hk⟩
  icases Ho with ⟨%W, -, HO⟩
  iapply (show _ ⊢ wp frame (wpE (defs₀ (F := F)) 𝒱₀ c none) Set.univ (defs₀ (F := F) .tc cfg0.body (cfg0.bodyArgs t0_0 (cfg0.slots t0_0))) _ from body_run m K c t0_0 _)
  isplitl [Hown]; · iexact Hown
  isplitl [Hk]; · iexact Hk
  isplitl [HO]
  · unfold owing; iexists W; iexact HO
  unfold owing
  iintro ⟨HΦ, ⟨%W', HO⟩⟩
  isplitl [HΦ]; · iapply (show Φ₁ m c ⊢ (dats m 0 c).Φ (t0_0 : Fin cfg0.N).succ from BI.Entails.refl _); iexact HΦ
  isplitl [HO]
  · iexists W'
    isplitr; · ipureintro; exact fun _ _ => Or.inl trivial
    iexact HO
  iapply (nothing_intro (F := F) (n := cfg0.W) rfl); iempintro

/-! ## What the launch funds -/

def cellsAll : Finset (GSem nD τ sig) := Finset.univ.map ⟨kcell, kcell_injective⟩
def toksAll : Finset (GSem nD τ sig × ℕ × Unit) :=
  Finset.univ.map ⟨fun ck : Dev nD × KK => (kcell ck, 0, ()), fun _ _ h => kcell_injective (congrArg Prod.fst h)⟩
def u₀ : UU := (initOf (Pipeline.cells cfgs cellOf_inj) (Pipeline.launchToks cfgs cellOf_inj), initOf cellsAll toksAll)

/-- One thing for each of a device's fifteen semaphores. -/
def each (c : Dev nD) (Φ : GSem nD τ sig → sProp 𝕄) : sProp 𝕄 := bigSep Finset.univ fun k : KK => Φ (kcell (c, k))

theorem each_split (c : Dev nD) (Φ : GSem nD τ sig → sProp 𝕄) :
    each c Φ = iprop(((bigSep Finset.univ fun k : Fin 7 => Φ (sendCell k c)) ∗ bigSep Finset.univ fun k : Fin 7 => Φ (recvCell k c)) ∗ Φ (ownCell c)) := by
  unfold each
  rw [BI.bigSep_univ_sum, BI.bigSep_univ_sum, BI.bigSep_univ_of_subsingleton (i := ())]
  rfl

def G (c : Dev nD) : sProp 𝕄 :=
  iprop(each c (fun g => roundState ER (rd m) g 0) ∗ each c (fun g => reached ER g 0) ∗ each c (fun g => atPos ER g 0 ∅ 0) ∗ each c fun g => dutyTok ER g 0 ())

theorem fund_cells : BI.own (ER (initOf cellsAll toksAll)) ⊢ (|==> bigSep Finset.univ (G m) : sProp 𝕄) := by
  have hX (Φ : GSem nD τ sig → sProp 𝕄) : bigSep cellsAll Φ = bigSep Finset.univ fun c : Dev nD => each c Φ := by
    unfold cellsAll; rw [BI.bigSep_map, BI.bigSep_univ_prod]; rfl
  have hT : bigSep toksAll (fun x => (dutyTok ER x.1 x.2.1 x.2.2 : sProp 𝕄)) = bigSep Finset.univ fun c : Dev nD => each c fun g => dutyTok ER g 0 () := by
    unfold toksAll; rw [BI.bigSep_map, BI.bigSep_univ_prod]; rfl
  iintro HX
  imod (Rounds.fund ER (rd m) cellsAll toksAll) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat] <;> iassumption

/-! ## The global step -/

/-- A device's rows, places and duties, apart from those it keeps for its own copy: what stays with it and what goes to
    the partner the row and the duty are for. -/
def stays (c : Dev nD) (k : Fin 7) : sProp 𝕄 := iprop(inPts c (peer k c) (inM m c) ∗ dutyTok ER (sendCell k c) 0 () ∗ places c k)
def goes (k : Fin 7) (c j : Dev nD) : sProp 𝕄 := iprop(outPts c j (outM m c) ∗ dutyTok ER (recvCell k c) 0 ())
def ownPart (c : Dev nD) : sProp 𝕄 := iprop(toCopy m c ∗ atPos ER (ownCell c) 0 ∅ 0)

theorem split_device (c : Dev nD) :
    iprop(arraysOf m c ∗ each c (fun g => atPos ER g 0 ∅ 0) ∗ each c fun g => dutyTok ER g 0 ())
      ⊢ iprop(ownPart m c ∗ (bigSep Finset.univ fun k : Fin 7 => stays m c k) ∗ bigSep Finset.univ fun k : Fin 7 => goes m k c (peer k c)) := by
  unfold arraysOf
  rw [in_rows, out_rows, bigSep_around c, bigSep_around c, each_split, each_split]
  unfold ownPart toCopy stays goes places
  simp only [bigSep_sep']
  iintro ⟨⟨⟨Hic, Hi⟩, ⟨Hoc, Ho⟩⟩, ⟨⟨Has, Har⟩, Hao⟩, ⟨⟨Hts, Htr⟩, Hto⟩⟩
  iframe Hic Hi Hoc Ho Has Har Hao Hts Htr Hto

theorem join_device (c : Dev nD) (k : Fin 7) : iprop(stays m c k ∗ goes m k (peer k c) c) ⊢ iprop(toSend m c k ∗ places c k) := by
  unfold stays goes toSend
  iintro ⟨⟨Hi, Hts, Hp⟩, ⟨Ho, Htr⟩⟩
  iframe Hi Hts Hp Ho Htr

theorem deal : (bigSep Finset.univ fun c : Dev nD => iprop(arraysOf m c ∗ each c (fun g => atPos ER g 0 ∅ 0) ∗ each c fun g => dutyTok ER g 0 ()))
    ⊢ bigSep Finset.univ fun c : Dev nD => iprop(ownPart m c ∗ bigSep Finset.univ fun k : Fin 7 => iprop(toSend m c k ∗ places c k)) := by
  refine (bigSep_mono fun c _ => split_device m c).trans ?_
  simp only [bigSep_sep']
  rw [bigSep_sides (goes m)]
  show (_ : sProp 𝕄) ⊢ _
  iintro ⟨Ho, Hs, Hg⟩
  isplitl [Ho]; · iexact Ho
  have h : iprop((bigSep Finset.univ fun c : Dev nD => bigSep Finset.univ fun k : Fin 7 => stays m c k)
      ∗ bigSep Finset.univ fun c : Dev nD => bigSep Finset.univ fun k : Fin 7 => goes m k (peer k c) c)
      ⊢ bigSep Finset.univ fun c : Dev nD => bigSep Finset.univ fun k : Fin 7 => iprop(toSend m c k ∗ places c k) := by
    rw [← bigSep_sep']
    refine bigSep_mono fun c _ => ?_
    rw [← bigSep_sep']
    exact bigSep_mono fun k _ => join_device m c k
  ihave H := h $$ [Hs Hg]
  · isplitl [Hs] <;> iassumption
  simp only [bigSep_sep']
  iexact H

def records (K : Dev nD × KK → ℕ) : sProp 𝕄 :=
  iprop((bigSep Finset.univ fun ck : Dev nD × KK => cellInv ER (rd m) (K ck) (kcell ck)) ∗ bigSep Finset.univ fun ck : Dev nD × KK => reached ER (kcell ck) 0)
instance records_persistent (K : Dev nD × KK → ℕ) : BI.Persistent (records m K) := by unfold records; infer_instance

theorem inv_of (K : Dev nD × KK → ℕ) (ck : Dev nD × KK) : records m K ⊢ cellInv ER (rd m) (K ck) (kcell ck) := by
  unfold records
  iintro ⟨H, -⟩
  iapply (show _ ⊢ cellInv ER (rd m) (K ck) (kcell ck) from bigSep_elim (Φ := fun ck => cellInv ER (rd m) (K ck) (kcell ck)) (Finset.mem_univ ck)); iexact H
theorem reached_of (K : Dev nD × KK → ℕ) (ck : Dev nD × KK) : records m K ⊢ reached ER (kcell ck) 0 := by
  unfold records
  iintro ⟨-, H⟩
  iapply (show _ ⊢ (reached ER (kcell ck) 0 : sProp 𝕄) from bigSep_elim (Φ := fun ck : Dev nD × KK => (reached ER (kcell ck) 0 : sProp 𝕄)) (Finset.mem_univ ck)); iexact H

theorem known_of (K : Dev nD × KK → ℕ) (c : Dev nD) (k : Fin 7) : records m K ⊢ known m K c k := by
  unfold known
  iintro #H
  isplitr; · iapply (inv_of m K (c, .inl (.inl k))); iexact H
  isplitr; · iapply (inv_of m K (peer k c, .inl (.inr k))); iexact H
  isplitr; · iapply (inv_of m K (c, .inl (.inr k))); iexact H
  isplitr; · iapply (reached_of m K (c, .inl (.inl k))); iexact H
  iapply (reached_of m K (peer k c, .inl (.inr k))); iexact H

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans ((Entails.of_eq (bigSep_sep' S (fun _ => R) Φ).symm).trans (bigSep_mono h))

theorem ready (K : Dev nD × KK → ℕ) (c : Dev nD) :
    iprop(records m K ∗ (ownPart m c ∗ bigSep Finset.univ fun k : Fin 7 => iprop(toSend m c k ∗ places c k))) ⊢ G' m c := by
  unfold G' ownOpening ownPart ownKnown
  iintro ⟨#HR, ⟨⟨Hcp, Hao⟩, Hk⟩⟩
  iexists K
  isplitl [Hcp Hao]
  · isplitr
    · isplitr; · iapply (inv_of m K (c, .inr ())); iexact HR
      iapply (reached_of m K (c, .inr ())); iexact HR
    isplitl [Hcp] <;> iassumption
  iapply (with_records (R := records m K) fun k _ => sep_mono_left (known_of m K c k))
  isplitr; · iexact HR
  iexact Hk

theorem alloc (c : Dev nD) :
    iprop(Pipeline.ownSems0 (Ix := Unit) (Name := ℕ) (U := UU) (Lvl := ℕ) (Val := Elt F) (τ := τ) osem c ∗ each c (fun g => roundState ER (rd m) g 0))
      ⊢ |={Set.univ}=> bigSep Finset.univ fun k : KK => iprop(∃ κ : ℕ, cellInv ER (rd m) κ (kcell (c, k))) := by
  rw [show (Pipeline.ownSems0 (Ix := Unit) (Name := ℕ) (U := UU) (Lvl := ℕ) (Val := Elt F) (τ := τ) osem c : sProp 𝕄)
    = bigSep Finset.univ fun k : KK => semVal (kcell (c, k)) 0 from rfl]
  unfold each
  rw [← bigSep_sep']
  exact (bigSep_mono fun k _ => (Rounds.body_intro ER (rd m) (kcell (c, k))).trans inv_alloc).trans (bigSep_fupd _ _)

theorem glob : (bigSep Finset.univ fun c => iprop(Pipeline.ownSems0 (Ix := Unit) (Name := ℕ) (U := UU) (Lvl := ℕ) (Val := Elt F) (τ := τ) osem c ∗ arraysOf m c ∗ G m c) : sProp 𝕄)
    ⊢ |={Set.univ}=> bigSep Finset.univ (G' m) := by
  unfold G
  simp only [bigSep_sep']
  iintro ⟨Hv, Ha, Hst, Hr, Hat, Ht⟩
  imod (show iprop((bigSep Finset.univ fun c : Dev nD => (Pipeline.ownSems0 (Ix := Unit) (Name := ℕ) (U := UU) (Lvl := ℕ) (Val := Elt F) (τ := τ) osem c : sProp 𝕄))
        ∗ bigSep Finset.univ fun c : Dev nD => each c (fun g => roundState ER (rd m) g 0))
      ⊢ (|={Set.univ}=> bigSep Finset.univ fun c : Dev nD => bigSep Finset.univ fun k : KK => iprop(∃ κ : ℕ, cellInv ER (rd m) κ (kcell (c, k))) : sProp 𝕄) from by
        rw [← bigSep_sep']
        exact (bigSep_mono fun c _ => alloc m c).trans (bigSep_fupd _ _)) $$ [Hv Hst] with HI
  · isplitl [Hv] <;> iassumption
  imodintro
  ihave HI := (Entails.of_eq (BI.bigSep_univ_prod (fun ck : Dev nD × KK => iprop(∃ κ : ℕ, (cellInv ER (rd m) κ (kcell ck) : sProp 𝕄)))).symm) $$ HI
  ihave HK := (BI.bigSep_exists_pi Finset.univ (fun (ck : Dev nD × KK) (κ : ℕ) => (cellInv ER (rd m) κ (kcell ck) : sProp 𝕄))) $$ HI
  icases HK with ⟨%K, HI⟩
  ihave Hr := (show (bigSep Finset.univ fun c : Dev nD => each c fun g => reached ER g 0) ⊢ bigSep Finset.univ fun ck : Dev nD × KK => (reached ER (kcell ck) 0 : sProp 𝕄) from
    Entails.of_eq (BI.bigSep_univ_prod (fun ck : Dev nD × KK => (reached ER (kcell ck) 0 : sProp 𝕄))).symm) $$ Hr
  iapply (with_records (R := records m K) fun c _ => ready m K c)
  isplitl [HI Hr]
  · unfold records; isplitl [HI] <;> iassumption
  iapply (deal m)
  simp only [bigSep_sep']
  isplitl [Ha]; · iexact Ha
  isplitl [Hat] <;> iassumption

/-! ## The run -/

theorem creds (c : Dev nD) : (Pipeline.launchCred O₀ c : sProp 𝕄) ⊢ bigSep Finset.univ fun k : Fin 7 => cred (tallyAt (recvCell k c) () N) := by
  unfold O₀
  rw [Pipeline.launchCred_sum]
  exact bigSep_mono fun k _ => Pipeline.launchCred_tallyAt (.dma (recvS k)) (peer k) (peer k) (peer_peer k) (peer_peer k) () N c

theorem enter (c : Dev nD) : iprop(Pipeline.launchCred O₀ c ∗ G' m c) ⊢ (dats m 0 c).Φ 0 := by
  rw [show (dats m 0 c).Φ 0 = Φ₀ m c from rfl]
  unfold Φ₀ G' opening
  iintro ⟨Hc, ⟨%K, Ho, Hk⟩⟩
  iexists K
  isplitl [Ho]; · iexact Ho
  ihave Hc := (creds c) $$ Hc
  simp only [bigSep_sep']
  icases Hk with ⟨H1, H2, H3⟩
  iframe H1 H2 H3 Hc

/-- A device's arrays at the end. -/
def arraysEnd (c : Dev nD) : sProp 𝕄 :=
  iprop((((c : Thread nD τ).loc main_arg0) ↦{fullShare} m ((c : Thread nD τ).loc main_arg0)) ∗ (((c : Thread nD τ).loc main_v1) ↦{fullShare} landed m c))

theorem leave (c : Dev nD) : (dats m 0 c).Φ (Fin.last cfg0.N)
    ⊢ iprop(arraysEnd m c ∗ Pipeline.ownSems0 (Ix := Unit) (Name := ℕ) (U := UU) (Lvl := ℕ) (Val := Elt F) (τ := τ) osem c) := by
  rw [show (dats m 0 c).Φ (Fin.last cfg0.N) = Φ₁ m c from rfl,
    show (Pipeline.ownSems0 (Ix := Unit) (Name := ℕ) (U := UU) (Lvl := ℕ) (Val := Elt F) (τ := τ) osem c : sProp 𝕄) = each c fun g => semVal g 0 from rfl, each_split]
  unfold arraysEnd Φ₁ copied traded
  rw [in_rows, out_rows, bigSep_around c, bigSep_around c]
  simp only [bigSep_sep']
  iintro ⟨⟨⟨Hoc, Hic⟩, Hzo⟩, ⟨Hi, Ho, Hs, Hr⟩⟩
  iframe Hoc Hic Hzo Hi Ho Hs Hr

/-- From any memory with zero counters every run ends, each device's blocks unchanged and its result holding, row by
    row, the blocks the others sent it, with every counter at zero. -/
theorem run : θ_run (defs (F := F)) (onTc (τ := τ) (main (F := F))) ⟨m, fun _ => 0, ρ⟩ (fun r =>
    (∀ c : Dev nD, r.2.mem ((c : Thread nD τ).loc main_arg0) = m ((c : Thread nD τ).loc main_arg0) ∧ r.2.mem ((c : Thread nD τ).loc main_v1) = landed m c)
      ∧ r.2.sem = fun _ => 0) :=
  launch ownSemFacts (dats m) (body_obligation m) m ρ O₀ (fun _ => rfl) (fun _ => rfl) (G m) (G' m) u₀
    (by
      unfold u₀
      iintro Hu
      ihave H := (ownU_pair _ _) $$ Hu
      icases H with ⟨HP, HX⟩
      imod (fund_cells m) $$ HX with HG
      imodintro
      isplitl [HP] <;> iassumption)
    (glob m) (enter m) (arraysEnd m) (leave m)
    (fun c s => s.mem ((c : Thread nD τ).loc main_arg0) = m ((c : Thread nD τ).loc main_arg0) ∧ s.mem ((c : Thread nD τ).loc main_v1) = landed m c)
    (fun c s' => by
      unfold arraysEnd
      iintro ⟨⟨Ha, Hv⟩, HSI⟩
      icombine HSI Ha gives %ha
      icombine HSI Hv gives %hv
      imodintro
      isplitr
      · ipureintro
        exact ⟨Buf.eq_of_forall_mem_univ ha, Buf.eq_of_forall_mem_univ hv⟩
      iexact HSI)
    (fun s h hs => ⟨h, sem_eq_zero_of_scoped (by decide) hs⟩)

end Cert.ExchangeModel

end
-- ==== Proof.ExchangeModClaims.lean ====
/- The exchange of the modulation's columns: each device's result is its block of the reference's array. -/
module

public import proofs.«01_k».proof.Defs
public import proofs.«01_k».proof.Proof.ExchangeRun
public import proofs.«01_k».proof.Proof.Gen.Kernel19Ideal
public import proofs.«01_k».proof.Proof.Gen.Reference19Ideal.Read
public import Idealize.ShloMosaic.Lib.LayoutAt

@[expose] public section

noncomputable section

namespace Cert.ExchangeMod

open Idealize.ShloMosaic Idealize.ShloMosaic.TcCoe Idealize.SL.Sem

/-- The run of the program at any float values, stated of the program the idealized one equals. -/
theorem run (m : (ℓ : Loc Kernel19.nD Kernel19.τ Kernel19.sig) → Buf (Elt Ideal) ℓ) (g : Dev Kernel19.nD → PrngReg) :
    θ_run (Kernel19.defs (F := Ideal)) (onTc (τ := Kernel19.τ) (Kernel19.main (F := Ideal))) ⟨m, fun _ => 0, g⟩ (fun r => ∀ c : Dev Kernel19.nD,
      r.2.mem (c.tc.loc Kernel19.main_v1) = ExchangeModel.landed m c ∧ r.2.mem (c.tc.loc Kernel19.main_arg0) = m (c.tc.loc Kernel19.main_arg0)) :=
  (θ_run _ _ _).mono (fun r h c => ⟨(h.1 c).2, (h.1 c).1⟩) (ExchangeModel.run m g)

theorem frame {F : FTy → Type} [FloatOps F] (m : (ℓ : Loc Kernel19.nD Kernel19.τ Kernel19.sig) → Buf (Elt F) ℓ) (g : Dev Kernel19.nD → PrngReg) :
    θ_run (Kernel19.defs (F := F)) (onTc (τ := Kernel19.τ) (Kernel19.main (F := F))) ⟨m, fun _ => 0, g⟩ (fun r =>
      (∀ c : Dev Kernel19.nD, r.2.mem (c.tc.loc Kernel19.main_arg0) = m (c.tc.loc Kernel19.main_arg0)) ∧ r.2.sem = fun _ => 0) :=
  (θ_run _ _ _).mono (fun r h => ⟨fun c => (h.1 c).1, h.2⟩) (ExchangeModel.run m g)

theorem kernel_frame : quiescent_Kernel19 := fun m g _ => frame m g
theorem ideal_frame : quiescent_Kernel19Ideal := fun m g _ => frame (F := Ideal) m g

/-- The reference's run keeps its argument and has no semaphores. -/
theorem reference_frame : quiescent_Reference19Ideal := fun m ρ _ =>
  (θ_run _ _ _).mono (fun r h => ⟨fun c => (h c).2, sem_eq_zero_of_no_sems rfl r.2⟩) (Reference19Ideal.Value.run (F := Ideal) m ρ)

/-- If each device holds its block of the whole array, what lands on it is its block of the reference's. -/
theorem landed_block (m : (ℓ : Loc Kernel19.nD Kernel19.τ Kernel19.sig) → Buf (Elt Ideal) ℓ)
    (x : (⟨Reference19Ideal.S64x2x768, .f32⟩ : BufTy).Contents (Elt Ideal))
    (h : ∀ c : Dev Kernel19.nD, m (c.tc.loc Kernel19.main_arg0) = Layout.block ⟨3, ![8, 2, 768]⟩ ⟨3, ![64, 2, 768]⟩ 0 8 c x) (c : Dev Kernel19.nD) :
    ExchangeModel.landed m c = Layout.block ⟨3, ![8, 2, 768]⟩ ⟨3, ![64, 2, 768]⟩ 0 8 c (Reference19Ideal.Read.val_main_v2 (F := Ideal) x) := by
  funext i
  change Kernel19.S8x2x768.Idx at i
  unfold ExchangeModel.landed
  rw [h]
  refine Eq.trans ?_ ((Reference19Ideal.Read.val_main_v2_apply (F := Ideal) x _).trans ((Reference19Ideal.Read.val_main_v1_apply (F := Ideal) x _).trans (Reference19Ideal.Read.val_main_v0_apply (F := Ideal) x _))).symm
  refine congrArg x (funext fun b => Fin.ext ?_)
  have hc : c.val < 8 := c.isLt
  have h0 : (i 0).val < 8 := (i 0).isLt
  have h1 : (i 1).val < 2 := (i 1).isLt
  have h2 : (i 2).val < 768 := (i 2).isLt
  match b with
  | ⟨0, _⟩ =>
    show (i 0).val * 8 + c.val = (((((((c.val * 8 + (i 0).val) * 2 + (i 1).val) * 768 + (i 2).val) / 1536 % 8) * 8 + (((c.val * 8 + (i 0).val) * 2 + (i 1).val) * 768 + (i 2).val) / 12288) * 2 + (((c.val * 8 + (i 0).val) * 2 + (i 1).val) * 768 + (i 2).val) / 768 % 2) * 768 + (((c.val * 8 + (i 0).val) * 2 + (i 1).val) * 768 + (i 2).val) % 768) / 1536
    omega
  | ⟨1, _⟩ =>
    show (i 1).val = (((((((c.val * 8 + (i 0).val) * 2 + (i 1).val) * 768 + (i 2).val) / 1536 % 8) * 8 + (((c.val * 8 + (i 0).val) * 2 + (i 1).val) * 768 + (i 2).val) / 12288) * 2 + (((c.val * 8 + (i 0).val) * 2 + (i 1).val) * 768 + (i 2).val) / 768 % 2) * 768 + (((c.val * 8 + (i 0).val) * 2 + (i 1).val) * 768 + (i 2).val) % 768) / 768 % 2
    omega
  | ⟨2, _⟩ =>
    show (i 2).val = (((((((c.val * 8 + (i 0).val) * 2 + (i 1).val) * 768 + (i 2).val) / 1536 % 8) * 8 + (((c.val * 8 + (i 0).val) * 2 + (i 1).val) * 768 + (i 2).val) / 12288) * 2 + (((c.val * 8 + (i 0).val) * 2 + (i 1).val) * 768 + (i 2).val) / 768 % 2) * 768 + (((c.val * 8 + (i 0).val) * 2 + (i 1).val) * 768 + (i 2).val) % 768) % 768
    omega

/-- The exchange of the modulation's columns: each device's result is its block of the reference's array. -/
theorem output : algebraic_Kernel19Ideal_Reference19Ideal := by
  intro m g m' g' _ hag
  refine ⟨Reference19Ideal.Read.val_main_v2 (F := Ideal) (m' ((0 : Dev Reference19Ideal.nD).tc.loc Reference19Ideal.main_arg0)), ?_, ?_⟩
  · exact (θ_run _ _ _).mono (fun r h c => ⟨(h c).1.trans (landed_block m _ hag c), (h c).2⟩) (run m g)
  · exact (θ_run _ _ _).mono (fun r h => ⟨(h 0).1.trans (Reference19Ideal.Read.val_main_v2_eq ..), (h 0).2⟩) (Reference19Ideal.Value.run (F := Ideal) m' g')

end Cert.ExchangeMod

end
-- ==== Proof.ModColumns.lean ====
/-
  The modulation's columns: the one grid point multiplies the condition's rows with the device's columns.
-/
module

public import proofs.«01_k».proof.Defs
public import proofs.«01_k».proof.Proof.Gen.Kernel20Ideal.Value
public import proofs.«01_k».proof.Proof.Gen.Reference20Ideal.Read
public import Idealize.ShloMosaic.Lib.Pipeline.ValueKit
public import Idealize.ShloMosaic.Lib.Claim

@[expose] public section

set_option maxRecDepth 16384

noncomputable section

namespace Cert.ModColumns

open Idealize.ShloMosaic Idealize.ShloMosaic.TcCoe Idealize.SL.Sem Kernel20Ideal Kernel20Ideal.Gen
open Reference20Ideal.Read

variable (m : (ℓ : Loc nD τ sig) → Buf (Elt Ideal) ℓ)

/-- Which blocks point `t` reads and writes. -/
theorem idx : ∀ t : Fin cfg0.N, win0_0.index t = ![0, 0] ∧ win0_1.index t = ![0, 0, 0] ∧ win0_2.index t = ![0, 0] :=
  (by decide +kernel : ∀ t : Fin grid0.N, win0_0.index t = ![0, 0] ∧ win0_1.index t = ![0, 0, 0] ∧ win0_2.index t = ![0, 0])

/-- The arrays the kernel was launched with, and the reference's result at them. -/
abbrev rows (c : Dev nD) : FVec Ideal S16x1024 .f32 := m ((c.tc : Thread nD τ).loc main_arg0)
abbrev weights (c : Dev nD) : FVec Ideal S2x1024x768 .f32 := m ((c.tc : Thread nD τ).loc main_arg1)
abbrev spec (c : Dev nD) : FVec Ideal S16x768 .f32 := val_main_v2 (F := Ideal) (rows m c) (weights m c)

/-- The product in the reference. -/
theorem ref_out (c : Dev nD) (r : Fin 16) (j : Fin 768) : spec m c (ix2 r j) = ∑ k : Fin 1024, rows m c (ix2 r k) * weights m c (ix3 0 k j) := by
  pointwise [spec, val_main_v2, val_main_v1, val_main_v0]

/-- The product of two blocks in the kernel's body. -/
theorem pay_out (x : FVec Ideal S16x1024 .f32) (w : FVec Ideal S1x1024x768 .f32) (r : Fin 16) (j : Fin 768) :
    k0_pay1 (F := Ideal) x w (ix2 r j) = ∑ k : Fin 1024, x (ix2 r k) * w (ix3 0 k j) := by
  pointwise [k0_pay1]

theorem blk_rows (c : Dev nD) (t : Fin cfg0.N) (r : Fin 16) (k : Fin 1024) : (iblk m c 0 t : FVec Ideal S16x1024 .f32) (ix2 r k) = rows m c (ix2 r k) := by
  blk_point [iblk, V, idx t]

theorem blk_weights (c : Dev nD) (t : Fin cfg0.N) (k : Fin 1024) (j : Fin 768) : (iblk m c 1 t : FVec Ideal S1x1024x768 .f32) (ix3 0 k j) = weights m c (ix3 0 k j) := by
  blk_point [iblk, V, idx t]

/-- The array after the run. -/
theorem final (c : Dev nD) : (dats m 0 c).arrAt 2 cfg0.N = spec m c := by
  refine (dats m 0 c).arrAt_eq_of_covers 2 _ (by decide +kernel) fun t hf y => ?_
  blk_simp
  rw [after0_2]
  idx_vars y
  have e : ((cfg0.win 2).blk t).view.emb (ix2 y0 y1) = ix2 (y0 : Fin 16) (y1 : Fin 768) := by blk_ext [idx t]
  refine Eq.trans ?_ (congrArg (spec m c) e).symm
  rw [ref_out]
  frame_out
  rw [pay_out]
  change (_ : EReal) = (_ : EReal)
  exact Finset.sum_congr rfl fun k _ => congrArg₂ (· * ·) (blk_rows m c t y0 k) (blk_weights m c t k y1)

/-- The reference's run keeps its arguments and has no semaphores. -/
theorem reference_frame : quiescent_Reference20Ideal := fun m ρ _ =>
  (θ_run _ _ _).mono (fun r h => ⟨fun c => (h c).2, sem_eq_zero_of_no_sems rfl r.2⟩) (Reference20Ideal.Value.run (F := Ideal) m ρ)

/-- The modulation's columns: the kernel's array is the reference's. -/
theorem output : algebraic_Kernel20Ideal_Reference20Ideal := by
  intro m g m' g' _ hag
  refine ⟨fun c => spec m c, ?_, ?_⟩
  · refine (θ_run _ _ _).mono (fun r h c => ?_) (Kernel20Ideal.Value.run_blocks m g)
    obtain rfl : c = 0 := Subsingleton.elim _ _
    obtain ⟨h0, rest⟩ := h 0
    exact ⟨h0.trans (final m 0), rest⟩
  · refine (θ_run _ _ _).mono (fun r h c => ?_) (Reference20Ideal.Value.run (F := Ideal) m' g')
    obtain ⟨e0, e1⟩ := hag c
    obtain ⟨h0, rest⟩ := h c
    exact ⟨h0.trans ((val_main_v2_eq ..).trans (congrArg₂ (val_main_v2 (F := Ideal)) e0 e1)), rest⟩

end Cert.ModColumns

end
-- ==== Proof.ModBias.lean ====
/-
  The modulation's bias: the one grid point adds it to all columns of both layers.
-/
module

public import proofs.«01_k».proof.Defs
public import proofs.«01_k».proof.Proof.Gen.Kernel21Ideal.Value
public import proofs.«01_k».proof.Proof.Gen.Reference21Ideal.Read
public import Idealize.ShloMosaic.Lib.Pipeline.ValueKit
public import Idealize.ShloMosaic.Lib.Claim

@[expose] public section

set_option maxRecDepth 16384

noncomputable section

namespace Cert.ModBias

open Idealize.ShloMosaic Idealize.ShloMosaic.TcCoe Idealize.SL.Sem Kernel21Ideal Kernel21Ideal.Gen
open Reference21Ideal.Read

variable (m : (ℓ : Loc nD τ sig) → Buf (Elt Ideal) ℓ)

/-- Which blocks point `t` reads and writes. -/
theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

/-- The arrays the kernel was launched with, and the reference's result at them. -/
abbrev columns (c : Dev nD) : FVec Ideal S2x6144 .f32 := m ((c.tc : Thread nD τ).loc main_arg0)
abbrev bias (c : Dev nD) : FVec Ideal S2x6144 .f32 := m ((c.tc : Thread nD τ).loc main_arg1)
abbrev spec (c : Dev nD) : FVec Ideal S2x6144 .f32 := val_main_v0 (F := Ideal) (columns m c) (bias m c)

theorem ref_out (c : Dev nD) (r : Fin 2) (j : Fin 6144) : spec m c (ix2 r j) = columns m c (ix2 r j) + bias m c (ix2 r j) := by
  pointwise [spec, val_main_v0]

theorem pay_out (x y : FVec Ideal S2x6144 .f32) (r : Fin 2) (j : Fin 6144) : k0_pay1 (F := Ideal) x y (ix2 r j) = x (ix2 r j) + y (ix2 r j) := by
  pointwise [k0_pay1]

theorem blk_columns (c : Dev nD) (t : Fin cfg0.N) (r : Fin 2) (j : Fin 6144) : (iblk m c 0 t : FVec Ideal S2x6144 .f32) (ix2 r j) = columns m c (ix2 r j) := by
  blk_point [iblk, V, idx t]

theorem blk_bias (c : Dev nD) (t : Fin cfg0.N) (r : Fin 2) (j : Fin 6144) : (iblk m c 1 t : FVec Ideal S2x6144 .f32) (ix2 r j) = bias m c (ix2 r j) := by
  blk_point [iblk, V, idx t]

/-- The array after the run. -/
theorem final (c : Dev nD) : (dats m 0 c).arrAt 2 cfg0.N = spec m c := by
  refine (dats m 0 c).arrAt_eq_of_covers 2 _ (by decide +kernel) fun t hf y => ?_
  blk_simp
  rw [after0_2]
  idx_vars y
  have e : ((cfg0.win 2).blk t).view.emb (ix2 y0 y1) = ix2 (y0 : Fin 2) (y1 : Fin 6144) := by blk_ext [idx t]
  refine Eq.trans ?_ (congrArg (spec m c) e).symm
  rw [ref_out]
  frame_out
  rw [pay_out, blk_columns, blk_bias]

/-- The reference's run keeps its arguments and has no semaphores. -/
theorem reference_frame : quiescent_Reference21Ideal := fun m ρ _ =>
  (θ_run _ _ _).mono (fun r h => ⟨fun c => (h c).2, sem_eq_zero_of_no_sems rfl r.2⟩) (Reference21Ideal.Value.run (F := Ideal) m ρ)

/-- The modulation's bias: the kernel's array is the reference's. -/
theorem output : algebraic_Kernel21Ideal_Reference21Ideal := by
  intro m g m' g' _ hag
  refine ⟨fun c => spec m c, ?_, ?_⟩
  · refine (θ_run _ _ _).mono (fun r h c => ?_) (Kernel21Ideal.Value.run_blocks m g)
    obtain rfl : c = 0 := Subsingleton.elim _ _
    obtain ⟨h0, rest⟩ := h 0
    exact ⟨h0.trans (final m 0), rest⟩
  · refine (θ_run _ _ _).mono (fun r h c => ?_) (Reference21Ideal.Value.run (F := Ideal) m' g')
    obtain ⟨e0, e1⟩ := hag c
    obtain ⟨h0, rest⟩ := h c
    exact ⟨h0.trans ((val_main_v0_eq ..).trans (congrArg₂ (val_main_v0 (F := Ideal)) e0 e1)), rest⟩

end Cert.ModBias

end
-- ==== Proof.MergedGrad.lean ====
/-
  The gradient at the merged branches: each grid point multiplies its rows with the transposed output weights.
-/
module

public import proofs.«01_k».proof.Defs
public import proofs.«01_k».proof.Proof.Gen.Kernel22Ideal.Value
public import proofs.«01_k».proof.Proof.Gen.Reference22Ideal.Read
public import Idealize.ShloMosaic.Lib.Pipeline.ValueKit
public import Idealize.ShloMosaic.Lib.Claim

@[expose] public section

set_option maxRecDepth 16384

noncomputable section

namespace Cert.MergedGrad

open Idealize.ShloMosaic Idealize.ShloMosaic.TcCoe Idealize.SL.Sem Kernel22Ideal Kernel22Ideal.Gen
open Reference22Ideal.Read

variable (m : (ℓ : Loc nD τ sig) → Buf (Elt Ideal) ℓ)

/-- Which blocks point `t` reads and writes. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

/-- The arrays the kernel was launched with, and the reference's result at them. -/
abbrev weights (c : Dev nD) : FVec Ideal S1024x1024 .f32 := m ((c.tc : Thread nD τ).loc main_arg1)
abbrev cts (c : Dev nD) : FVec Ideal S8192x1024 .f32 := m ((c.tc : Thread nD τ).loc main_arg2)
abbrev spec (c : Dev nD) : FVec Ideal S8192x1024 .bf16 := val_main_v2 (F := Ideal) (weights m c) (cts m c)

/-- The array's row that point `t` holds at row `r` of its block. -/
abbrev rowAt (t : Fin cfg0.N) (r : Fin 1024) : Fin 8192 := ⟨t.val * 1024 + r, by have : t.val < 8 := lt_of_lt_of_eq t.isLt N_0; omega⟩

/-- The product in the reference. -/
theorem ref_out (c : Dev nD) (r : Fin 8192) (j : Fin 1024) : spec m c (ix2 r j) = ∑ k : Fin 1024, cts m c (ix2 r k) * weights m c (ix2 j k) := by
  pointwise [spec, val_main_v2, val_main_v1]

/-- The product of two blocks in the kernel's body. -/
theorem pay_out (x : FVec Ideal S1024x1024 .bf16) (w : FVec Ideal S1x1024x1024 .bf16) (r : Fin 1024) (j : Fin 1024) :
    k0_pay1 (F := Ideal) x w (ix2 r j) = ∑ k : Fin 1024, x (ix2 r k) * w (ix3 0 j k) := by
  pointwise [k0_pay1]

theorem blk_cts (c : Dev nD) (t : Fin cfg0.N) (r k : Fin 1024) : (iblk m c 0 t : FVec Ideal S1024x1024 .bf16) (ix2 r k) = cts m c (ix2 (rowAt t r) k) := by
  blk_point [iblk, V, idx t]

theorem blk_weights (c : Dev nD) (t : Fin cfg0.N) (j : Fin 1024) (k : Fin 1024) : (iblk m c 1 t : FVec Ideal S1x1024x1024 .bf16) (ix3 0 j k) = weights m c (ix2 j k) := by
  blk_point [iblk, V, idx t]

/-- The array after the run. -/
theorem final (c : Dev nD) : (dats m 0 c).arrAt 2 cfg0.N = spec m c := by
  refine (dats m 0 c).arrAt_eq_of_covers 2 _ (by decide +kernel) fun t hf y => ?_
  blk_simp
  rw [after0_2]
  idx_vars y
  have ht : t.val < 8 := lt_of_lt_of_eq t.isLt N_0
  have e : ((cfg0.win 2).blk t).view.emb (ix2 y0 y1) = ix2 (rowAt t y0) (y1 : Fin 1024) := by blk_ext [idx t]
  refine Eq.trans ?_ (congrArg (spec m c) e).symm
  rw [ref_out]
  frame_out
  rw [pay_out]
  change (_ : EReal) = (_ : EReal)
  exact Finset.sum_congr rfl fun k _ => congrArg₂ (· * ·) (blk_cts m c t y0 k) (blk_weights m c t y1 k)

/-- The reference's run keeps its arguments and has no semaphores. -/
theorem reference_frame : quiescent_Reference22Ideal := fun m ρ _ =>
  (θ_run _ _ _).mono (fun r h => ⟨fun c => (h c).2, sem_eq_zero_of_no_sems rfl r.2⟩) (Reference22Ideal.Value.run (F := Ideal) m ρ)

/-- The gradient at the merged branches: the kernel's array is the reference's. -/
theorem output : algebraic_Kernel22Ideal_Reference22Ideal := by
  intro m g m' g' _ hag
  refine ⟨fun c => spec m c, ?_, ?_⟩
  · refine (θ_run _ _ _).mono (fun r h c => ?_) (Kernel22Ideal.Value.run_blocks m g)
    obtain rfl : c = 0 := Subsingleton.elim _ _
    obtain ⟨h0, rest⟩ := h 0
    exact ⟨h0.trans (final m 0), rest⟩
  · refine (θ_run _ _ _).mono (fun r h c => ?_) (Reference22Ideal.Value.run (F := Ideal) m' g')
    obtain ⟨e0, e1, e2⟩ := hag c
    obtain ⟨h0, rest⟩ := h c
    exact ⟨h0.trans ((val_main_v2_eq ..).trans (congrArg₂ (val_main_v2 (F := Ideal)) e1 e2)), rest⟩

end Cert.MergedGrad

end
-- ==== Proof.Projection.lean ====
/-
  The mixer's projection: each grid point makes 512 columns of its rows.
-/
module

public import proofs.«01_k».proof.Defs
public import proofs.«01_k».proof.Proof.Gen.Kernel23Ideal.Value
public import proofs.«01_k».proof.Proof.Gen.Reference23Ideal.Read
public import Idealize.ShloMosaic.Lib.Pipeline.ValueKit
public import Idealize.ShloMosaic.Lib.Claim

@[expose] public section

set_option maxRecDepth 16384

noncomputable section

namespace Cert.Projection

open Idealize.ShloMosaic Idealize.ShloMosaic.TcCoe Idealize.SL.Sem Kernel23Ideal Kernel23Ideal.Gen
open Reference23Ideal.Read

variable (m : (ℓ : Loc nD τ sig) → Buf (Elt Ideal) ℓ)

/-- Which blocks point `t` reads and writes. -/
theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, win0_0.index t = ![t.val / 8, 0] ∧ win0_1.index t = ![t.val % 8, 0, 0] ∧ win0_2.index t = ![t.val / 8, t.val % 8])

/-- The arrays the kernel was launched with, and the reference's result at them. -/
abbrev rows (c : Dev nD) : FVec Ideal S8192x1024 .f32 := m ((c.tc : Thread nD τ).loc main_arg0)
abbrev weights (c : Dev nD) : FVec Ideal S1024x4096 .f32 := m ((c.tc : Thread nD τ).loc main_arg1)
abbrev spec (c : Dev nD) : FVec Ideal S8192x4096 .f32 := val_main_v0 (F := Ideal) (rows m c) (weights m c)

/-- The array's row and column that point `t` holds at row `r` and column `j` of its blocks. -/
abbrev rowAt (t : Fin cfg0.N) (r : Fin 1024) : Fin 8192 := ⟨t.val / 8 * 1024 + r, by have : t.val < 64 := lt_of_lt_of_eq t.isLt N_0; omega⟩
abbrev colAt (t : Fin cfg0.N) (j : Fin 512) : Fin 4096 := ⟨t.val % 8 * 512 + j, by omega⟩

/-- The product in the reference. -/
theorem ref_out (c : Dev nD) (r : Fin 8192) (j : Fin 4096) : spec m c (ix2 r j) = ∑ k : Fin 1024, rows m c (ix2 r k) * weights m c (ix2 k j) := by
  pointwise [spec, val_main_v0]

/-- The product of two blocks in the kernel's body. -/
theorem pay_out (x : FVec Ideal S1024x1024 .bf16) (w : FVec Ideal S1x1024x512 .bf16) (r : Fin 1024) (j : Fin 512) :
    k0_pay1 (F := Ideal) x w (ix2 r j) = ∑ k : Fin 1024, x (ix2 r k) * w (ix3 0 k j) := by
  pointwise [k0_pay1]

theorem blk_rows (c : Dev nD) (t : Fin cfg0.N) (r k : Fin 1024) : (iblk m c 0 t : FVec Ideal S1024x1024 .bf16) (ix2 r k) = rows m c (ix2 (rowAt t r) k) := by
  blk_point [iblk, V, idx t]

theorem blk_weights (c : Dev nD) (t : Fin cfg0.N) (k : Fin 1024) (j : Fin 512) : (iblk m c 1 t : FVec Ideal S1x1024x512 .bf16) (ix3 0 k j) = weights m c (ix2 k (colAt t j)) := by
  blk_point [iblk, V, idx t]

/-- The array after the run. -/
theorem final (c : Dev nD) : (dats m 0 c).arrAt 2 cfg0.N = spec m c := by
  refine (dats m 0 c).arrAt_eq_of_covers 2 _ (by decide +kernel) fun t hf y => ?_
  blk_simp
  rw [after0_2]
  idx_vars y
  have ht : t.val < 64 := lt_of_lt_of_eq t.isLt N_0
  have e : ((cfg0.win 2).blk t).view.emb (ix2 y0 y1) = ix2 (rowAt t y0) (colAt t y1) := by blk_ext [idx t]
  refine Eq.trans ?_ (congrArg (spec m c) e).symm
  rw [ref_out]
  frame_out
  rw [pay_out]
  change (_ : EReal) = (_ : EReal)
  exact Finset.sum_congr rfl fun k _ => congrArg₂ (· * ·) (blk_rows m c t y0 k) (blk_weights m c t k y1)

/-- The reference's run keeps its arguments and has no semaphores. -/
theorem reference_frame : quiescent_Reference23Ideal := fun m ρ _ =>
  (θ_run _ _ _).mono (fun r h => ⟨fun c => (h c).2, sem_eq_zero_of_no_sems rfl r.2⟩) (Reference23Ideal.Value.run (F := Ideal) m ρ)

/-- The mixer's projection: the kernel's array is the reference's. -/
theorem output : algebraic_Kernel23Ideal_Reference23Ideal := by
  intro m g m' g' _ hag
  refine ⟨fun c => spec m c, ?_, ?_⟩
  · refine (θ_run _ _ _).mono (fun r h c => ?_) (Kernel23Ideal.Value.run_blocks m g)
    obtain rfl : c = 0 := Subsingleton.elim _ _
    obtain ⟨h0, rest⟩ := h 0
    exact ⟨h0.trans (final m 0), rest⟩
  · refine (θ_run _ _ _).mono (fun r h c => ?_) (Reference23Ideal.Value.run (F := Ideal) m' g')
    obtain ⟨e0, e1⟩ := hag c
    obtain ⟨h0, rest⟩ := h c
    exact ⟨h0.trans ((val_main_v0_eq ..).trans (congrArg₂ (val_main_v0 (F := Ideal)) e0 e1)), rest⟩

end Cert.Projection

end
-- ==== Proof.BranchGrad.lean ====
/-
  The gradient at a branch's output: each grid point multiplies its rows with the transposed weights of the branch.
-/
module

public import proofs.«01_k».proof.Defs
public import proofs.«01_k».proof.Proof.Gen.Kernel24Ideal.Value
public import proofs.«01_k».proof.Proof.Gen.Reference24Ideal.Read
public import Idealize.ShloMosaic.Lib.Pipeline.ValueKit
public import Idealize.ShloMosaic.Lib.Claim

@[expose] public section

set_option maxRecDepth 16384

noncomputable section

namespace Cert.BranchGrad

open Idealize.ShloMosaic Idealize.ShloMosaic.TcCoe Idealize.SL.Sem Kernel24Ideal Kernel24Ideal.Gen
open Reference24Ideal.Read

variable (m : (ℓ : Loc nD τ sig) → Buf (Elt Ideal) ℓ)

/-- Which blocks point `t` reads and writes. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

/-- The arrays the kernel was launched with, and the reference's result at them. -/
abbrev weights (c : Dev nD) : FVec Ideal S512x1024 .f32 := m ((c.tc : Thread nD τ).loc main_arg1)
abbrev cts (c : Dev nD) : FVec Ideal S8192x1024 .f32 := m ((c.tc : Thread nD τ).loc main_arg2)
abbrev spec (c : Dev nD) : FVec Ideal S8192x512 .bf16 := val_main_v2 (F := Ideal) (weights m c) (cts m c)

/-- The array's row that point `t` holds at row `r` of its block. -/
abbrev rowAt (t : Fin cfg0.N) (r : Fin 1024) : Fin 8192 := ⟨t.val * 1024 + r, by have : t.val < 8 := lt_of_lt_of_eq t.isLt N_0; omega⟩

/-- The product in the reference. -/
theorem ref_out (c : Dev nD) (r : Fin 8192) (j : Fin 512) : spec m c (ix2 r j) = ∑ k : Fin 1024, cts m c (ix2 r k) * weights m c (ix2 j k) := by
  pointwise [spec, val_main_v2, val_main_v1]

/-- The product of two blocks in the kernel's body. -/
theorem pay_out (x : FVec Ideal S1024x1024 .bf16) (w : FVec Ideal S1x512x1024 .bf16) (r : Fin 1024) (j : Fin 512) :
    k0_pay1 (F := Ideal) x w (ix2 r j) = ∑ k : Fin 1024, x (ix2 r k) * w (ix3 0 j k) := by
  pointwise [k0_pay1]

theorem blk_cts (c : Dev nD) (t : Fin cfg0.N) (r k : Fin 1024) : (iblk m c 0 t : FVec Ideal S1024x1024 .bf16) (ix2 r k) = cts m c (ix2 (rowAt t r) k) := by
  blk_point [iblk, V, idx t]

theorem blk_weights (c : Dev nD) (t : Fin cfg0.N) (j : Fin 512) (k : Fin 1024) : (iblk m c 1 t : FVec Ideal S1x512x1024 .bf16) (ix3 0 j k) = weights m c (ix2 j k) := by
  blk_point [iblk, V, idx t]

/-- The array after the run. -/
theorem final (c : Dev nD) : (dats m 0 c).arrAt 2 cfg0.N = spec m c := by
  refine (dats m 0 c).arrAt_eq_of_covers 2 _ (by decide +kernel) fun t hf y => ?_
  blk_simp
  rw [after0_2]
  idx_vars y
  have ht : t.val < 8 := lt_of_lt_of_eq t.isLt N_0
  have e : ((cfg0.win 2).blk t).view.emb (ix2 y0 y1) = ix2 (rowAt t y0) (y1 : Fin 512) := by blk_ext [idx t]
  refine Eq.trans ?_ (congrArg (spec m c) e).symm
  rw [ref_out]
  frame_out
  rw [pay_out]
  change (_ : EReal) = (_ : EReal)
  exact Finset.sum_congr rfl fun k _ => congrArg₂ (· * ·) (blk_cts m c t y0 k) (blk_weights m c t y1 k)

/-- The reference's run keeps its arguments and has no semaphores. -/
theorem reference_frame : quiescent_Reference24Ideal := fun m ρ _ =>
  (θ_run _ _ _).mono (fun r h => ⟨fun c => (h c).2, sem_eq_zero_of_no_sems rfl r.2⟩) (Reference24Ideal.Value.run (F := Ideal) m ρ)

/-- The gradient at a branch's output: the kernel's array is the reference's. -/
theorem output : algebraic_Kernel24Ideal_Reference24Ideal := by
  intro m g m' g' _ hag
  refine ⟨fun c => spec m c, ?_, ?_⟩
  · refine (θ_run _ _ _).mono (fun r h c => ?_) (Kernel24Ideal.Value.run_blocks m g)
    obtain rfl : c = 0 := Subsingleton.elim _ _
    obtain ⟨h0, rest⟩ := h 0
    exact ⟨h0.trans (final m 0), rest⟩
  · refine (θ_run _ _ _).mono (fun r h c => ?_) (Reference24Ideal.Value.run (F := Ideal) m' g')
    obtain ⟨e0, e1, e2⟩ := hag c
    obtain ⟨h0, rest⟩ := h c
    exact ⟨h0.trans ((val_main_v2_eq ..).trans (congrArg₂ (val_main_v2 (F := Ideal)) e1 e2)), rest⟩

end Cert.BranchGrad

end
-- ==== Proof.ModGrad.lean ====
/-
  The gradient of the modulation's weights: the one grid point multiplies the condition's rows with the columns' gradients.
-/
module

public import proofs.«01_k».proof.Defs
public import proofs.«01_k».proof.Proof.Gen.Kernel25Ideal.Value
public import proofs.«01_k».proof.Proof.Gen.Reference25Ideal.Read
public import Idealize.ShloMosaic.Lib.Pipeline.ValueKit
public import Idealize.ShloMosaic.Lib.Claim

@[expose] public section

set_option maxRecDepth 16384

noncomputable section

namespace Cert.ModGrad

open Idealize.ShloMosaic Idealize.ShloMosaic.TcCoe Idealize.SL.Sem Kernel25Ideal Kernel25Ideal.Gen
open Reference25Ideal.Read

variable (m : (ℓ : Loc nD τ sig) → Buf (Elt Ideal) ℓ)

/-- Which blocks point `t` reads and writes. -/
theorem idx : ∀ t : Fin cfg0.N, win0_0.index t = ![0, 0] ∧ win0_1.index t = ![0, 0, 0] ∧ win0_2.index t = ![0, 0] :=
  (by decide +kernel : ∀ t : Fin grid0.N, win0_0.index t = ![0, 0] ∧ win0_1.index t = ![0, 0, 0] ∧ win0_2.index t = ![0, 0])

/-- The arrays the kernel was launched with, and the reference's result at them. -/
abbrev rows (c : Dev nD) : FVec Ideal S16x1024 .f32 := m ((c.tc : Thread nD τ).loc main_arg0)
abbrev cts (c : Dev nD) : FVec Ideal S2x16x768 .f32 := m ((c.tc : Thread nD τ).loc main_arg2)
abbrev spec (c : Dev nD) : FVec Ideal S1024x768 .f32 := val_main_v4 (F := Ideal) (rows m c) (cts m c)

/-- The product in the reference. -/
theorem ref_out (c : Dev nD) (i : Fin 1024) (j : Fin 768) : spec m c (ix2 i j) = ∑ r : Fin 16, rows m c (ix2 r i) * cts m c (ix3 0 r j) := by
  pointwise [spec, val_main_v4, val_main_v3, val_main_v2, val_main_v1]
  exact Finset.sum_congr rfl fun k _ => mul_comm _ _

/-- The product of two blocks in the kernel's body. -/
theorem pay_out (x : FVec Ideal S16x1024 .f32) (y : FVec Ideal S1x16x768 .f32) (i : Fin 1024) (j : Fin 768) :
    k0_pay1 (F := Ideal) x y (ix2 i j) = ∑ r : Fin 16, x (ix2 r i) * y (ix3 0 r j) := by
  pointwise [k0_pay1]

theorem blk_rows (c : Dev nD) (t : Fin cfg0.N) (r : Fin 16) (i : Fin 1024) : (iblk m c 0 t : FVec Ideal S16x1024 .f32) (ix2 r i) = rows m c (ix2 r i) := by
  blk_point [iblk, V, idx t]

theorem blk_cts (c : Dev nD) (t : Fin cfg0.N) (r : Fin 16) (j : Fin 768) : (iblk m c 1 t : FVec Ideal S1x16x768 .f32) (ix3 0 r j) = cts m c (ix3 0 r j) := by
  blk_point [iblk, V, idx t]

/-- The array after the run. -/
theorem final (c : Dev nD) : (dats m 0 c).arrAt 2 cfg0.N = spec m c := by
  refine (dats m 0 c).arrAt_eq_of_covers 2 _ (by decide +kernel) fun t hf y => ?_
  blk_simp
  rw [after0_2]
  idx_vars y
  have e : ((cfg0.win 2).blk t).view.emb (ix2 y0 y1) = ix2 (y0 : Fin 1024) (y1 : Fin 768) := by blk_ext [idx t]
  refine Eq.trans ?_ (congrArg (spec m c) e).symm
  rw [ref_out]
  frame_out
  rw [pay_out]
  change (_ : EReal) = (_ : EReal)
  exact Finset.sum_congr rfl fun r _ => congrArg₂ (· * ·) (blk_rows m c t r y0) (blk_cts m c t r y1)

/-- The reference's run keeps its arguments and has no semaphores. -/
theorem reference_frame : quiescent_Reference25Ideal := fun m ρ _ =>
  (θ_run _ _ _).mono (fun r h => ⟨fun c => (h c).2, sem_eq_zero_of_no_sems rfl r.2⟩) (Reference25Ideal.Value.run (F := Ideal) m ρ)

/-- The gradient of the modulation's weights: the kernel's array is the reference's. -/
theorem output : algebraic_Kernel25Ideal_Reference25Ideal := by
  intro m g m' g' _ hag
  refine ⟨fun c => spec m c, ?_, ?_⟩
  · refine (θ_run _ _ _).mono (fun r h c => ?_) (Kernel25Ideal.Value.run_blocks m g)
    obtain rfl : c = 0 := Subsingleton.elim _ _
    obtain ⟨h0, rest⟩ := h 0
    exact ⟨h0.trans (final m 0), rest⟩
  · refine (θ_run _ _ _).mono (fun r h c => ?_) (Reference25Ideal.Value.run (F := Ideal) m' g')
    obtain ⟨e0, e1, e2⟩ := hag c
    obtain ⟨h0, rest⟩ := h c
    exact ⟨h0.trans ((val_main_v4_eq ..).trans (congrArg₂ (val_main_v4 (F := Ideal)) e0 e2)), rest⟩

end Cert.ModGrad

end
-- ==== Proof.FfnOutWeightGrad.lean ====
/-
  The gradient of the ffn's output weights, in four blocks of 704 hidden columns: eight points share one, each adding the
  products of 1024 tokens to a scratch buffer that the last one rounds and writes out.
-/
module

public import proofs.«01_k».proof.Defs
public import proofs.«01_k».proof.Proof.Gen.Kernel30Ideal.Value
public import proofs.«01_k».proof.Proof.Gen.Reference30Ideal.Read
public import Idealize.ShloMosaic.Lib.Pipeline.ReadBack
public import Idealize.ShloMosaic.Lib.Pipeline.ValueKit
public import Idealize.ShloMosaic.Lib.Claim

@[expose] public section

set_option maxRecDepth 16384

noncomputable section

namespace Cert.FfnOutWeightGrad

open Idealize.ShloMosaic Idealize.ShloMosaic.TcCoe Idealize.SL.Sem Kernel30Ideal Kernel30Ideal.Gen
open Reference30Ideal.Read

variable (m : (ℓ : Loc nD τ sig) → Buf (Elt Ideal) ℓ)

/-- Which blocks point `t` reads and writes. -/
theorem idx : ∀ t : Fin cfg0.N, win0_0.index t = ![t.val / 8, t.val % 8, 0] ∧ win0_1.index t = ![t.val % 8, 0] ∧ win0_2.index t = ![t.val / 8, 0, 0] :=
  (by decide +kernel : ∀ t : Fin grid0.N, win0_0.index t = ![t.val / 8, t.val % 8, 0] ∧ win0_1.index t = ![t.val % 8, 0] ∧ win0_2.index t = ![t.val / 8, 0, 0])

/-- The arrays the kernel was launched with, and the reference's result at them. -/
abbrev hidden (c : Dev nD) : FVec Ideal S8192x2816 .f32 := m ((c.tc : Thread nD τ).loc main_arg0)
abbrev cts (c : Dev nD) : FVec Ideal S8192x1024 .f32 := m ((c.tc : Thread nD τ).loc main_arg2)
abbrev spec (c : Dev nD) : FVec Ideal S4x704x1024 .bf16 := val_main_v4 (F := Ideal) (hidden m c) (cts m c)

/-- A token's part of the gradient in block `n`, and the gradient in the reference. -/
abbrev col (n : Fin 4) (k : Fin 704) : Fin 2816 := ⟨n * 704 + k, by omega⟩
def term (c : Dev nD) (n : Fin 4) (r : Fin 8192) (i : Fin 704) (j : Fin 1024) : EReal := hidden m c (ix2 r (col n i)) * cts m c (ix2 r j)
theorem ref_out (c : Dev nD) (n : Fin 4) (i : Fin 704) (j : Fin 1024) : spec m c (ix3 n i j) = ∑ r : Fin 8192, term m c n r i j := by
  pointwise [spec, val_main_v4, val_main_v3, val_main_v2, val_main_v1]
  exact Finset.sum_congr rfl fun r _ => mul_comm _ _

variable (x : FVec Ideal S1x1024x704 .bf16) (y : FVec Ideal S1024x1024 .bf16) (i : S704x1024.Idx)

/-- A block's part in the kernel's body. -/
def part : EReal := ∑ r : Fin 1024, x (ix3 0 r (i 0)) * y (ix2 r (i 1))
theorem pay_first : k0_pay1 (F := Ideal) x y i = part x y i := by
  idx_vars i
  pointwise [k0_pay1]
  rfl
theorem pay_next (acc : FVec Ideal S704x1024 .f32) : k0_pay2 (F := Ideal) acc x y i = acc i + part x y i := by
  idx_vars i
  pointwise [k0_pay2]
  rfl
theorem pay_round (acc : FVec Ideal S704x1024 .f32) (i : Fin 704) (j : Fin 1024) : k0_pay3 (F := Ideal) acc (ix3 0 i j) = acc (ix2 i j) := by
  pointwise [k0_pay3]

/-- The block point `t` works on, and the token it holds at row `r`. -/
abbrev blkAt (t : Fin cfg0.N) : Fin 4 := ⟨t.val / 8, by have : t.val < 32 := lt_of_lt_of_eq t.isLt N_0; omega⟩
abbrev rowAt (t : Fin cfg0.N) (r : Fin 1024) : Fin 8192 := ⟨t.val % 8 * 1024 + r, by omega⟩

/-- Point `t`'s part of the gradient. -/
def step (c : Dev nD) (t : Fin cfg0.N) (i : S704x1024.Idx) : EReal := ∑ r : Fin 1024, term m c (blkAt t) (rowAt t r) (i 0) (i 1)
theorem blk_x (c : Dev nD) (t : Fin cfg0.N) (r : Fin 1024) (i : Fin 704) :
    (iblk m c 0 t : FVec Ideal S1x1024x704 .bf16) (ix3 0 r i) = hidden m c (ix2 (rowAt t r) (col (blkAt t) i)) := by
  blk_point [iblk, V, idx t]
theorem blk_y (c : Dev nD) (t : Fin cfg0.N) (r : Fin 1024) (j : Fin 1024) :
    (iblk m c 1 t : FVec Ideal S1024x1024 .bf16) (ix2 r j) = cts m c (ix2 (rowAt t r) j) := by
  blk_point [iblk, V, idx t]
theorem part_eq (c : Dev nD) (t : Fin cfg0.N) (i : S704x1024.Idx) : part (iblk m c 0 t) (iblk m c 1 t) i = step m c t i :=
  Finset.sum_congr rfl fun r _ => congrArg₂ (· * ·) (blk_x m c t r (i 0)) (blk_y m c t r (i 1))

/-- The last point of a block writes out what it leaves in the scratch buffer. -/
theorem last_out (c : Dev nD) (t : Fin cfg0.N) (h : t.val % 8 = 7) (i : Fin 704) (j : Fin 1024) :
    (outsAt0 m c t.val t.isLt).1 (ix3 0 i j) = (outsAt0 m c t.val t.isLt).2 (ix2 i j) := by
  rw [outsAt0_C m c t (by omega) (by omega) h]
  frame_out
  rw [pay_round]

/-- The points of a block take the tokens, 1024 each. -/
theorem sum_steps (c : Dev nD) (t : Fin cfg0.N) (i : Fin 704) (j : Fin 1024) (hb : ∀ s : Fin 8, 8 * (t.val / 8) + s.val < cfg0.N) :
    (∑ s : Fin 8, step m c ⟨8 * (t.val / 8) + s.val, hb s⟩ (ix2 i j)) = ∑ r : Fin 8192, term m c (blkAt t) r i j := by
  refine Fin.sum_mul_add_congr (S := 8) (n := 1024)
    (F := fun s r => term m c (blkAt ⟨8 * (t.val / 8) + s.val, hb s⟩) (rowAt ⟨8 * (t.val / 8) + s.val, hb s⟩ r) i j) fun s r hl => ?_
  exact congrArg₂ (fun n r => term m c n r i j) (Fin.ext (by dsimp only; omega)) (Fin.ext (by dsimp only; omega))

/-- The array after the run. -/
theorem final (c : Dev nD) : (dats m 0 c).arrAt 2 cfg0.N = spec m c := by
  refine (dats m 0 c).arrAt_eq_of_covers 2 _ (by decide +kernel) fun t hf y => ?_
  have ht : t.val % 8 = 7 := (flush0_2 t).mp hf
  blk_simp
  idx_vars y
  obtain rfl : y0 = 0 := Subsingleton.elim _ _
  have e : ((cfg0.win 2).blk t).view.emb (ix3 0 y1 y2) = ix3 (blkAt t) (y1 : Fin 704) (y2 : Fin 1024) := by blk_ext [idx t]
  rw [after0_2, last_out m c t ht, Pipeline.eq_sum_fin_of_reset_step_apply_of_flush (fun n h => (outsAt0 m c n h).2) 8 (fun _ => (0 : EReal))
    (step m c)
    (fun t h j => by rw [outsAt0_A m c t h (by omega) (by omega)]; frame_out; rw [pay_first, part_eq, zero_add])
    (fun t h j => by
      by_cases h1 : t.val % 8 = 7
      · rw [outsAt0_C m c t h (by omega) h1]; frame_out; rw [pay_next, part_eq, read_unread_whole]
      · rw [outsAt0_B m c t h (by omega) h1]; frame_out; rw [pay_next, part_eq, read_unread_whole])
    t ht, zero_add]
  refine Eq.trans ?_ ((congrArg (spec m c) e).trans (ref_out m c (blkAt t) y1 y2)).symm
  exact sum_steps m c t y1 y2 _

/-- The reference's run keeps its arguments and has no semaphores. -/
theorem reference_frame : quiescent_Reference30Ideal := fun m ρ _ =>
  (θ_run _ _ _).mono (fun r h => ⟨fun c => (h c).2, sem_eq_zero_of_no_sems rfl r.2⟩) (Reference30Ideal.Value.run (F := Ideal) m ρ)

/-- The gradient of the ffn's output weights: the kernel's array is the reference's. -/
theorem output : algebraic_Kernel30Ideal_Reference30Ideal := by
  intro m g m' g' _ hag
  refine ⟨fun c => spec m c, ?_, ?_⟩
  · refine (θ_run _ _ _).mono (fun r h c => ?_) (Kernel30Ideal.Value.run_blocks m g)
    obtain rfl : c = 0 := Subsingleton.elim _ _
    obtain ⟨h0, rest⟩ := h 0
    exact ⟨h0.trans (final m 0), rest⟩
  · refine (θ_run _ _ _).mono (fun r h c => ?_) (Reference30Ideal.Value.run (F := Ideal) m' g')
    obtain ⟨e0, e1, e2⟩ := hag c
    obtain ⟨h0, rest⟩ := h c
    exact ⟨h0.trans ((val_main_v4_eq ..).trans (congrArg₂ (val_main_v4 (F := Ideal)) e0 e2)), rest⟩

end Cert.FfnOutWeightGrad

end
-- ==== Proof.FfnInWeightGrad.lean ====
/-
  The gradient of the ffn's input weights, in eight blocks of 704 columns: eight points share one, each adding the products
  of 1024 tokens to a scratch buffer that the last one rounds and writes out.
-/
module

public import proofs.«01_k».proof.Defs
public import proofs.«01_k».proof.Proof.Gen.Kernel31Ideal.Value
public import proofs.«01_k».proof.Proof.Gen.Reference31Ideal.Read
public import Idealize.ShloMosaic.Lib.Pipeline.ReadBack
public import Idealize.ShloMosaic.Lib.Pipeline.ValueKit
public import Idealize.ShloMosaic.Lib.Claim

@[expose] public section

set_option maxRecDepth 16384

noncomputable section

namespace Cert.FfnInWeightGrad

open Idealize.ShloMosaic Idealize.ShloMosaic.TcCoe Idealize.SL.Sem Kernel31Ideal Kernel31Ideal.Gen
open Reference31Ideal.Read

variable (m : (ℓ : Loc nD τ sig) → Buf (Elt Ideal) ℓ)

/-- Which blocks point `t` reads and writes. -/
theorem idx : ∀ t : Fin cfg0.N, win0_0.index t = ![t.val % 8, 0] ∧ win0_1.index t = ![t.val / 8, t.val % 8, 0] ∧ win0_2.index t = ![t.val / 8, 0, 0] :=
  (by decide +kernel : ∀ t : Fin grid0.N, win0_0.index t = ![t.val % 8, 0] ∧ win0_1.index t = ![t.val / 8, t.val % 8, 0] ∧ win0_2.index t = ![t.val / 8, 0, 0])

/-- The arrays the kernel was launched with, and the reference's result at them. -/
abbrev input (c : Dev nD) : FVec Ideal S8192x1024 .f32 := m ((c.tc : Thread nD τ).loc main_arg0)
abbrev cts (c : Dev nD) : FVec Ideal S8192x5632 .f32 := m ((c.tc : Thread nD τ).loc main_arg2)
abbrev spec (c : Dev nD) : FVec Ideal S8x1024x704 .bf16 := val_main_v5 (F := Ideal) (input m c) (cts m c)

/-- A token's part of the gradient in block `n`, and the gradient in the reference. -/
abbrev col (n : Fin 8) (k : Fin 704) : Fin 5632 := ⟨n * 704 + k, by omega⟩
def term (c : Dev nD) (n : Fin 8) (r : Fin 8192) (i : Fin 1024) (j : Fin 704) : EReal := input m c (ix2 r i) * cts m c (ix2 r (col n j))
theorem ref_out (c : Dev nD) (n : Fin 8) (i : Fin 1024) (j : Fin 704) : spec m c (ix3 n i j) = ∑ r : Fin 8192, term m c n r i j := by
  pointwise [spec, val_main_v5, val_main_v4, val_main_v3, val_main_v2, val_main_v1]
  exact Finset.sum_congr rfl fun r _ => mul_comm _ _

variable (x : FVec Ideal S1024x1024 .bf16) (y : FVec Ideal S1x1024x704 .bf16) (i : S1024x704.Idx)

/-- A block's part in the kernel's body. -/
def part : EReal := ∑ r : Fin 1024, x (ix2 r (i 0)) * y (ix3 0 r (i 1))
theorem pay_first : k0_pay1 (F := Ideal) x y i = part x y i := by
  idx_vars i
  pointwise [k0_pay1]
  rfl
theorem pay_next (acc : FVec Ideal S1024x704 .f32) : k0_pay2 (F := Ideal) acc x y i = acc i + part x y i := by
  idx_vars i
  pointwise [k0_pay2]
  rfl
theorem pay_round (acc : FVec Ideal S1024x704 .f32) (i : Fin 1024) (j : Fin 704) : k0_pay3 (F := Ideal) acc (ix3 0 i j) = acc (ix2 i j) := by
  pointwise [k0_pay3]

/-- The block point `t` works on, and the token it holds at row `r`. -/
abbrev blkAt (t : Fin cfg0.N) : Fin 8 := ⟨t.val / 8, by have : t.val < 64 := lt_of_lt_of_eq t.isLt N_0; omega⟩
abbrev rowAt (t : Fin cfg0.N) (r : Fin 1024) : Fin 8192 := ⟨t.val % 8 * 1024 + r, by omega⟩

/-- Point `t`'s part of the gradient. -/
def step (c : Dev nD) (t : Fin cfg0.N) (i : S1024x704.Idx) : EReal := ∑ r : Fin 1024, term m c (blkAt t) (rowAt t r) (i 0) (i 1)
theorem blk_x (c : Dev nD) (t : Fin cfg0.N) (r : Fin 1024) (i : Fin 1024) :
    (iblk m c 0 t : FVec Ideal S1024x1024 .bf16) (ix2 r i) = input m c (ix2 (rowAt t r) i) := by
  blk_point [iblk, V, idx t]
theorem blk_y (c : Dev nD) (t : Fin cfg0.N) (r : Fin 1024) (j : Fin 704) :
    (iblk m c 1 t : FVec Ideal S1x1024x704 .bf16) (ix3 0 r j) = cts m c (ix2 (rowAt t r) (col (blkAt t) j)) := by
  blk_point [iblk, V, idx t]
theorem part_eq (c : Dev nD) (t : Fin cfg0.N) (i : S1024x704.Idx) : part (iblk m c 0 t) (iblk m c 1 t) i = step m c t i :=
  Finset.sum_congr rfl fun r _ => congrArg₂ (· * ·) (blk_x m c t r (i 0)) (blk_y m c t r (i 1))

/-- The last point of a block writes out what it leaves in the scratch buffer. -/
theorem last_out (c : Dev nD) (t : Fin cfg0.N) (h : t.val % 8 = 7) (i : Fin 1024) (j : Fin 704) :
    (outsAt0 m c t.val t.isLt).1 (ix3 0 i j) = (outsAt0 m c t.val t.isLt).2 (ix2 i j) := by
  rw [outsAt0_C m c t (by omega) (by omega) h]
  frame_out
  rw [pay_round]

/-- The points of a block take the tokens, 1024 each. -/
theorem sum_steps (c : Dev nD) (t : Fin cfg0.N) (i : Fin 1024) (j : Fin 704) (hb : ∀ s : Fin 8, 8 * (t.val / 8) + s.val < cfg0.N) :
    (∑ s : Fin 8, step m c ⟨8 * (t.val / 8) + s.val, hb s⟩ (ix2 i j)) = ∑ r : Fin 8192, term m c (blkAt t) r i j := by
  refine Fin.sum_mul_add_congr (S := 8) (n := 1024)
    (F := fun s r => term m c (blkAt ⟨8 * (t.val / 8) + s.val, hb s⟩) (rowAt ⟨8 * (t.val / 8) + s.val, hb s⟩ r) i j) fun s r hl => ?_
  exact congrArg₂ (fun n r => term m c n r i j) (Fin.ext (by dsimp only; omega)) (Fin.ext (by dsimp only; omega))

/-- The array after the run. -/
theorem final (c : Dev nD) : (dats m 0 c).arrAt 2 cfg0.N = spec m c := by
  refine (dats m 0 c).arrAt_eq_of_covers 2 _ (by decide +kernel) fun t hf y => ?_
  have ht : t.val % 8 = 7 := (flush0_2 t).mp hf
  blk_simp
  idx_vars y
  obtain rfl : y0 = 0 := Subsingleton.elim _ _
  have e : ((cfg0.win 2).blk t).view.emb (ix3 0 y1 y2) = ix3 (blkAt t) (y1 : Fin 1024) (y2 : Fin 704) := by blk_ext [idx t]
  rw [after0_2, last_out m c t ht, Pipeline.eq_sum_fin_of_reset_step_apply_of_flush (fun n h => (outsAt0 m c n h).2) 8 (fun _ => (0 : EReal))
    (step m c)
    (fun t h j => by rw [outsAt0_A m c t h (by omega) (by omega)]; frame_out; rw [pay_first, part_eq, zero_add])
    (fun t h j => by
      by_cases h1 : t.val % 8 = 7
      · rw [outsAt0_C m c t h (by omega) h1]; frame_out; rw [pay_next, part_eq, read_unread_whole]
      · rw [outsAt0_B m c t h (by omega) h1]; frame_out; rw [pay_next, part_eq, read_unread_whole])
    t ht, zero_add]
  refine Eq.trans ?_ ((congrArg (spec m c) e).trans (ref_out m c (blkAt t) y1 y2)).symm
  exact sum_steps m c t y1 y2 _

/-- The reference's run keeps its arguments and has no semaphores. -/
theorem reference_frame : quiescent_Reference31Ideal := fun m ρ _ =>
  (θ_run _ _ _).mono (fun r h => ⟨fun c => (h c).2, sem_eq_zero_of_no_sems rfl r.2⟩) (Reference31Ideal.Value.run (F := Ideal) m ρ)

/-- The gradient of the ffn's input weights: the kernel's array is the reference's. -/
theorem output : algebraic_Kernel31Ideal_Reference31Ideal := by
  intro m g m' g' _ hag
  refine ⟨fun c => spec m c, ?_, ?_⟩
  · refine (θ_run _ _ _).mono (fun r h c => ?_) (Kernel31Ideal.Value.run_blocks m g)
    obtain rfl : c = 0 := Subsingleton.elim _ _
    obtain ⟨h0, rest⟩ := h 0
    exact ⟨h0.trans (final m 0), rest⟩
  · refine (θ_run _ _ _).mono (fun r h c => ?_) (Reference31Ideal.Value.run (F := Ideal) m' g')
    obtain ⟨e0, e1, e2⟩ := hag c
    obtain ⟨h0, rest⟩ := h c
    exact ⟨h0.trans ((val_main_v5_eq ..).trans (congrArg₂ (val_main_v5 (F := Ideal)) e0 e2)), rest⟩

end Cert.FfnInWeightGrad

end
-- ==== Proof.MixerOut.lean ====
/-
  The mixer's output: each grid point multiplies its rows of the merged branches with the output weights.
-/
module

public import proofs.«01_k».proof.Defs
public import proofs.«01_k».proof.Proof.Gen.Kernel26Ideal.Value
public import proofs.«01_k».proof.Proof.Gen.Reference26Ideal.Read
public import Idealize.ShloMosaic.Lib.Pipeline.ValueKit
public import Idealize.ShloMosaic.Lib.Claim

@[expose] public section

set_option maxRecDepth 16384

noncomputable section

namespace Cert.MixerOut

open Idealize.ShloMosaic Idealize.ShloMosaic.TcCoe Idealize.SL.Sem Kernel26Ideal Kernel26Ideal.Gen
open Reference26Ideal.Read

variable (m : (ℓ : Loc nD τ sig) → Buf (Elt Ideal) ℓ)

/-- Which blocks point `t` reads and writes. -/
theorem idx : ∀ t : Fin cfg0.N, win0_0.index t = ![t.val, 0] ∧ win0_1.index t = ![0, 0, 0] ∧ win0_2.index t = ![t.val, 0] :=
  (by decide +kernel : ∀ t : Fin grid0.N, win0_0.index t = ![t.val, 0] ∧ win0_1.index t = ![0, 0, 0] ∧ win0_2.index t = ![t.val, 0])

/-- The arrays the kernel was launched with, and the reference's result at them. -/
abbrev merged (c : Dev nD) : FVec Ideal S8192x1024 .f32 := m ((c.tc : Thread nD τ).loc main_arg0)
abbrev weights (c : Dev nD) : FVec Ideal S1024x1024 .f32 := m ((c.tc : Thread nD τ).loc main_arg1)
abbrev spec (c : Dev nD) : FVec Ideal S8192x1024 .f32 := val_main_v0 (F := Ideal) (merged m c) (weights m c)

/-- The array's row that point `t` holds at row `r` of its block. -/
abbrev rowAt (t : Fin cfg0.N) (r : Fin 1024) : Fin 8192 := ⟨t.val * 1024 + r, by have : t.val < 8 := lt_of_lt_of_eq t.isLt N_0; omega⟩

/-- The product in the reference. -/
theorem ref_out (c : Dev nD) (r : Fin 8192) (j : Fin 1024) : spec m c (ix2 r j) = ∑ k : Fin 1024, merged m c (ix2 r k) * weights m c (ix2 k j) := by
  pointwise [spec, val_main_v0]

/-- The product of two blocks in the kernel's body. -/
theorem pay_out (x : FVec Ideal S1024x1024 .bf16) (w : FVec Ideal S1x1024x1024 .bf16) (r : Fin 1024) (j : Fin 1024) :
    k0_pay1 (F := Ideal) x w (ix2 r j) = ∑ k : Fin 1024, x (ix2 r k) * w (ix3 0 k j) := by
  pointwise [k0_pay1]

theorem blk_merged (c : Dev nD) (t : Fin cfg0.N) (r k : Fin 1024) : (iblk m c 0 t : FVec Ideal S1024x1024 .bf16) (ix2 r k) = merged m c (ix2 (rowAt t r) k) := by
  blk_point [iblk, V, idx t]

theorem blk_weights (c : Dev nD) (t : Fin cfg0.N) (k j : Fin 1024) : (iblk m c 1 t : FVec Ideal S1x1024x1024 .bf16) (ix3 0 k j) = weights m c (ix2 k j) := by
  blk_point [iblk, V, idx t]

/-- The array after the run. -/
theorem final (c : Dev nD) : (dats m 0 c).arrAt 2 cfg0.N = spec m c := by
  refine (dats m 0 c).arrAt_eq_of_covers 2 _ (by decide +kernel) fun t hf y => ?_
  blk_simp
  rw [after0_2]
  idx_vars y
  have ht : t.val < 8 := lt_of_lt_of_eq t.isLt N_0
  have e : ((cfg0.win 2).blk t).view.emb (ix2 y0 y1) = ix2 (rowAt t y0) (y1 : Fin 1024) := by blk_ext [idx t]
  refine Eq.trans ?_ (congrArg (spec m c) e).symm
  rw [ref_out]
  frame_out
  rw [pay_out]
  change (_ : EReal) = (_ : EReal)
  exact Finset.sum_congr rfl fun k _ => congrArg₂ (· * ·) (blk_merged m c t y0 k) (blk_weights m c t k y1)

/-- The reference's run keeps its arguments and has no semaphores. -/
theorem reference_frame : quiescent_Reference26Ideal := fun m ρ _ =>
  (θ_run _ _ _).mono (fun r h => ⟨fun c => (h c).2, sem_eq_zero_of_no_sems rfl r.2⟩) (Reference26Ideal.Value.run (F := Ideal) m ρ)

/-- The mixer's output: the kernel's array is the reference's. -/
theorem output : algebraic_Kernel26Ideal_Reference26Ideal := by
  intro m g m' g' _ hag
  refine ⟨fun c => spec m c, ?_, ?_⟩
  · refine (θ_run _ _ _).mono (fun r h c => ?_) (Kernel26Ideal.Value.run_blocks m g)
    obtain rfl : c = 0 := Subsingleton.elim _ _
    obtain ⟨h0, rest⟩ := h 0
    exact ⟨h0.trans (final m 0), rest⟩
  · refine (θ_run _ _ _).mono (fun r h c => ?_) (Reference26Ideal.Value.run (F := Ideal) m' g')
    obtain ⟨e0, e1⟩ := hag c
    obtain ⟨h0, rest⟩ := h c
    exact ⟨h0.trans ((val_main_v0_eq ..).trans (congrArg₂ (val_main_v0 (F := Ideal)) e0 e1)), rest⟩

end Cert.MixerOut

end
-- ==== Proof.BranchWeightGrad.lean ====
/-
  The gradient of the weights that take a branch to the merged width: the tokens' blocks one after another, each block's products added to a
  scratch buffer that the last point rounds and writes out.
-/
module

public import proofs.«01_k».proof.Defs
public import proofs.«01_k».proof.Proof.Gen.Kernel27Ideal.Value
public import proofs.«01_k».proof.Proof.Gen.Reference27Ideal.Read
public import Idealize.ShloMosaic.Lib.Pipeline.ReadBack
public import Idealize.ShloMosaic.Lib.Pipeline.ValueKit
public import Idealize.ShloMosaic.Lib.Claim

@[expose] public section

set_option maxRecDepth 16384

noncomputable section

namespace Cert.BranchWeightGrad

open Idealize.ShloMosaic Idealize.ShloMosaic.TcCoe Idealize.SL.Sem Kernel27Ideal Kernel27Ideal.Gen
open Reference27Ideal.Read

variable (m : (ℓ : Loc nD τ sig) → Buf (Elt Ideal) ℓ)

/-- Which blocks point `t` reads and writes. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The arrays the kernel was launched with. -/
abbrev outs (c : Dev nD) : FVec Ideal S8192x512 .f32 := m ((c.tc : Thread nD τ).loc main_arg0)
abbrev cts (c : Dev nD) : FVec Ideal S8192x1024 .f32 := m ((c.tc : Thread nD τ).loc main_arg2)

/-- The reference's result at those arguments. -/
abbrev spec (c : Dev nD) : FVec Ideal S512x1024 .bf16 := val_main_v3 (F := Ideal) (outs m c) (cts m c)

/-- A token's part of the gradient. -/
def term (x : FVec Ideal S8192x512 .f32) (y : FVec Ideal S8192x1024 .f32) (r : Fin 8192) (i : Fin 512) (j : Fin 1024) : EReal := x (ix2 r i) * y (ix2 r j)

/-- The gradient in the reference. -/
theorem ref_out (c : Dev nD) (i : Fin 512) (j : Fin 1024) : spec m c (ix2 i j) = ∑ r : Fin 8192, term (outs m c) (cts m c) r i j := by
  pointwise [spec, val_main_v3, val_main_v2, val_main_v1]
  exact Finset.sum_congr rfl fun r _ => mul_comm _ _

/-- A block's part of the gradient in the kernel's body. -/
def part (x : FVec Ideal S1024x512 .bf16) (y : FVec Ideal S1024x1024 .bf16) (i : S512x1024.Idx) : EReal := ∑ r : Fin 1024, x (ix2 r (i 0)) * y (ix2 r (i 1))

theorem pay_first (x : FVec Ideal S1024x512 .bf16) (y : FVec Ideal S1024x1024 .bf16) (i : S512x1024.Idx) : k0_pay1 (F := Ideal) x y i = part x y i := by
  idx_vars i
  pointwise [k0_pay1]
  rfl

theorem pay_next (acc : FVec Ideal S512x1024 .f32) (x : FVec Ideal S1024x512 .bf16) (y : FVec Ideal S1024x1024 .bf16) (i : S512x1024.Idx) :
    k0_pay2 (F := Ideal) acc x y i = acc i + part x y i := by
  idx_vars i
  pointwise [k0_pay2]
  rfl

theorem pay_round (acc : FVec Ideal S512x1024 .f32) (i : S512x1024.Idx) : k0_pay3 (F := Ideal) acc i = acc i := by pointwise [k0_pay3]

/-- The array's row that point `t` holds at row `r` of its block. -/
abbrev rowAt (t : Fin cfg0.N) (r : Fin 1024) : Fin 8192 := ⟨t.val * 1024 + r, by have : t.val < 8 := lt_of_lt_of_eq t.isLt N_0; omega⟩

theorem blk_outs (c : Dev nD) (t : Fin cfg0.N) (r : Fin 1024) (k : Fin 512) :
    (iblk m c 0 t : FVec Ideal S1024x512 .bf16) (ix2 r k) = outs m c (ix2 (rowAt t r) k) := by
  blk_point [iblk, V, idx t]

theorem blk_cts (c : Dev nD) (t : Fin cfg0.N) (r k : Fin 1024) :
    (iblk m c 1 t : FVec Ideal S1024x1024 .bf16) (ix2 r k) = cts m c (ix2 (rowAt t r) k) := by
  blk_point [iblk, V, idx t]

/-- The last point writes out what it leaves in the scratch buffer. -/
theorem last_out (c : Dev nD) (j : S512x1024.Idx) : (outsAt0 m c t0_7.val t0_7.isLt).1 j = (outsAt0 m c t0_7.val t0_7.isLt).2 j := by
  rw [outsAt0_C m c t0_7 (by decide) (by decide) (by decide)]
  frame_out
  rw [pay_round]

/-- The gradient after the run. -/
theorem final (c : Dev nD) : (dats m 0 c).arrAt 2 cfg0.N = spec m c := by
  refine (dats m 0 c).arrAt_eq_of_after_last 2 t0_7 (by decide +kernel) _ fun j => ?_
  blk_simp
  rw [after0_2, last_out, Pipeline.eq_sum_fin_of_reset_step_apply_last (fun n h => (outsAt0 m c n h).2) 8 (fun _ => 0)
    (fun t j => part (iblk m c 0 t) (iblk m c 1 t) j)
    (fun t h j => by rw [outsAt0_A m c t h (by have := lt_of_lt_of_eq t.isLt N_0; omega) (by omega)]; frame_out; rw [pay_first, zero_add])
    (fun t h j => by
      by_cases h1 : t.val % 8 = 7
      · rw [outsAt0_C m c t h (by omega) h1]; frame_out; rw [pay_next]; rw [read_unread_whole]
      · rw [outsAt0_B m c t h (by omega) h1]; frame_out; rw [pay_next]; rw [read_unread_whole])
    (le_of_eq N_0) t0_7 rfl j, zero_add]
  idx_vars j
  rw [ref_out]
  change (∑ p : Fin cfg0.N, part (iblk m c 0 p) (iblk m c 1 p) (ix2 j0 j1) : EReal) = _
  refine Eq.trans (Fin.sum_fin_congr fun p => ?_) (Fin.sum_mul_add_congr (S := cfg0.N) (n := 1024)
    (F := fun p r => term (outs m c) (cts m c) (rowAt p r) j0 j1) (fun p r hl => rfl))
  exact Finset.sum_congr rfl fun r _ => congrArg₂ (· * ·) (blk_outs m c p r j0) (blk_cts m c p r j1)

/-- The reference's run keeps its arguments and has no semaphores. -/
theorem reference_frame : quiescent_Reference27Ideal := fun m ρ _ =>
  (θ_run _ _ _).mono (fun r h => ⟨fun c => (h c).2, sem_eq_zero_of_no_sems rfl r.2⟩) (Reference27Ideal.Value.run (F := Ideal) m ρ)

/-- The gradient of the weights that take a branch to the merged width: the kernel's array is the reference's. -/
theorem output : algebraic_Kernel27Ideal_Reference27Ideal := by
  intro m g m' g' _ hag
  refine ⟨fun c => spec m c, ?_, ?_⟩
  · refine (θ_run _ _ _).mono (fun r h c => ?_) (Kernel27Ideal.Value.run_blocks m g)
    obtain rfl : c = 0 := Subsingleton.elim _ _
    obtain ⟨h0, rest⟩ := h 0
    exact ⟨h0.trans (final m 0), rest⟩
  · refine (θ_run _ _ _).mono (fun r h c => ?_) (Reference27Ideal.Value.run (F := Ideal) m' g')
    obtain ⟨e0, e1, e2⟩ := hag c
    obtain ⟨h0, rest⟩ := h c
    exact ⟨h0.trans ((val_main_v3_eq ..).trans (congrArg₂ (val_main_v3 (F := Ideal)) e0 e2)), rest⟩

end Cert.BranchWeightGrad

end
-- ==== Proof.FfnOut.lean ====
/-
  The ffn's output: four points share a block of tokens, each adding the products of 704 of the 2816 hidden columns to a
  scratch buffer that the last one writes out.
-/
module

public import proofs.«01_k».proof.Defs
public import proofs.«01_k».proof.Proof.Gen.Kernel28Ideal.Value
public import proofs.«01_k».proof.Proof.Gen.Reference28Ideal.Read
public import Idealize.ShloMosaic.Lib.Pipeline.ReadBack
public import Idealize.ShloMosaic.Lib.Pipeline.ValueKit
public import Idealize.ShloMosaic.Lib.Claim

@[expose] public section

set_option maxRecDepth 16384

noncomputable section

namespace Cert.FfnOut

open Idealize.ShloMosaic Idealize.ShloMosaic.TcCoe Idealize.SL.Sem Kernel28Ideal Kernel28Ideal.Gen
open Reference28Ideal.Read

variable (m : (ℓ : Loc nD τ sig) → Buf (Elt Ideal) ℓ)

/-- Which blocks point `t` reads and writes. -/
theorem idx : ∀ t : Fin cfg0.N, win0_0.index t = ![t.val % 4, t.val / 4, 0] ∧ win0_1.index t = ![t.val % 4, 0, 0] ∧ win0_2.index t = ![t.val / 4, 0] :=
  (by decide +kernel : ∀ t : Fin grid0.N, win0_0.index t = ![t.val % 4, t.val / 4, 0] ∧ win0_1.index t = ![t.val % 4, 0, 0] ∧ win0_2.index t = ![t.val / 4, 0])

/-- The arrays the kernel was launched with, and the reference's result at them. -/
abbrev hidden (c : Dev nD) : FVec Ideal S8192x2816 .f32 := m ((c.tc : Thread nD τ).loc main_arg0)
abbrev weights (c : Dev nD) : FVec Ideal S2816x1024 .f32 := m ((c.tc : Thread nD τ).loc main_arg1)
abbrev spec (c : Dev nD) : FVec Ideal S8192x1024 .f32 := val_main_v0 (F := Ideal) (hidden m c) (weights m c)

/-- A column's part of the product, and the product in the reference. -/
def term (c : Dev nD) (k : Fin 2816) (r : Fin 8192) (j : Fin 1024) : EReal := hidden m c (ix2 r k) * weights m c (ix2 k j)
theorem ref_out (c : Dev nD) (r : Fin 8192) (j : Fin 1024) : spec m c (ix2 r j) = ∑ k : Fin 2816, term m c k r j := by
  pointwise [spec, val_main_v0]
  rfl

variable (x : FVec Ideal S1x1024x704 .bf16) (w : FVec Ideal S1x704x1024 .bf16) (i : S1024x1024.Idx)

/-- A block's part in the kernel's body. -/
def part : EReal :=
  ∑ q : Fin 704, x (ix3 0 (i 0) q) * w (ix3 0 q (i 1))
theorem pay_first : k0_pay1 (F := Ideal) x w i = part x w i := by
  idx_vars i
  pointwise [k0_pay1]
  rfl
theorem pay_next (acc : FVec Ideal S1024x1024 .f32) : k0_pay2 (F := Ideal) acc x w i = acc i + part x w i := by
  idx_vars i
  pointwise [k0_pay2]
  rfl

/-- The array's row and column that point `t` holds at row `r` and column `q` of its block. -/
abbrev rowAt (t : Fin cfg0.N) (r : Fin 1024) : Fin 8192 := ⟨t.val / 4 * 1024 + r, by have : t.val < 32 := lt_of_lt_of_eq t.isLt N_0; omega⟩
abbrev colAt (t : Fin cfg0.N) (q : Fin 704) : Fin 2816 := ⟨t.val % 4 * 704 + q, by omega⟩

theorem blk_x (c : Dev nD) (t : Fin cfg0.N) (r : Fin 1024) (q : Fin 704) :
    (iblk m c 0 t : FVec Ideal S1x1024x704 .bf16) (ix3 0 r q) = hidden m c (ix2 (rowAt t r) (colAt t q)) := by
  blk_point [iblk, V, idx t]
theorem blk_w (c : Dev nD) (t : Fin cfg0.N) (q : Fin 704) (j : Fin 1024) :
    (iblk m c 1 t : FVec Ideal S1x704x1024 .bf16) (ix3 0 q j) = weights m c (ix2 (colAt t q) j) := by
  blk_point [iblk, V, idx t]

/-- Point `t`'s part of the product at row `i 0` of its block of rows. -/
def step (c : Dev nD) (t : Fin cfg0.N) (i : S1024x1024.Idx) : EReal := ∑ q : Fin 704, term m c (colAt t q) (rowAt t (i 0)) (i 1)
theorem part_eq (c : Dev nD) (t : Fin cfg0.N) (i : S1024x1024.Idx) : part (iblk m c 0 t) (iblk m c 1 t) i = step m c t i :=
  Finset.sum_congr rfl fun q _ => congrArg₂ (· * ·) (blk_x m c t (i 0) q) (blk_w m c t q (i 1))

/-- The last point of a block of rows writes out what it leaves in the scratch buffer. -/
theorem last_out (c : Dev nD) (t : Fin cfg0.N) (h : t.val % 4 = 3) (i : S1024x1024.Idx) :
    (outsAt0 m c t.val t.isLt).1 i = (outsAt0 m c t.val t.isLt).2 i := by
  rw [outsAt0_C m c t (by omega) (by omega) h]
  frame_out

/-- The points of a block of rows take the columns, 704 each. -/
theorem sum_steps (c : Dev nD) (t : Fin cfg0.N) (r j : Fin 1024) (hb : ∀ s : Fin 4, 4 * (t.val / 4) + s.val < cfg0.N) :
    (∑ s : Fin 4, step m c ⟨4 * (t.val / 4) + s.val, hb s⟩ (ix2 r j)) = ∑ k : Fin 2816, term m c k (rowAt t r) j := by
  refine Fin.sum_mul_add_congr (S := 4) (n := 704) (F := fun s q => term m c (colAt ⟨4 * (t.val / 4) + s.val, hb s⟩ q) (rowAt ⟨4 * (t.val / 4) + s.val, hb s⟩ r) j)
    fun s q hl => ?_
  exact congrArg₂ (fun k r => term m c k r j) (Fin.ext (by dsimp only; omega)) (Fin.ext (by dsimp only; omega))

/-- The array after the run. -/
theorem final (c : Dev nD) : (dats m 0 c).arrAt 2 cfg0.N = spec m c := by
  refine (dats m 0 c).arrAt_eq_of_covers 2 _ (by decide +kernel) fun t hf y => ?_
  have ht : t.val % 4 = 3 := (flush0_2 t).mp hf
  blk_simp
  idx_vars y
  have e : ((cfg0.win 2).blk t).view.emb (ix2 y0 y1) = ix2 (rowAt t y0) (y1 : Fin 1024) := by blk_ext [idx t]
  rw [after0_2, last_out m c t ht, Pipeline.eq_sum_fin_of_reset_step_apply_of_flush (fun n h => (outsAt0 m c n h).2) 4 (fun _ => (0 : EReal))
    (step m c)
    (fun t h j => by rw [outsAt0_A m c t h (by omega) (by omega)]; frame_out; rw [pay_first, part_eq, zero_add])
    (fun t h j => by
      by_cases h1 : t.val % 4 = 3
      · rw [outsAt0_C m c t h (by omega) h1]; frame_out; rw [pay_next, part_eq, read_unread_whole]
      · rw [outsAt0_B m c t h (by omega) h1]; frame_out; rw [pay_next, part_eq, read_unread_whole])
    t ht, zero_add]
  refine Eq.trans ?_ ((congrArg (spec m c) e).trans (ref_out m c (rowAt t y0) y1)).symm
  exact sum_steps m c t y0 y1 _

/-- The reference's run keeps its arguments and has no semaphores. -/
theorem reference_frame : quiescent_Reference28Ideal := fun m ρ _ =>
  (θ_run _ _ _).mono (fun r h => ⟨fun c => (h c).2, sem_eq_zero_of_no_sems rfl r.2⟩) (Reference28Ideal.Value.run (F := Ideal) m ρ)

/-- The ffn's output: the kernel's array is the reference's. -/
theorem output : algebraic_Kernel28Ideal_Reference28Ideal := by
  intro m g m' g' _ hag
  refine ⟨fun c => spec m c, ?_, ?_⟩
  · refine (θ_run _ _ _).mono (fun r h c => ?_) (Kernel28Ideal.Value.run_blocks m g)
    obtain rfl : c = 0 := Subsingleton.elim _ _
    obtain ⟨h0, rest⟩ := h 0
    exact ⟨h0.trans (final m 0), rest⟩
  · refine (θ_run _ _ _).mono (fun r h c => ?_) (Reference28Ideal.Value.run (F := Ideal) m' g')
    obtain ⟨e0, e1⟩ := hag c
    obtain ⟨h0, rest⟩ := h c
    exact ⟨h0.trans ((val_main_v0_eq ..).trans (congrArg₂ (val_main_v0 (F := Ideal)) e0 e1)), rest⟩

end Cert.FfnOut

end
-- ==== Proof.FfnInGrad.lean ====
/-
  The gradient at the ffn's input: eight points share a block of tokens, each adding the products of 704 of the 5632
  columns to a scratch buffer that the last one rounds and writes out.
-/
module

public import proofs.«01_k».proof.Defs
public import proofs.«01_k».proof.Proof.Gen.Kernel29Ideal.Value
public import proofs.«01_k».proof.Proof.Gen.Reference29Ideal.Read
public import Idealize.ShloMosaic.Lib.Pipeline.ReadBack
public import Idealize.ShloMosaic.Lib.Pipeline.ValueKit
public import Idealize.ShloMosaic.Lib.Claim

@[expose] public section

set_option maxRecDepth 16384

noncomputable section

namespace Cert.FfnInGrad

open Idealize.ShloMosaic Idealize.ShloMosaic.TcCoe Idealize.SL.Sem Kernel29Ideal Kernel29Ideal.Gen
open Reference29Ideal.Read

variable (m : (ℓ : Loc nD τ sig) → Buf (Elt Ideal) ℓ)

/-- Which blocks point `t` reads and writes. -/
theorem idx : ∀ t : Fin cfg0.N, win0_0.index t = ![t.val % 8, t.val / 8, 0] ∧ win0_1.index t = ![t.val % 8, 0, 0] ∧ win0_2.index t = ![t.val / 8, 0] :=
  (by decide +kernel : ∀ t : Fin grid0.N, win0_0.index t = ![t.val % 8, t.val / 8, 0] ∧ win0_1.index t = ![t.val % 8, 0, 0] ∧ win0_2.index t = ![t.val / 8, 0])

/-- The arrays the kernel was launched with, and the reference's result at them. -/
abbrev weights (c : Dev nD) : FVec Ideal S1024x5632 .f32 := m ((c.tc : Thread nD τ).loc main_arg1)
abbrev cts (c : Dev nD) : FVec Ideal S8192x5632 .f32 := m ((c.tc : Thread nD τ).loc main_arg2)
abbrev spec (c : Dev nD) : FVec Ideal S8192x1024 .bf16 := val_main_v2 (F := Ideal) (weights m c) (cts m c)

/-- A column's part of the product, and the product in the reference. -/
def term (c : Dev nD) (k : Fin 5632) (r : Fin 8192) (j : Fin 1024) : EReal := cts m c (ix2 r k) * weights m c (ix2 j k)
theorem ref_out (c : Dev nD) (r : Fin 8192) (j : Fin 1024) : spec m c (ix2 r j) = ∑ k : Fin 5632, term m c k r j := by
  pointwise [spec, val_main_v2, val_main_v1]
  rfl

variable (x : FVec Ideal S1x1024x704 .bf16) (w : FVec Ideal S1x1024x704 .bf16) (i : S1024x1024.Idx)

/-- A block's part in the kernel's body. -/
def part : EReal :=
  ∑ q : Fin 704, x (ix3 0 (i 0) q) * w (ix3 0 (i 1) q)
theorem pay_first : k0_pay1 (F := Ideal) x w i = part x w i := by
  idx_vars i
  pointwise [k0_pay1]
  rfl
theorem pay_next (acc : FVec Ideal S1024x1024 .f32) : k0_pay2 (F := Ideal) acc x w i = acc i + part x w i := by
  idx_vars i
  pointwise [k0_pay2]
  rfl
theorem pay_round (acc : FVec Ideal S1024x1024 .f32) (i : S1024x1024.Idx) : k0_pay3 (F := Ideal) acc i = acc i := by pointwise [k0_pay3]

/-- The array's row and column that point `t` holds at row `r` and column `q` of its block. -/
abbrev rowAt (t : Fin cfg0.N) (r : Fin 1024) : Fin 8192 := ⟨t.val / 8 * 1024 + r, by have : t.val < 64 := lt_of_lt_of_eq t.isLt N_0; omega⟩
abbrev colAt (t : Fin cfg0.N) (q : Fin 704) : Fin 5632 := ⟨t.val % 8 * 704 + q, by omega⟩

theorem blk_x (c : Dev nD) (t : Fin cfg0.N) (r : Fin 1024) (q : Fin 704) :
    (iblk m c 0 t : FVec Ideal S1x1024x704 .bf16) (ix3 0 r q) = cts m c (ix2 (rowAt t r) (colAt t q)) := by
  blk_point [iblk, V, idx t]
theorem blk_w (c : Dev nD) (t : Fin cfg0.N) (q : Fin 704) (j : Fin 1024) :
    (iblk m c 1 t : FVec Ideal S1x1024x704 .bf16) (ix3 0 j q) = weights m c (ix2 j (colAt t q)) := by
  blk_point [iblk, V, idx t]

/-- Point `t`'s part of the product at row `i 0` of its block of rows. -/
def step (c : Dev nD) (t : Fin cfg0.N) (i : S1024x1024.Idx) : EReal := ∑ q : Fin 704, term m c (colAt t q) (rowAt t (i 0)) (i 1)
theorem part_eq (c : Dev nD) (t : Fin cfg0.N) (i : S1024x1024.Idx) : part (iblk m c 0 t) (iblk m c 1 t) i = step m c t i :=
  Finset.sum_congr rfl fun q _ => congrArg₂ (· * ·) (blk_x m c t (i 0) q) (blk_w m c t q (i 1))

/-- The last point of a block of rows writes out what it leaves in the scratch buffer. -/
theorem last_out (c : Dev nD) (t : Fin cfg0.N) (h : t.val % 8 = 7) (i : S1024x1024.Idx) :
    (outsAt0 m c t.val t.isLt).1 i = (outsAt0 m c t.val t.isLt).2 i := by
  rw [outsAt0_C m c t (by omega) (by omega) h]
  frame_out
  rw [pay_round]
/-- The points of a block of rows take the columns, 704 each. -/
theorem sum_steps (c : Dev nD) (t : Fin cfg0.N) (r j : Fin 1024) (hb : ∀ s : Fin 8, 8 * (t.val / 8) + s.val < cfg0.N) :
    (∑ s : Fin 8, step m c ⟨8 * (t.val / 8) + s.val, hb s⟩ (ix2 r j)) = ∑ k : Fin 5632, term m c k (rowAt t r) j := by
  refine Fin.sum_mul_add_congr (S := 8) (n := 704) (F := fun s q => term m c (colAt ⟨8 * (t.val / 8) + s.val, hb s⟩ q) (rowAt ⟨8 * (t.val / 8) + s.val, hb s⟩ r) j)
    fun s q hl => ?_
  exact congrArg₂ (fun k r => term m c k r j) (Fin.ext (by dsimp only; omega)) (Fin.ext (by dsimp only; omega))

/-- The array after the run. -/
theorem final (c : Dev nD) : (dats m 0 c).arrAt 2 cfg0.N = spec m c := by
  refine (dats m 0 c).arrAt_eq_of_covers 2 _ (by decide +kernel) fun t hf y => ?_
  have ht : t.val % 8 = 7 := (flush0_2 t).mp hf
  blk_simp
  idx_vars y
  have e : ((cfg0.win 2).blk t).view.emb (ix2 y0 y1) = ix2 (rowAt t y0) (y1 : Fin 1024) := by blk_ext [idx t]
  rw [after0_2, last_out m c t ht, Pipeline.eq_sum_fin_of_reset_step_apply_of_flush (fun n h => (outsAt0 m c n h).2) 8 (fun _ => (0 : EReal))
    (step m c)
    (fun t h j => by rw [outsAt0_A m c t h (by omega) (by omega)]; frame_out; rw [pay_first, part_eq, zero_add])
    (fun t h j => by
      by_cases h1 : t.val % 8 = 7
      · rw [outsAt0_C m c t h (by omega) h1]; frame_out; rw [pay_next, part_eq, read_unread_whole]
      · rw [outsAt0_B m c t h (by omega) h1]; frame_out; rw [pay_next, part_eq, read_unread_whole])
    t ht, zero_add]
  refine Eq.trans ?_ ((congrArg (spec m c) e).trans (ref_out m c (rowAt t y0) y1)).symm
  exact sum_steps m c t y0 y1 _

/-- The reference's run keeps its arguments and has no semaphores. -/
theorem reference_frame : quiescent_Reference29Ideal := fun m ρ _ =>
  (θ_run _ _ _).mono (fun r h => ⟨fun c => (h c).2, sem_eq_zero_of_no_sems rfl r.2⟩) (Reference29Ideal.Value.run (F := Ideal) m ρ)

/-- The gradient at the ffn's input: the kernel's array is the reference's. -/
theorem output : algebraic_Kernel29Ideal_Reference29Ideal := by
  intro m g m' g' _ hag
  refine ⟨fun c => spec m c, ?_, ?_⟩
  · refine (θ_run _ _ _).mono (fun r h c => ?_) (Kernel29Ideal.Value.run_blocks m g)
    obtain rfl : c = 0 := Subsingleton.elim _ _
    obtain ⟨h0, rest⟩ := h 0
    exact ⟨h0.trans (final m 0), rest⟩
  · refine (θ_run _ _ _).mono (fun r h c => ?_) (Reference29Ideal.Value.run (F := Ideal) m' g')
    obtain ⟨e0, e1, e2⟩ := hag c
    obtain ⟨h0, rest⟩ := h c
    exact ⟨h0.trans ((val_main_v2_eq ..).trans (congrArg₂ (val_main_v2 (F := Ideal)) e1 e2)), rest⟩

end Cert.FfnInGrad

end
-- ==== Proof.lean ====
/- The conjunction of all claims: `Cert.Claim` of proofs.«01_k».proof.Defs. -/
module

public import proofs.«01_k».proof.Defs
public import proofs.«01_k».proof.Proof.Gen.Kernel.Frame
public import proofs.«01_k».proof.Proof.FfnFinite
public import proofs.«01_k».proof.Proof.FfnValue
public import proofs.«01_k».proof.Proof.SbClaims
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Gen.Kernel31.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.SbfClaims
public import proofs.«01_k».proof.Proof.LossValue
public import proofs.«01_k».proof.Proof.MergeValue
public import proofs.«01_k».proof.Proof.ResidValue
public import proofs.«01_k».proof.Proof.ModinValue
public import proofs.«01_k».proof.Proof.MixClaims
public import proofs.«01_k».proof.Proof.HeadValue
public import proofs.«01_k».proof.Proof.HeadForwardValue
public import proofs.«01_k».proof.Proof.UpMergeValue
public import proofs.«01_k».proof.Proof.GateForwardValue
public import proofs.«01_k».proof.Proof.ModulationValue
public import proofs.«01_k».proof.Proof.ResidualValue
public import proofs.«01_k».proof.Proof.ConditionValue
public import proofs.«01_k».proof.Proof.AdamValue
public import proofs.«01_k».proof.Proof.OutGradValue
public import proofs.«01_k».proof.Proof.ProjGradValue
public import proofs.«01_k».proof.Proof.ExchangeModClaims
public import proofs.«01_k».proof.Proof.ModColumns
public import proofs.«01_k».proof.Proof.ModBias
public import proofs.«01_k».proof.Proof.MergedGrad
public import proofs.«01_k».proof.Proof.Projection
public import proofs.«01_k».proof.Proof.BranchGrad
public import proofs.«01_k».proof.Proof.ModGrad
public import proofs.«01_k».proof.Proof.FfnOutWeightGrad
public import proofs.«01_k».proof.Proof.FfnInWeightGrad
public import proofs.«01_k».proof.Proof.MixerOut
public import proofs.«01_k».proof.Proof.BranchWeightGrad
public import proofs.«01_k».proof.Proof.FfnOut
public import proofs.«01_k».proof.Proof.FfnInGrad
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The gate gradient: the kernel's result is the reference's, at finite arguments. -/
theorem ffn_gradient : algebraic_KernelIdeal_ReferenceIdeal_pre_ffn_finite := by
  intro m g m' g' hpre hag
  obtain ⟨real0, real1, real2⟩ := Finite.real_args _ _ _ (hpre 0)
  refine ⟨fun c => FfnValue.spec m c, ?_, ?_⟩
  · refine (θ_run _ _ _).mono (fun r h c => ?_) (KernelIdeal.Value.run_blocks m g)
    obtain rfl : c = 0 := Subsingleton.elim _ _
    obtain ⟨h0, h1⟩ := h 0
    exact ⟨h0.trans (FfnValue.final m 0 real0 real1 real2), h1⟩
  · refine (θ_run _ _ _).mono (fun r h c => ?_) (ReferenceIdeal.Value.run (F := Ideal) m' g')
    obtain ⟨e0, e1, e2⟩ := hag c
    obtain ⟨h0, h1⟩ := h c
    refine ⟨h0.trans ?_, h1⟩
    rw [e0, e1, e2]
    rfl

theorem claim : Cert.Claim := ⟨Kernel.Gen.facts, KernelIdeal.Gen.facts, ReferenceIdeal.Gen.facts, Kernel2Ideal.Gen.facts,
  Reference2Ideal.Gen.facts, Kernel3.Gen.facts, Kernel3Ideal.Gen.facts, Reference3Ideal.Gen.facts,
  Kernel4.Gen.facts, Kernel4Ideal.Gen.facts, Reference4Ideal.Gen.facts, Kernel5.Gen.facts,
  Kernel5Ideal.Gen.facts, Reference5Ideal.Gen.facts, Kernel6.Gen.facts, Kernel6Ideal.Gen.facts,
  Reference6Ideal.Gen.facts, Kernel7.Gen.facts, Kernel7Ideal.Gen.facts, Reference7Ideal.Gen.facts,
  Kernel8.Gen.facts, Kernel8Ideal.Gen.facts, Reference8Ideal.Gen.facts, Kernel9Ideal.Gen.facts,
  Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Pre_ffn_finite.Gen.facts,
  Pre_sb_finite.Gen.facts, Pre_resid_finite.Gen.facts, Pre_modin_finite.Gen.facts, Pre_mix_finite.Gen.facts,
  Pre_sbf_finite.Gen.facts,
  fun m ρ _ => Kernel.Gen.frame m ρ,
  fun m ρ _ => KernelIdeal.Gen.frame m ρ,
  fun m ρ _ => KernelIdeal.Gen.frame m ρ,
  fun m ρ _ => (θ_run _ _ _).mono (fun r h => ⟨fun c => (h c).2, sem_eq_zero_of_no_sems rfl r.2⟩) (ReferenceIdeal.Value.run (F := Ideal) m ρ),
  fun m ρ _ => (θ_run _ _ _).mono (fun r h => ⟨fun c => (h c).2, sem_eq_zero_of_no_sems rfl r.2⟩) (ReferenceIdeal.Value.run (F := Ideal) m ρ),
  fun m ρ _ => Sb.unchanged (F := Ideal) m ρ,
  fun m ρ _ => Sb.unchanged (F := Ideal) m ρ,
  Sb.reference_frame,
  fun m ρ _ => Sb.reference_frame m ρ trivial,
  fun m ρ _ => Kernel3.Gen.frame m ρ,
  fun m ρ _ => Kernel3Ideal.Gen.frame m ρ,
  Loss.reference_frame,
  fun m ρ _ => Kernel4.Gen.frame m ρ,
  fun m ρ _ => Kernel4Ideal.Gen.frame m ρ,
  Merge.reference_frame,
  fun m ρ _ => Kernel5.Gen.frame m ρ,
  fun m ρ _ => Kernel5Ideal.Gen.frame m ρ,
  fun m ρ _ => Kernel5Ideal.Gen.frame m ρ,
  Resid.reference_frame,
  fun m ρ _ => Resid.reference_frame m ρ trivial,
  fun m ρ _ => Kernel6.Gen.frame m ρ,
  fun m ρ _ => Kernel6Ideal.Gen.frame m ρ,
  fun m ρ _ => Kernel6Ideal.Gen.frame m ρ,
  Modin.reference_frame,
  fun m ρ _ => Modin.reference_frame m ρ trivial,
  fun m ρ _ => Kernel7.Gen.frame m ρ,
  fun m ρ _ => Kernel7Ideal.Gen.frame m ρ,
  fun m ρ _ => Kernel7Ideal.Gen.frame m ρ,
  Mix.reference_frame,
  fun m ρ _ => Mix.reference_frame m ρ trivial,
  fun m ρ _ => Kernel8.Gen.frame m ρ,
  fun m ρ _ => Kernel8Ideal.Gen.frame m ρ,
  Head.reference_frame,
  fun m ρ _ => SbForward.unchanged (F := Ideal) m ρ,
  fun m ρ _ => SbForward.unchanged (F := Ideal) m ρ,
  SbForward.reference_frame,
  fun m ρ _ => SbForward.reference_frame m ρ trivial,
  fun m ρ _ => Kernel10.Gen.frame m ρ,
  fun m ρ _ => Kernel10Ideal.Gen.frame m ρ,
  HeadForward.reference_frame,
  fun m ρ _ => Kernel11.Gen.frame m ρ,
  fun m ρ _ => Kernel11Ideal.Gen.frame m ρ,
  UpMerge.reference_frame,
  fun m ρ _ => Kernel12.Gen.frame m ρ,
  fun m ρ _ => Kernel12Ideal.Gen.frame m ρ,
  GateForward.reference_frame,
  fun m ρ _ => Kernel13.Gen.frame m ρ,
  fun m ρ _ => Kernel13Ideal.Gen.frame m ρ,
  Modulation.reference_frame,
  fun m ρ _ => Kernel14.Gen.frame m ρ,
  fun m ρ _ => Kernel14Ideal.Gen.frame m ρ,
  Residual.reference_frame,
  fun m ρ _ => Kernel15.Gen.frame m ρ,
  fun m ρ _ => Kernel15Ideal.Gen.frame m ρ,
  Condition.reference_frame,
  fun m ρ _ => Kernel16.Gen.frame m ρ,
  fun m ρ _ => Kernel16Ideal.Gen.frame m ρ,
  Adam.reference_frame,
  fun m ρ _ => Kernel17.Gen.frame m ρ,
  fun m ρ _ => Kernel17Ideal.Gen.frame m ρ,
  OutGrad.reference_frame,
  fun m ρ _ => Kernel18.Gen.frame m ρ,
  fun m ρ _ => Kernel18Ideal.Gen.frame m ρ,
  ProjGrad.reference_frame,
  ExchangeMod.kernel_frame, ExchangeMod.ideal_frame, ExchangeMod.reference_frame,
  fun m ρ _ => Kernel20.Gen.frame m ρ,
  fun m ρ _ => Kernel20Ideal.Gen.frame m ρ,
  ModColumns.reference_frame,
  fun m ρ _ => Kernel21.Gen.frame m ρ,
  fun m ρ _ => Kernel21Ideal.Gen.frame m ρ,
  ModBias.reference_frame,
  fun m ρ _ => Kernel22.Gen.frame m ρ,
  fun m ρ _ => Kernel22Ideal.Gen.frame m ρ,
  MergedGrad.reference_frame,
  fun m ρ _ => Kernel23.Gen.frame m ρ,
  fun m ρ _ => Kernel23Ideal.Gen.frame m ρ,
  Projection.reference_frame,
  fun m ρ _ => Kernel24.Gen.frame m ρ,
  fun m ρ _ => Kernel24Ideal.Gen.frame m ρ,
  BranchGrad.reference_frame,
  fun m ρ _ => Kernel25.Gen.frame m ρ,
  fun m ρ _ => Kernel25Ideal.Gen.frame m ρ,
  ModGrad.reference_frame,
  fun m ρ _ => Kernel26.Gen.frame m ρ,
  fun m ρ _ => Kernel26Ideal.Gen.frame m ρ,
  MixerOut.reference_frame,
  fun m ρ _ => Kernel27.Gen.frame m ρ,
  fun m ρ _ => Kernel27Ideal.Gen.frame m ρ,
  BranchWeightGrad.reference_frame,
  fun m ρ _ => Kernel28.Gen.frame m ρ,
  fun m ρ _ => Kernel28Ideal.Gen.frame m ρ,
  FfnOut.reference_frame,
  fun m ρ _ => Kernel29.Gen.frame m ρ,
  fun m ρ _ => Kernel29Ideal.Gen.frame m ρ,
  FfnInGrad.reference_frame,
  fun m ρ _ => Kernel30.Gen.frame m ρ,
  fun m ρ _ => Kernel30Ideal.Gen.frame m ρ,
  FfnOutWeightGrad.reference_frame,
  fun m ρ _ => Kernel31.Gen.frame m ρ,
  fun m ρ _ => Kernel31Ideal.Gen.frame m ρ,
  FfnInWeightGrad.reference_frame,
  trivial, ffn_gradient, Sb.gradient,
  trivial, Loss.gradient,
  trivial, Merge.gradient,
  trivial, Resid.gradient,
  trivial, Modin.gradient,
  trivial, Mix.gradient,
  trivial, Head.gradient,
  SbForward.output,
  trivial, HeadForward.output,
  trivial, UpMerge.output,
  trivial, GateForward.output,
  trivial, Modulation.output,
  trivial, Residual.output,
  trivial, Condition.output,
  trivial, Adam.output,
  trivial, OutGrad.output,
  trivial, ProjGrad.output,
  trivial, ExchangeMod.output,
  trivial, ModColumns.output,
  trivial, ModBias.output,
  trivial, MergedGrad.output,
  trivial, Projection.output,
  trivial, BranchGrad.output,
  trivial, ModGrad.output,
  trivial, MixerOut.output,
  trivial, BranchWeightGrad.output,
  trivial, FfnOut.output,
  trivial, FfnInGrad.output,
  trivial, FfnOutWeightGrad.output,
  trivial, FfnInWeightGrad.output⟩

end Cert.Proof

end
